-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Sampling (m : (ℓ : Loc Cert.Sampling.nD Cert.Sampling.τ Cert.Sampling.sig) → Buf (Elt Bits) ℓ) : Prop :=
  True

def Pre_SamplingIdeal (m : (ℓ : Loc Cert.SamplingIdeal.nD Cert.SamplingIdeal.τ Cert.SamplingIdeal.sig) → Buf (Elt Ideal) ℓ) : Prop :=
  True

def Pre_SamplingReferenceIdeal (m : (ℓ : Loc Cert.SamplingReferenceIdeal.nD Cert.SamplingReferenceIdeal.τ Cert.SamplingReferenceIdeal.sig) → Buf (Elt Ideal) ℓ) : Prop :=
  True

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersIdeal_finite [hPre_finite : Cert.Pre_finite.Facts] (m : (ℓ : Loc Cert.LayersIdeal.nD Cert.LayersIdeal.τ Cert.LayersIdeal.sig) → Buf (Elt Ideal) ℓ) : Prop :=
  ∀ c : Dev Cert.LayersIdeal.nD,
    (Cert.Pre_finite.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11))) = (fun _ => 1#1)

def Pre_LayersReferenceIdeal (m : (ℓ : Loc Cert.LayersReferenceIdeal.nD Cert.LayersReferenceIdeal.τ Cert.LayersReferenceIdeal.sig) → Buf (Elt Ideal) ℓ) : Prop :=
  True

def Pre_LayersReferenceIdeal_finite [hPre_finite : Cert.Pre_finite.Facts] (m : (ℓ : Loc Cert.LayersReferenceIdeal.nD Cert.LayersReferenceIdeal.τ Cert.LayersReferenceIdeal.sig) → Buf (Elt Ideal) ℓ) : Prop :=
  ∀ c : Dev Cert.LayersReferenceIdeal.nD,
    (Cert.Pre_finite.fn (F := Ideal) (m ((c.tc : Thread Cert.LayersReferenceIdeal.nD Cert.LayersReferenceIdeal.τ).loc Cert.LayersReferenceIdeal.main_arg0)) (m ((c.tc : Thread Cert.LayersReferenceIdeal.nD Cert.LayersReferenceIdeal.τ).loc Cert.LayersReferenceIdeal.main_arg1)) (m ((c.tc : Thread Cert.LayersReferenceIdeal.nD Cert.LayersReferenceIdeal.τ).loc Cert.LayersReferenceIdeal.main_arg2)) (m ((c.tc : Thread Cert.LayersReferenceIdeal.nD Cert.LayersReferenceIdeal.τ).loc Cert.LayersReferenceIdeal.main_arg3)) (m ((c.tc : Thread Cert.LayersReferenceIdeal.nD Cert.LayersReferenceIdeal.τ).loc Cert.LayersReferenceIdeal.main_arg4)) (m ((c.tc : Thread Cert.LayersReferenceIdeal.nD Cert.LayersReferenceIdeal.τ).loc Cert.LayersReferenceIdeal.main_arg5)) (m ((c.tc : Thread Cert.LayersReferenceIdeal.nD Cert.LayersReferenceIdeal.τ).loc Cert.LayersReferenceIdeal.main_arg6)) (m ((c.tc : Thread Cert.LayersReferenceIdeal.nD Cert.LayersReferenceIdeal.τ).loc Cert.LayersReferenceIdeal.main_arg7)) (m ((c.tc : Thread Cert.LayersReferenceIdeal.nD Cert.LayersReferenceIdeal.τ).loc Cert.LayersReferenceIdeal.main_arg8)) (m ((c.tc : Thread Cert.LayersReferenceIdeal.nD Cert.LayersReferenceIdeal.τ).loc Cert.LayersReferenceIdeal.main_arg9)) (m ((c.tc : Thread Cert.LayersReferenceIdeal.nD Cert.LayersReferenceIdeal.τ).loc Cert.LayersReferenceIdeal.main_arg10)) (m ((c.tc : Thread Cert.LayersReferenceIdeal.nD Cert.LayersReferenceIdeal.τ).loc Cert.LayersReferenceIdeal.main_arg11))) = (fun _ => 1#1)

def Pre_Neighbours (m : (ℓ : Loc Cert.Neighbours.nD Cert.Neighbours.τ Cert.Neighbours.sig) → Buf (Elt Bits) ℓ) : Prop :=
  True

def Pre_NeighboursIdeal (m : (ℓ : Loc Cert.NeighboursIdeal.nD Cert.NeighboursIdeal.τ Cert.NeighboursIdeal.sig) → Buf (Elt Ideal) ℓ) : Prop :=
  True

def Pre_NeighboursIdeal_below_big [hPre_below_big : Cert.Pre_below_big.Facts] (m : (ℓ : Loc Cert.NeighboursIdeal.nD Cert.NeighboursIdeal.τ Cert.NeighboursIdeal.sig) → Buf (Elt Ideal) ℓ) : Prop :=
  ∀ c : Dev Cert.NeighboursIdeal.nD,
    (Cert.Pre_below_big.fn (F := Ideal) (m ((c.tc : Thread Cert.NeighboursIdeal.nD Cert.NeighboursIdeal.τ).loc Cert.NeighboursIdeal.main_arg0)) (m ((c.tc : Thread Cert.NeighboursIdeal.nD Cert.NeighboursIdeal.τ).loc Cert.NeighboursIdeal.main_arg1))) = (fun _ => 1#1)

def Pre_NeighboursReferenceIdeal (m : (ℓ : Loc Cert.NeighboursReferenceIdeal.nD Cert.NeighboursReferenceIdeal.τ Cert.NeighboursReferenceIdeal.sig) → Buf (Elt Ideal) ℓ) : Prop :=
  True

def Pre_NeighboursReferenceIdeal_below_big [hPre_below_big : Cert.Pre_below_big.Facts] (m : (ℓ : Loc Cert.NeighboursReferenceIdeal.nD Cert.NeighboursReferenceIdeal.τ Cert.NeighboursReferenceIdeal.sig) → Buf (Elt Ideal) ℓ) : Prop :=
  ∀ c : Dev Cert.NeighboursReferenceIdeal.nD,
    (Cert.Pre_below_big.fn (F := Ideal) (m ((c.tc : Thread Cert.NeighboursReferenceIdeal.nD Cert.NeighboursReferenceIdeal.τ).loc Cert.NeighboursReferenceIdeal.main_arg0)) (m ((c.tc : Thread Cert.NeighboursReferenceIdeal.nD Cert.NeighboursReferenceIdeal.τ).loc Cert.NeighboursReferenceIdeal.main_arg1))) = (fun _ => 1#1)

def Pre_WholeIdeal (m : (ℓ : Loc Cert.WholeIdeal.nD Cert.WholeIdeal.τ Cert.WholeIdeal.sig) → Buf (Elt Ideal) ℓ) : Prop :=
  True

def Pre_WholeIdeal_moderate [hPre_moderate : Cert.Pre_moderate.Facts] (m : (ℓ : Loc Cert.WholeIdeal.nD Cert.WholeIdeal.τ Cert.WholeIdeal.sig) → Buf (Elt Ideal) ℓ) : Prop :=
  ∀ c : Dev Cert.WholeIdeal.nD,
    (Cert.Pre_moderate.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6)) (m ((c.tc : Thread Cert.WholeIdeal.nD Cert.WholeIdeal.τ).loc Cert.WholeIdeal.main_arg7)) (m ((c.tc : Thread Cert.WholeIdeal.nD Cert.WholeIdeal.τ).loc Cert.WholeIdeal.main_arg8)) (m ((c.tc : Thread Cert.WholeIdeal.nD Cert.WholeIdeal.τ).loc Cert.WholeIdeal.main_arg9)) (m ((c.tc : Thread Cert.WholeIdeal.nD Cert.WholeIdeal.τ).loc Cert.WholeIdeal.main_arg10))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_moderate [hPre_moderate : Cert.Pre_moderate.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_moderate.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5)) (m ((c.tc : Thread Cert.WholeReferenceIdeal.nD Cert.WholeReferenceIdeal.τ).loc Cert.WholeReferenceIdeal.main_arg6)) (m ((c.tc : Thread Cert.WholeReferenceIdeal.nD Cert.WholeReferenceIdeal.τ).loc Cert.WholeReferenceIdeal.main_arg7)) (m ((c.tc : Thread Cert.WholeReferenceIdeal.nD Cert.WholeReferenceIdeal.τ).loc Cert.WholeReferenceIdeal.main_arg8)) (m ((c.tc : Thread Cert.WholeReferenceIdeal.nD Cert.WholeReferenceIdeal.τ).loc Cert.WholeReferenceIdeal.main_arg9)) (m ((c.tc : Thread Cert.WholeReferenceIdeal.nD Cert.WholeReferenceIdeal.τ).loc Cert.WholeReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Sampling [hSampling : Cert.Sampling.Facts] : Prop :=
  ∀ (m : (ℓ : Loc Cert.Sampling.nD Cert.Sampling.τ Cert.Sampling.sig) → Buf (Elt Bits) ℓ) (g : Dev Cert.Sampling.nD → PrngReg), Pre_Sampling m →
    θ_run (Cert.Sampling.defs (F := Bits)) (onTc (τ := Cert.Sampling.τ) (Cert.Sampling.main (F := Bits))) ⟨m, fun _ => 0, g⟩ (fun r => (∀ c : Dev Cert.Sampling.nD,
      r.2.mem ((c.tc : Thread Cert.Sampling.nD Cert.Sampling.τ).loc Cert.Sampling.main_arg0) = m ((c.tc : Thread Cert.Sampling.nD Cert.Sampling.τ).loc Cert.Sampling.main_arg0))
      ∧ r.2.sem = fun _ => 0)

def quiescent_SamplingIdeal [hSamplingIdeal : Cert.SamplingIdeal.Facts] : Prop :=
  ∀ (m : (ℓ : Loc Cert.SamplingIdeal.nD Cert.SamplingIdeal.τ Cert.SamplingIdeal.sig) → Buf (Elt Ideal) ℓ) (g : Dev Cert.SamplingIdeal.nD → PrngReg), Pre_SamplingIdeal m →
    θ_run (Cert.SamplingIdeal.defs (F := Ideal)) (onTc (τ := Cert.SamplingIdeal.τ) (Cert.SamplingIdeal.main (F := Ideal))) ⟨m, fun _ => 0, g⟩ (fun r => (∀ c : Dev Cert.SamplingIdeal.nD,
      r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0))
      ∧ r.2.sem = fun _ => 0)

def quiescent_SamplingReferenceIdeal [hSamplingReferenceIdeal : Cert.SamplingReferenceIdeal.Facts] : Prop :=
  ∀ (m : (ℓ : Loc Cert.SamplingReferenceIdeal.nD Cert.SamplingReferenceIdeal.τ Cert.SamplingReferenceIdeal.sig) → Buf (Elt Ideal) ℓ) (g : Dev Cert.SamplingReferenceIdeal.nD → PrngReg), Pre_SamplingReferenceIdeal m →
    θ_run (Cert.SamplingReferenceIdeal.defs (F := Ideal)) (onTc (τ := Cert.SamplingReferenceIdeal.τ) (Cert.SamplingReferenceIdeal.main (F := Ideal))) ⟨m, fun _ => 0, g⟩ (fun r => (∀ c : Dev Cert.SamplingReferenceIdeal.nD,
      r.2.mem ((c.tc : Thread Cert.SamplingReferenceIdeal.nD Cert.SamplingReferenceIdeal.τ).loc Cert.SamplingReferenceIdeal.main_arg0) = m ((c.tc : Thread Cert.SamplingReferenceIdeal.nD Cert.SamplingReferenceIdeal.τ).loc Cert.SamplingReferenceIdeal.main_arg0))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11))
      ∧ r.2.sem = fun _ => 0)

def quiescent_LayersIdeal_pre_finite [hLayersIdeal : Cert.LayersIdeal.Facts] [hPre_finite : Cert.Pre_finite.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal_finite m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11))
      ∧ r.2.sem = fun _ => 0)

def quiescent_LayersReferenceIdeal [hLayersReferenceIdeal : Cert.LayersReferenceIdeal.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8)
      ∧ r.2.mem ((c.tc : Thread Cert.LayersReferenceIdeal.nD Cert.LayersReferenceIdeal.τ).loc Cert.LayersReferenceIdeal.main_arg9) = m ((c.tc : Thread Cert.LayersReferenceIdeal.nD Cert.LayersReferenceIdeal.τ).loc Cert.LayersReferenceIdeal.main_arg9)
      ∧ r.2.mem ((c.tc : Thread Cert.LayersReferenceIdeal.nD Cert.LayersReferenceIdeal.τ).loc Cert.LayersReferenceIdeal.main_arg10) = m ((c.tc : Thread Cert.LayersReferenceIdeal.nD Cert.LayersReferenceIdeal.τ).loc Cert.LayersReferenceIdeal.main_arg10)
      ∧ r.2.mem ((c.tc : Thread Cert.LayersReferenceIdeal.nD Cert.LayersReferenceIdeal.τ).loc Cert.LayersReferenceIdeal.main_arg11) = m ((c.tc : Thread Cert.LayersReferenceIdeal.nD Cert.LayersReferenceIdeal.τ).loc Cert.LayersReferenceIdeal.main_arg11))
      ∧ r.2.sem = fun _ => 0)

def quiescent_LayersReferenceIdeal_pre_finite [hLayersReferenceIdeal : Cert.LayersReferenceIdeal.Facts] [hPre_finite : Cert.Pre_finite.Facts] : Prop :=
  ∀ (m : (ℓ : Loc Cert.LayersReferenceIdeal.nD Cert.LayersReferenceIdeal.τ Cert.LayersReferenceIdeal.sig) → Buf (Elt Ideal) ℓ) (g : Dev Cert.LayersReferenceIdeal.nD → PrngReg), Pre_LayersReferenceIdeal_finite m →
    θ_run (Cert.LayersReferenceIdeal.defs (F := Ideal)) (onTc (τ := Cert.LayersReferenceIdeal.τ) (Cert.LayersReferenceIdeal.main (F := Ideal))) ⟨m, fun _ => 0, g⟩ (fun r => (∀ c : Dev Cert.LayersReferenceIdeal.nD,
      r.2.mem ((c.tc : Thread Cert.LayersReferenceIdeal.nD Cert.LayersReferenceIdeal.τ).loc Cert.LayersReferenceIdeal.main_arg0) = m ((c.tc : Thread Cert.LayersReferenceIdeal.nD Cert.LayersReferenceIdeal.τ).loc Cert.LayersReferenceIdeal.main_arg0)
      ∧ r.2.mem ((c.tc : Thread Cert.LayersReferenceIdeal.nD Cert.LayersReferenceIdeal.τ).loc Cert.LayersReferenceIdeal.main_arg1) = m ((c.tc : Thread Cert.LayersReferenceIdeal.nD Cert.LayersReferenceIdeal.τ).loc Cert.LayersReferenceIdeal.main_arg1)
      ∧ r.2.mem ((c.tc : Thread Cert.LayersReferenceIdeal.nD Cert.LayersReferenceIdeal.τ).loc Cert.LayersReferenceIdeal.main_arg2) = m ((c.tc : Thread Cert.LayersReferenceIdeal.nD Cert.LayersReferenceIdeal.τ).loc Cert.LayersReferenceIdeal.main_arg2)
      ∧ r.2.mem ((c.tc : Thread Cert.LayersReferenceIdeal.nD Cert.LayersReferenceIdeal.τ).loc Cert.LayersReferenceIdeal.main_arg3) = m ((c.tc : Thread Cert.LayersReferenceIdeal.nD Cert.LayersReferenceIdeal.τ).loc Cert.LayersReferenceIdeal.main_arg3)
      ∧ r.2.mem ((c.tc : Thread Cert.LayersReferenceIdeal.nD Cert.LayersReferenceIdeal.τ).loc Cert.LayersReferenceIdeal.main_arg4) = m ((c.tc : Thread Cert.LayersReferenceIdeal.nD Cert.LayersReferenceIdeal.τ).loc Cert.LayersReferenceIdeal.main_arg4)
      ∧ r.2.mem ((c.tc : Thread Cert.LayersReferenceIdeal.nD Cert.LayersReferenceIdeal.τ).loc Cert.LayersReferenceIdeal.main_arg5) = m ((c.tc : Thread Cert.LayersReferenceIdeal.nD Cert.LayersReferenceIdeal.τ).loc Cert.LayersReferenceIdeal.main_arg5)
      ∧ r.2.mem ((c.tc : Thread Cert.LayersReferenceIdeal.nD Cert.LayersReferenceIdeal.τ).loc Cert.LayersReferenceIdeal.main_arg6) = m ((c.tc : Thread Cert.LayersReferenceIdeal.nD Cert.LayersReferenceIdeal.τ).loc Cert.LayersReferenceIdeal.main_arg6)
      ∧ r.2.mem ((c.tc : Thread Cert.LayersReferenceIdeal.nD Cert.LayersReferenceIdeal.τ).loc Cert.LayersReferenceIdeal.main_arg7) = m ((c.tc : Thread Cert.LayersReferenceIdeal.nD Cert.LayersReferenceIdeal.τ).loc Cert.LayersReferenceIdeal.main_arg7)
      ∧ r.2.mem ((c.tc : Thread Cert.LayersReferenceIdeal.nD Cert.LayersReferenceIdeal.τ).loc Cert.LayersReferenceIdeal.main_arg8) = m ((c.tc : Thread Cert.LayersReferenceIdeal.nD Cert.LayersReferenceIdeal.τ).loc Cert.LayersReferenceIdeal.main_arg8)
      ∧ r.2.mem ((c.tc : Thread Cert.LayersReferenceIdeal.nD Cert.LayersReferenceIdeal.τ).loc Cert.LayersReferenceIdeal.main_arg9) = m ((c.tc : Thread Cert.LayersReferenceIdeal.nD Cert.LayersReferenceIdeal.τ).loc Cert.LayersReferenceIdeal.main_arg9)
      ∧ r.2.mem ((c.tc : Thread Cert.LayersReferenceIdeal.nD Cert.LayersReferenceIdeal.τ).loc Cert.LayersReferenceIdeal.main_arg10) = m ((c.tc : Thread Cert.LayersReferenceIdeal.nD Cert.LayersReferenceIdeal.τ).loc Cert.LayersReferenceIdeal.main_arg10)
      ∧ r.2.mem ((c.tc : Thread Cert.LayersReferenceIdeal.nD Cert.LayersReferenceIdeal.τ).loc Cert.LayersReferenceIdeal.main_arg11) = m ((c.tc : Thread Cert.LayersReferenceIdeal.nD Cert.LayersReferenceIdeal.τ).loc Cert.LayersReferenceIdeal.main_arg11))
      ∧ r.2.sem = fun _ => 0)

def quiescent_Neighbours [hNeighbours : Cert.Neighbours.Facts] : Prop :=
  ∀ (m : (ℓ : Loc Cert.Neighbours.nD Cert.Neighbours.τ Cert.Neighbours.sig) → Buf (Elt Bits) ℓ) (g : Dev Cert.Neighbours.nD → PrngReg), Pre_Neighbours m →
    θ_run (Cert.Neighbours.defs (F := Bits)) (onTc (τ := Cert.Neighbours.τ) (Cert.Neighbours.main (F := Bits))) ⟨m, fun _ => 0, g⟩ (fun r => (∀ c : Dev Cert.Neighbours.nD,
      r.2.mem ((c.tc : Thread Cert.Neighbours.nD Cert.Neighbours.τ).loc Cert.Neighbours.main_arg0) = m ((c.tc : Thread Cert.Neighbours.nD Cert.Neighbours.τ).loc Cert.Neighbours.main_arg0)
      ∧ r.2.mem ((c.tc : Thread Cert.Neighbours.nD Cert.Neighbours.τ).loc Cert.Neighbours.main_arg1) = m ((c.tc : Thread Cert.Neighbours.nD Cert.Neighbours.τ).loc Cert.Neighbours.main_arg1))
      ∧ r.2.sem = fun _ => 0)

def quiescent_NeighboursIdeal [hNeighboursIdeal : Cert.NeighboursIdeal.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursIdeal_pre_below_big [hNeighboursIdeal : Cert.NeighboursIdeal.Facts] [hPre_below_big : Cert.Pre_below_big.Facts] : Prop :=
  ∀ (m : (ℓ : Loc Cert.NeighboursIdeal.nD Cert.NeighboursIdeal.τ Cert.NeighboursIdeal.sig) → Buf (Elt Ideal) ℓ) (g : Dev Cert.NeighboursIdeal.nD → PrngReg), Pre_NeighboursIdeal_below_big m →
    θ_run (Cert.NeighboursIdeal.defs (F := Ideal)) (onTc (τ := Cert.NeighboursIdeal.τ) (Cert.NeighboursIdeal.main (F := Ideal))) ⟨m, fun _ => 0, g⟩ (fun r => (∀ c : Dev Cert.NeighboursIdeal.nD,
      r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
      ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ r.2.sem = fun _ => 0)

def quiescent_NeighboursReferenceIdeal [hNeighboursReferenceIdeal : Cert.NeighboursReferenceIdeal.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def quiescent_NeighboursReferenceIdeal_pre_below_big [hNeighboursReferenceIdeal : Cert.NeighboursReferenceIdeal.Facts] [hPre_below_big : Cert.Pre_below_big.Facts] : Prop :=
  ∀ (m : (ℓ : Loc Cert.NeighboursReferenceIdeal.nD Cert.NeighboursReferenceIdeal.τ Cert.NeighboursReferenceIdeal.sig) → Buf (Elt Ideal) ℓ) (g : Dev Cert.NeighboursReferenceIdeal.nD → PrngReg), Pre_NeighboursReferenceIdeal_below_big m →
    θ_run (Cert.NeighboursReferenceIdeal.defs (F := Ideal)) (onTc (τ := Cert.NeighboursReferenceIdeal.τ) (Cert.NeighboursReferenceIdeal.main (F := Ideal))) ⟨m, fun _ => 0, g⟩ (fun r => (∀ c : Dev Cert.NeighboursReferenceIdeal.nD,
      r.2.mem ((c.tc : Thread Cert.NeighboursReferenceIdeal.nD Cert.NeighboursReferenceIdeal.τ).loc Cert.NeighboursReferenceIdeal.main_arg0) = m ((c.tc : Thread Cert.NeighboursReferenceIdeal.nD Cert.NeighboursReferenceIdeal.τ).loc Cert.NeighboursReferenceIdeal.main_arg0)
      ∧ r.2.mem ((c.tc : Thread Cert.NeighboursReferenceIdeal.nD Cert.NeighboursReferenceIdeal.τ).loc Cert.NeighboursReferenceIdeal.main_arg1) = m ((c.tc : Thread Cert.NeighboursReferenceIdeal.nD Cert.NeighboursReferenceIdeal.τ).loc Cert.NeighboursReferenceIdeal.main_arg1))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10))
      ∧ r.2.sem = fun _ => 0)

def quiescent_WholeIdeal_pre_moderate [hWholeIdeal : Cert.WholeIdeal.Facts] [hPre_moderate : Cert.Pre_moderate.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_moderate m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6)
      ∧ r.2.mem ((c.tc : Thread Cert.WholeReferenceIdeal.nD Cert.WholeReferenceIdeal.τ).loc Cert.WholeReferenceIdeal.main_arg7) = m ((c.tc : Thread Cert.WholeReferenceIdeal.nD Cert.WholeReferenceIdeal.τ).loc Cert.WholeReferenceIdeal.main_arg7)
      ∧ r.2.mem ((c.tc : Thread Cert.WholeReferenceIdeal.nD Cert.WholeReferenceIdeal.τ).loc Cert.WholeReferenceIdeal.main_arg8) = m ((c.tc : Thread Cert.WholeReferenceIdeal.nD Cert.WholeReferenceIdeal.τ).loc Cert.WholeReferenceIdeal.main_arg8)
      ∧ r.2.mem ((c.tc : Thread Cert.WholeReferenceIdeal.nD Cert.WholeReferenceIdeal.τ).loc Cert.WholeReferenceIdeal.main_arg9) = m ((c.tc : Thread Cert.WholeReferenceIdeal.nD Cert.WholeReferenceIdeal.τ).loc Cert.WholeReferenceIdeal.main_arg9)
      ∧ r.2.mem ((c.tc : Thread Cert.WholeReferenceIdeal.nD Cert.WholeReferenceIdeal.τ).loc Cert.WholeReferenceIdeal.main_arg10) = m ((c.tc : Thread Cert.WholeReferenceIdeal.nD Cert.WholeReferenceIdeal.τ).loc Cert.WholeReferenceIdeal.main_arg10))
      ∧ r.2.sem = fun _ => 0)

def quiescent_WholeReferenceIdeal_pre_moderate [hWholeReferenceIdeal : Cert.WholeReferenceIdeal.Facts] [hPre_moderate : Cert.Pre_moderate.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_moderate m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6)
      ∧ r.2.mem ((c.tc : Thread Cert.WholeReferenceIdeal.nD Cert.WholeReferenceIdeal.τ).loc Cert.WholeReferenceIdeal.main_arg7) = m ((c.tc : Thread Cert.WholeReferenceIdeal.nD Cert.WholeReferenceIdeal.τ).loc Cert.WholeReferenceIdeal.main_arg7)
      ∧ r.2.mem ((c.tc : Thread Cert.WholeReferenceIdeal.nD Cert.WholeReferenceIdeal.τ).loc Cert.WholeReferenceIdeal.main_arg8) = m ((c.tc : Thread Cert.WholeReferenceIdeal.nD Cert.WholeReferenceIdeal.τ).loc Cert.WholeReferenceIdeal.main_arg8)
      ∧ r.2.mem ((c.tc : Thread Cert.WholeReferenceIdeal.nD Cert.WholeReferenceIdeal.τ).loc Cert.WholeReferenceIdeal.main_arg9) = m ((c.tc : Thread Cert.WholeReferenceIdeal.nD Cert.WholeReferenceIdeal.τ).loc Cert.WholeReferenceIdeal.main_arg9)
      ∧ r.2.mem ((c.tc : Thread Cert.WholeReferenceIdeal.nD Cert.WholeReferenceIdeal.τ).loc Cert.WholeReferenceIdeal.main_arg10) = m ((c.tc : Thread Cert.WholeReferenceIdeal.nD Cert.WholeReferenceIdeal.τ).loc Cert.WholeReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Sampling_SamplingIdeal : Prop :=
  True

def algebraic_SamplingIdeal_SamplingReferenceIdeal [hSamplingIdeal : Cert.SamplingIdeal.Facts] [hSamplingReferenceIdeal : Cert.SamplingReferenceIdeal.Facts] : Prop :=
  ∀ (m : (ℓ : Loc Cert.SamplingIdeal.nD Cert.SamplingIdeal.τ Cert.SamplingIdeal.sig) → Buf (Elt Ideal) ℓ) (g : Dev Cert.SamplingIdeal.nD → PrngReg)
    (m' : (ℓ : Loc Cert.SamplingReferenceIdeal.nD Cert.SamplingReferenceIdeal.τ Cert.SamplingReferenceIdeal.sig) → Buf (Elt Ideal) ℓ) (g' : Dev Cert.SamplingReferenceIdeal.nD → PrngReg), Pre_SamplingIdeal m →
    (∀ c : Dev Cert.SamplingIdeal.nD,
      m' ((c.tc : Thread Cert.SamplingReferenceIdeal.nD Cert.SamplingReferenceIdeal.τ).loc Cert.SamplingReferenceIdeal.main_arg0) = m ((c.tc : Thread Cert.SamplingIdeal.nD Cert.SamplingIdeal.τ).loc Cert.SamplingIdeal.main_arg0)) →
    ∃ (v0 : (c : Dev Cert.SamplingIdeal.nD) → Buf (Elt Ideal) ((c.tc : Thread Cert.SamplingIdeal.nD Cert.SamplingIdeal.τ).loc Cert.SamplingIdeal.main_v2)),
      θ_run (Cert.SamplingIdeal.defs (F := Ideal)) (onTc (τ := Cert.SamplingIdeal.τ) (Cert.SamplingIdeal.main (F := Ideal))) ⟨m, fun _ => 0, g⟩ (fun r => ∀ c : Dev Cert.SamplingIdeal.nD,
          r.2.mem ((c.tc : Thread Cert.SamplingIdeal.nD Cert.SamplingIdeal.τ).loc Cert.SamplingIdeal.main_v2) = v0 c
          ∧ r.2.mem ((c.tc : Thread Cert.SamplingIdeal.nD Cert.SamplingIdeal.τ).loc Cert.SamplingIdeal.main_arg0) = m ((c.tc : Thread Cert.SamplingIdeal.nD Cert.SamplingIdeal.τ).loc Cert.SamplingIdeal.main_arg0))
      ∧ θ_run (Cert.SamplingReferenceIdeal.defs (F := Ideal)) (onTc (τ := Cert.SamplingReferenceIdeal.τ) (Cert.SamplingReferenceIdeal.main (F := Ideal))) ⟨m', fun _ => 0, g'⟩ (fun r => ∀ c : Dev Cert.SamplingReferenceIdeal.nD,
          r.2.mem ((c.tc : Thread Cert.SamplingReferenceIdeal.nD Cert.SamplingReferenceIdeal.τ).loc Cert.SamplingReferenceIdeal.main_v7) = v0 c
          ∧ r.2.mem ((c.tc : Thread Cert.SamplingReferenceIdeal.nD Cert.SamplingReferenceIdeal.τ).loc Cert.SamplingReferenceIdeal.main_arg0) = m' ((c.tc : Thread Cert.SamplingReferenceIdeal.nD Cert.SamplingReferenceIdeal.τ).loc Cert.SamplingReferenceIdeal.main_arg0))

def preserves_Layers_LayersIdeal : Prop :=
  True

def algebraic_LayersIdeal_LayersReferenceIdeal_pre_finite [hLayersIdeal : Cert.LayersIdeal.Facts] [hLayersReferenceIdeal : Cert.LayersReferenceIdeal.Facts] [hPre_finite : Cert.Pre_finite.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersReferenceIdeal.nD Cert.LayersReferenceIdeal.τ Cert.LayersReferenceIdeal.sig) → Buf (Elt Ideal) ℓ) (g' : Dev Cert.LayersReferenceIdeal.nD → PrngReg), Pre_LayersIdeal_finite m →
    (∀ c : Dev Cert.LayersIdeal.nD,
      m' ((c.tc : Thread Cert.LayersReferenceIdeal.nD Cert.LayersReferenceIdeal.τ).loc Cert.LayersReferenceIdeal.main_arg0) = m ((c.tc : Thread Cert.LayersIdeal.nD Cert.LayersIdeal.τ).loc Cert.LayersIdeal.main_arg0)
      ∧ m' ((c.tc : Thread Cert.LayersReferenceIdeal.nD Cert.LayersReferenceIdeal.τ).loc Cert.LayersReferenceIdeal.main_arg1) = m ((c.tc : Thread Cert.LayersIdeal.nD Cert.LayersIdeal.τ).loc Cert.LayersIdeal.main_arg1)
      ∧ m' ((c.tc : Thread Cert.LayersReferenceIdeal.nD Cert.LayersReferenceIdeal.τ).loc Cert.LayersReferenceIdeal.main_arg2) = m ((c.tc : Thread Cert.LayersIdeal.nD Cert.LayersIdeal.τ).loc Cert.LayersIdeal.main_arg2)
      ∧ m' ((c.tc : Thread Cert.LayersReferenceIdeal.nD Cert.LayersReferenceIdeal.τ).loc Cert.LayersReferenceIdeal.main_arg3) = m ((c.tc : Thread Cert.LayersIdeal.nD Cert.LayersIdeal.τ).loc Cert.LayersIdeal.main_arg3)
      ∧ m' ((c.tc : Thread Cert.LayersReferenceIdeal.nD Cert.LayersReferenceIdeal.τ).loc Cert.LayersReferenceIdeal.main_arg4) = m ((c.tc : Thread Cert.LayersIdeal.nD Cert.LayersIdeal.τ).loc Cert.LayersIdeal.main_arg4)
      ∧ m' ((c.tc : Thread Cert.LayersReferenceIdeal.nD Cert.LayersReferenceIdeal.τ).loc Cert.LayersReferenceIdeal.main_arg5) = m ((c.tc : Thread Cert.LayersIdeal.nD Cert.LayersIdeal.τ).loc Cert.LayersIdeal.main_arg5)
      ∧ m' ((c.tc : Thread Cert.LayersReferenceIdeal.nD Cert.LayersReferenceIdeal.τ).loc Cert.LayersReferenceIdeal.main_arg6) = m ((c.tc : Thread Cert.LayersIdeal.nD Cert.LayersIdeal.τ).loc Cert.LayersIdeal.main_arg6)
      ∧ m' ((c.tc : Thread Cert.LayersReferenceIdeal.nD Cert.LayersReferenceIdeal.τ).loc Cert.LayersReferenceIdeal.main_arg7) = m ((c.tc : Thread Cert.LayersIdeal.nD Cert.LayersIdeal.τ).loc Cert.LayersIdeal.main_arg7)
      ∧ m' ((c.tc : Thread Cert.LayersReferenceIdeal.nD Cert.LayersReferenceIdeal.τ).loc Cert.LayersReferenceIdeal.main_arg8) = m ((c.tc : Thread Cert.LayersIdeal.nD Cert.LayersIdeal.τ).loc Cert.LayersIdeal.main_arg8)
      ∧ m' ((c.tc : Thread Cert.LayersReferenceIdeal.nD Cert.LayersReferenceIdeal.τ).loc Cert.LayersReferenceIdeal.main_arg9) = m ((c.tc : Thread Cert.LayersIdeal.nD Cert.LayersIdeal.τ).loc Cert.LayersIdeal.main_arg9)
      ∧ m' ((c.tc : Thread Cert.LayersReferenceIdeal.nD Cert.LayersReferenceIdeal.τ).loc Cert.LayersReferenceIdeal.main_arg10) = m ((c.tc : Thread Cert.LayersIdeal.nD Cert.LayersIdeal.τ).loc Cert.LayersIdeal.main_arg10)
      ∧ m' ((c.tc : Thread Cert.LayersReferenceIdeal.nD Cert.LayersReferenceIdeal.τ).loc Cert.LayersReferenceIdeal.main_arg11) = m ((c.tc : Thread Cert.LayersIdeal.nD Cert.LayersIdeal.τ).loc Cert.LayersIdeal.main_arg11)) →
    ∃ (v0 : (c : Dev Cert.LayersIdeal.nD) → Buf (Elt Ideal) ((c.tc : Thread Cert.LayersIdeal.nD Cert.LayersIdeal.τ).loc Cert.LayersIdeal.main_v44)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v44) = v0 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11))
      ∧ θ_run (Cert.LayersReferenceIdeal.defs (F := Ideal)) (onTc (τ := Cert.LayersReferenceIdeal.τ) (Cert.LayersReferenceIdeal.main (F := Ideal))) ⟨m', fun _ => 0, g'⟩ (fun r => ∀ c : Dev Cert.LayersReferenceIdeal.nD,
          r.2.mem ((c.tc : Thread Cert.LayersReferenceIdeal.nD Cert.LayersReferenceIdeal.τ).loc Cert.LayersReferenceIdeal.main_v59) = v0 c
          ∧ r.2.mem ((c.tc : Thread Cert.LayersReferenceIdeal.nD Cert.LayersReferenceIdeal.τ).loc Cert.LayersReferenceIdeal.main_arg0) = m' ((c.tc : Thread Cert.LayersReferenceIdeal.nD Cert.LayersReferenceIdeal.τ).loc Cert.LayersReferenceIdeal.main_arg0)
          ∧ r.2.mem ((c.tc : Thread Cert.LayersReferenceIdeal.nD Cert.LayersReferenceIdeal.τ).loc Cert.LayersReferenceIdeal.main_arg1) = m' ((c.tc : Thread Cert.LayersReferenceIdeal.nD Cert.LayersReferenceIdeal.τ).loc Cert.LayersReferenceIdeal.main_arg1)
          ∧ r.2.mem ((c.tc : Thread Cert.LayersReferenceIdeal.nD Cert.LayersReferenceIdeal.τ).loc Cert.LayersReferenceIdeal.main_arg2) = m' ((c.tc : Thread Cert.LayersReferenceIdeal.nD Cert.LayersReferenceIdeal.τ).loc Cert.LayersReferenceIdeal.main_arg2)
          ∧ r.2.mem ((c.tc : Thread Cert.LayersReferenceIdeal.nD Cert.LayersReferenceIdeal.τ).loc Cert.LayersReferenceIdeal.main_arg3) = m' ((c.tc : Thread Cert.LayersReferenceIdeal.nD Cert.LayersReferenceIdeal.τ).loc Cert.LayersReferenceIdeal.main_arg3)
          ∧ r.2.mem ((c.tc : Thread Cert.LayersReferenceIdeal.nD Cert.LayersReferenceIdeal.τ).loc Cert.LayersReferenceIdeal.main_arg4) = m' ((c.tc : Thread Cert.LayersReferenceIdeal.nD Cert.LayersReferenceIdeal.τ).loc Cert.LayersReferenceIdeal.main_arg4)
          ∧ r.2.mem ((c.tc : Thread Cert.LayersReferenceIdeal.nD Cert.LayersReferenceIdeal.τ).loc Cert.LayersReferenceIdeal.main_arg5) = m' ((c.tc : Thread Cert.LayersReferenceIdeal.nD Cert.LayersReferenceIdeal.τ).loc Cert.LayersReferenceIdeal.main_arg5)
          ∧ r.2.mem ((c.tc : Thread Cert.LayersReferenceIdeal.nD Cert.LayersReferenceIdeal.τ).loc Cert.LayersReferenceIdeal.main_arg6) = m' ((c.tc : Thread Cert.LayersReferenceIdeal.nD Cert.LayersReferenceIdeal.τ).loc Cert.LayersReferenceIdeal.main_arg6)
          ∧ r.2.mem ((c.tc : Thread Cert.LayersReferenceIdeal.nD Cert.LayersReferenceIdeal.τ).loc Cert.LayersReferenceIdeal.main_arg7) = m' ((c.tc : Thread Cert.LayersReferenceIdeal.nD Cert.LayersReferenceIdeal.τ).loc Cert.LayersReferenceIdeal.main_arg7)
          ∧ r.2.mem ((c.tc : Thread Cert.LayersReferenceIdeal.nD Cert.LayersReferenceIdeal.τ).loc Cert.LayersReferenceIdeal.main_arg8) = m' ((c.tc : Thread Cert.LayersReferenceIdeal.nD Cert.LayersReferenceIdeal.τ).loc Cert.LayersReferenceIdeal.main_arg8)
          ∧ r.2.mem ((c.tc : Thread Cert.LayersReferenceIdeal.nD Cert.LayersReferenceIdeal.τ).loc Cert.LayersReferenceIdeal.main_arg9) = m' ((c.tc : Thread Cert.LayersReferenceIdeal.nD Cert.LayersReferenceIdeal.τ).loc Cert.LayersReferenceIdeal.main_arg9)
          ∧ r.2.mem ((c.tc : Thread Cert.LayersReferenceIdeal.nD Cert.LayersReferenceIdeal.τ).loc Cert.LayersReferenceIdeal.main_arg10) = m' ((c.tc : Thread Cert.LayersReferenceIdeal.nD Cert.LayersReferenceIdeal.τ).loc Cert.LayersReferenceIdeal.main_arg10)
          ∧ r.2.mem ((c.tc : Thread Cert.LayersReferenceIdeal.nD Cert.LayersReferenceIdeal.τ).loc Cert.LayersReferenceIdeal.main_arg11) = m' ((c.tc : Thread Cert.LayersReferenceIdeal.nD Cert.LayersReferenceIdeal.τ).loc Cert.LayersReferenceIdeal.main_arg11))

def preserves_Neighbours_NeighboursIdeal : Prop :=
  True

def algebraic_NeighboursIdeal_NeighboursReferenceIdeal_pre_below_big [hNeighboursIdeal : Cert.NeighboursIdeal.Facts] [hNeighboursReferenceIdeal : Cert.NeighboursReferenceIdeal.Facts] [hPre_below_big : Cert.Pre_below_big.Facts] : Prop :=
  ∀ (m : (ℓ : Loc Cert.NeighboursIdeal.nD Cert.NeighboursIdeal.τ Cert.NeighboursIdeal.sig) → Buf (Elt Ideal) ℓ) (g : Dev Cert.NeighboursIdeal.nD → PrngReg)
    (m' : (ℓ : Loc Cert.NeighboursReferenceIdeal.nD Cert.NeighboursReferenceIdeal.τ Cert.NeighboursReferenceIdeal.sig) → Buf (Elt Ideal) ℓ) (g' : Dev Cert.NeighboursReferenceIdeal.nD → PrngReg), Pre_NeighboursIdeal_below_big m →
    (∀ c : Dev Cert.NeighboursIdeal.nD,
      m' ((c.tc : Thread Cert.NeighboursReferenceIdeal.nD Cert.NeighboursReferenceIdeal.τ).loc Cert.NeighboursReferenceIdeal.main_arg0) = m ((c.tc : Thread Cert.NeighboursIdeal.nD Cert.NeighboursIdeal.τ).loc Cert.NeighboursIdeal.main_arg0)
      ∧ m' ((c.tc : Thread Cert.NeighboursReferenceIdeal.nD Cert.NeighboursReferenceIdeal.τ).loc Cert.NeighboursReferenceIdeal.main_arg1) = m ((c.tc : Thread Cert.NeighboursIdeal.nD Cert.NeighboursIdeal.τ).loc Cert.NeighboursIdeal.main_arg1)) →
    ∃ (v0 : (c : Dev Cert.NeighboursIdeal.nD) → Buf (Elt Ideal) ((c.tc : Thread Cert.NeighboursIdeal.nD Cert.NeighboursIdeal.τ).loc Cert.NeighboursIdeal.main_v0)),
      θ_run (Cert.NeighboursIdeal.defs (F := Ideal)) (onTc (τ := Cert.NeighboursIdeal.τ) (Cert.NeighboursIdeal.main (F := Ideal))) ⟨m, fun _ => 0, g⟩ (fun r => ∀ c : Dev Cert.NeighboursIdeal.nD,
          r.2.mem ((c.tc : Thread Cert.NeighboursIdeal.nD Cert.NeighboursIdeal.τ).loc Cert.NeighboursIdeal.main_v0) = v0 c
          ∧ r.2.mem ((c.tc : Thread Cert.NeighboursIdeal.nD Cert.NeighboursIdeal.τ).loc Cert.NeighboursIdeal.main_arg0) = m ((c.tc : Thread Cert.NeighboursIdeal.nD Cert.NeighboursIdeal.τ).loc Cert.NeighboursIdeal.main_arg0)
          ∧ r.2.mem ((c.tc : Thread Cert.NeighboursIdeal.nD Cert.NeighboursIdeal.τ).loc Cert.NeighboursIdeal.main_arg1) = m ((c.tc : Thread Cert.NeighboursIdeal.nD Cert.NeighboursIdeal.τ).loc Cert.NeighboursIdeal.main_arg1))
      ∧ θ_run (Cert.NeighboursReferenceIdeal.defs (F := Ideal)) (onTc (τ := Cert.NeighboursReferenceIdeal.τ) (Cert.NeighboursReferenceIdeal.main (F := Ideal))) ⟨m', fun _ => 0, g'⟩ (fun r => ∀ c : Dev Cert.NeighboursReferenceIdeal.nD,
          r.2.mem ((c.tc : Thread Cert.NeighboursReferenceIdeal.nD Cert.NeighboursReferenceIdeal.τ).loc Cert.NeighboursReferenceIdeal.main_indices) = v0 c
          ∧ r.2.mem ((c.tc : Thread Cert.NeighboursReferenceIdeal.nD Cert.NeighboursReferenceIdeal.τ).loc Cert.NeighboursReferenceIdeal.main_arg0) = m' ((c.tc : Thread Cert.NeighboursReferenceIdeal.nD Cert.NeighboursReferenceIdeal.τ).loc Cert.NeighboursReferenceIdeal.main_arg0)
          ∧ r.2.mem ((c.tc : Thread Cert.NeighboursReferenceIdeal.nD Cert.NeighboursReferenceIdeal.τ).loc Cert.NeighboursReferenceIdeal.main_arg1) = m' ((c.tc : Thread Cert.NeighboursReferenceIdeal.nD Cert.NeighboursReferenceIdeal.τ).loc Cert.NeighboursReferenceIdeal.main_arg1))

def algebraic_WholeIdeal_WholeReferenceIdeal_pre_moderate [hWholeIdeal : Cert.WholeIdeal.Facts] [hWholeReferenceIdeal : Cert.WholeReferenceIdeal.Facts] [hPre_moderate : Cert.Pre_moderate.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_moderate m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)
      ∧ m' ((c.tc : Thread Cert.WholeReferenceIdeal.nD Cert.WholeReferenceIdeal.τ).loc Cert.WholeReferenceIdeal.main_arg6) = m ((c.tc : Thread Cert.WholeIdeal.nD Cert.WholeIdeal.τ).loc Cert.WholeIdeal.main_arg6)
      ∧ m' ((c.tc : Thread Cert.WholeReferenceIdeal.nD Cert.WholeReferenceIdeal.τ).loc Cert.WholeReferenceIdeal.main_arg7) = m ((c.tc : Thread Cert.WholeIdeal.nD Cert.WholeIdeal.τ).loc Cert.WholeIdeal.main_arg7)
      ∧ m' ((c.tc : Thread Cert.WholeReferenceIdeal.nD Cert.WholeReferenceIdeal.τ).loc Cert.WholeReferenceIdeal.main_arg8) = m ((c.tc : Thread Cert.WholeIdeal.nD Cert.WholeIdeal.τ).loc Cert.WholeIdeal.main_arg8)
      ∧ m' ((c.tc : Thread Cert.WholeReferenceIdeal.nD Cert.WholeReferenceIdeal.τ).loc Cert.WholeReferenceIdeal.main_arg9) = m ((c.tc : Thread Cert.WholeIdeal.nD Cert.WholeIdeal.τ).loc Cert.WholeIdeal.main_arg9)
      ∧ m' ((c.tc : Thread Cert.WholeReferenceIdeal.nD Cert.WholeReferenceIdeal.τ).loc Cert.WholeReferenceIdeal.main_arg10) = m ((c.tc : Thread Cert.WholeIdeal.nD Cert.WholeIdeal.τ).loc Cert.WholeIdeal.main_arg10)) →
    ∃ (v0 : (c : Dev Cert.WholeIdeal.nD) → Buf (Elt Ideal) ((c.tc : Thread Cert.WholeIdeal.nD Cert.WholeIdeal.τ).loc Cert.WholeIdeal.main_v52)) (v1 : (c : Dev Cert.WholeIdeal.nD) → Buf (Elt Ideal) ((c.tc : Thread Cert.WholeIdeal.nD Cert.WholeIdeal.τ).loc Cert.WholeIdeal.main_v51)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v52) = v0 c
          ∧ r.2.mem ((c.tc : Thread Cert.WholeIdeal.nD Cert.WholeIdeal.τ).loc Cert.WholeIdeal.main_v51) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
          ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
          ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v96) = v0 c
          ∧ r.2.mem ((c.tc : Thread Cert.WholeReferenceIdeal.nD Cert.WholeReferenceIdeal.τ).loc Cert.WholeReferenceIdeal.main_v95) = v1 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5)
          ∧ r.2.mem ((c.tc : Thread Cert.WholeReferenceIdeal.nD Cert.WholeReferenceIdeal.τ).loc Cert.WholeReferenceIdeal.main_arg6) = m' ((c.tc : Thread Cert.WholeReferenceIdeal.nD Cert.WholeReferenceIdeal.τ).loc Cert.WholeReferenceIdeal.main_arg6)
          ∧ r.2.mem ((c.tc : Thread Cert.WholeReferenceIdeal.nD Cert.WholeReferenceIdeal.τ).loc Cert.WholeReferenceIdeal.main_arg7) = m' ((c.tc : Thread Cert.WholeReferenceIdeal.nD Cert.WholeReferenceIdeal.τ).loc Cert.WholeReferenceIdeal.main_arg7)
          ∧ r.2.mem ((c.tc : Thread Cert.WholeReferenceIdeal.nD Cert.WholeReferenceIdeal.τ).loc Cert.WholeReferenceIdeal.main_arg8) = m' ((c.tc : Thread Cert.WholeReferenceIdeal.nD Cert.WholeReferenceIdeal.τ).loc Cert.WholeReferenceIdeal.main_arg8)
          ∧ r.2.mem ((c.tc : Thread Cert.WholeReferenceIdeal.nD Cert.WholeReferenceIdeal.τ).loc Cert.WholeReferenceIdeal.main_arg9) = m' ((c.tc : Thread Cert.WholeReferenceIdeal.nD Cert.WholeReferenceIdeal.τ).loc Cert.WholeReferenceIdeal.main_arg9)
          ∧ r.2.mem ((c.tc : Thread Cert.WholeReferenceIdeal.nD Cert.WholeReferenceIdeal.τ).loc Cert.WholeReferenceIdeal.main_arg10) = m' ((c.tc : Thread Cert.WholeReferenceIdeal.nD Cert.WholeReferenceIdeal.τ).loc Cert.WholeReferenceIdeal.main_arg10))

def Claim : Prop :=
  ∃ (hKernel : Cert.Kernel.Facts) (hKernelIdeal : Cert.KernelIdeal.Facts) (hReferenceIdeal : Cert.ReferenceIdeal.Facts) (hSampling : Cert.Sampling.Facts) (hSamplingIdeal : Cert.SamplingIdeal.Facts) (hSamplingReferenceIdeal : Cert.SamplingReferenceIdeal.Facts) (hLayers : Cert.Layers.Facts) (hLayersIdeal : Cert.LayersIdeal.Facts) (hLayersReferenceIdeal : Cert.LayersReferenceIdeal.Facts) (hNeighbours : Cert.Neighbours.Facts) (hNeighboursIdeal : Cert.NeighboursIdeal.Facts) (hNeighboursReferenceIdeal : Cert.NeighboursReferenceIdeal.Facts) (hWholeIdeal : Cert.WholeIdeal.Facts) (hWholeReferenceIdeal : Cert.WholeReferenceIdeal.Facts) (hPre_in_range : Cert.Pre_in_range.Facts) (hPre_finite : Cert.Pre_finite.Facts) (hPre_below_big : Cert.Pre_below_big.Facts) (hPre_moderate : Cert.Pre_moderate.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Sampling (hSampling := hSampling)
    ∧ quiescent_SamplingIdeal (hSamplingIdeal := hSamplingIdeal)
    ∧ quiescent_SamplingReferenceIdeal (hSamplingReferenceIdeal := hSamplingReferenceIdeal)
    ∧ quiescent_Layers (hLayers := hLayers)
    ∧ quiescent_LayersIdeal (hLayersIdeal := hLayersIdeal)
    ∧ quiescent_LayersIdeal_pre_finite (hLayersIdeal := hLayersIdeal) (hPre_finite := hPre_finite)
    ∧ quiescent_LayersReferenceIdeal (hLayersReferenceIdeal := hLayersReferenceIdeal)
    ∧ quiescent_LayersReferenceIdeal_pre_finite (hLayersReferenceIdeal := hLayersReferenceIdeal) (hPre_finite := hPre_finite)
    ∧ quiescent_Neighbours (hNeighbours := hNeighbours)
    ∧ quiescent_NeighboursIdeal (hNeighboursIdeal := hNeighboursIdeal)
    ∧ quiescent_NeighboursIdeal_pre_below_big (hNeighboursIdeal := hNeighboursIdeal) (hPre_below_big := hPre_below_big)
    ∧ quiescent_NeighboursReferenceIdeal (hNeighboursReferenceIdeal := hNeighboursReferenceIdeal)
    ∧ quiescent_NeighboursReferenceIdeal_pre_below_big (hNeighboursReferenceIdeal := hNeighboursReferenceIdeal) (hPre_below_big := hPre_below_big)
    ∧ quiescent_WholeIdeal (hWholeIdeal := hWholeIdeal)
    ∧ quiescent_WholeIdeal_pre_moderate (hWholeIdeal := hWholeIdeal) (hPre_moderate := hPre_moderate)
    ∧ quiescent_WholeReferenceIdeal (hWholeReferenceIdeal := hWholeReferenceIdeal)
    ∧ quiescent_WholeReferenceIdeal_pre_moderate (hWholeReferenceIdeal := hWholeReferenceIdeal) (hPre_moderate := hPre_moderate)
    ∧ preserves_Kernel_KernelIdeal
    ∧ algebraic_KernelIdeal_ReferenceIdeal (hKernelIdeal := hKernelIdeal) (hReferenceIdeal := hReferenceIdeal) (hPre_in_range := hPre_in_range)
    ∧ preserves_Sampling_SamplingIdeal
    ∧ algebraic_SamplingIdeal_SamplingReferenceIdeal (hSamplingIdeal := hSamplingIdeal) (hSamplingReferenceIdeal := hSamplingReferenceIdeal)
    ∧ preserves_Layers_LayersIdeal
    ∧ algebraic_LayersIdeal_LayersReferenceIdeal_pre_finite (hLayersIdeal := hLayersIdeal) (hLayersReferenceIdeal := hLayersReferenceIdeal) (hPre_finite := hPre_finite)
    ∧ preserves_Neighbours_NeighboursIdeal
    ∧ algebraic_NeighboursIdeal_NeighboursReferenceIdeal_pre_below_big (hNeighboursIdeal := hNeighboursIdeal) (hNeighboursReferenceIdeal := hNeighboursReferenceIdeal) (hPre_below_big := hPre_below_big)
    ∧ algebraic_WholeIdeal_WholeReferenceIdeal_pre_moderate (hWholeIdeal := hWholeIdeal) (hWholeReferenceIdeal := hWholeReferenceIdeal) (hPre_moderate := hPre_moderate)
-- ==== Pre_below_big.lean ====
abbrev S4x1024x3 : Shape := ⟨3, ![4, 1024, 3]⟩
abbrev S4x3x16384 : Shape := ⟨3, ![4, 3, 16384]⟩
abbrev S4x16384x3 : Shape := ⟨3, ![4, 16384, 3]⟩
abbrev S_ : Shape := ⟨0, ![]⟩
abbrev S4x1024 : Shape := ⟨2, ![4, 1024]⟩
abbrev S4x1024x1 : Shape := ⟨3, ![4, 1024, 1]⟩
abbrev S4x1024x16384 : Shape := ⟨3, ![4, 1024, 16384]⟩
abbrev S4x16384 : Shape := ⟨2, ![4, 16384]⟩
abbrev S4x1x16384 : Shape := ⟨3, ![4, 1, 16384]⟩

class Facts : Prop where
  transposes_S4x3x16384_S4x16384x3_0_2_1 : S4x3x16384.Transposes [0, 2, 1] S4x16384x3
  reducesTo_S4x1024x3_S4x1024_d2 : S4x1024x3.ReducesTo [2] S4x1024
  h_S_ : 0 < S_.numel
  bcast_S4x1024_S4x1024x1_0_1 : S4x1024.BroadcastsInDim S4x1024x1 (![0, 1] : Fin 2 → Fin S4x1024x1.rank)
  bcast_S_S4x1024x16384 : S_.BroadcastsInDim S4x1024x16384 (![] : Fin 0 → Fin S4x1024x16384.rank)
  bcast_S4x1024x1_S4x1024x16384_0_1_2 : S4x1024x1.BroadcastsInDim S4x1024x16384 (![0, 1, 2] : Fin 3 → Fin S4x1024x16384.rank)
  reducesTo_S4x16384x3_S4x16384_d2 : S4x16384x3.ReducesTo [2] S4x16384
  bcast_S4x16384_S4x1x16384_0_2 : S4x16384.BroadcastsInDim S4x1x16384 (![0, 2] : Fin 2 → Fin S4x1x16384.rank)
  bcast_S4x1x16384_S4x1024x16384_0_1_2 : S4x1x16384.BroadcastsInDim S4x1024x16384 (![0, 1, 2] : Fin 3 → Fin S4x1024x16384.rank)
  reducesTo_S4x1024x16384_S_d0_1_2 : S4x1024x16384.ReducesTo [0, 1, 2] S_
  dot_S4x1024x3_S4x16384x3_S4x1024x16384_2_2_1_1_0_0_wf : DotDims.WF S4x1024x3 S4x16384x3 S4x1024x16384 [2] [2] [1] [1] [0] [0]

variable [Facts]

def dot_S4x1024x3_S4x16384x3_S4x1024x16384_2_2_1_1_0_0 : DotDims S4x1024x3 S4x16384x3 S4x1024x16384 where
  lhsContracting := [2]
  rhsContracting := [2]
  lhsNonContracting := [1]
  rhsNonContracting := [1]
  lhsBatch := [0]
  rhsBatch := [0]
  wf := dot_S4x1024x3_S4x16384x3_S4x1024x16384_2_2_1_1_0_0_wf
def fn {F : FTy → Type} [FloatOps F] (main_arg0 : FVec F S4x1024x3 .f32) (main_arg1 : FVec F S4x3x16384 .f32) : IVec S_ 1 :=
  let main_v0 : FVec F S4x16384x3 .f32 := (transpose S4x16384x3 [0, 2, 1] · transposes_S4x3x16384_S4x16384x3_0_2_1) main_arg1
  let main_v1 : FVec F S4x1024x3 .f32 := mulf main_arg0 main_arg0
  let main_cst : FVec F S_ .f32 := constant S_ .f32 0x00000000#32
  let main_v2 : FVec F S4x1024 .f32 := (fun x v => Host.reduceAdd x v reducesTo_S4x1024x3_S4x1024_d2 h_S_) main_v1 main_cst
  let main_v3 : FVec F S4x1024x1 .f32 := broadcastInDim S4x1024x1 ![0, 1] bcast_S4x1024_S4x1024x1_0_1 main_v2
  let main_v4 : FVec F S4x1024x16384 .f32 := (fun l r => Host.dotGeneral dot_S4x1024x3_S4x16384x3_S4x1024x16384_2_2_1_1_0_0 none l r) main_arg0 main_v0
  let main_cst_0 : FVec F S_ .f32 := constant S_ .f32 0x40000000#32
  let main_v5 : FVec F S4x1024x16384 .f32 := broadcastInDim S4x1024x16384 ![] bcast_S_S4x1024x16384 main_cst_0
  let main_v6 : FVec F S4x1024x16384 .f32 := mulf main_v5 main_v4
  let main_v7 : FVec F S4x1024x16384 .f32 := broadcastInDim S4x1024x16384 ![0, 1, 2] bcast_S4x1024x1_S4x1024x16384_0_1_2 main_v3
  let main_v8 : FVec F S4x1024x16384 .f32 := subf main_v7 main_v6
  let main_v9 : FVec F S4x16384x3 .f32 := mulf main_v0 main_v0
  let main_cst_1 : FVec F S_ .f32 := constant S_ .f32 0x00000000#32
  let main_v10 : FVec F S4x16384 .f32 := (fun x v => Host.reduceAdd x v reducesTo_S4x16384x3_S4x16384_d2 h_S_) main_v9 main_cst_1
  let main_v11 : FVec F S4x1x16384 .f32 := broadcastInDim S4x1x16384 ![0, 2] bcast_S4x16384_S4x1x16384_0_2 main_v10
  let main_v12 : FVec F S4x1024x16384 .f32 := broadcastInDim S4x1024x16384 ![0, 1, 2] bcast_S4x1x16384_S4x1024x16384_0_1_2 main_v11
  let main_v13 : FVec F S4x1024x16384 .f32 := addf main_v8 main_v12
  let main_cst_2 : FVec F S_ .f32 := constant S_ .f32 0x7F61B1E6#32
  let main_v14 : FVec F S4x1024x16384 .f32 := broadcastInDim S4x1024x16384 ![] bcast_S_S4x1024x16384 main_cst_2
  let main_v15 : IVec S4x1024x16384 1 := cmpf .olt main_v13 main_v14
  let main_c : IVec S_ 1 := constantI S_ 1 1#1
  let main_v16 : IVec S_ 1 := (fun x v => Host.reduce IntOp.andi x v reducesTo_S4x1024x16384_S_d0_1_2 h_S_) main_v15 main_c
  main_v16
-- ==== Pre_finite.lean ====
abbrev S131072x16 : Shape := ⟨2, ![131072, 16]⟩
abbrev S4x1024x3 : Shape := ⟨3, ![4, 1024, 3]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S131072x16 .f32) (main_arg1 : FVec F S4x1024x3 .f32) (main_arg2 : FVec F S64x3 .f32) (main_arg3 : FVec F S64 .f32) (main_arg4 : FVec F S64 .f32) (main_arg5 : FVec F S64 .f32) (main_arg6 : FVec F S128x64 .f32) (main_arg7 : FVec F S128 .f32) (main_arg8 : FVec F S128 .f32) (main_arg9 : FVec F S128 .f32) (main_arg10 : FVec F S256x128 .f32) (main_arg11 : FVec F S256 .f32) : IVec S_ 1 :=
  let main_v0 : FVec F S64 .f32 := Host.absf main_arg4
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S128 .f32 := Host.absf main_arg8
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_in_range.lean ====
abbrev S4x1024x32 : Shape := ⟨3, ![4, 1024, 32]⟩
abbrev S4x3x16384 : Shape := ⟨3, ![4, 3, 16384]⟩
abbrev S_ : Shape := ⟨0, ![]⟩

class Facts : Prop where
  bcast_S_S4x1024x32 : S_.BroadcastsInDim S4x1024x32 (![] : Fin 0 → Fin S4x1024x32.rank)

variable [Facts]

def fn {F : FTy → Type} [FloatOps F] (main_arg0 : IVec S4x1024x32 32) (main_arg1 : FVec F S4x3x16384 .f32) : IVec S4x1024x32 1 :=
  let main_c : IVec S_ 32 := constantI S_ 32 0#32
  let main_v0 : IVec S4x1024x32 32 := broadcastInDim S4x1024x32 ![] bcast_S_S4x1024x32 main_c
  let main_v1 : IVec S4x1024x32 1 := cmpi .sge main_arg0 main_v0
  let main_c_0 : IVec S_ 32 := constantI S_ 32 16384#32
  let main_v2 : IVec S4x1024x32 32 := broadcastInDim S4x1024x32 ![] bcast_S_S4x1024x32 main_c_0
  let main_v3 : IVec S4x1024x32 1 := cmpi .slt main_arg0 main_v2
  let main_v4 : IVec S4x1024x32 1 := andi main_v1 main_v3
  main_v4
-- ==== Pre_moderate.lean ====
abbrev S4x3x16384 : Shape := ⟨3, ![4, 3, 16384]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S4x3x16384 : S_.BroadcastsInDim S4x3x16384 (![] : Fin 0 → Fin S4x3x16384.rank)
  reducesTo_S4x3x16384_S_d0_1_2 : S4x3x16384.ReducesTo [0, 1, 2] S_
  h_S_ : 0 < S_.numel
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4x3x16384 .f32) (main_arg1 : FVec F S64x3 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S256x128 .f32) (main_arg10 : FVec F S256 .f32) : IVec S_ 1 :=
  let main_v0 : FVec F S4x3x16384 .f32 := Host.absf main_arg0
  let main_cst : FVec F S_ .f32 := constant S_ .f32 0x5E5E0B6B#32
  let main_v1 : FVec F S4x3x16384 .f32 := broadcastInDim S4x3x16384 ![] bcast_S_S4x3x16384 main_cst
  let main_v2 : IVec S4x3x16384 1 := cmpf .olt main_v0 main_v1
  let main_c : IVec S_ 1 := constantI S_ 1 1#1
  let main_v3 : IVec S_ 1 := (fun x v => Host.reduce IntOp.andi x v reducesTo_S4x3x16384_S_d0_1_2 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S128 .f32 := Host.absf main_arg7
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4x1024x32 : Shape := ⟨3, ![4, 1024, 32]⟩
abbrev S4x3x16384 : Shape := ⟨3, ![4, 3, 16384]⟩
abbrev S131072 : Shape := ⟨1, ![131072]⟩
abbrev S196608 : Shape := ⟨1, ![196608]⟩
abbrev S2097152 : Shape := ⟨1, ![2097152]⟩
abbrev S16384 : Shape := ⟨1, ![16384]⟩
abbrev S128 : Shape := ⟨1, ![128]⟩
abbrev S2048 : Shape := ⟨1, ![2048]⟩
abbrev S_ : Shape := ⟨0, ![]⟩
abbrev S16 : Shape := ⟨1, ![16]⟩
abbrev S131072x16 : Shape := ⟨2, ![131072, 16]⟩
abbrev S131072x3 : Shape := ⟨2, ![131072, 3]⟩

abbrev nBuf : Table → Nat
  | .hbm => 7
  | .local .scVector .vmem => 5
  | _ => 0

abbrev bufTy : (tb : Table) → Fin (nBuf tb) → BufTy
  | .hbm, ⟨0, _⟩ => ⟨S4x1024x32, .i32⟩
  | .hbm, ⟨1, _⟩ => ⟨S4x3x16384, .f32⟩
  | .hbm, ⟨2, _⟩ => ⟨S131072, .i32⟩
  | .hbm, ⟨3, _⟩ => ⟨S196608, .f32⟩
  | .hbm, ⟨4, _⟩ => ⟨S2097152, .f32⟩
  | .hbm, ⟨5, _⟩ => ⟨S131072x16, .f32⟩
  | .hbm, ⟨6, _⟩ => ⟨S131072x3, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S128, .i32⟩
  | .local .scVector .vmem, ⟨4, _⟩ => ⟨S2048, .f32⟩
  | _, _ => ⟨S4x1024x32, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v20 : BitVec 32 := Scalar.muli v18 c3_i32
  let v21 : BitVec 32 := Scalar.addi v20 c0_i32_4
  let c16384_i32 : BitVec 32 := 16384#32
  let v22 : BitVec 32 := Scalar.muli v21 c16384_i32
  ![v22.toNat]
@[reducible] def k0_t1_loop : Scf.Loop 32 :=
  let c0_i32_11 : BitVec 32 := 0#32
  let c32_i32 : BitVec 32 := 32#32
  let v30 : BitVec 32 := Scalar.addi c0_i32_11 c32_i32
  let c1_i32_12 : BitVec 32 := 1#32
  ⟨c0_i32_11, v30, c1_i32_12⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v19 : BitVec 32 := Scalar.muli v1 c4096_i32
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v31 : BitVec 32 := Scalar.muli arg10 c1_i32_14
  let v32 : BitVec 32 := Scalar.addi c0_i32_15 v31
  let c128_i32 : BitVec 32 := 128#32
  let v33 : BitVec 32 := Scalar.muli v32 c128_i32
  let v34 : BitVec 32 := Scalar.addi v19 v33
  ![v34.toNat]

def k0_chk1 (v35 : IVec S16 32) : Prop :=
  (∀ a x, ((![v35] : Fin 1 → IVec S16 32) a x).toNat < S16384.size a) ∧
  (∀ a x, ((![v35] : Fin 1 → IVec S16 32) a x).toNat < S16384.size a) ∧
  (∀ a x, ((![v35] : Fin 1 → IVec S16 32) a x).toNat < S16384.size a)
theorem k0_idx1_inb : ∀ (v35 : IVec S16 32) (k0_hw1 : k0_chk1 v35), ∀ a x, ((![v35] : Fin 1 → IVec S16 32) a x).toNat < S16384.size a := fun v35 k0_hw1 => k0_hw1.1
theorem k0_idx2_inb : ∀ (v35 : IVec S16 32) (k0_hw1 : k0_chk1 v35), ∀ a x, ((![v35] : Fin 1 → IVec S16 32) a x).toNat < S16384.size a := fun v35 k0_hw1 => k0_hw1.2.1
theorem k0_idx3_inb : ∀ (v35 : IVec S16 32) (k0_hw1 : k0_chk1 v35), ∀ a x, ((![v35] : Fin 1 → IVec S16 32) a x).toNat < S16384.size a := fun v35 k0_hw1 => k0_hw1.2.2

def k0_chk2 (v42 : IVec S16 32) : Prop :=
  (∀ a x, ((![v42] : Fin 1 → IVec S16 32) a x).toNat < S2048.size a)
theorem k0_idx4_inb : ∀ (v42 : IVec S16 32) (k0_hw2 : k0_chk2 v42), ∀ a x, ((![v42] : Fin 1 → IVec S16 32) a x).toNat < S2048.size a := fun v42 k0_hw2 => k0_hw2

def k0_chk3 (v44 : IVec S16 32) : Prop :=
  (∀ a x, ((![v44] : Fin 1 → IVec S16 32) a x).toNat < S2048.size a)
theorem k0_idx5_inb : ∀ (v44 : IVec S16 32) (k0_hw3 : k0_chk3 v44), ∀ a x, ((![v44] : Fin 1 → IVec S16 32) a x).toNat < S2048.size a := fun v44 k0_hw3 => k0_hw3

def k0_chk4 (v46 : IVec S16 32) : Prop :=
  (∀ a x, ((![v46] : Fin 1 → IVec S16 32) a x).toNat < S2048.size a)
theorem k0_idx6_inb : ∀ (v46 : IVec S16 32) (k0_hw4 : k0_chk4 v46), ∀ a x, ((![v46] : Fin 1 → IVec S16 32) a x).toNat < S2048.size a := fun v46 k0_hw4 => k0_hw4

def k0_chk5 (v47 : IVec S16 32) : Prop :=
  (∀ a x, ((![v47] : Fin 1 → IVec S16 32) a x).toNat < S16384.size a) ∧
  (∀ a x, ((![v47] : Fin 1 → IVec S16 32) a x).toNat < S16384.size a) ∧
  (∀ a x, ((![v47] : Fin 1 → IVec S16 32) a x).toNat < S16384.size a)
theorem k0_idx7_inb : ∀ (v47 : IVec S16 32) (k0_hw5 : k0_chk5 v47), ∀ a x, ((![v47] : Fin 1 → IVec S16 32) a x).toNat < S16384.size a := fun v47 k0_hw5 => k0_hw5.1
theorem k0_idx8_inb : ∀ (v47 : IVec S16 32) (k0_hw5 : k0_chk5 v47), ∀ a x, ((![v47] : Fin 1 → IVec S16 32) a x).toNat < S16384.size a := fun v47 k0_hw5 => k0_hw5.2.1
theorem k0_idx9_inb : ∀ (v47 : IVec S16 32) (k0_hw5 : k0_chk5 v47), ∀ a x, ((![v47] : Fin 1 → IVec S16 32) a x).toNat < S16384.size a := fun v47 k0_hw5 => k0_hw5.2.2

def k0_chk6 (v54 : IVec S16 32) : Prop :=
  (∀ a x, ((![v54] : Fin 1 → IVec S16 32) a x).toNat < S2048.size a)
theorem k0_idx10_inb : ∀ (v54 : IVec S16 32) (k0_hw6 : k0_chk6 v54), ∀ a x, ((![v54] : Fin 1 → IVec S16 32) a x).toNat < S2048.size a := fun v54 k0_hw6 => k0_hw6

def k0_chk7 (v56 : IVec S16 32) : Prop :=
  (∀ a x, ((![v56] : Fin 1 → IVec S16 32) a x).toNat < S2048.size a)
theorem k0_idx11_inb : ∀ (v56 : IVec S16 32) (k0_hw7 : k0_chk7 v56), ∀ a x, ((![v56] : Fin 1 → IVec S16 32) a x).toNat < S2048.size a := fun v56 k0_hw7 => k0_hw7

def k0_chk8 (v58 : IVec S16 32) : Prop :=
  (∀ a x, ((![v58] : Fin 1 → IVec S16 32) a x).toNat < S2048.size a)
theorem k0_idx12_inb : ∀ (v58 : IVec S16 32) (k0_hw8 : k0_chk8 v58), ∀ a x, ((![v58] : Fin 1 → IVec S16 32) a x).toNat < S2048.size a := fun v58 k0_hw8 => k0_hw8

def k0_chk9 (v59 : IVec S16 32) : Prop :=
  (∀ a x, ((![v59] : Fin 1 → IVec S16 32) a x).toNat < S16384.size a) ∧
  (∀ a x, ((![v59] : Fin 1 → IVec S16 32) a x).toNat < S16384.size a) ∧
  (∀ a x, ((![v59] : Fin 1 → IVec S16 32) a x).toNat < S16384.size a)
theorem k0_idx13_inb : ∀ (v59 : IVec S16 32) (k0_hw9 : k0_chk9 v59), ∀ a x, ((![v59] : Fin 1 → IVec S16 32) a x).toNat < S16384.size a := fun v59 k0_hw9 => k0_hw9.1
theorem k0_idx14_inb : ∀ (v59 : IVec S16 32) (k0_hw9 : k0_chk9 v59), ∀ a x, ((![v59] : Fin 1 → IVec S16 32) a x).toNat < S16384.size a := fun v59 k0_hw9 => k0_hw9.2.1
theorem k0_idx15_inb : ∀ (v59 : IVec S16 32) (k0_hw9 : k0_chk9 v59), ∀ a x, ((![v59] : Fin 1 → IVec S16 32) a x).toNat < S16384.size a := fun v59 k0_hw9 => k0_hw9.2.2

def k0_chk10 (v66 : IVec S16 32) : Prop :=
  (∀ a x, ((![v66] : Fin 1 → IVec S16 32) a x).toNat < S2048.size a)
theorem k0_idx16_inb : ∀ (v66 : IVec S16 32) (k0_hw10 : k0_chk10 v66), ∀ a x, ((![v66] : Fin 1 → IVec S16 32) a x).toNat < S2048.size a := fun v66 k0_hw10 => k0_hw10

def k0_chk11 (v68 : IVec S16 32) : Prop :=
  (∀ a x, ((![v68] : Fin 1 → IVec S16 32) a x).toNat < S2048.size a)
theorem k0_idx17_inb : ∀ (v68 : IVec S16 32) (k0_hw11 : k0_chk11 v68), ∀ a x, ((![v68] : Fin 1 → IVec S16 32) a x).toNat < S2048.size a := fun v68 k0_hw11 => k0_hw11

def k0_chk12 (v70 : IVec S16 32) : Prop :=
  (∀ a x, ((![v70] : Fin 1 → IVec S16 32) a x).toNat < S2048.size a)
theorem k0_idx18_inb : ∀ (v70 : IVec S16 32) (k0_hw12 : k0_chk12 v70), ∀ a x, ((![v70] : Fin 1 → IVec S16 32) a x).toNat < S2048.size a := fun v70 k0_hw12 => k0_hw12

def k0_chk13 (v71 : IVec S16 32) : Prop :=
  (∀ a x, ((![v71] : Fin 1 → IVec S16 32) a x).toNat < S16384.size a) ∧
  (∀ a x, ((![v71] : Fin 1 → IVec S16 32) a x).toNat < S16384.size a) ∧
  (∀ a x, ((![v71] : Fin 1 → IVec S16 32) a x).toNat < S16384.size a)
theorem k0_idx19_inb : ∀ (v71 : IVec S16 32) (k0_hw13 : k0_chk13 v71), ∀ a x, ((![v71] : Fin 1 → IVec S16 32) a x).toNat < S16384.size a := fun v71 k0_hw13 => k0_hw13.1
theorem k0_idx20_inb : ∀ (v71 : IVec S16 32) (k0_hw13 : k0_chk13 v71), ∀ a x, ((![v71] : Fin 1 → IVec S16 32) a x).toNat < S16384.size a := fun v71 k0_hw13 => k0_hw13.2.1
theorem k0_idx21_inb : ∀ (v71 : IVec S16 32) (k0_hw13 : k0_chk13 v71), ∀ a x, ((![v71] : Fin 1 → IVec S16 32) a x).toNat < S16384.size a := fun v71 k0_hw13 => k0_hw13.2.2

def k0_chk14 (v78 : IVec S16 32) : Prop :=
  (∀ a x, ((![v78] : Fin 1 → IVec S16 32) a x).toNat < S2048.size a)
theorem k0_idx22_inb : ∀ (v78 : IVec S16 32) (k0_hw14 : k0_chk14 v78), ∀ a x, ((![v78] : Fin 1 → IVec S16 32) a x).toNat < S2048.size a := fun v78 k0_hw14 => k0_hw14

def k0_chk15 (v80 : IVec S16 32) : Prop :=
  (∀ a x, ((![v80] : Fin 1 → IVec S16 32) a x).toNat < S2048.size a)
theorem k0_idx23_inb : ∀ (v80 : IVec S16 32) (k0_hw15 : k0_chk15 v80), ∀ a x, ((![v80] : Fin 1 → IVec S16 32) a x).toNat < S2048.size a := fun v80 k0_hw15 => k0_hw15

def k0_chk16 (v82 : IVec S16 32) : Prop :=
  (∀ a x, ((![v82] : Fin 1 → IVec S16 32) a x).toNat < S2048.size a)
theorem k0_idx24_inb : ∀ (v82 : IVec S16 32) (k0_hw16 : k0_chk16 v82), ∀ a x, ((![v82] : Fin 1 → IVec S16 32) a x).toNat < S2048.size a := fun v82 k0_hw16 => k0_hw16

def k0_chk17 (v83 : IVec S16 32) : Prop :=
  (∀ a x, ((![v83] : Fin 1 → IVec S16 32) a x).toNat < S16384.size a) ∧
  (∀ a x, ((![v83] : Fin 1 → IVec S16 32) a x).toNat < S16384.size a) ∧
  (∀ a x, ((![v83] : Fin 1 → IVec S16 32) a x).toNat < S16384.size a)
theorem k0_idx25_inb : ∀ (v83 : IVec S16 32) (k0_hw17 : k0_chk17 v83), ∀ a x, ((![v83] : Fin 1 → IVec S16 32) a x).toNat < S16384.size a := fun v83 k0_hw17 => k0_hw17.1
theorem k0_idx26_inb : ∀ (v83 : IVec S16 32) (k0_hw17 : k0_chk17 v83), ∀ a x, ((![v83] : Fin 1 → IVec S16 32) a x).toNat < S16384.size a := fun v83 k0_hw17 => k0_hw17.2.1
theorem k0_idx27_inb : ∀ (v83 : IVec S16 32) (k0_hw17 : k0_chk17 v83), ∀ a x, ((![v83] : Fin 1 → IVec S16 32) a x).toNat < S16384.size a := fun v83 k0_hw17 => k0_hw17.2.2

def k0_chk18 (v90 : IVec S16 32) : Prop :=
  (∀ a x, ((![v90] : Fin 1 → IVec S16 32) a x).toNat < S2048.size a)
theorem k0_idx28_inb : ∀ (v90 : IVec S16 32) (k0_hw18 : k0_chk18 v90), ∀ a x, ((![v90] : Fin 1 → IVec S16 32) a x).toNat < S2048.size a := fun v90 k0_hw18 => k0_hw18

def k0_chk19 (v92 : IVec S16 32) : Prop :=
  (∀ a x, ((![v92] : Fin 1 → IVec S16 32) a x).toNat < S2048.size a)
theorem k0_idx29_inb : ∀ (v92 : IVec S16 32) (k0_hw19 : k0_chk19 v92), ∀ a x, ((![v92] : Fin 1 → IVec S16 32) a x).toNat < S2048.size a := fun v92 k0_hw19 => k0_hw19

def k0_chk20 (v94 : IVec S16 32) : Prop :=
  (∀ a x, ((![v94] : Fin 1 → IVec S16 32) a x).toNat < S2048.size a)
theorem k0_idx30_inb : ∀ (v94 : IVec S16 32) (k0_hw20 : k0_chk20 v94), ∀ a x, ((![v94] : Fin 1 → IVec S16 32) a x).toNat < S2048.size a := fun v94 k0_hw20 => k0_hw20

def k0_chk21 (v95 : IVec S16 32) : Prop :=
  (∀ a x, ((![v95] : Fin 1 → IVec S16 32) a x).toNat < S16384.size a) ∧
  (∀ a x, ((![v95] : Fin 1 → IVec S16 32) a x).toNat < S16384.size a) ∧
  (∀ a x, ((![v95] : Fin 1 → IVec S16 32) a x).toNat < S16384.size a)
theorem k0_idx31_inb : ∀ (v95 : IVec S16 32) (k0_hw21 : k0_chk21 v95), ∀ a x, ((![v95] : Fin 1 → IVec S16 32) a x).toNat < S16384.size a := fun v95 k0_hw21 => k0_hw21.1
theorem k0_idx32_inb : ∀ (v95 : IVec S16 32) (k0_hw21 : k0_chk21 v95), ∀ a x, ((![v95] : Fin 1 → IVec S16 32) a x).toNat < S16384.size a := fun v95 k0_hw21 => k0_hw21.2.1
theorem k0_idx33_inb : ∀ (v95 : IVec S16 32) (k0_hw21 : k0_chk21 v95), ∀ a x, ((![v95] : Fin 1 → IVec S16 32) a x).toNat < S16384.size a := fun v95 k0_hw21 => k0_hw21.2.2

def k0_chk22 (v102 : IVec S16 32) : Prop :=
  (∀ a x, ((![v102] : Fin 1 → IVec S16 32) a x).toNat < S2048.size a)
theorem k0_idx34_inb : ∀ (v102 : IVec S16 32) (k0_hw22 : k0_chk22 v102), ∀ a x, ((![v102] : Fin 1 → IVec S16 32) a x).toNat < S2048.size a := fun v102 k0_hw22 => k0_hw22

def k0_chk23 (v104 : IVec S16 32) : Prop :=
  (∀ a x, ((![v104] : Fin 1 → IVec S16 32) a x).toNat < S2048.size a)
theorem k0_idx35_inb : ∀ (v104 : IVec S16 32) (k0_hw23 : k0_chk23 v104), ∀ a x, ((![v104] : Fin 1 → IVec S16 32) a x).toNat < S2048.size a := fun v104 k0_hw23 => k0_hw23

def k0_chk24 (v106 : IVec S16 32) : Prop :=
  (∀ a x, ((![v106] : Fin 1 → IVec S16 32) a x).toNat < S2048.size a)
theorem k0_idx36_inb : ∀ (v106 : IVec S16 32) (k0_hw24 : k0_chk24 v106), ∀ a x, ((![v106] : Fin 1 → IVec S16 32) a x).toNat < S2048.size a := fun v106 k0_hw24 => k0_hw24

def k0_chk25 (v107 : IVec S16 32) : Prop :=
  (∀ a x, ((![v107] : Fin 1 → IVec S16 32) a x).toNat < S16384.size a) ∧
  (∀ a x, ((![v107] : Fin 1 → IVec S16 32) a x).toNat < S16384.size a) ∧
  (∀ a x, ((![v107] : Fin 1 → IVec S16 32) a x).toNat < S16384.size a)
theorem k0_idx37_inb : ∀ (v107 : IVec S16 32) (k0_hw25 : k0_chk25 v107), ∀ a x, ((![v107] : Fin 1 → IVec S16 32) a x).toNat < S16384.size a := fun v107 k0_hw25 => k0_hw25.1
theorem k0_idx38_inb : ∀ (v107 : IVec S16 32) (k0_hw25 : k0_chk25 v107), ∀ a x, ((![v107] : Fin 1 → IVec S16 32) a x).toNat < S16384.size a := fun v107 k0_hw25 => k0_hw25.2.1
theorem k0_idx39_inb : ∀ (v107 : IVec S16 32) (k0_hw25 : k0_chk25 v107), ∀ a x, ((![v107] : Fin 1 → IVec S16 32) a x).toNat < S16384.size a := fun v107 k0_hw25 => k0_hw25.2.2

def k0_chk26 (v114 : IVec S16 32) : Prop :=
  (∀ a x, ((![v114] : Fin 1 → IVec S16 32) a x).toNat < S2048.size a)
theorem k0_idx40_inb : ∀ (v114 : IVec S16 32) (k0_hw26 : k0_chk26 v114), ∀ a x, ((![v114] : Fin 1 → IVec S16 32) a x).toNat < S2048.size a := fun v114 k0_hw26 => k0_hw26

def k0_chk27 (v116 : IVec S16 32) : Prop :=
  (∀ a x, ((![v116] : Fin 1 → IVec S16 32) a x).toNat < S2048.size a)
theorem k0_idx41_inb : ∀ (v116 : IVec S16 32) (k0_hw27 : k0_chk27 v116), ∀ a x, ((![v116] : Fin 1 → IVec S16 32) a x).toNat < S2048.size a := fun v116 k0_hw27 => k0_hw27

def k0_chk28 (v118 : IVec S16 32) : Prop :=
  (∀ a x, ((![v118] : Fin 1 → IVec S16 32) a x).toNat < S2048.size a)
theorem k0_idx42_inb : ∀ (v118 : IVec S16 32) (k0_hw28 : k0_chk28 v118), ∀ a x, ((![v118] : Fin 1 → IVec S16 32) a x).toNat < S2048.size a := fun v118 k0_hw28 => k0_hw28

def k0_chk29 (v119 : IVec S16 32) : Prop :=
  (∀ a x, ((![v119] : Fin 1 → IVec S16 32) a x).toNat < S16384.size a) ∧
  (∀ a x, ((![v119] : Fin 1 → IVec S16 32) a x).toNat < S16384.size a) ∧
  (∀ a x, ((![v119] : Fin 1 → IVec S16 32) a x).toNat < S16384.size a)
theorem k0_idx43_inb : ∀ (v119 : IVec S16 32) (k0_hw29 : k0_chk29 v119), ∀ a x, ((![v119] : Fin 1 → IVec S16 32) a x).toNat < S16384.size a := fun v119 k0_hw29 => k0_hw29.1
theorem k0_idx44_inb : ∀ (v119 : IVec S16 32) (k0_hw29 : k0_chk29 v119), ∀ a x, ((![v119] : Fin 1 → IVec S16 32) a x).toNat < S16384.size a := fun v119 k0_hw29 => k0_hw29.2.1
theorem k0_idx45_inb : ∀ (v119 : IVec S16 32) (k0_hw29 : k0_chk29 v119), ∀ a x, ((![v119] : Fin 1 → IVec S16 32) a x).toNat < S16384.size a := fun v119 k0_hw29 => k0_hw29.2.2

def k0_chk30 (v126 : IVec S16 32) : Prop :=
  (∀ a x, ((![v126] : Fin 1 → IVec S16 32) a x).toNat < S2048.size a)
theorem k0_idx46_inb : ∀ (v126 : IVec S16 32) (k0_hw30 : k0_chk30 v126), ∀ a x, ((![v126] : Fin 1 → IVec S16 32) a x).toNat < S2048.size a := fun v126 k0_hw30 => k0_hw30

def k0_chk31 (v128 : IVec S16 32) : Prop :=
  (∀ a x, ((![v128] : Fin 1 → IVec S16 32) a x).toNat < S2048.size a)
theorem k0_idx47_inb : ∀ (v128 : IVec S16 32) (k0_hw31 : k0_chk31 v128), ∀ a x, ((![v128] : Fin 1 → IVec S16 32) a x).toNat < S2048.size a := fun v128 k0_hw31 => k0_hw31

def k0_chk32 (v130 : IVec S16 32) : Prop :=
  (∀ a x, ((![v130] : Fin 1 → IVec S16 32) a x).toNat < S2048.size a)
theorem k0_idx48_inb : ∀ (v130 : IVec S16 32) (k0_hw32 : k0_chk32 v130), ∀ a x, ((![v130] : Fin 1 → IVec S16 32) a x).toNat < S2048.size a := fun v130 k0_hw32 => k0_hw32
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v19 : BitVec 32 := Scalar.muli v1 c4096_i32
  let c0_i32_15 : BitVec 32 := 0#32
  let c0_i32_11 : BitVec 32 := 0#32
  let c1_i32_12 : BitVec 32 := 1#32
  let arg10 : BitVec 32 := Scf.iv c0_i32_11 c1_i32_12 k0_t1
  let c1_i32_14 : BitVec 32 := 1#32
  let v31 : BitVec 32 := Scalar.muli arg10 c1_i32_14
  let v32 : BitVec 32 := Scalar.addi c0_i32_15 v31
  let c128_i32 : BitVec 32 := 128#32
  let v33 : BitVec 32 := Scalar.muli v32 c128_i32
  let v34 : BitVec 32 := Scalar.addi v19 v33
  let c16_i32_42 : BitVec 32 := 16#32
  let v131 : BitVec 32 := Scalar.muli v34 c16_i32_42
  ![v131.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x32 : Shape := ⟨3, ![4, 1024, 32]⟩
abbrev S4x3x16384 : Shape := ⟨3, ![4, 3, 16384]⟩
abbrev S4x16384x3 : Shape := ⟨3, ![4, 16384, 3]⟩
abbrev S4 : Shape := ⟨1, ![4]⟩
abbrev S4x1x1 : Shape := ⟨3, ![4, 1, 1]⟩
abbrev S_ : Shape := ⟨0, ![]⟩
abbrev S4x1024x32x1 : Shape := ⟨4, ![4, 1024, 32, 1]⟩
abbrev S4x1024x32x2 : Shape := ⟨4, ![4, 1024, 32, 2]⟩
abbrev S4x1024x32x3 : Shape := ⟨4, ![4, 1024, 32, 3]⟩
abbrev S131072x3 : Shape := ⟨2, ![131072, 3]⟩

abbrev nBuf : Space → Nat
  | .hbm => 25
  | .vmem => 0
  | .smem => 0
  | _ => 0

abbrev bufTy : (tb : Table) → Fin (tcTables nBuf tb) → BufTy
  | .hbm, ⟨0, _⟩ => ⟨S4x1024x32, .i32⟩
  | .hbm, ⟨1, _⟩ => ⟨S4x3x16384, .f32⟩
  | .hbm, ⟨2, _⟩ => ⟨S4x16384x3, .f32⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S_, .i32⟩
  | .hbm, ⟨9, _⟩ => ⟨S4x1x1, .i32⟩
  | .hbm, ⟨10, _⟩ => ⟨S4x1x1, .i32⟩
  | .hbm, ⟨11, _⟩ => ⟨S4x1x1, .i32⟩
  | .hbm, ⟨12, _⟩ => ⟨S_, .i32⟩
  | .hbm, ⟨13, _⟩ => ⟨S4x1024x32, .i32⟩
  | .hbm, ⟨14, _⟩ => ⟨S4x1024x32, .i1⟩
  | .hbm, ⟨15, _⟩ => ⟨S_, .i32⟩
  | .hbm, ⟨16, _⟩ => ⟨S4x1024x32, .i32⟩
  | .hbm, ⟨17, _⟩ => ⟨S4x1024x32, .i32⟩
  | .hbm, ⟨18, _⟩ => ⟨S4x1024x32, .i32⟩
  | .hbm, ⟨19, _⟩ => ⟨S4x1024x32, .i32⟩
  | .hbm, ⟨20, _⟩ => ⟨S4x1024x32x1, .i32⟩
  | .hbm, ⟨21, _⟩ => ⟨S4x1024x32x1, .i32⟩
  | .hbm, ⟨22, _⟩ => ⟨S4x1024x32x2, .i32⟩
  | .hbm, ⟨23, _⟩ => ⟨S4x1024x32x3, .f32⟩
  | .hbm, ⟨24, _⟩ => ⟨S131072x3, .f32⟩
  | _, _ => ⟨S4x1024x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Sampling.lean ====
abbrev S4x3x16384 : Shape := ⟨3, ![4, 3, 16384]⟩
abbrev S4x3x8x2048 : Shape := ⟨4, ![4, 3, 8, 2048]⟩
abbrev S4x1024x3 : Shape := ⟨3, ![4, 1024, 3]⟩
abbrev S4x1x8x2048 : Shape := ⟨4, ![4, 1, 8, 2048]⟩
abbrev S4x8x2048 : Shape := ⟨3, ![4, 8, 2048]⟩
abbrev S4x1x1 : Shape := ⟨3, ![4, 1, 1]⟩
abbrev S4x8 : Shape := ⟨2, ![4, 8]⟩
abbrev S4x8x1 : Shape := ⟨3, ![4, 8, 1]⟩
abbrev S4x1 : Shape := ⟨2, ![4, 1]⟩
abbrev S4x3 : Shape := ⟨2, ![4, 3]⟩
abbrev S4x1x3 : Shape := ⟨3, ![4, 1, 3]⟩
abbrev S4x8x3 : Shape := ⟨3, ![4, 8, 3]⟩
abbrev S4x3x1024 : Shape := ⟨3, ![4, 3, 1024]⟩

abbrev nBuf : Space → Nat
  | .hbm => 4
  | .vmem => 2
  | .smem => 0
  | _ => 0

abbrev bufTy : (tb : Table) → Fin (tcTables nBuf tb) → BufTy
  | .hbm, ⟨0, _⟩ => ⟨S4x3x16384, .f32⟩
  | .hbm, ⟨1, _⟩ => ⟨S4x3x8x2048, .f32⟩
  | .hbm, ⟨2, _⟩ => ⟨S4x1024x3, .f32⟩
  | .hbm, ⟨3, _⟩ => ⟨S4x3x1024, .f32⟩
  | .local _ .vmem, ⟨0, _⟩ => ⟨S4x3x8x2048, .f32⟩
  | .local _ .vmem, ⟨1, _⟩ => ⟨S4x1024x3, .f32⟩
  | _, _ => ⟨S4x3x16384, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c128_i32 : BitVec 32 := 128#32
  let v13 : BitVec 32 := Scalar.addi c0_i32_9 c128_i32
  let c1_i32 : BitVec 32 := 1#32
  ⟨c0_i32_9, v13, c1_i32⟩
def k0_off1 (k0_t1 : Fin k0_t1_loop.trips) : Fin 3 → Nat :=
  let c0_98 : Index := 0#32
  let c0_i32_9 : BitVec 32 := 0#32
  let c1_i32 : BitVec 32 := 1#32
  let arg2 : BitVec 32 := Scf.iv c0_i32_9 c1_i32 k0_t1
  let c8_i32 : BitVec 32 := 8#32
  let v400 : BitVec 32 := Scalar.muli arg2 c8_i32
  let v401 : Index := Scalar.indexCast v400
  let c0_99 : Index := 0#32
  ![0, v401.toNat, 0]
abbrev stage0_0 : Fin 1 → Memref sig .tc .vmem S4x3x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SamplingReferenceIdeal.lean ====
abbrev S4x3x16384 : Shape := ⟨3, ![4, 3, 16384]⟩
abbrev S4x16384x3 : Shape := ⟨3, ![4, 16384, 3]⟩
abbrev S_ : Shape := ⟨0, ![]⟩
abbrev S4x16384 : Shape := ⟨2, ![4, 16384]⟩
abbrev S4x1024 : Shape := ⟨2, ![4, 1024]⟩
abbrev S4 : Shape := ⟨1, ![4]⟩
abbrev S1 : Shape := ⟨1, ![1]⟩
abbrev S4x1x1 : Shape := ⟨3, ![4, 1, 1]⟩
abbrev S1x1x1 : Shape := ⟨3, ![1, 1, 1]⟩
abbrev S4x1 : Shape := ⟨2, ![4, 1]⟩
abbrev S4x1x3 : Shape := ⟨3, ![4, 1, 3]⟩
abbrev S4x1024x1 : Shape := ⟨3, ![4, 1024, 1]⟩
abbrev S4x1024x3 : Shape := ⟨3, ![4, 1024, 3]⟩
abbrev S4x3x1024 : Shape := ⟨3, ![4, 3, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x3x16384, .f32⟩
  | .hbm, ⟨1, _⟩ => ⟨S4x16384x3, .f32⟩
  | .hbm, ⟨2, _⟩ => ⟨S_, .f32⟩
  | .hbm, ⟨3, _⟩ => ⟨S4x16384, .f32⟩
  | .hbm, ⟨4, _⟩ => ⟨S_, .i32⟩
  | .hbm, ⟨5, _⟩ => ⟨S4x1024, .i32⟩
  | .hbm, ⟨6, _⟩ => ⟨S_, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4x16384x3, .f32⟩
  | .hbm, ⟨11, _⟩ => ⟨S_, .i32⟩
  | .hbm, ⟨12, _⟩ => ⟨S_, .i32⟩
  | .hbm, ⟨13, _⟩ => ⟨S4x16384, .f32⟩
  | .hbm, ⟨14, _⟩ => ⟨S4x1024, .i32⟩
  | .hbm, ⟨15, _⟩ => ⟨S4, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S4x1024, .i32⟩
  | .hbm, ⟨28, _⟩ => ⟨S4x1x1, .i32⟩
  | .hbm, ⟨29, _⟩ => ⟨S_, .i32⟩
  | .hbm, ⟨30, _⟩ => ⟨S4x1x1, .i32⟩
  | .hbm, ⟨31, _⟩ => ⟨S4x1x1, .i1⟩
  | .hbm, ⟨32, _⟩ => ⟨S_, .i32⟩
  | .hbm, ⟨33, _⟩ => ⟨S4x1x1, .i32⟩
  | .hbm, ⟨34, _⟩ => ⟨S4x1x1, .i32⟩
  | .hbm, ⟨35, _⟩ => ⟨S4x1x1, .i32⟩
  | .hbm, ⟨36, _⟩ => ⟨S1, .i32⟩
  | .hbm, ⟨37, _⟩ => ⟨S_, .i32⟩
  | .hbm, ⟨38, _⟩ => ⟨S4x1x1, .i32⟩
  | .hbm, ⟨39, _⟩ => ⟨S4x1x1, .i1⟩
  | .hbm, ⟨40, _⟩ => ⟨S1x1x1, .i32⟩
  | .hbm, ⟨41, _⟩ => ⟨S4x1x1, .i32⟩
  | .hbm, ⟨42, _⟩ => ⟨S4x1x1, .i1⟩
  | .hbm, ⟨43, _⟩ => ⟨S4x1x1, .i1⟩
  | .hbm, ⟨44, _⟩ => ⟨S_, .i1⟩
  | .hbm, ⟨45, _⟩ => ⟨S4x1, .i1⟩
  | .hbm, ⟨46, _⟩ => ⟨S4x1x3, .f32⟩
  | .hbm, ⟨47, _⟩ => ⟨S4x1x3, .i1⟩
  | .hbm, ⟨48, _⟩ => ⟨S_, .f32⟩
  | .hbm, ⟨49, _⟩ => ⟨S4x1x3, .f32⟩
  | .hbm, ⟨50, _⟩ => ⟨S4x1x3, .f32⟩
  | .hbm, ⟨51, _⟩ => ⟨S4x16384x3, .f32⟩
  | .hbm, ⟨52, _⟩ => ⟨S4x16384x3, .f32⟩
  | .hbm, ⟨53, _⟩ => ⟨S4x16384x3, .f32⟩
  | .hbm, ⟨54, _⟩ => ⟨S_, .f32⟩
  | .hbm, ⟨55, _⟩ => ⟨S4x16384, .f32⟩
  | .hbm, ⟨56, _⟩ => ⟨S4x16384, .f32⟩
  | .hbm, ⟨57, _⟩ => ⟨S4x16384, .i32⟩
  | .hbm, ⟨58, _⟩ => ⟨S_, .f32⟩
  | .hbm, ⟨59, _⟩ => ⟨S_, .i32⟩
  | .hbm, ⟨60, _⟩ => ⟨S4, .f32⟩
  | .hbm, ⟨61, _⟩ => ⟨S4, .i32⟩
  | .hbm, ⟨62, _⟩ => ⟨S_, .i32⟩
  | .hbm, ⟨63, _⟩ => ⟨S_, .i32⟩
  | .hbm, ⟨64, _⟩ => ⟨S4x1024x1, .i32⟩
  | .hbm, ⟨65, _⟩ => ⟨S_, .i32⟩
  | .hbm, ⟨66, _⟩ => ⟨S4x1024x1, .i32⟩
  | .hbm, ⟨67, _⟩ => ⟨S4x1024x1, .i1⟩
  | .hbm, ⟨68, _⟩ => ⟨S_, .i32⟩
  | .hbm, ⟨69, _⟩ => ⟨S4x1024x1, .i32⟩
  | .hbm, ⟨70, _⟩ => ⟨S4x1024x1, .i32⟩
  | .hbm, ⟨71, _⟩ => ⟨S4x1024x1, .i32⟩
  | .hbm, ⟨72, _⟩ => ⟨S1, .i32⟩
  | .hbm, ⟨73, _⟩ => ⟨S_, .i32⟩
  | .hbm, ⟨74, _⟩ => ⟨S4x1024x1, .i32⟩
  | .hbm, ⟨75, _⟩ => ⟨S4x1024x1, .i1⟩
  | .hbm, ⟨76, _⟩ => ⟨S1x1x1, .i32⟩
  | .hbm, ⟨77, _⟩ => ⟨S4x1024x1, .i32⟩
  | .hbm, ⟨78, _⟩ => ⟨S4x1024x1, .i1⟩
  | .hbm, ⟨79, _⟩ => ⟨S4x1024x1, .i1⟩
  | .hbm, ⟨80, _⟩ => ⟨S_, .i1⟩
  | .hbm, ⟨81, _⟩ => ⟨S4x1024, .i1⟩
  | .hbm, ⟨82, _⟩ => ⟨S4x1024x3, .f32⟩
  | .hbm, ⟨83, _⟩ => ⟨S4x1024x3, .i1⟩
  | .hbm, ⟨84, _⟩ => ⟨S_, .f32⟩
  | .hbm, ⟨85, _⟩ => ⟨S4x1024x3, .f32⟩
  | .hbm, ⟨86, _⟩ => ⟨S4x1024x3, .f32⟩
  | .hbm, ⟨87, _⟩ => ⟨S4x3x1024, .f32⟩
  | _, _ => ⟨S4x3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_c_2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_8 : Ref sig .tc := ⟨.hbm, 16, rfl⟩
abbrev main_while0c_v8 : Ref sig .tc := ⟨.hbm, 17, rfl⟩
abbrev main_while0b_c_8 : Ref sig .tc := ⟨.hbm, 18, rfl⟩
abbrev main_while0b_v8 : Ref sig .tc := ⟨.hbm, 19, rfl⟩
abbrev main_while0b_c_9 : Ref sig .tc := ⟨.hbm, 20, rfl⟩
abbrev main_while0b_v9 : Ref sig .tc := ⟨.hbm, 21, rfl⟩
abbrev main_while0b_c_10 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_v14 : Ref sig .tc := ⟨.hbm, 27, rfl⟩
abbrev main_while0b_v15 : Ref sig .tc := ⟨.hbm, 28, rfl⟩
abbrev main_while0b_call0_c : Ref sig .tc := ⟨.hbm, 29, rfl⟩
abbrev main_while0b_call0_v0 : Ref sig .tc := ⟨.hbm, 30, rfl⟩
abbrev main_while0b_call0_v1 : Ref sig .tc := ⟨.hbm, 31, rfl⟩
abbrev main_while0b_call0_c_0 : Ref sig .tc := ⟨.hbm, 32, rfl⟩
abbrev main_while0b_call0_v2 : Ref sig .tc := ⟨.hbm, 33, rfl⟩
abbrev main_while0b_call0_v3 : Ref sig .tc := ⟨.hbm, 34, rfl⟩
abbrev main_while0b_call0_v4 : Ref sig .tc := ⟨.hbm, 35, rfl⟩
abbrev main_while0b_call0_c_1 : Ref sig .tc := ⟨.hbm, 36, rfl⟩
abbrev main_while0b_call0_c_2 : Ref sig .tc := ⟨.hbm, 37, rfl⟩
abbrev main_while0b_call0_v5 : Ref sig .tc := ⟨.hbm, 38, rfl⟩
abbrev main_while0b_call0_v6 : Ref sig .tc := ⟨.hbm, 39, rfl⟩
abbrev main_while0b_call0_v7 : Ref sig .tc := ⟨.hbm, 40, rfl⟩
abbrev main_while0b_call0_v8 : Ref sig .tc := ⟨.hbm, 41, rfl⟩
abbrev main_while0b_call0_v9 : Ref sig .tc := ⟨.hbm, 42, rfl⟩
abbrev main_while0b_call0_v10 : Ref sig .tc := ⟨.hbm, 43, rfl⟩
abbrev main_while0b_call0_c_3 : Ref sig .tc := ⟨.hbm, 44, rfl⟩
abbrev main_while0b_call0_v11 : Ref sig .tc := ⟨.hbm, 45, rfl⟩
abbrev main_while0b_call0_v12 : Ref sig .tc := ⟨.hbm, 46, rfl⟩
abbrev main_while0b_call0_v13 : Ref sig .tc := ⟨.hbm, 47, rfl⟩
abbrev main_while0b_call0_cst : Ref sig .tc := ⟨.hbm, 48, rfl⟩
abbrev main_while0b_call0_v14 : Ref sig .tc := ⟨.hbm, 49, rfl⟩
abbrev main_while0b_v16 : Ref sig .tc := ⟨.hbm, 50, rfl⟩
abbrev main_while0b_v17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_cst_11 : Ref sig .tc := ⟨.hbm, 54, rfl⟩
abbrev main_while0b_v20 : Ref sig .tc := ⟨.hbm, 55, rfl⟩
abbrev main_while0b_v21 : Ref sig .tc := ⟨.hbm, 56, rfl⟩
abbrev main_while0b_call1_v0 : Ref sig .tc := ⟨.hbm, 57, rfl⟩
abbrev main_while0b_call1_cst : Ref sig .tc := ⟨.hbm, 58, rfl⟩
abbrev main_while0b_call1_c : Ref sig .tc := ⟨.hbm, 59, rfl⟩
abbrev main_while0b_call1_v1_0 : Ref sig .tc := ⟨.hbm, 60, rfl⟩
abbrev main_while0b_v22 : Ref sig .tc := ⟨.hbm, 61, rfl⟩
abbrev main_while0b_c_12 : Ref sig .tc := ⟨.hbm, 62, rfl⟩
abbrev main_while0b_v23 : Ref sig .tc := ⟨.hbm, 63, rfl⟩
abbrev main_v5 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_c_2 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_c_3 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_cst : Ref sig .tc := ⟨.hbm, 84, rfl⟩
abbrev main_call2_v14 : Ref sig .tc := ⟨.hbm, 85, rfl⟩
abbrev main_v6 : Ref sig .tc := ⟨.hbm, 86, rfl⟩
abbrev main_v7 : Ref sig .tc := ⟨.hbm, 87, rfl⟩

abbrev nD : Nat := 1
abbrev τ : Topo := Topo.v7x

variable {F : FTy → Type} [FloatOps F]

abbrev main_while0_count : Scf.Loop 32 := ⟨0#32, 1024#32, 1#32⟩
-- ==== Layers.lean ====
abbrev S131072x16 : Shape := ⟨2, ![131072, 16]⟩
abbrev S4x1024x3 : Shape := ⟨3, ![4, 1024, 3]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S4096x3 : Shape := ⟨2, ![4096, 3]⟩
abbrev S3x64 : Shape := ⟨2, ![3, 64]⟩
abbrev S131072x64 : Shape := ⟨2, ![131072, 64]⟩
abbrev S32x2x64 : Shape := ⟨3, ![32, 2, 64]⟩
abbrev S4096x16 : Shape := ⟨2, ![4096, 16]⟩
abbrev S128x3 : Shape := ⟨2, ![128, 3]⟩
abbrev S4096x64 : Shape := ⟨2, ![4096, 64]⟩
abbrev S1x2x64 : Shape := ⟨3, ![1, 2, 64]⟩
abbrev S128x1x3 : Shape := ⟨3, ![128, 1, 3]⟩
abbrev S128x32x3 : Shape := ⟨3, ![128, 32, 3]⟩
abbrev S1x64 : Shape := ⟨2, ![1, 64]⟩
abbrev S1x1x64 : Shape := ⟨3, ![1, 1, 64]⟩
abbrev S32x1x64 : Shape := ⟨3, ![32, 1, 64]⟩
abbrev S32x64 : Shape := ⟨2, ![32, 64]⟩
abbrev S_ : Shape := ⟨0, ![]⟩
abbrev S64x128 : Shape := ⟨2, ![64, 128]⟩
abbrev S131072x128 : Shape := ⟨2, ![131072, 128]⟩
abbrev S32x2x128 : Shape := ⟨3, ![32, 2, 128]⟩
abbrev S4096x128 : Shape := ⟨2, ![4096, 128]⟩
abbrev S1x2x128 : Shape := ⟨3, ![1, 2, 128]⟩
abbrev S1x128 : Shape := ⟨2, ![1, 128]⟩
abbrev S1x1x128 : Shape := ⟨3, ![1, 1, 128]⟩
abbrev S32x1x128 : Shape := ⟨3, ![32, 1, 128]⟩
abbrev S32x128 : Shape := ⟨2, ![32, 128]⟩
abbrev S128x256 : Shape := ⟨2, ![128, 256]⟩
abbrev S4096x256 : Shape := ⟨2, ![4096, 256]⟩
abbrev S1x256 : Shape := ⟨2, ![1, 256]⟩
abbrev S128x32x256 : Shape := ⟨3, ![128, 32, 256]⟩
abbrev S128x1x256 : Shape := ⟨3, ![128, 1, 256]⟩
abbrev S4x1024x256 : Shape := ⟨3, ![4, 1024, 256]⟩
abbrev S4x256x1024 : Shape := ⟨3, ![4, 256, 1024]⟩

abbrev nBuf : Space → Nat
  | .hbm => 69
  | .vmem => 28
  | .smem => 0
  | _ => 0

abbrev bufTy : (tb : Table) → Fin (tcTables nBuf tb) → BufTy
  | .hbm, ⟨0, _⟩ => ⟨S131072x16, .f32⟩
  | .hbm, ⟨1, _⟩ => ⟨S4x1024x3, .f32⟩
  | .hbm, ⟨2, _⟩ => ⟨S64x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S4096x3, .f32⟩
  | .hbm, ⟨13, _⟩ => ⟨S3x64, .f32⟩
  | .hbm, ⟨14, _⟩ => ⟨S131072x64, .f32⟩
  | .hbm, ⟨15, _⟩ => ⟨S32x2x64, .f32⟩
  | .hbm, ⟨16, _⟩ => ⟨S32x1x64, .f32⟩
  | .hbm, ⟨17, _⟩ => ⟨S32x64, .f32⟩
  | .hbm, ⟨18, _⟩ => ⟨S_, .f32⟩
  | .hbm, ⟨19, _⟩ => ⟨S64, .f32⟩
  | .hbm, ⟨20, _⟩ => ⟨S32x1x64, .f32⟩
  | .hbm, ⟨21, _⟩ => ⟨S32x64, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64x128, .f32⟩
  | .hbm, ⟨40, _⟩ => ⟨S131072x128, .f32⟩
  | .hbm, ⟨41, _⟩ => ⟨S32x2x128, .f32⟩
  | .hbm, ⟨42, _⟩ => ⟨S32x1x128, .f32⟩
  | .hbm, ⟨43, _⟩ => ⟨S32x128, .f32⟩
  | .hbm, ⟨44, _⟩ => ⟨S_, .f32⟩
  | .hbm, ⟨45, _⟩ => ⟨S128, .f32⟩
  | .hbm, ⟨46, _⟩ => ⟨S32x1x128, .f32⟩
  | .hbm, ⟨47, _⟩ => ⟨S32x128, .f32⟩
  | .hbm, ⟨48, _⟩ => ⟨S_, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128x256, .f32⟩
  | .hbm, ⟨66, _⟩ => ⟨S4096x256, .f32⟩
  | .hbm, ⟨67, _⟩ => ⟨S4x1024x256, .f32⟩
  | .hbm, ⟨68, _⟩ => ⟨S4x256x1024, .f32⟩
  | .local _ .vmem, ⟨0, _⟩ => ⟨S4096x16, .f32⟩
  | .local _ .vmem, ⟨1, _⟩ => ⟨S4096x16, .f32⟩
  | .local _ .vmem, ⟨2, _⟩ => ⟨S128x3, .f32⟩
  | .local _ .vmem, ⟨3, _⟩ => ⟨S128x3, .f32⟩
  | .local _ .vmem, ⟨4, _⟩ => ⟨S3x64, .f32⟩
  | .local _ .vmem, ⟨5, _⟩ => ⟨S64, .f32⟩
  | .local _ .vmem, ⟨6, _⟩ => ⟨S4096x64, .f32⟩
  | .local _ .vmem, ⟨7, _⟩ => ⟨S4096x64, .f32⟩
  | .local _ .vmem, ⟨8, _⟩ => ⟨S1x2x64, .f32⟩
  | .local _ .vmem, ⟨9, _⟩ => ⟨S1x2x64, .f32⟩
  | .local _ .vmem, ⟨10, _⟩ => ⟨S4096x64, .f32⟩
  | .local _ .vmem, ⟨11, _⟩ => ⟨S4096x64, .f32⟩
  | .local _ .vmem, ⟨12, _⟩ => ⟨S64, .f32⟩
  | .local _ .vmem, ⟨13, _⟩ => ⟨S64, .f32⟩
  | .local _ .vmem, ⟨14, _⟩ => ⟨S64x128, .f32⟩
  | .local _ .vmem, ⟨15, _⟩ => ⟨S128, .f32⟩
  | .local _ .vmem, ⟨16, _⟩ => ⟨S4096x128, .f32⟩
  | .local _ .vmem, ⟨17, _⟩ => ⟨S4096x128, .f32⟩
  | .local _ .vmem, ⟨18, _⟩ => ⟨S1x2x128, .f32⟩
  | .local _ .vmem, ⟨19, _⟩ => ⟨S1x2x128, .f32⟩
  | .local _ .vmem, ⟨20, _⟩ => ⟨S4096x128, .f32⟩
  | .local _ .vmem, ⟨21, _⟩ => ⟨S4096x128, .f32⟩
  | .local _ .vmem, ⟨22, _⟩ => ⟨S128, .f32⟩
  | .local _ .vmem, ⟨23, _⟩ => ⟨S128, .f32⟩
  | .local _ .vmem, ⟨24, _⟩ => ⟨S128x256, .f32⟩
  | .local _ .vmem, ⟨25, _⟩ => ⟨S256, .f32⟩
  | .local _ .vmem, ⟨26, _⟩ => ⟨S128x256, .f32⟩
  | .local _ .vmem, ⟨27, _⟩ => ⟨S128x256, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== LayersReferenceIdeal.lean ====
abbrev S131072x16 : Shape := ⟨2, ![131072, 16]⟩
abbrev S4x1024x3 : Shape := ⟨3, ![4, 1024, 3]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S131072x3 : Shape := ⟨2, ![131072, 3]⟩
abbrev S4x1024x32x3 : Shape := ⟨4, ![4, 1024, 32, 3]⟩
abbrev S4x1024x1x3 : Shape := ⟨4, ![4, 1024, 1, 3]⟩
abbrev S4x3x1024x32 : Shape := ⟨4, ![4, 3, 1024, 32]⟩
abbrev S4x1024x32x64 : Shape := ⟨4, ![4, 1024, 32, 64]⟩
abbrev S4x64x1024x32 : Shape := ⟨4, ![4, 64, 1024, 32]⟩
abbrev S1x64x1x1 : Shape := ⟨4, ![1, 64, 1, 1]⟩
abbrev S_ : Shape := ⟨0, ![]⟩
abbrev S4x1024x32x128 : Shape := ⟨4, ![4, 1024, 32, 128]⟩
abbrev S4x128x1024x32 : Shape := ⟨4, ![4, 128, 1024, 32]⟩
abbrev S1x128x1x1 : Shape := ⟨4, ![1, 128, 1, 1]⟩
abbrev S4x1024x32x256 : Shape := ⟨4, ![4, 1024, 32, 256]⟩
abbrev S4x256x1024x32 : Shape := ⟨4, ![4, 256, 1024, 32]⟩
abbrev S1x256x1x1 : Shape := ⟨4, ![1, 256, 1, 1]⟩
abbrev S4x256x1024 : Shape := ⟨3, ![4, 256, 1024]⟩

abbrev nBuf : Space → Nat
  | .hbm => 129
  | .vmem => 0
  | .smem => 0
  | _ => 0

abbrev hbmTy0_0 (i : Nat) : BufTy := match i % 128 with
  | 0 => ⟨S131072x16, .f32⟩
  | 1 => ⟨S4x1024x3, .f32⟩
  | 2 => ⟨S64x3, .f32⟩
  | 3 => ⟨S64, .f32⟩
  | 4 => ⟨S64, .f32⟩
  | 5 => ⟨S64, .f32⟩
  | 6 => ⟨S128x64, .f32⟩
  | 7 => ⟨S128, .f32⟩
  | 8 => ⟨S128, .f32⟩
  | 9 => ⟨S128, .f32⟩
  | 10 => ⟨S256x128, .f32⟩
  | 11 => ⟨S256, .f32⟩
  | 12 => ⟨S131072x3, .f32⟩
  | 13 => ⟨S4x1024x32x3, .f32⟩
  | 14 => ⟨S4x1024x1x3, .f32⟩
  | 15 => ⟨S4x1024x32x3, .f32⟩
  | 16 => ⟨S4x1024x32x3, .f32⟩
  | 17 => ⟨S4x3x1024x32, .f32⟩
  | 18 => ⟨S4x1024x32x64, .f32⟩
  | 19 => ⟨S4x64x1024x32, .f32⟩
  | 20 => ⟨S1x64x1x1, .f32⟩
  | 21 => ⟨S4x64x1024x32, .f32⟩
  | 22 => ⟨S4x64x1024x32, .f32⟩
  | 23 => ⟨S_, .f32⟩
  | 24 => ⟨S64, .f32⟩
  | 25 => ⟨S1x64x1x1, .f32⟩
  | 26 => ⟨S_, .f32⟩
  | 27 => ⟨S1x64x1x1, .f32⟩
  | 28 => ⟨S1x64x1x1, .f32⟩
  | 29 => ⟨S_, .i32⟩
  | 30 => ⟨S_, .f32⟩
  | 31 => ⟨S64, .f32⟩
  | 32 => ⟨S1x64x1x1, .f32⟩
  | 33 => ⟨S_, .f32⟩
  | 34 => ⟨S1x64x1x1, .f32⟩
  | 35 => ⟨S1x64x1x1, .f32⟩
  | 36 => ⟨S4x64x1024x32, .f32⟩
  | 37 => ⟨S4x64x1024x32, .f32⟩
  | 38 => ⟨S4x64x1024x32, .f32⟩
  | 39 => ⟨S_, .f32⟩
  | 40 => ⟨S_, .f32⟩
  | 41 => ⟨S_, .f32⟩
  | 42 => ⟨S_, .f32⟩
  | 43 => ⟨S64, .f32⟩
  | 44 => ⟨S1x64x1x1, .f32⟩
  | 45 => ⟨S1x64x1x1, .f32⟩
  | 46 => ⟨S1x64x1x1, .f32⟩
  | 47 => ⟨S_, .f32⟩
  | 48 => ⟨S_, .i1⟩
  | 49 => ⟨S_, .f32⟩
  | 50 => ⟨S_, .f32⟩
  | 51 => ⟨S1x64x1x1, .f32⟩
  | 52 => ⟨S1x64x1x1, .f32⟩
  | 53 => ⟨S4x64x1024x32, .f32⟩
  | 54 => ⟨S4x64x1024x32, .f32⟩
  | 55 => ⟨S_, .f32⟩
  | 56 => ⟨S1x64x1x1, .f32⟩
  | 57 => ⟨S1x64x1x1, .f32⟩
  | 58 => ⟨S1x64x1x1, .f32⟩
  | 59 => ⟨S4x64x1024x32, .f32⟩
  | 60 => ⟨S4x64x1024x32, .f32⟩
  | 61 => ⟨S1x64x1x1, .f32⟩
  | 62 => ⟨S4x64x1024x32, .f32⟩
  | 63 => ⟨S4x64x1024x32, .f32⟩
  | 64 => ⟨S1x64x1x1, .f32⟩
  | 65 => ⟨S4x64x1024x32, .f32⟩
  | 66 => ⟨S4x64x1024x32, .f32⟩
  | 67 => ⟨S_, .f32⟩
  | 68 => ⟨S4x64x1024x32, .f32⟩
  | 69 => ⟨S4x64x1024x32, .f32⟩
  | 70 => ⟨S4x1024x32x128, .f32⟩
  | 71 => ⟨S4x128x1024x32, .f32⟩
  | 72 => ⟨S1x128x1x1, .f32⟩
  | 73 => ⟨S4x128x1024x32, .f32⟩
  | 74 => ⟨S4x128x1024x32, .f32⟩
  | 75 => ⟨S_, .f32⟩
  | 76 => ⟨S128, .f32⟩
  | 77 => ⟨S1x128x1x1, .f32⟩
  | 78 => ⟨S_, .f32⟩
  | 79 => ⟨S1x128x1x1, .f32⟩
  | 80 => ⟨S1x128x1x1, .f32⟩
  | 81 => ⟨S_, .i32⟩
  | 82 => ⟨S_, .f32⟩
  | 83 => ⟨S128, .f32⟩
  | 84 => ⟨S1x128x1x1, .f32⟩
  | 85 => ⟨S_, .f32⟩
  | 86 => ⟨S1x128x1x1, .f32⟩
  | 87 => ⟨S1x128x1x1, .f32⟩
  | 88 => ⟨S4x128x1024x32, .f32⟩
  | 89 => ⟨S4x128x1024x32, .f32⟩
  | 90 => ⟨S4x128x1024x32, .f32⟩
  | 91 => ⟨S_, .f32⟩
  | 92 => ⟨S_, .f32⟩
  | 93 => ⟨S_, .f32⟩
  | 94 => ⟨S_, .f32⟩
  | 95 => ⟨S128, .f32⟩
  | 96 => ⟨S1x128x1x1, .f32⟩
  | 97 => ⟨S1x128x1x1, .f32⟩
  | 98 => ⟨S1x128x1x1, .f32⟩
  | 99 => ⟨S_, .f32⟩
  | 100 => ⟨S_, .i1⟩
  | 101 => ⟨S_, .f32⟩
  | 102 => ⟨S_, .f32⟩
  | 103 => ⟨S1x128x1x1, .f32⟩
  | 104 => ⟨S1x128x1x1, .f32⟩
  | 105 => ⟨S4x128x1024x32, .f32⟩
  | 106 => ⟨S4x128x1024x32, .f32⟩
  | 107 => ⟨S_, .f32⟩
  | 108 => ⟨S1x128x1x1, .f32⟩
  | 109 => ⟨S1x128x1x1, .f32⟩
  | 110 => ⟨S1x128x1x1, .f32⟩
  | 111 => ⟨S4x128x1024x32, .f32⟩
  | 112 => ⟨S4x128x1024x32, .f32⟩
  | 113 => ⟨S1x128x1x1, .f32⟩
  | 114 => ⟨S4x128x1024x32, .f32⟩
  | 115 => ⟨S4x128x1024x32, .f32⟩
  | 116 => ⟨S1x128x1x1, .f32⟩
  | 117 => ⟨S4x128x1024x32, .f32⟩
  | 118 => ⟨S4x128x1024x32, .f32⟩
  | 119 => ⟨S_, .f32⟩
  | 120 => ⟨S4x128x1024x32, .f32⟩
  | 121 => ⟨S4x128x1024x32, .f32⟩
  | 122 => ⟨S4x1024x32x256, .f32⟩
  | 123 => ⟨S4x256x1024x32, .f32⟩
  | 124 => ⟨S1x256x1x1, .f32⟩
  | 125 => ⟨S4x256x1024x32, .f32⟩
  | 126 => ⟨S4x256x1024x32, .f32⟩
  | 127 => ⟨S_, .f32⟩
  | _ => ⟨S131072x16, .f32⟩

abbrev hbmTy0_1 (i : Nat) : BufTy := match i % 128 with
  | 0 => ⟨S4x256x1024, .f32⟩
  | _ => ⟨S131072x16, .f32⟩

abbrev hbmTy (i : Nat) : BufTy := match i / 128 with
  | 0 => hbmTy0_0 i
  | 1 => hbmTy0_1 i
  | _ => ⟨S131072x16, .f32⟩

abbrev bufTy : (tb : Table) → Fin (tcTables nBuf tb) → BufTy
  | .hbm, ⟨i, _⟩ => hbmTy i
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call1_cst : Ref sig .tc := ⟨.hbm, 67, rfl⟩
abbrev main_call1_v0 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_2 : Ref sig .tc := ⟨.hbm, 75, rfl⟩
abbrev main_v35 : Ref sig .tc := ⟨.hbm, 76, rfl⟩
abbrev main_v36 : Ref sig .tc := ⟨.hbm, 77, rfl⟩
abbrev main_cst_3 : Ref sig .tc := ⟨.hbm, 78, rfl⟩
abbrev main_v37 : Ref sig .tc := ⟨.hbm, 79, rfl⟩
abbrev main_v38 : Ref sig .tc := ⟨.hbm, 80, rfl⟩
abbrev main_c_4 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_cst_3 : Ref sig .tc := ⟨.hbm, 99, rfl⟩
abbrev main_call2_v13 : Ref sig .tc := ⟨.hbm, 100, rfl⟩
abbrev main_call2_cst_4 : Ref sig .tc := ⟨.hbm, 101, rfl⟩
abbrev main_call2_call0_v0 : Ref sig .tc := ⟨.hbm, 102, rfl⟩
abbrev main_call2_call0_v1 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_5 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_call3_cst : Ref sig .tc := ⟨.hbm, 119, rfl⟩
abbrev main_call3_v0 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_6 : Ref sig .tc := ⟨.hbm, 127, rfl⟩
abbrev main_v59 : Ref sig .tc := ⟨.hbm, 128, rfl⟩

abbrev nD : Nat := 1
abbrev τ : Topo := Topo.v7x

variable {F : FTy → Type} [FloatOps F]
-- ==== Neighbours.lean ====
abbrev S4x1024x3 : Shape := ⟨3, ![4, 1024, 3]⟩
abbrev S4x3x16384 : Shape := ⟨3, ![4, 3, 16384]⟩
abbrev S4x1024x32 : Shape := ⟨3, ![4, 1024, 32]⟩
abbrev S1x32x3 : Shape := ⟨3, ![1, 32, 3]⟩
abbrev S1x3x16384 : Shape := ⟨3, ![1, 3, 16384]⟩
abbrev S1x32x32 : Shape := ⟨3, ![1, 32, 32]⟩
abbrev S32x3 : Shape := ⟨2, ![32, 3]⟩
abbrev S32x1 : Shape := ⟨2, ![32, 1]⟩
abbrev S1x1x16384 : Shape := ⟨3, ![1, 1, 16384]⟩
abbrev S16384 : Shape := ⟨1, ![16384]⟩
abbrev S1x16384 : Shape := ⟨2, ![1, 16384]⟩
abbrev S32x16384 : Shape := ⟨2, ![32, 16384]⟩
abbrev S3x16384 : Shape := ⟨2, ![3, 16384]⟩
abbrev S32 : Shape := ⟨1, ![32]⟩
abbrev S32x32 : Shape := ⟨2, ![32, 32]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x3, .f32⟩
  | .hbm, ⟨1, _⟩ => ⟨S4x3x16384, .f32⟩
  | .hbm, ⟨2, _⟩ => ⟨S4x1024x32, .i32⟩
  | .local _ .vmem, ⟨0, _⟩ => ⟨S1x32x3, .f32⟩
  | .local _ .vmem, ⟨1, _⟩ => ⟨S1x32x3, .f32⟩
  | .local _ .vmem, ⟨2, _⟩ => ⟨S1x3x16384, .f32⟩
  | .local _ .vmem, ⟨3, _⟩ => ⟨S1x3x16384, .f32⟩
  | .local _ .vmem, ⟨4, _⟩ => ⟨S1x32x32, .i32⟩
  | .local _ .vmem, ⟨5, _⟩ => ⟨S1x32x32, .i32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NeighboursReferenceIdeal.lean ====
abbrev S4x1024x3 : Shape := ⟨3, ![4, 1024, 3]⟩
abbrev S4x3x16384 : Shape := ⟨3, ![4, 3, 16384]⟩
abbrev S4x16384x3 : Shape := ⟨3, ![4, 16384, 3]⟩
abbrev S_ : Shape := ⟨0, ![]⟩
abbrev S4x1024 : Shape := ⟨2, ![4, 1024]⟩
abbrev S4x1024x1 : Shape := ⟨3, ![4, 1024, 1]⟩
abbrev S4x1024x16384 : Shape := ⟨3, ![4, 1024, 16384]⟩
abbrev S4x16384 : Shape := ⟨2, ![4, 16384]⟩
abbrev S4x1x16384 : Shape := ⟨3, ![4, 1, 16384]⟩
abbrev S4x1024x32 : Shape := ⟨3, ![4, 1024, 32]⟩

abbrev nBuf : Space → Nat
  | .hbm => 22
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x3x16384, .f32⟩
  | .hbm, ⟨2, _⟩ => ⟨S4x16384x3, .f32⟩
  | .hbm, ⟨3, _⟩ => ⟨S4x1024x3, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S4x1024x16384, .f32⟩
  | .hbm, ⟨8, _⟩ => ⟨S_, .f32⟩
  | .hbm, ⟨9, _⟩ => ⟨S4x1024x16384, .f32⟩
  | .hbm, ⟨10, _⟩ => ⟨S4x1024x16384, .f32⟩
  | .hbm, ⟨11, _⟩ => ⟨S4x1024x16384, .f32⟩
  | .hbm, ⟨12, _⟩ => ⟨S4x1024x16384, .f32⟩
  | .hbm, ⟨13, _⟩ => ⟨S4x16384x3, .f32⟩
  | .hbm, ⟨14, _⟩ => ⟨S_, .f32⟩
  | .hbm, ⟨15, _⟩ => ⟨S4x16384, .f32⟩
  | .hbm, ⟨16, _⟩ => ⟨S4x1x16384, .f32⟩
  | .hbm, ⟨17, _⟩ => ⟨S4x1024x16384, .f32⟩
  | .hbm, ⟨18, _⟩ => ⟨S4x1024x16384, .f32⟩
  | .hbm, ⟨19, _⟩ => ⟨S4x1024x16384, .f32⟩
  | .hbm, ⟨20, _⟩ => ⟨S4x1024x32, .f32⟩
  | .hbm, ⟨21, _⟩ => ⟨S4x1024x32, .i32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩

abbrev nD : Nat := 1
abbrev τ : Topo := Topo.v7x

variable {F : FTy → Type} [FloatOps F]
-- ==== WholeIdeal.lean ====
abbrev S4x3x16384 : Shape := ⟨3, ![4, 3, 16384]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S4x3x8x2048 : Shape := ⟨4, ![4, 3, 8, 2048]⟩
abbrev S4x1024x3 : Shape := ⟨3, ![4, 1024, 3]⟩
abbrev S4x1x8x2048 : Shape := ⟨4, ![4, 1, 8, 2048]⟩
abbrev S4x8x2048 : Shape := ⟨3, ![4, 8, 2048]⟩
abbrev S4x1x1 : Shape := ⟨3, ![4, 1, 1]⟩
abbrev S4x8 : Shape := ⟨2, ![4, 8]⟩
abbrev S4x8x1 : Shape := ⟨3, ![4, 8, 1]⟩
abbrev S4x1 : Shape := ⟨2, ![4, 1]⟩
abbrev S4x3 : Shape := ⟨2, ![4, 3]⟩
abbrev S4x1x3 : Shape := ⟨3, ![4, 1, 3]⟩
abbrev S4x8x3 : Shape := ⟨3, ![4, 8, 3]⟩
abbrev S4x1024x32 : Shape := ⟨3, ![4, 1024, 32]⟩
abbrev S1x32x3 : Shape := ⟨3, ![1, 32, 3]⟩
abbrev S1x3x16384 : Shape := ⟨3, ![1, 3, 16384]⟩
abbrev S1x32x32 : Shape := ⟨3, ![1, 32, 32]⟩
abbrev S32x3 : Shape := ⟨2, ![32, 3]⟩
abbrev S32x1 : Shape := ⟨2, ![32, 1]⟩
abbrev S1x1x16384 : Shape := ⟨3, ![1, 1, 16384]⟩
abbrev S16384 : Shape := ⟨1, ![16384]⟩
abbrev S1x16384 : Shape := ⟨2, ![1, 16384]⟩
abbrev S32x16384 : Shape := ⟨2, ![32, 16384]⟩
abbrev S3x16384 : Shape := ⟨2, ![3, 16384]⟩
abbrev S32 : Shape := ⟨1, ![32]⟩
abbrev S32x32 : Shape := ⟨2, ![32, 32]⟩
abbrev S131072 : Shape := ⟨1, ![131072]⟩
abbrev S196608 : Shape := ⟨1, ![196608]⟩
abbrev S2097152 : Shape := ⟨1, ![2097152]⟩
abbrev S2048 : Shape := ⟨1, ![2048]⟩
abbrev S_ : Shape := ⟨0, ![]⟩
abbrev S16 : Shape := ⟨1, ![16]⟩
abbrev S131072x16 : Shape := ⟨2, ![131072, 16]⟩
abbrev S4096x3 : Shape := ⟨2, ![4096, 3]⟩
abbrev S3x64 : Shape := ⟨2, ![3, 64]⟩
abbrev S131072x64 : Shape := ⟨2, ![131072, 64]⟩
abbrev S32x2x64 : Shape := ⟨3, ![32, 2, 64]⟩
abbrev S4096x16 : Shape := ⟨2, ![4096, 16]⟩
abbrev S128x3 : Shape := ⟨2, ![128, 3]⟩
abbrev S4096x64 : Shape := ⟨2, ![4096, 64]⟩
abbrev S1x2x64 : Shape := ⟨3, ![1, 2, 64]⟩
abbrev S128x1x3 : Shape := ⟨3, ![128, 1, 3]⟩
abbrev S128x32x3 : Shape := ⟨3, ![128, 32, 3]⟩
abbrev S1x64 : Shape := ⟨2, ![1, 64]⟩
abbrev S1x1x64 : Shape := ⟨3, ![1, 1, 64]⟩
abbrev S32x1x64 : Shape := ⟨3, ![32, 1, 64]⟩
abbrev S32x64 : Shape := ⟨2, ![32, 64]⟩
abbrev S64x128 : Shape := ⟨2, ![64, 128]⟩
abbrev S131072x128 : Shape := ⟨2, ![131072, 128]⟩
abbrev S32x2x128 : Shape := ⟨3, ![32, 2, 128]⟩
abbrev S4096x128 : Shape := ⟨2, ![4096, 128]⟩
abbrev S1x2x128 : Shape := ⟨3, ![1, 2, 128]⟩
abbrev S1x128 : Shape := ⟨2, ![1, 128]⟩
abbrev S1x1x128 : Shape := ⟨3, ![1, 1, 128]⟩
abbrev S32x1x128 : Shape := ⟨3, ![32, 1, 128]⟩
abbrev S32x128 : Shape := ⟨2, ![32, 128]⟩
abbrev S128x256 : Shape := ⟨2, ![128, 256]⟩
abbrev S4096x256 : Shape := ⟨2, ![4096, 256]⟩
abbrev S1x256 : Shape := ⟨2, ![1, 256]⟩
abbrev S128x32x256 : Shape := ⟨3, ![128, 32, 256]⟩
abbrev S128x1x256 : Shape := ⟨3, ![128, 1, 256]⟩
abbrev S4x1024x256 : Shape := ⟨3, ![4, 1024, 256]⟩
abbrev S4x256x1024 : Shape := ⟨3, ![4, 256, 1024]⟩
abbrev S4x3x1024 : Shape := ⟨3, ![4, 3, 1024]⟩

abbrev nBuf : Table → Nat
  | .hbm => 76
  | .local .tc .vmem => 36
  | .local .scVector .vmem => 5
  | _ => 0

abbrev bufTy : (tb : Table) → Fin (nBuf tb) → BufTy
  | .hbm, ⟨0, _⟩ => ⟨S4x3x16384, .f32⟩
  | .hbm, ⟨1, _⟩ => ⟨S64x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S4x3x8x2048, .f32⟩
  | .hbm, ⟨12, _⟩ => ⟨S4x1024x3, .f32⟩
  | .hbm, ⟨13, _⟩ => ⟨S4x1024x32, .i32⟩
  | .hbm, ⟨14, _⟩ => ⟨S131072, .i32⟩
  | .hbm, ⟨15, _⟩ => ⟨S196608, .f32⟩
  | .hbm, ⟨16, _⟩ => ⟨S2097152, .f32⟩
  | .hbm, ⟨17, _⟩ => ⟨S131072x16, .f32⟩
  | .hbm, ⟨18, _⟩ => ⟨S4096x3, .f32⟩
  | .hbm, ⟨19, _⟩ => ⟨S3x64, .f32⟩
  | .hbm, ⟨20, _⟩ => ⟨S131072x64, .f32⟩
  | .hbm, ⟨21, _⟩ => ⟨S32x2x64, .f32⟩
  | .hbm, ⟨22, _⟩ => ⟨S32x1x64, .f32⟩
  | .hbm, ⟨23, _⟩ => ⟨S32x64, .f32⟩
  | .hbm, ⟨24, _⟩ => ⟨S_, .f32⟩
  | .hbm, ⟨25, _⟩ => ⟨S64, .f32⟩
  | .hbm, ⟨26, _⟩ => ⟨S32x1x64, .f32⟩
  | .hbm, ⟨27, _⟩ => ⟨S32x64, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64x128, .f32⟩
  | .hbm, ⟨46, _⟩ => ⟨S131072x128, .f32⟩
  | .hbm, ⟨47, _⟩ => ⟨S32x2x128, .f32⟩
  | .hbm, ⟨48, _⟩ => ⟨S32x1x128, .f32⟩
  | .hbm, ⟨49, _⟩ => ⟨S32x128, .f32⟩
  | .hbm, ⟨50, _⟩ => ⟨S_, .f32⟩
  | .hbm, ⟨51, _⟩ => ⟨S128, .f32⟩
  | .hbm, ⟨52, _⟩ => ⟨S32x1x128, .f32⟩
  | .hbm, ⟨53, _⟩ => ⟨S32x128, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128x256, .f32⟩
  | .hbm, ⟨72, _⟩ => ⟨S4096x256, .f32⟩
  | .hbm, ⟨73, _⟩ => ⟨S4x1024x256, .f32⟩
  | .hbm, ⟨74, _⟩ => ⟨S4x256x1024, .f32⟩
  | .hbm, ⟨75, _⟩ => ⟨S4x3x1024, .f32⟩
  | .local .tc .vmem, ⟨0, _⟩ => ⟨S4x3x8x2048, .f32⟩
  | .local .tc .vmem, ⟨1, _⟩ => ⟨S4x1024x3, .f32⟩
  | .local .tc .vmem, ⟨2, _⟩ => ⟨S1x32x3, .f32⟩
  | .local .tc .vmem, ⟨3, _⟩ => ⟨S1x32x3, .f32⟩
  | .local .tc .vmem, ⟨4, _⟩ => ⟨S1x3x16384, .f32⟩
  | .local .tc .vmem, ⟨5, _⟩ => ⟨S1x3x16384, .f32⟩
  | .local .tc .vmem, ⟨6, _⟩ => ⟨S1x32x32, .i32⟩
  | .local .tc .vmem, ⟨7, _⟩ => ⟨S1x32x32, .i32⟩
  | .local .tc .vmem, ⟨8, _⟩ => ⟨S4096x16, .f32⟩
  | .local .tc .vmem, ⟨9, _⟩ => ⟨S4096x16, .f32⟩
  | .local .tc .vmem, ⟨10, _⟩ => ⟨S128x3, .f32⟩
  | .local .tc .vmem, ⟨11, _⟩ => ⟨S128x3, .f32⟩
  | .local .tc .vmem, ⟨12, _⟩ => ⟨S3x64, .f32⟩
  | .local .tc .vmem, ⟨13, _⟩ => ⟨S64, .f32⟩
  | .local .tc .vmem, ⟨14, _⟩ => ⟨S4096x64, .f32⟩
  | .local .tc .vmem, ⟨15, _⟩ => ⟨S4096x64, .f32⟩
  | .local .tc .vmem, ⟨16, _⟩ => ⟨S1x2x64, .f32⟩
  | .local .tc .vmem, ⟨17, _⟩ => ⟨S1x2x64, .f32⟩
  | .local .tc .vmem, ⟨18, _⟩ => ⟨S4096x64, .f32⟩
  | .local .tc .vmem, ⟨19, _⟩ => ⟨S4096x64, .f32⟩
  | .local .tc .vmem, ⟨20, _⟩ => ⟨S64, .f32⟩
  | .local .tc .vmem, ⟨21, _⟩ => ⟨S64, .f32⟩
  | .local .tc .vmem, ⟨22, _⟩ => ⟨S64x128, .f32⟩
  | .local .tc .vmem, ⟨23, _⟩ => ⟨S128, .f32⟩
  | .local .tc .vmem, ⟨24, _⟩ => ⟨S4096x128, .f32⟩
  | .local .tc .vmem, ⟨25, _⟩ => ⟨S4096x128, .f32⟩
  | .local .tc .vmem, ⟨26, _⟩ => ⟨S1x2x128, .f32⟩
  | .local .tc .vmem, ⟨27, _⟩ => ⟨S1x2x128, .f32⟩
  | .local .tc .vmem, ⟨28, _⟩ => ⟨S4096x128, .f32⟩
  | .local .tc .vmem, ⟨29, _⟩ => ⟨S4096x128, .f32⟩
  | .local .tc .vmem, ⟨30, _⟩ => ⟨S128, .f32⟩
  | .local .tc .vmem, ⟨31, _⟩ => ⟨S128, .f32⟩
  | .local .tc .vmem, ⟨32, _⟩ => ⟨S128x256, .f32⟩
  | .local .tc .vmem, ⟨33, _⟩ => ⟨S256, .f32⟩
  | .local .tc .vmem, ⟨34, _⟩ => ⟨S128x256, .f32⟩
  | .local .tc .vmem, ⟨35, _⟩ => ⟨S128x256, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S128, .i32⟩
  | .local .scVector .vmem, ⟨4, _⟩ => ⟨S2048, .f32⟩
  | _, _ => ⟨S4x3x16384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v3_scv : Ref sig .scVector := ⟨.hbm, 14, rfl⟩
abbrev main_v4_scv : Ref sig .scVector := ⟨.hbm, 15, rfl⟩
abbrev main_v5_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg3_0 : Ref sig .tc := ⟨.vmem, 13, rfl⟩
abbrev cc3_stg4_0 : Ref sig .tc := ⟨.vmem, 14, rfl⟩
abbrev cc3_stg4_1 : Ref sig .tc := ⟨.vmem, 15, rfl⟩
abbrev cc3_stg5_0 : Ref sig .tc := ⟨.vmem, 16, rfl⟩
abbrev cc3_stg5_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc4_stg4_0 : Ref sig .tc := ⟨.vmem, 23, rfl⟩
abbrev cc4_stg5_0 : Ref sig .tc := ⟨.vmem, 24, rfl⟩
abbrev cc4_stg5_1 : Ref sig .tc := ⟨.vmem, 25, rfl⟩
abbrev cc4_stg6_0 : Ref sig .tc := ⟨.vmem, 26, rfl⟩
abbrev cc4_stg6_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc3_sem0_0 : DmaSem sig := 13
abbrev cc3_sem0_1 : DmaSem sig := 14
abbrev cc3_sem1_0 : DmaSem sig := 15
abbrev cc3_sem1_1 : DmaSem sig := 16
abbrev cc3_sem2_0 : DmaSem sig := 17
abbrev cc3_sem3_0 : DmaSem sig := 18
abbrev cc3_sem4_0 : DmaSem sig := 19
abbrev cc3_sem4_1 : DmaSem sig := 20
abbrev cc3_sem5_0 : DmaSem sig := 21
abbrev cc3_sem5_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem5_1 : DmaSem sig := 30
abbrev cc4_sem6_0 : DmaSem sig := 31
abbrev cc4_sem6_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem5_1 : DmaSem sig := 40
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c128_i32 : BitVec 32 := 128#32
  let v13 : BitVec 32 := Scalar.addi c0_i32_9 c128_i32
  let c1_i32 : BitVec 32 := 1#32
  ⟨c0_i32_9, v13, c1_i32⟩
def k0_off1 (k0_t1 : Fin k0_t1_loop.trips) : Fin 3 → Nat :=
  let c0_98 : Index := 0#32
  let c0_i32_9 : BitVec 32 := 0#32
  let c1_i32 : BitVec 32 := 1#32
  let arg2 : BitVec 32 := Scf.iv c0_i32_9 c1_i32 k0_t1
  let c8_i32 : BitVec 32 := 8#32
  let v400 : BitVec 32 := Scalar.muli arg2 c8_i32
  let v401 : Index := Scalar.indexCast v400
  let c0_99 : Index := 0#32
  ![0, v401.toNat, 0]
abbrev stage0_0 : Fin 1 → Memref sig .tc .vmem S4x3x8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def k2_off1 (i : grid2.Coords) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c3_i32 : BitVec 32 := 3#32
  let v20 : BitVec 32 := Scalar.muli v18 c3_i32
  let v21 : BitVec 32 := Scalar.addi v20 c0_i32_4
  let c16384_i32 : BitVec 32 := 16384#32
  let v22 : BitVec 32 := Scalar.muli v21 c16384_i32
  ![v22.toNat]
@[reducible] def k2_t1_loop : Scf.Loop 32 :=
  let c0_i32_11 : BitVec 32 := 0#32
  let c32_i32 : BitVec 32 := 32#32
  let v30 : BitVec 32 := Scalar.addi c0_i32_11 c32_i32
  let c1_i32_12 : BitVec 32 := 1#32
  ⟨c0_i32_11, v30, c1_i32_12⟩
def k2_off2 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v19 : BitVec 32 := Scalar.muli v1 c4096_i32
  let c0_i32_15 : BitVec 32 := 0#32
  let c0_i32_11 : BitVec 32 := 0#32
  let c1_i32_12 : BitVec 32 := 1#32
  let arg10 : BitVec 32 := Scf.iv c0_i32_11 c1_i32_12 k2_t1
  let c1_i32_14 : BitVec 32 := 1#32
  let v31 : BitVec 32 := Scalar.muli arg10 c1_i32_14
  let v32 : BitVec 32 := Scalar.addi c0_i32_15 v31
  let c128_i32 : BitVec 32 := 128#32
  let v33 : BitVec 32 := Scalar.muli v32 c128_i32
  let v34 : BitVec 32 := Scalar.addi v19 v33
  ![v34.toNat]

def k2_chk1 (v35 : IVec S16 32) : Prop :=
  (∀ a x, ((![v35] : Fin 1 → IVec S16 32) a x).toNat < S16384.size a) ∧
  (∀ a x, ((![v35] : Fin 1 → IVec S16 32) a x).toNat < S16384.size a) ∧
  (∀ a x, ((![v35] : Fin 1 → IVec S16 32) a x).toNat < S16384.size a)
theorem k2_idx1_inb : ∀ (v35 : IVec S16 32) (k2_hw1 : k2_chk1 v35), ∀ a x, ((![v35] : Fin 1 → IVec S16 32) a x).toNat < S16384.size a := fun v35 k2_hw1 => k2_hw1.1
theorem k2_idx2_inb : ∀ (v35 : IVec S16 32) (k2_hw1 : k2_chk1 v35), ∀ a x, ((![v35] : Fin 1 → IVec S16 32) a x).toNat < S16384.size a := fun v35 k2_hw1 => k2_hw1.2.1
theorem k2_idx3_inb : ∀ (v35 : IVec S16 32) (k2_hw1 : k2_chk1 v35), ∀ a x, ((![v35] : Fin 1 → IVec S16 32) a x).toNat < S16384.size a := fun v35 k2_hw1 => k2_hw1.2.2

def k2_chk2 (v42 : IVec S16 32) : Prop :=
  (∀ a x, ((![v42] : Fin 1 → IVec S16 32) a x).toNat < S2048.size a)
theorem k2_idx4_inb : ∀ (v42 : IVec S16 32) (k2_hw2 : k2_chk2 v42), ∀ a x, ((![v42] : Fin 1 → IVec S16 32) a x).toNat < S2048.size a := fun v42 k2_hw2 => k2_hw2

def k2_chk3 (v44 : IVec S16 32) : Prop :=
  (∀ a x, ((![v44] : Fin 1 → IVec S16 32) a x).toNat < S2048.size a)
theorem k2_idx5_inb : ∀ (v44 : IVec S16 32) (k2_hw3 : k2_chk3 v44), ∀ a x, ((![v44] : Fin 1 → IVec S16 32) a x).toNat < S2048.size a := fun v44 k2_hw3 => k2_hw3

def k2_chk4 (v46 : IVec S16 32) : Prop :=
  (∀ a x, ((![v46] : Fin 1 → IVec S16 32) a x).toNat < S2048.size a)
theorem k2_idx6_inb : ∀ (v46 : IVec S16 32) (k2_hw4 : k2_chk4 v46), ∀ a x, ((![v46] : Fin 1 → IVec S16 32) a x).toNat < S2048.size a := fun v46 k2_hw4 => k2_hw4

def k2_chk5 (v47 : IVec S16 32) : Prop :=
  (∀ a x, ((![v47] : Fin 1 → IVec S16 32) a x).toNat < S16384.size a) ∧
  (∀ a x, ((![v47] : Fin 1 → IVec S16 32) a x).toNat < S16384.size a) ∧
  (∀ a x, ((![v47] : Fin 1 → IVec S16 32) a x).toNat < S16384.size a)
theorem k2_idx7_inb : ∀ (v47 : IVec S16 32) (k2_hw5 : k2_chk5 v47), ∀ a x, ((![v47] : Fin 1 → IVec S16 32) a x).toNat < S16384.size a := fun v47 k2_hw5 => k2_hw5.1
theorem k2_idx8_inb : ∀ (v47 : IVec S16 32) (k2_hw5 : k2_chk5 v47), ∀ a x, ((![v47] : Fin 1 → IVec S16 32) a x).toNat < S16384.size a := fun v47 k2_hw5 => k2_hw5.2.1
theorem k2_idx9_inb : ∀ (v47 : IVec S16 32) (k2_hw5 : k2_chk5 v47), ∀ a x, ((![v47] : Fin 1 → IVec S16 32) a x).toNat < S16384.size a := fun v47 k2_hw5 => k2_hw5.2.2

def k2_chk6 (v54 : IVec S16 32) : Prop :=
  (∀ a x, ((![v54] : Fin 1 → IVec S16 32) a x).toNat < S2048.size a)
theorem k2_idx10_inb : ∀ (v54 : IVec S16 32) (k2_hw6 : k2_chk6 v54), ∀ a x, ((![v54] : Fin 1 → IVec S16 32) a x).toNat < S2048.size a := fun v54 k2_hw6 => k2_hw6

def k2_chk7 (v56 : IVec S16 32) : Prop :=
  (∀ a x, ((![v56] : Fin 1 → IVec S16 32) a x).toNat < S2048.size a)
theorem k2_idx11_inb : ∀ (v56 : IVec S16 32) (k2_hw7 : k2_chk7 v56), ∀ a x, ((![v56] : Fin 1 → IVec S16 32) a x).toNat < S2048.size a := fun v56 k2_hw7 => k2_hw7

def k2_chk8 (v58 : IVec S16 32) : Prop :=
  (∀ a x, ((![v58] : Fin 1 → IVec S16 32) a x).toNat < S2048.size a)
theorem k2_idx12_inb : ∀ (v58 : IVec S16 32) (k2_hw8 : k2_chk8 v58), ∀ a x, ((![v58] : Fin 1 → IVec S16 32) a x).toNat < S2048.size a := fun v58 k2_hw8 => k2_hw8

def k2_chk9 (v59 : IVec S16 32) : Prop :=
  (∀ a x, ((![v59] : Fin 1 → IVec S16 32) a x).toNat < S16384.size a) ∧
  (∀ a x, ((![v59] : Fin 1 → IVec S16 32) a x).toNat < S16384.size a) ∧
  (∀ a x, ((![v59] : Fin 1 → IVec S16 32) a x).toNat < S16384.size a)
theorem k2_idx13_inb : ∀ (v59 : IVec S16 32) (k2_hw9 : k2_chk9 v59), ∀ a x, ((![v59] : Fin 1 → IVec S16 32) a x).toNat < S16384.size a := fun v59 k2_hw9 => k2_hw9.1
theorem k2_idx14_inb : ∀ (v59 : IVec S16 32) (k2_hw9 : k2_chk9 v59), ∀ a x, ((![v59] : Fin 1 → IVec S16 32) a x).toNat < S16384.size a := fun v59 k2_hw9 => k2_hw9.2.1
theorem k2_idx15_inb : ∀ (v59 : IVec S16 32) (k2_hw9 : k2_chk9 v59), ∀ a x, ((![v59] : Fin 1 → IVec S16 32) a x).toNat < S16384.size a := fun v59 k2_hw9 => k2_hw9.2.2

def k2_chk10 (v66 : IVec S16 32) : Prop :=
  (∀ a x, ((![v66] : Fin 1 → IVec S16 32) a x).toNat < S2048.size a)
theorem k2_idx16_inb : ∀ (v66 : IVec S16 32) (k2_hw10 : k2_chk10 v66), ∀ a x, ((![v66] : Fin 1 → IVec S16 32) a x).toNat < S2048.size a := fun v66 k2_hw10 => k2_hw10

def k2_chk11 (v68 : IVec S16 32) : Prop :=
  (∀ a x, ((![v68] : Fin 1 → IVec S16 32) a x).toNat < S2048.size a)
theorem k2_idx17_inb : ∀ (v68 : IVec S16 32) (k2_hw11 : k2_chk11 v68), ∀ a x, ((![v68] : Fin 1 → IVec S16 32) a x).toNat < S2048.size a := fun v68 k2_hw11 => k2_hw11

def k2_chk12 (v70 : IVec S16 32) : Prop :=
  (∀ a x, ((![v70] : Fin 1 → IVec S16 32) a x).toNat < S2048.size a)
theorem k2_idx18_inb : ∀ (v70 : IVec S16 32) (k2_hw12 : k2_chk12 v70), ∀ a x, ((![v70] : Fin 1 → IVec S16 32) a x).toNat < S2048.size a := fun v70 k2_hw12 => k2_hw12

def k2_chk13 (v71 : IVec S16 32) : Prop :=
  (∀ a x, ((![v71] : Fin 1 → IVec S16 32) a x).toNat < S16384.size a) ∧
  (∀ a x, ((![v71] : Fin 1 → IVec S16 32) a x).toNat < S16384.size a) ∧
  (∀ a x, ((![v71] : Fin 1 → IVec S16 32) a x).toNat < S16384.size a)
theorem k2_idx19_inb : ∀ (v71 : IVec S16 32) (k2_hw13 : k2_chk13 v71), ∀ a x, ((![v71] : Fin 1 → IVec S16 32) a x).toNat < S16384.size a := fun v71 k2_hw13 => k2_hw13.1
theorem k2_idx20_inb : ∀ (v71 : IVec S16 32) (k2_hw13 : k2_chk13 v71), ∀ a x, ((![v71] : Fin 1 → IVec S16 32) a x).toNat < S16384.size a := fun v71 k2_hw13 => k2_hw13.2.1
theorem k2_idx21_inb : ∀ (v71 : IVec S16 32) (k2_hw13 : k2_chk13 v71), ∀ a x, ((![v71] : Fin 1 → IVec S16 32) a x).toNat < S16384.size a := fun v71 k2_hw13 => k2_hw13.2.2

def k2_chk14 (v78 : IVec S16 32) : Prop :=
  (∀ a x, ((![v78] : Fin 1 → IVec S16 32) a x).toNat < S2048.size a)
theorem k2_idx22_inb : ∀ (v78 : IVec S16 32) (k2_hw14 : k2_chk14 v78), ∀ a x, ((![v78] : Fin 1 → IVec S16 32) a x).toNat < S2048.size a := fun v78 k2_hw14 => k2_hw14

def k2_chk15 (v80 : IVec S16 32) : Prop :=
  (∀ a x, ((![v80] : Fin 1 → IVec S16 32) a x).toNat < S2048.size a)
theorem k2_idx23_inb : ∀ (v80 : IVec S16 32) (k2_hw15 : k2_chk15 v80), ∀ a x, ((![v80] : Fin 1 → IVec S16 32) a x).toNat < S2048.size a := fun v80 k2_hw15 => k2_hw15

def k2_chk16 (v82 : IVec S16 32) : Prop :=
  (∀ a x, ((![v82] : Fin 1 → IVec S16 32) a x).toNat < S2048.size a)
theorem k2_idx24_inb : ∀ (v82 : IVec S16 32) (k2_hw16 : k2_chk16 v82), ∀ a x, ((![v82] : Fin 1 → IVec S16 32) a x).toNat < S2048.size a := fun v82 k2_hw16 => k2_hw16

def k2_chk17 (v83 : IVec S16 32) : Prop :=
  (∀ a x, ((![v83] : Fin 1 → IVec S16 32) a x).toNat < S16384.size a) ∧
  (∀ a x, ((![v83] : Fin 1 → IVec S16 32) a x).toNat < S16384.size a) ∧
  (∀ a x, ((![v83] : Fin 1 → IVec S16 32) a x).toNat < S16384.size a)
theorem k2_idx25_inb : ∀ (v83 : IVec S16 32) (k2_hw17 : k2_chk17 v83), ∀ a x, ((![v83] : Fin 1 → IVec S16 32) a x).toNat < S16384.size a := fun v83 k2_hw17 => k2_hw17.1
theorem k2_idx26_inb : ∀ (v83 : IVec S16 32) (k2_hw17 : k2_chk17 v83), ∀ a x, ((![v83] : Fin 1 → IVec S16 32) a x).toNat < S16384.size a := fun v83 k2_hw17 => k2_hw17.2.1
theorem k2_idx27_inb : ∀ (v83 : IVec S16 32) (k2_hw17 : k2_chk17 v83), ∀ a x, ((![v83] : Fin 1 → IVec S16 32) a x).toNat < S16384.size a := fun v83 k2_hw17 => k2_hw17.2.2

def k2_chk18 (v90 : IVec S16 32) : Prop :=
  (∀ a x, ((![v90] : Fin 1 → IVec S16 32) a x).toNat < S2048.size a)
theorem k2_idx28_inb : ∀ (v90 : IVec S16 32) (k2_hw18 : k2_chk18 v90), ∀ a x, ((![v90] : Fin 1 → IVec S16 32) a x).toNat < S2048.size a := fun v90 k2_hw18 => k2_hw18

def k2_chk19 (v92 : IVec S16 32) : Prop :=
  (∀ a x, ((![v92] : Fin 1 → IVec S16 32) a x).toNat < S2048.size a)
theorem k2_idx29_inb : ∀ (v92 : IVec S16 32) (k2_hw19 : k2_chk19 v92), ∀ a x, ((![v92] : Fin 1 → IVec S16 32) a x).toNat < S2048.size a := fun v92 k2_hw19 => k2_hw19

def k2_chk20 (v94 : IVec S16 32) : Prop :=
  (∀ a x, ((![v94] : Fin 1 → IVec S16 32) a x).toNat < S2048.size a)
theorem k2_idx30_inb : ∀ (v94 : IVec S16 32) (k2_hw20 : k2_chk20 v94), ∀ a x, ((![v94] : Fin 1 → IVec S16 32) a x).toNat < S2048.size a := fun v94 k2_hw20 => k2_hw20

def k2_chk21 (v95 : IVec S16 32) : Prop :=
  (∀ a x, ((![v95] : Fin 1 → IVec S16 32) a x).toNat < S16384.size a) ∧
  (∀ a x, ((![v95] : Fin 1 → IVec S16 32) a x).toNat < S16384.size a) ∧
  (∀ a x, ((![v95] : Fin 1 → IVec S16 32) a x).toNat < S16384.size a)
theorem k2_idx31_inb : ∀ (v95 : IVec S16 32) (k2_hw21 : k2_chk21 v95), ∀ a x, ((![v95] : Fin 1 → IVec S16 32) a x).toNat < S16384.size a := fun v95 k2_hw21 => k2_hw21.1
theorem k2_idx32_inb : ∀ (v95 : IVec S16 32) (k2_hw21 : k2_chk21 v95), ∀ a x, ((![v95] : Fin 1 → IVec S16 32) a x).toNat < S16384.size a := fun v95 k2_hw21 => k2_hw21.2.1
theorem k2_idx33_inb : ∀ (v95 : IVec S16 32) (k2_hw21 : k2_chk21 v95), ∀ a x, ((![v95] : Fin 1 → IVec S16 32) a x).toNat < S16384.size a := fun v95 k2_hw21 => k2_hw21.2.2

def k2_chk22 (v102 : IVec S16 32) : Prop :=
  (∀ a x, ((![v102] : Fin 1 → IVec S16 32) a x).toNat < S2048.size a)
theorem k2_idx34_inb : ∀ (v102 : IVec S16 32) (k2_hw22 : k2_chk22 v102), ∀ a x, ((![v102] : Fin 1 → IVec S16 32) a x).toNat < S2048.size a := fun v102 k2_hw22 => k2_hw22

def k2_chk23 (v104 : IVec S16 32) : Prop :=
  (∀ a x, ((![v104] : Fin 1 → IVec S16 32) a x).toNat < S2048.size a)
theorem k2_idx35_inb : ∀ (v104 : IVec S16 32) (k2_hw23 : k2_chk23 v104), ∀ a x, ((![v104] : Fin 1 → IVec S16 32) a x).toNat < S2048.size a := fun v104 k2_hw23 => k2_hw23

def k2_chk24 (v106 : IVec S16 32) : Prop :=
  (∀ a x, ((![v106] : Fin 1 → IVec S16 32) a x).toNat < S2048.size a)
theorem k2_idx36_inb : ∀ (v106 : IVec S16 32) (k2_hw24 : k2_chk24 v106), ∀ a x, ((![v106] : Fin 1 → IVec S16 32) a x).toNat < S2048.size a := fun v106 k2_hw24 => k2_hw24

def k2_chk25 (v107 : IVec S16 32) : Prop :=
  (∀ a x, ((![v107] : Fin 1 → IVec S16 32) a x).toNat < S16384.size a) ∧
  (∀ a x, ((![v107] : Fin 1 → IVec S16 32) a x).toNat < S16384.size a) ∧
  (∀ a x, ((![v107] : Fin 1 → IVec S16 32) a x).toNat < S16384.size a)
theorem k2_idx37_inb : ∀ (v107 : IVec S16 32) (k2_hw25 : k2_chk25 v107), ∀ a x, ((![v107] : Fin 1 → IVec S16 32) a x).toNat < S16384.size a := fun v107 k2_hw25 => k2_hw25.1
theorem k2_idx38_inb : ∀ (v107 : IVec S16 32) (k2_hw25 : k2_chk25 v107), ∀ a x, ((![v107] : Fin 1 → IVec S16 32) a x).toNat < S16384.size a := fun v107 k2_hw25 => k2_hw25.2.1
theorem k2_idx39_inb : ∀ (v107 : IVec S16 32) (k2_hw25 : k2_chk25 v107), ∀ a x, ((![v107] : Fin 1 → IVec S16 32) a x).toNat < S16384.size a := fun v107 k2_hw25 => k2_hw25.2.2

def k2_chk26 (v114 : IVec S16 32) : Prop :=
  (∀ a x, ((![v114] : Fin 1 → IVec S16 32) a x).toNat < S2048.size a)
theorem k2_idx40_inb : ∀ (v114 : IVec S16 32) (k2_hw26 : k2_chk26 v114), ∀ a x, ((![v114] : Fin 1 → IVec S16 32) a x).toNat < S2048.size a := fun v114 k2_hw26 => k2_hw26

def k2_chk27 (v116 : IVec S16 32) : Prop :=
  (∀ a x, ((![v116] : Fin 1 → IVec S16 32) a x).toNat < S2048.size a)
theorem k2_idx41_inb : ∀ (v116 : IVec S16 32) (k2_hw27 : k2_chk27 v116), ∀ a x, ((![v116] : Fin 1 → IVec S16 32) a x).toNat < S2048.size a := fun v116 k2_hw27 => k2_hw27

def k2_chk28 (v118 : IVec S16 32) : Prop :=
  (∀ a x, ((![v118] : Fin 1 → IVec S16 32) a x).toNat < S2048.size a)
theorem k2_idx42_inb : ∀ (v118 : IVec S16 32) (k2_hw28 : k2_chk28 v118), ∀ a x, ((![v118] : Fin 1 → IVec S16 32) a x).toNat < S2048.size a := fun v118 k2_hw28 => k2_hw28

def k2_chk29 (v119 : IVec S16 32) : Prop :=
  (∀ a x, ((![v119] : Fin 1 → IVec S16 32) a x).toNat < S16384.size a) ∧
  (∀ a x, ((![v119] : Fin 1 → IVec S16 32) a x).toNat < S16384.size a) ∧
  (∀ a x, ((![v119] : Fin 1 → IVec S16 32) a x).toNat < S16384.size a)
theorem k2_idx43_inb : ∀ (v119 : IVec S16 32) (k2_hw29 : k2_chk29 v119), ∀ a x, ((![v119] : Fin 1 → IVec S16 32) a x).toNat < S16384.size a := fun v119 k2_hw29 => k2_hw29.1
theorem k2_idx44_inb : ∀ (v119 : IVec S16 32) (k2_hw29 : k2_chk29 v119), ∀ a x, ((![v119] : Fin 1 → IVec S16 32) a x).toNat < S16384.size a := fun v119 k2_hw29 => k2_hw29.2.1
theorem k2_idx45_inb : ∀ (v119 : IVec S16 32) (k2_hw29 : k2_chk29 v119), ∀ a x, ((![v119] : Fin 1 → IVec S16 32) a x).toNat < S16384.size a := fun v119 k2_hw29 => k2_hw29.2.2

def k2_chk30 (v126 : IVec S16 32) : Prop :=
  (∀ a x, ((![v126] : Fin 1 → IVec S16 32) a x).toNat < S2048.size a)
theorem k2_idx46_inb : ∀ (v126 : IVec S16 32) (k2_hw30 : k2_chk30 v126), ∀ a x, ((![v126] : Fin 1 → IVec S16 32) a x).toNat < S2048.size a := fun v126 k2_hw30 => k2_hw30

def k2_chk31 (v128 : IVec S16 32) : Prop :=
  (∀ a x, ((![v128] : Fin 1 → IVec S16 32) a x).toNat < S2048.size a)
theorem k2_idx47_inb : ∀ (v128 : IVec S16 32) (k2_hw31 : k2_chk31 v128), ∀ a x, ((![v128] : Fin 1 → IVec S16 32) a x).toNat < S2048.size a := fun v128 k2_hw31 => k2_hw31

def k2_chk32 (v130 : IVec S16 32) : Prop :=
  (∀ a x, ((![v130] : Fin 1 → IVec S16 32) a x).toNat < S2048.size a)
theorem k2_idx48_inb : ∀ (v130 : IVec S16 32) (k2_hw32 : k2_chk32 v130), ∀ a x, ((![v130] : Fin 1 → IVec S16 32) a x).toNat < S2048.size a := fun v130 k2_hw32 => k2_hw32
def k2_off3 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v19 : BitVec 32 := Scalar.muli v1 c4096_i32
  let c0_i32_15 : BitVec 32 := 0#32
  let c0_i32_11 : BitVec 32 := 0#32
  let c1_i32_12 : BitVec 32 := 1#32
  let arg10 : BitVec 32 := Scf.iv c0_i32_11 c1_i32_12 k2_t1
  let c1_i32_14 : BitVec 32 := 1#32
  let v31 : BitVec 32 := Scalar.muli arg10 c1_i32_14
  let v32 : BitVec 32 := Scalar.addi c0_i32_15 v31
  let c128_i32 : BitVec 32 := 128#32
  let v33 : BitVec 32 := Scalar.muli v32 c128_i32
  let v34 : BitVec 32 := Scalar.addi v19 v33
  let c16_i32_42 : BitVec 32 := 16#32
  let v131 : BitVec 32 := Scalar.muli v34 c16_i32_42
  ![v131.toNat]
abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x2x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4096x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x2x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S128x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S4x3x16384 : Shape := ⟨3, ![4, 3, 16384]⟩
abbrev S64x3 : Shape := ⟨2, ![64, 3]⟩
abbrev S64 : Shape := ⟨1, ![64]⟩
abbrev S128x64 : Shape := ⟨2, ![128, 64]⟩
abbrev S128 : Shape := ⟨1, ![128]⟩
abbrev S256x128 : Shape := ⟨2, ![256, 128]⟩
abbrev S256 : Shape := ⟨1, ![256]⟩
abbrev S4x16384x3 : Shape := ⟨3, ![4, 16384, 3]⟩
abbrev S_ : Shape := ⟨0, ![]⟩
abbrev S4x16384 : Shape := ⟨2, ![4, 16384]⟩
abbrev S4x1024 : Shape := ⟨2, ![4, 1024]⟩
abbrev S4 : Shape := ⟨1, ![4]⟩
abbrev S1 : Shape := ⟨1, ![1]⟩
abbrev S4x1x1 : Shape := ⟨3, ![4, 1, 1]⟩
abbrev S1x1x1 : Shape := ⟨3, ![1, 1, 1]⟩
abbrev S4x1 : Shape := ⟨2, ![4, 1]⟩
abbrev S4x1x3 : Shape := ⟨3, ![4, 1, 3]⟩
abbrev S4x1024x1 : Shape := ⟨3, ![4, 1024, 1]⟩
abbrev S4x1024x3 : Shape := ⟨3, ![4, 1024, 3]⟩
abbrev S4x1024x16384 : Shape := ⟨3, ![4, 1024, 16384]⟩
abbrev S4x1x16384 : Shape := ⟨3, ![4, 1, 16384]⟩
abbrev S4x1024x32 : Shape := ⟨3, ![4, 1024, 32]⟩
abbrev S4x1024x32x1 : Shape := ⟨4, ![4, 1024, 32, 1]⟩
abbrev S4x1024x32x2 : Shape := ⟨4, ![4, 1024, 32, 2]⟩
abbrev S4x1024x32x3 : Shape := ⟨4, ![4, 1024, 32, 3]⟩
abbrev S4x1024x1x3 : Shape := ⟨4, ![4, 1024, 1, 3]⟩
abbrev S4x3x1024x32 : Shape := ⟨4, ![4, 3, 1024, 32]⟩
abbrev S4x1024x32x64 : Shape := ⟨4, ![4, 1024, 32, 64]⟩
abbrev S4x64x1024x32 : Shape := ⟨4, ![4, 64, 1024, 32]⟩
abbrev S1x64x1x1 : Shape := ⟨4, ![1, 64, 1, 1]⟩
abbrev S4x1024x32x128 : Shape := ⟨4, ![4, 1024, 32, 128]⟩
abbrev S4x128x1024x32 : Shape := ⟨4, ![4, 128, 1024, 32]⟩
abbrev S1x128x1x1 : Shape := ⟨4, ![1, 128, 1, 1]⟩
abbrev S4x1024x32x256 : Shape := ⟨4, ![4, 1024, 32, 256]⟩
abbrev S4x256x1024x32 : Shape := ⟨4, ![4, 256, 1024, 32]⟩
abbrev S1x256x1x1 : Shape := ⟨4, ![1, 256, 1, 1]⟩
abbrev S4x256x1024 : Shape := ⟨3, ![4, 256, 1024]⟩
abbrev S4x3x1024 : Shape := ⟨3, ![4, 3, 1024]⟩

abbrev nBuf : Space → Nat
  | .hbm => 253
  | .vmem => 0
  | .smem => 0
  | _ => 0

abbrev hbmTy0_0 (i : Nat) : BufTy := match i % 128 with
  | 0 => ⟨S4x3x16384, .f32⟩
  | 1 => ⟨S64x3, .f32⟩
  | 2 => ⟨S64, .f32⟩
  | 3 => ⟨S64, .f32⟩
  | 4 => ⟨S64, .f32⟩
  | 5 => ⟨S128x64, .f32⟩
  | 6 => ⟨S128, .f32⟩
  | 7 => ⟨S128, .f32⟩
  | 8 => ⟨S128, .f32⟩
  | 9 => ⟨S256x128, .f32⟩
  | 10 => ⟨S256, .f32⟩
  | 11 => ⟨S4x16384x3, .f32⟩
  | 12 => ⟨S_, .f32⟩
  | 13 => ⟨S4x16384, .f32⟩
  | 14 => ⟨S_, .i32⟩
  | 15 => ⟨S4x1024, .i32⟩
  | 16 => ⟨S_, .i32⟩
  | 17 => ⟨S4, .i32⟩
  | 18 => ⟨S_, .i32⟩
  | 19 => ⟨S_, .i32⟩
  | 20 => ⟨S4x16384x3, .f32⟩
  | 21 => ⟨S_, .i32⟩
  | 22 => ⟨S_, .i32⟩
  | 23 => ⟨S4x16384, .f32⟩
  | 24 => ⟨S4x1024, .i32⟩
  | 25 => ⟨S4, .i32⟩
  | 26 => ⟨S_, .i32⟩
  | 27 => ⟨S_, .i1⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S1, .i32⟩
  | 37 => ⟨S4x1024, .i32⟩
  | 38 => ⟨S4x1x1, .i32⟩
  | 39 => ⟨S_, .i32⟩
  | 40 => ⟨S4x1x1, .i32⟩
  | 41 => ⟨S4x1x1, .i1⟩
  | 42 => ⟨S_, .i32⟩
  | 43 => ⟨S4x1x1, .i32⟩
  | 44 => ⟨S4x1x1, .i32⟩
  | 45 => ⟨S4x1x1, .i32⟩
  | 46 => ⟨S1, .i32⟩
  | 47 => ⟨S_, .i32⟩
  | 48 => ⟨S4x1x1, .i32⟩
  | 49 => ⟨S4x1x1, .i1⟩
  | 50 => ⟨S1x1x1, .i32⟩
  | 51 => ⟨S4x1x1, .i32⟩
  | 52 => ⟨S4x1x1, .i1⟩
  | 53 => ⟨S4x1x1, .i1⟩
  | 54 => ⟨S_, .i1⟩
  | 55 => ⟨S4x1, .i1⟩
  | 56 => ⟨S4x1x3, .f32⟩
  | 57 => ⟨S4x1x3, .i1⟩
  | 58 => ⟨S_, .f32⟩
  | 59 => ⟨S4x1x3, .f32⟩
  | 60 => ⟨S4x1x3, .f32⟩
  | 61 => ⟨S4x16384x3, .f32⟩
  | 62 => ⟨S4x16384x3, .f32⟩
  | 63 => ⟨S4x16384x3, .f32⟩
  | 64 => ⟨S_, .f32⟩
  | 65 => ⟨S4x16384, .f32⟩
  | 66 => ⟨S4x16384, .f32⟩
  | 67 => ⟨S4x16384, .i32⟩
  | 68 => ⟨S_, .f32⟩
  | 69 => ⟨S_, .i32⟩
  | 70 => ⟨S4, .f32⟩
  | 71 => ⟨S4, .i32⟩
  | 72 => ⟨S_, .i32⟩
  | 73 => ⟨S_, .i32⟩
  | 74 => ⟨S4x1024x1, .i32⟩
  | 75 => ⟨S_, .i32⟩
  | 76 => ⟨S4x1024x1, .i32⟩
  | 77 => ⟨S4x1024x1, .i1⟩
  | 78 => ⟨S_, .i32⟩
  | 79 => ⟨S4x1024x1, .i32⟩
  | 80 => ⟨S4x1024x1, .i32⟩
  | 81 => ⟨S4x1024x1, .i32⟩
  | 82 => ⟨S1, .i32⟩
  | 83 => ⟨S_, .i32⟩
  | 84 => ⟨S4x1024x1, .i32⟩
  | 85 => ⟨S4x1024x1, .i1⟩
  | 86 => ⟨S1x1x1, .i32⟩
  | 87 => ⟨S4x1024x1, .i32⟩
  | 88 => ⟨S4x1024x1, .i1⟩
  | 89 => ⟨S4x1024x1, .i1⟩
  | 90 => ⟨S_, .i1⟩
  | 91 => ⟨S4x1024, .i1⟩
  | 92 => ⟨S4x1024x3, .f32⟩
  | 93 => ⟨S4x1024x3, .i1⟩
  | 94 => ⟨S_, .f32⟩
  | 95 => ⟨S4x1024x3, .f32⟩
  | 96 => ⟨S4x1024x3, .f32⟩
  | 97 => ⟨S4x1024x3, .f32⟩
  | 98 => ⟨S_, .f32⟩
  | 99 => ⟨S4x1024, .f32⟩
  | 100 => ⟨S4x1024x1, .f32⟩
  | 101 => ⟨S4x1024x16384, .f32⟩
  | 102 => ⟨S_, .f32⟩
  | 103 => ⟨S4x1024x16384, .f32⟩
  | 104 => ⟨S4x1024x16384, .f32⟩
  | 105 => ⟨S4x1024x16384, .f32⟩
  | 106 => ⟨S4x1024x16384, .f32⟩
  | 107 => ⟨S4x16384x3, .f32⟩
  | 108 => ⟨S_, .f32⟩
  | 109 => ⟨S4x16384, .f32⟩
  | 110 => ⟨S4x1x16384, .f32⟩
  | 111 => ⟨S4x1024x16384, .f32⟩
  | 112 => ⟨S4x1024x16384, .f32⟩
  | 113 => ⟨S4x1024x16384, .f32⟩
  | 114 => ⟨S4x1024x32, .f32⟩
  | 115 => ⟨S4x1024x32, .i32⟩
  | 116 => ⟨S4, .i32⟩
  | 117 => ⟨S4x1x1, .i32⟩
  | 118 => ⟨S_, .i32⟩
  | 119 => ⟨S4x1x1, .i32⟩
  | 120 => ⟨S4x1x1, .i1⟩
  | 121 => ⟨S_, .i32⟩
  | 122 => ⟨S4x1x1, .i32⟩
  | 123 => ⟨S4x1x1, .i32⟩
  | 124 => ⟨S4x1x1, .i32⟩
  | 125 => ⟨S_, .i32⟩
  | 126 => ⟨S4x1024x32, .i32⟩
  | 127 => ⟨S4x1024x32, .i1⟩
  | _ => ⟨S4x3x16384, .f32⟩

abbrev hbmTy0_1 (i : Nat) : BufTy := match i % 128 with
  | 0 => ⟨S_, .i32⟩
  | 1 => ⟨S4x1024x32, .i32⟩
  | 2 => ⟨S4x1024x32, .i32⟩
  | 3 => ⟨S4x1024x32, .i32⟩
  | 4 => ⟨S4x1024x32, .i32⟩
  | 5 => ⟨S4x1024x32x1, .i32⟩
  | 6 => ⟨S4x1024x32x1, .i32⟩
  | 7 => ⟨S4x1024x32x2, .i32⟩
  | 8 => ⟨S4x1024x32x3, .f32⟩
  | 9 => ⟨S4x1024x1x3, .f32⟩
  | 10 => ⟨S4x1024x32x3, .f32⟩
  | 11 => ⟨S4x1024x32x3, .f32⟩
  | 12 => ⟨S4x3x1024x32, .f32⟩
  | 13 => ⟨S4x1024x32x64, .f32⟩
  | 14 => ⟨S4x64x1024x32, .f32⟩
  | 15 => ⟨S1x64x1x1, .f32⟩
  | 16 => ⟨S4x64x1024x32, .f32⟩
  | 17 => ⟨S4x64x1024x32, .f32⟩
  | 18 => ⟨S_, .f32⟩
  | 19 => ⟨S64, .f32⟩
  | 20 => ⟨S1x64x1x1, .f32⟩
  | 21 => ⟨S_, .f32⟩
  | 22 => ⟨S1x64x1x1, .f32⟩
  | 23 => ⟨S1x64x1x1, .f32⟩
  | 24 => ⟨S_, .i32⟩
  | 25 => ⟨S_, .f32⟩
  | 26 => ⟨S64, .f32⟩
  | 27 => ⟨S1x64x1x1, .f32⟩
  | 28 => ⟨S_, .f32⟩
  | 29 => ⟨S1x64x1x1, .f32⟩
  | 30 => ⟨S1x64x1x1, .f32⟩
  | 31 => ⟨S4x64x1024x32, .f32⟩
  | 32 => ⟨S4x64x1024x32, .f32⟩
  | 33 => ⟨S4x64x1024x32, .f32⟩
  | 34 => ⟨S_, .f32⟩
  | 35 => ⟨S_, .f32⟩
  | 36 => ⟨S_, .f32⟩
  | 37 => ⟨S_, .f32⟩
  | 38 => ⟨S64, .f32⟩
  | 39 => ⟨S1x64x1x1, .f32⟩
  | 40 => ⟨S1x64x1x1, .f32⟩
  | 41 => ⟨S1x64x1x1, .f32⟩
  | 42 => ⟨S_, .f32⟩
  | 43 => ⟨S_, .i1⟩
  | 44 => ⟨S_, .f32⟩
  | 45 => ⟨S_, .f32⟩
  | 46 => ⟨S1x64x1x1, .f32⟩
  | 47 => ⟨S1x64x1x1, .f32⟩
  | 48 => ⟨S4x64x1024x32, .f32⟩
  | 49 => ⟨S4x64x1024x32, .f32⟩
  | 50 => ⟨S_, .f32⟩
  | 51 => ⟨S1x64x1x1, .f32⟩
  | 52 => ⟨S1x64x1x1, .f32⟩
  | 53 => ⟨S1x64x1x1, .f32⟩
  | 54 => ⟨S4x64x1024x32, .f32⟩
  | 55 => ⟨S4x64x1024x32, .f32⟩
  | 56 => ⟨S1x64x1x1, .f32⟩
  | 57 => ⟨S4x64x1024x32, .f32⟩
  | 58 => ⟨S4x64x1024x32, .f32⟩
  | 59 => ⟨S1x64x1x1, .f32⟩
  | 60 => ⟨S4x64x1024x32, .f32⟩
  | 61 => ⟨S4x64x1024x32, .f32⟩
  | 62 => ⟨S_, .f32⟩
  | 63 => ⟨S4x64x1024x32, .f32⟩
  | 64 => ⟨S4x64x1024x32, .f32⟩
  | 65 => ⟨S4x1024x32x128, .f32⟩
  | 66 => ⟨S4x128x1024x32, .f32⟩
  | 67 => ⟨S1x128x1x1, .f32⟩
  | 68 => ⟨S4x128x1024x32, .f32⟩
  | 69 => ⟨S4x128x1024x32, .f32⟩
  | 70 => ⟨S_, .f32⟩
  | 71 => ⟨S128, .f32⟩
  | 72 => ⟨S1x128x1x1, .f32⟩
  | 73 => ⟨S_, .f32⟩
  | 74 => ⟨S1x128x1x1, .f32⟩
  | 75 => ⟨S1x128x1x1, .f32⟩
  | 76 => ⟨S_, .i32⟩
  | 77 => ⟨S_, .f32⟩
  | 78 => ⟨S128, .f32⟩
  | 79 => ⟨S1x128x1x1, .f32⟩
  | 80 => ⟨S_, .f32⟩
  | 81 => ⟨S1x128x1x1, .f32⟩
  | 82 => ⟨S1x128x1x1, .f32⟩
  | 83 => ⟨S4x128x1024x32, .f32⟩
  | 84 => ⟨S4x128x1024x32, .f32⟩
  | 85 => ⟨S4x128x1024x32, .f32⟩
  | 86 => ⟨S_, .f32⟩
  | 87 => ⟨S_, .f32⟩
  | 88 => ⟨S_, .f32⟩
  | 89 => ⟨S_, .f32⟩
  | 90 => ⟨S128, .f32⟩
  | 91 => ⟨S1x128x1x1, .f32⟩
  | 92 => ⟨S1x128x1x1, .f32⟩
  | 93 => ⟨S1x128x1x1, .f32⟩
  | 94 => ⟨S_, .f32⟩
  | 95 => ⟨S_, .i1⟩
  | 96 => ⟨S_, .f32⟩
  | 97 => ⟨S_, .f32⟩
  | 98 => ⟨S1x128x1x1, .f32⟩
  | 99 => ⟨S1x128x1x1, .f32⟩
  | 100 => ⟨S4x128x1024x32, .f32⟩
  | 101 => ⟨S4x128x1024x32, .f32⟩
  | 102 => ⟨S_, .f32⟩
  | 103 => ⟨S1x128x1x1, .f32⟩
  | 104 => ⟨S1x128x1x1, .f32⟩
  | 105 => ⟨S1x128x1x1, .f32⟩
  | 106 => ⟨S4x128x1024x32, .f32⟩
  | 107 => ⟨S4x128x1024x32, .f32⟩
  | 108 => ⟨S1x128x1x1, .f32⟩
  | 109 => ⟨S4x128x1024x32, .f32⟩
  | 110 => ⟨S4x128x1024x32, .f32⟩
  | 111 => ⟨S1x128x1x1, .f32⟩
  | 112 => ⟨S4x128x1024x32, .f32⟩
  | 113 => ⟨S4x128x1024x32, .f32⟩
  | 114 => ⟨S_, .f32⟩
  | 115 => ⟨S4x128x1024x32, .f32⟩
  | 116 => ⟨S4x128x1024x32, .f32⟩
  | 117 => ⟨S4x1024x32x256, .f32⟩
  | 118 => ⟨S4x256x1024x32, .f32⟩
  | 119 => ⟨S1x256x1x1, .f32⟩
  | 120 => ⟨S4x256x1024x32, .f32⟩
  | 121 => ⟨S4x256x1024x32, .f32⟩
  | 122 => ⟨S_, .f32⟩
  | 123 => ⟨S4x256x1024, .f32⟩
  | 124 => ⟨S4x3x1024, .f32⟩
  | _ => ⟨S4x3x16384, .f32⟩

abbrev hbmTy (i : Nat) : BufTy := match i / 128 with
  | 0 => hbmTy0_0 i
  | 1 => hbmTy0_1 i
  | _ => ⟨S4x3x16384, .f32⟩

abbrev bufTy : (tb : Table) → Fin (tcTables nBuf tb) → BufTy
  | .hbm, ⟨i, _⟩ => hbmTy i
  | _, _ => ⟨S4x3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_c_1 : Ref sig .tc := ⟨.hbm, 18, rfl⟩
abbrev main_c_2 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_while0c_c_24 : Ref sig .tc := ⟨.hbm, 26, rfl⟩
abbrev main_while0c_v97 : Ref sig .tc := ⟨.hbm, 27, rfl⟩
abbrev main_while0b_c_24 : Ref sig .tc := ⟨.hbm, 28, rfl⟩
abbrev main_while0b_v97 : Ref sig .tc := ⟨.hbm, 29, rfl⟩
abbrev main_while0b_c_25 : Ref sig .tc := ⟨.hbm, 30, rfl⟩
abbrev main_while0b_v98 : Ref sig .tc := ⟨.hbm, 31, rfl⟩
abbrev main_while0b_c_26 : Ref sig .tc := ⟨.hbm, 32, rfl⟩
abbrev main_while0b_v99 : Ref sig .tc := ⟨.hbm, 33, rfl⟩
abbrev main_while0b_v100 : Ref sig .tc := ⟨.hbm, 34, rfl⟩
abbrev main_while0b_v101 : Ref sig .tc := ⟨.hbm, 35, rfl⟩
abbrev main_while0b_v102 : Ref sig .tc := ⟨.hbm, 36, rfl⟩
abbrev main_while0b_v103 : Ref sig .tc := ⟨.hbm, 37, rfl⟩
abbrev main_while0b_v104 : Ref sig .tc := ⟨.hbm, 38, rfl⟩
abbrev main_while0b_call0_c : Ref sig .tc := ⟨.hbm, 39, rfl⟩
abbrev main_while0b_call0_v0 : Ref sig .tc := ⟨.hbm, 40, rfl⟩
abbrev main_while0b_call0_v1 : Ref sig .tc := ⟨.hbm, 41, rfl⟩
abbrev main_while0b_call0_c_0 : Ref sig .tc := ⟨.hbm, 42, rfl⟩
abbrev main_while0b_call0_v2 : Ref sig .tc := ⟨.hbm, 43, rfl⟩
abbrev main_while0b_call0_v3 : Ref sig .tc := ⟨.hbm, 44, rfl⟩
abbrev main_while0b_call0_v4 : Ref sig .tc := ⟨.hbm, 45, rfl⟩
abbrev main_while0b_call0_c_1 : Ref sig .tc := ⟨.hbm, 46, rfl⟩
abbrev main_while0b_call0_c_2 : Ref sig .tc := ⟨.hbm, 47, rfl⟩
abbrev main_while0b_call0_v5 : Ref sig .tc := ⟨.hbm, 48, rfl⟩
abbrev main_while0b_call0_v6 : Ref sig .tc := ⟨.hbm, 49, rfl⟩
abbrev main_while0b_call0_v7 : Ref sig .tc := ⟨.hbm, 50, rfl⟩
abbrev main_while0b_call0_v8 : Ref sig .tc := ⟨.hbm, 51, rfl⟩
abbrev main_while0b_call0_v9 : Ref sig .tc := ⟨.hbm, 52, rfl⟩
abbrev main_while0b_call0_v10 : Ref sig .tc := ⟨.hbm, 53, rfl⟩
abbrev main_while0b_call0_c_3 : Ref sig .tc := ⟨.hbm, 54, rfl⟩
abbrev main_while0b_call0_v11 : Ref sig .tc := ⟨.hbm, 55, rfl⟩
abbrev main_while0b_call0_v12 : Ref sig .tc := ⟨.hbm, 56, rfl⟩
abbrev main_while0b_call0_v13 : Ref sig .tc := ⟨.hbm, 57, rfl⟩
abbrev main_while0b_call0_cst : Ref sig .tc := ⟨.hbm, 58, rfl⟩
abbrev main_while0b_call0_v14 : Ref sig .tc := ⟨.hbm, 59, rfl⟩
abbrev main_while0b_v105 : Ref sig .tc := ⟨.hbm, 60, rfl⟩
abbrev main_while0b_v106 : Ref sig .tc := ⟨.hbm, 61, rfl⟩
abbrev main_while0b_v107 : Ref sig .tc := ⟨.hbm, 62, rfl⟩
abbrev main_while0b_v108 : Ref sig .tc := ⟨.hbm, 63, rfl⟩
abbrev main_while0b_cst_27 : Ref sig .tc := ⟨.hbm, 64, rfl⟩
abbrev main_while0b_v109 : Ref sig .tc := ⟨.hbm, 65, rfl⟩
abbrev main_while0b_v110 : Ref sig .tc := ⟨.hbm, 66, rfl⟩
abbrev main_while0b_call1_v0 : Ref sig .tc := ⟨.hbm, 67, rfl⟩
abbrev main_while0b_call1_cst : Ref sig .tc := ⟨.hbm, 68, rfl⟩
abbrev main_while0b_call1_c : Ref sig .tc := ⟨.hbm, 69, rfl⟩
abbrev main_while0b_call1_v1_0 : Ref sig .tc := ⟨.hbm, 70, rfl⟩
abbrev main_while0b_v111 : Ref sig .tc := ⟨.hbm, 71, rfl⟩
abbrev main_while0b_c_28 : Ref sig .tc := ⟨.hbm, 72, rfl⟩
abbrev main_while0b_v112 : Ref sig .tc := ⟨.hbm, 73, rfl⟩
abbrev main_v5 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_1 : Ref sig .tc := ⟨.hbm, 82, rfl⟩
abbrev main_call2_c_2 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_c_3 : Ref sig .tc := ⟨.hbm, 90, rfl⟩
abbrev main_call2_v11 : Ref sig .tc := ⟨.hbm, 91, rfl⟩
abbrev main_call2_v12 : Ref sig .tc := ⟨.hbm, 92, rfl⟩
abbrev main_call2_v13 : Ref sig .tc := ⟨.hbm, 93, rfl⟩
abbrev main_call2_cst : Ref sig .tc := ⟨.hbm, 94, rfl⟩
abbrev main_call2_v14 : Ref sig .tc := ⟨.hbm, 95, rfl⟩
abbrev main_v6 : Ref sig .tc := ⟨.hbm, 96, rfl⟩
abbrev main_v7 : Ref sig .tc := ⟨.hbm, 97, rfl⟩
abbrev main_cst_3 : Ref sig .tc := ⟨.hbm, 98, rfl⟩
abbrev main_v8 : Ref sig .tc := ⟨.hbm, 99, rfl⟩
abbrev main_v9 : Ref sig .tc := ⟨.hbm, 100, rfl⟩
abbrev main_v10 : Ref sig .tc := ⟨.hbm, 101, rfl⟩
abbrev main_cst_4 : Ref sig .tc := ⟨.hbm, 102, rfl⟩
abbrev main_v11 : Ref sig .tc := ⟨.hbm, 103, rfl⟩
abbrev main_v12 : Ref sig .tc := ⟨.hbm, 104, rfl⟩
abbrev main_v13 : Ref sig .tc := ⟨.hbm, 105, rfl⟩
abbrev main_v14 : Ref sig .tc := ⟨.hbm, 106, rfl⟩
abbrev main_v15 : Ref sig .tc := ⟨.hbm, 107, rfl⟩
abbrev main_cst_5 : Ref sig .tc := ⟨.hbm, 108, rfl⟩
abbrev main_v16 : Ref sig .tc := ⟨.hbm, 109, rfl⟩
abbrev main_v17 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_values : Ref sig .tc := ⟨.hbm, 114, rfl⟩
abbrev main_indices : Ref sig .tc := ⟨.hbm, 115, rfl⟩
abbrev main_v21 : Ref sig .tc := ⟨.hbm, 116, rfl⟩
abbrev main_v22 : Ref sig .tc := ⟨.hbm, 117, rfl⟩
abbrev main_c_6 : Ref sig .tc := ⟨.hbm, 118, rfl⟩
abbrev main_v23 : Ref sig .tc := ⟨.hbm, 119, rfl⟩
abbrev main_v24 : Ref sig .tc := ⟨.hbm, 120, rfl⟩
abbrev main_c_7 : Ref sig .tc := ⟨.hbm, 121, rfl⟩
abbrev main_v25 : Ref sig .tc := ⟨.hbm, 122, rfl⟩
abbrev main_v26 : Ref sig .tc := ⟨.hbm, 123, rfl⟩
abbrev main_v27 : Ref sig .tc := ⟨.hbm, 124, rfl⟩
abbrev main_c_8 : Ref sig .tc := ⟨.hbm, 125, rfl⟩
abbrev main_v28 : Ref sig .tc := ⟨.hbm, 126, rfl⟩
abbrev main_v29 : Ref sig .tc := ⟨.hbm, 127, rfl⟩
abbrev main_c_9 : Ref sig .tc := ⟨.hbm, 128, rfl⟩
abbrev main_v30 : Ref sig .tc := ⟨.hbm, 129, rfl⟩
abbrev main_v31 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_cst_10 : Ref sig .tc := ⟨.hbm, 146, rfl⟩
abbrev main_v47 : Ref sig .tc := ⟨.hbm, 147, rfl⟩
abbrev main_v48 : Ref sig .tc := ⟨.hbm, 148, rfl⟩
abbrev main_cst_11 : Ref sig .tc := ⟨.hbm, 149, rfl⟩
abbrev main_v49 : Ref sig .tc := ⟨.hbm, 150, rfl⟩
abbrev main_v50 : Ref sig .tc := ⟨.hbm, 151, rfl⟩
abbrev main_c_12 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_v4 : Ref sig .tc := ⟨.hbm, 159, rfl⟩
abbrev main_call3_v5 : Ref sig .tc := ⟨.hbm, 160, rfl⟩
abbrev main_call3_v6 : Ref sig .tc := ⟨.hbm, 161, rfl⟩
abbrev main_call3_v7 : Ref sig .tc := ⟨.hbm, 162, rfl⟩
abbrev main_call3_cst_1 : Ref sig .tc := ⟨.hbm, 163, rfl⟩
abbrev main_call3_v8 : Ref sig .tc := ⟨.hbm, 164, rfl⟩
abbrev main_call3_cst_2 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_cst_3 : Ref sig .tc := ⟨.hbm, 170, rfl⟩
abbrev main_call3_v13 : Ref sig .tc := ⟨.hbm, 171, rfl⟩
abbrev main_call3_cst_4 : Ref sig .tc := ⟨.hbm, 172, rfl⟩
abbrev main_call3_call0_v0 : Ref sig .tc := ⟨.hbm, 173, rfl⟩
abbrev main_call3_call0_v1 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_cst_13 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_call4_cst : Ref sig .tc := ⟨.hbm, 190, rfl⟩
abbrev main_call4_v0 : Ref sig .tc := ⟨.hbm, 191, rfl⟩
abbrev main_v65 : Ref sig .tc := ⟨.hbm, 192, rfl⟩
abbrev main_v66 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_cst_14 : Ref sig .tc := ⟨.hbm, 198, rfl⟩
abbrev main_v71 : Ref sig .tc := ⟨.hbm, 199, rfl⟩
abbrev main_v72 : Ref sig .tc := ⟨.hbm, 200, rfl⟩
abbrev main_cst_15 : Ref sig .tc := ⟨.hbm, 201, rfl⟩
abbrev main_v73 : Ref sig .tc := ⟨.hbm, 202, rfl⟩
abbrev main_v74 : Ref sig .tc := ⟨.hbm, 203, rfl⟩
abbrev main_c_16 : Ref sig .tc := ⟨.hbm, 204, rfl⟩
abbrev main_call5_cst : Ref sig .tc := ⟨.hbm, 205, rfl⟩
abbrev main_call5_v0 : Ref sig .tc := ⟨.hbm, 206, rfl⟩
abbrev main_call5_v1 : Ref sig .tc := ⟨.hbm, 207, rfl⟩
abbrev main_call5_cst_0 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_call5_v5 : Ref sig .tc := ⟨.hbm, 212, rfl⟩
abbrev main_call5_v6 : Ref sig .tc := ⟨.hbm, 213, rfl⟩
abbrev main_call5_v7 : Ref sig .tc := ⟨.hbm, 214, rfl⟩
abbrev main_call5_cst_1 : Ref sig .tc := ⟨.hbm, 215, rfl⟩
abbrev main_call5_v8 : Ref sig .tc := ⟨.hbm, 216, rfl⟩
abbrev main_call5_cst_2 : Ref sig .tc := ⟨.hbm, 217, rfl⟩
abbrev main_call5_v9 : Ref sig .tc := ⟨.hbm, 218, rfl⟩
abbrev main_call5_v10 : Ref sig .tc := ⟨.hbm, 219, rfl⟩
abbrev main_call5_v11 : Ref sig .tc := ⟨.hbm, 220, rfl⟩
abbrev main_call5_v12 : Ref sig .tc := ⟨.hbm, 221, rfl⟩
abbrev main_call5_cst_3 : Ref sig .tc := ⟨.hbm, 222, rfl⟩
abbrev main_call5_v13 : Ref sig .tc := ⟨.hbm, 223, rfl⟩
abbrev main_call5_cst_4 : Ref sig .tc := ⟨.hbm, 224, rfl⟩
abbrev main_call5_call0_v0 : Ref sig .tc := ⟨.hbm, 225, rfl⟩
abbrev main_call5_call0_v1 : Ref sig .tc := ⟨.hbm, 226, rfl⟩
abbrev main_v75 : Ref sig .tc := ⟨.hbm, 227, rfl⟩
abbrev main_v76 : Ref sig .tc := ⟨.hbm, 228, rfl⟩
abbrev main_v77 : Ref sig .tc := ⟨.hbm, 229, rfl⟩
abbrev main_cst_17 : Ref sig .tc := ⟨.hbm, 230, rfl⟩
abbrev main_v78 : Ref sig .tc := ⟨.hbm, 231, rfl⟩
abbrev main_v79 : Ref sig .tc := ⟨.hbm, 232, rfl⟩
abbrev main_v80 : Ref sig .tc := ⟨.hbm, 233, rfl⟩
abbrev main_v81 : Ref sig .tc := ⟨.hbm, 234, rfl⟩
abbrev main_v82 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_v87 : Ref sig .tc := ⟨.hbm, 240, rfl⟩
abbrev main_v88 : Ref sig .tc := ⟨.hbm, 241, rfl⟩
abbrev main_call6_cst : Ref sig .tc := ⟨.hbm, 242, rfl⟩
abbrev main_call6_v0 : Ref sig .tc := ⟨.hbm, 243, rfl⟩
abbrev main_v89 : Ref sig .tc := ⟨.hbm, 244, rfl⟩
abbrev main_v90 : Ref sig .tc := ⟨.hbm, 245, rfl⟩
abbrev main_v91 : Ref sig .tc := ⟨.hbm, 246, rfl⟩
abbrev main_v92 : Ref sig .tc := ⟨.hbm, 247, rfl⟩
abbrev main_v93 : Ref sig .tc := ⟨.hbm, 248, rfl⟩
abbrev main_v94 : Ref sig .tc := ⟨.hbm, 249, rfl⟩
abbrev main_cst_18 : Ref sig .tc := ⟨.hbm, 250, rfl⟩
abbrev main_v95 : Ref sig .tc := ⟨.hbm, 251, rfl⟩
abbrev main_v96 : Ref sig .tc := ⟨.hbm, 252, rfl⟩

abbrev nD : Nat := 1
abbrev τ : Topo := Topo.v7x

variable {F : FTy → Type} [FloatOps F]

abbrev main_while0_count : Scf.Loop 32 := ⟨0#32, 1024#32, 1#32⟩
-- ==== Proof.Chunk.lean ====
/-
  The gather kernel's chunk, on any buffers of a vector subcore: what the sixteen-lane loads read from a plane and what
  the sixteen-lane stores leave in the packed block, and splitting five summands off a big separating conjunction.
-/
module

public import Idealize.ShloMosaic.Lib.SparseCore.Quiescent
public import Idealize.ShloMosaic.Lib.SparseCore.Ops
public import Idealize.ShloMosaic.Lib.Tactic
public import proofs.«01_k».proof.Proof.Gen.KernelIdeal

@[expose] public section

noncomputable section

namespace Cert.Proof.Chunk

open Cert.KernelIdeal (S16 S128 S2048 S16384 S131072 S196608 S2097152)
open Idealize.ShloMosaic
open Idealize.SL Idealize.SL.RA Idealize.SL.BI
open scoped Idealize.SL.BI
open Idealize.SL.BI.BIBase Idealize.SL.BI.Laws Idealize.SL.Sem

/-- Overwriting places in turn, each `k` of a list its place `at k` with `v k`: a place that only `k₀` names holds `v k₀`
    once `k₀` has been taken. -/
theorem foldl_hit {ι α β : Type} (named : ι → α → Prop) [∀ k y, Decidable (named k y)] (v : ι → β) (y : α) (k₀ : ι)
    (h₀ : named k₀ y) (h₁ : ∀ k, named k y → k = k₀) (l : List ι) :
    ∀ g : α → β, (k₀ ∈ l ∨ g y = v k₀) → l.foldl (fun g k => fun j => if named k j then v k else g j) g y = v k₀ := by
  induction l with
  | nil => intro g h; exact h.resolve_left (List.not_mem_nil)
  | cons k l ih =>
    intro g h
    refine ih _ ?_
    by_cases hk : named k y
    · exact .inr ((if_pos hk).trans (by rw [h₁ k hk]))
    · rcases h with h | h
      · rcases List.mem_cons.mp h with rfl | h
        · exact absurd h₀ hk
        · exact .inl h
      · exact .inr ((if_neg hk).trans h)

/-- A place no `k` names keeps what it held. -/
theorem foldl_miss {ι α β : Type} (named : ι → α → Prop) [∀ k y, Decidable (named k y)] (v : ι → β) (y : α)
    (h₁ : ∀ k, ¬ named k y) (l : List ι) :
    ∀ g : α → β, l.foldl (fun g k => fun j => if named k j then v k else g j) g y = g y := by
  induction l with
  | nil => intro g; rfl
  | cons k l ih => intro g; rw [List.foldl_cons, ih]; exact if_neg (h₁ k)

variable {F : FTy → Type} [FloatOps F] {sig : RefSig}

/-- A full-mask indexed store at pairwise distinct places: an element some lane names holds that lane's value, every
    other element what it held before. -/
theorem storeIdx_hit (f : S2048.Idx → F .f32) (pos : IVec S16 32) (v : S16.Idx → F .f32)
    (h : ∀ a x, ((![pos] : Fin 1 → IVec S16 32) a x).toNat < S2048.size a)
    (hinj : ∀ x y : S16.Idx, (pos x).toNat = (pos y).toNat → x = y) (y : S2048.Idx) (x : S16.Idx) (hx : (y 0).val = (pos x).toNat) :
    storeIdx (F := F) (s := S2048) (e := .f32) (d := S16.size) f ![pos] v (fun _ => 1#1) false h y = v x := by
  have e : x = Shape.ofLane (d := S16.size) (x 0) := by
    funext a; obtain rfl : a = 0 := Subsingleton.elim _ _; rfl
  have hall : ∀ i : S2048.Idx, (∀ a, (y a).val = (i a).val) ↔ (y 0).val = (i 0).val :=
    fun i => ⟨fun h => h 0, fun h a => by obtain rfl : a = 0 := Subsingleton.elim _ _; exact h⟩
  have := foldl_hit (fun (k : Fin (S16.size 0)) (j : S2048.Idx) => ∀ a, (j a).val = (idxAt (s := S2048) ![pos] h (Shape.ofLane (d := S16.size) k) a).val)
    (fun k => v (Shape.ofLane (d := S16.size) k)) y (x 0) ((hall _).mpr (by rw [← e]; exact hx))
    (fun k hk => by
      have h1 := (hall _).mp hk
      have h2 : x = Shape.ofLane (d := S16.size) k := hinj _ _ (hx.symm.trans h1)
      rw [h2]; rfl) (List.finRange _) f (.inl (List.mem_finRange _))
  rw [← e] at this
  simpa only [storeIdx, show ((1#1 : BitVec 1) = 1) = True from eq_true rfl, ↓reduceIte, Bool.false_eq_true] using this

theorem storeIdx_miss (f : S2048.Idx → F .f32) (pos : IVec S16 32) (v : S16.Idx → F .f32)
    (h : ∀ a x, ((![pos] : Fin 1 → IVec S16 32) a x).toNat < S2048.size a)
    (y : S2048.Idx) (hx : ∀ x, (y 0).val ≠ (pos x).toNat) :
    storeIdx (F := F) (s := S2048) (e := .f32) (d := S16.size) f ![pos] v (fun _ => 1#1) false h y = f y := by
  have := foldl_miss (fun (k : Fin (S16.size 0)) (j : S2048.Idx) => ∀ a, (j a).val = (idxAt (s := S2048) ![pos] h (Shape.ofLane (d := S16.size) k) a).val)
    (fun k => v (Shape.ofLane (d := S16.size) k)) y (fun k hk => hx _ (hk 0)) (List.finRange _) f
  simpa only [storeIdx, show ((1#1 : BitVec 1) = 1) = True from eq_true rfl, ↓reduceIte, Bool.false_eq_true] using this

/-- The first `n` stores are in the block `f`: store `3 * i + k` puts, for lane `l`, plane `k` at the index word
    `16 * i + l` of the chunk, at word `k` of packed row `16 * i + l`. -/
def Done (pl : Fin 3 → S16384.Idx → F .f32) (w : S128.Idx → BitVec 32) (n : ℕ) (f : S2048.Idx → F .f32) : Prop :=
  ∀ (k : Fin 3) (j : S128.Idx) (y : S2048.Idx) (p : S16384.Idx), 3 * ((j 0).val / 16) + k.val < n → (y 0).val = 16 * (j 0).val + k.val →
    (p 0).val = (w j).toNat → f y = pl k p

theorem Done.zero (pl : Fin 3 → S16384.Idx → F .f32) (w : S128.Idx → BitVec 32) (f : S2048.Idx → F .f32) : Done pl w 0 f :=
  fun _ _ _ _ h => absurd h (Nat.not_lt_zero _)

/-- A load of everything reads the view. -/
theorem readAt_all {s : Shape} {e : EltTy} {sp : Space} (M : Memref sig .scVector sp s e) (g : M.view.ty.Contents (Elt F)) :
    M.view.readAt (Elt F) (LoadRect.whole s) g = M.view.read (Elt F) g := by
  funext x
  rw [View.readAt_apply]
  congr 1
  funext a
  apply Fin.ext
  rw [LoadRect.idx_apply]
  show 0 + 1 * (x a).val = _
  omega

variable (M : Memref sig .scVector .vmem S2048 .f32)

/-- One more store. -/
theorem Done.step (pl : Fin 3 → S16384.Idx → F .f32) (w : S128.Idx → BitVec 32) (i : ℕ) (k : Fin 3) {f : S2048.Idx → F .f32} {pos : IVec S16 32} {v : S16.Idx → F .f32}
    {h : ∀ a x, ((![pos] : Fin 1 → IVec S16 32) a x).toNat < S2048.size a}
    (hpos : ∀ x : S16.Idx, (pos x).toNat = 16 * (16 * i + (x 0).val) + k.val)
    (hv : ∀ (x : S16.Idx) (j : S128.Idx) (p : S16384.Idx), (j 0).val = 16 * i + (x 0).val → (p 0).val = (w j).toNat → v x = pl k p)
    (n : ℕ) (hn : n = 3 * i + k.val) (hf : Done pl w n f) (L : List (View.Piece (Elt F) S2048 .f32)) (base : M.view.ty.Contents (Elt F)) :
    Done pl w (n + 1) (M.view.read (Elt F) (M.view.writes (Elt F) base
      (⟨Rect.whole S2048, storeIdx (F := F) (s := S2048) (e := .f32) (d := S16.size) f ![pos] v (fun _ => 1#1) false h⟩ :: L))) := by
  subst hn
  intro k' j y p hlt hy hp
  have hk := k.isLt; have hk' := k'.isLt
  have e : (Rect.whole S2048).emb y = y := by
    funext a; apply Fin.ext; show 0 + 1 * (y a).val = _; omega
  have := View.read_writes_cons_emb (v := M.view) (f := base) (Rect.whole S2048)
    (storeIdx (F := F) (s := S2048) (e := .f32) (d := S16.size) f ![pos] v (fun _ => 1#1) false h) L y
  rw [e] at this
  refine this.trans ?_
  by_cases hit : (j 0).val / 16 = i ∧ k' = k
  · obtain ⟨hi, rfl⟩ := hit
    let x : S16.Idx := Shape.ofLane (d := S16.size) ⟨(j 0).val % 16, (Nat.mod_lt _ (by decide) : (j 0).val % 16 < 16)⟩
    have hx : (x 0).val = (j 0).val % 16 := rfl
    have hj : (j 0).val = 16 * i + (x 0).val := by omega
    rw [storeIdx_hit f pos v h ?_ y x (by rw [hpos]; omega)]
    · exact hv x j p hj hp
    · intro x y hxy
      rw [hpos, hpos] at hxy
      funext a; obtain rfl : a = 0 := Subsingleton.elim _ _
      exact Fin.ext (by omega)
  · rw [storeIdx_miss f pos v h y]
    · refine hf k' j y p ?_ hy hp
      have : (j 0).val / 16 ≠ i ∨ k'.val ≠ k.val := by
        by_contra hc; push Not at hc; exact hit ⟨hc.1, Fin.ext hc.2⟩
      omega
    · intro x hx
      have hx16 : (x 0).val < 16 := (x 0).isLt
      rw [hpos] at hx
      refine hit ⟨by omega, Fin.ext (by omega)⟩

/-- One more store, as the next store reads it back: store `n` is store `n % 3` of vector `n / 3`. -/
theorem Done.stepCov (pl : Fin 3 → S16384.Idx → F .f32) (w : S128.Idx → BitVec 32) (n : ℕ)
    {f : S2048.Idx → F .f32} {pos : IVec S16 32} {v : S16.Idx → F .f32}
    {h : ∀ a x, ((![pos] : Fin 1 → IVec S16 32) a x).toNat < S2048.size a}
    (hpos : ∀ x : S16.Idx, (pos x).toNat = 16 * (16 * (n / 3) + (x 0).val) + n % 3)
    (hv : ∀ (x : S16.Idx) (j : S128.Idx) (p : S16384.Idx), (j 0).val = 16 * (n / 3) + (x 0).val → (p 0).val = (w j).toNat → v x = pl ⟨n % 3, Nat.mod_lt _ (by decide)⟩ p)
    (L : List (View.Piece (Elt F) S2048 .f32)) (hf : Done pl w n f) :
    Done pl w (n + 1) (M.view.readCov
      (⟨Rect.whole S2048, storeIdx (F := F) (s := S2048) (e := .f32) (d := S16.size) f ![pos] v (fun _ => 1#1) false h⟩ :: L) (LoadRect.whole S2048)) := by
  unfold View.readCov
  rw [show ∀ g : M.view.ty.Contents (Elt F), M.view.readAt (Elt F) (LoadRect.whole S2048) g = M.view.read (Elt F) g from fun g => readAt_all M g]
  exact Done.step M pl w (n / 3) ⟨n % 3, Nat.mod_lt _ (by decide)⟩ hpos hv n (Nat.div_add_mod n 3).symm hf L _

section Loads

variable (Q : Memref sig .scVector .vmem S128 .i32) (fi : Q.view.ty.Contents (Elt F))

/-- Lane `x` of sixteen index words read from word `o` of the chunk just fetched. -/
theorem word_val (w : S128.Idx → BitVec 32) (o : Fin 1 → Nat) (ho : ∀ a, o a + S16.size a ≤ S128.size a) (x : S16.Idx) (j : S128.Idx) (hj : (j 0).val = o 0 + (x 0).val) :
    Q.view.readAt (Elt F) (Rect.unit (s := S128) o S16.size ho).toLoadRect (Q.view.write (Elt F) fi w Finset.univ) x = w j := by
  rw [View.readAt_apply, View.read_write_univ]
  congr 1
  funext a; obtain rfl : a = 0 := Subsingleton.elim _ _
  apply Fin.ext
  rw [LoadRect.idx_apply]
  show o 0 + 1 * (x 0).val = _
  omega

/-- The range checks on sixteen indices read from the fetched chunk pass when every word of the chunk is in range. -/
theorem chk_load {w : S128.Idx → BitVec 32} (hw : ∀ j, (w j).toNat < 16384) (o : Fin 1 → Nat) (ho : ∀ a, o a + S16.size a ≤ S128.size a) :
    ∀ a x, ((![Q.view.readAt (Elt F) (Rect.unit (s := S128) o S16.size ho).toLoadRect (Q.view.write (Elt F) fi w Finset.univ)] : Fin 1 → IVec S16 32) a x).toNat < S16384.size a := by
  intro a x
  obtain rfl : a = 0 := Subsingleton.elim _ _
  show (Q.view.readAt (Elt F) (Rect.unit (s := S128) o S16.size ho).toLoadRect (Q.view.write (Elt F) fi w Finset.univ) x : BitVec 32).toNat < 16384
  rw [View.readAt_apply, View.read_write_univ]
  exact hw _

/-- Lane `x` of an indexed load from a plane, at the sixteen index words read from word `o` of the chunk. -/
theorem load_val (P : Memref sig .scVector .vmem S16384 .f32) (f : P.view.ty.Contents (Elt F)) (w : S128.Idx → BitVec 32) (o : Fin 1 → Nat) (ho : ∀ a, o a + S16.size a ≤ S128.size a)
    (h : ∀ a x, ((![Q.view.readAt (Elt F) (Rect.unit (s := S128) o S16.size ho).toLoadRect (Q.view.write (Elt F) fi w Finset.univ)] : Fin 1 → IVec S16 32) a x).toNat < S16384.size a)
    (x : S16.Idx) (j : S128.Idx) (p : S16384.Idx) (hj : (j 0).val = o 0 + (x 0).val) (hp : (p 0).val = (w j).toNat) :
    loadIdx (F := F) (s := S16384) (e := .f32) (P.view.readAt (Elt F) (LoadRect.whole S16384) f)
      ![Q.view.readAt (Elt F) (Rect.unit (s := S128) o S16.size ho).toLoadRect (Q.view.write (Elt F) fi w Finset.univ)] h x
      = P.view.read (Elt F) f p := by
  rw [readAt_all]
  unfold loadIdx
  congr 1
  funext a; obtain rfl : a = 0 := Subsingleton.elim _ _
  apply Fin.ext
  show (Q.view.readAt (Elt F) (Rect.unit (s := S128) o S16.size ho).toLoadRect (Q.view.write (Elt F) fi w Finset.univ) x : BitVec 32).toNat = _
  rw [word_val Q fi w o ho x j hj, hp]

end Loads

/-! ## The chunk in the packed output -/

/-- The chunk of rows from `o2` on holds the gathered rows: word `k` of packed row `r` is plane `k` at the index of row `r`. -/
def ChunkOk (o2 : ℕ) (I : S131072.Idx → BitVec 32) (pl : Fin 3 → S16384.Idx → F .f32) (g : S2097152.Idx → F .f32) : Prop :=
  ∀ (k : Fin 3) (r : S131072.Idx) (o : S2097152.Idx) (p : S16384.Idx), o2 ≤ (r 0).val → (r 0).val < o2 + 128 →
    (o 0).val = 16 * (r 0).val + k.val → (p 0).val = (I r).toNat → g o = pl k p

/-- The chunk written out from a finished block. -/
theorem chunkOk_of_done (iV : Memref sig .scVector .hbm S131072 .i32) (oV : Memref sig .scVector .hbm S2097152 .f32) (o2 o3 : Fin 1 → ℕ)
    (h2 : ∀ a, o2 a + S128.size a ≤ S131072.size a) (h3 : ∀ a, o3 a + S2048.size a ≤ S2097152.size a) (h : o3 0 = 16 * o2 0)
    (I : iV.view.ty.Contents (Elt F)) (pl : Fin 3 → S16384.Idx → F .f32) (g : oV.view.ty.Contents (Elt F)) (f : S2048.Idx → F .f32)
    (hD : Done pl (ReadAs.same.apply ((iV.slice (Rect.unit o2 S128.size h2) (fun _ => rfl)).view.read (Elt F) I)) 24 f) :
    ChunkOk (o2 0) (iV.view.read (Elt F) I) pl
      (oV.view.read (Elt F) ((oV.slice (Rect.unit (s := S2097152) o3 S2048.size h3) (fun _ => rfl)).view.writes (Elt F) g [⟨Rect.whole S2048, f⟩])) := by
  intro k r o p a1 a2 ho hp
  have hk := k.isLt
  have hj : (r 0).val - o2 0 < 128 := by omega
  have hy : 16 * ((r 0).val - o2 0) + k.val < 2048 := by omega
  let j : S128.Idx := Shape.ofLane (d := S128.size) ⟨(r 0).val - o2 0, hj⟩
  let y : S2048.Idx := Shape.ofLane (d := S2048.size) ⟨16 * ((r 0).val - o2 0) + k.val, hy⟩
  have e := View.read_writes_cons_emb (v := (oV.slice (Rect.unit (s := S2097152) o3 S2048.size h3) (fun _ => rfl)).view) (f := g) (Rect.whole S2048) f [] y
  have ey : (Rect.whole S2048).emb y = y := by
    funext a; apply Fin.ext; show 0 + 1 * (y a).val = _; omega
  rw [ey] at e
  have eo : (Rect.unit (s := S2097152) o3 S2048.size h3).emb y = o := by
    funext (a : Fin 1); obtain rfl : a = 0 := Subsingleton.elim _ _
    apply Fin.ext
    show o3 0 + 1 * (16 * ((r 0).val - o2 0) + k.val) = _
    omega
  have er : (Rect.unit (s := S131072) o2 S128.size h2).emb j = r := by
    funext (a : Fin 1); obtain rfl : a = 0 := Subsingleton.elim _ _
    apply Fin.ext
    show o2 0 + 1 * ((r 0).val - o2 0) = _
    omega
  rw [← eo]
  refine Eq.trans e (hD k j y p ?_ rfl ?_)
  · show 3 * (((r 0).val - o2 0) / 16) + k.val < 24
    omega
  · rw [hp, ← er]
    rfl

/-- `y` is what place `o` of the packed output has to hold: lane `k` of row `r` is coordinate `k` of the point that row's index names. -/
def GoodAt (I : S131072.Idx → BitVec 32) (X : S196608.Idx → F .f32) (o : S2097152.Idx) (y : F .f32) : Prop :=
  ∀ (k : Fin 3) (r : S131072.Idx) (j : S196608.Idx), (o 0).val = 16 * (r 0).val + k.val →
    (j 0).val = (3 * ((r 0).val / 32768) + k.val) * 16384 + (I r).toNat → y = X j

/-- Every place of the chunk from `o3` on is good. -/
def ChunkVal (o3 : ℕ) (I : S131072.Idx → BitVec 32) (X : S196608.Idx → F .f32) (g : S2097152.Idx → F .f32) : Prop :=
  ∀ o : S2097152.Idx, o3 ≤ (o 0).val → (o 0).val < o3 + 2048 → GoodAt I X o (g o)

/-- `p` is plane `r` of subcore `u`'s batch. -/
def PlaneOk (u : ℕ) (X : S196608.Idx → F .f32) (r : ℕ) (p : S16384.Idx → F .f32) : Prop :=
  ∀ (i : S16384.Idx) (j : S196608.Idx), (j 0).val = (3 * (u / 4) + r) * 16384 + (i 0).val → p i = X j

theorem chunkVal_of_ok (u c t : ℕ) (hc : c < 2) (ht : t < 32) {o2 o3 : ℕ} (e2 : o2 = 8192 * u + 4096 * c + 128 * t) (e3 : o3 = 131072 * u + 65536 * c + 2048 * t)
    (I : S131072.Idx → BitVec 32) (X : S196608.Idx → F .f32) (hI : ∀ j, (I j).toNat < 16384) (px py pz : S16384.Idx → F .f32)
    (hx : PlaneOk u X 0 px) (hy : PlaneOk u X 1 py) (hz : PlaneOk u X 2 pz) (g : S2097152.Idx → F .f32) (h : ChunkOk o2 I ![px, py, pz] g) : ChunkVal o3 I X g := by
  intro o h1 h2 k r j ho hj
  have hk := k.isLt
  obtain ⟨p, hp⟩ : ∃ p : S16384.Idx, (p 0).val = (I r).toNat :=
    ⟨fun a => ⟨(I r).toNat, by obtain rfl : a = 0 := Subsingleton.elim _ _; exact hI r⟩, rfl⟩
  have a1 : o2 ≤ (r 0).val := by omega
  have a2 : (r 0).val < o2 + 128 := by omega
  have hq := h k r o p a1 a2 ho hp
  rw [hq]
  have hb : (r 0).val / 32768 = u / 4 := by omega
  rw [hb, ← hp] at hj
  clear hq a1 a2 h2 h1 ho h
  obtain rfl | rfl | rfl : k = 0 ∨ k = 1 ∨ k = 2 := by omega
  · exact hx p j hj
  · exact hy p j hj
  · exact hz p j hj

/-- A plane fetched from the flat point array. -/
theorem plane_read (xV : Memref sig .scVector .hbm S196608 .f32) (X : xV.view.ty.Contents (Elt F)) (u r : ℕ) (o : Fin 1 → ℕ) (ho : ∀ a, o a + S16384.size a ≤ S196608.size a)
    (h : o 0 = (3 * (u / 4) + r) * 16384) : PlaneOk (F := F) u (xV.view.read (Elt F) X) r ((xV.slice (Rect.unit (s := S196608) o S16384.size ho) (fun _ => rfl)).view.read (Elt F) X) := by
  intro i j hij
  show xV.view.read (Elt F) X ((Rect.unit (s := S196608) o S16384.size ho).emb i) = _
  congr 1
  funext (a : Fin 1)
  obtain rfl : a = 0 := Subsingleton.elim _ _
  apply Fin.ext
  rw [hij, ← h]
  show o 0 + 1 * (i 0).val = _
  omega

/-- Five members of a finite set split off a big separating conjunction. -/
theorem bigSep_five {ι : Type} [DecidableEq ι] {M : Type} [URA M] {s : Finset ι} {a b c d e : ι} (hs : ∀ i ∈ [a, b, c, d, e], i ∈ s) (hn : [a, b, c, d, e].Nodup) {Φ : ι → sProp M} :
    bigSep s Φ = iprop(Φ a ∗ Φ b ∗ Φ c ∗ Φ d ∗ Φ e ∗ bigSep (((((s.erase a).erase b).erase c).erase d).erase e) Φ) := by
  simp only [List.nodup_cons, List.mem_cons, List.not_mem_nil, or_false, not_or, not_false_eq_true, List.nodup_nil, and_true, forall_eq_or_imp, forall_eq] at hs hn
  obtain ⟨⟨ab, ac, ad, ae⟩, ⟨bc, bd, be⟩, ⟨cd, ce⟩, de⟩ := hn
  obtain ⟨ha, hb, hc, hd, he⟩ := hs
  rw [SparseCore.bigSep_erase' ha, SparseCore.bigSep_erase' (s := s.erase a) (i := b), SparseCore.bigSep_erase' (s := (s.erase a).erase b) (i := c),
    SparseCore.bigSep_erase' (s := ((s.erase a).erase b).erase c) (i := d), SparseCore.bigSep_erase' (s := (((s.erase a).erase b).erase c).erase d) (i := e)]
  all_goals simp only [Finset.mem_erase, ne_eq]; tauto

/-! ## Pieces done one after the other -/

section Stage
variable {M : Type} [URA M] {n : ℕ} {β : Type} (G : Fin n → β → Prop) (R : Fin n → β → sProp M)

/-- Piece `t` after `k` trips: done when its trip is over. -/
def stage (k : ℕ) (t : Fin n) : sProp M := iprop(∃ g, ⌜t.val < k → G t g⌝ ∗ R t g)

theorem stage_next (t : Fin n) : bigSep (Finset.univ.erase t) (stage G R t.val) ⊢ bigSep (Finset.univ.erase t) (stage G R (t.val + 1)) := by
  refine bigSep_mono fun t' ht' => ?_
  show stage G R t.val t' ⊢ stage G R (t.val + 1) t'
  unfold stage
  iintro ⟨%g, %hg, H⟩
  iexists g
  isplitr
  · ipureintro
    intro h
    have : t'.val ≠ t.val := fun e => (Finset.mem_erase.mp ht').1 (Fin.ext e)
    exact hg (by omega)
  · iexact H

theorem stage_start (g : β) : (bigSep Finset.univ fun t : Fin n => R t g) ⊢ bigSep Finset.univ (stage G R 0) := by
  refine bigSep_mono fun t _ => ?_
  show R t g ⊢ stage G R 0 t
  unfold stage
  iintro H
  iexists g
  isplitr
  · ipureintro; intro h; exact absurd h (Nat.not_lt_zero _)
  · iexact H

theorem stage_end : bigSep Finset.univ (stage G R n) ⊢ bigSep Finset.univ fun t : Fin n => iprop(∃ g, ⌜G t g⌝ ∗ R t g) := by
  refine bigSep_mono fun t _ => ?_
  show stage G R n t ⊢ iprop(∃ g, ⌜G t g⌝ ∗ R t g)
  unfold stage
  iintro ⟨%g, %hg, H⟩
  iexists g
  isplitr
  · ipureintro; exact hg t.isLt
  · iexact H

end Stage

end Cert.Proof.Chunk
end
-- ==== Proof.Tile.lean ====
/-
  One vector subcore's task of the gather kernel.
-/
module

public import proofs.«01_k».proof.Defs
public import proofs.«01_k».proof.Proof.Chunk
public import Idealize.ShloMosaic.Lib.SparseCore.Quiescent
public import Idealize.ShloMosaic.Lib.SparseCore.Ops
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunk

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev iV : Memref sig .scVector .hbm S131072 .i32 := Memref.whole main_v0_scv
abbrev xV : Memref sig .scVector .hbm S196608 .f32 := Memref.whole main_v1_scv
abbrev oV : Memref sig .scVector .hbm S2097152 .f32 := Memref.whole main_v2_scv
abbrev sX : Memref sig .scVector .vmem S16384 .f32 := Memref.whole cc0_scratch0
abbrev sY : Memref sig .scVector .vmem S16384 .f32 := Memref.whole cc0_scratch1
abbrev sZ : Memref sig .scVector .vmem S16384 .f32 := Memref.whole cc0_scratch2
abbrev sI : Memref sig .scVector .vmem S128 .i32 := Memref.whole cc0_scratch3
abbrev sO : Memref sig .scVector .vmem S2048 .f32 := Memref.whole cc0_scratch4

abbrev cV (L : grid0.Coords) : Fin τ.nSC := (L 0).castLE hcore0
abbrev jV (L : grid0.Coords) : Fin τ.nSub := (L 1).castLE hsub0

variable [FloatOps F]

section Tile

variable (d : Dev nD) (L : grid0.Coords)
abbrev VT : Thread nD τ := V d (cV L) (jV L)

theorem chk {w : S128.Idx → BitVec 32} (fi : (sI).view.ty.Contents (Elt F)) (hw : ∀ j, (w j).toNat < 16384) (o : Fin 1 → Nat) (ho : ∀ a, o a + S16.size a ≤ S128.size a) :
    k0_chk1 ((sI).view.readAt (Elt F) (Rect.unit (s := S128) o S16.size ho).toLoadRect ((sI).view.write (Elt F) fi w Finset.univ)) :=
  ⟨chk_load sI fi hw o ho, chk_load sI fi hw o ho, chk_load sI fi hw o ho⟩

abbrev oChunk (t : Fin k0_t1_loop.trips) : Memref sig .scVector .hbm S2048 .f32 :=
  (oV : Memref sig .scVector .hbm S2097152 .f32).slice (Rect.unit (s := S2097152) (k0_off3 L t) S2048.size (k0_off3_inb L t)) (fun _ => rfl)

set_option maxHeartbeats 1600000 in
/-- One trip of the chunk loop: the chunk of indices fetched, eight vectors gathered, the packed block written out. -/
theorem trip (O : CellTallies nD τ sig (HIx 1)) (W : Waits sig (HIx 1)) (t : Fin k0_t1_loop.trips) (q : PosShare TreeShare)
    (I : Buf (Elt F) ((iV).view.loc (VT d L))) (hI : ∀ j : S131072.Idx, (I j : BitVec 32).toNat < 16384)
    (px : Buf (Elt F) ((sX).view.loc (VT d L))) (py : Buf (Elt F) ((sY).view.loc (VT d L))) (pz : Buf (Elt F) ((sZ).view.loc (VT d L)))
    (fi : Buf (Elt F) ((sI).view.loc (VT d L))) (fo : Buf (Elt F) ((sO).view.loc (VT d L))) (g : Buf (Elt F) ((oV).view.loc (VT d L))) (v19 : BitVec 32) :
    iprop(Transfers.MayWaits (VT d L) (none : HIx 1) O
      ∗ ((iV).view.loc (VT d L) ↦{q} I)
      ∗ ((sX).view.loc (VT d L) ↦{fullShare} px) ∗ ((sY).view.loc (VT d L) ↦{fullShare} py) ∗ ((sZ).view.loc (VT d L) ↦{fullShare} pz)
      ∗ ((sI).view.loc (VT d L) ↦{fullShare} fi) ∗ ((sO).view.loc (VT d L) ↦{fullShare} fo)
      ∗ ((oChunk L t).view.loc (VT d L) ↦[(oChunk L t).view.set]{fullShare} g)
      ∗ semVal (VT d L, SemLoc.dma cc0_scoped3.sem) 0 ∗ semVal (VT d L, SemLoc.dma cc0_scoped4.sem) 0
      ∗ owes (VT d L) O W : sProp 𝕄)
      ⊢ wp frame (wpE (defs₀ (F := F)) 𝒱₀ (VT d L) none) Set.univ
          (k0_t1_body (F := F) L iV (Memref.isWhole_whole _) xV (Memref.isWhole_whole _) oV (Memref.isWhole_whole _)
            sX (Memref.isWhole_whole _) sY (Memref.isWhole_whole _) sZ (Memref.isWhole_whole _) sI (Memref.isWhole_whole _) sO (Memref.isWhole_whole _)
            cc0_scoped0 cc0_scoped1 cc0_scoped2 cc0_scoped3 cc0_scoped4 v19 (iota .scVector S16 32 [0] iota_S16_d0_w32_scVector) t ⟨⟩)
          fun _ => iprop(Transfers.MayWaits (VT d L) (none : HIx 1) O
            ∗ ((iV).view.loc (VT d L) ↦{q} I)
            ∗ ((sX).view.loc (VT d L) ↦{fullShare} px) ∗ ((sY).view.loc (VT d L) ↦{fullShare} py) ∗ ((sZ).view.loc (VT d L) ↦{fullShare} pz)
            ∗ (∃ fi, (sI).view.loc (VT d L) ↦{fullShare} fi) ∗ (∃ fo, (sO).view.loc (VT d L) ↦{fullShare} fo)
            ∗ (∃ g, ⌜ChunkOk (k0_off2 L t 0) I ![px, py, pz] g⌝ ∗ (oChunk L t).view.loc (VT d L) ↦[(oChunk L t).view.set]{fullShare} g)
            ∗ semVal (VT d L, SemLoc.dma cc0_scoped3.sem) 0 ∗ semVal (VT d L, SemLoc.dma cc0_scoped4.sem) 0
            ∗ ∃ W', ⌜∀ p ∈ W', p ∈ W ∨ p.2 = none⌝ ∗ owes (VT d L) O W') := by
  unfold k0_t1_body
  rw [k0_part1_eq_skeleton, k0_part2_eq_skeleton, k0_part3_eq_skeleton]
  unfold k0_part1_skel k0_part2_skel k0_part3_skel SparseCore.vectorLoadIdx SparseCore.vectorStoreIdx
  iintro ⟨Hmw, Hi, Hx, Hy, Hz, Hsi, Hso, Ho, Hs3, Hs4, HO⟩
  sl_exec (disch := first | (exact chk _ (fun j => hI _) _ _) | decide +kernel)
  have hD : Done (F := F) ![px, py, pz] (trip.sl.dma0 d L t I) 24 (trip.sl.dma80 d L t I hI px py pz fi fo) := by
    refine Done.step (F := F) sO ![px, py, pz] (trip.sl.dma0 d L t I) 7 2 (by decide +kernel) (fun x j p hj hp => load_val (F := F) sI fi sZ pz _ _ _ _ x j p hj hp) 23 rfl ?_ _ _
    refine Done.stepCov (F := F) sO ![px, py, pz] (trip.sl.dma0 d L t I) _ (by decide +kernel) (fun x j p hj hp => load_val (F := F) sI fi sY py _ _ _ _ x j p hj hp) _ ?_
    refine Done.stepCov (F := F) sO ![px, py, pz] (trip.sl.dma0 d L t I) _ (by decide +kernel) (fun x j p hj hp => load_val (F := F) sI fi sX px _ _ _ _ x j p hj hp) _ ?_
    iterate 7
      refine Done.stepCov (F := F) sO ![px, py, pz] (trip.sl.dma0 d L t I) _ (by decide +kernel) (fun x j p hj hp => load_val (F := F) sI fi sZ pz _ _ _ _ x j p hj hp) _ ?_
      refine Done.stepCov (F := F) sO ![px, py, pz] (trip.sl.dma0 d L t I) _ (by decide +kernel) (fun x j p hj hp => load_val (F := F) sI fi sY py _ _ _ _ x j p hj hp) _ ?_
      refine Done.stepCov (F := F) sO ![px, py, pz] (trip.sl.dma0 d L t I) _ (by decide +kernel) (fun x j p hj hp => load_val (F := F) sI fi sX px _ _ _ _ x j p hj hp) _ ?_
    exact Done.zero _ _ _
  have hC := chunkOk_of_done iV oV (k0_off2 L t) (k0_off3 L t) (k0_off2_inb L t) (k0_off3_inb L t)
    (by rw [k0_off2_eq, k0_off3_eq]; show _ + _ + _ = 16 * (_ + _ + _); omega) I ![px, py, pz] g _ hD
  sl_step
  isplitl [Hmw]; · iexact Hmw
  isplitl [Hi]; · iexact Hi
  isplitl [Hx]; · iexact Hx
  isplitl [Hy]; · iexact Hy
  isplitl [Hz]; · iexact Hz
  isplitl [Hsi]; · iexists _; iexact Hsi
  isplitl [Hso]; · iexists _; iexact Hso
  isplitl [Ho]
  · iexists _; isplitr; · ipureintro; exact hC
    iexact Ho
  isplitl [Hs3]; · iexact Hs3
  isplitl [Hs4]; · iexact Hs4
  iexists _; isplitr; rotate_left
  · iexact HO
  · ipureintro; intro p hp
    rcases Finset.mem_insert.mp hp with rfl | hp
    · exact .inr rfl
    rcases Finset.mem_insert.mp hp with rfl | hp
    · exact .inr rfl
    · exact .inl hp

end Tile
end Cert.Proof.Gather
end
-- ==== Proof.Task.lean ====
/-
  One vector subcore's whole task: three planes fetched, then thirty-two chunks gathered.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Chunk (GoodAt PlaneOk stage stage_next stage_start stage_end bigSep_five chunkVal_of_ok plane_read)

variable {F : FTy → Type}
local notation "𝕄" => MT nD τ sig (HIx 1) (Elt F) ℕ UU ℕ

variable [FloatOps F]

section Task
variable (d : Dev nD) (L : grid0.Coords)

/-- The plane base of the task's batch: coordinate `r`'s plane of batch `(L 1) / 4`. -/
theorem off1_val : ∀ (L : grid0.Coords) (r : Fin 3), k0_off1 L (BitVec.ofNat 32 r.val) 0 = (3 * ((L 1).val / 4) + r.val) * 16384 := by decide +kernel

/-- Every place of trip `t`'s chunk is good. -/
abbrev ChunkVal (I : S131072.Idx → BitVec 32) (X : S196608.Idx → F .f32) (t : Fin k0_t1_loop.trips) (g : S2097152.Idx → F .f32) : Prop :=
  Chunk.ChunkVal (k0_off3 L t 0) I X g

/-- The chunks after `n` trips. -/
abbrev chunkSt (I : S131072.Idx → BitVec 32) (X : S196608.Idx → F .f32) (n : ℕ) : Fin k0_t1_loop.trips → sProp 𝕄 :=
  stage (β := Buf (Elt F) ((oV).view.loc (VT d L))) (fun t g => ChunkVal L I X t g) (fun t g => (oChunk L t).view.loc (VT d L) ↦[(oChunk L t).view.set]{fullShare} g) n

/-- What the loop keeps: the input shares, the planes, the two blocks, the chunks done so far. -/
def inv (O : CellTallies nD τ sig (HIx 1)) (W : Waits sig (HIx 1)) (q : PosShare TreeShare)
    (I : Buf (Elt F) ((iV).view.loc (VT d L))) (X : S196608.Idx → F .f32) (n : Nat) (_ : Unit) : sProp 𝕄 :=
  iprop(Transfers.MayWaits (VT d L) (none : HIx 1) O
      ∗ ((iV).view.loc (VT d L) ↦{q} I)
      ∗ (∃ px, ⌜PlaneOk (L 1).val X 0 px⌝ ∗ (sX).view.loc (VT d L) ↦{fullShare} px) ∗ (∃ py, ⌜PlaneOk (L 1).val X 1 py⌝ ∗ (sY).view.loc (VT d L) ↦{fullShare} py)
      ∗ (∃ pz, ⌜PlaneOk (L 1).val X 2 pz⌝ ∗ (sZ).view.loc (VT d L) ↦{fullShare} pz)
      ∗ (∃ fi, (sI).view.loc (VT d L) ↦{fullShare} fi) ∗ (∃ fo, (sO).view.loc (VT d L) ↦{fullShare} fo)
      ∗ bigSep Finset.univ (chunkSt d L I X n)
      ∗ semVal (VT d L, SemLoc.dma cc0_scoped3.sem) 0 ∗ semVal (VT d L, SemLoc.dma cc0_scoped4.sem) 0
      ∗ ∃ W', ⌜∀ p ∈ W', p ∈ W ∨ p.2 = none⌝ ∗ owes (VT d L) O W')

theorem inv_step (O : CellTallies nD τ sig (HIx 1)) (W : Waits sig (HIx 1)) (q : PosShare TreeShare) (t : Fin k0_t1_loop.trips)
    (I : Buf (Elt F) ((iV).view.loc (VT d L))) (hI : ∀ j : S131072.Idx, (I j : BitVec 32).toNat < 16384) (X : S196608.Idx → F .f32) (v19 : BitVec 32) :
    inv d L O W q I X t.val ⟨⟩ ⊢ wp frame (wpE (defs₀ (F := F)) 𝒱₀ (VT d L) none) Set.univ
          (k0_t1_body (F := F) L iV (Memref.isWhole_whole _) xV (Memref.isWhole_whole _) oV (Memref.isWhole_whole _)
            sX (Memref.isWhole_whole _) sY (Memref.isWhole_whole _) sZ (Memref.isWhole_whole _) sI (Memref.isWhole_whole _) sO (Memref.isWhole_whole _)
            cc0_scoped0 cc0_scoped1 cc0_scoped2 cc0_scoped3 cc0_scoped4 v19 (iota .scVector S16 32 [0] iota_S16_d0_w32_scVector) t ⟨⟩)
          fun _ => inv d L O W q I X (t.val + 1) ⟨⟩ := by
  unfold inv
  rw [SparseCore.bigSep_erase' (Finset.mem_univ t), SparseCore.bigSep_erase' (s := Finset.univ) (Φ := chunkSt d L I X (t.val + 1)) (Finset.mem_univ t)]
  unfold chunkSt stage
  iintro ⟨Hmw, Hi, ⟨%px, %hx, Hx⟩, ⟨%py, %hy, Hy⟩, ⟨%pz, %hz, Hz⟩, ⟨%fi, Hsi⟩, ⟨%fo, Hso⟩, ⟨⟨%g, -, Ho⟩, Hrest⟩, Hs3, Hs4, ⟨%W₁, %hW, HO⟩⟩
  iapply (wp_wand_r frame (wpE (defs₀ (F := F)) 𝒱₀ (VT d L) none) Set.univ)
  isplitl [Hmw Hi Hx Hy Hz Hsi Hso Ho Hs3 Hs4 HO]
  · iapply (trip d L O W₁ t q I hI px py pz fi fo g v19)
    iframe Hmw Hi Hx Hy Hz Hsi Hso Ho Hs3 Hs4
    iexact HO
  iintro %_ ⟨Hmw, Hi, Hx, Hy, Hz, Hsi, Hso, ⟨%g', %hg, Ho⟩, Hs3, Hs4, ⟨%W₂, %hW₂, HO⟩⟩
  iframe Hmw Hi
  isplitl [Hx]; · iexists px; isplitr; · ipureintro; exact hx
                  iexact Hx
  isplitl [Hy]; · iexists py; isplitr; · ipureintro; exact hy
                  iexact Hy
  isplitl [Hz]; · iexists pz; isplitr; · ipureintro; exact hz
                  iexact Hz
  iframe Hsi Hso
  isplitl [Ho Hrest]
  · isplitl [Ho]
    · iexists g'; isplitr
      · ipureintro; intro _; exact chunkVal_of_ok (L 1).val (L 0).val t.val (L 0).isLt (lt_of_lt_of_le t.isLt k0_t1_abs.2.1) (congrFun (k0_off2_eq L t) 0) (congrFun (k0_off3_eq L t) 0) I X hI px py pz hx hy hz g' hg
      iexact Ho
    · iapply (stage_next _ _ t); iexact Hrest
  iframe Hs3 Hs4
  iexists W₂; isplitr
  · ipureintro; intro p hp
    rcases hW₂ p hp with h | h
    · exact hW p h
    · exact .inr h
  iexact HO

/-- The task's five cells and the subcore's other cells. -/
theorem ownSems0_V : (ownSems0 (VT d L) : sProp 𝕄) = iprop(semVal (VT d L, SemLoc.dma cc0_scoped0.sem) 0 ∗ semVal (VT d L, SemLoc.dma cc0_scoped1.sem) 0 ∗ semVal (VT d L, SemLoc.dma cc0_scoped2.sem) 0 ∗ semVal (VT d L, SemLoc.dma cc0_scoped3.sem) 0 ∗ semVal (VT d L, SemLoc.dma cc0_scoped4.sem) 0
    ∗ bigSep ((((((ownCells (VT d L)).erase (VT d L, SemLoc.dma cc0_scoped0.sem)).erase (VT d L, SemLoc.dma cc0_scoped1.sem)).erase (VT d L, SemLoc.dma cc0_scoped2.sem)).erase (VT d L, SemLoc.dma cc0_scoped3.sem)).erase (VT d L, SemLoc.dma cc0_scoped4.sem)) fun g => semVal g 0) := by
  refine bigSep_five (fun i hi => ?_) ?_
  · simp only [List.mem_cons, List.not_mem_nil, or_false] at hi
    obtain rfl | rfl | rfl | rfl | rfl := hi <;> exact mem_ownCells.mpr ⟨rfl, rfl⟩
  · exact List.Nodup.map (f := fun s : SemLoc sig => ((VT d L, s) : GSem nD τ sig)) (l := [.dma cc0_scoped0.sem, .dma cc0_scoped1.sem, .dma cc0_scoped2.sem, .dma cc0_scoped3.sem, .dma cc0_scoped4.sem])
      (fun _ _ e => congrArg Prod.snd e) (by decide)

/-- The task's five blocks and the subcore's other buffers. -/
theorem ownBufs_V : (ownBufs (VT d L) : sProp 𝕄) = iprop((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f)
    ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  refine bigSep_five (fun i hi => ?_) ?_
  · simp only [List.mem_cons, List.not_mem_nil, or_false] at hi
    obtain rfl | rfl | rfl | rfl | rfl := hi <;> exact SparseCore.Cfg.mem_ownRefs_of_owner rfl
  · exact List.Nodup.map (f := (Proc.scVector (τ := τ) (cV L) (jV L)).devRef) (l := [cc0_scratch0, cc0_scratch1, cc0_scratch2, cc0_scratch3, cc0_scratch4])
      (Proc.devRef_injective _) (by decide)

/-- A task's share of the operands: it reads both arrays and writes its thirty-two chunks. -/
def goRes (q : PosShare TreeShare) (I : Buf (Elt F) ((iV).view.loc (VT d L))) (X : Buf (Elt F) ((xV).view.loc (VT d L)))
    (G : Buf (Elt F) ((oV).view.loc (VT d L))) : sProp 𝕄 :=
  iprop(((iV).view.loc (VT d L) ↦{q} I) ∗ ((xV).view.loc (VT d L) ↦{q} X)
    ∗ bigSep Finset.univ fun t : Fin k0_t1_loop.trips => (oChunk L t).view.loc (VT d L) ↦[(oChunk L t).view.set]{fullShare} G)

/-- What the task returns: the same reads, the chunks gathered. -/
def tdRes (q : PosShare TreeShare) (I : Buf (Elt F) ((iV).view.loc (VT d L))) (X : Buf (Elt F) ((xV).view.loc (VT d L))) : sProp 𝕄 :=
  iprop(((iV).view.loc (VT d L) ↦{q} I) ∗ ((xV).view.loc (VT d L) ↦{q} X)
    ∗ bigSep Finset.univ fun t : Fin k0_t1_loop.trips => iprop(∃ g, ⌜ChunkVal L I X t g⌝ ∗ (oChunk L t).view.loc (VT d L) ↦[(oChunk L t).view.set]{fullShare} g))

/-- The task on vector subcore `(L 0, L 1)`: given its reads and its chunks it gathers every chunk and returns its scratch. -/
theorem tile_body (hF : (K (F := F)).Facts) (O : CellTallies nD τ sig (HIx 1)) (W : Waits sig (HIx 1)) (hO : ∀ g, O g none = 0) (q : PosShare TreeShare)
    (I : Buf (Elt F) ((iV).view.loc (VT d L))) (hI : ∀ j : S131072.Idx, (I j : BitVec 32).toNat < 16384) (X : Buf (Elt F) ((xV).view.loc (VT d L)))
    (G : Buf (Elt F) ((oV).view.loc (VT d L))) :
    iprop(levAts (K (F := F)).L (K (F := F)).lev ∗ goRes d L q I X G
        ∗ scopedBufs (VT d L) ∗ scopedSems0 (VT d L) ∗ owes (VT d L) O W)
      ⊢ wp frame (wpE (defs₀ (F := F)) 𝒱₀ (VT d L) none) Set.univ
          (cc0_gath L iV (Memref.isWhole_whole _) xV (Memref.isWhole_whole _) oV (Memref.isWhole_whole _)
            sX (Memref.isWhole_whole _) sY (Memref.isWhole_whole _) sZ (Memref.isWhole_whole _) sI (Memref.isWhole_whole _) sO (Memref.isWhole_whole _)
            cc0_scoped0 cc0_scoped1 cc0_scoped2 cc0_scoped3 cc0_scoped4)
          fun _ => iprop(tdRes d L q I X ∗ scopedBufs (VT d L) ∗ scopedSems0 (VT d L)
            ∗ ∃ W', ⌜∀ p ∈ W', p ∈ W ∨ p.2 = none⌝ ∗ owes (VT d L) O W') := by
  rw [cc0_gath_eq_skeleton]; unfold cc0_gath_skel
  rw [k0_part4_eq_skeleton]; unfold k0_part4_skel
  rw [(K (F := F)).scopedBufs_V hF d (cV L) (jV L), SparseCore.Cfg.scopedSems0_V (Val := Elt F) d (cV L) (jV L), ownSems0_V, ownBufs_V]
  unfold goRes
  iintro ⟨#Hlv, ⟨Hi, Hxv, Hch⟩, ⟨⟨%f0, Hb0⟩, ⟨%f1, Hb1⟩, ⟨%f2, Hb2⟩, ⟨%f3, Hb3⟩, ⟨%f4, Hb4⟩, Hbufs⟩, ⟨Hs0, Hs1, Hs2, Hs3, Hs4, Hsems⟩, HO⟩
  ihave Hmw := ((K (F := F)).mayWaits_none (thr := VT d L) hO) $$ Hlv
  ihave Hx := (Entails.of_eq (show ((VT d L).loc cc0_scratch0 ↦{fullShare} f0 : sProp 𝕄) = (sX).view.loc (VT d L) ↦{fullShare} f0 from rfl)) $$ Hb0
  ihave Hy := (Entails.of_eq (show ((VT d L).loc cc0_scratch1 ↦{fullShare} f1 : sProp 𝕄) = (sY).view.loc (VT d L) ↦{fullShare} f1 from rfl)) $$ Hb1
  ihave Hz := (Entails.of_eq (show ((VT d L).loc cc0_scratch2 ↦{fullShare} f2 : sProp 𝕄) = (sZ).view.loc (VT d L) ↦{fullShare} f2 from rfl)) $$ Hb2
  sl_exec
  have hx : PlaneOk (F := F) (L 1).val X 0 (tile_body.sl.dma0 d L X) := plane_read xV X (L 1).val 0 _ (k0_off1_inb L 0) (off1_val L 0)
  have hy : PlaneOk (F := F) (L 1).val X 1 (tile_body.sl.dma0_1 d L X) := plane_read xV X (L 1).val 1 _ (k0_off1_inb L 1) (off1_val L 1)
  have hz : PlaneOk (F := F) (L 1).val X 2 (tile_body.sl.dma0_2 d L X) := plane_read xV X (L 1).val 2 _ (k0_off1_inb L 2) (off1_val L 2)
  rw [show (sX).view.write (Elt F) f0 (tile_body.sl.dma0 d L X) Finset.univ = tile_body.sl.dma0 d L X from View.write_whole_univ _ _ _,
    show (sY).view.write (Elt F) f1 (tile_body.sl.dma0_1 d L X) Finset.univ = tile_body.sl.dma0_1 d L X from View.write_whole_univ _ _ _,
    show (sZ).view.write (Elt F) f2 (tile_body.sl.dma0_2 d L X) Finset.univ = tile_body.sl.dma0_2 d L X from View.write_whole_univ _ _ _]
  sl_for (inv d L O W q I X) $$ [Hmw Hi Hx Hy Hz Hb3 Hb4 Hch Hs3 Hs4 HO]
  case region =>
    intro k _
    exact inv_step d L O W q k I hI X _
  · unfold inv
    iframe Hmw Hi
    isplitl [Hx]; · iexists _; isplitr; · ipureintro; exact hx
                    iexact Hx
    isplitl [Hy]; · iexists _; isplitr; · ipureintro; exact hy
                    iexact Hy
    isplitl [Hz]; · iexists _; isplitr; · ipureintro; exact hz
                    iexact Hz
    isplitl [Hb3]; · iexists _; iexact Hb3
    isplitl [Hb4]; · iexists _; iexact Hb4
    isplitl [Hch]
    · iapply (stage_start _ _ G); iexact Hch
    iframe Hs3 Hs4
    iexists _; isplitr; rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp
  iintro %_ Hinv
  unfold inv
  icases Hinv with ⟨-, Hi, ⟨%px, -, Hx⟩, ⟨%py, -, Hy⟩, ⟨%pz, -, Hz⟩, ⟨%fi, Hsi⟩, ⟨%fo, Hso⟩, Hch, Hs3, Hs4, ⟨%W₁, %hW, HO⟩⟩
  sl_step
  isplitl [Hi Hxv Hch]
  · unfold tdRes
    iframe Hi Hxv
    iapply (stage_end _ _); iexact Hch
  isplitl [Hx Hy Hz Hsi Hso Hbufs]
  · isplitl [Hx]; · iexists _; iexact Hx
    isplitl [Hy]; · iexists _; iexact Hy
    isplitl [Hz]; · iexists _; iexact Hz
    isplitl [Hsi]; · iexists _; iexact Hsi
    isplitl [Hso]; · iexists _; iexact Hso
    iexact Hbufs
  isplitl [Hs0 Hs1 Hs2 Hs3 Hs4 Hsems]
  · isplitl [Hs0]; · iexact Hs0
    iframe Hs1 Hs2 Hs3 Hs4
    iexact Hsems
  iexists W₁; isplitr
  · ipureintro; exact hW
  iexact HO

end Task
end Cert.Proof.Gather
end
-- ==== Proof.Launch.lean ====
/-
  The gather call's launch: the operands cut among the thirty-two tasks, and the whole program's run.
-/
module

public import proofs.«01_k».proof.Proof.Task

@[expose] public section

noncomputable section

namespace Cert.Proof.Gather

open Cert.KernelIdeal Cert.KernelIdeal.Gen

open Cert.Proof.Chunk (GoodAt)
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}
local notation "𝕄" => MT nD τ sig (HIx 1) (Elt F) ℕ UU ℕ

variable [FloatOps F]

/-! ## The host arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev opA : HloOp τ sig (Elt F) := StableHlo.reshape main_arg0 main_v0 rfl shapeCasts_S4x1024x32_S131072
abbrev opB : HloOp τ sig (Elt F) := StableHlo.reshape main_arg1 main_v1 rfl shapeCasts_S4x3x16384_S196608
abbrev opC : HloOp τ sig (Elt F) := StableHlo.reshape main_v2 main_v3 rfl shapeCasts_S2097152_S131072x16
abbrev opD : HloOp τ sig (Elt F) := StableHlo.unary main_v3 main_v4 ((extractStridedSlice S131072x3 ![0, 0] · slices_S131072x16_S131072x3_0_0))

abbrev hostRefs : Finset (DevRef τ sig) := {a0', a1', v0', v1', v2', v3', v4'}

variable (m : (ℓ : Loc nD τ sig) → Buf (Elt F) ℓ) (ρ : Dev nD → PrngReg)

/-- The arrays at the start, before the call, and after it with the call's output at `g`. -/
def V0 (d : Dev nD) : Valuation τ sig (Elt F) := fun b => m (d, b)
def V2 (d : Dev nD) : Valuation τ sig (Elt F) := opB.result (opA.result (V0 m d))
def V3 (d : Dev nD) (g : Buf (Elt F) (d, v2')) : Valuation τ sig (Elt F) := Function.update (V2 m d) v2' g
def V5 (d : Dev nD) (g : Buf (Elt F) (d, v2')) : Valuation τ sig (Elt F) := opD.result (opC.result (V3 m d g))

/-- The index array and the point array as the call reads them. -/
def Iof (d : Dev nD) : Buf (Elt F) (d, v0') := V2 m d v0'
def Xof (d : Dev nD) : Buf (Elt F) (d, v1') := V2 m d v1'

theorem held_host (d : Dev nD) (W : Valuation τ sig (Elt F)) :
    (held (T d) hostRefs W : sProp 𝕄) = iprop(((d, a0') ↦{fullShare} W a0') ∗ ((d, a1') ↦{fullShare} W a1') ∗ ((d, v0') ↦{fullShare} W v0')
      ∗ ((d, v1') ↦{fullShare} W v1') ∗ ((d, v2') ↦{fullShare} W v2') ∗ ((d, v3') ↦{fullShare} W v3') ∗ ((d, v4') ↦{fullShare} W v4')) := by
  unfold held hostRefs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) hostRefs (V0 m d) := by
  rw [held_host]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-! ## The operands cut among the tasks -/

def coordsV (c : Fin (grid0.bound 0)) (s : Fin (grid0.bound 1)) : grid0.Coords :=
  fun | 0 => c | 1 => s | ⟨_ + 2, h⟩ => absurd h (Nat.not_lt.2 (Nat.le_add_left _ _))

/-- The thirty-two tasks numbered. -/
def taskNo : Fin 2 × Fin 16 ≃ Fin (2 ^ 5) := finProdFinEquiv.trans (finCongr (by norm_num))

/-- The share of an operand that task `(c, s)` reads at: one of thirty-two. -/
def shareOf (c : Fin 2) (s : Fin 16) : PosShare TreeShare := ShareLeaves.leaf 5 fullShare (taskNo (c, s))

theorem leaves_deal {ℓ : Loc nD τ sig} (f : Buf (Elt F) ℓ) :
    (ℓ ↦{fullShare} f : sProp 𝕄) = bigSep Finset.univ fun c : Fin 2 => bigSep Finset.univ fun s : Fin 16 => ℓ ↦{shareOf c s} f := by
  rw [ShareLeaves.pointsTo_leaves Finset.univ f 5 fullShare,
    bigSep_univ_equiv taskNo (fun i : Fin (2 ^ 5) => (ℓ ↦{ShareLeaves.leaf 5 fullShare i} f : sProp 𝕄)), bigSep_univ_prod]
  rfl

/-- The places of chunk `t` of task `(c, s)`. -/
def chunkSet (x : Fin 2 × Fin 16 × Fin k0_t1_loop.trips) : Finset S2097152.Idx := (oChunk (coordsV x.1 x.2.1) x.2.2).view.set

theorem chunk_off (x : Fin 2 × Fin 16 × Fin k0_t1_loop.trips) :
    k0_off3 (coordsV x.1 x.2.1) x.2.2 0 = 131072 * x.2.1.val + 65536 * x.1.val + 2048 * x.2.2.val :=
  congrFun (k0_off3_eq (coordsV x.1 x.2.1) x.2.2) 0

theorem mem_chunkSet (x : Fin 2 × Fin 16 × Fin k0_t1_loop.trips) (o : S2097152.Idx) :
    o ∈ chunkSet x ↔ 131072 * x.2.1.val + 65536 * x.1.val + 2048 * x.2.2.val ≤ (o 0).val
      ∧ (o 0).val < 131072 * x.2.1.val + 65536 * x.1.val + 2048 * x.2.2.val + 2048 := by
  rw [← chunk_off]
  have e : chunkSet x = (Rect.unit (s := S2097152) (k0_off3 (coordsV x.1 x.2.1) x.2.2) S2048.size (Gen.facts.k0_off3_inb (coordsV x.1 x.2.1) x.2.2)).set := by
    show ((View.whole (main_v2_scv : Ref sig .scVector)).slice _).set = _
    rw [View.set_slice]; exact Finset.map_refl
  rw [e, Rect.mem_set_unit]
  exact Fin.forall_fin_one

theorem chunks_disjoint : ∀ x ∈ (Finset.univ : Finset (Fin 2 × Fin 16 × Fin k0_t1_loop.trips)), ∀ y ∈ (Finset.univ : Finset (Fin 2 × Fin 16 × Fin k0_t1_loop.trips)),
    x ≠ y → Disjoint (chunkSet x) (chunkSet y) := by
  intro x _ y _ h
  refine Finset.disjoint_left.mpr fun o hx hy => h ?_
  obtain ⟨c, s, t⟩ := x
  obtain ⟨c', s', t'⟩ := y
  have h1 := (mem_chunkSet _ _).mp hx
  have h2 := (mem_chunkSet _ _).mp hy
  have ht : t.val < 32 := lt_of_lt_of_le t.isLt k0_t1_abs.2.1
  have ht' : t'.val < 32 := lt_of_lt_of_le t'.isLt k0_t1_abs.2.1
  have hc := c.isLt
  have hc' := c'.isLt
  dsimp only at h1 h2
  obtain rfl : c = c' := Fin.ext (by omega)
  obtain rfl : s = s' := Fin.ext (by omega)
  obtain rfl : t = t' := Fin.ext (by omega)
  rfl

theorem trips_eq : k0_t1_loop.trips = 32 := by decide +kernel

theorem chunks_cover : (Finset.univ : Finset (Fin 2 × Fin 16 × Fin k0_t1_loop.trips)).biUnion chunkSet = Finset.univ := by
  rw [Finset.eq_univ_iff_forall]
  intro (o : S2097152.Idx)
  rw [Finset.mem_biUnion]
  have ho : (o (0 : Fin 1)).val < S2097152.size 0 := (o 0).isLt
  have hz : S2097152.size 0 = 2097152 := by decide
  obtain ⟨n, hn⟩ : ∃ n : ℕ, n = (o (0 : Fin 1)).val := ⟨_, rfl⟩
  have hb : n < 2097152 := by omega
  suffices h : ∃ x : Fin 2 × Fin 16 × Fin k0_t1_loop.trips, 131072 * x.2.1.val + 65536 * x.1.val + 2048 * x.2.2.val ≤ n
      ∧ n < 131072 * x.2.1.val + 65536 * x.1.val + 2048 * x.2.2.val + 2048 by
    obtain ⟨x, hx⟩ := h
    exact ⟨x, Finset.mem_univ _, (mem_chunkSet x o).mpr (hn ▸ hx)⟩
  have hc : n / 65536 % 2 < 2 := by omega
  have hs : n / 131072 < 16 := by omega
  have ht : n / 2048 % 32 < k0_t1_loop.trips := by rw [trips_eq]; omega
  refine ⟨(⟨_, hc⟩, ⟨_, hs⟩, ⟨_, ht⟩), ?_⟩
  show 131072 * (n / 131072) + 65536 * (n / 65536 % 2) + 2048 * (n / 2048 % 32) ≤ n
    ∧ n < 131072 * (n / 131072) + 65536 * (n / 65536 % 2) + 2048 * (n / 2048 % 32) + 2048
  omega

theorem chunks_deal (d : Dev nD) (g : Buf (Elt F) (d, v2')) :
    ((d, v2') ↦{fullShare} g : sProp 𝕄) = bigSep Finset.univ fun c : Fin 2 => bigSep Finset.univ fun s : Fin 16 => bigSep Finset.univ fun t : Fin k0_t1_loop.trips =>
      ((d, v2') : Loc nD τ sig) ↦[chunkSet (c, s, t)]{fullShare} g := by
  have h := pointsTo_biUnion (Val := Elt F) (Ix := HIx 1) (Name := ℕ) (U := UU) (Lvl := ℕ) (q := fullShare) (f := g) Finset.univ (ℓ := (d, v2')) chunkSet chunks_disjoint
  rw [chunks_cover, bigSep_univ_prod] at h
  simp only [bigSep_univ_prod] at h
  exact h

/-- The whole packed output is good: every place its rows' first three lanes name. -/
def AllGood (d : Dev nD) (g : Buf (Elt F) (d, v2')) : Prop := ∀ o : S2097152.Idx, GoodAt (F := F) (Iof m d) (Xof m d) o (g o)

theorem chunks_join (d : Dev nD) :
    (bigSep Finset.univ fun c : Fin 2 => bigSep Finset.univ fun s : Fin 16 => bigSep Finset.univ fun t : Fin k0_t1_loop.trips =>
      iprop(∃ g : Buf (Elt F) (d, v2'), ⌜ChunkVal (coordsV c s) (Iof m d) (Xof m d) t g⌝ ∗ ((d, v2') : Loc nD τ sig) ↦[chunkSet (c, s, t)]{fullShare} g) : sProp 𝕄)
    ⊢ iprop(∃ g : Buf (Elt F) (d, v2'), ⌜AllGood m d g⌝ ∗ (d, v2') ↦{fullShare} g) := by
  have h := bigSep_univ_prod (fun x : Fin 2 × Fin 16 × Fin k0_t1_loop.trips =>
    (iprop(∃ g : Buf (Elt F) (d, v2'), ⌜ChunkVal (coordsV x.1 x.2.1) (Iof m d) (Xof m d) x.2.2 g⌝ ∗ ((d, v2') : Loc nD τ sig) ↦[chunkSet x]{fullShare} g) : sProp 𝕄))
  refine (Entails.of_eq (h.trans (bigSep_congr fun c _ => bigSep_univ_prod (fun y : Fin 16 × Fin k0_t1_loop.trips =>
    (iprop(∃ g : Buf (Elt F) (d, v2'), ⌜ChunkVal (coordsV c y.1) (Iof m d) (Xof m d) y.2 g⌝ ∗ ((d, v2') : Loc nD τ sig) ↦[chunkSet (c, y)]{fullShare} g) : sProp 𝕄)))).symm).trans ?_
  haveI : Nonempty (Buf (Elt F) (d, v2')) := ⟨m (d, v2')⟩
  refine (bigSep_exists_pi Finset.univ (fun (x : Fin 2 × Fin 16 × Fin k0_t1_loop.trips) (g : Buf (Elt F) (d, v2')) =>
    iprop(⌜ChunkVal (coordsV x.1 x.2.1) (Iof m d) (Xof m d) x.2.2 g⌝ ∗ ((d, v2') : Loc nD τ sig) ↦[chunkSet x]{fullShare} g))).trans ?_
  iintro ⟨%fs, H⟩
  ihave H := (bigSep_pure_sep Finset.univ (fun x : Fin 2 × Fin 16 × Fin k0_t1_loop.trips => ChunkVal (coordsV x.1 x.2.1) (Iof m d) (Xof m d) x.2.2 (fs x)) _) $$ H
  icases H with ⟨%hv, H⟩
  ihave H := (pointsTo_biUnion_join Finset.univ chunkSet fs (m (d, v2')) chunks_disjoint) $$ H
  icases H with ⟨%g, %hg, H⟩
  rw [chunks_cover]
  iexists g
  isplitr
  · ipureintro
    intro o
    obtain ⟨x, hx, ho⟩ := Finset.mem_biUnion.mp (chunks_cover ▸ Finset.mem_univ o)
    rw [hg x hx o ho]
    have hb := (mem_chunkSet x o).mp ho
    rw [← chunk_off] at hb
    exact hv x hx o hb.1 hb.2
  · iexact H

/-! ## The launch theorem's obligations -/

/-- Call 0's payloads: each task's reads and chunks there, its reads and gathered chunks back. -/
def P : (K (F := F)).Pay (nD := nD) (Val := Elt F) (Name := ℕ) (U := UU) where
  st := fun q d c => match q, c with | 0, c => bigSep Finset.univ fun s : Fin 16 => goRes d (coordsV c s) (shareOf c s) (Iof m d) (Xof m d) (V2 m d v2')
  dn := fun q d c => match q, c with | 0, c => bigSep Finset.univ fun s : Fin 16 => tdRes d (coordsV c s) (shareOf c s) (Iof m d) (Xof m d)
  go := fun q d c s => match q, c, s with | 0, c, s => goRes d (coordsV c s) (shareOf c s) (Iof m d) (Xof m d) (V2 m d v2')
  td := fun q d c s => match q, c, s with | 0, c, s => tdRes d (coordsV c s) (shareOf c s) (Iof m d) (Xof m d)
  x := fun _ _ => iprop(emp)

instance P_storable : (P (F := F) m).IsStorable where
  st q d c := by match q, c with | 0, c => unfold P goRes; dsimp only; infer_instance
  dn q d c := by match q, c with | 0, c => unfold P tdRes; dsimp only; infer_instance
  go q d c s := by match q, c, s with | 0, c, s => unfold P goRes; dsimp only; infer_instance
  td q d c s := by match q, c, s with | 0, c, s => unfold P tdRes; dsimp only; infer_instance

theorem vecSplit : (K (F := F)).VecSplit' (P m) 0 := by
  intro d c
  show (bigSep Finset.univ fun s : Fin 16 => goRes d (coordsV c s) (shareOf c s) (Iof m d) (Xof m d) (V2 m d v2') : sProp 𝕄) ⊢ |={Set.univ}=> iprop(
      (bigSep Finset.univ fun s : Fin 16 => goRes d (coordsV c s) (shareOf c s) (Iof m d) (Xof m d) (V2 m d v2'))
      ∗ ((bigSep Finset.univ fun s : Fin 16 => tdRes d (coordsV c s) (shareOf c s) (Iof m d) (Xof m d))
          -∗ (bigSep Finset.univ fun s : Fin 16 => tdRes d (coordsV c s) (shareOf c s) (Iof m d) (Xof m d))))
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0_gath (coordsV c s)
          iV (Memref.isWhole_whole _) xV (Memref.isWhole_whole _) oV (Memref.isWhole_whole _)
          sX (Memref.isWhole_whole _) sY (Memref.isWhole_whole _) sZ (Memref.isWhole_whole _) sI (Memref.isWhole_whole _) sO (Memref.isWhole_whole _)
          cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem obl_pre {A B C D E : sProp 𝕄} : iprop(A ∗ emp ∗ B ∗ C ∗ D ∗ E) ⊢ iprop(A ∗ B ∗ C ∗ D ∗ E) := by
  iintro ⟨HA, -, HB⟩
  isplitl [HA]; · iexact HA
  iexact HB

/-- Every index names a point. -/
def InRange : Prop := ∀ (d : Dev nD) (j : S131072.Idx), (Iof m d j : BitVec 32).toNat < 16384

theorem tileObl (hF : (K (F := F)).Facts) (hI : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((tile_body d (coordsV ⟨_, hc.1⟩ ⟨_, hc.2⟩) hF O W hO (shareOf c i) (Iof m d) (hI d) (Xof m d) (V2 m d v2')).trans (wp_mono frame _ _ fun _ => obl_post))

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program -/

theorem goRes_eq (d : Dev nD) (c : Fin 2) (s : Fin 16) (q : PosShare TreeShare) (I : Buf (Elt F) (d, v0')) (X : Buf (Elt F) (d, v1')) (G : Buf (Elt F) (d, v2')) :
    (goRes d (coordsV c s) q I X G : sProp 𝕄) = iprop(((d, v0') ↦{q} I) ∗ ((d, v1') ↦{q} X)
      ∗ bigSep Finset.univ fun t : Fin k0_t1_loop.trips => ((d, v2') : Loc nD τ sig) ↦[chunkSet (c, s, t)]{fullShare} G) := rfl

theorem tdRes_eq (d : Dev nD) (c : Fin 2) (s : Fin 16) (q : PosShare TreeShare) (I : Buf (Elt F) (d, v0')) (X : Buf (Elt F) (d, v1')) :
    (tdRes d (coordsV c s) q I X : sProp 𝕄) = iprop(((d, v0') ↦{q} I) ∗ ((d, v1') ↦{q} X)
      ∗ bigSep Finset.univ fun t : Fin k0_t1_loop.trips => iprop(∃ g : Buf (Elt F) (d, v2'), ⌜ChunkVal (coordsV c s) I X t g⌝
        ∗ ((d, v2') : Loc nD τ sig) ↦[chunkSet (c, s, t)]{fullShare} g)) := rfl

/-- What the call takes, cut among the tasks. -/
theorem st_deal (d : Dev nD) :
    iprop(((d, v0') ↦{fullShare} Iof m d) ∗ ((d, v1') ↦{fullShare} Xof m d) ∗ ((d, v2') ↦{fullShare} V2 m d v2'))
      ⊢ (bigSep Finset.univ fun c : Fin ((K (F := F)).nCore 0) => (P m).st 0 d c : sProp 𝕄) := by
  show _ ⊢ (bigSep Finset.univ fun c : Fin 2 => bigSep Finset.univ fun s : Fin 16 => goRes d (coordsV c s) (shareOf c s) (Iof m d) (Xof m d) (V2 m d v2') : sProp 𝕄)
  simp only [goRes_eq, bigSep_sep']
  rw [← leaves_deal, ← leaves_deal, ← chunks_deal]

/-- What the call hands back, put together. -/
theorem dn_join (d : Dev nD) :
    (bigSep Finset.univ fun c : Fin ((K (F := F)).nCore 0) => (P m).dn 0 d c : sProp 𝕄)
      ⊢ iprop(((d, v0') ↦{fullShare} Iof m d) ∗ ((d, v1') ↦{fullShare} Xof m d) ∗ ∃ g : Buf (Elt F) (d, v2'), ⌜AllGood m d g⌝ ∗ (d, v2') ↦{fullShare} g) := by
  show (bigSep Finset.univ fun c : Fin 2 => bigSep Finset.univ fun s : Fin 16 => tdRes d (coordsV c s) (shareOf c s) (Iof m d) (Xof m d) : sProp 𝕄) ⊢ _
  simp only [tdRes_eq, bigSep_sep']
  rw [← leaves_deal, ← leaves_deal]
  iintro ⟨HI, HX, HO⟩
  iframe HI HX
  iapply (chunks_join m d); iexact HO

theorem bufs_A : (opA (F := F)).bufs ⊆ hostRefs := show ({a0', v0'} : Finset (DevRef τ sig)) ⊆ hostRefs by decide
theorem bufs_B : (opB (F := F)).bufs ⊆ hostRefs := show ({a1', v1'} : Finset (DevRef τ sig)) ⊆ hostRefs by decide
theorem bufs_C : (opC (F := F)).bufs ⊆ hostRefs := show ({v2', v3'} : Finset (DevRef τ sig)) ⊆ hostRefs by decide
theorem bufs_D : (opD (F := F)).bufs ⊆ hostRefs := show ({v3', v4'} : Finset (DevRef τ sig)) ⊆ hostRefs by decide

/-- What the host program leaves: every array at the last valuation, the call's output good. -/
abbrev FIN (d : Dev nD) : sProp 𝕄 := iprop(∃ g : Buf (Elt F) (d, v2'), ⌜AllGood m d g⌝ ∗ held (T d) hostRefs (V5 m d g))

theorem held_V3 (d : Dev nD) (g : Buf (Elt F) (d, v2')) :
    (held (T d) hostRefs (V3 m d g) : sProp 𝕄) = iprop(((d, a0') ↦{fullShare} V2 m d a0') ∗ ((d, a1') ↦{fullShare} V2 m d a1') ∗ ((d, v0') ↦{fullShare} Iof m d)
      ∗ ((d, v1') ↦{fullShare} Xof m d) ∗ ((d, v2') ↦{fullShare} g) ∗ ((d, v3') ↦{fullShare} V2 m d v3') ∗ ((d, v4') ↦{fullShare} V2 m d v4')) := by
  rw [held_host]
  unfold V3 Iof Xof
  rw [Function.update_of_ne (show a0' ≠ v2' by decide), Function.update_of_ne (show a1' ≠ v2' by decide), Function.update_of_ne (show v0' ≠ v2' by decide),
    Function.update_of_ne (show v1' ≠ v2' by decide), Function.update_self, Function.update_of_ne (show v3' ≠ v2' by decide), Function.update_of_ne (show v4' ≠ v2' by decide)]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := hostRefs) bufs_A (V := V0 m d)) $$ [Hb Hheld]
  · isplitl [Hb] <;> iassumption
  iintro ⟨Hb, Hheld⟩
  rw [wp_ret]; imodintro
  iapply (wp_hlo_within 𝒱 (SparseCore.T d) none Set.univ (op := opB) (S := hostRefs) bufs_B (V := opA.result (V0 m d))) $$ [Hb Hheld]
  · isplitl [Hb] <;> iassumption
  iintro ⟨Hb, Hheld⟩
  rw [wp_ret]; imodintro
  ihave Hh := (Entails.of_eq (held_host (F := F) d _)) $$ Hheld
  icases Hh with ⟨Ha0, Ha1, Hv0, Hv1, Hv2, Hv3, Hv4⟩
  iapply ((K (F := F)).wp_run (D (F := F)) 𝒱 (EH := EH) (P := P m) κ d 0) $$ [Hst Ha0 Ha1 Hv0 Hv1 Hv2 Hv3 Hv4 Hb Hts]
  isplitr; · iexact Hctx
  isplitl [Hst]; · iexact Hst
  isplitl [Hv0 Hv1 Hv2]
  · iapply (st_deal m d)
    iframe Hv0 Hv1 Hv2
  iintro ⟨Hst, Hdn⟩
  ihave Hdn' := (dn_join m d) $$ Hdn
  icases Hdn' with ⟨Hv0, Hv1, %g, %hg, Hv2⟩
  iapply (wp_hlo_within 𝒱 (SparseCore.T d) none Set.univ (op := opC) (S := hostRefs) bufs_C (V := V3 m d g)) $$ [Hb Ha0 Ha1 Hv0 Hv1 Hv2 Hv3 Hv4]
  · isplitl [Hb]; · iexact Hb
    rw [held_V3]
    iframe Ha0 Ha1 Hv0 Hv1 Hv2 Hv3 Hv4
  iintro ⟨Hb, Hheld⟩
  rw [wp_ret]; imodintro
  iapply (wp_hlo_within 𝒱 (SparseCore.T d) none Set.univ (op := opD) (S := hostRefs) bufs_D (V := opC.result (V3 m d g))) $$ [Hb Hheld]
  · isplitl [Hb] <;> iassumption
  iintro ⟨Hb, Hheld⟩
  rw [wp_ret]; imodintro; imodintro
  isplitl [Hst]; · iexact Hst
  isplitl [Hheld]
  · iexists g; isplitr
    · ipureintro; exact hg
    · iexact Hheld
  isplitl [Hb] <;> iassumption

/-- The final memory: the arguments as they were, the result from a good packed output. -/
def fq (d : Dev nD) (s' : Phys nD τ sig (Elt F)) : Prop :=
  ∃ g : Buf (Elt F) (d, v2'), AllGood m d g ∧ s'.mem.mem (d, a0') = V5 m d g a0' ∧ s'.mem.mem (d, a1') = V5 m d g a1' ∧ s'.mem.mem (d, v4') = V5 m d g v4'

theorem hfin (d : Dev nD) (s' : Phys nD τ sig (Elt F)) : iprop(FIN m d ∗ SI s') ⊢ (⌜fq m d s'⌝ : sProp 𝕄) := by
  iintro ⟨⟨%g, %hg, Hh⟩, HSI⟩
  ihave Hh := (Entails.of_eq (held_host (F := F) d _)) $$ Hh
  icases Hh with ⟨Ha0, Ha1, -, -, -, -, Hv4⟩
  ihave H := (persistent_entails_right (SI_pointsTo_agree (st := s') (ℓ := (d, a0')) (I := Finset.univ) (q := fullShare) (f := V5 m d g a0'))) $$ [HSI Ha0]
  · isplitl [HSI] <;> iassumption
  icases H with ⟨%h1, HSI, -⟩
  ihave H := (persistent_entails_right (SI_pointsTo_agree (st := s') (ℓ := (d, a1')) (I := Finset.univ) (q := fullShare) (f := V5 m d g a1'))) $$ [HSI Ha1]
  · isplitl [HSI] <;> iassumption
  icases H with ⟨%h2, HSI, -⟩
  ihave H := (SI_pointsTo_agree (st := s') (ℓ := (d, v4')) (I := Finset.univ) (q := fullShare) (f := V5 m d g v4')) $$ [HSI Hv4]
  · isplitl [HSI] <;> iassumption
  icases H with %h3
  ipureintro
  exact ⟨g, hg, funext fun i => h1 i (Finset.mem_univ i), funext fun i => h2 i (Finset.mem_univ i), funext fun i => h3 i (Finset.mem_univ i)⟩

def QC : PUnit × MemSt nD τ sig (Elt F) → Prop := fun r => (∀ d : Dev nD, ∃ g : Buf (Elt F) (d, v2'), AllGood m d g
  ∧ r.2.mem (d, a0') = V5 m d g a0' ∧ r.2.mem (d, a1') = V5 m d g a1' ∧ r.2.mem (d, v4') = V5 m d g v4') ∧ r.2.sem = fun _ => 0

theorem run_main [∀ e, Nonempty (Elt F e)] (hI : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hI)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather
end
-- ==== Proof.Value.lean ====
/-
  The gather's values: the kernel's rows and the reference's rows are both the named points' coordinates.
-/
module

public import proofs.«01_k».proof.Proof.Launch
public import proofs.«01_k».proof.Defs
public import proofs.«01_k».proof.Proof.Gen.Pre_in_range
public import proofs.«01_k».proof.Proof.Gen.ReferenceIdeal.Run
public import Idealize.ShloMosaic.Lib.ValueIdxCore
public import Idealize.ShloMosaic.Lib.Pipeline.Value

@[expose] public section

noncomputable section

namespace Cert.Proof.Gather

open Cert.KernelIdeal Cert.KernelIdeal.Gen
open Idealize.ShloMosaic Idealize.ShloMosaic.ValueIdx Idealize.SL.Sem

variable {F : FTy → Type} [FloatOps F]

/-! ## The common value -/

/-- The place of the index array that row `r` reads: its batch, its centre and its neighbour. -/
abbrev nbr (r : Fin 131072) : S4x1024x32.Idx :=
  ix3 ⟨r.val / 32768, by omega⟩ ⟨r.val % 32768 / 32, by omega⟩ ⟨r.val % 32, by omega⟩

/-- Row `r`, coordinate `k` of the gathered neighbours: coordinate `k` of the point that the row's index names in the row's batch. -/
def spec (I : S4x1024x32.Idx → BitVec 32) (X : S4x3x16384.Idx → F .f32) (p : S131072x3.Idx) : F .f32 :=
  X (ix3 ⟨(p 0).val / 32768, by have := (p 0).isLt; simp at this; omega⟩ (p 1) ⟨min (I (nbr (p 0))).toNat 16383, by omega⟩)

/-! ## The kernel -/

section Kernel
variable (m : (ℓ : Loc nD τ sig) → Buf (Elt F) ℓ)

/-- The index argument and the points argument, as arrays. -/
abbrev argI (d : Dev nD) : S4x1024x32.Idx → BitVec 32 := m (d, a0')
abbrev argX (d : Dev nD) : S4x3x16384.Idx → F .f32 := m (d, a1')

theorem V5_a0 (d : Dev nD) (g : Buf (Elt F) (d, v2')) : V5 m d g a0' = m (d, a0') := by
  unfold V5 V3 V2
  rw [StableHlo.unary_result_ne _ _ _ _ ?_, StableHlo.reshape_result_ne _ _ _ _ _ ?_, Function.update_of_ne (by decide),
    StableHlo.reshape_result_ne _ _ _ _ _ ?_, StableHlo.reshape_result_ne _ _ _ _ _ ?_]
  · rfl
  all_goals decide

theorem V5_a1 (d : Dev nD) (g : Buf (Elt F) (d, v2')) : V5 m d g a1' = m (d, a1') := by
  unfold V5 V3 V2
  rw [StableHlo.unary_result_ne _ _ _ _ ?_, StableHlo.reshape_result_ne _ _ _ _ _ ?_, Function.update_of_ne (by decide),
    StableHlo.reshape_result_ne _ _ _ _ _ ?_, StableHlo.reshape_result_ne _ _ _ _ _ ?_]
  · rfl
  all_goals decide

theorem Iof_eq (d : Dev nD) : Iof m d = shapeCast S131072 (argI m d) shapeCasts_S4x1024x32_S131072 := by
  unfold Iof V2
  rw [StableHlo.reshape_result_ne _ _ _ _ _ ?_, StableHlo.reshape_result']
  · rfl
  all_goals decide

theorem Xof_eq (d : Dev nD) : Xof m d = shapeCast S196608 (argX m d) shapeCasts_S4x3x16384_S196608 := by
  unfold Xof V2
  rw [StableHlo.reshape_result', StableHlo.reshape_result_ne _ _ _ _ _ ?_]
  · rfl
  all_goals decide

theorem Iof_apply (d : Dev nD) (r : S131072.Idx) : Iof m d r = argI m d (nbr (r 0)) := by
  rw [Iof_eq]
  refine shapeCast_apply _ _ _ _ ?_
  rw [Shape.rowMajor_val_three, Shape.rowMajor_val_one]
  simp
  omega

theorem Xof_apply (d : Dev nD) (b : Fin 4) (k : Fin 3) (i : Fin 16384) (j : S196608.Idx) (h : (j 0).val = (3 * b.val + k.val) * 16384 + i.val) :
    Xof m d j = argX m d (ix3 b k i) := by
  rw [Xof_eq]
  refine shapeCast_apply _ _ _ _ ?_
  rw [Shape.rowMajor_val_three, Shape.rowMajor_val_one, h]
  show (b.val * 3 + k.val) * 16384 + i.val = _
  omega

/-- What the program's result holds, from what the SparseCore call left in its packed output. -/
theorem V5_v4 (d : Dev nD) (g : Buf (Elt F) (d, v2')) (p : S131072x3.Idx) (o : S2097152.Idx) (h : (o 0).val = 16 * (p 0).val + (p 1).val) :
    (V5 m d g v4' : S131072x3.Idx → F .f32) p = (g : S2097152.Idx → F .f32) o := by
  have e : (V5 m d g v4' : S131072x3.Idx → F .f32)
      = extractStridedSlice S131072x3 ![0, 0] (shapeCast S131072x16 (g : S2097152.Idx → F .f32) shapeCasts_S2097152_S131072x16) slices_S131072x16_S131072x3_0_0 := by
    unfold V5 V3
    rw [StableHlo.unary_result', StableHlo.reshape_result', Function.update_self]
    rfl
  have h1 : (p 1).val < 3 := (p 1).isLt
  rw [e]
  refine (extractStridedSlice_apply _ _ _ p (ix2 (n0 := 131072) (n1 := 16) (p 0) ⟨(p 1).val, by omega⟩) fun a => ?_).trans ?_
  · match a with
    | ⟨0, _⟩ => exact (Nat.zero_add _).symm
    | ⟨1, _⟩ => exact (Nat.zero_add _).symm
  refine shapeCast_apply _ _ _ _ ?_
  refine (Shape.rowMajor_val_one (d := ![2097152]) o).trans (h.trans ?_)
  refine Eq.trans ?_ (Shape.rowMajor_val_two (d := ![131072, 16]) _).symm
  show _ = (p 0).val * 16 + (p 1).val
  omega

/-- The result is the common value, where every index is in range. -/
theorem V5_spec (d : Dev nD) (g : Buf (Elt F) (d, v2')) (hI : ∀ j, (argI m d j).toNat < 16384) (hg : AllGood m d g) :
    (V5 m d g v4' : S131072x3.Idx → F .f32) = spec (argI m d) (argX m d) := by
  funext p
  have h0 : (p 0).val < 131072 := (p 0).isLt
  have h1 : (p 1).val < 3 := (p 1).isLt
  have hi := hI (nbr (p 0))
  let o : S2097152.Idx := ix1 ⟨16 * (p 0).val + (p 1).val, by omega⟩
  let j : S196608.Idx := ix1 ⟨(3 * ((p 0).val / 32768) + (p 1).val) * 16384 + (argI m d (nbr (p 0))).toNat, by omega⟩
  rw [V5_v4 m d g p o rfl, hg o (p 1) (ix1 (p 0)) j rfl (by rw [Iof_apply])]
  rw [Xof_apply m d ⟨(p 0).val / 32768, by omega⟩ (p 1) ⟨(argI m d (nbr (p 0))).toNat, hi⟩ j rfl]
  unfold spec
  congr 2
  refine Fin.ext ?_
  exact (Nat.min_eq_left (by omega)).symm

end Kernel

/-- The precondition, entry by entry: every index, non-negative as a signed word, is its own value below 16384. -/
theorem range_of_pre (I : S4x1024x32.Idx → BitVec 32) (X : S4x3x16384.Idx → F .f32) (h : Cert.Pre_in_range.fn (F := F) I X = fun _ => 1#1) (j) :
    (I j).toNat < 16384 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 16384#32) = 1#1 → v.toNat < 16384 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h j
  simp only [Cert.Pre_in_range.fn, andi, cmpi, broadcastInDim, constantI] at e
  exact key _ e

theorem inRange_of (m : (ℓ : Loc nD τ sig) → Buf (Elt F) ℓ) (h : ∀ d j, (argI m d j).toNat < 16384) : InRange m := by
  intro d j
  rw [Iof_apply]
  exact h d _

/-- The kernel's run, read at its arguments: the result is the common value, the arguments and the counters are as they were. -/
theorem run_spec [∀ e, Nonempty (Elt F e)] (m : (ℓ : Loc nD τ sig) → Buf (Elt F) ℓ) (ρ : Dev nD → PrngReg) (h : ∀ d j, (argI m d j).toNat < 16384) :
    θ_run (Cert.KernelIdeal.defs (F := F)) (Cert.KernelIdeal.threads (F := F)) ⟨m, fun _ => 0, ρ⟩ fun r =>
      (∀ d : Dev nD, r.2.mem (d, v4') = spec (argI m d) (argX m d) ∧ r.2.mem (d, a0') = m (d, a0') ∧ r.2.mem (d, a1') = m (d, a1'))
        ∧ r.2.sem = fun _ => 0 :=
  (θ_run Cert.KernelIdeal.defs _ _).mono (fun r hr => ⟨fun d => by
    obtain ⟨g, hg, e0, e1, e4⟩ := hr.1 d
    exact ⟨e4.trans (V5_spec m d g (h d) hg), e0.trans (V5_a0 m d g), e1.trans (V5_a1 m d g)⟩, hr.2⟩) (run_main m ρ (inRange_of m h))

end Cert.Proof.Gather

end
-- ==== Proof.Reference.lean ====
/-
  The gather's reference: its composed term, read at an index, is the common value; and the claims' proofs.
-/
module

public import proofs.«01_k».proof.Proof.Value
public import proofs.«01_k».proof.Proof.Gen.Kernel

@[expose] public section

noncomputable section

namespace Cert.Proof.GatherRef

open Cert.ReferenceIdeal Cert.ReferenceIdeal.Gen
open Idealize.ShloMosaic Idealize.ShloMosaic.ValueIdx Idealize.SL.Sem

variable {F : FTy → Type} [FloatOps F]

/-- The reference's index arithmetic on one word: a negative word is moved up by `n`. -/
def wrap (n w : BitVec 32) : BitVec 32 := if IntOp.cmpi .slt w 0#32 = 1#1 then IntOp.addi w n else w

/-- A word that is non-negative as a signed number is left alone. -/
theorem wrap_small (n w : BitVec 32) (h : w.toNat < 16384) : wrap n w = w := by
  have hs : w.slt 0#32 = false := by
    rw [BitVec.slt_eq_decide, decide_eq_false_iff_not, BitVec.toInt_eq_toNat_cond, BitVec.toInt_eq_toNat_cond]
    simp; omega
  unfold wrap IntOp.cmpi
  rw [if_neg]
  show ¬ BitVec.ofBool (w.slt 0#32) = 1#1
  rw [hs]; decide

/-- The start indices' array: the batch number beside the point number. -/
def starts (I : S4x1024x32.Idx → BitVec 32) : IVec S4x1024x32x2 32 :=
  concatenate S4x1024x32x2 3 [⟨S4x1024x32x1, (broadcastInDim S4x1024x32x1 ![0, 1, 2] bcast_S4x1024x32_S4x1024x32x1_0_1_2 (broadcastInDim S4x1024x32 ![0, 1, 2] bcast_S4x1x1_S4x1024x32_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x1024x32x1, (broadcastInDim S4x1024x32x1 ![0, 1, 2] bcast_S4x1024x32_S4x1024x32x1_0_1_2 (select (cmpi .slt I (broadcastInDim S4x1024x32 ![] bcast_S_S4x1024x32 (constantI S_ 32 0#32))) (addi I (broadcastInDim S4x1024x32 ![] bcast_S_S4x1024x32 (constantI S_ 32 16384#32))) I))⟩] concatenates_S4x1024x32x1_S4x1024x32x1_S4x1024x32x2_d3

/-- The first component is the batch. -/
theorem starts_batch (I : S4x1024x32.Idx → BitVec 32) (b : Fin 4) (s : Fin 1024) (k : Fin 32) :
    starts I (ix4 b s k 0) = BitVec.ofNat 32 b.val := by
  unfold starts
  refine (concatenate_pair_apply_left (t := S4x1024x32x2) (s₁ := S4x1024x32x1) (s₂ := S4x1024x32x1) 3 _ _ _ (ix4 b s k (0 : Fin 2)) rfl (ix4 b s k (0 : Fin 1)) (fun a => by match a with | ⟨0, _⟩ => rfl | ⟨1, _⟩ => rfl | ⟨2, _⟩ => rfl | ⟨3, _⟩ => rfl)).trans ?_
  refine (broadcastInDim_apply _ _ _ _ (ix3 b s k) fun a => ?_).trans ?_
  · match a with
    | ⟨0, _⟩ => rfl
    | ⟨1, _⟩ => rfl
    | ⟨2, _⟩ => rfl
  refine (broadcastInDim_apply _ _ _ _ (ix3 b 0 0) fun a => ?_).trans ?_
  · match a with
    | ⟨0, _⟩ => rfl
    | ⟨1, _⟩ => rfl
    | ⟨2, _⟩ => rfl
  show wrap 4#32 (broadcastInDim S4x1x1 ![0] bcast_S4_S4x1x1_0 (iotaInDim S4 32 0) (ix3 b 0 0)) = _
  rw [broadcastInDim_apply _ _ _ _ (ix1 b) fun a => by match a with | ⟨0, _⟩ => rfl]
  show wrap 4#32 (BitVec.ofNat 32 b.val) = _
  exact wrap_small _ _ (by rw [BitVec.toNat_ofNat]; have := b.isLt; omega)

/-- The second component is the index. -/
theorem starts_point (I : S4x1024x32.Idx → BitVec 32) (b : Fin 4) (s : Fin 1024) (k : Fin 32) (h : (I (ix3 b s k)).toNat < 16384) :
    starts I (ix4 b s k 1) = I (ix3 b s k) := by
  unfold starts
  refine (concatenate_pair_apply_right (t := S4x1024x32x2) (s₁ := S4x1024x32x1) (s₂ := S4x1024x32x1) 3 _ _ _ (ix4 b s k (1 : Fin 2)) rfl rfl (ix4 b s k (0 : Fin 1)) (fun a ha => ?_) rfl).trans ?_
  · match a with
    | ⟨0, _⟩ => rfl
    | ⟨1, _⟩ => rfl
    | ⟨2, _⟩ => rfl
    | ⟨3, _⟩ => exact absurd rfl ha
  refine (broadcastInDim_apply _ _ _ _ (ix3 b s k) fun a => ?_).trans ?_
  · match a with
    | ⟨0, _⟩ => rfl
    | ⟨1, _⟩ => rfl
    | ⟨2, _⟩ => rfl
  exact wrap_small 16384#32 _ h

abbrev dims := gather_S4x16384x3_S4x1024x32x2_S4x1024x32x3_3_01_n_n_01_3_113

/-- The gather read at an index: the row that the two start components name, each read signed and clamped. -/
theorem gather_apply {α : Type} (x : S4x16384x3.Idx → α) (idx : IVec S4x1024x32x2 32) (b : Fin 4) (s : Fin 1024) (k : Fin 32) (c : Fin 3) :
    Host.gather dims x idx (ix4 b s k c)
      = x (ix3 ⟨min (idx (ix4 b s k 0)).toInt.toNat 3, by omega⟩ ⟨min (idx (ix4 b s k 1)).toInt.toNat 16383, by omega⟩ c) := by
  unfold Host.gather
  congr 1
  funext a
  refine Fin.ext ?_
  show dims.start (ix4 b s k c) idx a + dims.batchCoord (ix4 b s k c) a + dims.offCoord (ix4 b s k c) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  obtain rfl | rfl | rfl := ha
  · rw [GatherDims.offCoord_eq_zero _ _ _ (fun h => ((GatherDims.mem_sKept _ _).mp h).1 (by decide)), Nat.add_zero]
    unfold GatherDims.start
    rw [dif_pos (by decide)]
    have hsi : dims.siIdx (ix4 b s k c) ⟨List.idxOf (0 : Fin 3) dims.startIndexMap, by decide⟩ = ix4 b s k 0 := by
      funext e; refine Fin.ext ?_
      match e with
      | ⟨0, _⟩ => rfl
      | ⟨1, _⟩ => rfl
      | ⟨2, _⟩ => rfl
      | ⟨3, _⟩ => rfl
    exact congrArg (fun i => min (idx i).toInt.toNat 3) hsi
  · rw [GatherDims.offCoord_eq_zero _ _ _ (fun h => ((GatherDims.mem_sKept _ _).mp h).1 (by decide)), Nat.add_zero]
    unfold GatherDims.start
    rw [dif_pos (by decide)]
    have hsi : dims.siIdx (ix4 b s k c) ⟨List.idxOf (1 : Fin 3) dims.startIndexMap, by decide⟩ = ix4 b s k 1 := by
      funext e; refine Fin.ext ?_
      match e with
      | ⟨0, _⟩ => rfl
      | ⟨1, _⟩ => rfl
      | ⟨2, _⟩ => rfl
      | ⟨3, _⟩ => rfl
    exact congrArg (fun i => min (idx i).toInt.toNat 16383) hsi
  · unfold GatherDims.start
    rw [dif_neg (by decide), Nat.zero_add]
    unfold GatherDims.offCoord
    rw [dif_pos (by decide)]
    rfl

/-- The reference's term, with the indices in range, is the common value. -/
theorem term_spec (I : S4x1024x32.Idx → BitVec 32) (X : S4x3x16384.Idx → F .f32) (h : ∀ j, (I j).toNat < 16384) :
    shapeCast S131072x3 (Host.gather dims (transpose S4x16384x3 [0, 2, 1] X transposes_S4x3x16384_S4x16384x3_0_2_1) (starts I)) shapeCasts_S4x1024x32x3_S131072x3
      = Gather.spec I X := by
  funext p
  have h0 : (p 0).val < 131072 := (p 0).isLt
  have h1 : (p 1).val < 3 := (p 1).isLt
  let b : Fin 4 := ⟨(p 0).val / 32768, by omega⟩
  let s : Fin 1024 := ⟨(p 0).val % 32768 / 32, by omega⟩
  let k : Fin 32 := ⟨(p 0).val % 32, by omega⟩
  have hi := h (ix3 b s k)
  refine (shapeCast_apply _ _ _ (ix4 b s k (p 1)) ?_).trans ?_
  · rw [Shape.rowMajor_val_four]
    refine Eq.trans ?_ (Shape.rowMajor_val_two (d := ![131072, 3]) p).symm
    show (((p 0).val / 32768 * 1024 + (p 0).val % 32768 / 32) * 32 + (p 0).val % 32) * 3 + (p 1).val = (p 0).val * 3 + (p 1).val
    omega
  refine (gather_apply _ _ b s k (p 1)).trans ?_
  refine (transpose_apply _ _ _ _ (ix3 b (p 1) ⟨(I (ix3 b s k)).toNat, hi⟩) fun a => ?_).trans ?_
  · match a with
    | ⟨0, _⟩ =>
      show b.val = min (starts I (ix4 b s k 0)).toInt.toNat 3
      have hb := b.isLt
      rw [starts_batch, BitVec.toInt_eq_toNat_cond, BitVec.toNat_ofNat]
      omega
    | ⟨1, _⟩ =>
      show (I (ix3 b s k)).toNat = min (starts I (ix4 b s k 1)).toInt.toNat 16383
      rw [starts_point I b s k hi, BitVec.toInt_eq_toNat_cond]
      omega
    | ⟨2, _⟩ => rfl
  unfold Gather.spec
  congr 2
  refine Fin.ext ?_
  exact (Nat.min_eq_left (by omega)).symm

end Cert.Proof.GatherRef

namespace Cert.Proof.Gather

open Idealize.ShloMosaic Idealize.SL.Sem

/-- `Cert.quiescent_Kernel` (Defs.lean): the machine's words, by the same run. -/
theorem frame_kernel : Cert.quiescent_Kernel := fun m ρ hpre =>
  (θ_run Cert.KernelIdeal.defs _ _).mono (fun _ h => ⟨fun c => (h.1 c).2, h.2⟩)
    (run_spec (F := Bits) m ρ fun d => range_of_pre _ _ (hpre d))

/-- `Cert.quiescent_KernelIdeal` (Defs.lean). -/
theorem frame_ideal : Cert.quiescent_KernelIdeal := fun m ρ hpre =>
  (θ_run Cert.KernelIdeal.defs _ _).mono (fun _ h => ⟨fun c => (h.1 c).2, h.2⟩)
    (run_spec (F := Ideal) m ρ fun d => range_of_pre _ _ (hpre d))

/-- `Cert.quiescent_ReferenceIdeal` (Defs.lean): the reference is host operations alone, on a signature without semaphores. -/
theorem frame_reference : Cert.quiescent_ReferenceIdeal := fun m ρ _ =>
  (θ_run Cert.ReferenceIdeal.defs _ _).mono (fun _ h => ⟨fun c => (h c).2, funext fun x => nomatch x.2⟩)
    (Cert.ReferenceIdeal.Value.run (F := Ideal) m ρ)

/-- `Cert.algebraic_KernelIdeal_ReferenceIdeal` (Defs.lean): both programs end with the common value. -/
theorem algebraic : Cert.algebraic_KernelIdeal_ReferenceIdeal := fun m g m' g' hpre hm =>
  ⟨fun c => spec (argI m c) (argX m c),
    (θ_run Cert.KernelIdeal.defs _ _).mono (fun _ h => h.1) (run_spec (F := Ideal) m g fun d => range_of_pre _ _ (hpre d)),
    (θ_run Cert.ReferenceIdeal.defs _ _).mono (fun _ h c => ⟨(h c).1.trans (by
        rw [(hm c).1, (hm c).2]
        exact GatherRef.term_spec (F := Ideal) (argI m c) (argX m c) (range_of_pre _ _ (hpre c))), (h c).2⟩)
      (Cert.ReferenceIdeal.Value.run (F := Ideal) m' g')⟩

end Cert.Proof.Gather

end
-- ==== Proof.SampleTrip.lean ====
/-
  One trip of the sampling kernel's loop is eight steps of the same shape: the centre's coordinates are read off by a
  masked sum, the running minimum of the squared distances is lowered, and the next centre is the first index where the
  running minimum is largest. This module names the step and states the trip's values by it.
-/
module

public import proofs.«01_k».proof.Proof.Gen.SamplingIdeal.Frame

@[expose] public section

noncomputable section

namespace Cert.Proof.SampleTrip

open Cert.SamplingIdeal Cert.SamplingIdeal.Gen
open Idealize.ShloMosaic Idealize.ShloMosaic.TcCoe

variable {F : FTy → Type} [FloatOps F]

/-- The mask of the centre. -/
def mask (f : IVec S4x1x1 32) : FVec F S4x8x2048 .f32 := k0_pay7 (F := F) k0_pay4 f

/-- One coordinate of the centre: the masked sum. -/
def cent (v : FVec F S4x8x2048 .f32) (f : IVec S4x1x1 32) : FVec F S4x1x1 .f32 := k0_pay8 v k0_pay4 f

/-- The running minimum after a step. -/
def lower (x y z D : FVec F S4x8x2048 .f32) (f : IVec S4x1x1 32) : FVec F S4x8x2048 .f32 := k0_pay11 x y z k0_pay4 D f

/-- The largest running minimum. -/
def top (D : FVec F S4x8x2048 .f32) : FVec F S4x1x1 .f32 :=
  shapeCast S4x1x1 (multiReduction .maximumf [1] S4x1 (shapeCast S4x8x1 (multiReduction .maximumf [2] S4x8 D 0xFF800000#32 reduces_S4x8x2048_S4x8 (.inl rfl) rfl) shapeCasts_S4x8_S4x8x1) 0xFF800000#32 reduces_S4x8x1_S4x1 (.inl rfl) rfl) shapeCasts_S4x1_S4x1x1

/-- The indices that attain it, the others at 16384. -/
def cand (D : FVec F S4x8x2048 .f32) : IVec S4x8x2048 32 :=
  select (cmpf .oeq D (broadcastTo S4x8x2048 (top D) broadcasts_S4x1x1_S4x8x2048)) k0_pay4 (broadcast S4x8x2048 16384#32)

/-- The next centre: the smallest of them. -/
def pick (D : FVec F S4x8x2048 .f32) : IVec S4x1x1 32 :=
  shapeCast S4x1x1 (multiReductionI .minsi [1] S4x1 (shapeCast S4x8x1 (multiReductionI .minsi [2] S4x8 (cand D) 2147483647#32 reduces_S4x8x2048_S4x8 rfl) shapeCasts_S4x8_S4x8x1) 2147483647#32 reduces_S4x8x1_S4x1 rfl) shapeCasts_S4x1_S4x1x1

/-- The centre's coordinates as a row. -/
def row (x y z : FVec F S4x8x2048 .f32) (f : IVec S4x1x1 32) : FVec F S4x3 .f32 := k0_pay12 x y z k0_pay4 f

/-- One step on the running minimum and the centre. -/
def step (x y z : FVec F S4x8x2048 .f32) (s : FVec F S4x8x2048 .f32 × IVec S4x1x1 32) : FVec F S4x8x2048 .f32 × IVec S4x1x1 32 :=
  (lower x y z s.1 s.2, pick (lower x y z s.1 s.2))

/-- The state after `n` steps. -/
def steps (x y z : FVec F S4x8x2048 .f32) (s : FVec F S4x8x2048 .f32 × IVec S4x1x1 32) : ℕ → FVec F S4x8x2048 .f32 × IVec S4x1x1 32
  | 0 => s
  | n + 1 => step x y z (steps x y z s n)

theorem steps_fst (x y z : FVec F S4x8x2048 .f32) (s : FVec F S4x8x2048 .f32 × IVec S4x1x1 32) (n : ℕ) :
    (steps x y z s (n + 1)).1 = lower x y z (steps x y z s n).1 (steps x y z s n).2 := rfl
theorem steps_snd (x y z : FVec F S4x8x2048 .f32) (s : FVec F S4x8x2048 .f32 × IVec S4x1x1 32) (n : ℕ) :
    (steps x y z s (n + 1)).2 = pick (steps x y z s (n + 1)).1 := rfl
theorem steps_add (x y z : FVec F S4x8x2048 .f32) (s : FVec F S4x8x2048 .f32 × IVec S4x1x1 32) (a : ℕ) :
    ∀ b, steps x y z s (a + b) = steps x y z (steps x y z s a) b
  | 0 => rfl
  | b + 1 => congrArg (step x y z) (steps_add x y z s a b)

variable (v0 v2 v4 : Vec F S4x1x8x2048 .f32) (acc : FVec F S4x8x2048 .f32 × IVec S4x1x1 32)

/-- The state after `n` steps of a trip. -/
abbrev S (n : ℕ) : FVec F S4x8x2048 .f32 × IVec S4x1x1 32 := steps (k0_pay1 v0) (k0_pay2 v2) (k0_pay3 v4) acc n

/-- The row of the centre after `n` steps of a trip. -/
abbrev R (n : ℕ) : FVec F S4x3 .f32 := row (k0_pay1 v0) (k0_pay2 v2) (k0_pay3 v4) (S v0 v2 v4 acc n).2

/-- The eight rows of a trip. -/
def rows : FVec F S4x8x3 .f32 :=
  concatenate S4x8x3 1 [⟨S4x1x3, shapeCast S4x1x3 (R v0 v2 v4 acc 0) shapeCasts_S4x3_S4x1x3⟩, ⟨S4x1x3, shapeCast S4x1x3 (R v0 v2 v4 acc 1) shapeCasts_S4x3_S4x1x3⟩, ⟨S4x1x3, shapeCast S4x1x3 (R v0 v2 v4 acc 2) shapeCasts_S4x3_S4x1x3⟩, ⟨S4x1x3, shapeCast S4x1x3 (R v0 v2 v4 acc 3) shapeCasts_S4x3_S4x1x3⟩, ⟨S4x1x3, shapeCast S4x1x3 (R v0 v2 v4 acc 4) shapeCasts_S4x3_S4x1x3⟩, ⟨S4x1x3, shapeCast S4x1x3 (R v0 v2 v4 acc 5) shapeCasts_S4x3_S4x1x3⟩, ⟨S4x1x3, shapeCast S4x1x3 (R v0 v2 v4 acc 6) shapeCasts_S4x3_S4x1x3⟩, ⟨S4x1x3, shapeCast S4x1x3 (R v0 v2 v4 acc 7) shapeCasts_S4x3_S4x1x3⟩] concatenates_S4x1x3_S4x1x3_S4x1x3_S4x1x3_S4x1x3_S4x1x3_S4x1x3_S4x1x3_S4x8x3_d1

theorem r0_eq : trip_k0_t1.sl.r v0 v2 v4 acc = (S v0 v2 v4 acc 1).1 := by
  unfold trip_k0_t1.sl.r
  rfl

theorem r1_eq : trip_k0_t1.sl.r_1 v0 v2 v4 acc = R v0 v2 v4 acc 0 := by
  unfold trip_k0_t1.sl.r_1
  rfl

theorem r2_eq : trip_k0_t1.sl.r_2 v0 v2 v4 acc = broadcastTo S4x8x2048 (S v0 v2 v4 acc 1).2 broadcasts_S4x1x1_S4x8x2048 := by
  unfold trip_k0_t1.sl.r_2
  rfl

theorem r3_eq : trip_k0_t1.sl.r_3 v0 v2 v4 acc = (S v0 v2 v4 acc 2).1 := by
  unfold trip_k0_t1.sl.r_3
  simp only [r0_eq, r1_eq, r2_eq]
  rfl

theorem r4_eq : trip_k0_t1.sl.r_4 v0 v2 v4 acc = R v0 v2 v4 acc 1 := by
  unfold trip_k0_t1.sl.r_4
  simp only [r0_eq, r1_eq, r2_eq]
  rfl

theorem r5_eq : trip_k0_t1.sl.r_5 v0 v2 v4 acc = extui 32 (cmpi .eq k0_pay4 (broadcastTo S4x8x2048 (S v0 v2 v4 acc 2).2 broadcasts_S4x1x1_S4x8x2048)) natLt_1_32 := by
  unfold trip_k0_t1.sl.r_5
  simp only [r0_eq, r1_eq, r2_eq]
  rfl

theorem r6_eq : trip_k0_t1.sl.r_6 v0 v2 v4 acc = (S v0 v2 v4 acc 3).1 := by
  unfold trip_k0_t1.sl.r_6
  simp only [r3_eq, r4_eq, r5_eq]
  rfl

theorem r7_eq : trip_k0_t1.sl.r_7 v0 v2 v4 acc = R v0 v2 v4 acc 2 := by
  unfold trip_k0_t1.sl.r_7
  simp only [r3_eq, r4_eq, r5_eq]
  rfl

theorem r8_eq : trip_k0_t1.sl.r_8 v0 v2 v4 acc = mask (S v0 v2 v4 acc 3).2 := by
  unfold trip_k0_t1.sl.r_8
  simp only [r3_eq, r4_eq, r5_eq]
  rfl

theorem r9_eq : trip_k0_t1.sl.r_9 v0 v2 v4 acc = mulf (k0_pay1 v0) (mask (S v0 v2 v4 acc 3).2) := by
  unfold trip_k0_t1.sl.r_9
  simp only [r3_eq, r4_eq, r5_eq]
  rfl

theorem r10_eq : trip_k0_t1.sl.r_10 v0 v2 v4 acc = (S v0 v2 v4 acc 4).1 := by
  unfold trip_k0_t1.sl.r_10
  simp only [r6_eq, r7_eq, r8_eq, r9_eq]
  rfl

theorem r11_eq : trip_k0_t1.sl.r_11 v0 v2 v4 acc = R v0 v2 v4 acc 3 := by
  unfold trip_k0_t1.sl.r_11
  simp only [r6_eq, r7_eq, r8_eq, r9_eq]
  rfl

theorem r12_eq : trip_k0_t1.sl.r_12 v0 v2 v4 acc = mask (S v0 v2 v4 acc 4).2 := by
  unfold trip_k0_t1.sl.r_12
  simp only [r6_eq, r7_eq, r8_eq, r9_eq]
  rfl

theorem r13_eq : trip_k0_t1.sl.r_13 v0 v2 v4 acc = multiReduction .add [2] S4x8 (mulf (k0_pay1 v0) (mask (S v0 v2 v4 acc 4).2)) 0x00000000#32 reduces_S4x8x2048_S4x8 (.inl rfl) rfl := by
  unfold trip_k0_t1.sl.r_13
  simp only [r6_eq, r7_eq, r8_eq, r9_eq]
  rfl

theorem r14_eq : trip_k0_t1.sl.r_14 v0 v2 v4 acc = (S v0 v2 v4 acc 5).1 := by
  unfold trip_k0_t1.sl.r_14
  simp only [r10_eq, r11_eq, r12_eq, r13_eq]
  rfl

theorem r15_eq : trip_k0_t1.sl.r_15 v0 v2 v4 acc = R v0 v2 v4 acc 4 := by
  unfold trip_k0_t1.sl.r_15
  simp only [r10_eq, r11_eq, r12_eq, r13_eq]
  rfl

theorem r16_eq : trip_k0_t1.sl.r_16 v0 v2 v4 acc = mask (S v0 v2 v4 acc 5).2 := by
  unfold trip_k0_t1.sl.r_16
  simp only [r10_eq, r11_eq, r12_eq, r13_eq]
  rfl

theorem r17_eq : trip_k0_t1.sl.r_17 v0 v2 v4 acc = shapeCast S4x8x1 (multiReduction .add [2] S4x8 (mulf (k0_pay1 v0) (mask (S v0 v2 v4 acc 5).2)) 0x00000000#32 reduces_S4x8x2048_S4x8 (.inl rfl) rfl) shapeCasts_S4x8_S4x8x1 := by
  unfold trip_k0_t1.sl.r_17
  simp only [r10_eq, r11_eq, r12_eq, r13_eq]
  rfl

theorem r18_eq : trip_k0_t1.sl.r_18 v0 v2 v4 acc = (S v0 v2 v4 acc 6).1 := by
  unfold trip_k0_t1.sl.r_18
  simp only [r14_eq, r15_eq, r16_eq, r17_eq]
  rfl

theorem r19_eq : trip_k0_t1.sl.r_19 v0 v2 v4 acc = R v0 v2 v4 acc 5 := by
  unfold trip_k0_t1.sl.r_19
  simp only [r14_eq, r15_eq, r16_eq, r17_eq]
  rfl

theorem r20_eq : trip_k0_t1.sl.r_20 v0 v2 v4 acc = mask (S v0 v2 v4 acc 6).2 := by
  unfold trip_k0_t1.sl.r_20
  simp only [r14_eq, r15_eq, r16_eq, r17_eq]
  rfl

theorem r21_eq : trip_k0_t1.sl.r_21 v0 v2 v4 acc = cent (k0_pay1 v0) (S v0 v2 v4 acc 6).2 := by
  unfold trip_k0_t1.sl.r_21
  simp only [r14_eq, r15_eq, r16_eq, r17_eq]
  rfl

theorem r22_eq : trip_k0_t1.sl.r_22 v0 v2 v4 acc = (S v0 v2 v4 acc 7).1 := by
  unfold trip_k0_t1.sl.r_22
  simp only [r18_eq, r19_eq, r20_eq, r21_eq]
  rfl

theorem r23_eq : trip_k0_t1.sl.r_23 v0 v2 v4 acc = R v0 v2 v4 acc 6 := by
  unfold trip_k0_t1.sl.r_23
  simp only [r18_eq, r19_eq, r20_eq, r21_eq]
  rfl

theorem r24_eq : trip_k0_t1.sl.r_24 v0 v2 v4 acc = mask (S v0 v2 v4 acc 7).2 := by
  unfold trip_k0_t1.sl.r_24
  simp only [r18_eq, r19_eq, r20_eq, r21_eq]
  rfl

theorem r25_eq : trip_k0_t1.sl.r_25 v0 v2 v4 acc = cent (k0_pay1 v0) (S v0 v2 v4 acc 7).2 := by
  unfold trip_k0_t1.sl.r_25
  simp only [r18_eq, r19_eq, r20_eq, r21_eq]
  rfl

theorem r26_eq : trip_k0_t1.sl.r_26 v0 v2 v4 acc = mulf (k0_pay2 v2) (mask (S v0 v2 v4 acc 7).2) := by
  unfold trip_k0_t1.sl.r_26
  simp only [r18_eq, r19_eq, r20_eq, r21_eq]
  rfl

theorem r27_eq : trip_k0_t1.sl.r_27 v0 v2 v4 acc = (S v0 v2 v4 acc 8).1 := by
  unfold trip_k0_t1.sl.r_27
  simp only [r22_eq, r23_eq, r24_eq, r25_eq, r26_eq]
  rfl

theorem r28_eq : trip_k0_t1.sl.r_28 v0 v2 v4 acc = (S v0 v2 v4 acc 8).2 := by
  unfold trip_k0_t1.sl.r_28
  simp only [r22_eq, r23_eq, r24_eq, r25_eq, r26_eq]
  rfl

theorem r29_eq : trip_k0_t1.sl.r_29 v0 v2 v4 acc = rows v0 v2 v4 acc := by
  unfold trip_k0_t1.sl.r_29
  simp only [r1_eq, r4_eq, r7_eq, r11_eq, r15_eq, r19_eq, r23_eq, r24_eq, r25_eq, r26_eq]
  rfl

variable (𝒱 : Variants) (c : Dev nD) (bd : Option 𝒱.V) (arg0 : Memref sig .tc .vmem S4x3x8x2048 .f32) (harg0 : arg0.IsWhole)
  (arg1 : Memref sig .tc .vmem S4x1024x3 .f32) (harg1 : arg1.IsWhole) (k : Fin k0_t1_loop.trips)

/-- What a trip carries on: the state after eight steps. -/
theorem tripR_eq : tripR_k0_t1 (F := F) 𝒱 c bd arg0 harg0 arg1 harg1 v0 v2 v4 k acc = S v0 v2 v4 acc 8 := by
  unfold tripR_k0_t1 trip_k0_t1
  dsimp only
  rw [r27_eq, r28_eq]

/-- What a trip writes: its eight rows. -/
theorem tripL_eq : tripL_k0_t1 (F := F) 𝒱 c bd arg0 harg0 arg1 harg1 v0 v2 v4 k acc
    = [⟨Rect.unit (s := S4x1024x3) (k0_off1 k) S4x8x3.size (k0_off1_inb k), rows v0 v2 v4 acc⟩] := by
  unfold tripL_k0_t1 trip_k0_t1
  dsimp only
  rw [r29_eq]

end Cert.Proof.SampleTrip

end
-- ==== Proof.SampleSpec.lean ====
/-
  Sampling of one batch of points on the extended reals: the running minimum of the squared distances to the centres
  chosen so far, and the next centre, the first index where it is largest.
-/
module

public import Idealize.ShloMosaic.PureOps.Ideal.Laws
public import Idealize.ShloMosaic.PureOps.Reduce
public import Idealize.ShloMosaic.Lib.Pointwise.Index

@[expose] public section

noncomputable section

namespace Cert.Proof.SampleSpec

open Idealize.ShloMosaic

/-- `n` is the first index where `D` is largest. -/
def IsFirst (D : Fin 16384 → EReal) (n : Fin 16384) : Prop := (∀ m, D m ≤ D n) ∧ ∀ m, D m = D n → n ≤ m

theorem exists_isFirst (D : Fin 16384 → EReal) : ∃ n, IsFirst D n := by
  obtain ⟨a, -, ha⟩ := Finset.exists_max_image (Finset.univ : Finset (Fin 16384)) D ⟨0, Finset.mem_univ _⟩
  obtain ⟨n, hn, hmin⟩ := Finset.exists_min_image (Finset.univ.filter fun m => D m = D a) id ⟨a, by simp⟩
  have hn' : D n = D a := (Finset.mem_filter.mp hn).2
  refine ⟨n, fun m => hn' ▸ ha m (Finset.mem_univ _), fun m hm => hmin m ?_⟩
  exact Finset.mem_filter.mpr ⟨Finset.mem_univ _, hm.trans hn'⟩

theorem IsFirst.unique {D : Fin 16384 → EReal} {n m : Fin 16384} (hn : IsFirst D n) (hm : IsFirst D m) : n = m :=
  le_antisymm (hn.2 m (le_antisymm (hn.1 m) (hm.1 n))) (hm.2 n (le_antisymm (hm.1 n) (hn.1 m)))

/-- The first index where `D` is largest. -/
def first (D : Fin 16384 → EReal) : Fin 16384 := (exists_isFirst D).choose

theorem first_isFirst (D : Fin 16384 → EReal) : IsFirst D (first D) := (exists_isFirst D).choose_spec

/-- The squared distance of point `n` to point `f`. -/
def gap (p : Fin 16384 → Fin 3 → EReal) (f n : Fin 16384) : EReal :=
  (p n 0 - p f 0) * (p n 0 - p f 0) + (p n 1 - p f 1) * (p n 1 - p f 1) + (p n 2 - p f 2) * (p n 2 - p f 2)

/-- The running minimum, lowered by the distances to the centre. -/
def lowered (p : Fin 16384 → Fin 3 → EReal) (s : (Fin 16384 → EReal) × Fin 16384) : Fin 16384 → EReal :=
  fun n => min (s.1 n) (gap p s.2 n)

/-- One step: the lowered minimum and the next centre. -/
def next (p : Fin 16384 → Fin 3 → EReal) (s : (Fin 16384 → EReal) × Fin 16384) : (Fin 16384 → EReal) × Fin 16384 :=
  (lowered p s, first (lowered p s))

/-- The value every distance starts at. -/
def far : EReal := Ideal.ofBits .f32 0x501502F9#32

/-- The running minimum and the centre after `t` steps. -/
def sampled (p : Fin 16384 → Fin 3 → EReal) : ℕ → (Fin 16384 → EReal) × Fin 16384
  | 0 => (fun _ => far, 0)
  | t + 1 => next p (sampled p t)

/-- The point in row `r` and column `j` of eight rows of 2048. -/
def flat (r : Fin 8) (j : Fin 2048) : Fin 16384 := ⟨2048 * r.val + j.val, by omega⟩

theorem flat_surj (n : Fin 16384) : ∃ r j, flat r j = n :=
  ⟨⟨n.val / 2048, by omega⟩, ⟨n.val % 2048, by omega⟩, Fin.ext (by show 2048 * (n.val / 2048) + n.val % 2048 = n.val; omega)⟩

theorem flat_inj {r r' : Fin 8} {j j' : Fin 2048} (h : flat r j = flat r' j') : r = r' ∧ j = j' := by
  have := congrArg Fin.val h
  simp only [flat] at this
  exact ⟨Fin.ext (by omega), Fin.ext (by omega)⟩

/-- A sum by rows of a family that is zero off one point. -/
theorem sum_single (g : Fin 8 → Fin 2048 → EReal) (n : Fin 16384) (v : EReal)
    (h : ∀ r j, g r j = if flat r j = n then v else 0) : ∑ r, ∑ j, g r j = v := by
  obtain ⟨r, j, rfl⟩ := flat_surj n
  have h1 : ∀ r' j', g r' j' = if r' = r ∧ j' = j then v else 0 := fun r' j' => by
    rw [h]
    by_cases e : r' = r ∧ j' = j
    · obtain ⟨rfl, rfl⟩ := e
      simp
    · rw [if_neg e, if_neg fun e' => e (flat_inj e')]
  rw [Finset.sum_eq_single r, Finset.sum_eq_single j]
  · rw [h1, if_pos ⟨rfl, rfl⟩]
  · intro j' _ hj
    rw [h1, if_neg fun e => hj e.2]
  · intro e
    exact absurd (Finset.mem_univ _) e
  · intro r' _ hr
    exact Finset.sum_eq_zero fun j' _ => by rw [h1, if_neg fun e => hr e.1]
  · intro e
    exact absurd (Finset.mem_univ _) e

/-- A maximum by rows is the largest value. -/
theorem max_rows (g : Fin 8 → Fin 2048 → EReal) (D : Fin 16384 → EReal) (hg : ∀ r j, g r j = D (flat r j)) {n : Fin 16384}
    (hn : ∀ m, D m ≤ D n) :
    (Finset.univ : Finset (Fin 8)).fold max ⊥ (fun r => (Finset.univ : Finset (Fin 2048)).fold max ⊥ (g r)) = D n := by
  apply le_antisymm
  · refine Finset.fold_max_le _ |>.mpr ⟨bot_le, fun r _ => Finset.fold_max_le _ |>.mpr ⟨bot_le, fun j _ => ?_⟩⟩
    rw [hg]
    exact hn _
  · obtain ⟨r, j, rfl⟩ := flat_surj n
    refine Finset.le_fold_max _ |>.mpr (.inr ⟨r, Finset.mem_univ _, Finset.le_fold_max _ |>.mpr (.inr ⟨j, Finset.mem_univ _, ?_⟩)⟩)
    rw [hg]

/-- A minimum by rows is the smallest number. -/
theorem min_rows (g : Fin 8 → Fin 2048 → ℕ) (M n : ℕ) (hM : n ≤ M) (hn : ∃ r j, g r j = n) (hg : ∀ r j, n ≤ g r j) :
    (Finset.univ : Finset (Fin 8)).fold min M (fun r => (Finset.univ : Finset (Fin 2048)).fold min M (g r)) = n := by
  apply le_antisymm
  · obtain ⟨r, j, e⟩ := hn
    exact Finset.fold_min_le _ |>.mpr (.inr ⟨r, Finset.mem_univ _, Finset.fold_min_le _ |>.mpr (.inr ⟨j, Finset.mem_univ _, e.le⟩)⟩)
  · exact Finset.le_fold_min _ |>.mpr ⟨hM, fun r _ => Finset.le_fold_min _ |>.mpr ⟨hM, fun j _ => hg r j⟩⟩

theorem minsi_ofNat (a b : ℕ) (ha : a < 2147483648) (hb : b < 2147483648) :
    IntOp.minsi (BitVec.ofNat 32 a) (BitVec.ofNat 32 b) = BitVec.ofNat 32 (min a b) := by
  have h1 : (BitVec.ofNat 32 a).toInt = a := by
    rw [BitVec.toInt_eq_toNat_of_lt] <;> rw [BitVec.toNat_ofNat, Nat.mod_eq_of_lt] <;> omega
  have h2 : (BitVec.ofNat 32 b).toInt = b := by
    rw [BitVec.toInt_eq_toNat_of_lt] <;> rw [BitVec.toNat_ofNat, Nat.mod_eq_of_lt] <;> omega
  unfold IntOp.minsi
  rw [BitVec.slt, h1, h2]
  by_cases h : a < b
  · rw [if_pos (by simpa using h), min_eq_left h.le]
  · rw [if_neg (by simpa using h), min_eq_right (not_lt.mp h)]

/-- A fold of signed minima of small words is the word of the fold of minima. -/
theorem fold_minsi {ι : Type} (S : Finset ι) (M : ℕ) (hM : M < 2147483648) (w : ι → BitVec 32) (g : ι → ℕ)
    (hw : ∀ i, w i = BitVec.ofNat 32 (g i)) (hg : ∀ i, g i < 2147483648) :
    S.fold IntOp.minsi (BitVec.ofNat 32 M) w = BitVec.ofNat 32 (S.fold min M g) := by
  induction S using Finset.cons_induction with
  | empty => rfl
  | cons a S ha ih =>
    rw [Finset.fold_cons, Finset.fold_cons, ih, hw, minsi_ofNat _ _ (hg a)]
    exact lt_of_le_of_lt (Finset.fold_min_le _ |>.mpr (.inl le_rfl)) hM

end Cert.Proof.SampleSpec

end
-- ==== Proof.SampleMath.lean ====
/-
  The step of the sampling kernel on the extended reals: the masked sum reads the centre's coordinates off, the lowered
  minimum is the one of the specification, and the smallest index that attains the largest value is its first index.
-/
module

public import proofs.«01_k».proof.Proof.SampleTrip
public import proofs.«01_k».proof.Proof.SampleSpec
public import Idealize.ShloMosaic.Lib.Pipeline.Value
public import Idealize.ShloMosaic.Lib.ValueIdx
public import Idealize.ShloMosaic.Lib.WordCmp

@[expose] public section

noncomputable section

namespace Cert.Proof.SampleTrip

open Cert.SamplingIdeal Cert.SamplingIdeal.Gen Cert.Proof.SampleSpec
open Idealize.ShloMosaic Idealize.ShloMosaic.TcCoe

/-! ## Layout -/

section Layout
variable {α : Type}

theorem cast_4x1x1 (x : S4x1.Idx → α) (b : Fin 4) : shapeCast S4x1x1 x shapeCasts_S4x1_S4x1x1 (ix3 b 0 0) = x (ix2 b 0) := by
  refine shapeCast_apply _ _ _ _ ?_
  refine (Shape.rowMajor_val_two (d := ![4, 1]) _).trans ((Shape.rowMajor_val_three (d := ![4, 1, 1]) _).trans ?_).symm
  simp [ix2, ix3]

theorem cast_4x8x1 (x : S4x8.Idx → α) (b : Fin 4) (r : Fin 8) : shapeCast S4x8x1 x shapeCasts_S4x8_S4x8x1 (ix3 b r 0) = x (ix2 b r) := by
  refine shapeCast_apply _ _ _ _ ?_
  refine (Shape.rowMajor_val_two (d := ![4, 8]) _).trans ((Shape.rowMajor_val_three (d := ![4, 8, 1]) _).trans ?_).symm
  simp [ix2, ix3]

theorem cast_4x1 (x : S4x1x1.Idx → α) (b : Fin 4) : shapeCast S4x1 x shapeCasts_S4x1x1_S4x1 (ix2 b 0) = x (ix3 b 0 0) := by
  refine shapeCast_apply _ _ _ _ ?_
  refine (Shape.rowMajor_val_three (d := ![4, 1, 1]) _).trans ((Shape.rowMajor_val_two (d := ![4, 1]) _).trans ?_).symm
  simp [ix2, ix3]

theorem cast_4x1x3 (x : S4x3.Idx → α) (b : Fin 4) (c : Fin 3) : shapeCast S4x1x3 x shapeCasts_S4x3_S4x1x3 (ix3 b 0 c) = x (ix2 b c) := by
  refine shapeCast_apply _ _ _ _ ?_
  refine (Shape.rowMajor_val_two (d := ![4, 3]) _).trans ((Shape.rowMajor_val_three (d := ![4, 1, 3]) _).trans ?_).symm
  simp [ix2, ix3]

theorem cast_4x8x2048 (x : S4x1x8x2048.Idx → α) (b : Fin 4) (r : Fin 8) (j : Fin 2048) :
    shapeCast S4x8x2048 x shapeCasts_S4x1x8x2048_S4x8x2048 (ix3 b r j) = x (ix4 b 0 r j) := by
  refine shapeCast_apply _ _ _ _ ?_
  refine (Shape.rowMajor_val_four (d := ![4, 1, 8, 2048]) _).trans ((Shape.rowMajor_val_three (d := ![4, 8, 2048]) _).trans ?_).symm
  simp [ix3, ix4]

theorem spread (x : S4x1x1.Idx → α) (b : Fin 4) (r : Fin 8) (j : Fin 2048) :
    broadcastTo S4x8x2048 x broadcasts_S4x1x1_S4x8x2048 (ix3 b r j) = x (ix3 b 0 0) := by
  refine broadcastTo_apply _ _ _ _ fun a => ?_
  fin_cases a <;> rfl

theorem lift_inner (b : Fin 4) (r : Fin 8) (j : Fin 2048) : reduces_S4x8x2048_S4x8.lift (ix2 b r) j = ix3 b r j := by
  funext a
  fin_cases a <;> rfl

theorem lift_outer (b : Fin 4) (r : Fin 8) : reduces_S4x8x1_S4x1.lift (ix2 b 0) r = ix3 b r 0 := by
  funext a
  fin_cases a <;> rfl

end Layout

theorem idx3 (i : S4x8x2048.Idx) : ∃ b r j, i = ix3 (n0 := 4) (n1 := 8) (n2 := 2048) b r j :=
  ⟨i 0, i 1, i 2, by funext a; fin_cases a <;> rfl⟩

/-! ## Reductions by rows -/

theorem outer_fold {α : Type} (op : α → α → α) [Std.Commutative op] [Std.Associative op] (z : α) (x : S4x8.Idx → α) (b : Fin 4) :
    (Finset.univ : Finset (Fin (S4x8x1.size 1))).fold op z (shapeCast S4x8x1 x shapeCasts_S4x8_S4x8x1 ∘ reduces_S4x8x1_S4x1.lift (ix2 b 0))
      = (Finset.univ : Finset (Fin 8)).fold op z fun r => x (ix2 b r) :=
  Finset.fold_congr fun r _ => (congrArg (shapeCast S4x8x1 x shapeCasts_S4x8_S4x8x1) (lift_outer b r)).trans (cast_4x8x1 x b r)

theorem inner_fold {α : Type} (op : α → α → α) [Std.Commutative op] [Std.Associative op] (z : α) (x : S4x8x2048.Idx → α) (b : Fin 4) (r : Fin 8) :
    (Finset.univ : Finset (Fin (S4x8x2048.size 2))).fold op z (x ∘ reduces_S4x8x2048_S4x8.lift (ix2 b r))
      = (Finset.univ : Finset (Fin 2048)).fold op z fun j => x (ix3 b r j) :=
  Finset.fold_congr fun j _ => congrArg x (lift_inner b r j)

theorem sum_rows (v : FVec Ideal S4x8x2048 .f32) (b : Fin 4) :
    shapeCast S4x1x1 (multiReduction .add [1] S4x1 (shapeCast S4x8x1 (multiReduction .add [2] S4x8 v 0x00000000#32 reduces_S4x8x2048_S4x8 (.inl rfl) rfl) shapeCasts_S4x8_S4x8x1) 0x00000000#32 reduces_S4x8x1_S4x1 (.inl rfl) rfl) shapeCasts_S4x1_S4x1x1 (ix3 b 0 0)
      = ∑ r : Fin 8, ∑ j : Fin 2048, v (ix3 b r j) := by
  refine (cast_4x1x1 _ b).trans ((Ideal.multiReduction_add_single _ _ _ _ _ _).trans ?_)
  refine Finset.sum_congr rfl fun r _ => ?_
  refine (congrArg (shapeCast S4x8x1 _ shapeCasts_S4x8_S4x8x1) (lift_outer b r)).trans ?_
  refine (cast_4x8x1 _ b r).trans ((Ideal.multiReduction_add_single _ _ _ _ _ _).trans ?_)
  exact Finset.sum_congr rfl fun j _ => congrArg v (lift_inner b r j)

theorem bot_pattern : (FloatOps.ofBits .f32 0xFF800000#32 : Ideal .f32) = (⊥ : EReal) := by
  show Ideal.ofBits .f32 0xFF800000#32 = ⊥
  simp [Ideal.ofBits, Ideal.ieee]

theorem top_rows (v : FVec Ideal S4x8x2048 .f32) (b : Fin 4) : top v (ix3 b 0 0)
      = (Finset.univ : Finset (Fin 8)).fold max (FloatOps.ofBits .f32 0xFF800000#32 : Ideal .f32)
        (fun r => (Finset.univ : Finset (Fin 2048)).fold max (FloatOps.ofBits .f32 0xFF800000#32 : Ideal .f32) fun j => v (ix3 b r j)) := by
  unfold top
  refine (cast_4x1x1 _ b).trans ((Ideal.multiReduction_maximumf_single _ _ _ _ _ _).trans ((outer_fold max _ _ b).trans ?_))
  exact Finset.fold_congr fun r _ => (Ideal.multiReduction_maximumf_single _ _ _ _ _ _).trans (inner_fold max _ _ b r)

theorem pick_rows (D : FVec Ideal S4x8x2048 .f32) (g : Fin 8 → Fin 2048 → ℕ) (b : Fin 4)
    (h : ∀ r j, cand D (ix3 b r j) = BitVec.ofNat 32 (g r j)) (hg : ∀ r j, g r j < 2147483648) :
    pick D (ix3 b 0 0) = BitVec.ofNat 32 ((Finset.univ : Finset (Fin 8)).fold min 2147483647
      (fun r => (Finset.univ : Finset (Fin 2048)).fold min 2147483647 (g r))) := by
  unfold pick
  refine (cast_4x1x1 _ b).trans ((multiReductionI_eq_fold _ _ _ _ _ _).trans ?_)
  refine (reduces_S4x8x1_S4x1.fold_filter_drop_single IntOp.minsi _ _ _).trans ((outer_fold IntOp.minsi _ _ b).trans ?_)
  refine fold_minsi Finset.univ 2147483647 (by norm_num) _ (fun r => (Finset.univ : Finset (Fin 2048)).fold min 2147483647 (g r)) (fun r => ?_) fun r =>
    lt_of_le_of_lt (Finset.fold_min_le _ |>.mpr (.inl le_rfl)) (by norm_num : 2147483647 < 2147483648)
  refine (multiReductionI_eq_fold _ _ _ _ _ _).trans ?_
  refine (reduces_S4x8x2048_S4x8.fold_filter_drop_single IntOp.minsi _ _ _).trans ((inner_fold IntOp.minsi _ _ b r).trans ?_)
  exact fold_minsi Finset.univ 2147483647 (by norm_num) _ _ (h r) (hg r)

/-! ## The step -/

theorem index_apply (b : Fin 4) (r : Fin 8) (j : Fin 2048) : k0_pay4 (ix3 b r j) = BitVec.ofNat 32 (flat r j).val := by
  unfold k0_pay4
  dsimp only [addi, muli, broadcast]
  rw [WordCmp.iota_at, WordCmp.iota_at]
  simp only [List.foldl_cons, List.foldl_nil, Nat.zero_mul, Nat.zero_add]
  change IntOp.addi (IntOp.muli (BitVec.ofNat 32 r.val) 2048#32) (BitVec.ofNat 32 j.val) = _
  apply BitVec.eq_of_toNat_eq
  have := r.isLt
  have := j.isLt
  simp only [IntOp.addi, IntOp.muli, BitVec.toNat_add, BitVec.toNat_mul, BitVec.toNat_ofNat, flat]
  omega

theorem ofNat_inj {a b : Fin 16384} : BitVec.ofNat 32 a.val = BitVec.ofNat 32 b.val ↔ a = b := by
  refine ⟨fun h => Fin.ext ?_, fun h => h ▸ rfl⟩
  have := congrArg BitVec.toNat h
  simp only [BitVec.toNat_ofNat] at this
  omega

theorem mask_apply (f : IVec S4x1x1 32) (n : Fin 16384) (b : Fin 4) (hf : f (ix3 b 0 0) = BitVec.ofNat 32 n.val) (r : Fin 8) (j : Fin 2048) :
    mask (F := Ideal) f (ix3 b r j) = if flat r j = n then (1 : EReal) else 0 := by
  show FloatOps.sitofp .f32 (BitVec.setWidth 32 (IntOp.cmpi .eq (k0_pay4 (ix3 b r j)) (broadcastTo S4x8x2048 f broadcasts_S4x1x1_S4x8x2048 (ix3 b r j)))) = _
  rw [index_apply, spread, hf]
  by_cases h : flat r j = n
  · have e : IntOp.cmpi .eq (BitVec.ofNat 32 (flat r j).val) (BitVec.ofNat 32 n.val) = 1#1 := by simp [IntOp.cmpi, h]
    rw [if_pos h, e]
    show (((BitVec.setWidth 32 1#1).toInt : ℝ) : EReal) = 1
    rw [show (BitVec.setWidth 32 1#1).toInt = 1 by decide]
    norm_num
  · have e : IntOp.cmpi .eq (BitVec.ofNat 32 (flat r j).val) (BitVec.ofNat 32 n.val) = 0#1 := by
      have := mt ofNat_inj.mp h
      simp only [IntOp.cmpi, beq_eq_false_iff_ne.mpr this]
      rfl
    rw [if_neg h, e]
    show (((BitVec.setWidth 32 0#1).toInt : ℝ) : EReal) = 0
    rw [show (BitVec.setWidth 32 0#1).toInt = 0 by decide]
    norm_num

/-- What the kernel's carried state is, against the specification's: the running minimum and the centre of every batch. -/
def Holds (s : FVec Ideal S4x8x2048 .f32 × IVec S4x1x1 32) (σ : Fin 4 → (Fin 16384 → EReal) × Fin 16384) : Prop :=
  (∀ b r j, s.1 (ix3 b r j) = (σ b).1 (flat r j)) ∧ ∀ b, s.2 (ix3 b 0 0) = BitVec.ofNat 32 (σ b).2.val

/-- The coordinate arrays hold the points. -/
def Points (x y z : FVec Ideal S4x8x2048 .f32) (P : Fin 4 → Fin 16384 → Fin 3 → EReal) : Prop :=
  ∀ b r j, x (ix3 b r j) = P b (flat r j) 0 ∧ y (ix3 b r j) = P b (flat r j) 1 ∧ z (ix3 b r j) = P b (flat r j) 2

theorem cent_apply (v : FVec Ideal S4x8x2048 .f32) (f : IVec S4x1x1 32) (q : Fin 16384 → EReal) (n : Fin 16384) (b : Fin 4)
    (hv : ∀ r j, v (ix3 b r j) = q (flat r j)) (hf : f (ix3 b 0 0) = BitVec.ofNat 32 n.val) :
    cent v f (ix3 b 0 0) = q n := by
  refine (sum_rows (mulf v (mask f)) b).trans (sum_single _ n _ fun r j => ?_)
  show (v (ix3 b r j) : EReal) * mask f (ix3 b r j) = _
  rw [mask_apply f n b hf, hv]
  split
  · rename_i h
    rw [h, mul_one]
  · rw [mul_zero]

theorem lower_apply {x y z : FVec Ideal S4x8x2048 .f32} {P : Fin 4 → Fin 16384 → Fin 3 → EReal} (hP : Points x y z P)
    {s : FVec Ideal S4x8x2048 .f32 × IVec S4x1x1 32} {σ : Fin 4 → (Fin 16384 → EReal) × Fin 16384} (hs : Holds s σ)
    (b : Fin 4) (r : Fin 8) (j : Fin 2048) : lower x y z s.1 s.2 (ix3 b r j) = lowered (P b) (σ b) (flat r j) := by
  show min (s.1 (ix3 b r j) : EReal)
    ((x (ix3 b r j) - broadcastTo S4x8x2048 (cent x s.2) broadcasts_S4x1x1_S4x8x2048 (ix3 b r j) : EReal)
        * (x (ix3 b r j) - broadcastTo S4x8x2048 (cent x s.2) broadcasts_S4x1x1_S4x8x2048 (ix3 b r j))
      + (y (ix3 b r j) - broadcastTo S4x8x2048 (cent y s.2) broadcasts_S4x1x1_S4x8x2048 (ix3 b r j))
        * (y (ix3 b r j) - broadcastTo S4x8x2048 (cent y s.2) broadcasts_S4x1x1_S4x8x2048 (ix3 b r j))
      + (z (ix3 b r j) - broadcastTo S4x8x2048 (cent z s.2) broadcasts_S4x1x1_S4x8x2048 (ix3 b r j))
        * (z (ix3 b r j) - broadcastTo S4x8x2048 (cent z s.2) broadcasts_S4x1x1_S4x8x2048 (ix3 b r j))) = _
  rw [spread, spread, spread, cent_apply x s.2 (fun n => P b n 0) (σ b).2 b (fun r j => (hP b r j).1) (hs.2 b),
    cent_apply y s.2 (fun n => P b n 1) (σ b).2 b (fun r j => (hP b r j).2.1) (hs.2 b),
    cent_apply z s.2 (fun n => P b n 2) (σ b).2 b (fun r j => (hP b r j).2.2) (hs.2 b), hs.1 b r j, (hP b r j).1, (hP b r j).2.1, (hP b r j).2.2]
  rfl

theorem pick_apply (D : FVec Ideal S4x8x2048 .f32) (q : Fin 16384 → EReal) (b : Fin 4) (hD : ∀ r j, D (ix3 b r j) = q (flat r j)) :
    pick D (ix3 b 0 0) = BitVec.ofNat 32 (first q).val := by
  have hF := first_isFirst q
  have ht : top D (ix3 b 0 0) = q (first q) := (top_rows D b).trans (by rw [bot_pattern]; exact max_rows _ q hD hF.1)
  have hc : ∀ r j, cand D (ix3 b r j) = BitVec.ofNat 32 (if q (flat r j) = q (first q) then (flat r j).val else 16384) := fun r j => by
    show Scalar.select (Ideal.cmp .oeq (D (ix3 b r j)) (broadcastTo S4x8x2048 (top D) broadcasts_S4x1x1_S4x8x2048 (ix3 b r j))) (k0_pay4 (ix3 b r j)) 16384#32 = _
    rw [spread, ht, hD, index_apply]
    by_cases h : q (flat r j) = q (first q)
    · simp [Scalar.select, Ideal.cmp, h]
    · simp [Scalar.select, Ideal.cmp, h]
  rw [pick_rows D _ b hc fun r j => by split <;> have := (flat r j).isLt <;> omega]
  congr 1
  obtain ⟨r, j, e⟩ := flat_surj (first q)
  refine min_rows _ _ _ (by have := (first q).isLt; omega) ⟨r, j, by rw [e, if_pos rfl]⟩ fun r j => ?_
  split
  · rename_i h
    exact hF.2 _ h
  · exact (first q).isLt.le

theorem step_holds {x y z : FVec Ideal S4x8x2048 .f32} {P : Fin 4 → Fin 16384 → Fin 3 → EReal} (hP : Points x y z P)
    {s : FVec Ideal S4x8x2048 .f32 × IVec S4x1x1 32} {σ : Fin 4 → (Fin 16384 → EReal) × Fin 16384} (hs : Holds s σ) :
    Holds (step x y z s) fun b => next (P b) (σ b) :=
  ⟨fun b r j => lower_apply hP hs b r j, fun b => pick_apply _ _ b fun r j => lower_apply hP hs b r j⟩

theorem init_holds (P : Fin 4 → Fin 16384 → Fin 3 → EReal) :
    Holds (k0_pay5 (F := Ideal), k0_pay6) fun b => sampled (P b) 0 := ⟨fun _ _ _ => rfl, fun _ => rfl⟩

theorem steps_holds {x y z : FVec Ideal S4x8x2048 .f32} {P : Fin 4 → Fin 16384 → Fin 3 → EReal} (hP : Points x y z P) :
    ∀ n, Holds (steps x y z (k0_pay5 (F := Ideal), k0_pay6) n) fun b => sampled (P b) n
  | 0 => init_holds P
  | n + 1 => step_holds hP (steps_holds hP n)

theorem row_apply {x y z : FVec Ideal S4x8x2048 .f32} {P : Fin 4 → Fin 16384 → Fin 3 → EReal} (hP : Points x y z P)
    {s : FVec Ideal S4x8x2048 .f32 × IVec S4x1x1 32} {σ : Fin 4 → (Fin 16384 → EReal) × Fin 16384} (hs : Holds s σ)
    (b : Fin 4) (c : Fin 3) : row x y z s.2 (ix2 b c) = P b (σ b).2 c := by
  show concatenate S4x3 1 (List.ofFn fun n : Fin 3 => (⟨S4x1, shapeCast S4x1 (cent (![x, y, z] n) s.2) shapeCasts_S4x1x1_S4x1⟩ : (s : Shape) × (s.Idx → EReal)))
    concatenates_S4x1_S4x1_S4x1_S4x3_d1 (ix2 b c) = _
  refine (concatenate_ofFn_unit_apply (t := S4x3) (s₁ := S4x1) 1 _ _ rfl rfl (ix2 b c) c rfl (ix2 b 0) fun a ha => ?_).trans ?_
  · fin_cases a
    · rfl
    · exact absurd rfl ha
  · rw [cast_4x1]
    refine cent_apply _ _ (fun n => P b n c) _ b (fun r j => ?_) (hs.2 b)
    fin_cases c
    · exact (hP b r j).1
    · exact (hP b r j).2.1
    · exact (hP b r j).2.2

end Cert.Proof.SampleTrip

end
-- ==== Proof.SampleOut.lean ====
/-
  The sampling kernel's output: row `t` of a batch holds the coordinates of the centre after `t` steps.
-/
module

public import proofs.«01_k».proof.Proof.SampleMath
public import Idealize.ShloMosaic.Lib.WritesUnit

@[expose] public section

noncomputable section

namespace Cert.Proof.SampleTrip

open Cert.SamplingIdeal Cert.SamplingIdeal.Gen Cert.Proof.SampleSpec
open Idealize.ShloMosaic Idealize.ShloMosaic.TcCoe

variable {F : FTy → Type} [FloatOps F]

/-- Eight rows of a trip, read at a row. -/
theorem rows_apply (v0 v2 v4 : Vec F S4x1x8x2048 .f32) (acc : FVec F S4x8x2048 .f32 × IVec S4x1x1 32) (b : Fin 4) (i : Fin 8) (c : Fin 3) :
    rows v0 v2 v4 acc (ix3 b i c) = R v0 v2 v4 acc i.val (ix2 b c) := by
  show concatenate S4x8x3 1 (List.ofFn fun n : Fin 8 => (⟨S4x1x3, shapeCast S4x1x3 (R v0 v2 v4 acc n.val) shapeCasts_S4x3_S4x1x3⟩ : (s : Shape) × (s.Idx → F .f32)))
    concatenates_S4x1x3_S4x1x3_S4x1x3_S4x1x3_S4x1x3_S4x1x3_S4x1x3_S4x1x3_S4x8x3_d1 (ix3 b i c) = _
  refine (concatenate_ofFn_unit_apply (t := S4x8x3) (s₁ := S4x1x3) 1 _ _ rfl rfl (ix3 b i c) i rfl (ix3 b 0 c) fun a ha => ?_).trans ?_
  · fin_cases a
    · rfl
    · exact absurd rfl ha
    · rfl
  · exact cast_4x1x3 _ b c

variable (𝒱 : Variants) (d : Dev nD) (bd : Option 𝒱.V) (arg0 : Memref sig .tc .vmem S4x3x8x2048 .f32) (harg0 : arg0.IsWhole)
  (arg1 : Memref sig .tc .vmem S4x1024x3 .f32) (harg1 : arg1.IsWhole) (v0 v2 v4 : Vec F S4x1x8x2048 .f32)
  (init : FVec F S4x8x2048 .f32 × IVec S4x1x1 32)

theorem trips_eq : k0_t1_loop.trips = 128 := by decide +kernel

/-- The state after `k` trips is the state after `8 k` steps. -/
theorem state_eq : ∀ k, k ≤ 128 → (st_k0_t1 (F := F) 𝒱 d bd arg0 harg0 arg1 harg1 v0 v2 v4 init k).1 = S v0 v2 v4 init (8 * k)
  | 0, _ => rfl
  | k + 1, hk => by
    have h := state_eq k (by omega)
    rw [st_k0_t1_succ (F := F) 𝒱 d bd arg0 harg0 arg1 harg1 v0 v2 v4 init ⟨k, by rw [trips_eq]; omega⟩]
    dsimp only
    rw [tripR_eq, h]
    exact (steps_add _ _ _ _ (8 * k) 8).symm

/-- The pieces of the first `k` trips, read back at one of their rows. -/
theorem pieces_read (v : View sig .tc .vmem S4x1024x3 .f32) (f : v.ty.Contents (Elt F)) : ∀ k, k ≤ 128 → ∀ (b : Fin 4) (t : Fin 1024) (c : Fin 3), t.val < 8 * k →
    v.read (Elt F) (v.writes (Elt F) f (st_k0_t1 (F := F) 𝒱 d bd arg0 harg0 arg1 harg1 v0 v2 v4 init k).2) (ix3 b t c)
      = R v0 v2 v4 init t.val (ix2 b c)
  | 0, _, _, _, _, h => absurd h (Nat.not_lt_zero _)
  | k + 1, hk, b, t, c, h => by
    have hs := state_eq 𝒱 d bd arg0 harg0 arg1 harg1 v0 v2 v4 init k (by omega)
    have ih := pieces_read v f k (by omega) b t c
    rw [st_k0_t1_succ (F := F) 𝒱 d bd arg0 harg0 arg1 harg1 v0 v2 v4 init ⟨k, by rw [trips_eq]; omega⟩]
    dsimp only
    rw [tripL_eq, hs, List.singleton_append]
    by_cases ht : t.val < 8 * k
    · refine (View.read_writes_cons_unit_of_not_mem v f _ _ _ _ (k0_off1_eq _) 1 (.inl ht)).trans (ih ht)
    · refine (View.read_writes_cons_unit_of_mem v f _ _ _ _ (ix3 (n0 := 4) (n1 := 8) (n2 := 3) b ⟨t.val - 8 * k, by omega⟩ c) (k0_off1_eq _) fun a => ?_).trans ?_
      · fin_cases a
        · exact (Nat.zero_add _).symm
        · show t.val = 8 * k + (t.val - 8 * k)
          omega
        · exact (Nat.zero_add _).symm
      · rw [rows_apply]
        show row _ _ _ (steps _ _ _ (steps _ _ _ init (8 * k)) (t.val - 8 * k)).2 _ = _
        rw [← steps_add, show 8 * k + (t.val - 8 * k) = t.val by omega]

/-- What the body leaves in its output: row `t` of a batch holds the coordinates of the centre after `t` steps. -/
theorem out_apply (c : Dev nD) (arg0 : Memref sig .tc .vmem S4x3x8x2048 .f32) (harg0 : arg0.IsWhole) (arg1 : Memref sig .tc .vmem S4x1024x3 .f32)
    (harg1 : arg1.IsWhole) (x0 : Vec Ideal S4x3x8x2048 .f32) (P : Fin 4 → Fin 16384 → Fin 3 → EReal)
    (hx : ∀ b k r j, x0 (ix4 b k r j) = P b (flat r j) k) (b : Fin 4) (t : Fin 1024) (k : Fin 3) :
    out0_A_1 (F := Ideal) c arg0 harg0 arg1 harg1 x0 (ix3 b t k) = P b (sampled (P b) t.val).2 k := by
  have hr : ∀ (off : Fin 4 → ℕ) (h : ∀ a, off a + S4x1x8x2048.size a ≤ S4x3x8x2048.size a) (n : Fin 3) (_ : off = ![0, n.val, 0, 0]) (b : Fin 4) (r : Fin 8) (j : Fin 2048),
      (View.readAt (Elt Ideal) arg0.view (Rect.unit (s := S4x3x8x2048) off S4x1x8x2048.size h).toLoadRect (harg0.unread x0) : S4x1x8x2048.Idx → EReal) (ix4 b 0 r j) = P b (flat r j) n := by
    intro off h n e b r j
    subst e
    refine Eq.trans ?_ (hx b n r j)
    refine (congrFun (harg0.read_unread x0) _).trans (congrArg x0 ?_)
    funext a
    refine Fin.ext ?_
    match a with
    | ⟨0, _⟩ => exact (Nat.zero_add _).trans (Nat.one_mul _)
    | ⟨1, _⟩ => rfl
    | ⟨2, _⟩ => exact (Nat.zero_add _).trans (Nat.one_mul _)
    | ⟨3, _⟩ => exact (Nat.zero_add _).trans (Nat.one_mul _)
  unfold out0_A_1 kernelRun0_A
  dsimp only
  have h128 : Scf.trips (0#32) (Scalar.addi 0#32 128#32) 1#32 = 128 := by decide +kernel
  rw [h128]
  refine (pieces_read Variants.none c none arg0 harg0 arg1 harg1 _ _ _ _ VO0_1 VO0_1.junk 128 le_rfl b t k (by have := t.isLt; omega)).trans ?_
  refine row_apply (P := P) ?_ (steps_holds (P := P) ?_ t.val) b k
  all_goals
    intro b r j
    refine ⟨?_, ?_, ?_⟩
    · exact (cast_4x8x2048 _ b r j).trans (hr _ _ 0 rfl b r j)
    · exact (cast_4x8x2048 _ b r j).trans (hr _ _ 1 rfl b r j)
    · exact (cast_4x8x2048 _ b r j).trans (hr _ _ 2 rfl b r j)

end Cert.Proof.SampleTrip

end
-- ==== Proof.SampleArr.lean ====
/-
  The sampling program's result: its output array, read back and transposed, holds the coordinates of the sampled points.
-/
module

public import proofs.«01_k».proof.Proof.SampleOut
public import proofs.«01_k».proof.Proof.Gen.SamplingIdeal.Frame

@[expose] public section

noncomputable section

namespace Cert.Proof.SampleTrip

open Cert.SamplingIdeal Cert.SamplingIdeal.Gen Cert.Proof.SampleSpec
open Idealize.ShloMosaic Idealize.ShloMosaic.TcCoe Idealize.SL.Sem
open Idealize.ShloMosaic.Pipeline (Dat)

/-- The points of a batch: coordinate `k` of point `n`. -/
def points (X : S4x3x16384.Idx → EReal) (b : Fin 4) (n : Fin 16384) (k : Fin 3) : EReal := X (ix3 b k n)

/-- The common value: coordinate `k` of the centre after `t` steps. -/
def value (X : S4x3x16384.Idx → EReal) (i : S4x3x1024.Idx) : EReal :=
  points X (i 0) (sampled (points X (i 0)) (i 2).val).2 (i 1)

variable (m : (ℓ : Loc nD τ sig) → Buf (Elt Ideal) ℓ) (ρ : Dev nD → PrngReg)

/-- The argument as an array. -/
abbrev argX (c : Dev nD) : S4x3x16384.Idx → EReal := m ((c : Thread nD τ).loc main_arg0)

/-- The kernel's operand is the argument in its padded shape. -/
theorem V_main_v0 (c : Dev nD) : (V m c main_v0 : S4x3x8x2048.Idx → EReal) = shapeCast S4x3x8x2048 (argX m c) shapeCasts_S4x3x16384_S4x3x8x2048 := by
  show StableHlo.after (List.flatten [hostOps0]) (fun b => m (c, b)) (Proc.devRef .tc main_v0) = _
  simp only [hostOps0, List.flatten_cons, List.flatten_nil, List.append_nil, StableHlo.after]
  exact StableHlo.reshape_result' _ _ _ _ _

theorem V_apply (c : Dev nD) (b : Fin 4) (k : Fin 3) (r : Fin 8) (j : Fin 2048) :
    (V m c main_v0 : S4x3x8x2048.Idx → EReal) (ix4 b k r j) = points (argX m c) b (flat r j) k := by
  rw [V_main_v0]
  refine shapeCast_apply _ _ _ (ix3 b k (flat r j)) ?_
  rw [Shape.rowMajor_val_three, Shape.rowMajor_val_four]
  show (b.val * 3 + k.val) * 16384 + (2048 * r.val + j.val) = ((b.val * 3 + k.val) * 8 + r.val) * 2048 + j.val
  ring

/-- A point of the one-point grid, and its block's element: the array's own. -/
theorem block_in (c : Dev nD) (t : Fin cfg0.N) (b : Fin 4) (k : Fin 3) (r : Fin 8) (j : Fin 2048) :
    (iblk m c 0 t : S4x3x8x2048.Idx → EReal) (ix4 b k r j) = points (argX m c) b (flat r j) k := by
  refine Eq.trans ?_ (V_apply m c b k r j)
  show (V m c main_v0 : S4x3x8x2048.Idx → EReal) (((cfg0.win 0).blk t).view.emb (ix4 b k r j)) = _
  refine congrArg (V m c main_v0 : S4x3x8x2048.Idx → EReal) ?_
  funext a
  refine Fin.ext ?_
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
  | ⟨3, _⟩ => exact (Nat.zero_add _).trans (Nat.one_mul _)

theorem flushed1 (c : Dev nD) (t : Fin cfg0.N) :
    (dats m 0 c).flushed 1 t = (cfg0.win 1).cut (grid0.coords t) (outsAt0 m c t) := by
  show (cfg0.win 1).cut (grid0.coords t) ((dats m 0 c).after 1 t) = _
  rw [after0_1]

theorem idx_inj1 : ∀ t t' : Fin cfg0.N, win0_1.index t = win0_1.index t' → t = t' :=
  (by decide +kernel : ∀ t t' : Fin grid0.N, win0_1.index t = win0_1.index t' → t = t')

theorem disjoint1 : ∀ t t' : Fin cfg0.N, (cfg0.win 1).flush t = true → (cfg0.win 1).flush t' = true → t ≠ t' →
    Disjoint ((cfg0.win 1).blk t).view.set ((cfg0.win 1).blk t').view.set :=
  fun t t' _ _ hne => (cfg0.win 1).disjoint_blk fun h => hne (idx_inj1 t t' h)

theorem blocks1 (c : Dev nD) (t : Fin cfg0.N) (hf : (cfg0.win 1).flush t = true) :
    ((cfg0.win 1).blk t).view.read (Elt Ideal) ((dats m 0 c).arrAt 1 cfg0.N) = (dats m 0 c).flushed 1 t :=
  (dats m 0 c).read_blk_arrAt_eq_flushed 1 disjoint1 cfg0.N t t.isLt hf

/-- The output array after the run. -/
theorem array_out (c : Dev nD) (b : Fin 4) (s : Fin 1024) (k : Fin 3) :
    ((dats m 0 c).arrAt 1 cfg0.N : S4x1024x3.Idx → EReal) (ix3 b s k) = points (argX m c) b (sampled (points (argX m c) b) s.val).2 k := by
  have hN : 0 < cfg0.N := by decide +kernel
  have e := congrFun ((blocks1 m c ⟨0, hN⟩ (flush0_1 _)).trans (flushed1 m c ⟨0, hN⟩)) (ix3 b s k)
  have e2 : ((dats m 0 c).arrAt 1 cfg0.N : S4x1024x3.Idx → EReal) (((cfg0.win 1).blk ⟨0, hN⟩).view.emb (ix3 b s k)) = outsAt0 m c ⟨0, hN⟩ ((cfg0.win 1).xinj _ (ix3 b s k)) := e
  have e3 : ((cfg0.win 1).blk ⟨0, hN⟩).view.emb (ix3 b s k) = (ix3 b s k : S4x1024x3.Idx) := by
    funext a
    refine Fin.ext ?_
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
  rw [e3] at e2
  refine e2.trans ?_
  exact out_apply c _ _ _ _ (iblk m c 0 ⟨0, hN⟩) (points (argX m c)) (fun b k r j => block_in m c ⟨0, hN⟩ b k r j) b s k

/-- The program's result. -/
theorem tail_main_v2 (c : Dev nD) :
    (Pipeline.afterTail₀ cfgs (dats m) 0 (V0 m) [hostOps1] c main_v2 : S4x3x1024.Idx → EReal) = value (argX m c) := by
  have e : (Pipeline.afterTail₀ cfgs (dats m) 0 (V0 m) [hostOps1] c main_v2 : S4x3x1024.Idx → EReal)
      = transpose S4x3x1024 [0, 2, 1] ((dats m 0 c).arrAt 1 cfg0.N : S4x1024x3.Idx → EReal) transposes_S4x1024x3_S4x3x1024_0_2_1 := by
    unfold Pipeline.afterTail₀
    simp only [hostOps1, List.flatten_cons, List.flatten_nil, List.append_nil, StableHlo.after]
    refine (StableHlo.unary_result' _ _ _ _).trans ?_
    refine congrArg (fun x : S4x1024x3.Idx → EReal => transpose S4x3x1024 [0, 2, 1] x transposes_S4x1024x3_S4x3x1024_0_2_1) ?_
    exact Pipeline.withArrays_arr spec0 (by decide) c (V0 m c) (fun w => (dats m 0 c).arrAt w cfg0.N) 1
  rw [e]
  funext i
  refine (transpose_apply _ _ _ i (ix3 (n0 := 4) (n1 := 1024) (n2 := 3) (i 0) (i 2) (i 1)) fun a => ?_).trans (array_out m c (i 0) (i 2) (i 1))
  match a with
  | ⟨0, _⟩ => rfl
  | ⟨1, _⟩ => rfl
  | ⟨2, _⟩ => rfl

/-- The run, with the result named and the argument unchanged. -/
theorem run_value : θ_run defs (onTc (τ := τ) (main (F := Ideal))) ⟨m, fun _ => 0, ρ⟩ fun r => ∀ c : Dev nD,
    r.2.mem ((c.tc : Thread nD τ).loc main_v2) = (value (argX m c) : S4x3x1024.Idx → EReal)
      ∧ r.2.mem ((c.tc : Thread nD τ).loc main_arg0) = m ((c.tc : Thread nD τ).loc main_arg0) :=
  (θ_run defs _ _).mono (fun _ h c => ⟨((h c).2 main_v2 (Pipeline.mem_restRefs_of main_v2 (by decide) (by decide))).trans (tail_main_v2 m c),
      ((h c).2 main_arg0 (Pipeline.mem_restRefs_of main_arg0 (by decide) (by decide))).trans (W_main_arg0 m (dats m) c)⟩)
    (run_main m ρ)

end Cert.Proof.SampleTrip

end
-- ==== Proof.SampleFold.lean ====
/-
  The reference's arg-max and lookups, read at an index: the first index of the largest value, and the named point's
  coordinates.
-/
module

public import proofs.«01_k».proof.Proof.SampleSpec
public import proofs.«01_k».proof.Proof.Gen.SamplingReferenceIdeal
public import Idealize.ShloMosaic.Lib.ValueIdx
public import Idealize.ShloMosaic.Lib.WordCmp
public import Idealize.ShloMosaic.Lib.Routing.OpsOne
public import Idealize.ShloMosaic.Lib.Pipeline.Value

@[expose] public section

noncomputable section

namespace Cert.Proof.SampleRef

open Cert.SamplingReferenceIdeal Cert.SamplingReferenceIdeal.Gen Cert.Proof.SampleSpec
open Idealize.ShloMosaic

/-! ## The arg-max -/

theorem toInt_small (a : ℕ) (ha : a < 2147483648) : (BitVec.ofNat 32 a).toInt = a := by
  rw [BitVec.toInt_eq_toNat_of_lt] <;> rw [BitVec.toNat_ofNat, Nat.mod_eq_of_lt] <;> omega

/-- The body of the arg-max on an earlier index and a later one: the later one wins where its value is larger. -/
theorem body_apply (v d : EReal) (i n : ℕ) (hi : i < 2147483648) (hn : n < 2147483648) (h : i ≤ n) :
    reducer_argmax_f32_i32 (F := Ideal) (v, BitVec.ofNat 32 i) (d, BitVec.ofNat 32 n)
      = if v < d then (d, BitVec.ofNat 32 n) else (v, BitVec.ofNat 32 i) := by
  have hs : (BitVec.ofNat 32 i).slt (BitVec.ofNat 32 n) = decide (i < n) := by
    rw [BitVec.slt, toInt_small i hi, toInt_small n hn]
    simp
  show (Scalar.select (IntOp.ori (Ideal.cmp .ogt v d) (Ideal.cmp .une v v)) v d,
    Scalar.select (IntOp.ori (IntOp.ori (Ideal.cmp .ogt v d) (Ideal.cmp .une v v)) (IntOp.andi (Ideal.cmp .oeq v d) (BitVec.ofBool ((BitVec.ofNat 32 i).slt (BitVec.ofNat 32 n))))) (BitVec.ofNat 32 i) (BitVec.ofNat 32 n)) = _
  rw [hs]
  rcases lt_trichotomy v d with h1 | h1 | h1
  · rw [if_pos h1]
    simp [Scalar.select, Ideal.cmp, IntOp.ori, IntOp.andi, h1.not_gt, h1.ne]
  · subst h1
    rw [if_neg (lt_irrefl v)]
    rcases h.lt_or_eq with h2 | h2
    · simp [Scalar.select, Ideal.cmp, IntOp.ori, IntOp.andi, h2]
    · subst h2
      simp [Scalar.select, Ideal.cmp, IntOp.ori, IntOp.andi]
  · rw [if_neg h1.not_gt]
    simp [Scalar.select, Ideal.cmp, IntOp.ori, IntOp.andi, h1, h1.ne']

/-- The fold of that body over a list with rising indices: the largest value and its first index. -/
theorem fold_first {ι : Type} (D : ι → EReal) (g : ι → ℕ) (hg : ∀ n, g n < 2147483648) : ∀ (L : List ι), L.Pairwise (fun a b => g a ≤ g b) →
    ∀ (v : EReal) (i : ℕ), i < 2147483648 → (∀ n ∈ L, i ≤ g n) →
    ∃ (w : EReal) (k : ℕ), (L.map fun n => (D n, BitVec.ofNat 32 (g n))).foldl (reducer_argmax_f32_i32 (F := Ideal)) (v, BitVec.ofNat 32 i) = (w, BitVec.ofNat 32 k)
      ∧ v ≤ w ∧ (∀ n ∈ L, D n ≤ w) ∧ (v = w → k = i) ∧ (∀ n ∈ L, D n = w → k ≤ g n) ∧ ((v = w ∧ k = i) ∨ ∃ n ∈ L, D n = w ∧ g n = k)
  | [], _, v, i, _, _ => ⟨v, i, rfl, le_rfl, fun _ h => absurd h List.not_mem_nil, fun _ => rfl, fun _ h => absurd h List.not_mem_nil, .inl ⟨rfl, rfl⟩⟩
  | a :: L, hL, v, i, hi, hiL => by
    have hL' := List.pairwise_cons.mp hL
    rw [List.map_cons, List.foldl_cons, body_apply v (D a) i (g a) hi (hg a) (hiL a List.mem_cons_self)]
    by_cases h : v < D a
    · rw [if_pos h]
      obtain ⟨w, k, e, h1, h2, h3, h4, h5⟩ := fold_first D g hg L hL'.2 (D a) (g a) (hg a) hL'.1
      refine ⟨w, k, e, h.le.trans h1, ?_, fun e' => absurd (e' ▸ h) (not_lt.mpr h1), ?_, .inr ?_⟩
      · intro n hn
        rcases List.mem_cons.mp hn with rfl | hn
        · exact h1
        · exact h2 n hn
      · intro n hn e'
        rcases List.mem_cons.mp hn with rfl | hn
        · exact (h3 e').le
        · exact h4 n hn e'
      · rcases h5 with ⟨e1, e2⟩ | ⟨n, hn, e1⟩
        · exact ⟨a, List.mem_cons_self, e1, e2.symm⟩
        · exact ⟨n, List.mem_cons_of_mem _ hn, e1⟩
    · rw [if_neg h]
      obtain ⟨w, k, e, h1, h2, h3, h4, h5⟩ := fold_first D g hg L hL'.2 v i hi fun n hn => hiL n (List.mem_cons_of_mem _ hn)
      refine ⟨w, k, e, h1, ?_, h3, ?_, ?_⟩
      · intro n hn
        rcases List.mem_cons.mp hn with rfl | hn
        · exact (not_lt.mp h).trans h1
        · exact h2 n hn
      · intro n hn e'
        rcases List.mem_cons.mp hn with rfl | hn
        · exact (h3 (le_antisymm h1 (e' ▸ not_lt.mp h))).le.trans (hiL n List.mem_cons_self)
        · exact h4 n hn e'
      · rcases h5 with h5 | ⟨n, hn, e1⟩
        · exact .inl h5
        · exact .inr ⟨n, List.mem_cons_of_mem _ hn, e1⟩

theorem bot_pattern : (FloatOps.ofBits .f32 0xFF800000#32 : Ideal .f32) = (⊥ : EReal) := by
  show Ideal.ofBits .f32 0xFF800000#32 = ⊥
  simp [Ideal.ofBits, Ideal.ieee]

/-- Where an index of two axes falls when the second is dropped. -/
theorem drop_iff (i : S4x16384.Idx) (b : Fin 4) : reducesTo_S4x16384_S4_d1.drop i = ix1 b ↔ i 0 = b := by
  constructor
  · intro h
    exact congrFun h 0
  · intro h
    funext a
    match a with
    | ⟨0, _⟩ => exact h

theorem argmax_apply (x : S4x16384.Idx → EReal) (b : Fin 4) :
    (Host.argReduce (F := Ideal) (φ := .f32) reducer_argmax_f32_i32 x (iotaInDim S4x16384 32 1) (constant S_ .f32 0xFF800000#32) (constantI S_ 32 0#32) reducesTo_S4x16384_S4_d1 h_S_ (ix1 b)).2
      = BitVec.ofNat 32 (first fun n => x (ix2 b n)).val := by
  have hrow : ∀ n : Fin S4x16384.numel, ((S4x16384.rowMajor.symm n) 0).val * 16384 + ((S4x16384.rowMajor.symm n) 1).val = n.val := fun n => by
    have h := Shape.rowMajor_val_two (d := ![4, 16384]) (S4x16384.rowMajor.symm n)
    rw [Equiv.apply_symm_apply] at h
    exact h.symm
  rw [Ideal.argReduce_eq_reduce2, Host.reduce2_eq_foldl_fiber]
  unfold Host.argReduceFiber
  have hmem : ∀ n, n ∈ ((List.finRange S4x16384.numel).filter fun n => reducesTo_S4x16384_S4_d1.drop (S4x16384.rowMajor.symm n) = ix1 b) ↔ (S4x16384.rowMajor.symm n) 0 = b := fun n =>
    ⟨fun hn => (drop_iff _ b).mp (of_decide_eq_true (List.mem_filter.mp hn).2), fun hn => List.mem_filter.mpr ⟨List.mem_finRange _, decide_eq_true ((drop_iff _ b).mpr hn)⟩⟩
  have hlt : ((List.finRange S4x16384.numel).filter fun n => reducesTo_S4x16384_S4_d1.drop (S4x16384.rowMajor.symm n) = ix1 b).Pairwise (· < ·) :=
    (List.pairwise_lt_finRange _).filter _
  generalize ((List.finRange S4x16384.numel).filter fun n => reducesTo_S4x16384_S4_d1.drop (S4x16384.rowMajor.symm n) = ix1 b) = L at hmem hlt ⊢
  obtain ⟨w, k, e, -, h2, -, h4, h5⟩ := fold_first (fun n : Fin S4x16384.numel => x (S4x16384.rowMajor.symm n)) (fun n => ((S4x16384.rowMajor.symm n) 1).val)
    (fun n => by have := ((S4x16384.rowMajor.symm n) 1).isLt; have h : S4x16384.size 1 = 16384 := rfl; omega)
    L (hlt.imp_of_mem fun {n n'} hn hn' h => by
      have e1 := (hmem n).mp hn
      have e2 := (hmem n').mp hn'
      have h1 := hrow n
      have h2 := hrow n'
      rw [e1] at h1
      rw [e2] at h2
      have : n.val < n'.val := h
      omega) ⊥ 0 (by norm_num) fun n _ => Nat.zero_le _
  have e0 : (List.foldl (reducer_argmax_f32_i32 (F := Ideal)) ((FloatOps.ofBits .f32 0xFF800000#32 : Ideal .f32), BitVec.ofNat 32 0)
      (L.map fun n => (x (S4x16384.rowMajor.symm n), BitVec.ofNat 32 ((S4x16384.rowMajor.symm n) 1).val))).2 = BitVec.ofNat 32 k := by
    rw [bot_pattern, e]
  refine Eq.trans ?_ (e0.trans ?_)
  · rfl
  have hm : ∀ n : Fin 16384, S4x16384.rowMajor (ix2 b n) ∈ L := fun n =>
    (hmem _).mpr (congrFun (Equiv.symm_apply_apply S4x16384.rowMajor (ix2 b n)) 0)
  have h2' : ∀ n : Fin 16384, x (ix2 b n) ≤ w := fun n => by
    have h := h2 _ (hm n)
    rwa [Equiv.symm_apply_apply] at h
  have h4' : ∀ n : Fin 16384, x (ix2 b n) = w → k ≤ n.val := fun n hn => by
    have h := h4 _ (hm n)
    rw [Equiv.symm_apply_apply] at h
    exact h hn
  have h5' : ∃ n : Fin 16384, x (ix2 b n) = w ∧ n.val = k := by
    rcases h5 with ⟨e1, e2⟩ | ⟨n, hn, e1, e2⟩
    · refine ⟨0, le_antisymm (h2' 0) (e1 ▸ bot_le), ?_⟩
      rw [e2]
      rfl
    · have e3 := (hmem n).mp hn
      refine ⟨(S4x16384.rowMajor.symm n) 1, ?_, e2⟩
      rw [← e1]
      refine congrArg x ?_
      funext a
      match a with
      | ⟨0, _⟩ => exact e3.symm
      | ⟨1, _⟩ => rfl
  obtain ⟨n, e1, e2⟩ := h5'
  have hF : IsFirst (fun n => x (ix2 b n)) n := ⟨fun m => (h2' m).trans e1.ge, fun m hm => Fin.le_def.mpr (e2 ▸ h4' m (hm.trans e1))⟩
  rw [← e2, hF.unique (first_isFirst _)]

end Cert.Proof.SampleRef

end
-- ==== Proof.SampleRun.lean ====
/-
  The run of the plain farthest point sampling program at the ideal values: its host operations before the loop, the
  counted loop of 1024 trips and the operations after it. Every execution terminates with each buffer at the fold of
  those operations; one trip's values of the carried buffers are read from any contents.
-/
module

public import proofs.«01_k».proof.Proof.Gen.SamplingReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Proof.SampleRun

open Cert.SamplingReferenceIdeal Cert.SamplingReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]

/-! ## The stretches of host operations -/

abbrev Ops (F : FTy → Type) := List (HloOp τ sig (Elt F))
abbrev Val (F : FTy → Type) := Valuation τ sig (Elt F)
/-- Every operation of the list writes one of the references. -/
abbrev Wr (l : Ops F) (w : List (Ref sig .tc)) : Prop := l.Forall fun op => op.writes ⊆ (w.map (Proc.devRef (τ := τ) .tc)).toFinset
/-- The operations read and write the TensorCore's references. -/
abbrev Tc (l : Ops F) : Prop := l.Forall fun op => op.bufs ⊆ tcRefs τ sig

/-- The operations before the loop: the points by rows, the starting distances, the empty table and the first centre. -/
abbrev A0 : Ops F :=
  [ unary main_arg0 main_v0 (transpose S4x16384x3 [0, 2, 1] · transposes_S4x3x16384_S4x16384x3_0_2_1), nullary main_cst (constant S_ .f32 0x501502F9#32), unary main_cst main_v1 (broadcastInDim S4x16384 ![] bcast_S_S4x16384),
    nullary main_c (constantI S_ 32 0#32), unary main_c main_v2 (broadcastInDim S4x1024 ![] bcast_S_S4x1024), nullary main_c_0 (constantI S_ 32 0#32), unary main_c_0 main_v3 (broadcastInDim S4 ![] bcast_S_S4),
    nullary main_c_1 (constantI S_ 32 0#32), nullary main_c_2 (constantI S_ 32 0#32), unary main_v0 main_v4_0 id, unary main_c_2 main_v4_1 id, unary main_c_1 main_v4_2 id, unary main_v1 main_v4_3 id, unary main_v2 main_v4_4 id,
    unary main_v3 main_v4_5 id ]
abbrev A0w : List (Ref sig .tc) := [main_v0, main_cst, main_v1, main_c, main_v2, main_c_0, main_v3, main_c_1, main_c_2, main_v4_0, main_v4_1, main_v4_2, main_v4_3, main_v4_4, main_v4_5]
theorem A0_w : Wr (A0 (F := F)) A0w := forall_writes_sub_of_map rfl

/-- The chosen indices as a column of the table. -/
abbrev P0 : Ops F :=
  [ unary main_v4_4 main_v5 (broadcastInDim S4x1024x1 ![0, 1] bcast_S4x1024_S4x1024x1_0_1) ]

/-- The lookup of the chosen points. -/
abbrev P1 : Ops F :=
  [ nullary main_call2_c (constantI S_ 32 0#32), unary main_call2_c main_call2_v0 (broadcastInDim S4x1024x1 ![] bcast_S_S4x1024x1), binary main_v5 main_call2_v0 main_call2_v1 (cmpi .slt),
    nullary main_call2_c_0 (constantI S_ 32 16384#32), unary main_call2_c_0 main_call2_v2 (broadcastInDim S4x1024x1 ![] bcast_S_S4x1024x1), binary main_v5 main_call2_v2 main_call2_v3 addi,
    ternary main_call2_v1 main_call2_v3 main_v5 main_call2_v4 select, nullary main_call2_c_1 (constantI S1 32 16383#32), nullary main_call2_c_2 (constantI S_ 32 0#32),
    unary main_call2_c_2 main_call2_v5 (broadcastInDim S4x1024x1 ![] bcast_S_S4x1024x1), binary main_call2_v4 main_call2_v5 main_call2_v6 (cmpi .sge),
    unary main_call2_c_1 main_call2_v7 (broadcastInDim S1x1x1 ![2] bcast_S1_S1x1x1_2), unary main_call2_v7 main_call2_v8 (broadcastInDim S4x1024x1 ![0, 1, 2] bcast_S1x1x1_S4x1024x1_0_1_2),
    binary main_call2_v4 main_call2_v8 main_call2_v9 (cmpi .sle), binary main_call2_v6 main_call2_v9 main_call2_v10 andi, nullary main_call2_c_3 (constantI S_ 1 1#1),
    binary main_call2_v10 main_call2_c_3 main_call2_v11 (fun x v => Host.reduce IntOp.andi x v reducesTo_S4x1024x1_S4x1024_d2 h_S_),
    binary main_v0 main_call2_v4 main_call2_v12 (fun x i => Host.gather gather_S4x16384x3_S4x1024x1_S4x1024x3_2_1_0_0_1_2_113 x i),
    unary main_call2_v11 main_call2_v13 (broadcastInDim S4x1024x3 ![0, 1] bcast_S4x1024_S4x1024x3_0_1), nullary main_call2_cst (constant S_ .f32 0x7FC00000#32),
    unary main_call2_cst main_call2_v14 (broadcastInDim S4x1024x3 ![] bcast_S_S4x1024x3), ternary main_call2_v13 main_call2_v12 main_call2_v14 main_v6 select ]

/-- The result by coordinates. -/
abbrev P2 : Ops F :=
  [ unary main_v6 main_v7 (transpose S4x3x1024 [0, 2, 1] · transposes_S4x1024x3_S4x3x1024_0_2_1) ]

/-- The start of a trip: the slot that is written, the table with the centre written to it, the centre as a column. -/
abbrev B0 : Ops F :=
  [ nullary main_while0b_c_8 (constantI S_ 32 1#32), binary main_v4_2 main_while0b_c_8 main_while0b_v8 addi, nullary main_while0b_c_9 (constantI S_ 32 0#32), binary main_v4_2 main_while0b_c_9 main_while0b_v9 (cmpi .slt),
    nullary main_while0b_c_10 (constantI S_ 32 1024#32), binary main_v4_2 main_while0b_c_10 main_while0b_v10 addi, ternary main_while0b_v9 main_while0b_v10 main_v4_2 main_while0b_v11 select,
    unary main_while0b_v11 main_while0b_v12 id, unary main_while0b_v12 main_while0b_v13 (broadcastInDim S1 ![] bcast_S_S1),
    ternary main_v4_4 main_while0b_v13 main_v4_5 main_while0b_v14 (fun x i u => Host.scatter scatter_S4x1024_S1_S4_0_1_1_0 (fun _ b => b) x i u), unary main_v4_5 main_while0b_v15 (broadcastInDim S4x1x1 ![0] bcast_S4_S4x1x1_0) ]
abbrev B0w : List (Ref sig .tc) := [main_while0b_c_8, main_while0b_v8, main_while0b_c_9, main_while0b_v9, main_while0b_c_10, main_while0b_v10, main_while0b_v11, main_while0b_v12, main_while0b_v13, main_while0b_v14, main_while0b_v15]
theorem B0_w : Wr (B0 (F := F)) B0w := forall_writes_sub_of_map rfl

/-- The lookup of the centre. -/
abbrev B1 : Ops F :=
  [ nullary main_while0b_call0_c (constantI S_ 32 0#32), unary main_while0b_call0_c main_while0b_call0_v0 (broadcastInDim S4x1x1 ![] bcast_S_S4x1x1), binary main_while0b_v15 main_while0b_call0_v0 main_while0b_call0_v1 (cmpi .slt),
    nullary main_while0b_call0_c_0 (constantI S_ 32 16384#32), unary main_while0b_call0_c_0 main_while0b_call0_v2 (broadcastInDim S4x1x1 ![] bcast_S_S4x1x1),
    binary main_while0b_v15 main_while0b_call0_v2 main_while0b_call0_v3 addi, ternary main_while0b_call0_v1 main_while0b_call0_v3 main_while0b_v15 main_while0b_call0_v4 select,
    nullary main_while0b_call0_c_1 (constantI S1 32 16383#32), nullary main_while0b_call0_c_2 (constantI S_ 32 0#32), unary main_while0b_call0_c_2 main_while0b_call0_v5 (broadcastInDim S4x1x1 ![] bcast_S_S4x1x1),
    binary main_while0b_call0_v4 main_while0b_call0_v5 main_while0b_call0_v6 (cmpi .sge), unary main_while0b_call0_c_1 main_while0b_call0_v7 (broadcastInDim S1x1x1 ![2] bcast_S1_S1x1x1_2),
    unary main_while0b_call0_v7 main_while0b_call0_v8 (broadcastInDim S4x1x1 ![0, 1, 2] bcast_S1x1x1_S4x1x1_0_1_2), binary main_while0b_call0_v4 main_while0b_call0_v8 main_while0b_call0_v9 (cmpi .sle),
    binary main_while0b_call0_v6 main_while0b_call0_v9 main_while0b_call0_v10 andi, nullary main_while0b_call0_c_3 (constantI S_ 1 1#1),
    binary main_while0b_call0_v10 main_while0b_call0_c_3 main_while0b_call0_v11 (fun x v => Host.reduce IntOp.andi x v reducesTo_S4x1x1_S4x1_d2 h_S_),
    binary main_v4_0 main_while0b_call0_v4 main_while0b_call0_v12 (fun x i => Host.gather gather_S4x16384x3_S4x1x1_S4x1x3_2_1_0_0_1_2_113 x i),
    unary main_while0b_call0_v11 main_while0b_call0_v13 (broadcastInDim S4x1x3 ![0, 1] bcast_S4x1_S4x1x3_0_1), nullary main_while0b_call0_cst (constant S_ .f32 0x7FC00000#32),
    unary main_while0b_call0_cst main_while0b_call0_v14 (broadcastInDim S4x1x3 ![] bcast_S_S4x1x3), ternary main_while0b_call0_v13 main_while0b_call0_v12 main_while0b_call0_v14 main_while0b_v16 select ]
abbrev B1w : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v16]
theorem B1_w : Wr (B1 (F := F)) B1w := forall_writes_sub_of_map rfl

/-- The distances to the centre and the running minimum. -/
abbrev B2 : Ops F :=
  [ unary main_while0b_v16 main_while0b_v17 (broadcastInDim S4x16384x3 ![0, 1, 2] bcast_S4x1x3_S4x16384x3_0_1_2), binary main_v4_0 main_while0b_v17 main_while0b_v18 subf,
    binary main_while0b_v18 main_while0b_v18 main_while0b_v19 mulf, nullary main_while0b_cst_11 (constant S_ .f32 0x00000000#32),
    binary main_while0b_v19 main_while0b_cst_11 main_while0b_v20 (fun x v => Host.reduceAdd x v reducesTo_S4x16384x3_S4x16384_d2 h_S_), binary main_v4_3 main_while0b_v20 main_while0b_v21 minimumf ]
abbrev B2w : List (Ref sig .tc) := [main_while0b_v17, main_while0b_v18, main_while0b_v19, main_while0b_cst_11, main_while0b_v20, main_while0b_v21]
theorem B2_w : Wr (B2 (F := F)) B2w := forall_writes_sub_of_map rfl

/-- The index of the largest running minimum. -/
abbrev B3 : Ops F :=
  [ nullary main_while0b_call1_v0 (iotaInDim S4x16384 32 1), nullary main_while0b_call1_cst (constant S_ .f32 0xFF800000#32), nullary main_while0b_call1_c (constantI S_ 32 0#32),
    quaternary main_while0b_v21 main_while0b_call1_v0 main_while0b_call1_cst main_while0b_call1_c main_while0b_call1_v1_0 (fun x y u v j => (Host.argReduce reducer_argmax_f32_i32 x y u v reducesTo_S4x16384_S4_d1 h_S_ j).1),
    quaternary main_while0b_v21 main_while0b_call1_v0 main_while0b_call1_cst main_while0b_call1_c main_while0b_v22 (fun x y u v j => (Host.argReduce reducer_argmax_f32_i32 x y u v reducesTo_S4x16384_S4_d1 h_S_ j).2) ]
abbrev B3w : List (Ref sig .tc) := [main_while0b_call1_v0, main_while0b_call1_cst, main_while0b_call1_c, main_while0b_call1_v1_0, main_while0b_v22]
theorem B3_w : Wr (B3 (F := F)) B3w := forall_writes_sub_of_map rfl

/-- The end of a trip: the counter and the copies to the carried buffers. -/
abbrev B4 : Ops F :=
  [ nullary main_while0b_c_12 (constantI S_ 32 1#32), binary main_v4_1 main_while0b_c_12 main_while0b_v23 addi, unary main_while0b_v23 main_v4_1 id, unary main_while0b_v8 main_v4_2 id, unary main_while0b_v21 main_v4_3 id,
    unary main_while0b_v14 main_v4_4 id, unary main_while0b_v22 main_v4_5 id ]
abbrev B4w : List (Ref sig .tc) := [main_while0b_c_12, main_while0b_v23, main_v4_1, main_v4_2, main_v4_3, main_v4_4, main_v4_5]
theorem B4_w : Wr (B4 (F := F)) B4w := forall_writes_sub_of_map rfl

set_option maxRecDepth 100000 in
/-- The program is the chain of its stretches and its loop. -/
theorem main_chain (c : Dev nD) : main (F := F) c = (Pipeline.chain
  [ seq A0,
    HostLoop.enter 0,
    seq P0,
    seq P1,
    seq P2 ] : Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, chain_seq_cons]
  chain_rfl

set_option maxRecDepth 100000 in
/-- A trip is the chain of its stretches. -/
theorem while0_body_chain : main_while0_body (F := F) = (Pipeline.chain
  [ seq B0,
    seq B1,
    seq B2,
    seq B3,
    seq B4 ] : Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons, Pipeline.chain_cons, chain_seq_cons]
  chain_rfl

/-! ## The loop -/

open Idealize.ShloMosaic.Tactic Idealize.SL.BI.Laws Idealize.SL.ProofMode
open Idealize.ShloMosaic.Pipeline (ucRefs sub_ucRefs)

/-- The condition's operations: the bound, and the counter compared with it. -/
abbrev condOps : Ops F :=
  [ nullary main_while0c_c_8 (constantI S_ 32 1024#32), binary main_v4_1 main_while0c_c_8 main_while0c_v8 (cmpi .slt) ]
abbrev condOps_W : List (Ref sig .tc) := [main_while0c_c_8, main_while0c_v8]
theorem condOps_writes : Wr (condOps (F := F)) condOps_W := forall_writes_sub_of_map rfl

/-- The stretches before the loop, those of a trip and those after the loop. -/
abbrev preI : List (Ops F) := [A0]
abbrev bodyI : List (Ops F) := [B0, B1, B2, B3, B4]
abbrev postI : List (Ops F) := [P0, P1, P2]

theorem hpre : Plain (preI (F := F)) := .cons (show Tc A0 by simp only [List.Forall, nullary_bufs_sub, unary_bufs_sub, and_self]) .nil
theorem hbodyI : Plain (bodyI (F := F)) :=
  .cons (show Tc B0 by simp only [List.Forall, nullary_bufs_sub, unary_bufs_sub, binary_bufs_sub, ternary_bufs_sub, and_self]) <|
  .cons (show Tc B1 by simp only [List.Forall, nullary_bufs_sub, unary_bufs_sub, binary_bufs_sub, ternary_bufs_sub, and_self]) <|
  .cons (show Tc B2 by simp only [List.Forall, nullary_bufs_sub, unary_bufs_sub, binary_bufs_sub, and_self]) <|
  .cons (show Tc B3 by simp only [List.Forall, nullary_bufs_sub, quaternary_bufs_sub, and_self]) <|
  .cons (show Tc B4 by simp only [List.Forall, nullary_bufs_sub, unary_bufs_sub, binary_bufs_sub, and_self]) .nil
theorem hpost : Plain (postI (F := F)) :=
  .cons (show Tc P0 by simp only [List.Forall, unary_bufs_sub]) <|
  .cons (show Tc P1 by simp only [List.Forall, nullary_bufs_sub, unary_bufs_sub, binary_bufs_sub, ternary_bufs_sub, and_self]) <|
  .cons (show Tc P2 by simp only [List.Forall, unary_bufs_sub]) .nil

variable (m : (ℓ : Loc nD τ sig) → Buf (Elt F) ℓ) (ρ : Dev nD → PrngReg)

/-- Every buffer's contents before the `k`-th run of the condition, counted from 0. -/
abbrev atK (k : ℕ) (c : Dev nD) : Val F := atTrip condOps bodyI (entryContents preI m) k c

/-- A reference that a list does not write keeps its contents. -/
theorem kp {l : Ops F} {w : List (Ref sig .tc)} (h : Wr l w) (V : Val F) (r : Ref sig .tc) (hr : r ∉ w) :
    after l V (Proc.devRef .tc r) = V (Proc.devRef .tc r) := after_of_writes_sub l V h hr
theorem cond_keep (V : Val F) (r : Ref sig .tc) (h : r ∉ condOps_W) : after condOps V (Proc.devRef .tc r) = V (Proc.devRef .tc r) :=
  kp condOps_writes V r h

set_option maxRecDepth 100000 in
/-- The end of a trip steps the counter. -/
theorem ctr_step (Y : Val F) :
    after B4 Y (Proc.devRef .tc main_v4_1) = addi (Y (Proc.devRef .tc main_v4_1)) (constantI S_ 32 1#32) := by
  after_results
  rfl

/-- The counter is 0 at the loop's entry. -/
theorem ctr_entry (c : Dev nD) : entryContents preI m c (Proc.devRef .tc main_v4_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, kp B3_w _ main_v4_1 (by decide), kp B2_w _ main_v4_1 (by decide), kp B1_w _ main_v4_1 (by decide),
      kp B0_w _ main_v4_1 (by decide), cond_keep _ main_v4_1 (by decide), atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_8 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

/-! ## One trip's values -/

/-- A value of a trip, of the carried buffers. -/
def res_main_while0b_v15 (V0 : Val F) : (Proc.devRef .tc main_while0b_v15 : DevRef τ sig).ty.Contents (Elt F) :=
  broadcastInDim S4x1x1 ![0] bcast_S4_S4x1x1_0 (V0 (Proc.devRef .tc main_v4_5))

/-- A value of a trip, of the carried buffers. -/
def res_main_while0b_call0_v4 (V0 : Val F) : (Proc.devRef .tc main_while0b_call0_v4 : DevRef τ sig).ty.Contents (Elt F) :=
  select (cmpi .slt (res_main_while0b_v15 V0) (broadcastInDim S4x1x1 ![] bcast_S_S4x1x1 (constantI S_ 32 0#32))) (addi (res_main_while0b_v15 V0) (broadcastInDim S4x1x1 ![] bcast_S_S4x1x1 (constantI S_ 32 16384#32))) (res_main_while0b_v15 V0)

/-- The centre of a trip, of the carried buffers. -/
def res_main_while0b_v16 (V0 : Val F) : (Proc.devRef .tc main_while0b_v16 : DevRef τ sig).ty.Contents (Elt F) :=
  select (broadcastInDim S4x1x3 ![0, 1] bcast_S4x1_S4x1x3_0_1 (Host.reduce IntOp.andi (andi (cmpi .sge (res_main_while0b_call0_v4 V0) (broadcastInDim S4x1x1 ![] bcast_S_S4x1x1 (constantI S_ 32 0#32))) (cmpi .sle (res_main_while0b_call0_v4 V0) (broadcastInDim S4x1x1 ![0, 1, 2] bcast_S1x1x1_S4x1x1_0_1_2 (broadcastInDim S1x1x1 ![2] bcast_S1_S1x1x1_2 (constantI S1 32 16383#32))))) (constantI S_ 1 1#1) reducesTo_S4x1x1_S4x1_d2 h_S_)) (Host.gather gather_S4x16384x3_S4x1x1_S4x1x3_2_1_0_0_1_2_113 (V0 (Proc.devRef .tc main_v4_0)) (res_main_while0b_call0_v4 V0)) (broadcastInDim S4x1x3 ![] bcast_S_S4x1x3 (constant S_ .f32 0x7FC00000#32))

/-- The differences to the centre. -/
def res_main_while0b_v18 (V0 : Val F) : (Proc.devRef .tc main_while0b_v18 : DevRef τ sig).ty.Contents (Elt F) :=
  subf (V0 (Proc.devRef .tc main_v4_0)) (broadcastInDim S4x16384x3 ![0, 1, 2] bcast_S4x1x3_S4x16384x3_0_1_2 (res_main_while0b_v16 V0))

/-- The running minimum after a trip. -/
def res_main_while0b_v21 (V0 : Val F) : (Proc.devRef .tc main_while0b_v21 : DevRef τ sig).ty.Contents (Elt F) :=
  minimumf (V0 (Proc.devRef .tc main_v4_3)) (Host.reduceAdd (mulf (res_main_while0b_v18 V0) (res_main_while0b_v18 V0)) (constant S_ .f32 0x00000000#32) reducesTo_S4x16384x3_S4x16384_d2 h_S_)

/-- The index of the largest running minimum. -/
def res_main_while0b_v22 (V0 : Val F) : (Proc.devRef .tc main_while0b_v22 : DevRef τ sig).ty.Contents (Elt F) :=
  fun j => (Host.argReduce reducer_argmax_f32_i32 (res_main_while0b_v21 V0) ((iotaInDim S4x16384 32 1)) (constant S_ .f32 0xFF800000#32) (constantI S_ 32 0#32) reducesTo_S4x16384_S4_d1 h_S_ j).2

/-- The table after a trip. -/
def res_main_while0b_v14 (V0 : Val F) : (Proc.devRef .tc main_while0b_v14 : DevRef τ sig).ty.Contents (Elt F) :=
  Host.scatter scatter_S4x1024_S1_S4_0_1_1_0 (fun _ b => b) (V0 (Proc.devRef .tc main_v4_4)) (broadcastInDim S1 ![] bcast_S_S1 (id (select (cmpi .slt (V0 (Proc.devRef .tc main_v4_2)) (constantI S_ 32 0#32)) (addi (V0 (Proc.devRef .tc main_v4_2)) (constantI S_ 32 1024#32)) (V0 (Proc.devRef .tc main_v4_2))))) (V0 (Proc.devRef .tc main_v4_5))

variable (V0 : Val F)

/-- The contents after the first stretches of a trip. -/
def val1 : Val F := after B0 V0
def val2 : Val F := after B1 (val1 V0)
def val3 : Val F := after B2 (val2 V0)
def val4 : Val F := after B3 (val3 V0)

theorem val1_main_v4_0 : val1 V0 (no_index (Proc.devRef .tc main_v4_0)) = V0 (Proc.devRef .tc main_v4_0) := kp B0_w _ _ (by decide)
theorem val2_main_v4_0 : val2 V0 (no_index (Proc.devRef .tc main_v4_0)) = V0 (Proc.devRef .tc main_v4_0) :=
  (kp B1_w _ _ (by decide)).trans (val1_main_v4_0 V0)
theorem val2_main_v4_3 : val2 V0 (no_index (Proc.devRef .tc main_v4_3)) = V0 (Proc.devRef .tc main_v4_3) :=
  (kp B1_w _ _ (by decide)).trans (kp B0_w _ _ (by decide))

theorem val1_main_while0b_v8 : val1 V0 (Proc.devRef .tc main_while0b_v8) = addi (V0 (Proc.devRef .tc main_v4_2)) (constantI S_ 32 1#32) := by
  unfold val1
  simp only [B0]
  after_results_entrywise [cast_eq]
set_option maxRecDepth 8192 in
set_option maxHeartbeats 1100000 in
theorem val1_main_while0b_v14 : val1 V0 (Proc.devRef .tc main_while0b_v14) = res_main_while0b_v14 V0 := by
  unfold val1
  simp only [B0]
  after_results_entrywise [res_main_while0b_v14, cast_eq]
theorem val1_main_while0b_v15 : val1 V0 (no_index (Proc.devRef .tc main_while0b_v15)) = res_main_while0b_v15 V0 := by
  unfold val1
  simp only [B0]
  after_results_entrywise [res_main_while0b_v15, cast_eq]
set_option maxRecDepth 8192 in
set_option maxHeartbeats 2000000 in
theorem val2_main_while0b_v16 : val2 V0 (no_index (Proc.devRef .tc main_while0b_v16)) = res_main_while0b_v16 V0 := by
  unfold val2
  simp only [B1]
  after_results_entrywise [val1_main_while0b_v15, val1_main_v4_0, res_main_while0b_call0_v4, res_main_while0b_v16, cast_eq]
set_option maxRecDepth 8192 in
set_option maxHeartbeats 900000 in
theorem val3_main_while0b_v21 : val3 V0 (no_index (Proc.devRef .tc main_while0b_v21)) = res_main_while0b_v21 V0 := by
  unfold val3
  simp only [B2]
  after_results_entrywise [val2_main_while0b_v16, val2_main_v4_0, val2_main_v4_3, res_main_while0b_v18, res_main_while0b_v21, cast_eq]
set_option maxRecDepth 8192 in
set_option maxHeartbeats 900000 in
theorem val4_main_while0b_v22 : val4 V0 (no_index (Proc.devRef .tc main_while0b_v22)) = res_main_while0b_v22 V0 := by
  unfold val4
  simp only [B3]
  after_results_entrywise [val3_main_while0b_v21, res_main_while0b_v22, cast_eq]

/-- A trip's contents: the last stretch after the others. -/
theorem trip_windows : afterL bodyI V0 = after B4 (val4 V0) := by
  simp only [bodyI, afterL_cons, afterL_nil]
  rfl

/-- A buffer that no stretch of a trip writes keeps its contents. -/
theorem trip_keep (r : Ref sig .tc) (h0 : r ∉ B0w) (h1 : r ∉ B1w) (h2 : r ∉ B2w)
    (h3 : r ∉ B3w) (h4 : r ∉ B4w) : afterL bodyI V0 (Proc.devRef .tc r) = V0 (Proc.devRef .tc r) := by
  rw [trip_windows]
  exact (kp B4_w _ r h4).trans <| (kp B3_w _ r h3).trans <| (kp B2_w _ r h2).trans <| (kp B1_w _ r h1).trans (kp B0_w V0 r h0)

set_option maxRecDepth 8192 in
theorem last_main_v4_2 (Y : Val F) : after B4 Y (Proc.devRef .tc main_v4_2) = Y (Proc.devRef .tc main_while0b_v8) := by
  after_results
  rfl
set_option maxRecDepth 8192 in
theorem last_main_v4_3 (Y : Val F) : after B4 Y (Proc.devRef .tc main_v4_3) = Y (Proc.devRef .tc main_while0b_v21) := by
  after_results
  rfl
set_option maxRecDepth 8192 in
theorem last_main_v4_4 (Y : Val F) : after B4 Y (Proc.devRef .tc main_v4_4) = Y (Proc.devRef .tc main_while0b_v14) := by
  after_results
  rfl
set_option maxRecDepth 8192 in
theorem last_main_v4_5 (Y : Val F) : after B4 Y (Proc.devRef .tc main_v4_5) = Y (Proc.devRef .tc main_while0b_v22) := by
  after_results
  rfl

/-- The slot after a trip. -/
theorem trip_main_v4_2 : afterL bodyI V0 (Proc.devRef .tc main_v4_2) = addi (V0 (Proc.devRef .tc main_v4_2)) (constantI S_ 32 1#32) := by
  rw [trip_windows, last_main_v4_2]
  exact (kp B3_w _ _ (by decide)).trans <| (kp B2_w _ _ (by decide)).trans <| (kp B1_w _ _ (by decide)).trans (val1_main_while0b_v8 V0)
/-- The running minimum after a trip. -/
theorem trip_main_v4_3 : afterL bodyI V0 (Proc.devRef .tc main_v4_3) = res_main_while0b_v21 V0 := by
  rw [trip_windows, last_main_v4_3]
  exact (kp B3_w _ _ (by decide)).trans (val3_main_while0b_v21 V0)
/-- The table after a trip. -/
theorem trip_main_v4_4 : afterL bodyI V0 (Proc.devRef .tc main_v4_4) = res_main_while0b_v14 V0 := by
  rw [trip_windows, last_main_v4_4]
  exact (kp B3_w _ _ (by decide)).trans <| (kp B2_w _ _ (by decide)).trans <| (kp B1_w _ _ (by decide)).trans (val1_main_while0b_v14 V0)
/-- The centre after a trip. -/
theorem trip_main_v4_5 : afterL bodyI V0 (Proc.devRef .tc main_v4_5) = res_main_while0b_v22 V0 := by
  rw [trip_windows, last_main_v4_5]
  exact val4_main_while0b_v22 V0

/-! ## Before and after the loop -/

theorem entry_main_v0 (c : Dev nD) : entryContents preI m c (Proc.devRef .tc main_v0)
    = transpose S4x16384x3 [0, 2, 1] (m ((c.tc : Thread nD τ).loc main_arg0)) transposes_S4x3x16384_S4x16384x3_0_2_1 := by
  simp only [entryContents, afterL_cons, afterL_nil]
  after_reads_simp
theorem entry_main_v4_0 (c : Dev nD) : entryContents preI m c (Proc.devRef .tc main_v4_0)
    = transpose S4x16384x3 [0, 2, 1] (m ((c.tc : Thread nD τ).loc main_arg0)) transposes_S4x3x16384_S4x16384x3_0_2_1 := by
  simp only [entryContents, afterL_cons, afterL_nil]
  after_reads_simp
  rfl
theorem entry_main_v4_2 (c : Dev nD) : entryContents preI m c (Proc.devRef .tc main_v4_2) = constantI S_ 32 0#32 := by
  simp only [entryContents, afterL_cons, afterL_nil]
  after_reads_simp
  rfl
theorem entry_main_v4_3 (c : Dev nD) : entryContents preI m c (Proc.devRef .tc main_v4_3)
    = broadcastInDim S4x16384 ![] bcast_S_S4x16384 (constant S_ .f32 0x501502F9#32) := by
  simp only [entryContents, afterL_cons, afterL_nil]
  after_reads_simp
  rfl
theorem entry_main_v4_4 (c : Dev nD) : entryContents preI m c (Proc.devRef .tc main_v4_4)
    = broadcastInDim S4x1024 ![] bcast_S_S4x1024 (constantI S_ 32 0#32) := by
  simp only [entryContents, afterL_cons, afterL_nil]
  after_reads_simp
  rfl
theorem entry_main_v4_5 (c : Dev nD) : entryContents preI m c (Proc.devRef .tc main_v4_5)
    = broadcastInDim S4 ![] bcast_S_S4 (constantI S_ 32 0#32) := by
  simp only [entryContents, afterL_cons, afterL_nil]
  after_reads_simp
  rfl

/-- The chosen indices as the lookup uses them, of the table. -/
def res_main_call2_v4 (T : (⟨S4x1024, .i32⟩ : BufTy).Contents (Elt F)) : (⟨S4x1024x1, .i32⟩ : BufTy).Contents (Elt F) :=
  select (cmpi .slt (broadcastInDim S4x1024x1 ![0, 1] bcast_S4x1024_S4x1024x1_0_1 T) (broadcastInDim S4x1024x1 ![] bcast_S_S4x1024x1 (constantI S_ 32 0#32))) (addi (broadcastInDim S4x1024x1 ![0, 1] bcast_S4x1024_S4x1024x1_0_1 T) (broadcastInDim S4x1024x1 ![] bcast_S_S4x1024x1 (constantI S_ 32 16384#32))) (broadcastInDim S4x1024x1 ![0, 1] bcast_S4x1024_S4x1024x1_0_1 T)

/-- The result, of the points by rows and the table. -/
def res_main_v7 (X : (⟨S4x16384x3, .f32⟩ : BufTy).Contents (Elt F)) (T : (⟨S4x1024, .i32⟩ : BufTy).Contents (Elt F)) : (⟨S4x3x1024, .f32⟩ : BufTy).Contents (Elt F) :=
  transpose S4x3x1024 [0, 2, 1] (select (broadcastInDim S4x1024x3 ![0, 1] bcast_S4x1024_S4x1024x3_0_1 (Host.reduce IntOp.andi (andi (cmpi .sge (res_main_call2_v4 T) (broadcastInDim S4x1024x1 ![] bcast_S_S4x1024x1 (constantI S_ 32 0#32))) (cmpi .sle (res_main_call2_v4 T) (broadcastInDim S4x1024x1 ![0, 1, 2] bcast_S1x1x1_S4x1024x1_0_1_2 (broadcastInDim S1x1x1 ![2] bcast_S1_S1x1x1_2 (constantI S1 32 16383#32))))) (constantI S_ 1 1#1) reducesTo_S4x1024x1_S4x1024_d2 h_S_)) (Host.gather gather_S4x16384x3_S4x1024x1_S4x1024x3_2_1_0_0_1_2_113 X (res_main_call2_v4 T)) (broadcastInDim S4x1024x3 ![] bcast_S_S4x1024x3 (constant S_ .f32 0x7FC00000#32))) transposes_S4x1024x3_S4x3x1024_0_2_1

set_option maxRecDepth 8192 in
set_option maxHeartbeats 2000000 in
theorem post_main_v7 : afterL postI V0 (Proc.devRef .tc main_v7) = res_main_v7 (V0 (Proc.devRef .tc main_v0)) (V0 (Proc.devRef .tc main_v4_4)) := by
  simp only [postI, afterL_cons, afterL_nil]
  after_results_entrywise [res_main_v7, res_main_call2_v4, cast_eq]

end Cert.Proof.SampleRun

end
-- ==== Proof.SampleRef.lean ====
/-
  The plain sampling program's result: by induction on the trips, the table's column `t` names the centre after `t`
  steps, and the lookup after the loop reads its coordinates.
-/
module

public import proofs.«01_k».proof.Proof.SampleFold
public import proofs.«01_k».proof.Proof.SampleRun

@[expose] public section

noncomputable section

namespace Cert.Proof.SampleRef

open Cert.SamplingReferenceIdeal Cert.SamplingReferenceIdeal.Gen Cert.Proof.SampleSpec Cert.Proof.SampleRun
open Idealize.ShloMosaic Idealize.ShloMosaic.TcCoe Idealize.ShloMosaic.StableHlo Idealize.SL.Sem

/-! ## Words -/

/-- A word that is non-negative as a signed number is left alone by the wrap of negative indices. -/
theorem wrap_small (n w : BitVec 32) (h : w.toNat < 16384) : Scalar.select (IntOp.cmpi .slt w 0#32) (IntOp.addi w n) w = w := by
  have hs : w.slt 0#32 = false := by
    rw [BitVec.slt_eq_decide, decide_eq_false_iff_not, BitVec.toInt_eq_toNat_cond, BitVec.toInt_eq_toNat_cond]
    simp; omega
  unfold IntOp.cmpi
  simp only [hs]
  rfl

theorem in_range (w : BitVec 32) (h : w.toNat < 16384) : IntOp.andi (IntOp.cmpi .sge w 0#32) (IntOp.cmpi .sle w 16383#32) = 1#1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

theorem small_lt (n : Fin 16384) : (BitVec.ofNat 32 n.val).toNat < 16384 := by
  rw [BitVec.toNat_ofNat]; omega

/-- A conjunction of ones is one. -/
theorem reduce_ones {s t u : Shape} {axes : List (Fin s.rank)} (x : s.Idx → BitVec 1) (hx : ∀ i, x i = 1#1) (init : u.Idx → BitVec 1)
    (hi : ∀ i, init i = 1#1) (h : s.ReducesTo axes t) (hu : 0 < u.numel) (j : t.Idx) : Host.reduce IntOp.andi x init h hu j = 1#1 := by
  rw [Host.reduce_eq_foldl, hi]
  generalize ((List.finRange s.numel).map s.rowMajor.symm).filter (fun i => h.drop i = j) = L
  induction L with
  | nil => rfl
  | cons a L ih =>
    rw [List.foldl_cons, hx]
    exact ih

/-! ## Lookups of rows by batch -/

section Gather
variable {α : Type}

abbrev dims1 := gather_S4x16384x3_S4x1x1_S4x1x3_2_1_0_0_1_2_113
abbrev dims2 := gather_S4x16384x3_S4x1024x1_S4x1024x3_2_1_0_0_1_2_113

theorem gather1_apply (x : S4x16384x3.Idx → α) (idx : IVec S4x1x1 32) (b : Fin 4) (c : Fin 3) :
    Host.gather dims1 x idx (ix3 b 0 c) = x (ix3 b ⟨min (idx (ix3 b 0 0)).toInt.toNat 16383, by omega⟩ c) := by
  unfold Host.gather
  congr 1
  funext a
  refine Fin.ext ?_
  show dims1.start (ix3 b 0 c) idx a + dims1.batchCoord (ix3 b 0 c) a + dims1.offCoord (ix3 b 0 c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  obtain rfl | rfl | rfl := ha
  · rw [GatherDims.offCoord_eq_zero _ _ _ (fun h => ((GatherDims.mem_sKept _ _).mp h).2 (by decide)), Nat.add_zero]
    unfold GatherDims.start
    rw [dif_neg (by decide), Nat.zero_add]
    unfold GatherDims.batchCoord
    rw [dif_pos (by decide)]
    rfl
  · rw [GatherDims.offCoord_eq_zero _ _ _ (fun h => ((GatherDims.mem_sKept _ _).mp h).1 (by decide)), Nat.add_zero,
      GatherDims.batchCoord_eq_zero _ _ _ (by decide), Nat.add_zero]
    unfold GatherDims.start
    rw [dif_pos (by decide)]
    have hsi : dims1.siIdx (ix3 b 0 c) ⟨List.idxOf (1 : Fin 3) dims1.startIndexMap, by decide⟩ = ix3 b 0 0 := by
      funext e; refine Fin.ext ?_
      match e with
      | ⟨0, _⟩ => rfl
      | ⟨1, _⟩ => rfl
      | ⟨2, _⟩ => rfl
    exact congrArg (fun i => min (idx i).toInt.toNat 16383) hsi
  · rw [GatherDims.batchCoord_eq_zero _ _ _ (by decide), Nat.add_zero]
    unfold GatherDims.start
    rw [dif_neg (by decide), Nat.zero_add]
    unfold GatherDims.offCoord
    rw [dif_pos (by decide)]
    rfl

theorem gather2_apply (x : S4x16384x3.Idx → α) (idx : IVec S4x1024x1 32) (b : Fin 4) (t : Fin 1024) (c : Fin 3) :
    Host.gather dims2 x idx (ix3 b t c) = x (ix3 b ⟨min (idx (ix3 b t 0)).toInt.toNat 16383, by omega⟩ c) := by
  unfold Host.gather
  congr 1
  funext a
  refine Fin.ext ?_
  show dims2.start (ix3 b t c) idx a + dims2.batchCoord (ix3 b t c) a + dims2.offCoord (ix3 b t c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  obtain rfl | rfl | rfl := ha
  · rw [GatherDims.offCoord_eq_zero _ _ _ (fun h => ((GatherDims.mem_sKept _ _).mp h).2 (by decide)), Nat.add_zero]
    unfold GatherDims.start
    rw [dif_neg (by decide), Nat.zero_add]
    unfold GatherDims.batchCoord
    rw [dif_pos (by decide)]
    rfl
  · rw [GatherDims.offCoord_eq_zero _ _ _ (fun h => ((GatherDims.mem_sKept _ _).mp h).1 (by decide)), Nat.add_zero,
      GatherDims.batchCoord_eq_zero _ _ _ (by decide), Nat.add_zero]
    unfold GatherDims.start
    rw [dif_pos (by decide)]
    have hsi : dims2.siIdx (ix3 b t c) ⟨List.idxOf (1 : Fin 3) dims2.startIndexMap, by decide⟩ = ix3 b t 0 := by
      funext e; refine Fin.ext ?_
      match e with
      | ⟨0, _⟩ => rfl
      | ⟨1, _⟩ => rfl
      | ⟨2, _⟩ => rfl
    exact congrArg (fun i => min (idx i).toInt.toNat 16383) hsi
  · rw [GatherDims.batchCoord_eq_zero _ _ _ (by decide), Nat.add_zero]
    unfold GatherDims.start
    rw [dif_neg (by decide), Nat.zero_add]
    unfold GatherDims.offCoord
    rw [dif_pos (by decide)]
    rfl

end Gather

/-- A select whose mask is one everywhere reads its first operand. -/
theorem masked1 (M : S4x1.Idx → BitVec 1) (hM : ∀ j, M j = 1#1) (G N : S4x1x3.Idx → EReal) (i : S4x1x3.Idx) :
    select (broadcastInDim S4x1x3 ![0, 1] bcast_S4x1_S4x1x3_0_1 M) G N i = G i := by
  show Scalar.select (broadcastInDim S4x1x3 ![0, 1] bcast_S4x1_S4x1x3_0_1 M i) (G i) (N i) = _
  have e : broadcastInDim S4x1x3 ![0, 1] bcast_S4x1_S4x1x3_0_1 M i = 1#1 := hM _
  rw [e]
  rfl

theorem masked2 (M : S4x1024.Idx → BitVec 1) (hM : ∀ j, M j = 1#1) (G N : S4x1024x3.Idx → EReal) (i : S4x1024x3.Idx) :
    select (broadcastInDim S4x1024x3 ![0, 1] bcast_S4x1024_S4x1024x3_0_1 M) G N i = G i := by
  show Scalar.select (broadcastInDim S4x1024x3 ![0, 1] bcast_S4x1024_S4x1024x3_0_1 M i) (G i) (N i) = _
  have e : broadcastInDim S4x1024x3 ![0, 1] bcast_S4x1024_S4x1024x3_0_1 M i = 1#1 := hM _
  rw [e]
  rfl

theorem square (D : S4x16384x3.Idx → EReal) (i : S4x16384x3.Idx) : mulf (F := Ideal) (φ := .f32) D D i = D i * D i := rfl

theorem clamp_small (n : Fin 16384) : min (BitVec.ofNat 32 n.val).toInt.toNat 16383 = n.val := by
  rw [toInt_small _ (by omega)]
  omega

/-! ## One trip -/

section Trip
variable (V : Valuation τ sig (Elt Ideal))

/-- The carried contents, as arrays. -/
abbrev rowsOf : S4x16384x3.Idx → EReal := V (Proc.devRef .tc main_v4_0)
abbrev distOf : S4x16384.Idx → EReal := V (Proc.devRef .tc main_v4_3)
abbrev centOf : S4.Idx → BitVec 32 := V (Proc.devRef .tc main_v4_5)
abbrev tableOf : S4x1024.Idx → BitVec 32 := V (Proc.devRef .tc main_v4_4)
abbrev slotOf : S_.Idx → BitVec 32 := V (Proc.devRef .tc main_v4_2)

variable (n : Fin 4 → Fin 16384) (hn : ∀ b, centOf V (ix1 b) = BitVec.ofNat 32 (n b).val)
include hn

theorem call0_apply (i : S4x1x1.Idx) : (res_main_while0b_call0_v4 V : S4x1x1.Idx → BitVec 32) i = BitVec.ofNat 32 (n (i 0)).val := by
  have e : (res_main_while0b_v15 V : S4x1x1.Idx → BitVec 32) i = BitVec.ofNat 32 (n (i 0)).val := by
    refine Eq.trans ?_ (hn (i 0))
    exact broadcastInDim_apply _ _ _ _ (ix1 (i 0)) fun a => by match a with | ⟨0, _⟩ => rfl
  show Scalar.select (IntOp.cmpi .slt ((res_main_while0b_v15 V : S4x1x1.Idx → BitVec 32) i) 0#32) (IntOp.addi ((res_main_while0b_v15 V : S4x1x1.Idx → BitVec 32) i) 16384#32) ((res_main_while0b_v15 V : S4x1x1.Idx → BitVec 32) i) = _
  rw [e]
  exact wrap_small _ _ (small_lt _)

theorem centre_apply (b : Fin 4) (c : Fin 3) : (res_main_while0b_v16 V : S4x1x3.Idx → EReal) (ix3 b 0 c) = rowsOf V (ix3 b (n b) c) := by
  have hm : ∀ j : S4x1.Idx, Host.reduce IntOp.andi (andi (cmpi .sge (res_main_while0b_call0_v4 V) (broadcastInDim S4x1x1 ![] bcast_S_S4x1x1 (constantI S_ 32 0#32))) (cmpi .sle (res_main_while0b_call0_v4 V) (broadcastInDim S4x1x1 ![0, 1, 2] bcast_S1x1x1_S4x1x1_0_1_2 (broadcastInDim S1x1x1 ![2] bcast_S1_S1x1x1_2 (constantI S1 32 16383#32))))) (constantI S_ 1 1#1) reducesTo_S4x1x1_S4x1_d2 h_S_ j = 1#1 :=
    fun j => reduce_ones _ (fun i => by
      show IntOp.andi (IntOp.cmpi .sge ((res_main_while0b_call0_v4 V : S4x1x1.Idx → BitVec 32) i) 0#32) (IntOp.cmpi .sle ((res_main_while0b_call0_v4 V : S4x1x1.Idx → BitVec 32) i) 16383#32) = 1#1
      rw [call0_apply V n hn i]
      exact in_range _ (small_lt _)) _ (fun _ => rfl) _ _ j
  have hg : Host.gather dims1 (rowsOf V) (res_main_while0b_call0_v4 V) (ix3 b 0 c) = rowsOf V (ix3 b (n b) c) := by
    refine (gather1_apply _ _ b c).trans (congrArg (fun k => rowsOf V (ix3 b k c)) (Fin.ext ?_))
    show min ((res_main_while0b_call0_v4 V : S4x1x1.Idx → BitVec 32) (ix3 b 0 0)).toInt.toNat 16383 = _
    rw [call0_apply V n hn]
    exact clamp_small _
  unfold res_main_while0b_v16
  exact (masked1 _ hm _ _ (ix3 b 0 c)).trans hg

theorem diff_apply (b : Fin 4) (k : Fin 16384) (c : Fin 3) :
    (res_main_while0b_v18 V : S4x16384x3.Idx → EReal) (ix3 b k c) = rowsOf V (ix3 b k c) - rowsOf V (ix3 b (n b) c) := by
  unfold res_main_while0b_v18
  show rowsOf V (ix3 b k c) - broadcastInDim S4x16384x3 ![0, 1, 2] bcast_S4x1x3_S4x16384x3_0_1_2 (res_main_while0b_v16 V : S4x1x3.Idx → EReal) (ix3 b k c) = _
  rw [broadcastInDim_apply _ _ _ _ (ix3 b 0 c) fun a => by match a with | ⟨0, _⟩ => rfl | ⟨1, _⟩ => rfl | ⟨2, _⟩ => rfl]
  rw [centre_apply V n hn b c]

theorem dist_apply (b : Fin 4) (k : Fin 16384) :
    (res_main_while0b_v21 V : S4x16384.Idx → EReal) (ix2 b k)
      = min (distOf V (ix2 b k)) (gap (fun k c => rowsOf V (ix3 b k c)) (n b) k) := by
  unfold res_main_while0b_v21
  show min (distOf V (ix2 b k)) (Ideal.hostReduceAdd reducesTo_S4x16384x3_S4x16384_d2 (mulf (F := Ideal) (φ := .f32) (res_main_while0b_v18 V) (res_main_while0b_v18 V)) (Ideal.ofBits .f32 0x00000000#32) (ix2 b k)) = _
  refine congrArg (min (distOf V (ix2 b k))) ?_
  refine (Ideal.hostReduceAdd_single _ (by decide : S4x16384x3.Reduces [2] S4x16384) _ _ _).trans ?_
  have hl : ∀ (h : S4x16384x3.Reduces [2] S4x16384) (c : Fin 3), h.lift (ix2 b k) c = ix3 b k c := fun h c => by
    funext a
    fin_cases a <;> rfl
  have h0 : Ideal.ofBits .f32 0x00000000#32 = 0 := by simp [Ideal.ofBits, Ideal.ieee]
  have hf : ∀ (h : S4x16384x3.Reduces [2] S4x16384) (c : Fin 3), mulf (F := Ideal) (φ := .f32) (res_main_while0b_v18 V) (res_main_while0b_v18 V) (h.lift (ix2 b k) c)
      = (rowsOf V (ix3 b k c) - rowsOf V (ix3 b (n b) c)) * (rowsOf V (ix3 b k c) - rowsOf V (ix3 b (n b) c)) := fun h c => by
    rw [hl]
    refine (square _ _).trans ?_
    rw [diff_apply V n hn]
  rw [h0, zero_add]
  refine (Finset.sum_congr rfl fun c _ => hf _ c).trans ?_
  exact Fin.sum_univ_three _

end Trip

/-! ## The loop -/

/-- The points by rows, as arrays. -/
abbrev ptsOf (V : Valuation τ sig (Elt Ideal)) : S4x16384x3.Idx → EReal := V (Proc.devRef .tc main_v0)

/-- What the buffers hold before trip `k`. -/
structure Inv (P : Fin 4 → Fin 16384 → Fin 3 → EReal) (k : ℕ) (V : Valuation τ sig (Elt Ideal)) : Prop where
  pts : ∀ b n c, ptsOf V (ix3 b n c) = P b n c
  rows : ∀ b n c, rowsOf V (ix3 b n c) = P b n c
  slot : ∀ i, slotOf V i = BitVec.ofNat 32 k
  dist : ∀ b n, distOf V (ix2 b n) = (sampled (P b) k).1 n
  cent : ∀ b, centOf V (ix1 b) = BitVec.ofNat 32 (sampled (P b) k).2.val
  table : ∀ (b : Fin 4) (t : Fin 1024), t.val < k → tableOf V (ix2 b t) = BitVec.ofNat 32 (sampled (P b) t.val).2.val

theorem inv_cond {P : Fin 4 → Fin 16384 → Fin 3 → EReal} {k : ℕ} {V : Valuation τ sig (Elt Ideal)} (h : Inv P k V) : Inv P k (after condOps V) where
  pts b n c := (congrFun (cond_keep V main_v0 (by decide)) _).trans (h.pts b n c)
  rows b n c := (congrFun (cond_keep V main_v4_0 (by decide)) _).trans (h.rows b n c)
  slot i := (congrFun (cond_keep V main_v4_2 (by decide)) _).trans (h.slot i)
  dist b n := (congrFun (cond_keep V main_v4_3 (by decide)) _).trans (h.dist b n)
  cent b := (congrFun (cond_keep V main_v4_5 (by decide)) _).trans (h.cent b)
  table b t ht := (congrFun (cond_keep V main_v4_4 (by decide)) _).trans (h.table b t ht)

theorem inv_trip {P : Fin 4 → Fin 16384 → Fin 3 → EReal} {k : ℕ} (hk : k < 1024) {V : Valuation τ sig (Elt Ideal)} (h : Inv P k V) : Inv P (k + 1) (afterL bodyI V) := by
  have hd : ∀ b n, (res_main_while0b_v21 V : S4x16384.Idx → EReal) (ix2 b n) = (sampled (P b) (k + 1)).1 n := fun b n => by
    refine (dist_apply V (fun b => (sampled (P b) k).2) h.cent b n).trans ?_
    refine congrArg₂ (min : EReal → EReal → EReal) (h.dist b n) (congrArg (fun p => gap p (sampled (P b) k).2 n) ?_)
    funext n c
    exact h.rows b n c
  have hidx : ∀ i, (broadcastInDim S1 ![] bcast_S_S1 (id (select (cmpi .slt (slotOf V) (constantI S_ 32 0#32)) (addi (slotOf V) (constantI S_ 32 1024#32)) (slotOf V))) : S1.Idx → BitVec 32) i = BitVec.ofNat 32 k := fun i => by
    have e := h.slot (fun a => a.elim0)
    refine (broadcastInDim_apply _ _ _ i (fun a => a.elim0) fun a => a.elim0).trans ?_
    show Scalar.select (IntOp.cmpi .slt (slotOf V (fun a => a.elim0)) 0#32) (IntOp.addi (slotOf V (fun a => a.elim0)) 1024#32) (slotOf V (fun a => a.elim0)) = _
    rw [e]
    exact wrap_small _ _ (by rw [BitVec.toNat_ofNat]; omega)
  refine ⟨fun b n c => ?_, fun b n c => ?_, fun i => ?_, fun b n => ?_, fun b => ?_, fun b t ht => ?_⟩
  · exact (congrFun (trip_keep V main_v0 (by decide) (by decide) (by decide) (by decide) (by decide)) _).trans (h.pts b n c)
  · exact (congrFun (trip_keep V main_v4_0 (by decide) (by decide) (by decide) (by decide) (by decide)) _).trans (h.rows b n c)
  · refine (congrFun (trip_main_v4_2 V) i).trans ?_
    show IntOp.addi (slotOf V i) 1#32 = _
    rw [h.slot i]
    exact (BitVec.ofNat_add k 1).symm
  · exact (congrFun (trip_main_v4_3 V) _).trans (hd b n)
  · refine (congrFun (trip_main_v4_5 V) _).trans ?_
    unfold res_main_while0b_v22
    refine (argmax_apply (res_main_while0b_v21 V : S4x16384.Idx → EReal) b).trans ?_
    show _ = BitVec.ofNat 32 (first (sampled (P b) (k + 1)).1).val
    refine congrArg (fun D => BitVec.ofNat 32 (first D).val) ?_
    funext n
    exact hd b n
  · refine (congrFun (trip_main_v4_4 V) _).trans ?_
    unfold res_main_while0b_v14
    refine (Routing.scatter_col (A := 4) (N := 1024) scatter_S4x1024_S1_S4_0_1_1_0 rfl rfl (tableOf V) _ (centOf V) ⟨k, hk⟩ (lt_trans hk (by norm_num)) (hidx _) b t).trans ?_
    by_cases e : t = ⟨k, hk⟩
    · rw [if_pos e]
      subst e
      exact h.cent b
    · rw [if_neg e]
      exact h.table b t (by have : t.val ≠ k := fun e' => e (Fin.ext e'); omega)

/-- The table's entries and the points give the result. -/
theorem lookup_apply (X : S4x16384x3.Idx → EReal) (T : S4x1024.Idx → BitVec 32) (n : Fin 4 → Fin 1024 → Fin 16384)
    (hT : ∀ b t, T (ix2 b t) = BitVec.ofNat 32 (n b t).val) (b : Fin 4) (c : Fin 3) (t : Fin 1024) :
    (res_main_v7 (F := Ideal) X T : S4x3x1024.Idx → EReal) (ix3 b c t) = X (ix3 b (n b t) c) := by
  have hT' : ∀ i : S4x1024x1.Idx, broadcastInDim S4x1024x1 ![0, 1] bcast_S4x1024_S4x1024x1_0_1 T i = BitVec.ofNat 32 (n (i 0) (i 1)).val := fun i => by
    refine Eq.trans ?_ (hT (i 0) (i 1))
    exact broadcastInDim_apply _ _ _ _ (ix2 (i 0) (i 1)) fun a => by match a with | ⟨0, _⟩ => rfl | ⟨1, _⟩ => rfl
  have hI : ∀ i : S4x1024x1.Idx, (res_main_call2_v4 (F := Ideal) T : S4x1024x1.Idx → BitVec 32) i = BitVec.ofNat 32 (n (i 0) (i 1)).val := fun i => by
    show Scalar.select (IntOp.cmpi .slt (broadcastInDim S4x1024x1 ![0, 1] bcast_S4x1024_S4x1024x1_0_1 T i) 0#32) (IntOp.addi (broadcastInDim S4x1024x1 ![0, 1] bcast_S4x1024_S4x1024x1_0_1 T i) 16384#32) (broadcastInDim S4x1024x1 ![0, 1] bcast_S4x1024_S4x1024x1_0_1 T i) = _
    rw [hT' i]
    exact wrap_small _ _ (small_lt _)
  unfold res_main_v7
  refine (transpose_apply _ _ _ _ (ix3 b t c) fun a => by match a with | ⟨0, _⟩ => rfl | ⟨1, _⟩ => rfl | ⟨2, _⟩ => rfl).trans ?_
  refine (masked2 _ (fun j => reduce_ones _ (fun i => ?_) _ (fun _ => rfl) _ _ j) _ _ (ix3 b t c)).trans ?_
  · show IntOp.andi (IntOp.cmpi .sge ((res_main_call2_v4 (F := Ideal) T : S4x1024x1.Idx → BitVec 32) i) 0#32) (IntOp.cmpi .sle ((res_main_call2_v4 (F := Ideal) T : S4x1024x1.Idx → BitVec 32) i) 16383#32) = 1#1
    rw [hI i]
    exact in_range _ (small_lt _)
  · refine (gather2_apply _ _ b t c).trans (congrArg (fun k => X (ix3 b k c)) (Fin.ext ?_))
    show min ((res_main_call2_v4 (F := Ideal) T : S4x1024x1.Idx → BitVec 32) (ix3 b t 0)).toInt.toNat 16383 = _
    rw [hI]
    exact clamp_small _

/-! ## The run -/

variable (m : (ℓ : Loc nD τ sig) → Buf (Elt Ideal) ℓ) (ρ : Dev nD → PrngReg)

abbrev argX (c : Dev nD) : S4x3x16384.Idx → EReal := m ((c.tc : Thread nD τ).loc main_arg0)

theorem rows_entry (X : S4x3x16384.Idx → EReal) (b : Fin 4) (n : Fin 16384) (k : Fin 3) :
    transpose S4x16384x3 [0, 2, 1] X transposes_S4x3x16384_S4x16384x3_0_2_1 (ix3 b n k) = X (ix3 b k n) :=
  transpose_apply _ _ _ _ (ix3 b k n) fun a => by match a with | ⟨0, _⟩ => rfl | ⟨1, _⟩ => rfl | ⟨2, _⟩ => rfl

theorem inv_entry (c : Dev nD) : Inv (fun b n k => argX m c (ix3 b k n)) 0 (atK m 0 c) where
  pts b n k := (congrFun (entry_main_v0 m c) _).trans (rows_entry (argX m c) b n k)
  rows b n k := (congrFun (entry_main_v4_0 m c) _).trans (rows_entry (argX m c) b n k)
  slot i := congrFun (entry_main_v4_2 m c) i
  dist b n := congrFun (entry_main_v4_3 m c) _
  cent b := congrFun (entry_main_v4_5 m c) _
  table b t ht := absurd ht (Nat.not_lt_zero _)

theorem inv_at (c : Dev nD) : ∀ k, k ≤ 1024 → Inv (fun b n k => argX m c (ix3 b k n)) k (atK m k c)
  | 0, _ => inv_entry m c
  | k + 1, hk => inv_trip (by omega) (inv_cond (inv_at c k (by omega)))

/-- The program's result. -/
theorem result_apply (c : Dev nD) (b : Fin 4) (k : Fin 3) (t : Fin 1024) :
    (finalContents condOps preI bodyI postI 1024 m c (Proc.devRef .tc main_v7) : S4x3x1024.Idx → EReal) (ix3 b k t)
      = argX m c (ix3 b k (sampled (fun n k => argX m c (ix3 b k n)) t.val).2) := by
  have h := inv_cond (inv_at m c 1024 le_rfl)
  refine (congrFun (post_main_v7 (after condOps (atK m 1024 c))) _).trans ?_
  refine (lookup_apply (ptsOf (after condOps (atK m 1024 c))) (tableOf (after condOps (atK m 1024 c)))
    (fun b t => (sampled (fun n k => argX m c (ix3 b k n)) t.val).2) (fun b t => h.table b t t.isLt) b k t).trans ?_
  exact h.pts _ _ _

/-- No operation of the program writes its argument. -/
theorem entry_arg (c : Dev nD) : entryContents preI m c (Proc.devRef .tc main_arg0) = m ((c.tc : Thread nD τ).loc main_arg0) := by
  simp only [entryContents, afterL_cons, afterL_nil]
  after_reads_simp

theorem post_arg (V : Valuation τ sig (Elt Ideal)) : afterL postI V (Proc.devRef .tc main_arg0) = V (Proc.devRef .tc main_arg0) := by
  simp only [afterL_cons, afterL_nil]
  after_reads_simp

theorem arg_at (c : Dev nD) : ∀ k, atK m k c (Proc.devRef .tc main_arg0) = m ((c.tc : Thread nD τ).loc main_arg0)
  | 0 => entry_arg m c
  | k + 1 => (trip_keep (after condOps (atK m k c)) main_arg0 (by decide) (by decide) (by decide) (by decide) (by decide)).trans
      ((cond_keep (atK m k c) main_arg0 (by decide)).trans (arg_at c k))

/-- The run, with the result named and the argument unchanged. -/
theorem run_value : θ_run (defs (F := Ideal)) (onTc (τ := τ) (main (F := Ideal))) ⟨m, fun _ => 0, ρ⟩ fun r => ∀ c : Dev nD,
    (∀ (b : Fin 4) (k : Fin 3) (t : Fin 1024), (r.2.mem ((c.tc : Thread nD τ).loc main_v7) : S4x3x1024.Idx → EReal) (ix3 b k t)
        = argX m c (ix3 b k (sampled (fun n k => argX m c (ix3 b k n)) t.val).2))
      ∧ r.2.mem ((c.tc : Thread nD τ).loc main_arg0) = m ((c.tc : Thread nD τ).loc main_arg0) :=
  (θ_run _ _ _).mono (fun _ h c => ⟨fun b k t => (congrFun (h c main_v7 rfl) _).trans (result_apply m c b k t),
      (h c main_arg0 rfl).trans ((post_arg _).trans ((cond_keep (atK m 1024 c) main_arg0 (by decide)).trans (arg_at m c 1024)))⟩)
    (run_fold (F := Ideal) m ρ)

end Cert.Proof.SampleRef

end
-- ==== Proof.SampleClaims.lean ====
/-
  The sampling programs' claims: their frames, and that both end with the coordinates of the sampled points.
-/
module

public import proofs.«01_k».proof.Defs
public import proofs.«01_k».proof.Proof.SampleArr
public import proofs.«01_k».proof.Proof.SampleRef

@[expose] public section

noncomputable section

namespace Cert.Proof.SampleClaims

open Idealize.ShloMosaic Idealize.SL.Sem

/-- `Cert.quiescent_SamplingReferenceIdeal` (Defs.lean): host operations alone, on a signature without semaphores. -/
theorem frame_reference : Cert.quiescent_SamplingReferenceIdeal := fun m ρ _ =>
  (θ_run Cert.SamplingReferenceIdeal.defs _ _).mono (fun _ h => ⟨fun c => (h c).2, funext fun x => nomatch x.2⟩)
    (SampleRef.run_value m ρ)

/-- `Cert.algebraic_SamplingIdeal_SamplingReferenceIdeal` (Defs.lean): both programs end with the common value. -/
theorem algebraic : Cert.algebraic_SamplingIdeal_SamplingReferenceIdeal := fun m g m' g' _ hm =>
  ⟨fun c => SampleTrip.value (SampleTrip.argX m c), SampleTrip.run_value m g,
    (θ_run Cert.SamplingReferenceIdeal.defs _ _).mono (fun r h c => ⟨by
        refine funext fun i => ?_
        refine (congrArg _ (eq_ix3 i)).trans (((h c).1 (i 0) (i 1) (i 2)).trans ?_)
        exact congrArg (fun X => SampleTrip.value X i) (hm c), (h c).2⟩)
      (SampleRef.run_value m' g')⟩

end Cert.Proof.SampleClaims

end
-- ==== Proof.LayerMath.lean ====
/-
  The layers' mathematics on extended reals: a linear layer, the normalization of a channel over all its points as the
  reference takes it and as the kernel takes it, and that the two are one where the channel's
  factor is a real number.
-/
module

public import Idealize.ShloMosaic.Lib.Pointwise
public import Idealize.ShloMosaic.Lib.IdealHost

@[expose] public section

noncomputable section

namespace Cert.Proof.LayerMath

open Idealize.ShloMosaic

/-- A value that is a real number. -/
def IsReal (x : EReal) : Prop := ∃ r : ℝ, x = (r : EReal)

/-- The number of points, as the programs' constant. -/
abbrev cnt : EReal := Ideal.ofBits .f32 0x48000000#32

/-- The constant added to a variance. -/
abbrev eps : EReal := Ideal.ofBits .f32 0x3727C5AC#32

theorem cnt_eq : cnt = ((131072 : ℝ) : EReal) := by
  simp [cnt, Ideal.ofBits, Ideal.ieee, -EReal.coe_mul]
  norm_num

theorem eps_eq : eps = ((10995116 / 1099511627776 : ℝ) : EReal) := by
  simp [eps, Ideal.ofBits, Ideal.ieee, -EReal.coe_mul]
  norm_num

theorem eps_pos : ∃ e : ℝ, 0 < e ∧ eps = (e : EReal) := ⟨_, by norm_num, eps_eq⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## A linear layer -/

variable {P : Type} {C O : ℕ}

/-- Output channel `o` of the layer at point `p`. -/
def conv (x : P → Fin C → EReal) (W : Fin O → Fin C → EReal) (b : Fin O → EReal) (p : P) (o : Fin O) : EReal :=
  (∑ c, x p c * W o c) + b o

/-! ## Normalization of one channel -/

/-- The mean over the points. -/
def mean (y : Fin 131072 → EReal) : EReal := Ideal.div (∑ p, y p) cnt

/-- The variance, as the mean of the squared deviations. -/
def variance (y : Fin 131072 → EReal) : EReal := Ideal.div (∑ p, (y p - mean y) * (y p - mean y)) cnt

/-- The normalized, scaled and shifted value, and its positive part. -/
def normal (y : Fin 131072 → EReal) (g be : EReal) (p : Fin 131072) : EReal :=
  max (g * Ideal.div (y p - mean y) (Ideal.sqrt (variance y + eps)) + be) 0

/-- The variance, as the mean of the squares less the squared mean. -/
def varianceK (y : Fin 131072 → EReal) : EReal := Ideal.div (∑ p, y p * y p) cnt - mean y * mean y

/-- The factor the kernel multiplies a channel by. -/
def scaleK (y : Fin 131072 → EReal) (g : EReal) : EReal := Ideal.div g (Ideal.sqrt (varianceK y + eps))

/-- What the kernel adds to it. -/
def shiftK (y : Fin 131072 → EReal) (g be : EReal) : EReal := be - mean y * scaleK y g

/-- The kernel's normalized value. -/
def normalK (y : Fin 131072 → EReal) (g be : EReal) (p : Fin 131072) : EReal :=
  max (y p * scaleK y g + shiftK y g be) 0

theorem div_real (a b : ℝ) (h : b ≠ 0) : Ideal.div (a : EReal) (b : EReal) = ((a / b : ℝ) : EReal) := by
  rw [Ideal.div_coe h, ← EReal.coe_mul]
  congr 1
  ring

theorem real_variance (r : Fin 131072 → ℝ) (μ : ℝ) (h : μ = (∑ p, r p) / 131072) :
    (∑ p, r p * r p) / 131072 - μ * μ = (∑ p, (r p - μ) * (r p - μ)) / 131072 := by
  have h1 : ∑ p, (r p - μ) * (r p - μ) = ∑ p, r p * r p - 2 * μ * ∑ p, r p + 131072 * (μ * μ) := by
    have : ∀ p, (r p - μ) * (r p - μ) = r p * r p - 2 * μ * r p + μ * μ := fun p => by ring
    rw [Finset.sum_congr rfl fun p _ => this p, Finset.sum_add_distrib, Finset.sum_sub_distrib, ← Finset.mul_sum, Finset.sum_const,
      Finset.card_univ, Fintype.card_fin, nsmul_eq_mul]
    norm_num
  have h2 : ∑ p, r p = 131072 * μ := by rw [h]; ring
  rw [h1, h2]
  ring

/-- What the two normalizations of a real channel are: the same reals. -/
theorem moments (y : Fin 131072 → EReal) (hy : ∀ p, IsReal (y p)) :
    ∃ (r : Fin 131072 → ℝ) (μ v : ℝ), (∀ p, y p = (r p : EReal)) ∧ mean y = (μ : EReal) ∧ variance y = (v : EReal) ∧ varianceK y = (v : EReal)
      ∧ 0 ≤ v := by
  choose r hr using hy
  have hm : mean y = (((∑ p, r p) / 131072 : ℝ) : EReal) := by
    unfold mean
    rw [cnt_eq, Finset.sum_congr rfl fun p _ => hr p, coe_sum, div_real _ _ (by norm_num)]
  refine ⟨r, (∑ p, r p) / 131072, (∑ p, (r p - (∑ p, r p) / 131072) * (r p - (∑ p, r p) / 131072)) / 131072, hr, hm, ?_, ?_, ?_⟩
  · unfold variance
    rw [hm, cnt_eq]
    generalize (∑ p, r p) / 131072 = μ
    rw [Finset.sum_congr rfl fun p _ => show (y p - (μ : EReal)) * (y p - (μ : EReal)) = (((r p - μ) * (r p - μ) : ℝ) : EReal) by
      rw [hr p, ← EReal.coe_sub, ← EReal.coe_mul], coe_sum, div_real _ _ (by norm_num)]
  · unfold varianceK
    rw [hm, cnt_eq, ← real_variance r _ rfl]
    generalize (∑ p, r p) / 131072 = μ
    rw [Finset.sum_congr rfl fun p _ => show y p * y p = ((r p * r p : ℝ) : EReal) by rw [hr p, ← EReal.coe_mul], coe_sum,
      div_real _ _ (by norm_num), ← EReal.coe_mul, ← EReal.coe_sub]
  · exact div_nonneg (Finset.sum_nonneg fun p _ => mul_self_nonneg _) (by norm_num)

theorem normalK_eq (y : Fin 131072 → EReal) (hy : ∀ p, IsReal (y p)) (g be : EReal) (hg : IsReal g) (p : Fin 131072) :
    normalK y g be p = normal y g be p := by
  obtain ⟨r, μ, v, hr, hm, hv, hvK, h0⟩ := moments y hy
  obtain ⟨e, he, hee⟩ := eps_pos
  obtain ⟨γ, rfl⟩ := hg
  unfold normalK normal shiftK scaleK
  rw [hvK, hv, hm, hee, hr p, ← EReal.coe_add, Ideal.sqrt_coe, if_neg (not_lt.mpr (by linarith))]
  have hs : Real.sqrt (v + e) ≠ 0 := (Real.sqrt_pos.mpr (by linarith)).ne'
  generalize Real.sqrt (v + e) = s at hs
  rw [div_real _ _ hs, ← EReal.coe_sub, div_real _ _ hs, ← EReal.coe_mul, ← EReal.coe_mul, ← EReal.coe_mul]
  congr 1
  induction be with
  | bot => simp
  | top => rw [EReal.top_sub_coe, EReal.coe_add_top, EReal.coe_add_top]
  | coe b =>
    rw [← EReal.coe_sub, ← EReal.coe_add, ← EReal.coe_add]
    congr 1
    ring

/-! ## A channel with an infinite value: both normalizations give the shift alone -/

theorem IsReal.of_add {x y : EReal} (h : IsReal (x + y)) : IsReal x ∧ IsReal y := by
  obtain ⟨r, hr⟩ := h
  induction x with
  | bot => simp at hr
  | top =>
    induction y with
    | bot => simp at hr
    | top => simp at hr
    | coe b => simp at hr
  | coe a =>
    induction y with
    | bot => simp at hr
    | top => simp at hr
    | coe b => exact ⟨⟨a, rfl⟩, ⟨b, rfl⟩⟩

theorem IsReal.of_sum {ι : Type} (s : Finset ι) (f : ι → EReal) (h : IsReal (∑ i ∈ s, f i)) : ∀ i ∈ s, IsReal (f i) := by
  classical
  induction s using Finset.induction_on with
  | empty => simp
  | insert a s ha ih =>
    rw [Finset.sum_insert ha] at h
    intro i hi
    rcases Finset.mem_insert.mp hi with rfl | hi
    · exact h.of_add.1
    · exact ih h.of_add.2 i hi

theorem infinite_of_not {x : EReal} (h : ¬ IsReal x) : x = ⊤ ∨ x = ⊥ := by
  induction x with
  | bot => exact Or.inr rfl
  | top => exact Or.inl rfl
  | coe r => exact absurd ⟨r, rfl⟩ h

theorem square_nonneg (x : EReal) : 0 ≤ x * x := by
  induction x with
  | bot => simp
  | top => simp
  | coe r => rw [← EReal.coe_mul]; exact_mod_cast mul_self_nonneg r

theorem square_top {x : EReal} (h : x = ⊤ ∨ x = ⊥) : x * x = ⊤ := by
  rcases h with rfl | rfl <;> simp

theorem sum_top (f : Fin 131072 → EReal) (h : ∀ p, 0 ≤ f p) (q : Fin 131072) (hq : f q = ⊤) : ∑ p, f p = ⊤ := by
  rw [← Finset.add_sum_erase _ _ (Finset.mem_univ q), hq]
  exact EReal.top_add_of_ne_bot (ne_bot_of_le_ne_bot (by simp) (Finset.sum_nonneg fun p _ => h p))

theorem div_cnt (x : EReal) : Ideal.div x cnt = x * ((1 / 131072 : ℝ) : EReal) := by
  rw [cnt_eq, Ideal.div_coe (by norm_num)]

theorem top_div_cnt : Ideal.div ⊤ cnt = ⊤ := by
  rw [div_cnt, EReal.top_mul_coe_of_pos (by norm_num)]

theorem bot_div_cnt : Ideal.div ⊥ cnt = ⊥ := by
  rw [div_cnt, EReal.bot_mul_coe_of_pos (by norm_num)]

theorem mean_infinite (y : Fin 131072 → EReal) (q : Fin 131072) (hq : ¬ IsReal (y q)) : mean y = ⊤ ∨ mean y = ⊥ := by
  unfold mean
  rcases infinite_of_not (x := ∑ p, y p) fun h => hq (h.of_sum _ _ q (Finset.mem_univ q)) with h | h
  · rw [h, top_div_cnt]; exact Or.inl rfl
  · rw [h, bot_div_cnt]; exact Or.inr rfl

theorem varianceK_infinite (y : Fin 131072 → EReal) (q : Fin 131072) (hq : ¬ IsReal (y q)) : varianceK y = ⊥ := by
  unfold varianceK
  rw [sum_top _ (fun p => square_nonneg (y p)) q (square_top (infinite_of_not hq)), top_div_cnt, square_top (mean_infinite y q hq)]
  simp

theorem variance_infinite (y : Fin 131072 → EReal) (q : Fin 131072) (hq : ¬ IsReal (y q)) : variance y = ⊤ := by
  unfold variance
  rw [sum_top _ (fun p => square_nonneg (y p - mean y)) q, top_div_cnt]
  refine square_top (infinite_of_not fun h => ?_)
  rw [sub_eq_add_neg] at h
  exact hq h.of_add.1

theorem div_top (x : EReal) : Ideal.div x ⊤ = 0 := by simp [Ideal.div]

theorem div_bot (x : EReal) : Ideal.div x ⊥ = 0 := by simp [Ideal.div]

theorem normalK_infinite (y : Fin 131072 → EReal) (q : Fin 131072) (hq : ¬ IsReal (y q)) (g be : EReal) (p : Fin 131072) :
    normalK y g be p = normal y g be p := by
  obtain ⟨e, he, hee⟩ := eps_pos
  unfold normalK normal shiftK scaleK
  rw [varianceK_infinite y q hq, variance_infinite y q hq, hee, EReal.bot_add, EReal.top_add_coe,
    show Ideal.sqrt ⊥ = ⊥ from rfl, show Ideal.sqrt ⊤ = ⊤ from rfl, div_top, div_bot]
  simp

/-- The two normalizations of a channel are one where the channel's factor is a real number. -/
theorem normalK_normal (y : Fin 131072 → EReal) (g be : EReal) (hg : IsReal g) (p : Fin 131072) : normalK y g be p = normal y g be p := by
  by_cases h : ∀ p, IsReal (y p)
  · exact normalK_eq y h g be hg p
  · obtain ⟨q, hq⟩ := not_forall.mp h
    exact normalK_infinite y q hq g be p

/-! ## The three layers -/

/-- The stack of layers on a point's three offsets, with either normalization. -/
def stack (nrm : (Fin 131072 → EReal) → EReal → EReal → Fin 131072 → EReal) (x : Fin 131072 → Fin 3 → EReal)
    (W1 : Fin 64 → Fin 3 → EReal) (b1 g1 be1 : Fin 64 → EReal) (W2 : Fin 128 → Fin 64 → EReal) (b2 g2 be2 : Fin 128 → EReal)
    (Wl : Fin 256 → Fin 128 → EReal) (bl : Fin 256 → EReal) : Fin 131072 → Fin 256 → EReal :=
  conv (fun p o => nrm (fun p => conv (fun p o => nrm (fun p => conv x W1 b1 p o) (g1 o) (be1 o) p) W2 b2 p o) (g2 o) (be2 o) p) Wl bl

theorem stack_eq (x : Fin 131072 → Fin 3 → EReal)
    (W1 : Fin 64 → Fin 3 → EReal) (b1 g1 be1 : Fin 64 → EReal) (W2 : Fin 128 → Fin 64 → EReal) (b2 g2 be2 : Fin 128 → EReal)
    (Wl : Fin 256 → Fin 128 → EReal) (bl : Fin 256 → EReal) (hg1 : ∀ o, IsReal (g1 o)) (hg2 : ∀ o, IsReal (g2 o)) :
    stack normalK x W1 b1 g1 be1 W2 b2 g2 be2 Wl bl = stack normal x W1 b1 g1 be1 W2 b2 g2 be2 Wl bl := by
  have h1 : (fun p o => normalK (fun p => conv x W1 b1 p o) (g1 o) (be1 o) p) = fun p o => normal (fun p => conv x W1 b1 p o) (g1 o) (be1 o) p :=
    funext fun p => funext fun o => normalK_normal _ _ _ (hg1 o) p
  unfold stack
  rw [h1]
  congr 1
  exact funext fun p => funext fun o => normalK_normal _ _ _ (hg2 o) p

/-- The point of a batch, a sampled point and a neighbour. -/
def pt (b : Fin 4) (s : Fin 1024) (k : Fin 32) : Fin 131072 := ⟨(b.val * 1024 + s.val) * 32 + k.val, by omega⟩

/-- The layers' result: the greatest value over the neighbours. -/
def value (z : Fin 131072 → Fin 256 → EReal) (i : (⟨3, ![4, 256, 1024]⟩ : Shape).Idx) : EReal :=
  Finset.univ.fold max ⊥ fun k : Fin 32 => z (pt (i 0) (i 2) k) (i 1)

/-- A sum over the points, by batch, sampled point and neighbour. -/
theorem sum_pt (f : Fin 131072 → EReal) : (∑ p, f p) = ∑ b, ∑ s, ∑ k, f (pt b s k) := by
  rw [← (finProdFinEquiv (m := 4096) (n := 32)).sum_comp (fun p : Fin (4096 * 32) => f p), Fintype.sum_prod_type]
  rw [← (finProdFinEquiv (m := 4) (n := 1024)).sum_comp (fun q : Fin (4 * 1024) => ∑ k : Fin 32, f (finProdFinEquiv (m := 4096) (n := 32) (q, k))), Fintype.sum_prod_type]
  refine Finset.sum_congr rfl fun b _ => Finset.sum_congr rfl fun s _ => Finset.sum_congr rfl fun k _ => congrArg f (Fin.ext ?_)
  simp only [finProdFinEquiv_apply_val, pt]
  ring

/-- A sum over the points, by block of 4096 and row. -/
theorem sum_blocks (f : Fin 131072 → EReal) : (∑ p, f p) = ∑ t : Fin 32, ∑ r : Fin 4096, f ⟨t.val * 4096 + r.val, by omega⟩ := by
  rw [← (finProdFinEquiv (m := 32) (n := 4096)).sum_comp (fun p : Fin (32 * 4096) => f p), Fintype.sum_prod_type]
  refine Finset.sum_congr rfl fun t _ => Finset.sum_congr rfl fun r _ => congrArg f (Fin.ext ?_)
  simp only [finProdFinEquiv_apply_val]
  ring

end Cert.Proof.LayerMath

end
-- ==== Proof.LayerPay.lean ====
/-
  The three kernels' blocks at an element: each layer's outputs, their sums and sums of squares over the block's rows,
  and the last layer's greatest value over a point's neighbours.
-/
module

public import proofs.«01_k».proof.Proof.LayerMath
public import proofs.«01_k».proof.Proof.Gen.LayersIdeal.Frame

@[expose] public section

noncomputable section

namespace Cert.Proof.LayerPay

open Cert.LayersIdeal Cert.LayersIdeal.Gen
open Idealize.ShloMosaic Idealize.ShloMosaic.TcCoe

/-- The first layer's output at row `r` of a block. -/
theorem pay0 (x0 : Vec Ideal S4096x16 .f32) (x1 : Vec Ideal S128x3 .f32) (x2 : Vec Ideal S3x64 .f32) (x3 : Vec Ideal S64 .f32) (r : Fin 4096) (o : Fin 64) :
    k0_pay1 x0 x1 x2 x3 (ix2 r o) = (∑ k : Fin 3, (x0 (ix2 r (k.castLE (by decide))) - x1 (ix2 (⟨r.val / 32, by omega⟩ : Fin 128) k)) * x2 (ix2 k o)) + x3 (ix1 o) := by
  unfold k0_pay1
  pointwise
  rfl

theorem pay1 (x0 : Vec Ideal S4096x64 .f32) (x1 x2 : Vec Ideal S64 .f32) (x3 : Vec Ideal S64x128 .f32) (x4 : Vec Ideal S128 .f32) (r : Fin 4096) (o : Fin 128) :
    k1_pay1 x0 x1 x2 x3 x4 (ix2 r o) = (∑ k : Fin 64, max (x0 (ix2 r k) * x1 (ix1 k) + x2 (ix1 k)) 0 * x3 (ix2 k o)) + x4 (ix1 o) := by
  unfold k1_pay1
  pointwise

theorem pay2 (x0 : Vec Ideal S4096x128 .f32) (x1 x2 : Vec Ideal S128 .f32) (x3 : Vec Ideal S128x256 .f32) (x4 : Vec Ideal S256 .f32) (q : Fin 128) (k : Fin 32) (o : Fin 256) :
    k2_pay2 x0 x1 x2 x3 x4 (ix3 q k o) = (∑ j : Fin 128, max (x0 (ix2 (⟨q.val * 32 + k.val, by omega⟩ : Fin 4096) j) * x1 (ix1 j) + x2 (ix1 j)) 0 * x3 (ix2 j o)) + x4 (ix1 o) := by
  unfold k2_pay2
  pointwise

theorem sum0 (x0 : Vec Ideal S4096x16 .f32) (x1 : Vec Ideal S128x3 .f32) (x2 : Vec Ideal S3x64 .f32) (x3 : Vec Ideal S64 .f32) (o : Fin 64) :
    k0_pay2 x0 x1 x2 x3 (ix3 (0 : Fin 1) (0 : Fin 1) o) = ∑ r : Fin 4096, k0_pay1 x0 x1 x2 x3 (ix2 r o) := by
  unfold k0_pay2
  pointwise

theorem sq0 (x0 : Vec Ideal S4096x16 .f32) (x1 : Vec Ideal S128x3 .f32) (x2 : Vec Ideal S3x64 .f32) (x3 : Vec Ideal S64 .f32) (o : Fin 64) :
    k0_pay3 x0 x1 x2 x3 (ix3 (0 : Fin 1) (0 : Fin 1) o) = ∑ r : Fin 4096, k0_pay1 x0 x1 x2 x3 (ix2 r o) * k0_pay1 x0 x1 x2 x3 (ix2 r o) := by
  unfold k0_pay3
  pointwise

theorem sum1 (x0 : Vec Ideal S4096x64 .f32) (x1 x2 : Vec Ideal S64 .f32) (x3 : Vec Ideal S64x128 .f32) (x4 : Vec Ideal S128 .f32) (o : Fin 128) :
    k1_pay2 x0 x1 x2 x3 x4 (ix3 (0 : Fin 1) (0 : Fin 1) o) = ∑ r : Fin 4096, k1_pay1 x0 x1 x2 x3 x4 (ix2 r o) := by
  unfold k1_pay2
  pointwise

theorem sq1 (x0 : Vec Ideal S4096x64 .f32) (x1 x2 : Vec Ideal S64 .f32) (x3 : Vec Ideal S64x128 .f32) (x4 : Vec Ideal S128 .f32) (o : Fin 128) :
    k1_pay3 x0 x1 x2 x3 x4 (ix3 (0 : Fin 1) (0 : Fin 1) o) = ∑ r : Fin 4096, k1_pay1 x0 x1 x2 x3 x4 (ix2 r o) * k1_pay1 x0 x1 x2 x3 x4 (ix2 r o) := by
  unfold k1_pay3
  pointwise

/-! ## The output buffers -/

theorem out0_4_apply (x0 : Vec Ideal S4096x16 .f32) (x1 : Vec Ideal S128x3 .f32) (x2 : Vec Ideal S3x64 .f32) (x3 : Vec Ideal S64 .f32) :
    out0_4 x0 x1 x2 x3 = k0_pay1 x0 x1 x2 x3 := by
  unfold out0_4
  rw [View.canon_unit_zero (by decide), View.ld_unit_zero (by decide), View.ld_unit_zero (by decide), View.ld_unit_zero (by decide), View.ld_unit_zero (by decide)]

theorem out1_5_apply (x0 : Vec Ideal S4096x64 .f32) (x1 x2 : Vec Ideal S64 .f32) (x3 : Vec Ideal S64x128 .f32) (x4 : Vec Ideal S128 .f32) :
    out1_5 x0 x1 x2 x3 x4 = k1_pay1 x0 x1 x2 x3 x4 := by
  unfold out1_5
  rw [View.canon_unit_zero (by decide), View.ld_unit_zero (by decide), View.ld_unit_zero (by decide), View.ld_unit_zero (by decide), View.ld_unit_zero (by decide), View.ld_unit_zero (by decide)]

/-- A two-row window's newest piece, its second row, read at that row. -/
theorem canon_row1 {n : ℕ} (o : Fin n)
    (inb : ∀ x, (![0, 1, 0] : Fin 3 → ℕ) x + (⟨3, ![1, 1, n]⟩ : Shape).size x ≤ (⟨3, ![1, 2, n]⟩ : Shape).size x)
    (w : (⟨3, ![1, 1, n]⟩ : Shape).Idx → EReal) (L : List (View.Piece (Elt Ideal) (⟨3, ![1, 2, n]⟩ : Shape) .f32)) :
    View.canon ((⟨Rect.unit (s := (⟨3, ![1, 2, n]⟩ : Shape)) ![0, 1, 0] (⟨3, ![1, 1, n]⟩ : Shape).size inb, w⟩ : View.Piece (Elt Ideal) (⟨3, ![1, 2, n]⟩ : Shape) .f32) :: L)
      (ix3 (0 : Fin 1) (1 : Fin 2) o) = w (ix3 (0 : Fin 1) (0 : Fin 1) o) := by
  have he : (Rect.unit (s := (⟨3, ![1, 2, n]⟩ : Shape)) ![0, 1, 0] (⟨3, ![1, 1, n]⟩ : Shape).size inb).emb (ix3 (0 : Fin 1) (0 : Fin 1) o)
      = ix3 (0 : Fin 1) (1 : Fin 2) o := by
    funext x
    apply Fin.ext
    fin_cases x
    · rfl
    · rfl
    · show 0 + 1 * o.val = o.val; omega
  rw [← he]
  exact View.canon_cons_emb (Rect.unit (s := (⟨3, ![1, 2, n]⟩ : Shape)) ![0, 1, 0] (⟨3, ![1, 1, n]⟩ : Shape).size inb) w L (ix3 (0 : Fin 1) (0 : Fin 1) o)

/-- A two-row window stored second row last, read at its first row. -/
theorem canon_row0 {n : ℕ} (o : Fin n)
    (inb : ∀ x, (![0, 1, 0] : Fin 3 → ℕ) x + (⟨3, ![1, 1, n]⟩ : Shape).size x ≤ (⟨3, ![1, 2, n]⟩ : Shape).size x)
    (inb' : ∀ x, (![0, 0, 0] : Fin 3 → ℕ) x + (⟨3, ![1, 1, n]⟩ : Shape).size x ≤ (⟨3, ![1, 2, n]⟩ : Shape).size x)
    (w w' : (⟨3, ![1, 1, n]⟩ : Shape).Idx → EReal) :
    View.canon [(⟨Rect.unit (s := (⟨3, ![1, 2, n]⟩ : Shape)) ![0, 1, 0] (⟨3, ![1, 1, n]⟩ : Shape).size inb, w⟩ : View.Piece (Elt Ideal) (⟨3, ![1, 2, n]⟩ : Shape) .f32),
        ⟨Rect.unit (s := (⟨3, ![1, 2, n]⟩ : Shape)) ![0, 0, 0] (⟨3, ![1, 1, n]⟩ : Shape).size inb', w'⟩]
      (ix3 (0 : Fin 1) (0 : Fin 2) o) = w' (ix3 (0 : Fin 1) (0 : Fin 1) o) := by
  refine (View.canon_cons_of_not_mem _ _ ?_).trans ?_
  · intro hm
    obtain ⟨i, hi, he⟩ := (LoadRect.mem_set _).mp hm (1 : Fin 3)
    have he' : 0 = 1 + 1 * i := he
    omega
  have he : (Rect.unit (s := (⟨3, ![1, 2, n]⟩ : Shape)) ![0, 0, 0] (⟨3, ![1, 1, n]⟩ : Shape).size inb').emb (ix3 (0 : Fin 1) (0 : Fin 1) o)
      = ix3 (0 : Fin 1) (0 : Fin 2) o := by
    funext x
    apply Fin.ext
    fin_cases x
    · rfl
    · rfl
    · show 0 + 1 * o.val = o.val; omega
  rw [← he]
  exact View.canon_cons_emb (Val := Elt Ideal) (e := .f32) (Rect.unit (s := (⟨3, ![1, 2, n]⟩ : Shape)) ![0, 0, 0] (⟨3, ![1, 1, n]⟩ : Shape).size inb') w' [] (ix3 (0 : Fin 1) (0 : Fin 1) o)

theorem out0_5_row0 (x0 : Vec Ideal S4096x16 .f32) (x1 : Vec Ideal S128x3 .f32) (x2 : Vec Ideal S3x64 .f32) (x3 : Vec Ideal S64 .f32) (o : Fin 64) :
    out0_5 x0 x1 x2 x3 (ix3 (0 : Fin 1) (0 : Fin 2) o) = ∑ r : Fin 4096, k0_pay1 x0 x1 x2 x3 (ix2 r o) := by
  refine Eq.trans ?_ (sum0 x0 x1 x2 x3 o)
  unfold out0_5
  rw [View.ld_unit_zero (by decide), View.ld_unit_zero (by decide), View.ld_unit_zero (by decide), View.ld_unit_zero (by decide)]
  exact canon_row0 o _ _ _ _

theorem out0_5_row1 (x0 : Vec Ideal S4096x16 .f32) (x1 : Vec Ideal S128x3 .f32) (x2 : Vec Ideal S3x64 .f32) (x3 : Vec Ideal S64 .f32) (o : Fin 64) :
    out0_5 x0 x1 x2 x3 (ix3 (0 : Fin 1) (1 : Fin 2) o) = ∑ r : Fin 4096, k0_pay1 x0 x1 x2 x3 (ix2 r o) * k0_pay1 x0 x1 x2 x3 (ix2 r o) := by
  refine Eq.trans ?_ (sq0 x0 x1 x2 x3 o)
  unfold out0_5
  rw [View.ld_unit_zero (by decide), View.ld_unit_zero (by decide), View.ld_unit_zero (by decide), View.ld_unit_zero (by decide)]
  exact canon_row1 o _ _ _

theorem out1_6_row0 (x0 : Vec Ideal S4096x64 .f32) (x1 x2 : Vec Ideal S64 .f32) (x3 : Vec Ideal S64x128 .f32) (x4 : Vec Ideal S128 .f32) (o : Fin 128) :
    out1_6 x0 x1 x2 x3 x4 (ix3 (0 : Fin 1) (0 : Fin 2) o) = ∑ r : Fin 4096, k1_pay1 x0 x1 x2 x3 x4 (ix2 r o) := by
  refine Eq.trans ?_ (sum1 x0 x1 x2 x3 x4 o)
  unfold out1_6
  rw [View.ld_unit_zero (by decide), View.ld_unit_zero (by decide), View.ld_unit_zero (by decide), View.ld_unit_zero (by decide), View.ld_unit_zero (by decide)]
  exact canon_row0 o _ _ _ _

theorem out1_6_row1 (x0 : Vec Ideal S4096x64 .f32) (x1 x2 : Vec Ideal S64 .f32) (x3 : Vec Ideal S64x128 .f32) (x4 : Vec Ideal S128 .f32) (o : Fin 128) :
    out1_6 x0 x1 x2 x3 x4 (ix3 (0 : Fin 1) (1 : Fin 2) o) = ∑ r : Fin 4096, k1_pay1 x0 x1 x2 x3 x4 (ix2 r o) * k1_pay1 x0 x1 x2 x3 x4 (ix2 r o) := by
  refine Eq.trans ?_ (sq1 x0 x1 x2 x3 x4 o)
  unfold out1_6
  rw [View.ld_unit_zero (by decide), View.ld_unit_zero (by decide), View.ld_unit_zero (by decide), View.ld_unit_zero (by decide), View.ld_unit_zero (by decide)]
  exact canon_row1 o _ _ _

/-- A chain of maxima over the neighbours. -/
theorem chain_eq (f : Fin 32 → EReal) :
    max (max (max (max (max (max (max (max (max (max (max (max (max (max (max (max (max (max (max (max (max (max (max (max (max (max (max (max (max (max (max (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27)) (f 28)) (f 29)) (f 30)) (f 31) = Finset.univ.fold max ⊥ f := by
  refine le_antisymm ?_ ?_
  · have h : ∀ k, f k ≤ Finset.univ.fold max ⊥ f := fun k => Finset.le_sup (f := f) (Finset.mem_univ k)
    simp only [max_le_iff, h, and_self]
  · refine Finset.sup_le (f := f) fun k _ => ?_
    match k with
    | ⟨0, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_rfl)))))))))))))))))))))))))))))))
    | ⟨1, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))))))))
    | ⟨2, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))))))))
    | ⟨3, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))))))
    | ⟨4, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))))))
    | ⟨5, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))))
    | ⟨6, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))))
    | ⟨7, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))))
    | ⟨8, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))))
    | ⟨9, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))))
    | ⟨10, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))))
    | ⟨11, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))))
    | ⟨12, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))))
    | ⟨13, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))))
    | ⟨14, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))))
    | ⟨15, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))))
    | ⟨16, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))))
    | ⟨17, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))))
    | ⟨18, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _)))))))))))))
    | ⟨19, _⟩ => exact le_max_of_le_left (le_max_of_le_left (le_max_of_le_left (le_max_of_le_left (le_max_of_le_left (le_max_of_le_left (le_max_of_le_left (le_max_of_le_left (le_max_of_le_left (le_max_of_le_left (le_max_of_le_left (le_max_of_le_left (le_max_right _ _))))))))))))
    | ⟨20, _⟩ => exact le_max_of_le_left (le_max_of_le_left (le_max_of_le_left (le_max_of_le_left (le_max_of_le_left (le_max_of_le_left (le_max_of_le_left (le_max_of_le_left (le_max_of_le_left (le_max_of_le_left (le_max_of_le_left (le_max_right _ _)))))))))))
    | ⟨21, _⟩ => exact le_max_of_le_left (le_max_of_le_left (le_max_of_le_left (le_max_of_le_left (le_max_of_le_left (le_max_of_le_left (le_max_of_le_left (le_max_of_le_left (le_max_of_le_left (le_max_of_le_left (le_max_right _ _))))))))))
    | ⟨22, _⟩ => exact le_max_of_le_left (le_max_of_le_left (le_max_of_le_left (le_max_of_le_left (le_max_of_le_left (le_max_of_le_left (le_max_of_le_left (le_max_of_le_left (le_max_of_le_left (le_max_right _ _)))))))))
    | ⟨23, _⟩ => exact le_max_of_le_left (le_max_of_le_left (le_max_of_le_left (le_max_of_le_left (le_max_of_le_left (le_max_of_le_left (le_max_of_le_left (le_max_of_le_left (le_max_right _ _))))))))
    | ⟨24, _⟩ => exact le_max_of_le_left (le_max_of_le_left (le_max_of_le_left (le_max_of_le_left (le_max_of_le_left (le_max_of_le_left (le_max_of_le_left (le_max_right _ _)))))))
    | ⟨25, _⟩ => exact le_max_of_le_left (le_max_of_le_left (le_max_of_le_left (le_max_of_le_left (le_max_of_le_left (le_max_of_le_left (le_max_right _ _))))))
    | ⟨26, _⟩ => exact le_max_of_le_left (le_max_of_le_left (le_max_of_le_left (le_max_of_le_left (le_max_of_le_left (le_max_right _ _)))))
    | ⟨27, _⟩ => exact le_max_of_le_left (le_max_of_le_left (le_max_of_le_left (le_max_of_le_left (le_max_right _ _))))
    | ⟨28, _⟩ => exact le_max_of_le_left (le_max_of_le_left (le_max_of_le_left (le_max_right _ _)))
    | ⟨29, _⟩ => exact le_max_of_le_left (le_max_of_le_left (le_max_right _ _))
    | ⟨30, _⟩ => exact le_max_of_le_left (le_max_right _ _)
    | ⟨31, _⟩ => exact le_max_right _ _
    | ⟨n + 32, h⟩ => exact absurd h (by omega)

theorem out2_5_apply (x0 : Vec Ideal S4096x128 .f32) (x1 x2 : Vec Ideal S128 .f32) (x3 : Vec Ideal S128x256 .f32) (x4 : Vec Ideal S256 .f32) (q : Fin 128) (o : Fin 256) :
    out2_5 x0 x1 x2 x3 x4 (ix2 q o) = Finset.univ.fold max ⊥ fun k : Fin 32 => k2_pay2 x0 x1 x2 x3 x4 (ix3 q k o) := by
  unfold_out out2_5
  rw [View.canon_unit_zero (by decide), View.ld_unit_zero (by decide), View.ld_unit_zero (by decide), View.ld_unit_zero (by decide), View.ld_unit_zero (by decide), View.ld_unit_zero (by decide)]
  refine Eq.trans ?_ (chain_eq _)
  unfold k2_pay1 k2_pay5 k2_pay6 k2_pay3 k2_pay4
  pointwise

end Cert.Proof.LayerPay

end
-- ==== Proof.LayerArr.lean ====
/-
  The three layers' arrays after their regions: each output array, element by element, from the arrays its region reads.
-/
module

public import proofs.«01_k».proof.Proof.LayerPay
public import proofs.«01_k».proof.Proof.Gen.LayersIdeal.Frame
public import Idealize.ShloMosaic.Lib.Pipeline.ValueKit

@[expose] public section

noncomputable section

namespace Cert.Proof.LayerArr

open Cert.LayersIdeal Cert.LayersIdeal.Gen Cert.Proof.LayerPay
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row `r` of block `t`. -/
def row (t : ℕ) (h : t < 32) (r : Fin 4096) : Fin 131072 := ⟨t * 4096 + r.val, by omega⟩
/-- Centre `q` of block `t`. -/
def ctr (t : ℕ) (h : t < 32) (q : Fin 128) : Fin 4096 := ⟨t * 128 + q.val, by omega⟩

theorem lt0 (t : Fin cfg0.N) : t.val < 32 := Nat.lt_of_lt_of_eq t.isLt N_0

theorem lt1 (t : Fin cfg1.N) : t.val < 32 := Nat.lt_of_lt_of_eq t.isLt N_1

theorem lt2 (t : Fin cfg2.N) : t.val < 32 := Nat.lt_of_lt_of_eq t.isLt N_2

/-- The first layer's values: a gathered row less its centre, through the weights, plus the bias. -/
def Y0 (G : S131072x16.Idx → EReal) (S : S4096x3.Idx → EReal) (W : S3x64.Idx → EReal) (b : S64.Idx → EReal) (p : Fin 131072) (o : Fin 64) : EReal :=
  (∑ k : Fin 3, (G (ix2 p (k.castLE (by decide))) - S (ix2 (⟨p.val / 32, by omega⟩ : Fin 4096) k)) * W (ix2 k o)) + b (ix1 o)

/-- The second layer's values: a row scaled, shifted and clamped below, through the weights, plus the bias. -/
def Y1 (Y : S131072x64.Idx → EReal) (a d : S64.Idx → EReal) (W : S64x128.Idx → EReal) (b : S128.Idx → EReal) (p : Fin 131072) (o : Fin 128) : EReal :=
  (∑ k : Fin 64, max (Y (ix2 p k) * a (ix1 k) + d (ix1 k)) 0 * W (ix2 k o)) + b (ix1 o)

/-- The third layer's values, in the same way. -/
def Y2 (Y : S131072x128.Idx → EReal) (a d : S128.Idx → EReal) (W : S128x256.Idx → EReal) (b : S256.Idx → EReal) (p : Fin 131072) (o : Fin 256) : EReal :=
  (∑ k : Fin 128, max (Y (ix2 p k) * a (ix1 k) + d (ix1 k)) 0 * W (ix2 k o)) + b (ix1 o)

/-! ## First layer -/

theorem idx0_0 : ∀ t : Fin cfg0.N, win0_0.index t = ![t.val, 0] := (by decide +kernel : ∀ t : Fin grid0.N, win0_0.index t = ![t.val, 0])
theorem idx0_1 : ∀ t : Fin cfg0.N, win0_1.index t = ![t.val, 0] := (by decide +kernel : ∀ t : Fin grid0.N, win0_1.index t = ![t.val, 0])
theorem idx0_2 : ∀ t : Fin cfg0.N, win0_2.index t = ![0, 0] := (by decide +kernel : ∀ t : Fin grid0.N, win0_2.index t = ![0, 0])
theorem idx0_3 : ∀ t : Fin cfg0.N, win0_3.index t = ![0] := (by decide +kernel : ∀ t : Fin grid0.N, win0_3.index t = ![0])
theorem idx0_4 : ∀ t : Fin cfg0.N, win0_4.index t = ![t.val, 0] := (by decide +kernel : ∀ t : Fin grid0.N, win0_4.index t = ![t.val, 0])
theorem idx0_5 : ∀ t : Fin cfg0.N, win0_5.index t = ![t.val, 0, 0] := (by decide +kernel : ∀ t : Fin grid0.N, win0_5.index t = ![t.val, 0, 0])

theorem emb0_0 (t : Fin cfg0.N) (r : Fin 4096) (j : Fin 16) :
    ((cfg0.win 0).blk t).view.emb (ix2 r j) = (ix2 (row t.val (lt0 t) r) j : S131072x16.Idx) := by
  funext a
  refine Fin.ext ?_
  match a with
  | ⟨0, h⟩ => blk_simp [idx0_0] <;> rfl
  | ⟨1, h⟩ => blk_simp [idx0_0] <;> rfl

theorem emb0_1 (t : Fin cfg0.N) (q : Fin 128) (j : Fin 3) :
    ((cfg0.win 1).blk t).view.emb (ix2 q j) = (ix2 (ctr t.val (lt0 t) q) j : S4096x3.Idx) := by
  funext a
  refine Fin.ext ?_
  match a with
  | ⟨0, h⟩ => blk_simp [idx0_1] <;> rfl
  | ⟨1, h⟩ => blk_simp [idx0_1] <;> rfl

theorem emb0_2 (t : Fin cfg0.N) (r : Fin 3) (j : Fin 64) :
    ((cfg0.win 2).blk t).view.emb (ix2 r j) = (ix2 r j : S3x64.Idx) := by
  funext a
  refine Fin.ext ?_
  match a with
  | ⟨0, h⟩ => blk_simp [idx0_2] <;> rfl
  | ⟨1, h⟩ => blk_simp [idx0_2] <;> rfl

theorem emb0_3 (t : Fin cfg0.N) (j : Fin 64) :
    ((cfg0.win 3).blk t).view.emb (ix1 j) = (ix1 j : S64.Idx) := by
  funext a
  refine Fin.ext ?_
  match a with
  | ⟨0, h⟩ => blk_simp [idx0_3] <;> rfl

theorem emb0_4 (t : Fin cfg0.N) (r : Fin 4096) (j : Fin 64) :
    ((cfg0.win 4).blk t).view.emb (ix2 r j) = (ix2 (row t.val (lt0 t) r) j : S131072x64.Idx) := by
  funext a
  refine Fin.ext ?_
  match a with
  | ⟨0, h⟩ => blk_simp [idx0_4] <;> rfl
  | ⟨1, h⟩ => blk_simp [idx0_4] <;> rfl

theorem emb0_5 (t : Fin cfg0.N) (u : Fin 2) (o : Fin 64) :
    ((cfg0.win 5).blk t).view.emb (ix3 (0 : Fin 1) u o) = (ix3 (⟨t.val, lt0 t⟩ : Fin 32) u o : S32x2x64.Idx) := by
  funext a
  refine Fin.ext ?_
  match a with
  | ⟨0, h⟩ => blk_simp [idx0_5] <;> rfl
  | ⟨1, h⟩ => blk_simp [idx0_5] <;> rfl
  | ⟨2, h⟩ => blk_simp [idx0_5] <;> rfl

section
variable (G : S131072x16.Idx → EReal) (S : S4096x3.Idx → EReal) (W : S3x64.Idx → EReal) (b : S64.Idx → EReal)

/-! The blocks that point `t` reads. -/
abbrev b0_0 (t : Fin cfg0.N) : Vec Ideal S4096x16 .f32 := fun y => G (((cfg0.win 0).blk t).view.emb y)
abbrev b0_1 (t : Fin cfg0.N) : Vec Ideal S128x3 .f32 := fun y => S (((cfg0.win 1).blk t).view.emb y)
abbrev b0_2 (t : Fin cfg0.N) : Vec Ideal S3x64 .f32 := fun y => W (((cfg0.win 2).blk t).view.emb y)
abbrev b0_3 (t : Fin cfg0.N) : Vec Ideal S64 .f32 := fun y => b (((cfg0.win 3).blk t).view.emb y)

theorem pre0_blk (t : Fin cfg0.N) (r : Fin 4096) (o : Fin 64) :
    k0_pay1 (b0_0 G t) (b0_1 S t) (b0_2 W t) (b0_3 b t) (ix2 r o) = Y0 G S W b (row t.val (lt0 t) r) o := by
  refine (pay0 (b0_0 G t) (b0_1 S t) (b0_2 W t) (b0_3 b t) r o).trans ?_
  unfold Y0
  have hq : (⟨(row t.val (lt0 t) r).val / 32, by omega⟩ : Fin 4096) = ctr t.val (lt0 t) ⟨r.val / 32, by omega⟩ := by
    refine Fin.ext ?_
    show (t.val * 4096 + r.val) / 32 = t.val * 128 + r.val / 32
    omega
  rw [hq]
  refine congrArg₂ (· + ·) (Finset.sum_congr rfl fun k _ => congrArg₂ (· * ·) (congrArg₂ (· - ·) ?_ ?_) ?_) ?_
  · exact congrArg G (emb0_0 t r _)
  · exact congrArg S (emb0_1 t _ k)
  · exact congrArg W (emb0_2 t k o)
  · exact congrArg b (emb0_3 t o)

/-- The layer's array. -/
theorem arr0_4_of (A : S131072x64.Idx → EReal)
    (h : ∀ (t : Fin cfg0.N) (y : S4096x64.Idx), A (((cfg0.win 4).blk t).view.emb y) = out0_4 (b0_0 G t) (b0_1 S t) (b0_2 W t) (b0_3 b t) y) (p : Fin 131072) (o : Fin 64) :
    A (ix2 p o) = Y0 G S W b p o := by
  have ht : p.val / 4096 < cfg0.N := Nat.lt_of_lt_of_eq (by omega : p.val / 4096 < 32) N_0.symm
  have hp : row (p.val / 4096) (by omega) ⟨p.val % 4096, by omega⟩ = p := Fin.ext (by show p.val / 4096 * 4096 + p.val % 4096 = p.val; omega)
  have e := h ⟨p.val / 4096, ht⟩ (ix2 (⟨p.val % 4096, by omega⟩ : Fin 4096) o)
  rw [emb0_4, out0_4_apply] at e
  refine Eq.trans ?_ (e.trans ((pre0_blk G S W b _ _ o).trans ?_))
  · exact congrArg (fun p => A (ix2 p o)) hp.symm
  · exact congrArg (fun p => Y0 G S W b p o) hp

/-- The statistics array: each block's sum. -/
theorem arr0_5_sum_of (A : S32x2x64.Idx → EReal)
    (h : ∀ (t : Fin cfg0.N) (y : S1x2x64.Idx), A (((cfg0.win 5).blk t).view.emb y) = out0_5 (b0_0 G t) (b0_1 S t) (b0_2 W t) (b0_3 b t) y) (t : Fin 32) (o : Fin 64) :
    A (ix3 t (0 : Fin 2) o) = ∑ r : Fin 4096, Y0 G S W b (row t.val t.isLt r) o := by
  have ht : t.val < cfg0.N := Nat.lt_of_lt_of_eq t.isLt N_0.symm
  have e := h ⟨t.val, ht⟩ (ix3 (0 : Fin 1) (0 : Fin 2) o)
  rw [emb0_5, out0_5_row0] at e
  exact e.trans (Finset.sum_congr (M := EReal) rfl fun r _ => pre0_blk G S W b ⟨t.val, ht⟩ r o)

/-- The statistics array: each block's sum of squares. -/
theorem arr0_5_sq_of (A : S32x2x64.Idx → EReal)
    (h : ∀ (t : Fin cfg0.N) (y : S1x2x64.Idx), A (((cfg0.win 5).blk t).view.emb y) = out0_5 (b0_0 G t) (b0_1 S t) (b0_2 W t) (b0_3 b t) y) (t : Fin 32) (o : Fin 64) :
    A (ix3 t (1 : Fin 2) o) = ∑ r : Fin 4096, Y0 G S W b (row t.val t.isLt r) o * Y0 G S W b (row t.val t.isLt r) o := by
  have ht : t.val < cfg0.N := Nat.lt_of_lt_of_eq t.isLt N_0.symm
  have e := h ⟨t.val, ht⟩ (ix3 (0 : Fin 1) (1 : Fin 2) o)
  rw [emb0_5, out0_5_row1] at e
  exact e.trans (Finset.sum_congr (M := EReal) rfl fun r _ => congrArg₂ (· * ·) (pre0_blk G S W b ⟨t.val, ht⟩ r o) (pre0_blk G S W b ⟨t.val, ht⟩ r o))

end

theorem inj0_4 : ∀ t t' : Fin cfg0.N, win0_4.index t = win0_4.index t' → t = t' :=
  fun t t' h => Fin.ext (by rw [idx0_4, idx0_4] at h; exact congrFun h 0)

theorem blocks0_4 (c : Dev nD) (t : Fin cfg0.N) (y : S4096x64.Idx) :
    ((dat0 V c).arrAt 4 cfg0.N : S131072x64.Idx → EReal) (((cfg0.win 4).blk t).view.emb y) = (out0_4 (iblk0 V c 0 t) (iblk0 V c 1 t) (iblk0 V c 2 t) (iblk0 V c 3 t) : S4096x64.Idx → EReal) y := by
  have e := congrFun ((dat0 V c).read_blk_arrAt_eq_flushed 4 (fun t t' _ _ hne => (cfg0.win 4).disjoint_blk fun h => hne (inj0_4 t t' h)) cfg0.N t t.isLt (flush0_4 t)) y
  refine Eq.trans e ?_
  show (dat0 V c).after 4 t y = _
  rw [after0_4]

/-- The layer's array. -/
theorem arr0_4 (c : Dev nD) (p : Fin 131072) (o : Fin 64) :
    ((dat0 V c).arrAt 4 cfg0.N : S131072x64.Idx → EReal) (ix2 p o) = Y0 (V c main_arg0) (V c main_v0) (V c main_v1) (V c main_arg3) p o :=
  arr0_4_of _ _ _ _ _ (blocks0_4 V c) p o

theorem inj0_5 : ∀ t t' : Fin cfg0.N, win0_5.index t = win0_5.index t' → t = t' :=
  fun t t' h => Fin.ext (by rw [idx0_5, idx0_5] at h; exact congrFun h 0)

theorem blocks0_5 (c : Dev nD) (t : Fin cfg0.N) (y : S1x2x64.Idx) :
    ((dat0 V c).arrAt 5 cfg0.N : S32x2x64.Idx → EReal) (((cfg0.win 5).blk t).view.emb y) = (out0_5 (iblk0 V c 0 t) (iblk0 V c 1 t) (iblk0 V c 2 t) (iblk0 V c 3 t) : S1x2x64.Idx → EReal) y := by
  have e := congrFun ((dat0 V c).read_blk_arrAt_eq_flushed 5 (fun t t' _ _ hne => (cfg0.win 5).disjoint_blk fun h => hne (inj0_5 t t' h)) cfg0.N t t.isLt (flush0_5 t)) y
  refine Eq.trans e ?_
  show (dat0 V c).after 5 t y = _
  rw [after0_5]

/-- The statistics array: each block's sum. -/
theorem arr0_5_sum (c : Dev nD) (t : Fin 32) (o : Fin 64) :
    ((dat0 V c).arrAt 5 cfg0.N : S32x2x64.Idx → EReal) (ix3 t (0 : Fin 2) o) = ∑ r : Fin 4096, Y0 (V c main_arg0) (V c main_v0) (V c main_v1) (V c main_arg3) (row t.val t.isLt r) o :=
  arr0_5_sum_of _ _ _ _ _ (blocks0_5 V c) t o

/-- The statistics array: each block's sum of squares. -/
theorem arr0_5_sq (c : Dev nD) (t : Fin 32) (o : Fin 64) :
    ((dat0 V c).arrAt 5 cfg0.N : S32x2x64.Idx → EReal) (ix3 t (1 : Fin 2) o) = ∑ r : Fin 4096, Y0 (V c main_arg0) (V c main_v0) (V c main_v1) (V c main_arg3) (row t.val t.isLt r) o * Y0 (V c main_arg0) (V c main_v0) (V c main_v1) (V c main_arg3) (row t.val t.isLt r) o :=
  arr0_5_sq_of _ _ _ _ _ (blocks0_5 V c) t o

/-! ## Second layer -/

theorem idx1_0 : ∀ t : Fin cfg1.N, win1_0.index t = ![t.val, 0] := (by decide +kernel : ∀ t : Fin grid1.N, win1_0.index t = ![t.val, 0])
theorem idx1_1 : ∀ t : Fin cfg1.N, win1_1.index t = ![0] := (by decide +kernel : ∀ t : Fin grid1.N, win1_1.index t = ![0])
theorem idx1_2 : ∀ t : Fin cfg1.N, win1_2.index t = ![0] := (by decide +kernel : ∀ t : Fin grid1.N, win1_2.index t = ![0])
theorem idx1_3 : ∀ t : Fin cfg1.N, win1_3.index t = ![0, 0] := (by decide +kernel : ∀ t : Fin grid1.N, win1_3.index t = ![0, 0])
theorem idx1_4 : ∀ t : Fin cfg1.N, win1_4.index t = ![0] := (by decide +kernel : ∀ t : Fin grid1.N, win1_4.index t = ![0])
theorem idx1_5 : ∀ t : Fin cfg1.N, win1_5.index t = ![t.val, 0] := (by decide +kernel : ∀ t : Fin grid1.N, win1_5.index t = ![t.val, 0])
theorem idx1_6 : ∀ t : Fin cfg1.N, win1_6.index t = ![t.val, 0, 0] := (by decide +kernel : ∀ t : Fin grid1.N, win1_6.index t = ![t.val, 0, 0])

theorem emb1_0 (t : Fin cfg1.N) (r : Fin 4096) (j : Fin 64) :
    ((cfg1.win 0).blk t).view.emb (ix2 r j) = (ix2 (row t.val (lt1 t) r) j : S131072x64.Idx) := by
  funext a
  refine Fin.ext ?_
  match a with
  | ⟨0, h⟩ => blk_simp [idx1_0] <;> rfl
  | ⟨1, h⟩ => blk_simp [idx1_0] <;> rfl

theorem emb1_1 (t : Fin cfg1.N) (j : Fin 64) :
    ((cfg1.win 1).blk t).view.emb (ix1 j) = (ix1 j : S64.Idx) := by
  funext a
  refine Fin.ext ?_
  match a with
  | ⟨0, h⟩ => blk_simp [idx1_1] <;> rfl

theorem emb1_2 (t : Fin cfg1.N) (j : Fin 64) :
    ((cfg1.win 2).blk t).view.emb (ix1 j) = (ix1 j : S64.Idx) := by
  funext a
  refine Fin.ext ?_
  match a with
  | ⟨0, h⟩ => blk_simp [idx1_2] <;> rfl

theorem emb1_3 (t : Fin cfg1.N) (r : Fin 64) (j : Fin 128) :
    ((cfg1.win 3).blk t).view.emb (ix2 r j) = (ix2 r j : S64x128.Idx) := by
  funext a
  refine Fin.ext ?_
  match a with
  | ⟨0, h⟩ => blk_simp [idx1_3] <;> rfl
  | ⟨1, h⟩ => blk_simp [idx1_3] <;> rfl

theorem emb1_4 (t : Fin cfg1.N) (j : Fin 128) :
    ((cfg1.win 4).blk t).view.emb (ix1 j) = (ix1 j : S128.Idx) := by
  funext a
  refine Fin.ext ?_
  match a with
  | ⟨0, h⟩ => blk_simp [idx1_4] <;> rfl

theorem emb1_5 (t : Fin cfg1.N) (r : Fin 4096) (j : Fin 128) :
    ((cfg1.win 5).blk t).view.emb (ix2 r j) = (ix2 (row t.val (lt1 t) r) j : S131072x128.Idx) := by
  funext a
  refine Fin.ext ?_
  match a with
  | ⟨0, h⟩ => blk_simp [idx1_5] <;> rfl
  | ⟨1, h⟩ => blk_simp [idx1_5] <;> rfl

theorem emb1_6 (t : Fin cfg1.N) (u : Fin 2) (o : Fin 128) :
    ((cfg1.win 6).blk t).view.emb (ix3 (0 : Fin 1) u o) = (ix3 (⟨t.val, lt1 t⟩ : Fin 32) u o : S32x2x128.Idx) := by
  funext a
  refine Fin.ext ?_
  match a with
  | ⟨0, h⟩ => blk_simp [idx1_6] <;> rfl
  | ⟨1, h⟩ => blk_simp [idx1_6] <;> rfl
  | ⟨2, h⟩ => blk_simp [idx1_6] <;> rfl

section
variable (Y : S131072x64.Idx → EReal) (a : S64.Idx → EReal) (d : S64.Idx → EReal) (W : S64x128.Idx → EReal) (b : S128.Idx → EReal)

/-! The blocks that point `t` reads. -/
abbrev b1_0 (t : Fin cfg1.N) : Vec Ideal S4096x64 .f32 := fun y => Y (((cfg1.win 0).blk t).view.emb y)
abbrev b1_1 (t : Fin cfg1.N) : Vec Ideal S64 .f32 := fun y => a (((cfg1.win 1).blk t).view.emb y)
abbrev b1_2 (t : Fin cfg1.N) : Vec Ideal S64 .f32 := fun y => d (((cfg1.win 2).blk t).view.emb y)
abbrev b1_3 (t : Fin cfg1.N) : Vec Ideal S64x128 .f32 := fun y => W (((cfg1.win 3).blk t).view.emb y)
abbrev b1_4 (t : Fin cfg1.N) : Vec Ideal S128 .f32 := fun y => b (((cfg1.win 4).blk t).view.emb y)

theorem pre1_blk (t : Fin cfg1.N) (r : Fin 4096) (o : Fin 128) :
    k1_pay1 (b1_0 Y t) (b1_1 a t) (b1_2 d t) (b1_3 W t) (b1_4 b t) (ix2 r o) = Y1 Y a d W b (row t.val (lt1 t) r) o := by
  refine (pay1 (b1_0 Y t) (b1_1 a t) (b1_2 d t) (b1_3 W t) (b1_4 b t) r o).trans ?_
  unfold Y1
  refine congrArg₂ (· + ·) (Finset.sum_congr rfl fun k _ => congrArg₂ (· * ·) (congrArg₂ max (congrArg₂ (· + ·) (congrArg₂ (· * ·) ?_ ?_) ?_) rfl) ?_) ?_
  · exact congrArg Y (emb1_0 t r k)
  · exact congrArg a (emb1_1 t k)
  · exact congrArg d (emb1_2 t k)
  · exact congrArg W (emb1_3 t k o)
  · exact congrArg b (emb1_4 t o)

/-- The layer's array. -/
theorem arr1_5_of (A : S131072x128.Idx → EReal)
    (h : ∀ (t : Fin cfg1.N) (y : S4096x128.Idx), A (((cfg1.win 5).blk t).view.emb y) = out1_5 (b1_0 Y t) (b1_1 a t) (b1_2 d t) (b1_3 W t) (b1_4 b t) y) (p : Fin 131072) (o : Fin 128) :
    A (ix2 p o) = Y1 Y a d W b p o := by
  have ht : p.val / 4096 < cfg1.N := Nat.lt_of_lt_of_eq (by omega : p.val / 4096 < 32) N_1.symm
  have hp : row (p.val / 4096) (by omega) ⟨p.val % 4096, by omega⟩ = p := Fin.ext (by show p.val / 4096 * 4096 + p.val % 4096 = p.val; omega)
  have e := h ⟨p.val / 4096, ht⟩ (ix2 (⟨p.val % 4096, by omega⟩ : Fin 4096) o)
  rw [emb1_5, out1_5_apply] at e
  refine Eq.trans ?_ (e.trans ((pre1_blk Y a d W b _ _ o).trans ?_))
  · exact congrArg (fun p => A (ix2 p o)) hp.symm
  · exact congrArg (fun p => Y1 Y a d W b p o) hp

/-- The statistics array: each block's sum. -/
theorem arr1_6_sum_of (A : S32x2x128.Idx → EReal)
    (h : ∀ (t : Fin cfg1.N) (y : S1x2x128.Idx), A (((cfg1.win 6).blk t).view.emb y) = out1_6 (b1_0 Y t) (b1_1 a t) (b1_2 d t) (b1_3 W t) (b1_4 b t) y) (t : Fin 32) (o : Fin 128) :
    A (ix3 t (0 : Fin 2) o) = ∑ r : Fin 4096, Y1 Y a d W b (row t.val t.isLt r) o := by
  have ht : t.val < cfg1.N := Nat.lt_of_lt_of_eq t.isLt N_1.symm
  have e := h ⟨t.val, ht⟩ (ix3 (0 : Fin 1) (0 : Fin 2) o)
  rw [emb1_6, out1_6_row0] at e
  exact e.trans (Finset.sum_congr (M := EReal) rfl fun r _ => pre1_blk Y a d W b ⟨t.val, ht⟩ r o)

/-- The statistics array: each block's sum of squares. -/
theorem arr1_6_sq_of (A : S32x2x128.Idx → EReal)
    (h : ∀ (t : Fin cfg1.N) (y : S1x2x128.Idx), A (((cfg1.win 6).blk t).view.emb y) = out1_6 (b1_0 Y t) (b1_1 a t) (b1_2 d t) (b1_3 W t) (b1_4 b t) y) (t : Fin 32) (o : Fin 128) :
    A (ix3 t (1 : Fin 2) o) = ∑ r : Fin 4096, Y1 Y a d W b (row t.val t.isLt r) o * Y1 Y a d W b (row t.val t.isLt r) o := by
  have ht : t.val < cfg1.N := Nat.lt_of_lt_of_eq t.isLt N_1.symm
  have e := h ⟨t.val, ht⟩ (ix3 (0 : Fin 1) (1 : Fin 2) o)
  rw [emb1_6, out1_6_row1] at e
  exact e.trans (Finset.sum_congr (M := EReal) rfl fun r _ => congrArg₂ (· * ·) (pre1_blk Y a d W b ⟨t.val, ht⟩ r o) (pre1_blk Y a d W b ⟨t.val, ht⟩ r o))

end

theorem inj1_5 : ∀ t t' : Fin cfg1.N, win1_5.index t = win1_5.index t' → t = t' :=
  fun t t' h => Fin.ext (by rw [idx1_5, idx1_5] at h; exact congrFun h 0)

theorem blocks1_5 (c : Dev nD) (t : Fin cfg1.N) (y : S4096x128.Idx) :
    ((dat1 V c).arrAt 5 cfg1.N : S131072x128.Idx → EReal) (((cfg1.win 5).blk t).view.emb y) = (out1_5 (iblk1 V c 0 t) (iblk1 V c 1 t) (iblk1 V c 2 t) (iblk1 V c 3 t) (iblk1 V c 4 t) : S4096x128.Idx → EReal) y := by
  have e := congrFun ((dat1 V c).read_blk_arrAt_eq_flushed 5 (fun t t' _ _ hne => (cfg1.win 5).disjoint_blk fun h => hne (inj1_5 t t' h)) cfg1.N t t.isLt (flush1_5 t)) y
  refine Eq.trans e ?_
  show (dat1 V c).after 5 t y = _
  rw [after1_5]

/-- The layer's array. -/
theorem arr1_5 (c : Dev nD) (p : Fin 131072) (o : Fin 128) :
    ((dat1 V c).arrAt 5 cfg1.N : S131072x128.Idx → EReal) (ix2 p o) = Y1 (V c main_v2_0) (V c main_v18) (V c main_v20) (V c main_v21) (V c main_arg7) p o :=
  arr1_5_of _ _ _ _ _ _ (blocks1_5 V c) p o

theorem inj1_6 : ∀ t t' : Fin cfg1.N, win1_6.index t = win1_6.index t' → t = t' :=
  fun t t' h => Fin.ext (by rw [idx1_6, idx1_6] at h; exact congrFun h 0)

theorem blocks1_6 (c : Dev nD) (t : Fin cfg1.N) (y : S1x2x128.Idx) :
    ((dat1 V c).arrAt 6 cfg1.N : S32x2x128.Idx → EReal) (((cfg1.win 6).blk t).view.emb y) = (out1_6 (iblk1 V c 0 t) (iblk1 V c 1 t) (iblk1 V c 2 t) (iblk1 V c 3 t) (iblk1 V c 4 t) : S1x2x128.Idx → EReal) y := by
  have e := congrFun ((dat1 V c).read_blk_arrAt_eq_flushed 6 (fun t t' _ _ hne => (cfg1.win 6).disjoint_blk fun h => hne (inj1_6 t t' h)) cfg1.N t t.isLt (flush1_6 t)) y
  refine Eq.trans e ?_
  show (dat1 V c).after 6 t y = _
  rw [after1_6]

/-- The statistics array: each block's sum. -/
theorem arr1_6_sum (c : Dev nD) (t : Fin 32) (o : Fin 128) :
    ((dat1 V c).arrAt 6 cfg1.N : S32x2x128.Idx → EReal) (ix3 t (0 : Fin 2) o) = ∑ r : Fin 4096, Y1 (V c main_v2_0) (V c main_v18) (V c main_v20) (V c main_v21) (V c main_arg7) (row t.val t.isLt r) o :=
  arr1_6_sum_of _ _ _ _ _ _ (blocks1_6 V c) t o

/-- The statistics array: each block's sum of squares. -/
theorem arr1_6_sq (c : Dev nD) (t : Fin 32) (o : Fin 128) :
    ((dat1 V c).arrAt 6 cfg1.N : S32x2x128.Idx → EReal) (ix3 t (1 : Fin 2) o) = ∑ r : Fin 4096, Y1 (V c main_v2_0) (V c main_v18) (V c main_v20) (V c main_v21) (V c main_arg7) (row t.val t.isLt r) o * Y1 (V c main_v2_0) (V c main_v18) (V c main_v20) (V c main_v21) (V c main_arg7) (row t.val t.isLt r) o :=
  arr1_6_sq_of _ _ _ _ _ _ (blocks1_6 V c) t o

/-! ## Third layer -/

theorem idx2_0 : ∀ t : Fin cfg2.N, win2_0.index t = ![t.val, 0] := (by decide +kernel : ∀ t : Fin grid2.N, win2_0.index t = ![t.val, 0])
theorem idx2_1 : ∀ t : Fin cfg2.N, win2_1.index t = ![0] := (by decide +kernel : ∀ t : Fin grid2.N, win2_1.index t = ![0])
theorem idx2_2 : ∀ t : Fin cfg2.N, win2_2.index t = ![0] := (by decide +kernel : ∀ t : Fin grid2.N, win2_2.index t = ![0])
theorem idx2_3 : ∀ t : Fin cfg2.N, win2_3.index t = ![0, 0] := (by decide +kernel : ∀ t : Fin grid2.N, win2_3.index t = ![0, 0])
theorem idx2_4 : ∀ t : Fin cfg2.N, win2_4.index t = ![0] := (by decide +kernel : ∀ t : Fin grid2.N, win2_4.index t = ![0])
theorem idx2_5 : ∀ t : Fin cfg2.N, win2_5.index t = ![t.val, 0] := (by decide +kernel : ∀ t : Fin grid2.N, win2_5.index t = ![t.val, 0])

theorem emb2_0 (t : Fin cfg2.N) (r : Fin 4096) (j : Fin 128) :
    ((cfg2.win 0).blk t).view.emb (ix2 r j) = (ix2 (row t.val (lt2 t) r) j : S131072x128.Idx) := by
  funext a
  refine Fin.ext ?_
  match a with
  | ⟨0, h⟩ => blk_simp [idx2_0] <;> rfl
  | ⟨1, h⟩ => blk_simp [idx2_0] <;> rfl

theorem emb2_1 (t : Fin cfg2.N) (j : Fin 128) :
    ((cfg2.win 1).blk t).view.emb (ix1 j) = (ix1 j : S128.Idx) := by
  funext a
  refine Fin.ext ?_
  match a with
  | ⟨0, h⟩ => blk_simp [idx2_1] <;> rfl

theorem emb2_2 (t : Fin cfg2.N) (j : Fin 128) :
    ((cfg2.win 2).blk t).view.emb (ix1 j) = (ix1 j : S128.Idx) := by
  funext a
  refine Fin.ext ?_
  match a with
  | ⟨0, h⟩ => blk_simp [idx2_2] <;> rfl

theorem emb2_3 (t : Fin cfg2.N) (r : Fin 128) (j : Fin 256) :
    ((cfg2.win 3).blk t).view.emb (ix2 r j) = (ix2 r j : S128x256.Idx) := by
  funext a
  refine Fin.ext ?_
  match a with
  | ⟨0, h⟩ => blk_simp [idx2_3] <;> rfl
  | ⟨1, h⟩ => blk_simp [idx2_3] <;> rfl

theorem emb2_4 (t : Fin cfg2.N) (j : Fin 256) :
    ((cfg2.win 4).blk t).view.emb (ix1 j) = (ix1 j : S256.Idx) := by
  funext a
  refine Fin.ext ?_
  match a with
  | ⟨0, h⟩ => blk_simp [idx2_4] <;> rfl

theorem emb2_5 (t : Fin cfg2.N) (q : Fin 128) (j : Fin 256) :
    ((cfg2.win 5).blk t).view.emb (ix2 q j) = (ix2 (ctr t.val (lt2 t) q) j : S4096x256.Idx) := by
  funext a
  refine Fin.ext ?_
  match a with
  | ⟨0, h⟩ => blk_simp [idx2_5] <;> rfl
  | ⟨1, h⟩ => blk_simp [idx2_5] <;> rfl

section
variable (Y : S131072x128.Idx → EReal) (a : S128.Idx → EReal) (d : S128.Idx → EReal) (W : S128x256.Idx → EReal) (b : S256.Idx → EReal)

/-! The blocks that point `t` reads. -/
abbrev b2_0 (t : Fin cfg2.N) : Vec Ideal S4096x128 .f32 := fun y => Y (((cfg2.win 0).blk t).view.emb y)
abbrev b2_1 (t : Fin cfg2.N) : Vec Ideal S128 .f32 := fun y => a (((cfg2.win 1).blk t).view.emb y)
abbrev b2_2 (t : Fin cfg2.N) : Vec Ideal S128 .f32 := fun y => d (((cfg2.win 2).blk t).view.emb y)
abbrev b2_3 (t : Fin cfg2.N) : Vec Ideal S128x256 .f32 := fun y => W (((cfg2.win 3).blk t).view.emb y)
abbrev b2_4 (t : Fin cfg2.N) : Vec Ideal S256 .f32 := fun y => b (((cfg2.win 4).blk t).view.emb y)

theorem pre2_blk (t : Fin cfg2.N) (q : Fin 128) (k : Fin 32) (o : Fin 256) :
    k2_pay2 (b2_0 Y t) (b2_1 a t) (b2_2 d t) (b2_3 W t) (b2_4 b t) (ix3 q k o) = Y2 Y a d W b (⟨(ctr t.val (lt2 t) q).val * 32 + k.val, by omega⟩ : Fin 131072) o := by
  refine (pay2 (b2_0 Y t) (b2_1 a t) (b2_2 d t) (b2_3 W t) (b2_4 b t) q k o).trans ?_
  have hq : (⟨(ctr t.val (lt2 t) q).val * 32 + k.val, by omega⟩ : Fin 131072) = row t.val (lt2 t) ⟨q.val * 32 + k.val, by omega⟩ := by
    refine Fin.ext ?_
    show (t.val * 128 + q.val) * 32 + k.val = t.val * 4096 + (q.val * 32 + k.val)
    omega
  rw [hq]
  unfold Y2
  refine congrArg₂ (· + ·) (Finset.sum_congr rfl fun j _ => congrArg₂ (· * ·) (congrArg₂ max (congrArg₂ (· + ·) (congrArg₂ (· * ·) ?_ ?_) ?_) rfl) ?_) ?_
  · exact congrArg Y (emb2_0 t _ j)
  · exact congrArg a (emb2_1 t j)
  · exact congrArg d (emb2_2 t j)
  · exact congrArg W (emb2_3 t j o)
  · exact congrArg b (emb2_4 t o)

/-- The pooled array: the greatest of each centre's 32 rows. -/
theorem arr2_5_of (A : S4096x256.Idx → EReal)
    (h : ∀ (t : Fin cfg2.N) (y : S128x256.Idx), A (((cfg2.win 5).blk t).view.emb y) = out2_5 (b2_0 Y t) (b2_1 a t) (b2_2 d t) (b2_3 W t) (b2_4 b t) y) (q : Fin 4096) (o : Fin 256) :
    A (ix2 q o) = Finset.univ.fold max ⊥ fun k : Fin 32 => Y2 Y a d W b (⟨q.val * 32 + k.val, by omega⟩ : Fin 131072) o := by
  have ht : q.val / 128 < cfg2.N := Nat.lt_of_lt_of_eq (by omega : q.val / 128 < 32) N_2.symm
  have hq : ctr (q.val / 128) (by omega) ⟨q.val % 128, by omega⟩ = q := Fin.ext (by show q.val / 128 * 128 + q.val % 128 = q.val; omega)
  have e := h ⟨q.val / 128, ht⟩ (ix2 (⟨q.val % 128, by omega⟩ : Fin 128) o)
  rw [emb2_5, out2_5_apply] at e
  refine Eq.trans ?_ (e.trans ?_)
  · exact congrArg (fun p => A (ix2 p o)) hq.symm
  · refine congrArg (fun f : Fin 32 → EReal => Finset.univ.fold max ⊥ f) (funext fun k => ?_)
    refine (pre2_blk Y a d W b _ _ k o).trans ?_
    refine congrArg (fun p => Y2 Y a d W b p o) (Fin.ext ?_)
    exact congrArg (fun q : Fin 4096 => q.val * 32 + k.val) hq

end

theorem inj2_5 : ∀ t t' : Fin cfg2.N, win2_5.index t = win2_5.index t' → t = t' :=
  fun t t' h => Fin.ext (by rw [idx2_5, idx2_5] at h; exact congrFun h 0)

theorem blocks2_5 (c : Dev nD) (t : Fin cfg2.N) (y : S128x256.Idx) :
    ((dat2 V c).arrAt 5 cfg2.N : S4096x256.Idx → EReal) (((cfg2.win 5).blk t).view.emb y) = (out2_5 (iblk2 V c 0 t) (iblk2 V c 1 t) (iblk2 V c 2 t) (iblk2 V c 3 t) (iblk2 V c 4 t) : S128x256.Idx → EReal) y := by
  have e := congrFun ((dat2 V c).read_blk_arrAt_eq_flushed 5 (fun t t' _ _ hne => (cfg2.win 5).disjoint_blk fun h => hne (inj2_5 t t' h)) cfg2.N t t.isLt (flush2_5 t)) y
  refine Eq.trans e ?_
  show (dat2 V c).after 5 t y = _
  rw [after2_5]

/-- The pooled array: the greatest of each centre's 32 rows. -/
theorem arr2_5 (c : Dev nD) (q : Fin 4096) (o : Fin 256) :
    ((dat2 V c).arrAt 5 cfg2.N : S4096x256.Idx → EReal) (ix2 q o) = Finset.univ.fold max ⊥ fun k : Fin 32 => Y2 (V c main_v22_0) (V c main_v38) (V c main_v40) (V c main_v41) (V c main_arg11) (⟨q.val * 32 + k.val, by omega⟩ : Fin 131072) o :=
  arr2_5_of _ _ _ _ _ _ (blocks2_5 V c) q o

end Cert.Proof.LayerArr

end
-- ==== Proof.LayerHost.lean ====
/-
  The host operations between the regions: the scale and shift of each normalization, from a region's statistics, the
  transposed weights, and the final rearrangement.
-/
module

public import proofs.«01_k».proof.Proof.LayerArr
public import proofs.«01_k».proof.Proof.LayerMath
public import Idealize.ShloMosaic.Lib.Pointwise

@[expose] public section

noncomputable section

namespace Cert.Proof.LayerHost

open Cert.LayersIdeal Cert.LayersIdeal.Gen Cert.Proof.LayerArr Cert.Proof.LayerMath
open Idealize.ShloMosaic Idealize.ShloMosaic.TcCoe Idealize.SL.Sem
open StableHlo

/-! ## Coefficients of 64 channels -/

/-- One row of the statistics, summed over the blocks and divided by the count. -/
def mom64_0 (T : FVec Ideal S32x2x64 .f32) : FVec Ideal S64 .f32 :=
  Host.divf (Host.reduceAdd (shapeCast S32x64 (extractStridedSlice S32x1x64 ![0, 0, 0] T slices_S32x2x64_S32x1x64_0_0_0) shapeCasts_S32x1x64_S32x64) (constant S_ .f32 0x00000000#32) reducesTo_S32x64_S64_d0 h_S_)
    (broadcastInDim S64 ![] bcast_S_S64 (constant S_ .f32 0x48000000#32))

def mom64_1 (T : FVec Ideal S32x2x64 .f32) : FVec Ideal S64 .f32 :=
  Host.divf (Host.reduceAdd (shapeCast S32x64 (extractStridedSlice S32x1x64 ![0, 1, 0] T slices_S32x2x64_S32x1x64_0_1_0) shapeCasts_S32x1x64_S32x64) (constant S_ .f32 0x00000000#32) reducesTo_S32x64_S64_d0 h_S_)
    (broadcastInDim S64 ![] bcast_S_S64 (constant S_ .f32 0x48000000#32))

def scale64 (T : FVec Ideal S32x2x64 .f32) (g : FVec Ideal S64 .f32) : FVec Ideal S64 .f32 :=
  Host.divf g (Host.sqrt (addf (subf (mom64_1 T) (mulf (mom64_0 T) (mom64_0 T))) (broadcastInDim S64 ![] bcast_S_S64 (constant S_ .f32 0x3727C5AC#32))))

def shift64 (T : FVec Ideal S32x2x64 .f32) (g be : FVec Ideal S64 .f32) : FVec Ideal S64 .f32 :=
  subf be (mulf (mom64_0 T) (scale64 T g))

theorem after_scale64 (W : Valuation τ sig (Elt Ideal)) :
    (StableHlo.after hostOps1 W (Proc.devRef .tc main_v18) : S64.Idx → EReal) = scale64 (W (Proc.devRef .tc main_v2_1)) (W (Proc.devRef .tc main_arg4)) := by
  unfold hostOps1
  after_results
  rfl

theorem after_shift64 (W : Valuation τ sig (Elt Ideal)) :
    (StableHlo.after hostOps1 W (Proc.devRef .tc main_v20) : S64.Idx → EReal) = shift64 (W (Proc.devRef .tc main_v2_1)) (W (Proc.devRef .tc main_arg4)) (W (Proc.devRef .tc main_arg5)) := by
  unfold hostOps1
  after_results
  rfl

theorem after_weights64 (W : Valuation τ sig (Elt Ideal)) :
    (StableHlo.after hostOps1 W (Proc.devRef .tc main_v21) : S64x128.Idx → EReal) = transpose S64x128 [1, 0] (W (Proc.devRef .tc main_arg6) : S128x64.Idx → EReal) transposes_S128x64_S64x128_1_0 := by
  unfold hostOps1
  after_results

theorem mom64_0_apply (T : FVec Ideal S32x2x64 .f32) (o : Fin 64) :
    mom64_0 T (ix1 o) = Ideal.div (∑ t : Fin 32, T (ix3 t (0 : Fin 2) o)) cnt := by
  unfold mom64_0 cnt
  pointwise

theorem mom64_1_apply (T : FVec Ideal S32x2x64 .f32) (o : Fin 64) :
    mom64_1 T (ix1 o) = Ideal.div (∑ t : Fin 32, T (ix3 t (1 : Fin 2) o)) cnt := by
  unfold mom64_1 cnt
  pointwise

theorem scale64_apply (T : FVec Ideal S32x2x64 .f32) (g : FVec Ideal S64 .f32) (y : Fin 131072 → EReal) (o : Fin 64)
    (h0 : ∀ t : Fin 32, T (ix3 t (0 : Fin 2) o) = ∑ r : Fin 4096, y (row t.val t.isLt r))
    (h1 : ∀ t : Fin 32, T (ix3 t (1 : Fin 2) o) = ∑ r : Fin 4096, y (row t.val t.isLt r) * y (row t.val t.isLt r)) :
    scale64 T g (ix1 o) = scaleK y (g (ix1 o)) := by
  have e0 : mom64_0 T (ix1 o) = mean y := by
    rw [mom64_0_apply, Finset.sum_congr rfl fun t _ => h0 t]
    exact congrArg (fun s => Ideal.div s cnt) (sum_blocks y).symm
  have e1 : mom64_1 T (ix1 o) = Ideal.div (∑ p, y p * y p) cnt := by
    rw [mom64_1_apply, Finset.sum_congr rfl fun t _ => h1 t]
    exact congrArg (fun s => Ideal.div s cnt) (sum_blocks fun p => y p * y p).symm
  unfold scaleK varianceK
  rw [← e0, ← e1]
  unfold scale64 eps
  pointwise

theorem shift64_apply (T : FVec Ideal S32x2x64 .f32) (g be : FVec Ideal S64 .f32) (y : Fin 131072 → EReal) (o : Fin 64)
    (h0 : ∀ t : Fin 32, T (ix3 t (0 : Fin 2) o) = ∑ r : Fin 4096, y (row t.val t.isLt r))
    (h1 : ∀ t : Fin 32, T (ix3 t (1 : Fin 2) o) = ∑ r : Fin 4096, y (row t.val t.isLt r) * y (row t.val t.isLt r)) :
    shift64 T g be (ix1 o) = shiftK y (g (ix1 o)) (be (ix1 o)) := by
  have e0 : mom64_0 T (ix1 o) = mean y := by
    rw [mom64_0_apply, Finset.sum_congr rfl fun t _ => h0 t]
    exact congrArg (fun s => Ideal.div s cnt) (sum_blocks y).symm
  unfold shiftK
  rw [← scale64_apply T g y o h0 h1, ← e0]
  rfl

/-! ## Coefficients of 128 channels -/

/-- One row of the statistics, summed over the blocks and divided by the count. -/
def mom128_0 (T : FVec Ideal S32x2x128 .f32) : FVec Ideal S128 .f32 :=
  Host.divf (Host.reduceAdd (shapeCast S32x128 (extractStridedSlice S32x1x128 ![0, 0, 0] T slices_S32x2x128_S32x1x128_0_0_0) shapeCasts_S32x1x128_S32x128) (constant S_ .f32 0x00000000#32) reducesTo_S32x128_S128_d0 h_S_)
    (broadcastInDim S128 ![] bcast_S_S128 (constant S_ .f32 0x48000000#32))

def mom128_1 (T : FVec Ideal S32x2x128 .f32) : FVec Ideal S128 .f32 :=
  Host.divf (Host.reduceAdd (shapeCast S32x128 (extractStridedSlice S32x1x128 ![0, 1, 0] T slices_S32x2x128_S32x1x128_0_1_0) shapeCasts_S32x1x128_S32x128) (constant S_ .f32 0x00000000#32) reducesTo_S32x128_S128_d0 h_S_)
    (broadcastInDim S128 ![] bcast_S_S128 (constant S_ .f32 0x48000000#32))

def scale128 (T : FVec Ideal S32x2x128 .f32) (g : FVec Ideal S128 .f32) : FVec Ideal S128 .f32 :=
  Host.divf g (Host.sqrt (addf (subf (mom128_1 T) (mulf (mom128_0 T) (mom128_0 T))) (broadcastInDim S128 ![] bcast_S_S128 (constant S_ .f32 0x3727C5AC#32))))

def shift128 (T : FVec Ideal S32x2x128 .f32) (g be : FVec Ideal S128 .f32) : FVec Ideal S128 .f32 :=
  subf be (mulf (mom128_0 T) (scale128 T g))

theorem after_scale128 (W : Valuation τ sig (Elt Ideal)) :
    (StableHlo.after hostOps2 W (Proc.devRef .tc main_v38) : S128.Idx → EReal) = scale128 (W (Proc.devRef .tc main_v22_1)) (W (Proc.devRef .tc main_arg8)) := by
  unfold hostOps2
  after_results
  rfl

theorem after_shift128 (W : Valuation τ sig (Elt Ideal)) :
    (StableHlo.after hostOps2 W (Proc.devRef .tc main_v40) : S128.Idx → EReal) = shift128 (W (Proc.devRef .tc main_v22_1)) (W (Proc.devRef .tc main_arg8)) (W (Proc.devRef .tc main_arg9)) := by
  unfold hostOps2
  after_results
  rfl

theorem after_weights128 (W : Valuation τ sig (Elt Ideal)) :
    (StableHlo.after hostOps2 W (Proc.devRef .tc main_v41) : S128x256.Idx → EReal) = transpose S128x256 [1, 0] (W (Proc.devRef .tc main_arg10) : S256x128.Idx → EReal) transposes_S256x128_S128x256_1_0 := by
  unfold hostOps2
  after_results

theorem mom128_0_apply (T : FVec Ideal S32x2x128 .f32) (o : Fin 128) :
    mom128_0 T (ix1 o) = Ideal.div (∑ t : Fin 32, T (ix3 t (0 : Fin 2) o)) cnt := by
  unfold mom128_0 cnt
  pointwise

theorem mom128_1_apply (T : FVec Ideal S32x2x128 .f32) (o : Fin 128) :
    mom128_1 T (ix1 o) = Ideal.div (∑ t : Fin 32, T (ix3 t (1 : Fin 2) o)) cnt := by
  unfold mom128_1 cnt
  pointwise

theorem scale128_apply (T : FVec Ideal S32x2x128 .f32) (g : FVec Ideal S128 .f32) (y : Fin 131072 → EReal) (o : Fin 128)
    (h0 : ∀ t : Fin 32, T (ix3 t (0 : Fin 2) o) = ∑ r : Fin 4096, y (row t.val t.isLt r))
    (h1 : ∀ t : Fin 32, T (ix3 t (1 : Fin 2) o) = ∑ r : Fin 4096, y (row t.val t.isLt r) * y (row t.val t.isLt r)) :
    scale128 T g (ix1 o) = scaleK y (g (ix1 o)) := by
  have e0 : mom128_0 T (ix1 o) = mean y := by
    rw [mom128_0_apply, Finset.sum_congr rfl fun t _ => h0 t]
    exact congrArg (fun s => Ideal.div s cnt) (sum_blocks y).symm
  have e1 : mom128_1 T (ix1 o) = Ideal.div (∑ p, y p * y p) cnt := by
    rw [mom128_1_apply, Finset.sum_congr rfl fun t _ => h1 t]
    exact congrArg (fun s => Ideal.div s cnt) (sum_blocks fun p => y p * y p).symm
  unfold scaleK varianceK
  rw [← e0, ← e1]
  unfold scale128 eps
  pointwise

theorem shift128_apply (T : FVec Ideal S32x2x128 .f32) (g be : FVec Ideal S128 .f32) (y : Fin 131072 → EReal) (o : Fin 128)
    (h0 : ∀ t : Fin 32, T (ix3 t (0 : Fin 2) o) = ∑ r : Fin 4096, y (row t.val t.isLt r))
    (h1 : ∀ t : Fin 32, T (ix3 t (1 : Fin 2) o) = ∑ r : Fin 4096, y (row t.val t.isLt r) * y (row t.val t.isLt r)) :
    shift128 T g be (ix1 o) = shiftK y (g (ix1 o)) (be (ix1 o)) := by
  have e0 : mom128_0 T (ix1 o) = mean y := by
    rw [mom128_0_apply, Finset.sum_congr rfl fun t _ => h0 t]
    exact congrArg (fun s => Ideal.div s cnt) (sum_blocks y).symm
  unfold shiftK
  rw [← scale128_apply T g y o h0 h1, ← e0]
  rfl

/-! ## The ends -/

theorem after_sampled (W : Valuation τ sig (Elt Ideal)) (b : Fin 4) (s : Fin 1024) (k : Fin 3) :
    (StableHlo.after hostOps0 W (Proc.devRef .tc main_v0) : S4096x3.Idx → EReal) (ix2 (⟨b.val * 1024 + s.val, by omega⟩ : Fin 4096) k)
      = (W (Proc.devRef .tc main_arg1) : S4x1024x3.Idx → EReal) (ix3 b s k) := by
  have e : (StableHlo.after hostOps0 W (Proc.devRef .tc main_v0) : S4096x3.Idx → EReal) = shapeCast S4096x3 (W (Proc.devRef .tc main_arg1) : S4x1024x3.Idx → EReal) shapeCasts_S4x1024x3_S4096x3 := by
    unfold hostOps0
    after_results
    rfl
  rw [e]
  refine shapeCast_apply _ _ _ (ix3 b s k) ?_
  rw [Shape.rowMajor_val_three, Shape.rowMajor_val_two]
  rfl

theorem after_weights0 (W : Valuation τ sig (Elt Ideal)) :
    (StableHlo.after hostOps0 W (Proc.devRef .tc main_v1) : S3x64.Idx → EReal) = transpose S3x64 [1, 0] (W (Proc.devRef .tc main_arg2) : S64x3.Idx → EReal) transposes_S64x3_S3x64_1_0 := by
  unfold hostOps0
  after_results

theorem after_final (W : Valuation τ sig (Elt Ideal)) (b : Fin 4) (o : Fin 256) (s : Fin 1024) :
    (StableHlo.after hostOps3 W (Proc.devRef .tc main_v44) : S4x256x1024.Idx → EReal) (ix3 b o s)
      = (W (Proc.devRef .tc main_v42) : S4096x256.Idx → EReal) (ix2 (⟨b.val * 1024 + s.val, by omega⟩ : Fin 4096) o) := by
  have e : (StableHlo.after hostOps3 W (Proc.devRef .tc main_v44) : S4x256x1024.Idx → EReal)
      = transpose S4x256x1024 [0, 2, 1] (shapeCast S4x1024x256 (W (Proc.devRef .tc main_v42) : S4096x256.Idx → EReal) shapeCasts_S4096x256_S4x1024x256) transposes_S4x1024x256_S4x256x1024_0_2_1 := by
    unfold hostOps3
    after_results
    rfl
  rw [e]
  refine (transpose_apply _ _ _ _ (ix3 b s o) fun a => ?_).trans ?_
  · match a with
    | ⟨0, _⟩ => rfl
    | ⟨1, _⟩ => rfl
    | ⟨2, _⟩ => rfl
  · refine shapeCast_apply _ _ _ (ix2 (⟨b.val * 1024 + s.val, by omega⟩ : Fin 4096) o) ?_
    rw [Shape.rowMajor_val_three, Shape.rowMajor_val_two]
    rfl

theorem transpose_two {n m : ℕ} (x : (⟨2, ![n, m]⟩ : Shape).Idx → EReal) (h : (⟨2, ![n, m]⟩ : Shape).Transposes [1, 0] (⟨2, ![m, n]⟩ : Shape)) (j : Fin m) (i : Fin n) :
    transpose (⟨2, ![m, n]⟩ : Shape) [1, 0] x h (ix2 j i) = x (ix2 i j) := by
  refine transpose_apply _ _ _ _ (ix2 i j) fun a => ?_
  match a with
  | ⟨0, _⟩ => rfl
  | ⟨1, _⟩ => rfl

end Cert.Proof.LayerHost

end
-- ==== Proof.LayerRun.lean ====
/-
  The layers' program at the ideal instance: its result is the stack of layers with the kernel's own form of the
  normalization, and its arguments end as they were.
-/
module

public import proofs.«01_k».proof.Proof.LayerHost

@[expose] public section

noncomputable section

namespace Cert.Proof.LayerRun

open Cert.LayersIdeal Cert.LayersIdeal.Gen Cert.Proof.LayerArr Cert.Proof.LayerMath Cert.Proof.LayerHost
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg) (c : Dev nD)

/-! ## The arguments -/

/-- A gathered row less its centre. -/
def xs (A0 : S131072x16.Idx → EReal) (A1 : S4x1024x3.Idx → EReal) (p : Fin 131072) (k : Fin 3) : EReal :=
  A0 (ix2 p (k.castLE (by decide))) - A1 (ix3 (⟨p.val / 32768, by omega⟩ : Fin 4) (⟨p.val / 32 % 1024, by omega⟩ : Fin 1024) k)

/-- A matrix and a vector by their coordinates. -/
def mat {a b : ℕ} (A : (⟨2, ![a, b]⟩ : Shape).Idx → EReal) (i : Fin a) (j : Fin b) : EReal := A (ix2 i j)
def vec {a : ℕ} (A : (⟨1, ![a]⟩ : Shape).Idx → EReal) (i : Fin a) : EReal := A (ix1 i)

abbrev a0 : S131072x16.Idx → EReal := m ((c : Thread nD τ).loc main_arg0)
abbrev a1 : S4x1024x3.Idx → EReal := m ((c : Thread nD τ).loc main_arg1)
abbrev a2 : S64x3.Idx → EReal := m ((c : Thread nD τ).loc main_arg2)
abbrev a3 : S64.Idx → EReal := m ((c : Thread nD τ).loc main_arg3)
abbrev a4 : S64.Idx → EReal := m ((c : Thread nD τ).loc main_arg4)
abbrev a5 : S64.Idx → EReal := m ((c : Thread nD τ).loc main_arg5)
abbrev a6 : S128x64.Idx → EReal := m ((c : Thread nD τ).loc main_arg6)
abbrev a7 : S128.Idx → EReal := m ((c : Thread nD τ).loc main_arg7)
abbrev a8 : S128.Idx → EReal := m ((c : Thread nD τ).loc main_arg8)
abbrev a9 : S128.Idx → EReal := m ((c : Thread nD τ).loc main_arg9)
abbrev a10 : S256x128.Idx → EReal := m ((c : Thread nD τ).loc main_arg10)
abbrev a11 : S256.Idx → EReal := m ((c : Thread nD τ).loc main_arg11)

/-- The first layer's values. -/
def u1 : Fin 131072 → Fin 64 → EReal := conv (xs (a0 m c) (a1 m c)) (mat (a2 m c)) (vec (a3 m c))
/-- The second layer's values. -/
def u2 : Fin 131072 → Fin 128 → EReal :=
  conv (fun p o => normalK (fun p => u1 m c p o) (vec (a4 m c) o) (vec (a5 m c) o) p) (mat (a6 m c)) (vec (a7 m c))
/-- The third layer's values. -/
def u3 : Fin 131072 → Fin 256 → EReal :=
  conv (fun p o => normalK (fun p => u2 m c p o) (vec (a8 m c) o) (vec (a9 m c) o) p) (mat (a10 m c)) (vec (a11 m c))

/-! ## First layer -/

theorem in0_1 (q : Fin 4096) (k : Fin 3) :
    (V1 m ρ c main_v0 : S4096x3.Idx → EReal) (ix2 q k) = a1 m c (ix3 (⟨q.val / 1024, by omega⟩ : Fin 4) (⟨q.val % 1024, by omega⟩ : Fin 1024) k) := by
  have hq : q = (⟨q.val / 1024 * 1024 + q.val % 1024, by omega⟩ : Fin 4096) := Fin.ext (by show q.val = q.val / 1024 * 1024 + q.val % 1024; omega)
  refine Eq.trans (congrArg (fun q => (V1 m ρ c main_v0 : S4096x3.Idx → EReal) (ix2 q k)) hq) ?_
  exact after_sampled (W0 m ρ c) (⟨q.val / 1024, by omega⟩ : Fin 4) (⟨q.val % 1024, by omega⟩ : Fin 1024) k

theorem in0_2 (k : Fin 3) (o : Fin 64) : (V1 m ρ c main_v1 : S3x64.Idx → EReal) (ix2 k o) = mat (a2 m c) o k :=
  (congrFun (after_weights0 (W0 m ρ c)) (ix2 k o)).trans (transpose_two _ _ _ _)

theorem in0_0 : (V1 m ρ c main_arg0 : S131072x16.Idx → EReal) = a0 m c := W1_args m ρ c main_arg0 (by decide)
theorem in0_3 : (V1 m ρ c main_arg3 : S64.Idx → EReal) = a3 m c := W1_args m ρ c main_arg3 (by decide)

theorem layer0 (p : Fin 131072) (o : Fin 64) : Y0 (V1 m ρ c main_arg0) (V1 m ρ c main_v0) (V1 m ρ c main_v1) (V1 m ρ c main_arg3) p o = u1 m c p o := by
  unfold Y0 u1 conv
  refine congrArg₂ (· + ·) (Finset.sum_congr rfl fun k _ => congrArg₂ (· * ·) ?_ (in0_2 m ρ c k o)) ?_
  · unfold xs
    refine congrArg₂ (· - ·) (congrFun (in0_0 m ρ c) _) ((in0_1 m ρ c _ k).trans ?_)
    refine congrArg (fun b => a1 m c (ix3 b (⟨p.val / 32 % 1024, by omega⟩ : Fin 1024) k)) (Fin.ext ?_)
    show p.val / 32 / 1024 = p.val / 32768
    omega
  · exact congrFun (in0_3 m ρ c) _

/-! ## Second layer -/

theorem out0_Y (p : Fin 131072) (o : Fin 64) : (W2 m ρ c (Proc.devRef .tc main_v2_0) : S131072x64.Idx → EReal) (ix2 p o) = u1 m c p o :=
  (congrFun (W2_arr m ρ c 4) (ix2 p o)).trans ((arr0_4 (V1 m ρ) c p o).trans (layer0 m ρ c p o))

theorem out0_sum (t : Fin 32) (o : Fin 64) : (W2 m ρ c (Proc.devRef .tc main_v2_1) : S32x2x64.Idx → EReal) (ix3 t (0 : Fin 2) o) = ∑ r : Fin 4096, u1 m c (row t.val t.isLt r) o :=
  (congrFun (W2_arr m ρ c 5) (ix3 t (0 : Fin 2) o)).trans ((arr0_5_sum (V1 m ρ) c t o).trans
    (Finset.sum_congr (M := EReal) rfl fun r _ => layer0 m ρ c _ o))

theorem out0_sq (t : Fin 32) (o : Fin 64) :
    (W2 m ρ c (Proc.devRef .tc main_v2_1) : S32x2x64.Idx → EReal) (ix3 t (1 : Fin 2) o) = ∑ r : Fin 4096, u1 m c (row t.val t.isLt r) o * u1 m c (row t.val t.isLt r) o :=
  (congrFun (W2_arr m ρ c 5) (ix3 t (1 : Fin 2) o)).trans ((arr0_5_sq (V1 m ρ) c t o).trans
    (Finset.sum_congr (M := EReal) rfl fun r _ => congrArg₂ (· * ·) (layer0 m ρ c _ o) (layer0 m ρ c _ o)))

theorem arg0_g : (W2 m ρ c (Proc.devRef .tc main_arg4) : S64.Idx → EReal) = a4 m c := W2_args m ρ c main_arg4 (by decide)
theorem arg0_be : (W2 m ρ c (Proc.devRef .tc main_arg5) : S64.Idx → EReal) = a5 m c := W2_args m ρ c main_arg5 (by decide)
theorem arg0_w : (W2 m ρ c (Proc.devRef .tc main_arg6) : S128x64.Idx → EReal) = a6 m c := W2_args m ρ c main_arg6 (by decide)

theorem in1_0 (p : Fin 131072) (o : Fin 64) : (V3 m ρ c main_v2_0 : S131072x64.Idx → EReal) (ix2 p o) = u1 m c p o :=
  (congrFun (W3_of m ρ c main_v2_0 (by decide)) (ix2 p o)).trans (out0_Y m ρ c p o)

theorem in1_1 (o : Fin 64) : (V3 m ρ c main_v18 : S64.Idx → EReal) (ix1 o) = scaleK (fun p => u1 m c p o) (vec (a4 m c) o) :=
  (congrFun (after_scale64 (W2 m ρ c)) (ix1 o)).trans
    ((scale64_apply _ _ (fun p => u1 m c p o) o (fun t => out0_sum m ρ c t o) fun t => out0_sq m ρ c t o).trans
      (congrArg (scaleK fun p => u1 m c p o) (congrFun (arg0_g m ρ c) (ix1 o))))

theorem in1_2 (o : Fin 64) : (V3 m ρ c main_v20 : S64.Idx → EReal) (ix1 o) = shiftK (fun p => u1 m c p o) (vec (a4 m c) o) (vec (a5 m c) o) :=
  (congrFun (after_shift64 (W2 m ρ c)) (ix1 o)).trans
    ((shift64_apply _ _ _ (fun p => u1 m c p o) o (fun t => out0_sum m ρ c t o) fun t => out0_sq m ρ c t o).trans
      (congrArg₂ (shiftK fun p => u1 m c p o) (congrFun (arg0_g m ρ c) (ix1 o)) (congrFun (arg0_be m ρ c) (ix1 o))))

theorem in1_3 (k : Fin 64) (o : Fin 128) : (V3 m ρ c main_v21 : S64x128.Idx → EReal) (ix2 k o) = mat (a6 m c) o k :=
  (congrFun (after_weights64 (W2 m ρ c)) (ix2 k o)).trans ((transpose_two _ _ _ _).trans (congrFun (arg0_w m ρ c) (ix2 o k)))

theorem in1_4 : (V3 m ρ c main_arg7 : S128.Idx → EReal) = a7 m c := W3_args m ρ c main_arg7 (by decide)

theorem layer1 (p : Fin 131072) (o : Fin 128) :
    Y1 (V3 m ρ c main_v2_0) (V3 m ρ c main_v18) (V3 m ρ c main_v20) (V3 m ρ c main_v21) (V3 m ρ c main_arg7) p o = u2 m c p o := by
  unfold Y1 u2 conv normalK
  refine congrArg₂ (· + ·) (Finset.sum_congr rfl fun k _ => congrArg₂ (· * ·) (congrArg₂ max (congrArg₂ (· + ·) (congrArg₂ (· * ·) ?_ ?_) ?_) rfl) ?_) ?_
  · exact in1_0 m ρ c p k
  · exact in1_1 m ρ c k
  · exact in1_2 m ρ c k
  · exact in1_3 m ρ c k o
  · exact congrFun (in1_4 m ρ c) _

/-! ## Third layer -/

theorem out1_Y (p : Fin 131072) (o : Fin 128) : (W4 m ρ c (Proc.devRef .tc main_v22_0) : S131072x128.Idx → EReal) (ix2 p o) = u2 m c p o :=
  (congrFun (W4_arr m ρ c 5) (ix2 p o)).trans ((arr1_5 (V3 m ρ) c p o).trans (layer1 m ρ c p o))

theorem out1_sum (t : Fin 32) (o : Fin 128) : (W4 m ρ c (Proc.devRef .tc main_v22_1) : S32x2x128.Idx → EReal) (ix3 t (0 : Fin 2) o) = ∑ r : Fin 4096, u2 m c (row t.val t.isLt r) o :=
  (congrFun (W4_arr m ρ c 6) (ix3 t (0 : Fin 2) o)).trans ((arr1_6_sum (V3 m ρ) c t o).trans
    (Finset.sum_congr (M := EReal) rfl fun r _ => layer1 m ρ c _ o))

theorem out1_sq (t : Fin 32) (o : Fin 128) :
    (W4 m ρ c (Proc.devRef .tc main_v22_1) : S32x2x128.Idx → EReal) (ix3 t (1 : Fin 2) o) = ∑ r : Fin 4096, u2 m c (row t.val t.isLt r) o * u2 m c (row t.val t.isLt r) o :=
  (congrFun (W4_arr m ρ c 6) (ix3 t (1 : Fin 2) o)).trans ((arr1_6_sq (V3 m ρ) c t o).trans
    (Finset.sum_congr (M := EReal) rfl fun r _ => congrArg₂ (· * ·) (layer1 m ρ c _ o) (layer1 m ρ c _ o)))

theorem arg1_g : (W4 m ρ c (Proc.devRef .tc main_arg8) : S128.Idx → EReal) = a8 m c := W4_args m ρ c main_arg8 (by decide)
theorem arg1_be : (W4 m ρ c (Proc.devRef .tc main_arg9) : S128.Idx → EReal) = a9 m c := W4_args m ρ c main_arg9 (by decide)
theorem arg1_w : (W4 m ρ c (Proc.devRef .tc main_arg10) : S256x128.Idx → EReal) = a10 m c := W4_args m ρ c main_arg10 (by decide)

theorem in2_0 (p : Fin 131072) (o : Fin 128) : (V5 m ρ c main_v22_0 : S131072x128.Idx → EReal) (ix2 p o) = u2 m c p o :=
  (congrFun (W5_of m ρ c main_v22_0 (by decide)) (ix2 p o)).trans (out1_Y m ρ c p o)

theorem in2_1 (o : Fin 128) : (V5 m ρ c main_v38 : S128.Idx → EReal) (ix1 o) = scaleK (fun p => u2 m c p o) (vec (a8 m c) o) :=
  (congrFun (after_scale128 (W4 m ρ c)) (ix1 o)).trans
    ((scale128_apply _ _ (fun p => u2 m c p o) o (fun t => out1_sum m ρ c t o) fun t => out1_sq m ρ c t o).trans
      (congrArg (scaleK fun p => u2 m c p o) (congrFun (arg1_g m ρ c) (ix1 o))))

theorem in2_2 (o : Fin 128) : (V5 m ρ c main_v40 : S128.Idx → EReal) (ix1 o) = shiftK (fun p => u2 m c p o) (vec (a8 m c) o) (vec (a9 m c) o) :=
  (congrFun (after_shift128 (W4 m ρ c)) (ix1 o)).trans
    ((shift128_apply _ _ _ (fun p => u2 m c p o) o (fun t => out1_sum m ρ c t o) fun t => out1_sq m ρ c t o).trans
      (congrArg₂ (shiftK fun p => u2 m c p o) (congrFun (arg1_g m ρ c) (ix1 o)) (congrFun (arg1_be m ρ c) (ix1 o))))

theorem in2_3 (k : Fin 128) (o : Fin 256) : (V5 m ρ c main_v41 : S128x256.Idx → EReal) (ix2 k o) = mat (a10 m c) o k :=
  (congrFun (after_weights128 (W4 m ρ c)) (ix2 k o)).trans ((transpose_two _ _ _ _).trans (congrFun (arg1_w m ρ c) (ix2 o k)))

theorem in2_4 : (V5 m ρ c main_arg11 : S256.Idx → EReal) = a11 m c := W5_args m ρ c main_arg11 (by decide)

theorem layer2 (p : Fin 131072) (o : Fin 256) :
    Y2 (V5 m ρ c main_v22_0) (V5 m ρ c main_v38) (V5 m ρ c main_v40) (V5 m ρ c main_v41) (V5 m ρ c main_arg11) p o = u3 m c p o := by
  unfold Y2 u3 conv normalK
  refine congrArg₂ (· + ·) (Finset.sum_congr rfl fun k _ => congrArg₂ (· * ·) (congrArg₂ max (congrArg₂ (· + ·) (congrArg₂ (· * ·) ?_ ?_) ?_) rfl) ?_) ?_
  · exact in2_0 m ρ c p k
  · exact in2_1 m ρ c k
  · exact in2_2 m ρ c k
  · exact in2_3 m ρ c k o
  · exact congrFun (in2_4 m ρ c) _

/-! ## The result -/

theorem pooled (q : Fin 4096) (o : Fin 256) :
    (W6 m ρ c (Proc.devRef .tc main_v42) : S4096x256.Idx → EReal) (ix2 q o) = Finset.univ.fold max ⊥ fun k : Fin 32 => u3 m c (⟨q.val * 32 + k.val, by omega⟩ : Fin 131072) o :=
  (congrFun (W6_arr m ρ c 5) (ix2 q o)).trans ((arr2_5 (V5 m ρ) c q o).trans
    (congrArg (fun f : Fin 32 → EReal => Finset.univ.fold max ⊥ f) (funext fun k => layer2 m ρ c _ o)))

theorem result : (W7 m ρ c (Proc.devRef .tc main_v44) : S4x256x1024.Idx → EReal) = value (u3 m c) := by
  funext i
  have hi : i = ix3 (n0 := 4) (n1 := 256) (n2 := 1024) (i 0) (i 1) (i 2) := by
    funext a
    match a with
    | ⟨0, _⟩ => rfl
    | ⟨1, _⟩ => rfl
    | ⟨2, _⟩ => rfl
  refine Eq.trans (congrArg (W7 m ρ c (Proc.devRef .tc main_v44) : S4x256x1024.Idx → EReal) hi) ?_
  refine (after_final (W6 m ρ c) (i 0) (i 1) (i 2)).trans ?_
  exact pooled m ρ c _ (i 1)

/-! ## The run -/

set_option backward.isDefEq.respectTransparency.types false in
/-- Every run ends with the result and the arguments as named. -/
theorem run_value : θ_run defs (onTc (τ := τ) (main (F := Ideal))) ⟨m, fun _ => 0, ρ⟩ (fun r => ∀ c : Dev nD,
      r.2.mem ((c.tc : Thread nD τ).loc main_v44) = (value (u3 m c) : S4x256x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨(h c _ (mem_uc main_v44 (by decide))).trans (result m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.Proof.LayerRun

end
-- ==== Proof.LayerRef.lean ====
/-
  The layers' reference program: its printed result, read element by element, is the stack of layers with the plain
  normalization.
-/
module

public import proofs.«01_k».proof.Proof.LayerMath
public import proofs.«01_k».proof.Proof.Gen.LayersReferenceIdeal.Run
public import Idealize.ShloMosaic.Lib.Pointwise
public import Idealize.ShloMosaic.Lib.IdealHost

@[expose] public section

noncomputable section

namespace Cert.Proof.LayerRef

open Cert.LayersReferenceIdeal Cert.LayersReferenceIdeal.Gen Cert.LayersReferenceIdeal.Value Cert.Proof.LayerMath
open Idealize.ShloMosaic Idealize.ShloMosaic.TcCoe Idealize.SL.Sem

/-! ## The printed result by its parts -/

/-- The first convolution. -/
def pre1 (A0 : FVec Ideal S131072x16 .f32) (A1 : FVec Ideal S4x1024x3 .f32) (A2 : FVec Ideal S64x3 .f32) (A3 : FVec Ideal S64 .f32) : FVec Ideal S4x64x1024x32 .f32 :=
  addf (transpose S4x64x1024x32 [0, 3, 1, 2] (Host.dotGeneral dot_S4x3x1024x32_S64x3_S4x1024x32x64_1_1_023_0_n_n none (transpose S4x3x1024x32 [0, 3, 1, 2] (subf (shapeCast _ (extractStridedSlice S131072x3 ![0, 0] A0 slices_S131072x16_S131072x3_0_0) shapeCasts_S131072x3_S4x1024x32x3) (broadcastInDim S4x1024x32x3 ![0, 1, 2, 3] bcast_S4x1024x1x3_S4x1024x32x3_0_1_2_3 (broadcastInDim S4x1024x1x3 ![0, 1, 3] bcast_S4x1024x3_S4x1024x1x3_0_1_3 A1))) transposes_S4x1024x32x3_S4x3x1024x32_0_3_1_2) A2) transposes_S4x1024x32x64_S4x64x1024x32_0_3_1_2)
    (broadcastInDim S4x64x1024x32 ![0, 1, 2, 3] bcast_S1x64x1x1_S4x64x1024x32_0_1_2_3 (broadcastInDim S1x64x1x1 ![1] bcast_S64_S1x64x1x1_1 A3))

/-- A further convolution. -/
def pre2 (x : FVec Ideal S4x64x1024x32 .f32) (W : FVec Ideal S128x64 .f32) (v : FVec Ideal S128 .f32) : FVec Ideal S4x128x1024x32 .f32 :=
  addf (transpose S4x128x1024x32 [0, 3, 1, 2] (Host.dotGeneral dot_S4x64x1024x32_S128x64_S4x1024x32x128_1_1_023_0_n_n none x W) transposes_S4x1024x32x128_S4x128x1024x32_0_3_1_2)
    (broadcastInDim S4x128x1024x32 ![0, 1, 2, 3] bcast_S1x128x1x1_S4x128x1024x32_0_1_2_3 (broadcastInDim S1x128x1x1 ![1] bcast_S128_S1x128x1x1_1 v))

/-- A further convolution. -/
def pre3 (x : FVec Ideal S4x128x1024x32 .f32) (W : FVec Ideal S256x128 .f32) (v : FVec Ideal S256 .f32) : FVec Ideal S4x256x1024x32 .f32 :=
  addf (transpose S4x256x1024x32 [0, 3, 1, 2] (Host.dotGeneral dot_S4x128x1024x32_S256x128_S4x1024x32x256_1_1_023_0_n_n none x W) transposes_S4x1024x32x256_S4x256x1024x32_0_3_1_2)
    (broadcastInDim S4x256x1024x32 ![0, 1, 2, 3] bcast_S1x256x1x1_S4x256x1024x32_0_1_2_3 (broadcastInDim S1x256x1x1 ![1] bcast_S256_S1x256x1x1_1 v))

/-- The sum over every axis but the channels'. -/
def total64 (v : FVec Ideal S4x64x1024x32 .f32) : FVec Ideal S64 .f32 :=
  Host.reduceAdd v (constant S_ .f32 0x00000000#32) reducesTo_S4x64x1024x32_S64_d0_2_3 h_S_

def mean64 (v : FVec Ideal S4x64x1024x32 .f32) : FVec Ideal S1x64x1x1 .f32 :=
  Host.divf (broadcastInDim S1x64x1x1 ![1] bcast_S64_S1x64x1x1_1 (total64 v)) (broadcastInDim S1x64x1x1 ![] bcast_S_S1x64x1x1 (constant S_ .f32 0x48000000#32))

def cent64 (v : FVec Ideal S4x64x1024x32 .f32) : FVec Ideal S4x64x1024x32 .f32 :=
  subf v (broadcastInDim S4x64x1024x32 ![0, 1, 2, 3] bcast_S1x64x1x1_S4x64x1024x32_0_1_2_3 (mean64 v))

def var64 (v : FVec Ideal S4x64x1024x32 .f32) : FVec Ideal S1x64x1x1 .f32 :=
  select (broadcastInDim S1x64x1x1 ![] bcast_S_S1x64x1x1 (cmpf .ogt (subf (constant (F := Ideal) S_ .f32 0x48000000#32) (sitofp .f32 (constantI S_ 32 0#32))) (constant S_ .f32 0x00000000#32)))
    (Host.divf (broadcastInDim S1x64x1x1 ![1] bcast_S64_S1x64x1x1_1 (total64 (mulf (cent64 v) (cent64 v))))
      (broadcastInDim S1x64x1x1 ![] bcast_S_S1x64x1x1 (subf (constant (F := Ideal) S_ .f32 0x48000000#32) (sitofp .f32 (constantI S_ 32 0#32)))))
    (broadcastInDim S1x64x1x1 ![] bcast_S_S1x64x1x1 (id (constant S_ .f32 0x7FC00000#32)))

def norm64 (v : FVec Ideal S4x64x1024x32 .f32) (g be : FVec Ideal S64 .f32) : FVec Ideal S4x64x1024x32 .f32 :=
  maximumf (addf (mulf (broadcastInDim S4x64x1024x32 ![0, 1, 2, 3] bcast_S1x64x1x1_S4x64x1024x32_0_1_2_3 (broadcastInDim S1x64x1x1 ![1] bcast_S64_S1x64x1x1_1 g))
      (Host.divf (cent64 v) (broadcastInDim S4x64x1024x32 ![0, 1, 2, 3] bcast_S1x64x1x1_S4x64x1024x32_0_1_2_3 (Host.sqrt (addf (var64 v) (broadcastInDim S1x64x1x1 ![] bcast_S_S1x64x1x1 (constant S_ .f32 0x3727C5AC#32)))))))
      (broadcastInDim S4x64x1024x32 ![0, 1, 2, 3] bcast_S1x64x1x1_S4x64x1024x32_0_1_2_3 (broadcastInDim S1x64x1x1 ![1] bcast_S64_S1x64x1x1_1 be)))
    (broadcastInDim S4x64x1024x32 ![] bcast_S_S4x64x1024x32 (constant S_ .f32 0x00000000#32))

/-- The sum over every axis but the channels'. -/
def total128 (v : FVec Ideal S4x128x1024x32 .f32) : FVec Ideal S128 .f32 :=
  Host.reduceAdd v (constant S_ .f32 0x00000000#32) reducesTo_S4x128x1024x32_S128_d0_2_3 h_S_

def mean128 (v : FVec Ideal S4x128x1024x32 .f32) : FVec Ideal S1x128x1x1 .f32 :=
  Host.divf (broadcastInDim S1x128x1x1 ![1] bcast_S128_S1x128x1x1_1 (total128 v)) (broadcastInDim S1x128x1x1 ![] bcast_S_S1x128x1x1 (constant S_ .f32 0x48000000#32))

def cent128 (v : FVec Ideal S4x128x1024x32 .f32) : FVec Ideal S4x128x1024x32 .f32 :=
  subf v (broadcastInDim S4x128x1024x32 ![0, 1, 2, 3] bcast_S1x128x1x1_S4x128x1024x32_0_1_2_3 (mean128 v))

def var128 (v : FVec Ideal S4x128x1024x32 .f32) : FVec Ideal S1x128x1x1 .f32 :=
  select (broadcastInDim S1x128x1x1 ![] bcast_S_S1x128x1x1 (cmpf .ogt (subf (constant (F := Ideal) S_ .f32 0x48000000#32) (sitofp .f32 (constantI S_ 32 0#32))) (constant S_ .f32 0x00000000#32)))
    (Host.divf (broadcastInDim S1x128x1x1 ![1] bcast_S128_S1x128x1x1_1 (total128 (mulf (cent128 v) (cent128 v))))
      (broadcastInDim S1x128x1x1 ![] bcast_S_S1x128x1x1 (subf (constant (F := Ideal) S_ .f32 0x48000000#32) (sitofp .f32 (constantI S_ 32 0#32)))))
    (broadcastInDim S1x128x1x1 ![] bcast_S_S1x128x1x1 (id (constant S_ .f32 0x7FC00000#32)))

def norm128 (v : FVec Ideal S4x128x1024x32 .f32) (g be : FVec Ideal S128 .f32) : FVec Ideal S4x128x1024x32 .f32 :=
  maximumf (addf (mulf (broadcastInDim S4x128x1024x32 ![0, 1, 2, 3] bcast_S1x128x1x1_S4x128x1024x32_0_1_2_3 (broadcastInDim S1x128x1x1 ![1] bcast_S128_S1x128x1x1_1 g))
      (Host.divf (cent128 v) (broadcastInDim S4x128x1024x32 ![0, 1, 2, 3] bcast_S1x128x1x1_S4x128x1024x32_0_1_2_3 (Host.sqrt (addf (var128 v) (broadcastInDim S1x128x1x1 ![] bcast_S_S1x128x1x1 (constant S_ .f32 0x3727C5AC#32)))))))
      (broadcastInDim S4x128x1024x32 ![0, 1, 2, 3] bcast_S1x128x1x1_S4x128x1024x32_0_1_2_3 (broadcastInDim S1x128x1x1 ![1] bcast_S128_S1x128x1x1_1 be)))
    (broadcastInDim S4x128x1024x32 ![] bcast_S_S4x128x1024x32 (constant S_ .f32 0x00000000#32))

variable (m : (ℓ : Loc nD τ sig) → Buf (Elt Ideal) ℓ) (c : Dev nD)

abbrev a0 : FVec Ideal S131072x16 .f32 := m ((c : Thread nD τ).loc main_arg0)
abbrev a1 : FVec Ideal S4x1024x3 .f32 := m ((c : Thread nD τ).loc main_arg1)
abbrev a2 : FVec Ideal S64x3 .f32 := m ((c : Thread nD τ).loc main_arg2)
abbrev a3 : FVec Ideal S64 .f32 := m ((c : Thread nD τ).loc main_arg3)
abbrev a4 : FVec Ideal S64 .f32 := m ((c : Thread nD τ).loc main_arg4)
abbrev a5 : FVec Ideal S64 .f32 := m ((c : Thread nD τ).loc main_arg5)
abbrev a6 : FVec Ideal S128x64 .f32 := m ((c : Thread nD τ).loc main_arg6)
abbrev a7 : FVec Ideal S128 .f32 := m ((c : Thread nD τ).loc main_arg7)
abbrev a8 : FVec Ideal S128 .f32 := m ((c : Thread nD τ).loc main_arg8)
abbrev a9 : FVec Ideal S128 .f32 := m ((c : Thread nD τ).loc main_arg9)
abbrev a10 : FVec Ideal S256x128 .f32 := m ((c : Thread nD τ).loc main_arg10)
abbrev a11 : FVec Ideal S256 .f32 := m ((c : Thread nD τ).loc main_arg11)

/-- The values before the maximum. -/
def last : FVec Ideal S4x256x1024x32 .f32 :=
  pre3 (norm128 (pre2 (norm64 (pre1 (a0 m c) (a1 m c) (a2 m c) (a3 m c)) (a4 m c) (a5 m c)) (a6 m c) (a7 m c)) (a8 m c) (a9 m c)) (a10 m c) (a11 m c)

set_option maxRecDepth 8192 in
theorem res_eq : (res_main_v59 m c : FVec Ideal S4x256x1024 .f32)
    = Host.reduce FloatOps.maximumf (last m c) (constant S_ .f32 0xFF800000#32) reducesTo_S4x256x1024x32_S4x256x1024_d3 h_S_ := by
  unfold res_main_v59
  rfl

/-! ## Each part at an element -/

/-- A gathered row less its centre. -/
def xs (A0 : FVec Ideal S131072x16 .f32) (A1 : FVec Ideal S4x1024x3 .f32) (p : Fin 131072) (k : Fin 3) : EReal :=
  A0 (ix2 p (k.castLE (by decide))) - A1 (ix3 (⟨p.val / 32768, by omega⟩ : Fin 4) (⟨p.val / 32 % 1024, by omega⟩ : Fin 1024) k)

/-- A matrix and a vector by their coordinates. -/
def mat {a b : ℕ} (A : (⟨2, ![a, b]⟩ : Shape).Idx → EReal) (i : Fin a) (j : Fin b) : EReal := A (ix2 i j)
def vec {a : ℕ} (A : (⟨1, ![a]⟩ : Shape).Idx → EReal) (i : Fin a) : EReal := A (ix1 i)

theorem n_sub : Ideal.ofBits .f32 0x48000000#32 - (FloatOps.sitofp .f32 (0#32 : BitVec 32) : Ideal .f32) = cnt := by
  have e : (FloatOps.sitofp .f32 (0#32 : BitVec 32) : Ideal .f32) = (0 : EReal) := by
    show ((((0#32 : BitVec 32).toInt : ℤ) : ℝ) : EReal) = 0
    simp
  rw [e]
  exact sub_zero cnt

theorem ofBits_zero_f32 : Ideal.ofBits .f32 0x00000000#32 = (0 : EReal) := by
  simp [Ideal.ofBits, Ideal.ieee]

theorem pre1_apply (A0 : FVec Ideal S131072x16 .f32) (A1 : FVec Ideal S4x1024x3 .f32) (A2 : FVec Ideal S64x3 .f32) (A3 : FVec Ideal S64 .f32)
    (b : Fin 4) (o : Fin 64) (s : Fin 1024) (k : Fin 32) :
    pre1 A0 A1 A2 A3 (ix4 b o s k) = conv (xs A0 A1) (mat A2) (vec A3) (pt b s k) o := by
  unfold pre1 conv xs mat vec
  pointwise
  refine congrArg₂ (· + ·) (Finset.sum_congr rfl fun x _ => congrArg₂ (· * ·) (congrArg₂ (· - ·) (congrArg A0 ?_) (congrArg A1 ?_)) rfl) rfl
  · refine congrArg₂ ix2 (Fin.ext ?_) (Fin.ext rfl)
    show b.val * 32768 + s.val * 32 + k.val = (b.val * 1024 + s.val) * 32 + k.val
    omega
  · have e1 : b = (⟨(pt b s k).val / 32768, by omega⟩ : Fin 4) := Fin.ext (by show b.val = ((b.val * 1024 + s.val) * 32 + k.val) / 32768; omega)
    have e2 : s = (⟨(pt b s k).val / 32 % 1024, by omega⟩ : Fin 1024) := Fin.ext (by show s.val = ((b.val * 1024 + s.val) * 32 + k.val) / 32 % 1024; omega)
    exact congrArg₂ (fun b s => ix3 b s x) e1 e2

theorem pre2_apply (x : FVec Ideal S4x64x1024x32 .f32) (W : FVec Ideal S128x64 .f32) (v : FVec Ideal S128 .f32) (z : Fin 131072 → Fin 64 → EReal)
    (hz : ∀ b o s k, x (ix4 b o s k) = z (pt b s k) o) (b : Fin 4) (o : Fin 128) (s : Fin 1024) (k : Fin 32) :
    pre2 x W v (ix4 b o s k) = conv z (mat W) (vec v) (pt b s k) o := by
  unfold pre2 conv mat vec
  pointwise
  exact congrArg₂ (· + ·) (Finset.sum_congr rfl fun j _ => congrArg₂ (· * ·) (hz b j s k) rfl) rfl

theorem pre3_apply (x : FVec Ideal S4x128x1024x32 .f32) (W : FVec Ideal S256x128 .f32) (v : FVec Ideal S256 .f32) (z : Fin 131072 → Fin 128 → EReal)
    (hz : ∀ b o s k, x (ix4 b o s k) = z (pt b s k) o) (b : Fin 4) (o : Fin 256) (s : Fin 1024) (k : Fin 32) :
    pre3 x W v (ix4 b o s k) = conv z (mat W) (vec v) (pt b s k) o := by
  unfold pre3 conv mat vec
  pointwise
  exact congrArg₂ (· + ·) (Finset.sum_congr rfl fun j _ => congrArg₂ (· * ·) (hz b j s k) rfl) rfl

/-- The sum over the batches, samples and neighbours of one channel, over the points. -/
theorem total_apply {n : ℕ} {axes : List (Fin 4)} (hr : (⟨4, ![4, n, 1024, 32]⟩ : Shape).ReducesTo axes ⟨1, ![n]⟩)
    (hd0 : ∀ i, ((hr.drop i) 0 : ℕ) = (i 1).val)
    (v : (⟨4, ![4, n, 1024, 32]⟩ : Shape).Idx → EReal) (z : Fin 131072 → Fin n → EReal) (hz : ∀ b o s k, v (ix4 b o s k) = z (pt b s k) o) (o : Fin n) :
    Ideal.hostReduceAdd hr v (Ideal.ofBits .f32 0x00000000#32) (ix1 o) = ∑ p, z p o := by
  have hd : ∀ (b : Fin 4) (o' : Fin n) (s : Fin 1024) (k : Fin 32), hr.drop (ix4 b o' s k) = ix1 o ↔ o' = o := fun b o' s k => by
    have e : ((hr.drop (ix4 b o' s k)) 0 : Nat) = o'.val := hd0 _
    constructor
    · intro h
      rw [h] at e
      exact Fin.ext e.symm
    · rintro rfl
      funext a
      match a with
      | ⟨0, _⟩ => exact Fin.ext e
  unfold Ideal.hostReduceAdd
  rw [Finset.sum_filter, sum_idx4, sum_pt]
  refine Eq.trans (congrArg₂ (· + ·) (ofBits_zero_f32) rfl) ((zero_add _).trans ?_)
  refine Finset.sum_congr rfl fun b _ => ?_
  rw [Finset.sum_eq_single o]
  · refine Finset.sum_congr rfl fun s _ => Finset.sum_congr rfl fun k _ => ?_
    rw [if_pos ((hd b o s k).mpr rfl)]
    exact hz b o s k
  · intro o' _ ho
    refine Finset.sum_eq_zero fun s _ => Finset.sum_eq_zero fun k _ => ?_
    rw [if_neg fun h => ho ((hd b o' s k).mp h)]
  · intro h
    exact absurd (Finset.mem_univ o) h

theorem total64_apply (v : FVec Ideal S4x64x1024x32 .f32) (z : Fin 131072 → Fin 64 → EReal) (hz : ∀ b o s k, v (ix4 b o s k) = z (pt b s k) o) (o : Fin 64) :
    total64 v (ix1 o) = ∑ p, z p o :=
  total_apply reducesTo_S4x64x1024x32_S64_d0_2_3 (fun i => Shape.ReducesTo.drop_apply_val_of_eq reducesTo_S4x64x1024x32_S64_d0_2_3 i 0 1) v z hz o

theorem mean64_apply (v : FVec Ideal S4x64x1024x32 .f32) (z : Fin 131072 → Fin 64 → EReal) (hz : ∀ b o s k, v (ix4 b o s k) = z (pt b s k) o) (o : Fin 64) :
    mean64 v (ix4 (0 : Fin 1) o (0 : Fin 1) (0 : Fin 1)) = mean (fun p => z p o) := by
  unfold mean64 mean cnt
  rw [← total64_apply v z hz o]
  pointwise

theorem cent64_apply (v : FVec Ideal S4x64x1024x32 .f32) (z : Fin 131072 → Fin 64 → EReal) (hz : ∀ b o s k, v (ix4 b o s k) = z (pt b s k) o)
    (b : Fin 4) (o : Fin 64) (s : Fin 1024) (k : Fin 32) :
    cent64 v (ix4 b o s k) = z (pt b s k) o - mean (fun p => z p o) := by
  rw [← mean64_apply v z hz o, ← hz]
  unfold cent64
  pointwise

theorem var64_apply (v : FVec Ideal S4x64x1024x32 .f32) (z : Fin 131072 → Fin 64 → EReal) (hz : ∀ b o s k, v (ix4 b o s k) = z (pt b s k) o) (o : Fin 64) :
    var64 v (ix4 (0 : Fin 1) o (0 : Fin 1) (0 : Fin 1)) = variance (fun p => z p o) := by
  have e := total64_apply (mulf (cent64 v) (cent64 v)) (fun p o => (z p o - mean (fun p => z p o)) * (z p o - mean (fun p => z p o)))
    (fun b o s k => congrArg₂ (· * ·) (cent64_apply v z hz b o s k) (cent64_apply v z hz b o s k)) o
  unfold variance
  rw [← e]
  unfold var64
  pointwise
  rw [n_sub, if_pos (by rw [cnt_eq]; exact_mod_cast (by norm_num : (0 : ℝ) < 131072))]

theorem norm64_apply (v : FVec Ideal S4x64x1024x32 .f32) (g be : FVec Ideal S64 .f32) (z : Fin 131072 → Fin 64 → EReal) (hz : ∀ b o s k, v (ix4 b o s k) = z (pt b s k) o)
    (b : Fin 4) (o : Fin 64) (s : Fin 1024) (k : Fin 32) :
    norm64 v g be (ix4 b o s k) = normal (fun p => z p o) (vec g o) (vec be o) (pt b s k) := by
  unfold normal vec
  rw [← cent64_apply v z hz b o s k, ← var64_apply v z hz o]
  unfold norm64 eps
  pointwise

theorem total128_apply (v : FVec Ideal S4x128x1024x32 .f32) (z : Fin 131072 → Fin 128 → EReal) (hz : ∀ b o s k, v (ix4 b o s k) = z (pt b s k) o) (o : Fin 128) :
    total128 v (ix1 o) = ∑ p, z p o :=
  total_apply reducesTo_S4x128x1024x32_S128_d0_2_3 (fun i => Shape.ReducesTo.drop_apply_val_of_eq reducesTo_S4x128x1024x32_S128_d0_2_3 i 0 1) v z hz o

theorem mean128_apply (v : FVec Ideal S4x128x1024x32 .f32) (z : Fin 131072 → Fin 128 → EReal) (hz : ∀ b o s k, v (ix4 b o s k) = z (pt b s k) o) (o : Fin 128) :
    mean128 v (ix4 (0 : Fin 1) o (0 : Fin 1) (0 : Fin 1)) = mean (fun p => z p o) := by
  unfold mean128 mean cnt
  rw [← total128_apply v z hz o]
  pointwise

theorem cent128_apply (v : FVec Ideal S4x128x1024x32 .f32) (z : Fin 131072 → Fin 128 → EReal) (hz : ∀ b o s k, v (ix4 b o s k) = z (pt b s k) o)
    (b : Fin 4) (o : Fin 128) (s : Fin 1024) (k : Fin 32) :
    cent128 v (ix4 b o s k) = z (pt b s k) o - mean (fun p => z p o) := by
  rw [← mean128_apply v z hz o, ← hz]
  unfold cent128
  pointwise

theorem var128_apply (v : FVec Ideal S4x128x1024x32 .f32) (z : Fin 131072 → Fin 128 → EReal) (hz : ∀ b o s k, v (ix4 b o s k) = z (pt b s k) o) (o : Fin 128) :
    var128 v (ix4 (0 : Fin 1) o (0 : Fin 1) (0 : Fin 1)) = variance (fun p => z p o) := by
  have e := total128_apply (mulf (cent128 v) (cent128 v)) (fun p o => (z p o - mean (fun p => z p o)) * (z p o - mean (fun p => z p o)))
    (fun b o s k => congrArg₂ (· * ·) (cent128_apply v z hz b o s k) (cent128_apply v z hz b o s k)) o
  unfold variance
  rw [← e]
  unfold var128
  pointwise
  rw [n_sub, if_pos (by rw [cnt_eq]; exact_mod_cast (by norm_num : (0 : ℝ) < 131072))]

theorem norm128_apply (v : FVec Ideal S4x128x1024x32 .f32) (g be : FVec Ideal S128 .f32) (z : Fin 131072 → Fin 128 → EReal) (hz : ∀ b o s k, v (ix4 b o s k) = z (pt b s k) o)
    (b : Fin 4) (o : Fin 128) (s : Fin 1024) (k : Fin 32) :
    norm128 v g be (ix4 b o s k) = normal (fun p => z p o) (vec g o) (vec be o) (pt b s k) := by
  unfold normal vec
  rw [← cent128_apply v z hz b o s k, ← var128_apply v z hz o]
  unfold norm128 eps
  pointwise

/-! ## The result -/

theorem last_apply (b : Fin 4) (o : Fin 256) (s : Fin 1024) (k : Fin 32) :
    last m c (ix4 b o s k) = stack normal (xs (a0 m c) (a1 m c)) (mat (a2 m c)) (vec (a3 m c)) (vec (a4 m c)) (vec (a5 m c)) (mat (a6 m c)) (vec (a7 m c))
      (vec (a8 m c)) (vec (a9 m c)) (mat (a10 m c)) (vec (a11 m c)) (pt b s k) o := by
  unfold last stack
  refine pre3_apply _ _ _ _ (fun b o s k => ?_) b o s k
  refine norm128_apply _ _ _ _ (fun b o s k => ?_) b o s k
  refine pre2_apply _ _ _ _ (fun b o s k => ?_) b o s k
  refine norm64_apply _ _ _ _ (fun b o s k => ?_) b o s k
  exact pre1_apply _ _ _ _ b o s k

theorem ofBits_bot : Ideal.ofBits .f32 0xFF800000#32 = (⊥ : EReal) := by
  simp [Ideal.ofBits, Ideal.ieee]

theorem result : (res_main_v59 m c : FVec Ideal S4x256x1024 .f32) = value (stack normal (xs (a0 m c) (a1 m c)) (mat (a2 m c)) (vec (a3 m c)) (vec (a4 m c)) (vec (a5 m c))
      (mat (a6 m c)) (vec (a7 m c)) (vec (a8 m c)) (vec (a9 m c)) (mat (a10 m c)) (vec (a11 m c))) := by
  rw [res_eq]
  funext i
  have hi : i = ix3 (n0 := 4) (n1 := 256) (n2 := 1024) (i 0) (i 1) (i 2) := by
    funext a
    match a with
    | ⟨0, _⟩ => rfl
    | ⟨1, _⟩ => rfl
    | ⟨2, _⟩ => rfl
  unfold value
  rw [← funext fun k => last_apply m c (i 0) (i 1) (i 2) k, ← ofBits_bot]
  refine Eq.trans (congrArg _ hi) ?_
  generalize last m c = z
  pointwise

end Cert.Proof.LayerRef

end
-- ==== Proof.LayerPre.lean ====
/-
  The precondition, element by element: the factors of the two normalizations are real numbers.
-/
module

public import proofs.«01_k».proof.Proof.LayerMath
public import proofs.«01_k».proof.Proof.Gen.Pre_finite
public import Idealize.ShloMosaic.Lib.ReduceAll
public import Idealize.ShloMosaic.Lib.Pointwise

@[expose] public section

noncomputable section

namespace Cert.Proof.LayerPre

open Cert.Pre_finite Cert.Pre_finite.Gen Cert.Proof.LayerMath
open Idealize.ShloMosaic

/-- A value whose absolute value is below infinity is a real number. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

instance : Subsingleton S_.Idx := ⟨fun _ _ => funext fun a => a.elim0⟩

theorem finite_of {s : Shape} {axes : List (Fin s.rank)} (x : FVec Ideal s .f32) (bc : S_.BroadcastsInDim s (![] : Fin 0 → Fin s.rank))
    (h : s.ReducesTo axes S_) (hu : 0 < S_.numel) (j : S_.Idx)
    (e : Host.reduce IntOp.andi (cmpf .olt (Host.absf x) (broadcastInDim s ![] bc (constant S_ .f32 0x7F800000#32))) (constantI S_ 1 1#1) h hu j = 1#1) (i : s.Idx) :
    IsReal (x i) :=
  isReal_of_lt (x i) (Host.reduce_andi_all _ _ h hu j e i)

theorem and_split (x y : IVec S_ 1) (j : S_.Idx) (e : andi x y j = 1#1) : x j = 1#1 ∧ y j = 1#1 := by
  have key : ∀ a b : BitVec 1, IntOp.andi a b = 1#1 → a = 1#1 ∧ b = 1#1 := by decide
  exact key _ _ e

variable (A0 : FVec Ideal S131072x16 .f32) (A1 : FVec Ideal S4x1024x3 .f32) (A2 : FVec Ideal S64x3 .f32) (A3 A4 A5 : FVec Ideal S64 .f32)
  (A6 : FVec Ideal S128x64 .f32) (A7 A8 A9 : FVec Ideal S128 .f32) (A10 : FVec Ideal S256x128 .f32) (A11 : FVec Ideal S256 .f32)

theorem finite_all (e : Cert.Pre_finite.fn (F := Ideal) A0 A1 A2 A3 A4 A5 A6 A7 A8 A9 A10 A11 = fun _ => 1#1) :
    (∀ i, IsReal (A4 i)) ∧ ∀ i, IsReal (A8 i) := by
  have e := congrFun e ix0
  unfold Cert.Pre_finite.fn at e
  obtain ⟨h4, h8⟩ := and_split _ _ _ e
  exact ⟨finite_of A4 _ _ _ _ h4, finite_of A8 _ _ _ _ h8⟩

end Cert.Proof.LayerPre

end
-- ==== Proof.LayerClaims.lean ====
/-
  The layers' claims: their frames, and that both programs end with the same array where the precondition holds.
-/
module

public import proofs.«01_k».proof.Defs
public import proofs.«01_k».proof.Proof.LayerRun
public import proofs.«01_k».proof.Proof.LayerRef
public import proofs.«01_k».proof.Proof.LayerPre

@[expose] public section

noncomputable section

namespace Cert.Proof.LayerClaims

open Idealize.ShloMosaic Idealize.ShloMosaic.TcCoe Idealize.SL.Sem Cert.Proof.LayerMath

/-- `Cert.quiescent_LayersReferenceIdeal` (Defs.lean): host operations alone, on a signature without semaphores. -/
theorem frame_reference : Cert.quiescent_LayersReferenceIdeal := fun m ρ _ =>
  (θ_run Cert.LayersReferenceIdeal.defs _ _).mono (fun _ h => ⟨fun c => (h c).2, funext fun x => nomatch x.2⟩)
    (Cert.LayersReferenceIdeal.Value.run m ρ)

/-- Where the precondition holds, the two forms of the normalization give one stack of layers. -/
theorem same_stack (m : (ℓ : Loc Cert.LayersIdeal.nD Cert.LayersIdeal.τ Cert.LayersIdeal.sig) → Buf (Elt Ideal) ℓ) (h : Cert.Pre_LayersIdeal_finite m)
    (c : Dev Cert.LayersIdeal.nD) :
    LayerRun.u3 m c = stack normal (LayerRef.xs (LayerRun.a0 m c) (LayerRun.a1 m c)) (LayerRef.mat (LayerRun.a2 m c)) (LayerRef.vec (LayerRun.a3 m c))
      (LayerRef.vec (LayerRun.a4 m c)) (LayerRef.vec (LayerRun.a5 m c)) (LayerRef.mat (LayerRun.a6 m c)) (LayerRef.vec (LayerRun.a7 m c))
      (LayerRef.vec (LayerRun.a8 m c)) (LayerRef.vec (LayerRun.a9 m c)) (LayerRef.mat (LayerRun.a10 m c)) (LayerRef.vec (LayerRun.a11 m c)) := by
  obtain ⟨h4, h8⟩ := LayerPre.finite_all _ _ _ _ _ _ _ _ _ _ _ _ (h c)
  refine Eq.trans ?_ (stack_eq _ _ _ _ _ _ _ _ _ _ _ (fun o => ?_) fun o => ?_)
  · rfl
  · exact h4 _
  · exact h8 _

/-- `Cert.algebraic_LayersIdeal_LayersReferenceIdeal_pre_finite` (Defs.lean): both programs end with the common value. -/
theorem algebraic : Cert.algebraic_LayersIdeal_LayersReferenceIdeal_pre_finite := fun m g m' g' hp hm =>
  ⟨fun c => value (LayerRun.u3 m c), LayerRun.run_value m g,
    (θ_run Cert.LayersReferenceIdeal.defs _ _).mono (fun r h c => ⟨by
        refine (h c).1.trans ((LayerRef.result m' c).trans ?_)
        obtain ⟨e0, e1, e2, e3, e4, e5, e6, e7, e8, e9, e10, e11⟩ := hm c
        refine Eq.trans (congrArg value ?_) (congrArg value (same_stack m hp c)).symm
        rw [show LayerRef.a0 m' c = LayerRun.a0 m c from e0]
        rw [show LayerRef.a1 m' c = LayerRun.a1 m c from e1]
        rw [show LayerRef.a2 m' c = LayerRun.a2 m c from e2]
        rw [show LayerRef.a3 m' c = LayerRun.a3 m c from e3]
        rw [show LayerRef.a4 m' c = LayerRun.a4 m c from e4]
        rw [show LayerRef.a5 m' c = LayerRun.a5 m c from e5]
        rw [show LayerRef.a6 m' c = LayerRun.a6 m c from e6]
        rw [show LayerRef.a7 m' c = LayerRun.a7 m c from e7]
        rw [show LayerRef.a8 m' c = LayerRun.a8 m c from e8]
        rw [show LayerRef.a9 m' c = LayerRun.a9 m c from e9]
        rw [show LayerRef.a10 m' c = LayerRun.a10 m c from e10]
        rw [show LayerRef.a11 m' c = LayerRun.a11 m c from e11]
        , (h c).2⟩)
      (Cert.LayersReferenceIdeal.Value.run m' g')⟩

end Cert.Proof.LayerClaims

end
-- ==== Proof.NearPay.lean ====
/-
  The rounds of the neighbour kernel as one step repeated: of the distances left in a row, the row's least value, the
  first index that attains it, and the large value put in its place.
-/
module

public import proofs.«01_k».proof.Proof.Gen.NeighboursIdeal.Frame
public import Idealize.ShloMosaic.PureOps.Ideal.Laws

@[expose] public section

noncomputable section

namespace Cert.Proof.NearPay

open Cert.NeighboursIdeal Cert.NeighboursIdeal.Gen
open Idealize.ShloMosaic Idealize.ShloMosaic.TcCoe

/-- The index of every element on the second axis. -/
def idx : IVec S32x16384 32 := iota .tc S32x16384 32 [1] iota_S32x16384_d1_w32

/-- The least value of every row. -/
def low (d : FVec Ideal S32x16384 .f32) : FVec Ideal S32x1 .f32 :=
  shapeCast S32x1 (multiReduction .minimumf [1] S32 d 0x7F800000#32 reduces_S32x16384_S32 (.inl rfl) rfl) shapeCasts_S32_S32x1

/-- Where a row attains its least value. -/
def mask (d : FVec Ideal S32x16384 .f32) : IVec S32x16384 1 :=
  cmpf .oeq d (broadcastTo S32x16384 (low d) broadcasts_S32x1_S32x16384)

/-- The indices there, a larger number elsewhere. -/
def cand (d : FVec Ideal S32x16384 .f32) : IVec S32x16384 32 := select (mask d) idx (broadcast S32x16384 16384#32)

/-- The first index where each row attains its least value. -/
def sel (d : FVec Ideal S32x16384 .f32) : IVec S32x1 32 :=
  shapeCast S32x1 (multiReductionI .minsi [1] S32 (cand d) 2147483647#32 reduces_S32x16384_S32 rfl) shapeCasts_S32_S32x1

/-- Where that index stands. -/
def hit (d : FVec Ideal S32x16384 .f32) : IVec S32x16384 1 :=
  cmpi .eq idx (broadcastTo S32x16384 (sel d) broadcasts_S32x1_S32x16384)

/-- The distances left after one more round. -/
def nxt (d : FVec Ideal S32x16384 .f32) : FVec Ideal S32x16384 .f32 :=
  select (hit d) (broadcast S32x16384 (Scalar.ofBits (F := Ideal) .f32 0x7F61B1E6#32)) d

/-- The distances left after `j` rounds. -/
def rest (d : FVec Ideal S32x16384 .f32) : ℕ → FVec Ideal S32x16384 .f32
  | 0 => d
  | j + 1 => nxt (rest d j)

variable (d : FVec Ideal S32x16384 .f32)

theorem p1 : k0_pay1 idx (mask (rest d 30)) = sel (rest d 30) := by
  unfold k0_pay1
  rfl

theorem p2 : k0_pay2 idx (rest d 30) (sel (rest d 30)) = rest d 31 := by
  unfold k0_pay2
  rfl

theorem p3 : k0_pay3 idx (rest d 31) = cand (rest d 31) := by
  unfold k0_pay3
  rfl

theorem p8 : k0_pay8 idx (mask (rest d 0)) = sel (rest d 0) := by
  unfold k0_pay8
  rfl

theorem p9 : k0_pay9 idx (rest d 0) (mask (rest d 0)) = rest d 1 := by
  unfold k0_pay9
  rw [p8]
  rfl

theorem p10 : k0_pay10 idx (rest d 0) (mask (rest d 0)) = sel (rest d 1) := by
  unfold k0_pay10
  rw [p9]
  rfl

theorem p11 : k0_pay11 idx (rest d 0) (mask (rest d 0)) = rest d 2 := by
  unfold k0_pay11
  rw [p9, p10]
  rfl

theorem p12 : k0_pay12 idx (rest d 0) (mask (rest d 0)) = sel (rest d 2) := by
  unfold k0_pay12
  rw [p11]
  rfl

theorem p13 : k0_pay13 idx (rest d 0) (mask (rest d 0)) = rest d 3 := by
  unfold k0_pay13
  rw [p11, p12]
  rfl

theorem p14 : k0_pay14 idx (rest d 0) (mask (rest d 0)) = sel (rest d 3) := by
  unfold k0_pay14
  rw [p13]
  rfl

theorem p15 : k0_pay15 idx (rest d 0) (mask (rest d 0)) = rest d 4 := by
  unfold k0_pay15
  rw [p13, p14]
  rfl

theorem p16 : k0_pay16 idx (rest d 4) = sel (rest d 4) := by
  unfold k0_pay16
  rfl

theorem p17 : k0_pay17 idx (rest d 4) = rest d 5 := by
  unfold k0_pay17
  rw [p16]
  rfl

theorem p18 : k0_pay18 idx (rest d 4) = sel (rest d 5) := by
  unfold k0_pay18
  rw [p17]
  rfl

theorem p19 : k0_pay19 idx (rest d 4) = rest d 6 := by
  unfold k0_pay19
  rw [p17, p18]
  rfl

theorem p20 : k0_pay20 idx (rest d 4) = sel (rest d 6) := by
  unfold k0_pay20
  rw [p19]
  rfl

theorem p21 : k0_pay21 idx (rest d 4) = rest d 7 := by
  unfold k0_pay21
  rw [p19, p20]
  rfl

theorem p22 : k0_pay22 idx (rest d 4) = sel (rest d 7) := by
  unfold k0_pay22
  rw [p21]
  rfl

theorem p23 : k0_pay23 idx (rest d 4) = hit (rest d 7) := by
  unfold k0_pay23
  rw [p22]
  rfl

theorem p24 : k0_pay24 (rest d 7) (hit (rest d 7)) = rest d 8 := by
  unfold k0_pay24
  rfl

theorem p25 : k0_pay25 idx (rest d 7) (hit (rest d 7)) = sel (rest d 8) := by
  unfold k0_pay25
  rw [p24]
  rfl

theorem p26 : k0_pay26 idx (rest d 7) (hit (rest d 7)) = rest d 9 := by
  unfold k0_pay26
  rw [p24, p25]
  rfl

theorem p27 : k0_pay27 idx (rest d 7) (hit (rest d 7)) = sel (rest d 9) := by
  unfold k0_pay27
  rw [p26]
  rfl

theorem p28 : k0_pay28 idx (rest d 7) (hit (rest d 7)) = rest d 10 := by
  unfold k0_pay28
  rw [p26, p27]
  rfl

theorem p29 : k0_pay29 idx (rest d 7) (hit (rest d 7)) = sel (rest d 10) := by
  unfold k0_pay29
  rw [p28]
  rfl

theorem p30 : k0_pay30 idx (rest d 7) (hit (rest d 7)) = rest d 11 := by
  unfold k0_pay30
  rw [p28, p29]
  rfl

theorem p31 : k0_pay31 idx (rest d 7) (hit (rest d 7)) = cand (rest d 11) := by
  unfold k0_pay31
  rw [p30]
  rfl

theorem p32 : k0_pay32 (cand (rest d 11)) = sel (rest d 11) := by
  unfold k0_pay32
  rfl

theorem p33 : k0_pay33 idx (rest d 11) (cand (rest d 11)) = rest d 12 := by
  unfold k0_pay33
  rw [p32]
  rfl

theorem p34 : k0_pay34 idx (rest d 11) (cand (rest d 11)) = sel (rest d 12) := by
  unfold k0_pay34
  rw [p33]
  rfl

theorem p35 : k0_pay35 idx (rest d 11) (cand (rest d 11)) = rest d 13 := by
  unfold k0_pay35
  rw [p33, p34]
  rfl

theorem p36 : k0_pay36 idx (rest d 11) (cand (rest d 11)) = sel (rest d 13) := by
  unfold k0_pay36
  rw [p35]
  rfl

theorem p37 : k0_pay37 idx (rest d 11) (cand (rest d 11)) = rest d 14 := by
  unfold k0_pay37
  rw [p35, p36]
  rfl

theorem p38 : k0_pay38 idx (rest d 11) (cand (rest d 11)) = sel (rest d 14) := by
  unfold k0_pay38
  rw [p37]
  rfl

theorem p39 : k0_pay39 idx (rest d 11) (cand (rest d 11)) = rest d 15 := by
  unfold k0_pay39
  rw [p37, p38]
  rfl

theorem p40 : k0_pay40 idx (rest d 11) (cand (rest d 11)) = mask (rest d 15) := by
  unfold k0_pay40
  rw [p39]
  rfl

theorem p41 : k0_pay41 idx (mask (rest d 15)) = sel (rest d 15) := by
  unfold k0_pay41
  rfl

theorem p42 : k0_pay42 idx (rest d 15) (mask (rest d 15)) = rest d 16 := by
  unfold k0_pay42
  rw [p41]
  rfl

theorem p43 : k0_pay43 idx (rest d 15) (mask (rest d 15)) = sel (rest d 16) := by
  unfold k0_pay43
  rw [p42]
  rfl

theorem p44 : k0_pay44 idx (rest d 15) (mask (rest d 15)) = rest d 17 := by
  unfold k0_pay44
  rw [p42, p43]
  rfl

theorem p45 : k0_pay45 idx (rest d 15) (mask (rest d 15)) = sel (rest d 17) := by
  unfold k0_pay45
  rw [p44]
  rfl

theorem p46 : k0_pay46 idx (rest d 15) (mask (rest d 15)) = rest d 18 := by
  unfold k0_pay46
  rw [p44, p45]
  rfl

theorem p47 : k0_pay47 idx (rest d 15) (mask (rest d 15)) = sel (rest d 18) := by
  unfold k0_pay47
  rw [p46]
  rfl

theorem p48 : k0_pay48 idx (rest d 15) (mask (rest d 15)) = rest d 19 := by
  unfold k0_pay48
  rw [p46, p47]
  rfl

theorem p49 : k0_pay49 idx (rest d 19) = sel (rest d 19) := by
  unfold k0_pay49
  rfl

theorem p50 : k0_pay50 idx (rest d 19) = rest d 20 := by
  unfold k0_pay50
  rw [p49]
  rfl

theorem p51 : k0_pay51 idx (rest d 19) = sel (rest d 20) := by
  unfold k0_pay51
  rw [p50]
  rfl

theorem p52 : k0_pay52 idx (rest d 19) = rest d 21 := by
  unfold k0_pay52
  rw [p50, p51]
  rfl

theorem p53 : k0_pay53 idx (rest d 19) = sel (rest d 21) := by
  unfold k0_pay53
  rw [p52]
  rfl

theorem p54 : k0_pay54 idx (rest d 19) = rest d 22 := by
  unfold k0_pay54
  rw [p52, p53]
  rfl

theorem p55 : k0_pay55 idx (rest d 19) = sel (rest d 22) := by
  unfold k0_pay55
  rw [p54]
  rfl

theorem p56 : k0_pay56 idx (rest d 19) = hit (rest d 22) := by
  unfold k0_pay56
  rw [p55]
  rfl

theorem p57 : k0_pay57 (rest d 22) (hit (rest d 22)) = rest d 23 := by
  unfold k0_pay57
  rfl

theorem p58 : k0_pay58 idx (rest d 22) (hit (rest d 22)) = sel (rest d 23) := by
  unfold k0_pay58
  rw [p57]
  rfl

theorem p59 : k0_pay59 idx (rest d 22) (hit (rest d 22)) = rest d 24 := by
  unfold k0_pay59
  rw [p57, p58]
  rfl

theorem p60 : k0_pay60 idx (rest d 22) (hit (rest d 22)) = sel (rest d 24) := by
  unfold k0_pay60
  rw [p59]
  rfl

theorem p61 : k0_pay61 idx (rest d 22) (hit (rest d 22)) = rest d 25 := by
  unfold k0_pay61
  rw [p59, p60]
  rfl

theorem p62 : k0_pay62 idx (rest d 22) (hit (rest d 22)) = sel (rest d 25) := by
  unfold k0_pay62
  rw [p61]
  rfl

theorem p63 : k0_pay63 idx (rest d 22) (hit (rest d 22)) = rest d 26 := by
  unfold k0_pay63
  rw [p61, p62]
  rfl

theorem p64 : k0_pay64 idx (rest d 22) (hit (rest d 22)) = cand (rest d 26) := by
  unfold k0_pay64
  rw [p63]
  rfl

theorem p65 : k0_pay65 (cand (rest d 26)) = sel (rest d 26) := by
  unfold k0_pay65
  rfl

theorem p66 : k0_pay66 idx (rest d 26) (cand (rest d 26)) = rest d 27 := by
  unfold k0_pay66
  rw [p65]
  rfl

theorem p67 : k0_pay67 idx (rest d 26) (cand (rest d 26)) = sel (rest d 27) := by
  unfold k0_pay67
  rw [p66]
  rfl

theorem p68 : k0_pay68 idx (rest d 26) (cand (rest d 26)) = rest d 28 := by
  unfold k0_pay68
  rw [p66, p67]
  rfl

theorem p69 : k0_pay69 idx (rest d 26) (cand (rest d 26)) = sel (rest d 28) := by
  unfold k0_pay69
  rw [p68]
  rfl

theorem p70 : k0_pay70 idx (rest d 26) (cand (rest d 26)) = rest d 29 := by
  unfold k0_pay70
  rw [p68, p69]
  rfl

theorem p71 : k0_pay71 idx (rest d 26) (cand (rest d 26)) = sel (rest d 29) := by
  unfold k0_pay71
  rw [p70]
  rfl

theorem p72 : k0_pay72 idx (rest d 26) (cand (rest d 26)) = rest d 30 := by
  unfold k0_pay72
  rw [p70, p71]
  rfl

theorem p73 : k0_pay73 idx (rest d 26) (cand (rest d 26)) = mask (rest d 30) := by
  unfold k0_pay73
  rw [p72]
  rfl

variable (x0 : Vec Ideal S1x32x3 .f32) (x1 : Vec Ideal S1x3x16384 .f32)

theorem q74 : k0_pay74 x0 x1 = idx := rfl

theorem q76 : k0_pay76 x0 x1 = mask (rest (k0_pay75 x0 x1) 0) := rfl

theorem q77 : k0_pay77 x0 x1 = rest (k0_pay75 x0 x1) 4 := by
  unfold k0_pay77
  rw [q74, q76]
  exact p15 _

theorem q78 : k0_pay78 x0 x1 = rest (k0_pay75 x0 x1) 7 := by
  unfold k0_pay78
  rw [q74, q77]
  exact p21 _

theorem q79 : k0_pay79 x0 x1 = hit (rest (k0_pay75 x0 x1) 7) := by
  unfold k0_pay79
  rw [q74, q77]
  exact p23 _

theorem q80 : k0_pay80 x0 x1 = rest (k0_pay75 x0 x1) 11 := by
  unfold k0_pay80
  rw [q74, q78, q79]
  exact p30 _

theorem q81 : k0_pay81 x0 x1 = cand (rest (k0_pay75 x0 x1) 11) := by
  unfold k0_pay81
  rw [q74, q78, q79]
  exact p31 _

theorem q82 : k0_pay82 x0 x1 = rest (k0_pay75 x0 x1) 15 := by
  unfold k0_pay82
  rw [q74, q80, q81]
  exact p39 _

theorem q83 : k0_pay83 x0 x1 = mask (rest (k0_pay75 x0 x1) 15) := by
  unfold k0_pay83
  rw [q74, q80, q81]
  exact p40 _

theorem q84 : k0_pay84 x0 x1 = rest (k0_pay75 x0 x1) 19 := by
  unfold k0_pay84
  rw [q74, q82, q83]
  exact p48 _

theorem q85 : k0_pay85 x0 x1 = rest (k0_pay75 x0 x1) 22 := by
  unfold k0_pay85
  rw [q74, q84]
  exact p54 _

theorem q86 : k0_pay86 x0 x1 = hit (rest (k0_pay75 x0 x1) 22) := by
  unfold k0_pay86
  rw [q74, q84]
  exact p56 _

theorem q87 : k0_pay87 x0 x1 = rest (k0_pay75 x0 x1) 26 := by
  unfold k0_pay87
  rw [q74, q85, q86]
  exact p63 _

theorem q88 : k0_pay88 x0 x1 = cand (rest (k0_pay75 x0 x1) 26) := by
  unfold k0_pay88
  rw [q74, q85, q86]
  exact p64 _

theorem q89 : k0_pay89 x0 x1 = sel (rest (k0_pay75 x0 x1) 30) := by
  unfold k0_pay89
  rw [q74, q87, q88, p73]
  exact p1 _

/-- The chosen indices side by side. -/
def chosen : IVec S32x32 32 :=
  concatenate S32x32 1 (List.ofFn fun j : Fin 32 => (⟨S32x1, sel (rest d j.val)⟩ : (s : Shape) × (s.Idx → BitVec 32)))
    concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x32_d1

/-- The block the kernel leaves in its output window. -/
theorem out_eq : out0_2 x0 x1 = View.canon [⟨r0_5, shapeCast S1x32x32 (chosen (k0_pay75 x0 x1)) shapeCasts_S32x32_S1x32x32⟩] := by
  unfold out0_2
  rw [q74, q76, q77, q78, q79, q81, q80, q83, q82, q84, q85, q86, q88, q87, q89]
  have e : k0_pay75 x0 x1 = rest (k0_pay75 x0 x1) 0 := rfl
  rw [show k0_pay10 idx (k0_pay75 x0 x1) (mask (rest (k0_pay75 x0 x1) 0)) = _ from p10 _, show k0_pay12 idx (k0_pay75 x0 x1) (mask (rest (k0_pay75 x0 x1) 0)) = _ from p12 _,
    show k0_pay14 idx (k0_pay75 x0 x1) (mask (rest (k0_pay75 x0 x1) 0)) = _ from p14 _]
  rw [p8, p16, p18, p20, p22, p25, p27, p29, p32, p34, p36, p38, p41, p43, p45, p47, p49, p51, p53, p55, p58, p60, p62, p65, p67, p69, p71, p72, p2, p3]
  rfl

end Cert.Proof.NearPay

end
-- ==== Proof.NearSpec.lean ====
/-
  The nearest points of one sample on the extended reals: rounds that each take the first index where what is left of the
  squared distances is smallest and put a large value in its place, and the first indices of the distances sorted in
  ascending order. Under the bound that every distance is below the large value the two name the same points.
-/
module

public import Idealize.ShloMosaic.Lib.SortPrefix
public import proofs.«01_k».proof.Proof.SampleSpec

@[expose] public section

noncomputable section

namespace Cert.Proof.NearSpec

open Idealize.ShloMosaic
open Cert.Proof.SampleSpec

/-- The first index where `x` is smallest. -/
def least (x : Fin 16384 → EReal) : Fin 16384 := first fun q => -x q

theorem least_le (x : Fin 16384 → EReal) (q : Fin 16384) : x (least x) ≤ x q :=
  EReal.neg_le_neg_iff.mp ((first_isFirst fun q => -x q).1 q)

theorem least_first (x : Fin 16384 → EReal) (q : Fin 16384) (h : x q = x (least x)) : least x ≤ q :=
  (first_isFirst fun q => -x q).2 q (congrArg (fun e => -e) h)

/-- What is left of the distances after `j` rounds: `big` stands at the points taken. -/
def left (big : EReal) (x : Fin 16384 → EReal) : ℕ → Fin 16384 → EReal
  | 0 => x
  | j + 1 => fun q => if q = least (left big x j) then big else left big x j q

/-- The point taken in round `j`. -/
def nearest (big : EReal) (x : Fin 16384 → EReal) (j : ℕ) : Fin 16384 := least (left big x j)

variable (big : EReal) (x : Fin 16384 → EReal)

theorem left_of_fresh (j : ℕ) (q : Fin 16384) (h : ∀ i, i < j → nearest big x i ≠ q) : left big x j q = x q := by
  induction j with
  | zero => rfl
  | succ j ih =>
    show (if q = nearest big x j then big else left big x j q) = _
    rw [if_neg fun e => h j (Nat.lt_succ_self j) e.symm, ih fun i hi => h i (Nat.lt_succ_of_lt hi)]

theorem left_of_taken (i j : ℕ) (h : i < j) : left big x j (nearest big x i) = big := by
  induction j with
  | zero => exact absurd h (Nat.not_lt_zero i)
  | succ j ih =>
    show (if nearest big x i = nearest big x j then big else left big x j (nearest big x i)) = _
    split
    · rfl
    · rename_i hne
      exact ih (lt_of_le_of_ne (Nat.le_of_lt_succ h) fun e => hne (e ▸ rfl))

theorem exists_fresh (j : ℕ) (h : j < 16384) : ∃ q, ∀ i, i < j → nearest big x i ≠ q := by
  by_contra hc
  push Not at hc
  have hs : (Finset.univ : Finset (Fin 16384)) ⊆ (Finset.range j).image (nearest big x) := fun q _ => by
    obtain ⟨i, hi, e⟩ := hc q
    exact Finset.mem_image.mpr ⟨i, Finset.mem_range.mpr hi, e⟩
  have h1 := (Finset.card_le_card hs).trans Finset.card_image_le
  rw [Finset.card_univ, Fintype.card_fin, Finset.card_range] at h1
  exact absurd h (Nat.not_lt.mpr h1)

variable {big x} (hx : ∀ q, x q < big)
include hx

theorem nearest_ne (i j : ℕ) (hij : i < j) (hj : j < 16384) : nearest big x i ≠ nearest big x j := by
  intro e
  obtain ⟨q, hq⟩ := exists_fresh big x j hj
  have h1 : left big x j (nearest big x j) ≤ left big x j q := least_le _ q
  rw [left_of_fresh big x j q hq, ← e, left_of_taken big x i j hij] at h1
  exact absurd (hx q) (not_lt.mpr h1)

omit hx in
/-- `p` stands before `q` in ascending order of the distances, equal ones by index. -/
def before (x : Fin 16384 → EReal) (p q : Fin 16384) : Bool :=
  decide (x p < x q) || (decide (x p = x q) && decide (p < q))

theorem not_before (i : ℕ) (hi : i < 16384) (q : Fin 16384) (h : ∀ k, k < i → nearest big x k ≠ q) :
    before x q (nearest big x i) = false := by
  have h0 : left big x i (nearest big x i) = x (nearest big x i) :=
    left_of_fresh big x i _ fun k hk => nearest_ne hx k i hk hi
  have h1 : left big x i (nearest big x i) ≤ left big x i q := least_le _ q
  have h2 : left big x i q = left big x i (nearest big x i) → nearest big x i ≤ q := least_first _ q
  rw [h0, left_of_fresh big x i q h] at h1 h2
  unfold before
  rw [decide_eq_false (not_lt.mpr h1), Bool.false_or]
  by_cases e : x q = x (nearest big x i)
  · rw [decide_eq_false (not_lt.mpr (h2 e)), Bool.and_false]
  · rw [decide_eq_false e, Bool.false_and]

omit hx in
theorem before_total (x : Fin 16384 → EReal) : StrictTotalBefore (before x) :=
  StrictTotalBefore.of_key_then_position (fun a b : EReal => decide (a < b)) x (fun a => by simp)
    (fun a b c hab hbc => decide_eq_true (lt_trans (of_decide_eq_true hab) (of_decide_eq_true hbc)))
    (fun a b => by
      rcases lt_trichotomy a b with h | h | h
      · exact .inl (decide_eq_true h)
      · exact .inr (.inl h)
      · exact .inr (.inr (decide_eq_true h)))

theorem sorted_eq (j : Fin 32) : sortedFrom (before x) (j.castLE (by decide)) = nearest big x j.val :=
  (before_total x).sortedFrom_eq_of_prefix (by decide) (fun j : Fin 32 => nearest big x j.val)
    (fun i j e => by
      by_contra hne
      rcases lt_or_gt_of_ne (Fin.val_ne_of_ne hne) with h | h
      · exact nearest_ne hx i.val j.val h (by omega) e
      · exact nearest_ne hx j.val i.val h (by omega) e.symm)
    (fun i j hij => not_before hx i.val (by omega) _ fun k hk => nearest_ne hx k j.val (by omega) (by omega))
    (fun i p hp => not_before hx i.val (by omega) p fun k hk => hp ⟨k, by omega⟩) j

omit hx in
/-- A stable sort of ascending positions need not compare positions. -/
theorem stableSort_key (l : List (Fin 16384)) (hl : l.Pairwise (· < ·)) (R : Fin 16384 → Fin 16384 → Bool)
    (hR : ∀ p q, R p q = decide (x p < x q)) : stableSort R l = stableSort (before x) l := by
  induction l with
  | nil => rfl
  | cons a l ih =>
    rw [List.pairwise_cons] at hl
    unfold stableSort
    rw [ih hl.2]
    refine insertBefore_congr R (before x) a _ fun b hb => ?_
    have hb' : a < b := hl.1 b ((perm_stableSort (before x) l).mem_iff.mp hb)
    rw [hR]
    unfold before
    rw [decide_eq_false (not_lt.mpr hb'.le), Bool.and_false, Bool.or_false]

/-- The `j`-th of the sorted positions is the point of round `j`. -/
theorem sortedFrom_key (R : Fin 16384 → Fin 16384 → Bool) (hR : ∀ p q, R p q = decide (x p < x q)) (k : Fin 16384) (j : Fin 32)
    (hk : k.val = j.val) : sortedFrom R k = nearest big x j.val := by
  rw [← sorted_eq hx j]
  have e : sortPositions 16384 R = sortPositions 16384 (before x) :=
    stableSort_key _ (List.pairwise_lt_finRange 16384) R hR
  have ek : k = j.castLE (by decide) := Fin.ext hk
  subst ek
  unfold sortedFrom
  simp only [List.get_eq_getElem, Fin.val_cast]
  exact getElem_congr_coll e

end Cert.Proof.NearSpec

end
-- ==== Proof.NearRow.lean ====
/-
  The neighbour kernel's step in one row on the extended reals: the first index of the row's least value and the row
  after the large value is put there, and the squared distances the rounds start from.
-/
module

public import proofs.«01_k».proof.Proof.NearPay
public import proofs.«01_k».proof.Proof.NearSpec
public import proofs.«01_k».proof.Proof.SampleMath
public import Idealize.ShloMosaic.Lib.Pipeline.Value
public import Idealize.ShloMosaic.Lib.Pipeline.ValueKit
public import Idealize.ShloMosaic.Lib.ValueIdx
public import Idealize.ShloMosaic.Lib.WordCmp
public import Idealize.ShloMosaic.Lib.Pointwise

@[expose] public section

noncomputable section

namespace Cert.Proof.NearPay

open Cert.NeighboursIdeal Cert.NeighboursIdeal.Gen Cert.Proof.NearSpec Cert.Proof.SampleSpec
open Idealize.ShloMosaic Idealize.ShloMosaic.TcCoe

section Layout
variable {α : Type}

theorem cast_col (x : S32.Idx → α) (r : Fin 32) : shapeCast S32x1 x shapeCasts_S32_S32x1 (ix2 r 0) = x (ix1 r) := by
  refine shapeCast_apply _ _ _ _ ?_
  refine (Shape.rowMajor_val_one (d := ![32]) _).trans ((Shape.rowMajor_val_two (d := ![32, 1]) _).trans ?_).symm
  simp [ix1, ix2]

theorem spread_col (x : S32x1.Idx → α) (r : Fin 32) (n : Fin 16384) :
    broadcastTo S32x16384 x broadcasts_S32x1_S32x16384 (ix2 r n) = x (ix2 r 0) := by
  refine broadcastTo_apply _ _ _ _ fun a => ?_
  fin_cases a <;> rfl

theorem lift_row (r : Fin 32) (n : Fin 16384) : reduces_S32x16384_S32.lift (ix1 r) n = ix2 r n := by
  funext a
  apply Fin.ext
  fin_cases a <;> rfl

end Layout

theorem top_pattern : (FloatOps.ofBits .f32 0x7F800000#32 : Ideal .f32) = (⊤ : EReal) := by
  show Ideal.ofBits .f32 0x7F800000#32 = ⊤
  simp [Ideal.ofBits, Ideal.ieee]

theorem idx_apply (r : Fin 32) (n : Fin 16384) : idx (ix2 r n) = BitVec.ofNat 32 n.val := by
  unfold idx
  rw [WordCmp.iota_at]
  simp only [List.foldl_cons, List.foldl_nil, Nat.zero_mul, Nat.zero_add]
  rfl

theorem low_apply (d : FVec Ideal S32x16384 .f32) (q : Fin 16384 → EReal) (r : Fin 32) (hd : ∀ n, d (ix2 r n) = q n) :
    low d (ix2 r 0) = q (least q) := by
  unfold low
  refine (cast_col _ r).trans ((multiReduction_minimumf_eq_fold _ _ _ _ _ _).trans ?_)
  refine (reduces_S32x16384_S32.fold_filter_drop_single (min : EReal → EReal → EReal) _ _ _).trans ?_
  apply le_antisymm
  · refine Finset.fold_min_le _ |>.mpr (.inr ⟨least q, Finset.mem_univ _, ?_⟩)
    show d (reduces_S32x16384_S32.lift (ix1 r) (least q)) ≤ _
    rw [lift_row, hd]
  · refine Finset.le_fold_min _ |>.mpr ⟨?_, fun n _ => ?_⟩
    · rw [top_pattern]; exact le_top
    · exact (least_le q n).trans_eq ((congrArg d (lift_row r n)).trans (hd n)).symm

theorem cand_apply (d : FVec Ideal S32x16384 .f32) (q : Fin 16384 → EReal) (r : Fin 32) (hd : ∀ n, d (ix2 r n) = q n) (n : Fin 16384) :
    cand d (ix2 r n) = BitVec.ofNat 32 (if q n = q (least q) then n.val else 16384) := by
  show Scalar.select (Ideal.cmp .oeq (d (ix2 r n)) (broadcastTo S32x16384 (low d) broadcasts_S32x1_S32x16384 (ix2 r n))) (idx (ix2 r n)) 16384#32 = _
  rw [spread_col, low_apply d q r hd, hd, idx_apply]
  by_cases h : q n = q (least q)
  · simp [Scalar.select, Ideal.cmp, h]
  · simp [Scalar.select, Ideal.cmp, h]

theorem sel_apply (d : FVec Ideal S32x16384 .f32) (q : Fin 16384 → EReal) (r : Fin 32) (hd : ∀ n, d (ix2 r n) = q n) :
    sel d (ix2 r 0) = BitVec.ofNat 32 (least q).val := by
  unfold sel
  refine (cast_col _ r).trans ((multiReductionI_eq_fold _ _ _ _ _ _).trans ?_)
  refine (reduces_S32x16384_S32.fold_filter_drop_single IntOp.minsi _ _ _).trans ?_
  refine (fold_minsi Finset.univ 2147483647 (by norm_num) _ (fun n : Fin 16384 => if q n = q (least q) then n.val else 16384) (fun n => ?_) fun n => ?_).trans ?_
  · exact (congrArg (cand d) (lift_row r n)).trans (cand_apply d q r hd n)
  · split <;> omega
  · refine congrArg (BitVec.ofNat 32) ?_
    apply le_antisymm
    · exact Finset.fold_min_le _ |>.mpr (.inr ⟨least q, Finset.mem_univ _, by rw [if_pos rfl]⟩)
    · refine Finset.le_fold_min _ |>.mpr ⟨by omega, fun n _ => ?_⟩
      split
      · rename_i h
        exact least_first q n h
      · omega

/-- The value put in the place of a chosen one. -/
def big : EReal := Ideal.ofBits .f32 0x7F61B1E6#32

theorem nxt_apply (d : FVec Ideal S32x16384 .f32) (q : Fin 16384 → EReal) (r : Fin 32) (hd : ∀ n, d (ix2 r n) = q n) (n : Fin 16384) :
    nxt d (ix2 r n) = if n = least q then big else q n := by
  show Scalar.select (IntOp.cmpi .eq (idx (ix2 r n)) (broadcastTo S32x16384 (sel d) broadcasts_S32x1_S32x16384 (ix2 r n))) big (d (ix2 r n)) = _
  rw [spread_col, sel_apply d q r hd, hd, idx_apply]
  by_cases h : n = least q
  · simp [Scalar.select, IntOp.cmpi, h]
  · have := mt SampleTrip.ofNat_inj.mp h
    rw [if_neg h]
    simp only [IntOp.cmpi, beq_eq_false_iff_ne.mpr this]
    rfl

theorem rest_apply (d : FVec Ideal S32x16384 .f32) (q : Fin 16384 → EReal) (r : Fin 32) (hd : ∀ n, d (ix2 r n) = q n) (j : ℕ) (n : Fin 16384) :
    rest d j (ix2 r n) = left big q j n := by
  induction j generalizing n with
  | zero => exact hd n
  | succ j ih => exact nxt_apply (rest d j) (left big q j) r ih n

theorem chosen_apply (d : FVec Ideal S32x16384 .f32) (q : Fin 16384 → EReal) (r : Fin 32) (hd : ∀ n, d (ix2 r n) = q n) (j : Fin 32) :
    chosen d (ix2 r j) = BitVec.ofNat 32 (nearest big q j.val).val := by
  unfold chosen
  refine (concatenate_ofFn_unit_apply (t := S32x32) (s₁ := S32x1) 1 _ _ rfl rfl (ix2 r j) j rfl (ix2 r 0) fun a ha => ?_).trans ?_
  · fin_cases a
    · rfl
    · exact absurd rfl ha
  · exact sel_apply (rest d j.val) (left big q j.val) r (rest_apply d q r hd j.val)

/-- The squared distance of a sample `s` to a point `p`, from the sums of their squares and their inner product. -/
def gap (s p : Fin 3 → EReal) : EReal :=
  (s 0 * s 0 + s 1 * s 1 + s 2 * s 2 - Ideal.ofBits .f32 0x40000000#32 * ∑ c : Fin 3, s c * p c)
    + (p 0 * p 0 + p 1 * p 1 + p 2 * p 2)

theorem dist_apply (x0 : Vec Ideal S1x32x3 .f32) (x1 : Vec Ideal S1x3x16384 .f32) (r : Fin 32) (n : Fin 16384) :
    k0_pay75 x0 x1 (ix2 r n) = gap (fun c => x0 (ix3 0 r c)) (fun c => x1 (ix3 0 c n)) := by
  unfold k0_pay75 k0_pay6 gap
  pointwise

end Cert.Proof.NearPay

end
-- ==== Proof.NearRun.lean ====
/-
  The neighbour kernel's array after its region, element by element, and its run.
-/
module

public import proofs.«01_k».proof.Proof.NearRow

@[expose] public section

noncomputable section

namespace Cert.Proof.NearRun

open Cert.NeighboursIdeal Cert.NeighboursIdeal.Gen Cert.Proof.NearPay Cert.Proof.NearSpec
open Idealize.ShloMosaic Idealize.ShloMosaic.TcCoe Idealize.SL Idealize.SL.Sem
open Idealize.ShloMosaic.Pipeline (Dat)

/-- The batch of block `t`. -/
def bat (t : ℕ) (h : t < 128) : Fin 4 := ⟨t / 32, by omega⟩
/-- Sample `r` of block `t` in its batch. -/
def smp (t : ℕ) (r : Fin 32) : Fin 1024 := ⟨t % 32 * 32 + r.val, by omega⟩

theorem lt0 (t : Fin cfg0.N) : t.val < 128 := Nat.lt_of_lt_of_eq t.isLt N_0

variable (m : (ℓ : Loc nD τ sig) → Buf (Elt Ideal) ℓ) (ρ : Dev nD → PrngReg)

theorem idx0_0 : ∀ t : Fin cfg0.N, win0_0.index t = ![t.val / 32, t.val % 32, 0] := (by decide +kernel : ∀ t : Fin grid0.N, win0_0.index t = ![t.val / 32, t.val % 32, 0])
theorem idx0_1 : ∀ t : Fin cfg0.N, win0_1.index t = ![t.val / 32, 0, 0] := (by decide +kernel : ∀ t : Fin grid0.N, win0_1.index t = ![t.val / 32, 0, 0])
theorem idx0_2 : ∀ t : Fin cfg0.N, win0_2.index t = ![t.val / 32, t.val % 32, 0] := (by decide +kernel : ∀ t : Fin grid0.N, win0_2.index t = ![t.val / 32, t.val % 32, 0])

theorem emb0_0 (t : Fin cfg0.N) (r : Fin 32) (j : Fin 3) :
    ((cfg0.win 0).blk t).view.emb (ix3 (0 : Fin 1) r j) = (ix3 (bat t.val (lt0 t)) (smp t.val r) j : S4x1024x3.Idx) := by
  funext a
  refine Fin.ext ?_
  match a with
  | ⟨0, h⟩ => blk_simp [idx0_0] <;> rfl
  | ⟨1, h⟩ => blk_simp [idx0_0] <;> rfl
  | ⟨2, h⟩ => blk_simp [idx0_0] <;> rfl

theorem emb0_1 (t : Fin cfg0.N) (j : Fin 3) (n : Fin 16384) :
    ((cfg0.win 1).blk t).view.emb (ix3 (0 : Fin 1) j n) = (ix3 (bat t.val (lt0 t)) j n : S4x3x16384.Idx) := by
  funext a
  refine Fin.ext ?_
  match a with
  | ⟨0, h⟩ => blk_simp [idx0_1] <;> rfl
  | ⟨1, h⟩ => blk_simp [idx0_1] <;> rfl
  | ⟨2, h⟩ => blk_simp [idx0_1] <;> rfl

theorem emb0_2 (t : Fin cfg0.N) (r : Fin 32) (j : Fin 32) :
    ((cfg0.win 2).blk t).view.emb (ix3 (0 : Fin 1) r j) = (ix3 (bat t.val (lt0 t)) (smp t.val r) j : S4x1024x32.Idx) := by
  funext a
  refine Fin.ext ?_
  match a with
  | ⟨0, h⟩ => blk_simp [idx0_2] <;> rfl
  | ⟨1, h⟩ => blk_simp [idx0_2] <;> rfl
  | ⟨2, h⟩ => blk_simp [idx0_2] <;> rfl

theorem inj0_2 : ∀ t t' : Fin cfg0.N, win0_2.index t = win0_2.index t' → t = t' := fun t t' h => by
  rw [idx0_2, idx0_2] at h
  have h0 : t.val / 32 = t'.val / 32 := congrFun h 0
  have h1 : t.val % 32 = t'.val % 32 := congrFun h 1
  exact Fin.ext (by omega)

theorem disjoint0_2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (inj0_2 t t' h)

theorem blocks0_2 (c : Dev nD) (t : Fin cfg0.N) (y : S1x32x32.Idx) :
    ((dats m 0 c).arrAt 2 cfg0.N : S4x1024x32.Idx → BitVec 32) (((cfg0.win 2).blk t).view.emb y) = (out0_2 (iblk m c 0 t) (iblk m c 1 t) : S1x32x32.Idx → BitVec 32) y := by
  have e := congrFun ((dats m 0 c).read_blk_arrAt_eq_flushed 2 disjoint0_2 cfg0.N t t.isLt (flush0_2 t)) y
  refine Eq.trans e ?_
  show (dats m 0 c).after 2 t y = _
  rw [after0_2]

theorem cast_block (x : S32x32.Idx → BitVec 32) (r j : Fin 32) : shapeCast S1x32x32 x shapeCasts_S32x32_S1x32x32 (ix3 0 r j) = x (ix2 r j) := by
  refine shapeCast_apply _ _ _ _ ?_
  refine (Shape.rowMajor_val_two (d := ![32, 32]) _).trans ((Shape.rowMajor_val_three (d := ![1, 32, 32]) _).trans ?_).symm
  simp [ix2, ix3]

theorem out_apply (x0 : Vec Ideal S1x32x3 .f32) (x1 : Vec Ideal S1x3x16384 .f32) (r j : Fin 32) :
    out0_2 x0 x1 (ix3 0 r j) = BitVec.ofNat 32 (nearest big (fun n => gap (fun c => x0 (ix3 0 r c)) (fun c => x1 (ix3 0 c n))) j.val).val := by
  rw [out_eq, View.canon_unit_zero (by decide)]
  exact (cast_block _ r j).trans (chosen_apply _ _ r (dist_apply x0 x1 r) j)

/-- The squared distance of sample `s` to point `n` in batch `b`. -/
def sqdist (S : S4x1024x3.Idx → EReal) (X : S4x3x16384.Idx → EReal) (b : Fin 4) (s : Fin 1024) (n : Fin 16384) : EReal :=
  gap (fun c => S (ix3 b s c)) fun c => X (ix3 b c n)

/-- The neighbours' indices. -/
def value (S : S4x1024x3.Idx → EReal) (X : S4x3x16384.Idx → EReal) : S4x1024x32.Idx → BitVec 32 :=
  fun i => BitVec.ofNat 32 (nearest big (sqdist S X (i 0) (i 1)) (i 2).val).val

/-- An array whose blocks are the outputs from the samples' and the points' blocks holds the neighbours. -/
theorem arr_of (S : S4x1024x3.Idx → EReal) (X : S4x3x16384.Idx → EReal) (A : S4x1024x32.Idx → BitVec 32)
    (h : ∀ (t : Fin cfg0.N) (y : S1x32x32.Idx), A (((cfg0.win 2).blk t).view.emb y)
      = out0_2 (F := Ideal) (fun y => S (((cfg0.win 0).blk t).view.emb y)) (fun y => X (((cfg0.win 1).blk t).view.emb y)) y)
    (b : Fin 4) (s : Fin 1024) (j : Fin 32) : A (ix3 b s j) = value S X (ix3 b s j) := by
  have ht : b.val * 32 + s.val / 32 < cfg0.N := Nat.lt_of_lt_of_eq (by omega : b.val * 32 + s.val / 32 < 128) N_0.symm
  have hb : bat (b.val * 32 + s.val / 32) (by omega) = b := Fin.ext (by show (b.val * 32 + s.val / 32) / 32 = b.val; omega)
  have hs : smp (b.val * 32 + s.val / 32) ⟨s.val % 32, by omega⟩ = s := Fin.ext (by show (b.val * 32 + s.val / 32) % 32 * 32 + s.val % 32 = s.val; omega)
  have e := h ⟨b.val * 32 + s.val / 32, ht⟩ (ix3 (0 : Fin 1) (⟨s.val % 32, by omega⟩ : Fin 32) j)
  rw [emb0_2, out_apply] at e
  refine Eq.trans ?_ (e.trans ?_)
  · exact congrArg₂ (fun b s => A (ix3 b s j)) hb.symm hs.symm
  · refine congrArg (fun q => BitVec.ofNat 32 (nearest big q j.val).val) (funext fun n => congrArg₂ gap (funext fun k => ?_) (funext fun k => ?_))
    · exact (congrArg S (emb0_0 _ _ k)).trans (congrArg₂ (fun b s => S (ix3 b s k)) hb hs)
    · exact (congrArg X (emb0_1 _ k n)).trans (congrArg (fun b => X (ix3 b k n)) hb)

/-- The array of neighbours. -/
theorem arr0_2 (c : Dev nD) (b : Fin 4) (s : Fin 1024) (j : Fin 32) :
    ((dats m 0 c).arrAt 2 cfg0.N : S4x1024x32.Idx → BitVec 32) (ix3 b s j) = value (V m c main_arg0) (V m c main_arg1) (ix3 b s j) :=
  arr_of _ _ _ (blocks0_2 m c) b s j

/-- Every run ends with the neighbours' indices and the arguments as given. -/
theorem run_value : θ_run defs (onTc (τ := τ) (main (F := Ideal))) ⟨m, fun _ => 0, ρ⟩ (fun r => ∀ c : Dev nD,
      r.2.mem ((c.tc : Thread nD τ).loc main_v0) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (funext fun i => by
        obtain ⟨b, s, j, rfl⟩ : ∃ b s j, i = (ix3 b s j : S4x1024x32.Idx) := ⟨i 0, i 1, i 2, by funext a; fin_cases a <;> rfl⟩
        exact arr0_2 m c b s j),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Proof.NearRun

end
-- ==== Proof.NearRef.lean ====
/-
  The neighbours' reference program: its printed result, read element by element, is the points of the rounds wherever
  every squared distance is below the value the rounds put in the place of a chosen one.
-/
module

public import proofs.«01_k».proof.Proof.NearRun
public import proofs.«01_k».proof.Proof.Gen.NeighboursReferenceIdeal.Run
public import proofs.«01_k».proof.Proof.Gen.Pre_below_big
public import Idealize.ShloMosaic.Lib.ReduceAll
public import Idealize.ShloMosaic.Lib.Pointwise
public import Idealize.ShloMosaic.Lib.IdealHost

@[expose] public section

noncomputable section

namespace Cert.Proof.NearRef

open Cert.NeighboursReferenceIdeal Cert.NeighboursReferenceIdeal.Gen Cert.NeighboursReferenceIdeal.Value Cert.Proof.NearSpec
open Cert.Proof.NearPay (big gap)
open Cert.Proof.NearRun (sqdist value)
open Idealize.ShloMosaic Idealize.ShloMosaic.TcCoe Idealize.SL.Sem

/-- The squared distances as the program names them. -/
def d2 (S : FVec Ideal S4x1024x3 .f32) (X : FVec Ideal S4x3x16384 .f32) : FVec Ideal S4x1024x16384 .f32 :=
  addf (subf (broadcastInDim S4x1024x16384 ![0, 1, 2] bcast_S4x1024x1_S4x1024x16384_0_1_2 (broadcastInDim S4x1024x1 ![0, 1] bcast_S4x1024_S4x1024x1_0_1 (Host.reduceAdd (mulf S S) (constant S_ .f32 0x00000000#32) reducesTo_S4x1024x3_S4x1024_d2 h_S_)))
      (mulf (broadcastInDim S4x1024x16384 ![] bcast_S_S4x1024x16384 (constant S_ .f32 0x40000000#32)) (Host.dotGeneral dot_S4x1024x3_S4x16384x3_S4x1024x16384_2_2_1_1_0_0 none S (transpose S4x16384x3 [0, 2, 1] X transposes_S4x3x16384_S4x16384x3_0_2_1))))
    (broadcastInDim S4x1024x16384 ![0, 1, 2] bcast_S4x1x16384_S4x1024x16384_0_1_2 (broadcastInDim S4x1x16384 ![0, 2] bcast_S4x16384_S4x1x16384_0_2 (Host.reduceAdd (mulf (transpose S4x16384x3 [0, 2, 1] X transposes_S4x3x16384_S4x16384x3_0_2_1) (transpose S4x16384x3 [0, 2, 1] X transposes_S4x3x16384_S4x16384x3_0_2_1)) (constant S_ .f32 0x00000000#32) reducesTo_S4x16384x3_S4x16384_d2 h_S_)))

theorem d2_apply (S : FVec Ideal S4x1024x3 .f32) (X : FVec Ideal S4x3x16384 .f32) (b : Fin 4) (s : Fin 1024) (n : Fin 16384) :
    d2 S X (ix3 b s n) = sqdist S X b s n := by
  unfold d2 sqdist gap
  pointwise
  simp only [Fin.sum_univ_three]

theorem sort2_snd {s : Shape} {α β : Type} (d : ℕ) (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The `j`-th of the greatest elements' positions is the `j`-th of the sorted positions. -/
theorem topK_snd {s t : Shape} {α : Type} (d : ℕ) (hd : d < s.rank) (gt : α → α → BitVec 1) (x : s.Idx → α) (h : s.Slices (fun _ => 0) t) (j : t.Idx) :
    (Host.topK t d gt x h).2 j = BitVec.ofNat 32 (sortedFrom (fun k k' =>
      gt (x (Shape.Idx.along (fun a => ⟨0 + (j (a.cast h.1.symm)).val, Nat.lt_of_lt_of_le (Nat.add_lt_add_left (j _).isLt _) (h.2 a)⟩) ⟨d, hd⟩ k))
        (x (Shape.Idx.along (fun a => ⟨0 + (j (a.cast h.1.symm)).val, Nat.lt_of_lt_of_le (Nat.add_lt_add_left (j _).isLt _) (h.2 a)⟩) ⟨d, hd⟩ k')) == 1#1)
      (⟨0 + (j ((⟨d, hd⟩ : Fin s.rank).cast h.1.symm)).val, Nat.lt_of_lt_of_le (Nat.add_lt_add_left (j _).isLt _) (h.2 _)⟩ : Fin (s.size ⟨d, hd⟩))).val := by
  refine (sort2_snd d hd _ _ _ _).trans ?_
  dsimp only
  rw [dif_pos hd]
  unfold iotaInDim Shape.Idx.along
  rw [Function.update_self]

theorem top_apply (D : FVec Ideal S4x1024x16384 .f32) (b : Fin 4) (s : Fin 1024) (q : Fin 16384 → EReal) (hD : ∀ n, D (ix3 b s n) = q n)
    (hq : ∀ n, q n < big) (j : Fin 32) :
    (Host.topK S4x1024x32 2 (FloatOps.cmpfTotal .gt) (Host.negf D) sliceFits_S4x1024x16384_S4x1024x32).2 (ix3 b s j) = BitVec.ofNat 32 (nearest big q j.val).val := by
  have ha : ∀ (i : S4x1024x16384.Idx) (n : Fin 16384), i 0 = b → i 1 = s → i.along 2 n = ix3 b s n := fun i n h0 h1 => by
    funext a
    fin_cases a
    · exact h0
    · exact h1
    · rfl
  have key : ∀ i : S4x1024x16384.Idx, i 0 = b → i 1 = s → (i 2).val = j.val →
      (sortedFrom (fun k k' : Fin 16384 => FloatOps.cmpfTotal .gt (Host.negf D (i.along 2 k)) (Host.negf D (i.along 2 k')) == 1#1) (i 2)) = nearest big q j.val := fun i h0 h1 h2 => by
    refine sortedFrom_key hq _ (fun p p' => ?_) _ j h2
    rw [ha i p h0 h1, ha i p' h0 h1]
    show (Ideal.cmp .ogt (-(D (ix3 b s p) : EReal)) (-(D (ix3 b s p') : EReal)) == 1#1) = _
    rw [hD, hD]
    by_cases h : q p < q p'
    · simp [Ideal.cmp, h]
    · simp [Ideal.cmp, h]
  refine (topK_snd (s := S4x1024x16384) (t := S4x1024x32) 2 (by decide) (FloatOps.cmpfTotal .gt) (Host.negf D) sliceFits_S4x1024x16384_S4x1024x32 (ix3 b s j)).trans ?_
  refine congrArg (BitVec.ofNat 32) ?_
  refine congrArg Fin.val ?_
  refine key _ ?_ ?_ ?_
  · exact Fin.ext (Nat.zero_add _)
  · exact Fin.ext (Nat.zero_add _)
  · exact Nat.zero_add _

instance : Subsingleton S_.Idx := ⟨fun _ _ => funext fun a => a.elim0⟩

/-- Where the precondition holds, the program's result is the rounds' points. -/
theorem result (S : FVec Ideal S4x1024x3 .f32) (X : FVec Ideal S4x3x16384 .f32) (h : Cert.Pre_below_big.fn (F := Ideal) S X = fun _ => 1#1) :
    (Host.topK S4x1024x32 2 (FloatOps.cmpfTotal .gt) (Host.negf (d2 S X)) sliceFits_S4x1024x16384_S4x1024x32).2 = value S X := by
  have hb : ∀ b s n, sqdist S X b s n < big := fun b s n => by
    have e := congrFun h ix0
    unfold Cert.Pre_below_big.fn at e
    have e0 := Host.reduce_andi_all _ _ _ _ ix0 e (ix3 b s n)
    have e1 : Ideal.cmp .olt (d2 S X (ix3 b s n)) big = 1#1 := e0
    rw [d2_apply] at e1
    by_contra hc
    simp [Ideal.cmp, hc] at e1
  funext i
  obtain ⟨b, s, j, rfl⟩ : ∃ b s j, i = (ix3 b s j : S4x1024x32.Idx) := ⟨i 0, i 1, i 2, by funext a; fin_cases a <;> rfl⟩
  exact top_apply (d2 S X) b s (sqdist S X b s) (d2_apply S X b s) (hb b s) j

end Cert.Proof.NearRef

end
-- ==== Proof.NearClaims.lean ====
/-
  The neighbours' claims: their frames, and that both programs end with the same indices where the precondition holds.
-/
module

public import proofs.«01_k».proof.Defs
public import proofs.«01_k».proof.Proof.NearRun
public import proofs.«01_k».proof.Proof.NearRef

@[expose] public section

noncomputable section

namespace Cert.Proof.NearClaims

open Idealize.ShloMosaic Idealize.ShloMosaic.TcCoe Idealize.SL.Sem

/-- `Cert.quiescent_NeighboursReferenceIdeal` (Defs.lean): host operations alone, on a signature without semaphores. -/
theorem frame_reference : Cert.quiescent_NeighboursReferenceIdeal := fun m ρ _ =>
  (θ_run Cert.NeighboursReferenceIdeal.defs _ _).mono (fun _ h => ⟨fun c => (h c).2, funext fun x => nomatch x.2⟩)
    (Cert.NeighboursReferenceIdeal.Value.run m ρ)

/-- `Cert.algebraic_NeighboursIdeal_NeighboursReferenceIdeal_pre_below_big` (Defs.lean): both programs end with the common
    indices. -/
theorem algebraic : Cert.algebraic_NeighboursIdeal_NeighboursReferenceIdeal_pre_below_big := fun m g m' g' hp hm =>
  ⟨fun c => NearRun.value (m ((c.tc : Thread Cert.NeighboursIdeal.nD Cert.NeighboursIdeal.τ).loc Cert.NeighboursIdeal.main_arg0))
      (m ((c.tc : Thread Cert.NeighboursIdeal.nD Cert.NeighboursIdeal.τ).loc Cert.NeighboursIdeal.main_arg1)), NearRun.run_value m g,
    (θ_run Cert.NeighboursReferenceIdeal.defs _ _).mono (fun r h c => ⟨by
        refine (h c).1.trans ?_
        rw [(hm c).1, (hm c).2]
        exact NearRef.result _ _ (hp c), (h c).2⟩)
      (Cert.NeighboursReferenceIdeal.Value.run m' g')⟩

end Cert.Proof.NearClaims

end
-- ==== Proof.WholeTile.lean ====
/-
  One vector subcore's task of the gather kernel, in the program that runs all six calls.
-/
module

public import proofs.«01_k».proof.Defs
public import proofs.«01_k».proof.Proof.Chunk
public import Idealize.ShloMosaic.Lib.SparseCore.Quiescent
public import Idealize.ShloMosaic.Lib.SparseCore.Ops
public import Idealize.ShloMosaic.Lib.StableHlo.Run
public import Idealize.ShloMosaic.Lib.ShareLeaves
public import Idealize.ShloMosaic.Lib.Pipeline.Kit
public import Idealize.ShloMosaic.Lib.Pipeline.FrameBody
public import Idealize.ShloMosaic.Lib.Tactic
public import proofs.«01_k».proof.Proof.Gen.WholeIdeal
public import proofs.«01_k».proof.Proof.Gen.WholeIdeal.Skeleton

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunk

variable {F : FTy → Type}

/-! ## The program as the launch theorem sees it -/

abbrev ΛP : Labels := Pipeline.Sig Λ₀ (Fin 5) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-- What a region's invariant holds at every point: the scoped buffers no window stages, and the generator's register. -/
abbrev ΦW {gr W : Nat} (win : Fin W → Pipeline.WinSpec sig gr) (c : Dev nD) : sProp 𝕄 :=
  iprop(Pipeline.scopedRest win c ∗ ∃ r, prngReg c r)

abbrev iV : Memref sig .scVector .hbm S131072 .i32 := Memref.whole main_v3_scv
abbrev xV : Memref sig .scVector .hbm S196608 .f32 := Memref.whole main_v4_scv
abbrev oV : Memref sig .scVector .hbm S2097152 .f32 := Memref.whole main_v5_scv
abbrev sX : Memref sig .scVector .vmem S16384 .f32 := Memref.whole cc2_scratch0
abbrev sY : Memref sig .scVector .vmem S16384 .f32 := Memref.whole cc2_scratch1
abbrev sZ : Memref sig .scVector .vmem S16384 .f32 := Memref.whole cc2_scratch2
abbrev sI : Memref sig .scVector .vmem S128 .i32 := Memref.whole cc2_scratch3
abbrev sO : Memref sig .scVector .vmem S2048 .f32 := Memref.whole cc2_scratch4

abbrev cV (L : grid2.Coords) : Fin τ.nSC := (L 0).castLE hcore2
abbrev jV (L : grid2.Coords) : Fin τ.nSub := (L 1).castLE hsub2

variable [FloatOps F]

section Tile

variable (d : Dev nD) (L : grid2.Coords)
abbrev VT : Thread nD τ := V d (cV L) (jV L)

theorem chk {w : S128.Idx → BitVec 32} (fi : (sI).view.ty.Contents (Elt F)) (hw : ∀ j, (w j).toNat < 16384) (o : Fin 1 → Nat) (ho : ∀ a, o a + S16.size a ≤ S128.size a) :
    k2_chk1 ((sI).view.readAt (Elt F) (Rect.unit (s := S128) o S16.size ho).toLoadRect ((sI).view.write (Elt F) fi w Finset.univ)) :=
  ⟨chk_load sI fi hw o ho, chk_load sI fi hw o ho, chk_load sI fi hw o ho⟩

abbrev oChunk (t : Fin k2_t1_loop.trips) : Memref sig .scVector .hbm S2048 .f32 :=
  (oV : Memref sig .scVector .hbm S2097152 .f32).slice (Rect.unit (s := S2097152) (k2_off3 L t) S2048.size (k2_off3_inb L t)) (fun _ => rfl)

set_option maxHeartbeats 1600000 in
theorem trip (O : CellTallies nD τ sig (HIx 1)) (W : Waits sig (HIx 1)) (t : Fin k2_t1_loop.trips) (q : PosShare TreeShare)
    (I : Buf (Elt F) ((iV).view.loc (VT d L))) (hI : ∀ j : S131072.Idx, (I j : BitVec 32).toNat < 16384)
    (px : Buf (Elt F) ((sX).view.loc (VT d L))) (py : Buf (Elt F) ((sY).view.loc (VT d L))) (pz : Buf (Elt F) ((sZ).view.loc (VT d L)))
    (fi : Buf (Elt F) ((sI).view.loc (VT d L))) (fo : Buf (Elt F) ((sO).view.loc (VT d L))) (g : Buf (Elt F) ((oV).view.loc (VT d L))) (v19 : BitVec 32) :
    iprop(Transfers.MayWaits (VT d L) (none : HIx 1) O
      ∗ ((iV).view.loc (VT d L) ↦{q} I)
      ∗ ((sX).view.loc (VT d L) ↦{fullShare} px) ∗ ((sY).view.loc (VT d L) ↦{fullShare} py) ∗ ((sZ).view.loc (VT d L) ↦{fullShare} pz)
      ∗ ((sI).view.loc (VT d L) ↦{fullShare} fi) ∗ ((sO).view.loc (VT d L) ↦{fullShare} fo)
      ∗ ((oChunk L t).view.loc (VT d L) ↦[(oChunk L t).view.set]{fullShare} g)
      ∗ semVal (VT d L, SemLoc.dma cc2_scoped3.sem) 0 ∗ semVal (VT d L, SemLoc.dma cc2_scoped4.sem) 0
      ∗ owes (VT d L) O W : sProp 𝕄)
      ⊢ wp frame (wpE (defs₀ (F := F)) 𝒱₀ (VT d L) none) Set.univ
          (k2_t1_body (F := F) L iV (Memref.isWhole_whole _) xV (Memref.isWhole_whole _) oV (Memref.isWhole_whole _)
            sX (Memref.isWhole_whole _) sY (Memref.isWhole_whole _) sZ (Memref.isWhole_whole _) sI (Memref.isWhole_whole _) sO (Memref.isWhole_whole _)
            cc2_scoped0 cc2_scoped1 cc2_scoped2 cc2_scoped3 cc2_scoped4 v19 (iota .scVector S16 32 [0] iota_S16_d0_w32_scVector) t ⟨⟩)
          fun _ => iprop(Transfers.MayWaits (VT d L) (none : HIx 1) O
            ∗ ((iV).view.loc (VT d L) ↦{q} I)
            ∗ ((sX).view.loc (VT d L) ↦{fullShare} px) ∗ ((sY).view.loc (VT d L) ↦{fullShare} py) ∗ ((sZ).view.loc (VT d L) ↦{fullShare} pz)
            ∗ (∃ fi, (sI).view.loc (VT d L) ↦{fullShare} fi) ∗ (∃ fo, (sO).view.loc (VT d L) ↦{fullShare} fo)
            ∗ (∃ g, ⌜ChunkOk (k2_off2 L t 0) I ![px, py, pz] g⌝ ∗ (oChunk L t).view.loc (VT d L) ↦[(oChunk L t).view.set]{fullShare} g)
            ∗ semVal (VT d L, SemLoc.dma cc2_scoped3.sem) 0 ∗ semVal (VT d L, SemLoc.dma cc2_scoped4.sem) 0
            ∗ ∃ W', ⌜∀ p ∈ W', p ∈ W ∨ p.2 = none⌝ ∗ owes (VT d L) O W') := by
  unfold k2_t1_body
  rw [k2_part1_eq_skeleton, k2_part2_eq_skeleton, k2_part3_eq_skeleton]
  unfold k2_part1_skel k2_part2_skel k2_part3_skel SparseCore.vectorLoadIdx SparseCore.vectorStoreIdx
  iintro ⟨Hmw, Hi, Hx, Hy, Hz, Hsi, Hso, Ho, Hs3, Hs4, HO⟩
  sl_exec (disch := first | (exact chk _ (fun j => hI _) _ _) | decide +kernel)
  have hD : Done (F := F) ![px, py, pz] (trip.sl.dma0 d L t I) 24 (trip.sl.dma80 d L t I hI px py pz fi fo) := by
    refine Done.step (F := F) sO ![px, py, pz] (trip.sl.dma0 d L t I) 7 2 (by decide +kernel) (fun x j p hj hp => load_val (F := F) sI fi sZ pz _ _ _ _ x j p hj hp) 23 rfl ?_ _ _
    refine Done.stepCov (F := F) sO ![px, py, pz] (trip.sl.dma0 d L t I) _ (by decide +kernel) (fun x j p hj hp => load_val (F := F) sI fi sY py _ _ _ _ x j p hj hp) _ ?_
    refine Done.stepCov (F := F) sO ![px, py, pz] (trip.sl.dma0 d L t I) _ (by decide +kernel) (fun x j p hj hp => load_val (F := F) sI fi sX px _ _ _ _ x j p hj hp) _ ?_
    iterate 7
      refine Done.stepCov (F := F) sO ![px, py, pz] (trip.sl.dma0 d L t I) _ (by decide +kernel) (fun x j p hj hp => load_val (F := F) sI fi sZ pz _ _ _ _ x j p hj hp) _ ?_
      refine Done.stepCov (F := F) sO ![px, py, pz] (trip.sl.dma0 d L t I) _ (by decide +kernel) (fun x j p hj hp => load_val (F := F) sI fi sY py _ _ _ _ x j p hj hp) _ ?_
      refine Done.stepCov (F := F) sO ![px, py, pz] (trip.sl.dma0 d L t I) _ (by decide +kernel) (fun x j p hj hp => load_val (F := F) sI fi sX px _ _ _ _ x j p hj hp) _ ?_
    exact Done.zero _ _ _
  have hC := chunkOk_of_done iV oV (k2_off2 L t) (k2_off3 L t) (k2_off2_inb L t) (k2_off3_inb L t)
    (by rw [k2_off2_eq, k2_off3_eq]; show _ + _ + _ = 16 * (_ + _ + _); omega) I ![px, py, pz] g _ hD
  sl_step
  isplitl [Hmw]; · iexact Hmw
  isplitl [Hi]; · iexact Hi
  isplitl [Hx]; · iexact Hx
  isplitl [Hy]; · iexact Hy
  isplitl [Hz]; · iexact Hz
  isplitl [Hsi]; · iexists _; iexact Hsi
  isplitl [Hso]; · iexists _; iexact Hso
  isplitl [Ho]
  · iexists _; isplitr; · ipureintro; exact hC
    iexact Ho
  isplitl [Hs3]; · iexact Hs3
  isplitl [Hs4]; · iexact Hs4
  iexists _; isplitr; rotate_left
  · iexact HO
  · ipureintro; intro p hp
    rcases Finset.mem_insert.mp hp with rfl | hp
    · exact .inr rfl
    rcases Finset.mem_insert.mp hp with rfl | hp
    · exact .inr rfl
    · exact .inl hp

end Tile
end Cert.Proof.Whole
end
-- ==== Proof.WholeSeg.lean ====
/-
  One pipelined call inside the whole program: from every array of the device at some contents to every array at the contents
  the call leaves, while the core still owes the later call's signals.
-/
module

public import proofs.«01_k».proof.Proof.WholeTile
public import proofs.«01_k».proof.Proof.Gen.WholeIdeal.Launch
public import Idealize.ShloMosaic.Lib.Pipeline.RegionArraysS

@[expose] public section

noncomputable section

namespace Cert.Proof.Whole

open Cert.WholeIdeal Cert.WholeIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Idealize.ShloMosaic.StableHlo (held)

variable {F : FTy → Type} [FloatOps F]
local notation "𝕄" => MT nD τ sig (HIx 1) (Elt F) ℕ UU ℕ

abbrev adm : (p : Fin 5) → (pcfgs (F := F) p).Adm := fun p => (cfgs p).toPCfg_adm

/-- The pairs of a semaphore and a stage at or below a level. -/
def low (b : ℕ) (c : Dev nD) : Set (SemLoc sig × HIx 1) := {q | (K (F := F)).lev (T c, q.1) q.2 ≤ b}

/-- What the core owes, its recorded pairs below a level. -/
def owed (O : Dev nD → CellTallies nD τ sig (HIx 1)) (b : ℕ) (c : Dev nD) : sProp 𝕄 :=
  iprop(∃ W, ⌜(K (F := F)).WBelow (T c) W b⌝ ∗ owes (T c) (O c) W)

abbrev ucs : Finset (DevRef τ sig) := Pipeline.ucRefs τ sig

section Seg

variable (O : Dev nD → CellTallies nD τ sig (HIx 1)) (b : ℕ) (w : Valuation τ sig (Elt F)) (p : Fin 5)
  (pdats : (p : Fin 5) → (c : Dev nD) → Dat τ (Elt F) (HIx 1) ℕ UU ℕ (Pipeline.pin (pcfgs (F := F)) adm p) c)

/-- What the proof data of a call must be, for the call to run from the arrays at `w`. -/
structure DatOk : Prop where
  body : ∀ c, Pipeline.BodyObligationLoose (pdats p c) (defs₀ (F := F)) Variants.none none Set.univ
  owed : ∀ c t, (pdats p c).owed t = O c
  recd : ∀ c t, (pdats p c).recorded t = low (F := F) b c
  share : ∀ c w', (pdats p c).share w' = fullShare
  inv : ∀ c t, (pdats p c).Φ t = ΦW (Pipeline.pin (pcfgs (F := F)) adm p).spec c
  start : ∀ c w', (pdats p c).arrAt w' 0 = w (Proc.devRef .tc (Pipeline.arrRef (Pipeline.pin (pcfgs (F := F)) adm p).spec w'))

variable (kit : Pipeline.PLaunchFacts (nD := nD) (τ := τ) (pcfgs (F := F)) p) (hK : (pcfgs (F := F) p).pre.K = 0)
  (hO : ∀ c g i, 0 < O c g i → b < (K (F := F)).lev g i) (ok : DatOk O b w p pdats)

/-- The arrays after the call. -/
abbrev wAfter (c : Dev nD) : Valuation τ sig (Elt F) := Pipeline.afterRegion (pdats p c) w

set_option backward.isDefEq.respectTransparency.types false in
def seg : Pipeline.RegionSeg (pcfgs (F := F)) adm pdats none (defs₀ (F := F)) Variants.none (K (F := F)).L (K (F := F)).lev p where
  win := kit.to₀.win
  block_pos := kit.block_pos
  stage_whole := kit.stage_whole
  K := PEmpty
  osem k := k.elim
  ho := Pipeline.OwnSemFacts.none _
  hbody := ok.body
  hwaits c := Pipeline.cellsWaits_of_cut (Pipeline.pin (pcfgs (F := F)) adm) pdats none p c b (O c) (ok.owed c) (fun _ _ => Finset.mem_univ _)
    (fun _ _ => Nat.zero_le _) (fun g i h => ⟨Finset.mem_univ _, hO c g i h⟩)
  pre c := iprop(held (T c) ucs w ∗ (∃ r, prngReg c r) ∗ owed O b c)
  post c := iprop(held (T c) ucs (wAfter w p pdats c) ∗ (∃ r, prngReg c r) ∗ owed O b c)
  X c := iprop(∃ r, prngReg c r)
  Y c := iprop(∃ r, prngReg c r)
  Z c := held (T c) (ucs \ Pipeline.arrRefs (pcfgs (F := F) p).spec) w
  hentry c := by
    rw [Pipeline.ownSems0_none, Pipeline.prefHeld_of_none _ hK,
      StableHlo.held_sub_split (T c) (Pipeline.arrRefs_sub_ucRefs (pcfgs (F := F) p).spec kit.win.arr_unscoped) w,
      ← Pipeline.arrays_held (pcfgs (F := F)) adm pdats p kit c (ok.share c) ((pdats p c).arrAt · 0) w (ok.start c)]
    iintro ⟨⟨⟨Ha, HZ⟩, HX, HO⟩, -, -⟩
    imodintro
    isplitl [Ha]; · iexact Ha
    isplitr; · iempintro
    isplitl [HO]
    · unfold Pipeline.Dat.owesAt Pipeline.owesWithin Pipeline.Dat.bound owed
      rw [ok.owed c 0, ok.recd c 0]
      icases HO with ⟨%W, %hW, HO⟩; iexists W; isplitr; · ipureintro; exact fun q hq => Or.inl (hW q hq)
      iexact HO
    isplitl [HX]; · iexact HX
    iexact HZ
  hin c := by
    rw [ok.inv c]
    iintro ⟨HX, -, Hr⟩
    isplitl [Hr]; · iexact Hr
    iexact HX
  hout c := by
    rw [Pipeline.ownSems0_none, ok.inv c]
    iintro ⟨Hr, HY⟩
    isplitl [HY]; · iexact HY
    isplitr; · iempintro
    iexact Hr
  hexit c := by
    rw [StableHlo.held_sub_split (T c) (Pipeline.arrRefs_sub_ucRefs (pcfgs (F := F) p).spec kit.win.arr_unscoped) (wAfter w p pdats c),
      StableHlo.held_congr (T c) (S := ucs \ Pipeline.arrRefs (pcfgs (F := F) p).spec) (V := wAfter w p pdats c) (V' := w) (Pipeline.afterRegion_off (pdats p c) w ucs),
      ← Pipeline.arrays_held (pcfgs (F := F)) adm pdats p kit c (ok.share c) ((pdats p c).arrAt · (Pipeline.pin (pcfgs (F := F)) adm p).N) (wAfter w p pdats c)
        (fun w' => (Pipeline.afterRegion_arr (pdats p c) w kit.win.arr_inj w').symm)]
    iintro ⟨Ha, HO, HY, HZ⟩
    imodintro
    isplitl [Ha HZ]
    · isplitl [Ha]; · iexact Ha
      iexact HZ
    isplitl [HY]; · iexact HY
    unfold Pipeline.Dat.owesAt Pipeline.owesWithin Pipeline.Dat.bound owed
    rw [ok.owed c (Fin.last _), ok.recd c (Fin.last _)]
    icases HO with ⟨%W, %hW, HO⟩; iexists W; isplitr
    · ipureintro
      intro q hq
      rcases hW hq with h | ⟨w', s, h⟩
      · exact h
      · rw [h]; exact Nat.zero_le _
    iexact HO

/-- What the launch dealt one pipelined call. -/
def ghost (p : Fin 5) (c : Dev nD) : sProp 𝕄 :=
  iprop(Pipeline.cellsGhost (Pipeline.pin (pcfgs (F := F)) adm) EP p c ∗ Pipeline.toksInit (Pipeline.pin (pcfgs (F := F)) adm) EP p c)

/-- A call's entry, in the program of the pipelined calls alone. -/
def entryProg (p : Fin 5) : Prog (TpuEff nD τ sig (Elt F) (ΛP (F := F)) .tc) PUnit :=
  .op (.customCall (Pipeline.entry p) ()) fun _ => .ret ⟨⟩

theorem inner_entry (p : Fin 5) : (Prog.lift (.customCall (SparseCore.inner (Pipeline.entry p)) ())
    : Prog (TpuEff nD τ sig (Elt F) (SparseCore.Sig (ΛP (F := F)) 1) .tc) PUnit)
      = SparseCore.liftProg (nD := nD) (sig := sig) (Val := Elt F) (Q := 1) (pr := (Proc.tc : Proc τ)) (entryProg (F := F) p) := rfl

abbrev segAt := seg O b w p pdats kit hK hO ok

set_option backward.isDefEq.respectTransparency.types false in
set_option maxHeartbeats 2000000 in
include kit hK hO ok in
theorem entry_step [∀ e, Nonempty (Elt F e)] (c : Dev nD) (Q : PUnit → sProp 𝕄) :
    iprop(((boundary (T c) ∗ held (T c) ucs (wAfter w p pdats c) ∗ (∃ r, prngReg c r) ∗ owed O b c) -∗ wp frame (wpE (D (F := F)) 𝒱 (T c) none) Set.univ (.ret ⟨⟩) Q)
        ∗ boundary (T c) ∗ (held (T c) ucs w ∗ (∃ r, prngReg c r) ∗ owed O b c) ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE (D (F := F)) 𝒱 (T c) none) Set.univ (entryProg p) Q := by
  have h := Pipeline.RegionSeg.wp (pcfgs (F := F)) adm pdats none (kit.cellOf_inj adm) EP (defs₀ (F := F)) Variants.none
    (K (F := F)).L (K (F := F)).lev (segAt O b w p pdats kit hK hO ok) c none (fun _ h => nomatch h) (α := PUnit) (fun _ => .ret ⟨⟩) Q
  exact h

include kit hK hO ok in
/-- The call runs, in the whole program. -/
theorem call_step [∀ e, Nonempty (Elt F e)] (c : Dev nD) {α : Type}
    (k : PUnit → Prog (TpuEff nD τ sig (Elt F) (SparseCore.Sig (ΛP (F := F)) 1) .tc) α) (Q : α → sProp 𝕄) :
    iprop(((boundary (T c) ∗ held (T c) ucs (wAfter w p pdats c) ∗ (∃ r, prngReg c r) ∗ owed O b c)
          -∗ wp frame (wpE ((K (F := F)).defs (D (F := F))) 𝒱 (T c) none) Set.univ (k ⟨⟩) Q)
        ∗ boundary (T c) ∗ (held (T c) ucs w ∗ (∃ r, prngReg c r) ∗ owed O b c) ∗ levAts (K (F := F)).L (K (F := F)).lev ∗ ghost p c)
      ⊢ wp frame (wpE ((K (F := F)).defs (D (F := F))) 𝒱 (T c) none) Set.univ
          ((Prog.lift (.customCall (SparseCore.inner (Pipeline.entry p)) ())
            : Prog (TpuEff nD τ sig (Elt F) (SparseCore.Sig (ΛP (F := F)) 1) .tc) PUnit) >>= k) Q := by
  rw [wp_bind, inner_entry p]
  unfold ghost
  iintro ⟨Hk, Hb, Hpre, Hl, Hg⟩
  iapply ((K (F := F)).wp_liftProg (D (F := F)) 𝒱 (T c) Set.univ none (entryProg p) _)
  iapply (entry_step O b w p pdats kit hK hO ok c _)
  isplitl [Hk]
  · iintro ⟨Hb, Hpost⟩
    rw [wp_ret]; imodintro
    iapply Hk
    isplitl [Hb]; · iexact Hb
    iexact Hpost
  iframe Hb Hpre Hl Hg

end Seg

end Cert.Proof.Whole
end
-- ==== Proof.WholeHost.lean ====
/-
  The whole program's straight-line stretches between its calls, and the program as their chain.
-/
module

public import proofs.«01_k».proof.Proof.Gen.WholeIdeal.Launch
public import Idealize.ShloMosaic.Lib.Pipeline.Regions
public import Idealize.ShloMosaic.Lib.StableHlo.Run

@[expose] public section

noncomputable section

namespace Cert.Proof.Whole

open Cert.WholeIdeal Cert.WholeIdeal.Gen

open Idealize.ShloMosaic Idealize.ShloMosaic.TcCoe
open Idealize.SL Idealize.SL.RA Idealize.SL.BI
open Idealize.SL.BI.BIBase Idealize.SL.Sem

variable {F : FTy → Type} [FloatOps F]

abbrev hostOps0 : List (HloOp τ sig (Elt F)) :=
  [ StableHlo.reshape main_arg0 main_v0 (rfl : (.f32 : EltTy) = .f32) shapeCasts_S4x3x16384_S4x3x8x2048 ]

theorem hostOps0_sub : (hostOps0 : List (HloOp τ sig (Elt F))).Forall fun op => op.bufs ⊆ StableHlo.tcRefs τ sig :=
  StableHlo.reshape_bufs_sub ..

theorem hostOps0_fresh : (hostOps0 : List (HloOp τ sig (Elt F))).Forall fun op => op.fresh = ∅ := by
  simp only [List.Forall]; repeat' constructor

abbrev hostOps1 : List (HloOp τ sig (Elt F)) :=
  [ StableHlo.reshape main_v2 main_v3 (rfl : (.i32 : EltTy) = .i32) shapeCasts_S4x1024x32_S131072,
    StableHlo.reshape main_arg0 main_v4 (rfl : (.f32 : EltTy) = .f32) shapeCasts_S4x3x16384_S196608 ]

theorem hostOps1_sub : (hostOps1 : List (HloOp τ sig (Elt F))).Forall fun op => op.bufs ⊆ StableHlo.tcRefs τ sig :=
  ⟨StableHlo.reshape_bufs_sub .., StableHlo.reshape_bufs_sub ..⟩

theorem hostOps1_fresh : (hostOps1 : List (HloOp τ sig (Elt F))).Forall fun op => op.fresh = ∅ := by
  simp only [List.Forall]; repeat' constructor

abbrev hostOps2 : List (HloOp τ sig (Elt F)) :=
  [ StableHlo.reshape main_v5 main_v6 (rfl : (.f32 : EltTy) = .f32) shapeCasts_S2097152_S131072x16,
    StableHlo.reshape main_v1 main_v7 (rfl : (.f32 : EltTy) = .f32) shapeCasts_S4x1024x3_S4096x3,
    StableHlo.unary main_arg1 main_v8 ((transpose S3x64 [1, 0] · transposes_S64x3_S3x64_1_0) : (⟨S64x3, .f32⟩ : BufTy).Contents (Elt F) → (⟨S3x64, .f32⟩ : BufTy).Contents (Elt F)) ]

theorem hostOps2_sub : (hostOps2 : List (HloOp τ sig (Elt F))).Forall fun op => op.bufs ⊆ StableHlo.tcRefs τ sig :=
  ⟨StableHlo.reshape_bufs_sub .., StableHlo.reshape_bufs_sub .., StableHlo.unary_bufs_sub ..⟩

theorem hostOps2_fresh : (hostOps2 : List (HloOp τ sig (Elt F))).Forall fun op => op.fresh = ∅ := by
  simp only [List.Forall]; repeat' constructor

abbrev hostOps3 : List (HloOp τ sig (Elt F)) :=
  [ StableHlo.unary main_v9_1 main_v10 ((extractStridedSlice S32x1x64 ![0, 0, 0] · slices_S32x2x64_S32x1x64_0_0_0) : (⟨S32x2x64, .f32⟩ : BufTy).Contents (Elt F) → (⟨S32x1x64, .f32⟩ : BufTy).Contents (Elt F)),
    StableHlo.reshape main_v10 main_v11 (rfl : (.f32 : EltTy) = .f32) shapeCasts_S32x1x64_S32x64,
    StableHlo.nullary main_cst (constant S_ .f32 0x00000000#32),
    StableHlo.binary main_v11 main_cst main_v12 ((fun x v => Host.reduceAdd x v reducesTo_S32x64_S64_d0 h_S_) : (⟨S32x64, .f32⟩ : BufTy).Contents (Elt F) → (⟨S_, .f32⟩ : BufTy).Contents (Elt F) → (⟨S64, .f32⟩ : BufTy).Contents (Elt F)),
    StableHlo.unary main_v9_1 main_v13 ((extractStridedSlice S32x1x64 ![0, 1, 0] · slices_S32x2x64_S32x1x64_0_1_0) : (⟨S32x2x64, .f32⟩ : BufTy).Contents (Elt F) → (⟨S32x1x64, .f32⟩ : BufTy).Contents (Elt F)),
    StableHlo.reshape main_v13 main_v14 (rfl : (.f32 : EltTy) = .f32) shapeCasts_S32x1x64_S32x64,
    StableHlo.nullary main_cst_0 (constant S_ .f32 0x00000000#32),
    StableHlo.binary main_v14 main_cst_0 main_v15 ((fun x v => Host.reduceAdd x v reducesTo_S32x64_S64_d0 h_S_) : (⟨S32x64, .f32⟩ : BufTy).Contents (Elt F) → (⟨S_, .f32⟩ : BufTy).Contents (Elt F) → (⟨S64, .f32⟩ : BufTy).Contents (Elt F)),
    StableHlo.nullary main_cst_1 (constant S_ .f32 0x48000000#32),
    StableHlo.unary main_cst_1 main_v16 (broadcastInDim S64 ![] bcast_S_S64 : (⟨S_, .f32⟩ : BufTy).Contents (Elt F) → (⟨S64, .f32⟩ : BufTy).Contents (Elt F)),
    StableHlo.binary main_v12 main_v16 main_v17 (Host.divf : (⟨S64, .f32⟩ : BufTy).Contents (Elt F) → (⟨S64, .f32⟩ : BufTy).Contents (Elt F) → (⟨S64, .f32⟩ : BufTy).Contents (Elt F)),
    StableHlo.nullary main_cst_2 (constant S_ .f32 0x48000000#32),
    StableHlo.unary main_cst_2 main_v18 (broadcastInDim S64 ![] bcast_S_S64 : (⟨S_, .f32⟩ : BufTy).Contents (Elt F) → (⟨S64, .f32⟩ : BufTy).Contents (Elt F)),
    StableHlo.binary main_v15 main_v18 main_v19 (Host.divf : (⟨S64, .f32⟩ : BufTy).Contents (Elt F) → (⟨S64, .f32⟩ : BufTy).Contents (Elt F) → (⟨S64, .f32⟩ : BufTy).Contents (Elt F)),
    StableHlo.binary main_v17 main_v17 main_v20 (mulf : (⟨S64, .f32⟩ : BufTy).Contents (Elt F) → (⟨S64, .f32⟩ : BufTy).Contents (Elt F) → (⟨S64, .f32⟩ : BufTy).Contents (Elt F)),
    StableHlo.binary main_v19 main_v20 main_v21 (subf : (⟨S64, .f32⟩ : BufTy).Contents (Elt F) → (⟨S64, .f32⟩ : BufTy).Contents (Elt F) → (⟨S64, .f32⟩ : BufTy).Contents (Elt F)),
    StableHlo.nullary main_cst_3 (constant S_ .f32 0x3727C5AC#32),
    StableHlo.unary main_cst_3 main_v22 (broadcastInDim S64 ![] bcast_S_S64 : (⟨S_, .f32⟩ : BufTy).Contents (Elt F) → (⟨S64, .f32⟩ : BufTy).Contents (Elt F)),
    StableHlo.binary main_v21 main_v22 main_v23 (addf : (⟨S64, .f32⟩ : BufTy).Contents (Elt F) → (⟨S64, .f32⟩ : BufTy).Contents (Elt F) → (⟨S64, .f32⟩ : BufTy).Contents (Elt F)),
    StableHlo.unary main_v23 main_v24 (Host.sqrt : (⟨S64, .f32⟩ : BufTy).Contents (Elt F) → (⟨S64, .f32⟩ : BufTy).Contents (Elt F)),
    StableHlo.binary main_arg3 main_v24 main_v25 (Host.divf : (⟨S64, .f32⟩ : BufTy).Contents (Elt F) → (⟨S64, .f32⟩ : BufTy).Contents (Elt F) → (⟨S64, .f32⟩ : BufTy).Contents (Elt F)),
    StableHlo.binary main_v17 main_v25 main_v26 (mulf : (⟨S64, .f32⟩ : BufTy).Contents (Elt F) → (⟨S64, .f32⟩ : BufTy).Contents (Elt F) → (⟨S64, .f32⟩ : BufTy).Contents (Elt F)),
    StableHlo.binary main_arg4 main_v26 main_v27 (subf : (⟨S64, .f32⟩ : BufTy).Contents (Elt F) → (⟨S64, .f32⟩ : BufTy).Contents (Elt F) → (⟨S64, .f32⟩ : BufTy).Contents (Elt F)),
    StableHlo.unary main_arg5 main_v28 ((transpose S64x128 [1, 0] · transposes_S128x64_S64x128_1_0) : (⟨S128x64, .f32⟩ : BufTy).Contents (Elt F) → (⟨S64x128, .f32⟩ : BufTy).Contents (Elt F)) ]

theorem hostOps3_sub : (hostOps3 : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub ..⟩

theorem hostOps3_fresh : (hostOps3 : List (HloOp τ sig (Elt F))).Forall fun op => op.fresh = ∅ := by
  simp only [List.Forall]; repeat' constructor

abbrev hostOps4 : List (HloOp τ sig (Elt F)) :=
  [ StableHlo.unary main_v29_1 main_v30 ((extractStridedSlice S32x1x128 ![0, 0, 0] · slices_S32x2x128_S32x1x128_0_0_0) : (⟨S32x2x128, .f32⟩ : BufTy).Contents (Elt F) → (⟨S32x1x128, .f32⟩ : BufTy).Contents (Elt F)),
    StableHlo.reshape main_v30 main_v31 (rfl : (.f32 : EltTy) = .f32) shapeCasts_S32x1x128_S32x128,
    StableHlo.nullary main_cst_4 (constant S_ .f32 0x00000000#32),
    StableHlo.binary main_v31 main_cst_4 main_v32 ((fun x v => Host.reduceAdd x v reducesTo_S32x128_S128_d0 h_S_) : (⟨S32x128, .f32⟩ : BufTy).Contents (Elt F) → (⟨S_, .f32⟩ : BufTy).Contents (Elt F) → (⟨S128, .f32⟩ : BufTy).Contents (Elt F)),
    StableHlo.unary main_v29_1 main_v33 ((extractStridedSlice S32x1x128 ![0, 1, 0] · slices_S32x2x128_S32x1x128_0_1_0) : (⟨S32x2x128, .f32⟩ : BufTy).Contents (Elt F) → (⟨S32x1x128, .f32⟩ : BufTy).Contents (Elt F)),
    StableHlo.reshape main_v33 main_v34 (rfl : (.f32 : EltTy) = .f32) shapeCasts_S32x1x128_S32x128,
    StableHlo.nullary main_cst_5 (constant S_ .f32 0x00000000#32),
    StableHlo.binary main_v34 main_cst_5 main_v35 ((fun x v => Host.reduceAdd x v reducesTo_S32x128_S128_d0 h_S_) : (⟨S32x128, .f32⟩ : BufTy).Contents (Elt F) → (⟨S_, .f32⟩ : BufTy).Contents (Elt F) → (⟨S128, .f32⟩ : BufTy).Contents (Elt F)),
    StableHlo.nullary main_cst_6 (constant S_ .f32 0x48000000#32),
    StableHlo.unary main_cst_6 main_v36 (broadcastInDim S128 ![] bcast_S_S128 : (⟨S_, .f32⟩ : BufTy).Contents (Elt F) → (⟨S128, .f32⟩ : BufTy).Contents (Elt F)),
    StableHlo.binary main_v32 main_v36 main_v37 (Host.divf : (⟨S128, .f32⟩ : BufTy).Contents (Elt F) → (⟨S128, .f32⟩ : BufTy).Contents (Elt F) → (⟨S128, .f32⟩ : BufTy).Contents (Elt F)),
    StableHlo.nullary main_cst_7 (constant S_ .f32 0x48000000#32),
    StableHlo.unary main_cst_7 main_v38 (broadcastInDim S128 ![] bcast_S_S128 : (⟨S_, .f32⟩ : BufTy).Contents (Elt F) → (⟨S128, .f32⟩ : BufTy).Contents (Elt F)),
    StableHlo.binary main_v35 main_v38 main_v39 (Host.divf : (⟨S128, .f32⟩ : BufTy).Contents (Elt F) → (⟨S128, .f32⟩ : BufTy).Contents (Elt F) → (⟨S128, .f32⟩ : BufTy).Contents (Elt F)),
    StableHlo.binary main_v37 main_v37 main_v40 (mulf : (⟨S128, .f32⟩ : BufTy).Contents (Elt F) → (⟨S128, .f32⟩ : BufTy).Contents (Elt F) → (⟨S128, .f32⟩ : BufTy).Contents (Elt F)),
    StableHlo.binary main_v39 main_v40 main_v41 (subf : (⟨S128, .f32⟩ : BufTy).Contents (Elt F) → (⟨S128, .f32⟩ : BufTy).Contents (Elt F) → (⟨S128, .f32⟩ : BufTy).Contents (Elt F)),
    StableHlo.nullary main_cst_8 (constant S_ .f32 0x3727C5AC#32),
    StableHlo.unary main_cst_8 main_v42 (broadcastInDim S128 ![] bcast_S_S128 : (⟨S_, .f32⟩ : BufTy).Contents (Elt F) → (⟨S128, .f32⟩ : BufTy).Contents (Elt F)),
    StableHlo.binary main_v41 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.sqrt : (⟨S128, .f32⟩ : BufTy).Contents (Elt F) → (⟨S128, .f32⟩ : BufTy).Contents (Elt F)),
    StableHlo.binary main_arg7 main_v44 main_v45 (Host.divf : (⟨S128, .f32⟩ : BufTy).Contents (Elt F) → (⟨S128, .f32⟩ : BufTy).Contents (Elt F) → (⟨S128, .f32⟩ : BufTy).Contents (Elt F)),
    StableHlo.binary main_v37 main_v45 main_v46 (mulf : (⟨S128, .f32⟩ : BufTy).Contents (Elt F) → (⟨S128, .f32⟩ : BufTy).Contents (Elt F) → (⟨S128, .f32⟩ : BufTy).Contents (Elt F)),
    StableHlo.binary main_arg8 main_v46 main_v47 (subf : (⟨S128, .f32⟩ : BufTy).Contents (Elt F) → (⟨S128, .f32⟩ : BufTy).Contents (Elt F) → (⟨S128, .f32⟩ : BufTy).Contents (Elt F)),
    StableHlo.unary main_arg9 main_v48 ((transpose S128x256 [1, 0] · transposes_S256x128_S128x256_1_0) : (⟨S256x128, .f32⟩ : BufTy).Contents (Elt F) → (⟨S128x256, .f32⟩ : BufTy).Contents (Elt F)) ]

theorem hostOps4_sub : (hostOps4 : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub ..⟩

theorem hostOps4_fresh : (hostOps4 : List (HloOp τ sig (Elt F))).Forall fun op => op.fresh = ∅ := by
  simp only [List.Forall]; repeat' constructor

abbrev hostOps5 : List (HloOp τ sig (Elt F)) :=
  [ StableHlo.reshape main_v49 main_v50 (rfl : (.f32 : EltTy) = .f32) shapeCasts_S4096x256_S4x1024x256,
    StableHlo.unary main_v50 main_v51 ((transpose S4x256x1024 [0, 2, 1] · transposes_S4x1024x256_S4x256x1024_0_2_1) : (⟨S4x1024x256, .f32⟩ : BufTy).Contents (Elt F) → (⟨S4x256x1024, .f32⟩ : BufTy).Contents (Elt F)),
    StableHlo.unary main_v1 main_v52 ((transpose S4x3x1024 [0, 2, 1] · transposes_S4x1024x3_S4x3x1024_0_2_1) : (⟨S4x1024x3, .f32⟩ : BufTy).Contents (Elt F) → (⟨S4x3x1024, .f32⟩ : BufTy).Contents (Elt F)) ]

theorem hostOps5_sub : (hostOps5 : List (HloOp τ sig (Elt F))).Forall fun op => op.bufs ⊆ StableHlo.tcRefs τ sig :=
  ⟨StableHlo.reshape_bufs_sub .., StableHlo.unary_bufs_sub .., StableHlo.unary_bufs_sub ..⟩

theorem hostOps5_fresh : (hostOps5 : List (HloOp τ sig (Elt F))).Forall fun op => op.fresh = ∅ := by
  simp only [List.Forall]; repeat' constructor

/-- The host program, stretch by stretch and call by call. -/
theorem main_chain (d : Dev nD) : main (F := F) d = (Pipeline.chain
  [ StableHlo.seq hostOps0,
    Prog.lift (.customCall (SparseCore.inner (Pipeline.entry 0)) ()),
    Prog.lift (.customCall (SparseCore.inner (Pipeline.entry 1)) ()),
    StableHlo.seq hostOps1,
    sc.run d 0,
    StableHlo.seq hostOps2,
    Prog.lift (.customCall (SparseCore.inner (Pipeline.entry 2)) ()),
    StableHlo.seq hostOps3,
    Prog.lift (.customCall (SparseCore.inner (Pipeline.entry 3)) ()),
    StableHlo.seq hostOps4,
    Prog.lift (.customCall (SparseCore.inner (Pipeline.entry 4)) ()),
    StableHlo.seq hostOps5 ] : Prog (TpuEff nD τ sig (Elt F) (SparseCore.Sig (Pipeline.Sig Λ₀ (Fin 5) fun p => (pcfgs (F := F) p).Adm) 1) .tc) PUnit) := by
  rewrite [StableHlo.chain_seq_cons, Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Proof.Whole
end
-- ==== Proof.WholeTask.lean ====
/-
  One vector subcore's whole task in the program that runs all six calls: three planes fetched, then thirty-two chunks gathered.
-/
module

public import proofs.«01_k».proof.Proof.WholeTile

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Chunk (GoodAt PlaneOk stage stage_next stage_start stage_end bigSep_five chunkVal_of_ok plane_read)

variable {F : FTy → Type}
local notation "𝕄" => MT nD τ sig (HIx 1) (Elt F) ℕ UU ℕ

variable [FloatOps F]

section Task
variable (d : Dev nD) (L : grid2.Coords)

/-- The plane base of the task's batch: coordinate `r`'s plane of batch `(L 1) / 4`. -/
theorem off1_val : ∀ (L : grid2.Coords) (r : Fin 3), k2_off1 L (BitVec.ofNat 32 r.val) 0 = (3 * ((L 1).val / 4) + r.val) * 16384 := by decide +kernel

/-- Every place of trip `t`'s chunk is good. -/
abbrev ChunkVal (I : S131072.Idx → BitVec 32) (X : S196608.Idx → F .f32) (t : Fin k2_t1_loop.trips) (g : S2097152.Idx → F .f32) : Prop :=
  Chunk.ChunkVal (k2_off3 L t 0) I X g

/-- The chunks after `n` trips. -/
abbrev chunkSt (I : S131072.Idx → BitVec 32) (X : S196608.Idx → F .f32) (n : ℕ) : Fin k2_t1_loop.trips → sProp 𝕄 :=
  stage (β := Buf (Elt F) ((oV).view.loc (VT d L))) (fun t g => ChunkVal L I X t g) (fun t g => (oChunk L t).view.loc (VT d L) ↦[(oChunk L t).view.set]{fullShare} g) n

/-- What the loop keeps: the input shares, the planes, the two blocks, the chunks done so far. -/
def inv (O : CellTallies nD τ sig (HIx 1)) (W : Waits sig (HIx 1)) (q : PosShare TreeShare)
    (I : Buf (Elt F) ((iV).view.loc (VT d L))) (X : S196608.Idx → F .f32) (n : Nat) (_ : Unit) : sProp 𝕄 :=
  iprop(Transfers.MayWaits (VT d L) (none : HIx 1) O
      ∗ ((iV).view.loc (VT d L) ↦{q} I)
      ∗ (∃ px, ⌜PlaneOk (L 1).val X 0 px⌝ ∗ (sX).view.loc (VT d L) ↦{fullShare} px) ∗ (∃ py, ⌜PlaneOk (L 1).val X 1 py⌝ ∗ (sY).view.loc (VT d L) ↦{fullShare} py)
      ∗ (∃ pz, ⌜PlaneOk (L 1).val X 2 pz⌝ ∗ (sZ).view.loc (VT d L) ↦{fullShare} pz)
      ∗ (∃ fi, (sI).view.loc (VT d L) ↦{fullShare} fi) ∗ (∃ fo, (sO).view.loc (VT d L) ↦{fullShare} fo)
      ∗ bigSep Finset.univ (chunkSt d L I X n)
      ∗ semVal (VT d L, SemLoc.dma cc2_scoped3.sem) 0 ∗ semVal (VT d L, SemLoc.dma cc2_scoped4.sem) 0
      ∗ ∃ W', ⌜∀ p ∈ W', p ∈ W ∨ p.2 = none⌝ ∗ owes (VT d L) O W')

theorem inv_step (O : CellTallies nD τ sig (HIx 1)) (W : Waits sig (HIx 1)) (q : PosShare TreeShare) (t : Fin k2_t1_loop.trips)
    (I : Buf (Elt F) ((iV).view.loc (VT d L))) (hI : ∀ j : S131072.Idx, (I j : BitVec 32).toNat < 16384) (X : S196608.Idx → F .f32) (v19 : BitVec 32) :
    inv d L O W q I X t.val ⟨⟩ ⊢ wp frame (wpE (defs₀ (F := F)) 𝒱₀ (VT d L) none) Set.univ
          (k2_t1_body (F := F) L iV (Memref.isWhole_whole _) xV (Memref.isWhole_whole _) oV (Memref.isWhole_whole _)
            sX (Memref.isWhole_whole _) sY (Memref.isWhole_whole _) sZ (Memref.isWhole_whole _) sI (Memref.isWhole_whole _) sO (Memref.isWhole_whole _)
            cc2_scoped0 cc2_scoped1 cc2_scoped2 cc2_scoped3 cc2_scoped4 v19 (iota .scVector S16 32 [0] iota_S16_d0_w32_scVector) t ⟨⟩)
          fun _ => inv d L O W q I X (t.val + 1) ⟨⟩ := by
  unfold inv
  rw [SparseCore.bigSep_erase' (Finset.mem_univ t), SparseCore.bigSep_erase' (s := Finset.univ) (Φ := chunkSt d L I X (t.val + 1)) (Finset.mem_univ t)]
  unfold chunkSt stage
  iintro ⟨Hmw, Hi, ⟨%px, %hx, Hx⟩, ⟨%py, %hy, Hy⟩, ⟨%pz, %hz, Hz⟩, ⟨%fi, Hsi⟩, ⟨%fo, Hso⟩, ⟨⟨%g, -, Ho⟩, Hrest⟩, Hs3, Hs4, ⟨%W₁, %hW, HO⟩⟩
  iapply (wp_wand_r frame (wpE (defs₀ (F := F)) 𝒱₀ (VT d L) none) Set.univ)
  isplitl [Hmw Hi Hx Hy Hz Hsi Hso Ho Hs3 Hs4 HO]
  · iapply (trip d L O W₁ t q I hI px py pz fi fo g v19)
    iframe Hmw Hi Hx Hy Hz Hsi Hso Ho Hs3 Hs4
    iexact HO
  iintro %_ ⟨Hmw, Hi, Hx, Hy, Hz, Hsi, Hso, ⟨%g', %hg, Ho⟩, Hs3, Hs4, ⟨%W₂, %hW₂, HO⟩⟩
  iframe Hmw Hi
  isplitl [Hx]; · iexists px; isplitr; · ipureintro; exact hx
                  iexact Hx
  isplitl [Hy]; · iexists py; isplitr; · ipureintro; exact hy
                  iexact Hy
  isplitl [Hz]; · iexists pz; isplitr; · ipureintro; exact hz
                  iexact Hz
  iframe Hsi Hso
  isplitl [Ho Hrest]
  · isplitl [Ho]
    · iexists g'; isplitr
      · ipureintro; intro _; exact chunkVal_of_ok (L 1).val (L 0).val t.val (L 0).isLt (lt_of_lt_of_le t.isLt k2_t1_abs.2.1) (congrFun (k2_off2_eq L t) 0) (congrFun (k2_off3_eq L t) 0) I X hI px py pz hx hy hz g' hg
      iexact Ho
    · iapply (stage_next _ _ t); iexact Hrest
  iframe Hs3 Hs4
  iexists W₂; isplitr
  · ipureintro; intro p hp
    rcases hW₂ p hp with h | h
    · exact hW p h
    · exact .inr h
  iexact HO

/-- The task's five cells and the subcore's other cells. -/
theorem ownSems0_V : (ownSems0 (VT d L) : sProp 𝕄) = iprop(semVal (VT d L, SemLoc.dma cc2_scoped0.sem) 0 ∗ semVal (VT d L, SemLoc.dma cc2_scoped1.sem) 0 ∗ semVal (VT d L, SemLoc.dma cc2_scoped2.sem) 0 ∗ semVal (VT d L, SemLoc.dma cc2_scoped3.sem) 0 ∗ semVal (VT d L, SemLoc.dma cc2_scoped4.sem) 0
    ∗ bigSep ((((((ownCells (VT d L)).erase (VT d L, SemLoc.dma cc2_scoped0.sem)).erase (VT d L, SemLoc.dma cc2_scoped1.sem)).erase (VT d L, SemLoc.dma cc2_scoped2.sem)).erase (VT d L, SemLoc.dma cc2_scoped3.sem)).erase (VT d L, SemLoc.dma cc2_scoped4.sem)) fun g => semVal g 0) := by
  refine bigSep_five (fun i hi => ?_) ?_
  · simp only [List.mem_cons, List.not_mem_nil, or_false] at hi
    obtain rfl | rfl | rfl | rfl | rfl := hi <;> exact mem_ownCells.mpr ⟨rfl, rfl⟩
  · exact List.Nodup.map (f := fun s : SemLoc sig => ((VT d L, s) : GSem nD τ sig)) (l := [.dma cc2_scoped0.sem, .dma cc2_scoped1.sem, .dma cc2_scoped2.sem, .dma cc2_scoped3.sem, .dma cc2_scoped4.sem])
      (fun _ _ e => congrArg Prod.snd e) (by decide)

/-- The task's five blocks and the subcore's other buffers. -/
theorem ownBufs_V : (ownBufs (VT d L) : sProp 𝕄) = iprop((∃ f, (VT d L).loc cc2_scratch0 ↦{fullShare} f) ∗ (∃ f, (VT d L).loc cc2_scratch1 ↦{fullShare} f) ∗ (∃ f, (VT d L).loc cc2_scratch2 ↦{fullShare} f) ∗ (∃ f, (VT d L).loc cc2_scratch3 ↦{fullShare} f) ∗ (∃ f, (VT d L).loc cc2_scratch4 ↦{fullShare} f)
    ∗ bigSep ((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)) fun b => iprop(∃ f, ((d, b) : Loc nD τ sig) ↦{fullShare} f)) := by
  refine bigSep_five (fun i hi => ?_) ?_
  · simp only [List.mem_cons, List.not_mem_nil, or_false] at hi
    obtain rfl | rfl | rfl | rfl | rfl := hi <;> exact SparseCore.Cfg.mem_ownRefs_of_owner rfl
  · exact List.Nodup.map (f := (Proc.scVector (τ := τ) (cV L) (jV L)).devRef) (l := [cc2_scratch0, cc2_scratch1, cc2_scratch2, cc2_scratch3, cc2_scratch4])
      (Proc.devRef_injective _) (by decide)

/-- A task's share of the operands: it reads both arrays and writes its thirty-two chunks. -/
def goRes (q : PosShare TreeShare) (I : Buf (Elt F) ((iV).view.loc (VT d L))) (X : Buf (Elt F) ((xV).view.loc (VT d L)))
    (G : Buf (Elt F) ((oV).view.loc (VT d L))) : sProp 𝕄 :=
  iprop(((iV).view.loc (VT d L) ↦{q} I) ∗ ((xV).view.loc (VT d L) ↦{q} X)
    ∗ bigSep Finset.univ fun t : Fin k2_t1_loop.trips => (oChunk L t).view.loc (VT d L) ↦[(oChunk L t).view.set]{fullShare} G)

/-- What the task returns: the same reads, the chunks gathered. -/
def tdRes (q : PosShare TreeShare) (I : Buf (Elt F) ((iV).view.loc (VT d L))) (X : Buf (Elt F) ((xV).view.loc (VT d L))) : sProp 𝕄 :=
  iprop(((iV).view.loc (VT d L) ↦{q} I) ∗ ((xV).view.loc (VT d L) ↦{q} X)
    ∗ bigSep Finset.univ fun t : Fin k2_t1_loop.trips => iprop(∃ g, ⌜ChunkVal L I X t g⌝ ∗ (oChunk L t).view.loc (VT d L) ↦[(oChunk L t).view.set]{fullShare} g))

/-- The task on vector subcore `(L 0, L 1)`: given its reads and its chunks it gathers every chunk and returns its scratch. -/
theorem tile_body (hF : (K (F := F)).Facts) (O : CellTallies nD τ sig (HIx 1)) (W : Waits sig (HIx 1)) (hO : ∀ g, O g none = 0) (q : PosShare TreeShare)
    (I : Buf (Elt F) ((iV).view.loc (VT d L))) (hI : ∀ j : S131072.Idx, (I j : BitVec 32).toNat < 16384) (X : Buf (Elt F) ((xV).view.loc (VT d L)))
    (G : Buf (Elt F) ((oV).view.loc (VT d L))) :
    iprop(levAts (K (F := F)).L (K (F := F)).lev ∗ goRes d L q I X G
        ∗ scopedBufs (VT d L) ∗ scopedSems0 (VT d L) ∗ owes (VT d L) O W)
      ⊢ wp frame (wpE (defs₀ (F := F)) 𝒱₀ (VT d L) none) Set.univ
          (cc2_gath L iV (Memref.isWhole_whole _) xV (Memref.isWhole_whole _) oV (Memref.isWhole_whole _)
            sX (Memref.isWhole_whole _) sY (Memref.isWhole_whole _) sZ (Memref.isWhole_whole _) sI (Memref.isWhole_whole _) sO (Memref.isWhole_whole _)
            cc2_scoped0 cc2_scoped1 cc2_scoped2 cc2_scoped3 cc2_scoped4)
          fun _ => iprop(tdRes d L q I X ∗ scopedBufs (VT d L) ∗ scopedSems0 (VT d L)
            ∗ ∃ W', ⌜∀ p ∈ W', p ∈ W ∨ p.2 = none⌝ ∗ owes (VT d L) O W') := by
  rw [cc2_gath_eq_skeleton]; unfold cc2_gath_skel
  rw [k2_part4_eq_skeleton]; unfold k2_part4_skel
  rw [(K (F := F)).scopedBufs_V hF d (cV L) (jV L), SparseCore.Cfg.scopedSems0_V (Val := Elt F) d (cV L) (jV L), ownSems0_V, ownBufs_V]
  unfold goRes
  iintro ⟨#Hlv, ⟨Hi, Hxv, Hch⟩, ⟨⟨%f0, Hb0⟩, ⟨%f1, Hb1⟩, ⟨%f2, Hb2⟩, ⟨%f3, Hb3⟩, ⟨%f4, Hb4⟩, Hbufs⟩, ⟨Hs0, Hs1, Hs2, Hs3, Hs4, Hsems⟩, HO⟩
  ihave Hmw := ((K (F := F)).mayWaits_none (thr := VT d L) hO) $$ Hlv
  ihave Hx := (Entails.of_eq (show ((VT d L).loc cc2_scratch0 ↦{fullShare} f0 : sProp 𝕄) = (sX).view.loc (VT d L) ↦{fullShare} f0 from rfl)) $$ Hb0
  ihave Hy := (Entails.of_eq (show ((VT d L).loc cc2_scratch1 ↦{fullShare} f1 : sProp 𝕄) = (sY).view.loc (VT d L) ↦{fullShare} f1 from rfl)) $$ Hb1
  ihave Hz := (Entails.of_eq (show ((VT d L).loc cc2_scratch2 ↦{fullShare} f2 : sProp 𝕄) = (sZ).view.loc (VT d L) ↦{fullShare} f2 from rfl)) $$ Hb2
  sl_exec
  have hx : PlaneOk (F := F) (L 1).val X 0 (tile_body.sl.dma0 d L X) := plane_read xV X (L 1).val 0 _ (k2_off1_inb L 0) (off1_val L 0)
  have hy : PlaneOk (F := F) (L 1).val X 1 (tile_body.sl.dma0_1 d L X) := plane_read xV X (L 1).val 1 _ (k2_off1_inb L 1) (off1_val L 1)
  have hz : PlaneOk (F := F) (L 1).val X 2 (tile_body.sl.dma0_2 d L X) := plane_read xV X (L 1).val 2 _ (k2_off1_inb L 2) (off1_val L 2)
  rw [show (sX).view.write (Elt F) f0 (tile_body.sl.dma0 d L X) Finset.univ = tile_body.sl.dma0 d L X from View.write_whole_univ _ _ _,
    show (sY).view.write (Elt F) f1 (tile_body.sl.dma0_1 d L X) Finset.univ = tile_body.sl.dma0_1 d L X from View.write_whole_univ _ _ _,
    show (sZ).view.write (Elt F) f2 (tile_body.sl.dma0_2 d L X) Finset.univ = tile_body.sl.dma0_2 d L X from View.write_whole_univ _ _ _]
  sl_for (inv d L O W q I X) $$ [Hmw Hi Hx Hy Hz Hb3 Hb4 Hch Hs3 Hs4 HO]
  case region =>
    intro k _
    exact inv_step d L O W q k I hI X _
  · unfold inv
    iframe Hmw Hi
    isplitl [Hx]; · iexists _; isplitr; · ipureintro; exact hx
                    iexact Hx
    isplitl [Hy]; · iexists _; isplitr; · ipureintro; exact hy
                    iexact Hy
    isplitl [Hz]; · iexists _; isplitr; · ipureintro; exact hz
                    iexact Hz
    isplitl [Hb3]; · iexists _; iexact Hb3
    isplitl [Hb4]; · iexists _; iexact Hb4
    isplitl [Hch]
    · iapply (stage_start _ _ G); iexact Hch
    iframe Hs3 Hs4
    iexists _; isplitr; rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      · exact .inl hp
  iintro %_ Hinv
  unfold inv
  icases Hinv with ⟨-, Hi, ⟨%px, -, Hx⟩, ⟨%py, -, Hy⟩, ⟨%pz, -, Hz⟩, ⟨%fi, Hsi⟩, ⟨%fo, Hso⟩, Hch, Hs3, Hs4, ⟨%W₁, %hW, HO⟩⟩
  sl_step
  isplitl [Hi Hxv Hch]
  · unfold tdRes
    iframe Hi Hxv
    iapply (stage_end _ _); iexact Hch
  isplitl [Hx Hy Hz Hsi Hso Hbufs]
  · isplitl [Hx]; · iexists _; iexact Hx
    isplitl [Hy]; · iexists _; iexact Hy
    isplitl [Hz]; · iexists _; iexact Hz
    isplitl [Hsi]; · iexists _; iexact Hsi
    isplitl [Hso]; · iexists _; iexact Hso
    iexact Hbufs
  isplitl [Hs0 Hs1 Hs2 Hs3 Hs4 Hsems]
  · isplitl [Hs0]; · iexact Hs0
    iframe Hs1 Hs2 Hs3 Hs4
    iexact Hsems
  iexists W₁; isplitr
  · ipureintro; exact hW
  iexact HO

end Task
end Cert.Proof.Whole
end
-- ==== Proof.WholeDeal.lean ====
/-
  The gather call inside the whole program: its operands cut among the thirty-two tasks, at any operands.
-/
module

public import proofs.«01_k».proof.Proof.WholeTask

@[expose] public section

noncomputable section

namespace Cert.Proof.Whole

open Cert.WholeIdeal Cert.WholeIdeal.Gen

open Cert.Proof.Chunk (GoodAt)
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}
local notation "𝕄" => MT nD τ sig (HIx 1) (Elt F) ℕ UU ℕ

variable [FloatOps F]

abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

variable (Iw : (d : Dev nD) → Buf (Elt F) (d, v3')) (Xw : (d : Dev nD) → Buf (Elt F) (d, v4')) (Gw : (d : Dev nD) → Buf (Elt F) (d, v5'))

/-! ## The operands cut among the tasks -/

def coordsV (c : Fin (grid2.bound 0)) (s : Fin (grid2.bound 1)) : grid2.Coords :=
  fun | 0 => c | 1 => s | ⟨_ + 2, h⟩ => absurd h (Nat.not_lt.2 (Nat.le_add_left _ _))

def taskNo : Fin 2 × Fin 16 ≃ Fin (2 ^ 5) := finProdFinEquiv.trans (finCongr (by norm_num))

def shareOf (c : Fin 2) (s : Fin 16) : PosShare TreeShare := ShareLeaves.leaf 5 fullShare (taskNo (c, s))

theorem leaves_deal {ℓ : Loc nD τ sig} (f : Buf (Elt F) ℓ) :
    (ℓ ↦{fullShare} f : sProp 𝕄) = bigSep Finset.univ fun c : Fin 2 => bigSep Finset.univ fun s : Fin 16 => ℓ ↦{shareOf c s} f := by
  rw [ShareLeaves.pointsTo_leaves Finset.univ f 5 fullShare,
    bigSep_univ_equiv taskNo (fun i : Fin (2 ^ 5) => (ℓ ↦{ShareLeaves.leaf 5 fullShare i} f : sProp 𝕄)), bigSep_univ_prod]
  rfl

def chunkSet (x : Fin 2 × Fin 16 × Fin k2_t1_loop.trips) : Finset S2097152.Idx := (oChunk (coordsV x.1 x.2.1) x.2.2).view.set

theorem chunk_off (x : Fin 2 × Fin 16 × Fin k2_t1_loop.trips) :
    k2_off3 (coordsV x.1 x.2.1) x.2.2 0 = 131072 * x.2.1.val + 65536 * x.1.val + 2048 * x.2.2.val :=
  congrFun (k2_off3_eq (coordsV x.1 x.2.1) x.2.2) 0

theorem mem_chunkSet (x : Fin 2 × Fin 16 × Fin k2_t1_loop.trips) (o : S2097152.Idx) :
    o ∈ chunkSet x ↔ 131072 * x.2.1.val + 65536 * x.1.val + 2048 * x.2.2.val ≤ (o 0).val
      ∧ (o 0).val < 131072 * x.2.1.val + 65536 * x.1.val + 2048 * x.2.2.val + 2048 := by
  rw [← chunk_off]
  have e : chunkSet x = (Rect.unit (s := S2097152) (k2_off3 (coordsV x.1 x.2.1) x.2.2) S2048.size (Gen.facts.k2_off3_inb (coordsV x.1 x.2.1) x.2.2)).set := by
    show ((View.whole (main_v5_scv : Ref sig .scVector)).slice _).set = _
    rw [View.set_slice]; exact Finset.map_refl
  rw [e, Rect.mem_set_unit]
  exact Fin.forall_fin_one

theorem chunks_disjoint : ∀ x ∈ (Finset.univ : Finset (Fin 2 × Fin 16 × Fin k2_t1_loop.trips)), ∀ y ∈ (Finset.univ : Finset (Fin 2 × Fin 16 × Fin k2_t1_loop.trips)),
    x ≠ y → Disjoint (chunkSet x) (chunkSet y) := by
  intro x _ y _ h
  refine Finset.disjoint_left.mpr fun o hx hy => h ?_
  obtain ⟨c, s, t⟩ := x
  obtain ⟨c', s', t'⟩ := y
  have h1 := (mem_chunkSet _ _).mp hx
  have h2 := (mem_chunkSet _ _).mp hy
  have ht : t.val < 32 := lt_of_lt_of_le t.isLt k2_t1_abs.2.1
  have ht' : t'.val < 32 := lt_of_lt_of_le t'.isLt k2_t1_abs.2.1
  have hc := c.isLt
  have hc' := c'.isLt
  dsimp only at h1 h2
  obtain rfl : c = c' := Fin.ext (by omega)
  obtain rfl : s = s' := Fin.ext (by omega)
  obtain rfl : t = t' := Fin.ext (by omega)
  rfl

theorem trips_eq : k2_t1_loop.trips = 32 := by decide +kernel

theorem chunks_cover : (Finset.univ : Finset (Fin 2 × Fin 16 × Fin k2_t1_loop.trips)).biUnion chunkSet = Finset.univ := by
  rw [Finset.eq_univ_iff_forall]
  intro (o : S2097152.Idx)
  rw [Finset.mem_biUnion]
  have ho : (o (0 : Fin 1)).val < S2097152.size 0 := (o 0).isLt
  have hz : S2097152.size 0 = 2097152 := by decide
  obtain ⟨n, hn⟩ : ∃ n : ℕ, n = (o (0 : Fin 1)).val := ⟨_, rfl⟩
  have hb : n < 2097152 := by omega
  suffices h : ∃ x : Fin 2 × Fin 16 × Fin k2_t1_loop.trips, 131072 * x.2.1.val + 65536 * x.1.val + 2048 * x.2.2.val ≤ n
      ∧ n < 131072 * x.2.1.val + 65536 * x.1.val + 2048 * x.2.2.val + 2048 by
    obtain ⟨x, hx⟩ := h
    exact ⟨x, Finset.mem_univ _, (mem_chunkSet x o).mpr (hn ▸ hx)⟩
  have hc : n / 65536 % 2 < 2 := by omega
  have hs : n / 131072 < 16 := by omega
  have ht : n / 2048 % 32 < k2_t1_loop.trips := by rw [trips_eq]; omega
  refine ⟨(⟨_, hc⟩, ⟨_, hs⟩, ⟨_, ht⟩), ?_⟩
  show 131072 * (n / 131072) + 65536 * (n / 65536 % 2) + 2048 * (n / 2048 % 32) ≤ n
    ∧ n < 131072 * (n / 131072) + 65536 * (n / 65536 % 2) + 2048 * (n / 2048 % 32) + 2048
  omega

theorem chunks_deal (d : Dev nD) (g : Buf (Elt F) (d, v5')) :
    ((d, v5') ↦{fullShare} g : sProp 𝕄) = bigSep Finset.univ fun c : Fin 2 => bigSep Finset.univ fun s : Fin 16 => bigSep Finset.univ fun t : Fin k2_t1_loop.trips =>
      ((d, v5') : Loc nD τ sig) ↦[chunkSet (c, s, t)]{fullShare} g := by
  have h := pointsTo_biUnion (Val := Elt F) (Ix := HIx 1) (Name := ℕ) (U := UU) (Lvl := ℕ) (q := fullShare) (f := g) Finset.univ (ℓ := (d, v5')) chunkSet chunks_disjoint
  rw [chunks_cover, bigSep_univ_prod] at h
  simp only [bigSep_univ_prod] at h
  exact h

def AllGood (d : Dev nD) (g : Buf (Elt F) (d, v5')) : Prop := ∀ o : S2097152.Idx, GoodAt (F := F) (Iw d) (Xw d) o (g o)

include Gw in
theorem chunks_join (d : Dev nD) :
    (bigSep Finset.univ fun c : Fin 2 => bigSep Finset.univ fun s : Fin 16 => bigSep Finset.univ fun t : Fin k2_t1_loop.trips =>
      iprop(∃ g : Buf (Elt F) (d, v5'), ⌜ChunkVal (coordsV c s) (Iw d) (Xw d) t g⌝ ∗ ((d, v5') : Loc nD τ sig) ↦[chunkSet (c, s, t)]{fullShare} g) : sProp 𝕄)
    ⊢ iprop(∃ g : Buf (Elt F) (d, v5'), ⌜AllGood Iw Xw d g⌝ ∗ (d, v5') ↦{fullShare} g) := by
  have h := bigSep_univ_prod (fun x : Fin 2 × Fin 16 × Fin k2_t1_loop.trips =>
    (iprop(∃ g : Buf (Elt F) (d, v5'), ⌜ChunkVal (coordsV x.1 x.2.1) (Iw d) (Xw d) x.2.2 g⌝ ∗ ((d, v5') : Loc nD τ sig) ↦[chunkSet x]{fullShare} g) : sProp 𝕄))
  refine (Entails.of_eq (h.trans (bigSep_congr fun c _ => bigSep_univ_prod (fun y : Fin 16 × Fin k2_t1_loop.trips =>
    (iprop(∃ g : Buf (Elt F) (d, v5'), ⌜ChunkVal (coordsV c y.1) (Iw d) (Xw d) y.2 g⌝ ∗ ((d, v5') : Loc nD τ sig) ↦[chunkSet (c, y)]{fullShare} g) : sProp 𝕄)))).symm).trans ?_
  haveI : Nonempty (Buf (Elt F) (d, v5')) := ⟨Gw d⟩
  refine (bigSep_exists_pi Finset.univ (fun (x : Fin 2 × Fin 16 × Fin k2_t1_loop.trips) (g : Buf (Elt F) (d, v5')) =>
    iprop(⌜ChunkVal (coordsV x.1 x.2.1) (Iw d) (Xw d) x.2.2 g⌝ ∗ ((d, v5') : Loc nD τ sig) ↦[chunkSet x]{fullShare} g))).trans ?_
  iintro ⟨%fs, H⟩
  ihave H := (bigSep_pure_sep Finset.univ (fun x : Fin 2 × Fin 16 × Fin k2_t1_loop.trips => ChunkVal (coordsV x.1 x.2.1) (Iw d) (Xw d) x.2.2 (fs x)) _) $$ H
  icases H with ⟨%hv, H⟩
  ihave H := (pointsTo_biUnion_join Finset.univ chunkSet fs (Gw d) chunks_disjoint) $$ H
  icases H with ⟨%g, %hg, H⟩
  rw [chunks_cover]
  iexists g
  isplitr
  · ipureintro
    intro o
    obtain ⟨x, hx, ho⟩ := Finset.mem_biUnion.mp (chunks_cover ▸ Finset.mem_univ o)
    rw [hg x hx o ho]
    have hb := (mem_chunkSet x o).mp ho
    rw [← chunk_off] at hb
    exact hv x hx o hb.1 hb.2
  · iexact H

/-! ## The launch theorem's obligations -/

def P : (K (F := F)).Pay (nD := nD) (Val := Elt F) (Name := ℕ) (U := UU) where
  st := fun q d c => match q, c with | 0, c => bigSep Finset.univ fun s : Fin 16 => goRes d (coordsV c s) (shareOf c s) (Iw d) (Xw d) (Gw d)
  dn := fun q d c => match q, c with | 0, c => bigSep Finset.univ fun s : Fin 16 => tdRes d (coordsV c s) (shareOf c s) (Iw d) (Xw d)
  go := fun q d c s => match q, c, s with | 0, c, s => goRes d (coordsV c s) (shareOf c s) (Iw d) (Xw d) (Gw d)
  td := fun q d c s => match q, c, s with | 0, c, s => tdRes d (coordsV c s) (shareOf c s) (Iw d) (Xw d)
  x := fun _ _ => iprop(emp)

instance P_storable : (P (F := F) Iw Xw Gw).IsStorable where
  st q d c := by match q, c with | 0, c => unfold P goRes; dsimp only; infer_instance
  dn q d c := by match q, c with | 0, c => unfold P tdRes; dsimp only; infer_instance
  go q d c s := by match q, c, s with | 0, c, s => unfold P goRes; dsimp only; infer_instance
  td q d c s := by match q, c, s with | 0, c, s => unfold P tdRes; dsimp only; infer_instance

theorem vecSplit : (K (F := F)).VecSplit' (P Iw Xw Gw) 0 := by
  intro d c
  show (bigSep Finset.univ fun s : Fin 16 => goRes d (coordsV c s) (shareOf c s) (Iw d) (Xw d) (Gw d) : sProp 𝕄) ⊢ |={Set.univ}=> iprop(
      (bigSep Finset.univ fun s : Fin 16 => goRes d (coordsV c s) (shareOf c s) (Iw d) (Xw d) (Gw d))
      ∗ ((bigSep Finset.univ fun s : Fin 16 => tdRes d (coordsV c s) (shareOf c s) (Iw d) (Xw d))
          -∗ (bigSep Finset.univ fun s : Fin 16 => tdRes d (coordsV c s) (shareOf c s) (Iw d) (Xw d))))
  iintro H; imodintro
  isplitl [H]; · iexact H
  iintro H; iexact H

theorem defs₀_vector (c : Fin τ.nSC) (s : Fin τ.nSub) :
    defs₀ (F := F) (.scVector c s) 2 ()
      = SparseCore.onTile hcore2 hsub2 (fun c s => cc2_gath (coordsV c s)
          iV (Memref.isWhole_whole _) xV (Memref.isWhole_whole _) oV (Memref.isWhole_whole _)
          sX (Memref.isWhole_whole _) sY (Memref.isWhole_whole _) sZ (Memref.isWhole_whole _) sI (Memref.isWhole_whole _) sO (Memref.isWhole_whole _)
          cc2_scoped0 cc2_scoped1 cc2_scoped2 cc2_scoped3 cc2_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

theorem obl_pre {A B C D E : sProp 𝕄} : iprop(A ∗ emp ∗ B ∗ C ∗ D ∗ E) ⊢ iprop(A ∗ B ∗ C ∗ D ∗ E) := by
  iintro ⟨HA, -, HB⟩
  isplitl [HA]; · iexact HA
  iexact HB

def InRange : Prop := ∀ (d : Dev nD) (j : S131072.Idx), (Iw d j : BitVec 32).toNat < 16384

theorem tileObl (hF : (K (F := F)).Facts) (hI : InRange Iw) : (K (F := F)).TileObl (D (F := F)) 𝒱 (P Iw Xw Gw) v₀ 0 := by
  intro d c i O W hO _ _
  simp only [show (P Iw Xw Gw).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact obl_pre.trans ((tile_body d (coordsV ⟨_, hc.1⟩ ⟨_, hc.2⟩) hF O W hO (shareOf c i) (Iw d) (hI d) (Xw d) (Gw d)).trans (wp_mono frame _ _ fun _ => obl_post))

theorem goRes_eq (d : Dev nD) (c : Fin 2) (s : Fin 16) (q : PosShare TreeShare) (I : Buf (Elt F) (d, v3')) (X : Buf (Elt F) (d, v4')) (G : Buf (Elt F) (d, v5')) :
    (goRes d (coordsV c s) q I X G : sProp 𝕄) = iprop(((d, v3') ↦{q} I) ∗ ((d, v4') ↦{q} X)
      ∗ bigSep Finset.univ fun t : Fin k2_t1_loop.trips => ((d, v5') : Loc nD τ sig) ↦[chunkSet (c, s, t)]{fullShare} G) := rfl

theorem tdRes_eq (d : Dev nD) (c : Fin 2) (s : Fin 16) (q : PosShare TreeShare) (I : Buf (Elt F) (d, v3')) (X : Buf (Elt F) (d, v4')) :
    (tdRes d (coordsV c s) q I X : sProp 𝕄) = iprop(((d, v3') ↦{q} I) ∗ ((d, v4') ↦{q} X)
      ∗ bigSep Finset.univ fun t : Fin k2_t1_loop.trips => iprop(∃ g : Buf (Elt F) (d, v5'), ⌜ChunkVal (coordsV c s) I X t g⌝
        ∗ ((d, v5') : Loc nD τ sig) ↦[chunkSet (c, s, t)]{fullShare} g)) := rfl

theorem st_deal (d : Dev nD) :
    iprop(((d, v3') ↦{fullShare} Iw d) ∗ ((d, v4') ↦{fullShare} Xw d) ∗ ((d, v5') ↦{fullShare} Gw d))
      ⊢ (bigSep Finset.univ fun c : Fin ((K (F := F)).nCore 0) => (P Iw Xw Gw).st 0 d c : sProp 𝕄) := by
  show _ ⊢ (bigSep Finset.univ fun c : Fin 2 => bigSep Finset.univ fun s : Fin 16 => goRes d (coordsV c s) (shareOf c s) (Iw d) (Xw d) (Gw d) : sProp 𝕄)
  simp only [goRes_eq, bigSep_sep']
  rw [← leaves_deal, ← leaves_deal, ← chunks_deal]

theorem dn_join (d : Dev nD) :
    (bigSep Finset.univ fun c : Fin ((K (F := F)).nCore 0) => (P Iw Xw Gw).dn 0 d c : sProp 𝕄)
      ⊢ iprop(((d, v3') ↦{fullShare} Iw d) ∗ ((d, v4') ↦{fullShare} Xw d) ∗ ∃ g : Buf (Elt F) (d, v5'), ⌜AllGood Iw Xw d g⌝ ∗ (d, v5') ↦{fullShare} g) := by
  show (bigSep Finset.univ fun c : Fin 2 => bigSep Finset.univ fun s : Fin 16 => tdRes d (coordsV c s) (shareOf c s) (Iw d) (Xw d) : sProp 𝕄) ⊢ _
  simp only [tdRes_eq, bigSep_sep']
  rw [← leaves_deal, ← leaves_deal]
  iintro ⟨HI, HX, HO⟩
  iframe HI HX
  iapply (chunks_join Iw Xw Gw d); iexact HO

end Cert.Proof.Whole
end
-- ==== Proof.WholeSample.lean ====
/-
  The sampling call inside the whole program: its body, at any entry contents.
-/
module

public import proofs.«01_k».proof.Proof.WholeTile
public import proofs.«01_k».proof.Proof.Gen.WholeIdeal.Launch
public import proofs.«01_k».proof.Proof.Gen.WholeIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp
public import proofs.«01_k».proof.Proof.Gen.WholeIdeal.Loops

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
  (O : Dev nD → CellTallies nD τ sig (HIx 1)) (R : Dev nD → Set (SemLoc sig × HIx 1))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ### The counted loop by its invariant, over this program's resources -/

abbrev WTrip_k0_t1 (c : Dev nD) (arg1 : Memref sig .tc .vmem S4x1024x3 .f32) (f_arg1 : BufTy.Contents (Elt F) arg1.view.ty) : sProp 𝕄 :=
  iprop((arg1.view.loc (c : Thread nD τ) ↦[arg1.view.set]{fullShare} f_arg1))

@[irreducible] def wTrip_k0_t1 (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (k : Fin k0_t1_loop.trips) :
    Σ' (R_k0_t1 : ((FVec F S4x8x2048 .f32 × IVec S4x1x1 32) → FVec F S4x8x2048 .f32 × IVec S4x1x1 32)) , { L_arg1 : ((FVec F S4x8x2048 .f32 × IVec S4x1x1 32) → List (View.Piece (Elt F) S4x1024x3 .f32)) // ∀ (E : Set ℕ) (acc : FVec F S4x8x2048 .f32 × IVec S4x1x1 32) (f_arg1 : BufTy.Contents (Elt F) arg1.view.ty),
      WTrip_k0_t1 (F := F) c arg1 f_arg1
      ⊢ wp frame (wpE (defs₀ (F := F)) 𝒱 (c : Thread nD τ) bd) E (k0_t1_body (F := F) arg0 harg0 arg1 harg1 v0 v2 v4 k acc)
          (fun yld => iprop(⌜yld = R_k0_t1 acc⌝ ∗ WTrip_k0_t1 (F := F) c arg1 (arg1.view.writes (Elt F) f_arg1 (L_arg1 acc)))) } := by
  have hk : k.val < 128 := Nat.lt_of_lt_of_le k.isLt k0_t1_abs.2.1
  refine ⟨?_, ?_, fun E acc f_arg1 => ?run⟩
  case run =>
    unfold k0_t1_body
    iintro HW_arg1
    sl_exec
    sl_step
    sl_close

abbrev wTripR_k0_t1 (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (k : Fin k0_t1_loop.trips) (acc : FVec F S4x8x2048 .f32 × IVec S4x1x1 32) : FVec F S4x8x2048 .f32 × IVec S4x1x1 32 :=
  (wTrip_k0_t1 (F := F) 𝒱 c bd arg0 harg0 arg1 harg1 v0 v2 v4 k).1 acc

abbrev wTripL_k0_t1 (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (k : Fin k0_t1_loop.trips) (acc : FVec F S4x8x2048 .f32 × IVec S4x1x1 32) : List (View.Piece (Elt F) S4x1024x3 .f32) :=
  (wTrip_k0_t1 (F := F) 𝒱 c bd arg0 harg0 arg1 harg1 v0 v2 v4 k).2.1 acc

@[irreducible] def wSt_k0_t1Step (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (init : FVec F S4x8x2048 .f32 × IVec S4x1x1 32) (k : ℕ) (prev : (FVec F S4x8x2048 .f32 × IVec S4x1x1 32) × List (View.Piece (Elt F) S4x1024x3 .f32)) : (FVec F S4x8x2048 .f32 × IVec S4x1x1 32) × List (View.Piece (Elt F) S4x1024x3 .f32) :=
  if h : k < k0_t1_loop.trips then
    (wTripR_k0_t1 (F := F) 𝒱 c bd arg0 harg0 arg1 harg1 v0 v2 v4 ⟨k, h⟩ prev.1, (wTripL_k0_t1 (F := F) 𝒱 c bd arg0 harg0 arg1 harg1 v0 v2 v4 ⟨k, h⟩ prev.1) ++ prev.2)
  else prev

def wSt_k0_t1 (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (init : FVec F S4x8x2048 .f32 × IVec S4x1x1 32) : ℕ → (FVec F S4x8x2048 .f32 × IVec S4x1x1 32) × List (View.Piece (Elt F) S4x1024x3 .f32)
  | 0 => (init, [])
  | k + 1 => wSt_k0_t1Step 𝒱 c bd arg0 harg0 arg1 harg1 v0 v2 v4 init k (wSt_k0_t1 𝒱 c bd arg0 harg0 arg1 harg1 v0 v2 v4 init k)

theorem wSt_k0_t1_succ (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (init : FVec F S4x8x2048 .f32 × IVec S4x1x1 32) (k : Fin k0_t1_loop.trips) :
    wSt_k0_t1 (F := F) 𝒱 c bd arg0 harg0 arg1 harg1 v0 v2 v4 init (k.val + 1)
      = ((wTripR_k0_t1 (F := F) 𝒱 c bd arg0 harg0 arg1 harg1 v0 v2 v4 k (wSt_k0_t1 (F := F) 𝒱 c bd arg0 harg0 arg1 harg1 v0 v2 v4 init k.val).1), (wTripL_k0_t1 (F := F) 𝒱 c bd arg0 harg0 arg1 harg1 v0 v2 v4 k (wSt_k0_t1 (F := F) 𝒱 c bd arg0 harg0 arg1 harg1 v0 v2 v4 init k.val).1) ++ (wSt_k0_t1 (F := F) 𝒱 c bd arg0 harg0 arg1 harg1 v0 v2 v4 init k.val).2) := by
  rw [wSt_k0_t1.eq_2]; unfold wSt_k0_t1Step; exact dif_pos k.isLt

theorem wSt_k0_t1_zero (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (init : FVec F S4x8x2048 .f32 × IVec S4x1x1 32) :
    (wSt_k0_t1 (F := F) 𝒱 c bd arg0 harg0 arg1 harg1 v0 v2 v4 init 0).1 = init := rfl

abbrev wInv_k0_t1 (𝒱 : Variants) (c : Dev nD) (bd : Option 𝒱.V) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (G_arg1 : BufTy.Contents (Elt F) arg1.view.ty) (init : FVec F S4x8x2048 .f32 × IVec S4x1x1 32) (k : ℕ) (acc : FVec F S4x8x2048 .f32 × IVec S4x1x1 32) : sProp 𝕄 :=
  iprop((∃ f, (arg1.view.loc (c : Thread nD τ) ↦[arg1.view.set]{fullShare} f) ∗ ⌜f = arg1.view.writes (Elt F) G_arg1 (wSt_k0_t1 (F := F) 𝒱 c bd arg0 harg0 arg1 harg1 v0 v2 v4 init k).2⌝) ∗ ⌜acc = (wSt_k0_t1 (F := F) 𝒱 c bd arg0 harg0 arg1 harg1 v0 v2 v4 init k).1⌝)

set_option warn.classDefReducibility false in
@[sl_loop] def wLoopInv_k0_t1 (𝒱 : Variants) (c : Dev nD) (bd : Option 𝒱.V) (E : Set ℕ) (arg0 : Memref sig .tc .vmem S4x3x8x2048 .f32) (harg0 : arg0.IsWhole) (arg1 : Memref sig .tc .vmem S4x1024x3 .f32) (harg1 : arg1.IsWhole) (v0 : Vec F S4x1x8x2048 .f32) (v2 : Vec F S4x1x8x2048 .f32) (v4 : Vec F S4x1x8x2048 .f32) (G_arg1 : BufTy.Contents (Elt F) arg1.view.ty) (init : FVec F S4x8x2048 .f32 × IVec S4x1x1 32) :
    LoopInvTy_k0_t1 (F := F) (HIx 1) ℕ UU ℕ 𝒱 c bd E arg0 harg0 arg1 harg1 v0 v2 v4 init where
  inv := wInv_k0_t1 (F := F) 𝒱 c bd arg0 harg0 arg1 harg1 v0 v2 v4 G_arg1 init
  step k acc := by
    iintro ⟨⟨%f_arg1, HW_arg1, %h_arg1⟩, %h_acc⟩
    subst h_acc
    iapply (wp_wand_r Idealize.ShloMosaic.frame (wpE (defs₀ (F := F)) 𝒱 (c : Thread nD τ) bd) E)
    isplitl [HW_arg1]
    · iapply ((wTrip_k0_t1 (F := F) 𝒱 c bd arg0 harg0 arg1 harg1 v0 v2 v4 k).2.2 E (wSt_k0_t1 (F := F) 𝒱 c bd arg0 harg0 arg1 harg1 v0 v2 v4 init k).1 f_arg1)
      iexact HW_arg1
    · iintro %yld ⟨%h_res, HW_arg1⟩
      unfold wInv_k0_t1
      simp only [wSt_k0_t1_succ]
      isplitl [HW_arg1]
      · iexists _; isplitl [HW_arg1]; · iexact HW_arg1
        ipureintro; rw [h_arg1, ← View.writes_append]
      ipureintro; rw [h_res]

abbrev VO0_1 : View sig .tc .vmem S4x1024x3 .f32 := (Memref.whole cc0_stg1_0 : Memref sig .tc .vmem S4x1024x3 .f32).view
abbrev ms0_0 (t : Fin cfg0.N) : Memref sig .tc .vmem S4x3x8x2048 .f32 := win0_0.stage (cfg0.slots t 0)
abbrev hs0_0 (t : Fin cfg0.N) : (ms0_0 t).IsWhole := hstage0_0 0
abbrev ms0_1 (t : Fin cfg0.N) : Memref sig .tc .vmem S4x1024x3 .f32 := win0_1.stage (cfg0.slots t 1)
abbrev hs0_1 (t : Fin cfg0.N) : (ms0_1 t).IsWhole := hstage0_1 0

set_option maxHeartbeats 1000000 in
noncomputable def kernelRun0_A (c : Dev nD) (arg0 : Memref sig .tc .vmem S4x3x8x2048 .f32) (harg0 : arg0.IsWhole) (arg1 : Memref sig .tc .vmem S4x1024x3 .f32) (harg1 : arg1.IsWhole)
    (x0 : Vec F S4x3x8x2048 .f32) :
    { L1 : List (View.Piece (Elt F) S4x1024x3 .f32) //
      ∀ (E : Set ℕ) (K : PUnit → sProp 𝕄),
        iprop(owns (c : Thread nD τ) arg0 fullShare x0 ∗ (∃ d, owns (c : Thread nD τ) arg1 fullShare d)
            ∗ (iprop(owns (c : Thread nD τ) arg0 fullShare x0 ∗ (∃ f, arg1.view.loc (c : Thread nD τ) ↦[arg1.view.set]{fullShare} arg1.view.writes (Elt F) f L1)) -∗ K ⟨⟩))
          ⊢ wp frame (wpE (defs₀ (F := F)) Variants.none c none) E (cc0__fps_body arg0 harg0 arg1 harg1) K } := by
  refine ⟨?_, fun E K => ?run⟩
  case run =>
    simp only [cc0__fps_body_eq_skeleton]; unfold cc0__fps_body_skel
    unfold owns
    iintro ⟨⟨%f0, %hf0, H0⟩, ⟨%d1, %f1, -, H1⟩, Hk⟩
    obtain rfl := harg0.eq_unread hf0
    sl_exec
    sl_step
    iapply Hk
    isplitl [H0]
    · iexists _; isplitr; · ipureintro; exact harg0.read_unread _
      iexact H0
    iexists _; iexact H1

theorem cover0_A_1 (c : Dev nD) (arg0 : Memref sig .tc .vmem S4x3x8x2048 .f32) (harg0 : arg0.IsWhole) (arg1 : Memref sig .tc .vmem S4x1024x3 .f32) (harg1 : arg1.IsWhole)
    (x0 : Vec F S4x3x8x2048 .f32) (y : S4x1024x3.Idx) :
    ∃ pc ∈ (kernelRun0_A c arg0 harg0 arg1 harg1 x0).1, y ∈ pc.1.set :=
  View.cover_of_tiledL (kernelRun0_A c arg0 harg0 arg1 harg1 x0).1 S4x8x3.size (by sl_kernel_rfl) y

def out0_A_1 (c : Dev nD) (arg0 : Memref sig .tc .vmem S4x3x8x2048 .f32) (harg0 : arg0.IsWhole) (arg1 : Memref sig .tc .vmem S4x1024x3 .f32) (harg1 : arg1.IsWhole)
    (x0 : Vec F S4x3x8x2048 .f32) : Vec F S4x1024x3 .f32 :=
  VO0_1.read (Elt F) (VO0_1.writes (Elt F) VO0_1.junk (kernelRun0_A c arg0 harg0 arg1 harg1 x0).1)

def outsAt0 (c : Dev nD) (t : Fin cfg0.N) : Vec F S4x1024x3 .f32 :=
  out0_A_1 c (ms0_0 t) (hs0_0 t) (ms0_1 t) (hs0_1 t) (iblk0 V c 0 t)

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => (outsAt0 V c t)
  Φ _ := ΦW spec0 c
  q _ := fullShare
  owed _ := O c
  recorded _ := R c

theorem A_eq0 (c : Dev nD) (w : Fin cfg0.W) : (dat0 V O R c).A w = V c (Pipeline.arrRef spec0 w) := by
  dsimp only [dat0]

theorem after0_0 (c : Dev nD) (t : Fin cfg0.N) : (dat0 V O R c).after 0 t = iblk0 V c 0 t := by dsimp only [dat0]
theorem after0_1 (c : Dev nD) (t : Fin cfg0.N) : (dat0 V O R c).after 1 t = (outsAt0 V c t) := by dsimp only [dat0]

theorem before0_0 (c : Dev nD) (t : Fin cfg0.N) (d) : (dat0 V O R c).before 0 t d = iblk0 V c 0 t :=
  (dat0 V O R c).before_in_eq_fetched 0 rfl (fun _ => rfl) (fun _ _ _ => rfl) (fun _ => rfl) t d

def bodyPre0 (c : Dev nD) (t : Fin cfg0.N) : sProp 𝕄 :=
  iprop((dat0 V O R c).Φ t.castSucc ∗ (dat0 V O R c).owesAt none t.castSucc
    ∗ (∃ d, owns (c : Thread nD τ) (ms0_0 t) fullShare ((dat0 V O R c).before 0 t d))
    ∗ (∃ d, owns (c : Thread nD τ) (ms0_1 t) fullShare ((dat0 V O R c).before 1 t d)))

def bodyPost0 (c : Dev nD) (t : Fin cfg0.N) : sProp 𝕄 :=
  iprop((dat0 V O R c).Φ t.succ ∗ (dat0 V O R c).owesAt none t.succ
    ∗ owns (c : Thread nD τ) (ms0_0 t) fullShare ((dat0 V O R c).after 0 t)
    ∗ owns (c : Thread nD τ) (ms0_1 t) fullShare ((dat0 V O R c).after 1 t))

theorem sound_body0 (c : Dev nD) (t : Fin cfg0.N) :
    bodyPre0 V O R c t ⊢ wp frame (wpE (defs₀ (F := F)) Variants.none c none) Set.univ (bodyAt0 t) (fun _ => bodyPost0 V O R c t) := by
  unfold bodyPre0 bodyPost0 bodyAt0
  simp only [before0_0]
  rw [show (dat0 V O R c).Φ t.succ = (dat0 V O R c).Φ t.castSucc from rfl,
    show (dat0 V O R c).owesAt none t.succ = (dat0 V O R c).owesAt none t.castSucc from rfl,
    after0_0, after0_1]
  unfold outsAt0
  unfold out0_A_1
  iintro ⟨HΦ, Ho, ⟨%d0, H0⟩, ⟨%d1, H1⟩⟩
  iapply ((kernelRun0_A c _ _ _ _ (iblk0 V c 0 t)).2 Set.univ _)
  isplitl [H0]; · iexact H0
  isplitl [H1]; · iexists _; iexact H1
  iintro ⟨H0, ⟨%e1, H1⟩⟩
  iframe HΦ Ho H0
  unfold owns; iexists _; isplitr
  swap; · iexact H1
  ipureintro; exact View.read_writes_of_cover _ _ _ _ _ (cover0_A_1 c _ _ _ _ _)

theorem defs₀_row0 (t : Fin cfg0.N) :
    defs₀ (F := F) .tc cfg0.body (cfg0.bodyArgs t (cfg0.slots t)) = bodyAt0 t := by
  rfl

theorem body_obligation0 (c : Dev nD) : BodyObligation (dat0 (F := F) V O R c) (defs₀ (F := F)) Variants.none none Set.univ := fun t => by
  rw [bigSep_W0, bigSep_W0, defs₀_row0]
  exact triple_restated (sound_body0 V O R c t) rfl .rfl fun _ => .rfl

end Cert.Proof.Whole
end
-- ==== Proof.WholeNear.lean ====
/-
  The nearest-neighbour call inside the whole program: each grid point's body, at any entry contents.
-/
module

public import proofs.«01_k».proof.Proof.WholeTile
public import proofs.«01_k».proof.Proof.Gen.WholeIdeal.Launch
public import proofs.«01_k».proof.Proof.Gen.WholeIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
  (O : Dev nD → CellTallies nD τ sig (HIx 1)) (R : Dev nD → Set (SemLoc sig × HIx 1))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1x32x3 := Rect.unit (s := S1x32x3) ![0, 0, 0] S1x32x3.size inb_S1x32x3_S1x32x3_0_0_0
abbrev r1_1 : Rect S1x3x16384 := Rect.unit (s := S1x3x16384) ![0, 0, 0] S1x1x16384.size inb_S1x3x16384_S1x1x16384_0_0_0
abbrev r1_2 : Rect S1x3x16384 := Rect.unit (s := S1x3x16384) ![0, 1, 0] S1x1x16384.size inb_S1x3x16384_S1x1x16384_0_1_0
abbrev r1_3 : Rect S1x3x16384 := Rect.unit (s := S1x3x16384) ![0, 2, 0] S1x1x16384.size inb_S1x3x16384_S1x1x16384_0_2_0
abbrev r1_4 : Rect S1x3x16384 := Rect.unit (s := S1x3x16384) ![0, 0, 0] S1x3x16384.size inb_S1x3x16384_S1x3x16384_0_0_0
abbrev r1_5 : Rect S1x32x32 := Rect.unit (s := S1x32x32) ![0, 0, 0] S1x32x32.size inb_S1x32x32_S1x32x32_0_0_0

def k1_pay74 (x0 : Vec F S1x32x3 .f32) (x1 : Vec F S1x3x16384 .f32) : IVec S32x16384 32 :=
  iota .tc S32x16384 32 [1] iota_S32x16384_d1_w32
def k1_pay75 (x0 : Vec F S1x32x3 .f32) (x1 : Vec F S1x3x16384 .f32) : FVec F S32x16384 .f32 :=
  k1_pay6 (View.ld x0 r1_0) (View.ld x1 r1_1) (View.ld x1 r1_2) (View.ld x1 r1_3) (View.ld x1 r1_4)
def k1_pay76 (x0 : Vec F S1x32x3 .f32) (x1 : Vec F S1x3x16384 .f32) : IVec S32x16384 1 :=
  k1_pay7 (View.ld x0 r1_0) (View.ld x1 r1_1) (View.ld x1 r1_2) (View.ld x1 r1_3) (View.ld x1 r1_4)
def k1_pay77 (x0 : Vec F S1x32x3 .f32) (x1 : Vec F S1x3x16384 .f32) : FVec F S32x16384 .f32 :=
  k1_pay15 (k1_pay74 x0 x1) (k1_pay75 x0 x1) (k1_pay76 x0 x1)
def k1_pay78 (x0 : Vec F S1x32x3 .f32) (x1 : Vec F S1x3x16384 .f32) : FVec F S32x16384 .f32 :=
  k1_pay21 (k1_pay74 x0 x1) (k1_pay77 x0 x1)
def k1_pay79 (x0 : Vec F S1x32x3 .f32) (x1 : Vec F S1x3x16384 .f32) : IVec S32x16384 1 :=
  k1_pay23 (k1_pay74 x0 x1) (k1_pay77 x0 x1)
def k1_pay80 (x0 : Vec F S1x32x3 .f32) (x1 : Vec F S1x3x16384 .f32) : FVec F S32x16384 .f32 :=
  k1_pay30 (k1_pay74 x0 x1) (k1_pay78 x0 x1) (k1_pay79 x0 x1)
def k1_pay81 (x0 : Vec F S1x32x3 .f32) (x1 : Vec F S1x3x16384 .f32) : IVec S32x16384 32 :=
  k1_pay31 (k1_pay74 x0 x1) (k1_pay78 x0 x1) (k1_pay79 x0 x1)
def k1_pay82 (x0 : Vec F S1x32x3 .f32) (x1 : Vec F S1x3x16384 .f32) : FVec F S32x16384 .f32 :=
  k1_pay39 (k1_pay74 x0 x1) (k1_pay80 x0 x1) (k1_pay81 x0 x1)
def k1_pay83 (x0 : Vec F S1x32x3 .f32) (x1 : Vec F S1x3x16384 .f32) : IVec S32x16384 1 :=
  k1_pay40 (k1_pay74 x0 x1) (k1_pay80 x0 x1) (k1_pay81 x0 x1)
def k1_pay84 (x0 : Vec F S1x32x3 .f32) (x1 : Vec F S1x3x16384 .f32) : FVec F S32x16384 .f32 :=
  k1_pay48 (k1_pay74 x0 x1) (k1_pay82 x0 x1) (k1_pay83 x0 x1)
def k1_pay85 (x0 : Vec F S1x32x3 .f32) (x1 : Vec F S1x3x16384 .f32) : FVec F S32x16384 .f32 :=
  k1_pay54 (k1_pay74 x0 x1) (k1_pay84 x0 x1)
def k1_pay86 (x0 : Vec F S1x32x3 .f32) (x1 : Vec F S1x3x16384 .f32) : IVec S32x16384 1 :=
  k1_pay56 (k1_pay74 x0 x1) (k1_pay84 x0 x1)
def k1_pay87 (x0 : Vec F S1x32x3 .f32) (x1 : Vec F S1x3x16384 .f32) : FVec F S32x16384 .f32 :=
  k1_pay63 (k1_pay74 x0 x1) (k1_pay85 x0 x1) (k1_pay86 x0 x1)
def k1_pay88 (x0 : Vec F S1x32x3 .f32) (x1 : Vec F S1x3x16384 .f32) : IVec S32x16384 32 :=
  k1_pay64 (k1_pay74 x0 x1) (k1_pay85 x0 x1) (k1_pay86 x0 x1)
def k1_pay89 (x0 : Vec F S1x32x3 .f32) (x1 : Vec F S1x3x16384 .f32) : IVec S32x1 32 :=
  k1_pay1 (k1_pay74 x0 x1) (k1_pay73 (k1_pay74 x0 x1) (k1_pay87 x0 x1) (k1_pay88 x0 x1))

def out1_2 (x0 : Vec F S1x32x3 .f32) (x1 : Vec F S1x3x16384 .f32) : Vec F S1x32x32 .i32 :=
  View.canon [⟨r1_5, k1_pay5 (k1_pay4 (k1_pay8 (k1_pay74 x0 x1) (k1_pay76 x0 x1)) (k1_pay10 (k1_pay74 x0 x1) (k1_pay75 x0 x1) (k1_pay76 x0 x1)) (k1_pay12 (k1_pay74 x0 x1) (k1_pay75 x0 x1) (k1_pay76 x0 x1)) (k1_pay14 (k1_pay74 x0 x1) (k1_pay75 x0 x1) (k1_pay76 x0 x1)) (k1_pay16 (k1_pay74 x0 x1) (k1_pay77 x0 x1)) (k1_pay18 (k1_pay74 x0 x1) (k1_pay77 x0 x1)) (k1_pay20 (k1_pay74 x0 x1) (k1_pay77 x0 x1)) (k1_pay22 (k1_pay74 x0 x1) (k1_pay77 x0 x1)) (k1_pay25 (k1_pay74 x0 x1) (k1_pay78 x0 x1) (k1_pay79 x0 x1)) (k1_pay27 (k1_pay74 x0 x1) (k1_pay78 x0 x1) (k1_pay79 x0 x1)) (k1_pay29 (k1_pay74 x0 x1) (k1_pay78 x0 x1) (k1_pay79 x0 x1)) (k1_pay32 (k1_pay81 x0 x1)) (k1_pay34 (k1_pay74 x0 x1) (k1_pay80 x0 x1) (k1_pay81 x0 x1)) (k1_pay36 (k1_pay74 x0 x1) (k1_pay80 x0 x1) (k1_pay81 x0 x1)) (k1_pay38 (k1_pay74 x0 x1) (k1_pay80 x0 x1) (k1_pay81 x0 x1)) (k1_pay41 (k1_pay74 x0 x1) (k1_pay83 x0 x1)) (k1_pay43 (k1_pay74 x0 x1) (k1_pay82 x0 x1) (k1_pay83 x0 x1)) (k1_pay45 (k1_pay74 x0 x1) (k1_pay82 x0 x1) (k1_pay83 x0 x1)) (k1_pay47 (k1_pay74 x0 x1) (k1_pay82 x0 x1) (k1_pay83 x0 x1)) (k1_pay49 (k1_pay74 x0 x1) (k1_pay84 x0 x1)) (k1_pay51 (k1_pay74 x0 x1) (k1_pay84 x0 x1)) (k1_pay53 (k1_pay74 x0 x1) (k1_pay84 x0 x1)) (k1_pay55 (k1_pay74 x0 x1) (k1_pay84 x0 x1)) (k1_pay58 (k1_pay74 x0 x1) (k1_pay85 x0 x1) (k1_pay86 x0 x1)) (k1_pay60 (k1_pay74 x0 x1) (k1_pay85 x0 x1) (k1_pay86 x0 x1)) (k1_pay62 (k1_pay74 x0 x1) (k1_pay85 x0 x1) (k1_pay86 x0 x1)) (k1_pay65 (k1_pay88 x0 x1)) (k1_pay67 (k1_pay74 x0 x1) (k1_pay87 x0 x1) (k1_pay88 x0 x1)) (k1_pay69 (k1_pay74 x0 x1) (k1_pay87 x0 x1) (k1_pay88 x0 x1)) (k1_pay71 (k1_pay74 x0 x1) (k1_pay87 x0 x1) (k1_pay88 x0 x1)) (k1_pay89 x0 x1) (k1_pay3 (k1_pay74 x0 x1) (k1_pay2 (k1_pay74 x0 x1) (k1_pay72 (k1_pay74 x0 x1) (k1_pay87 x0 x1) (k1_pay88 x0 x1)) (k1_pay89 x0 x1))))⟩]

theorem cover1_2 (p0 : Vec F S1x32x32 .i32) (y : S1x32x32.Idx) :
    ∃ pc ∈ ([⟨r1_5, p0⟩] : List (View.Piece (Elt F) S1x32x32 .i32)), y ∈ pc.1.set :=
  View.cover_of_tiled [⟨r1_5, p0⟩] S1x32x32.size (by rfl) y

set_option maxHeartbeats 6596600 in
theorem sound_kernel1 (c : Dev nD) (E : Set ℕ) (i : grid1.Coords) (arg2 : Memref sig .tc .vmem S1x32x3 .f32) (harg2 : arg2.IsWhole) (arg3 : Memref sig .tc .vmem S1x3x16384 .f32) (harg3 : arg3.IsWhole) (arg4 : Memref sig .tc .vmem S1x32x32 .i32) (harg4 : arg4.IsWhole)
    (x0 : Vec F S1x32x3 .f32) (x1 : Vec F S1x3x16384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__knn_body i arg2 harg2 arg3 harg3 arg4 harg4) K := by
  simp only [cc1__knn_body_eq_skeleton]; unfold cc1__knn_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rfl

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΦW spec1 c
  q _ := fullShare
  owed _ := O c
  recorded _ := R c

theorem A_eq1 (c : Dev nD) (w : Fin cfg1.W) : (dat1 V O R c).A w = V c (Pipeline.arrRef spec1 w) := by
  dsimp only [dat1]

theorem after1_0 (c : Dev nD) (t : Fin cfg1.N) : (dat1 V O R c).after 0 t = iblk1 V c 0 t := by dsimp only [dat1]
theorem after1_1 (c : Dev nD) (t : Fin cfg1.N) : (dat1 V O R c).after 1 t = iblk1 V c 1 t := by dsimp only [dat1]
theorem after1_2 (c : Dev nD) (t : Fin cfg1.N) : (dat1 V O R c).after 2 t = out1_2 (iblk1 V c 0 t) (iblk1 V c 1 t) := by dsimp only [dat1]

theorem before1_0 (c : Dev nD) (t : Fin cfg1.N) (d) : (dat1 V O R c).before 0 t d = iblk1 V c 0 t :=
  (dat1 V O R c).before_in_eq_fetched 0 rfl (fun _ => rfl) (fun _ _ _ => rfl) (fun _ => rfl) t d
theorem before1_1 (c : Dev nD) (t : Fin cfg1.N) (d) : (dat1 V O R c).before 1 t d = iblk1 V c 1 t :=
  (dat1 V O R c).before_in_eq_fetched 1 rfl (fun _ => rfl) (fun _ _ _ => rfl) (fun _ => rfl) t d

def bodyPre1 (c : Dev nD) (t : Fin cfg1.N) : sProp 𝕄 :=
  iprop((dat1 V O R c).Φ t.castSucc ∗ (dat1 V O R c).owesAt none t.castSucc
    ∗ (∃ d, owns (c : Thread nD τ) (st1_0 t) fullShare ((dat1 V O R c).before 0 t d))
    ∗ (∃ d, owns (c : Thread nD τ) (st1_1 t) fullShare ((dat1 V O R c).before 1 t d))
    ∗ (∃ d, owns (c : Thread nD τ) (st1_2 t) fullShare ((dat1 V O R c).before 2 t d)))

def bodyPost1 (c : Dev nD) (t : Fin cfg1.N) : sProp 𝕄 :=
  iprop((dat1 V O R c).Φ t.succ ∗ (dat1 V O R c).owesAt none t.succ
    ∗ owns (c : Thread nD τ) (st1_0 t) fullShare ((dat1 V O R c).after 0 t)
    ∗ owns (c : Thread nD τ) (st1_1 t) fullShare ((dat1 V O R c).after 1 t)
    ∗ owns (c : Thread nD τ) (st1_2 t) fullShare ((dat1 V O R c).after 2 t))

theorem sound_body1 (c : Dev nD) (t : Fin cfg1.N) :
    bodyPre1 V O R c t ⊢ wp frame (wpE (defs₀ (F := F)) Variants.none c none) Set.univ (bodyAt1 t) (fun _ => bodyPost1 V O R c t) := by
  unfold bodyPre1 bodyPost1 bodyAt1
  simp only [before1_0, before1_1]
  rw [show (dat1 V O R c).Φ t.succ = (dat1 V O R c).Φ t.castSucc from rfl,
    show (dat1 V O R c).owesAt none t.succ = (dat1 V O R c).owesAt none t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  iframe H0 H1
  isplitl [H2]; · iexists _; iexact H2
  iintro ⟨H0, H1, H2⟩
  iframe HΦ Ho H0 H1 H2

theorem defs₀_row1 (t : Fin cfg1.N) :
    defs₀ (F := F) .tc cfg1.body (cfg1.bodyArgs t (cfg1.slots t)) = bodyAt1 t := by
  rfl

theorem body_obligation1 (c : Dev nD) : BodyObligation (dat1 (F := F) V O R c) (defs₀ (F := F)) Variants.none none Set.univ := fun t => by
  rw [bigSep_W1, bigSep_W1, defs₀_row1]
  exact triple_restated (sound_body1 V O R c t) rfl .rfl fun _ => .rfl

end Cert.Proof.Whole
end
-- ==== Proof.WholeLayers.lean ====
/-
  The three layer calls inside the whole program: each grid point's body, at any entry contents.
-/
module

public import proofs.«01_k».proof.Proof.WholeTile
public import proofs.«01_k».proof.Proof.Gen.WholeIdeal.Launch
public import proofs.«01_k».proof.Proof.Gen.WholeIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.UnfoldOut
public import Idealize.ShloMosaic.Lib.WordCmp

@[expose] public section

set_option maxRecDepth 16384

noncomputable section

namespace Cert.Proof.Whole

open Cert.WholeIdeal Cert.WholeIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
  (O : Dev nD → CellTallies nD τ sig (HIx 1)) (R : Dev nD → Set (SemLoc sig × HIx 1))

/-! ## The call of the first layer -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S4096x16 := Rect.unit (s := S4096x16) ![0, 0] S4096x16.size inb_S4096x16_S4096x16_0_0
abbrev r3_1 : Rect S128x3 := Rect.unit (s := S128x3) ![0, 0] S128x3.size inb_S128x3_S128x3_0_0
abbrev r3_2 : Rect S3x64 := Rect.unit (s := S3x64) ![0, 0] S3x64.size inb_S3x64_S3x64_0_0
abbrev r3_3 : Rect S64 := Rect.unit (s := S64) ![0] S64.size inb_S64_S64_0
abbrev r3_4 : Rect S4096x64 := Rect.unit (s := S4096x64) ![0, 0] S4096x64.size inb_S4096x64_S4096x64_0_0
abbrev r3_5 : Rect S1x2x64 := Rect.unit (s := S1x2x64) ![0, 0, 0] S1x1x64.size inb_S1x2x64_S1x1x64_0_0_0
abbrev r3_6 : Rect S1x2x64 := Rect.unit (s := S1x2x64) ![0, 1, 0] S1x1x64.size inb_S1x2x64_S1x1x64_0_1_0

def out3_4 (x0 : Vec F S4096x16 .f32) (x1 : Vec F S128x3 .f32) (x2 : Vec F S3x64 .f32) (x3 : Vec F S64 .f32) : Vec F S4096x64 .f32 :=
  View.canon [⟨r3_4, k3_pay1 (View.ld x0 r3_0) (View.ld x1 r3_1) (View.ld x2 r3_2) (View.ld x3 r3_3)⟩]

theorem cover3_4 (p0 : Vec F S4096x64 .f32) (y : S4096x64.Idx) :
    ∃ pc ∈ ([⟨r3_4, p0⟩] : List (View.Piece (Elt F) S4096x64 .f32)), y ∈ pc.1.set :=
  View.cover_of_tiled [⟨r3_4, p0⟩] S4096x64.size (by rfl) y

def out3_5 (x0 : Vec F S4096x16 .f32) (x1 : Vec F S128x3 .f32) (x2 : Vec F S3x64 .f32) (x3 : Vec F S64 .f32) : Vec F S1x2x64 .f32 :=
  View.canon [⟨r3_6, k3_pay3 (View.ld x0 r3_0) (View.ld x1 r3_1) (View.ld x2 r3_2) (View.ld x3 r3_3)⟩,
    ⟨r3_5, k3_pay2 (View.ld x0 r3_0) (View.ld x1 r3_1) (View.ld x2 r3_2) (View.ld x3 r3_3)⟩]

theorem cover3_5 (p0 : Vec F S1x1x64 .f32) (p1 : Vec F S1x1x64 .f32) (y : S1x2x64.Idx) :
    ∃ pc ∈ ([⟨r3_6, p0⟩, ⟨r3_5, p1⟩] : List (View.Piece (Elt F) S1x2x64 .f32)), y ∈ pc.1.set :=
  View.cover_of_tiled [⟨r3_6, p0⟩, ⟨r3_5, p1⟩] S1x1x64.size (by rfl) y

set_option maxHeartbeats 1000000 in
theorem sound_kernel3 (c : Dev nD) (E : Set ℕ) (i : grid3.Coords) (arg1 : Memref sig .tc .vmem S4096x16 .f32) (harg1 : arg1.IsWhole) (arg2 : Memref sig .tc .vmem S128x3 .f32) (harg2 : arg2.IsWhole) (arg3 : Memref sig .tc .vmem S3x64 .f32) (harg3 : arg3.IsWhole) (arg4 : Memref sig .tc .vmem S64 .f32) (harg4 : arg4.IsWhole) (arg5 : Memref sig .tc .vmem S4096x64 .f32) (harg5 : arg5.IsWhole) (arg6 : Memref sig .tc .vmem S1x2x64 .f32) (harg6 : arg6.IsWhole)
    (x0 : Vec F S4096x16 .f32) (x1 : Vec F S128x3 .f32) (x2 : Vec F S3x64 .f32) (x3 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3) ∗ owns (c : Thread nD τ) arg6 fullShare (out3_5 x0 x1 x2 x3)) -∗ K ⟨⟩))
      ⊢ wp frame (wpE (defs₀ (F := F)) Variants.none c none) E (cc3__center_mm_stats_body i arg1 harg1 arg2 harg2 arg3 harg3 arg4 harg4 arg5 harg5 arg6 harg6) K := by
  simp only [cc3__center_mm_stats_body_eq_skeleton]; unfold cc3__center_mm_stats_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _ _)

def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
    | ⟨5, _⟩ => out3_5 (iblk3 V c 0 t) (iblk3 V c 1 t) (iblk3 V c 2 t) (iblk3 V c 3 t)
  Φ _ := ΦW spec3 c
  q _ := fullShare
  owed _ := O c
  recorded _ := R c

theorem A_eq3 (c : Dev nD) (w : Fin cfg3.W) : (dat3 V O R c).A w = V c (Pipeline.arrRef spec3 w) := by
  dsimp only [dat3]

theorem after3_0 (c : Dev nD) (t : Fin cfg3.N) : (dat3 V O R c).after 0 t = iblk3 V c 0 t := by dsimp only [dat3]
theorem after3_1 (c : Dev nD) (t : Fin cfg3.N) : (dat3 V O R c).after 1 t = iblk3 V c 1 t := by dsimp only [dat3]
theorem after3_2 (c : Dev nD) (t : Fin cfg3.N) : (dat3 V O R c).after 2 t = iblk3 V c 2 t := by dsimp only [dat3]
theorem after3_3 (c : Dev nD) (t : Fin cfg3.N) : (dat3 V O R c).after 3 t = iblk3 V c 3 t := by dsimp only [dat3]
theorem after3_4 (c : Dev nD) (t : Fin cfg3.N) : (dat3 V O R c).after 4 t = out3_4 (iblk3 V c 0 t) (iblk3 V c 1 t) (iblk3 V c 2 t) (iblk3 V c 3 t) := by dsimp only [dat3]
theorem after3_5 (c : Dev nD) (t : Fin cfg3.N) : (dat3 V O R c).after 5 t = out3_5 (iblk3 V c 0 t) (iblk3 V c 1 t) (iblk3 V c 2 t) (iblk3 V c 3 t) := by dsimp only [dat3]

theorem before3_0 (c : Dev nD) (t : Fin cfg3.N) (d) : (dat3 V O R c).before 0 t d = iblk3 V c 0 t :=
  (dat3 V O R c).before_in_eq_fetched 0 rfl (fun _ => rfl) (fun _ _ _ => rfl) (fun _ => rfl) t d
theorem before3_1 (c : Dev nD) (t : Fin cfg3.N) (d) : (dat3 V O R c).before 1 t d = iblk3 V c 1 t :=
  (dat3 V O R c).before_in_eq_fetched 1 rfl (fun _ => rfl) (fun _ _ _ => rfl) (fun _ => rfl) t d
theorem before3_2 (c : Dev nD) (t : Fin cfg3.N) (d) : (dat3 V O R c).before 2 t d = iblk3 V c 2 t :=
  (dat3 V O R c).before_in_eq_fetched 2 rfl (fun _ => rfl) (fun _ _ _ => rfl) (fun _ => rfl) t d
theorem before3_3 (c : Dev nD) (t : Fin cfg3.N) (d) : (dat3 V O R c).before 3 t d = iblk3 V c 3 t :=
  (dat3 V O R c).before_in_eq_fetched 3 rfl (fun _ => rfl) (fun _ _ _ => rfl) (fun _ => rfl) t d

def bodyPre3 (c : Dev nD) (t : Fin cfg3.N) : sProp 𝕄 :=
  iprop((dat3 V O R c).Φ t.castSucc ∗ (dat3 V O R c).owesAt none t.castSucc
    ∗ (∃ d, owns (c : Thread nD τ) (st3_0 t) fullShare ((dat3 V O R c).before 0 t d))
    ∗ (∃ d, owns (c : Thread nD τ) (st3_1 t) fullShare ((dat3 V O R c).before 1 t d))
    ∗ (∃ d, owns (c : Thread nD τ) (st3_2 t) fullShare ((dat3 V O R c).before 2 t d))
    ∗ (∃ d, owns (c : Thread nD τ) (st3_3 t) fullShare ((dat3 V O R c).before 3 t d))
    ∗ (∃ d, owns (c : Thread nD τ) (st3_4 t) fullShare ((dat3 V O R c).before 4 t d))
    ∗ (∃ d, owns (c : Thread nD τ) (st3_5 t) fullShare ((dat3 V O R c).before 5 t d)))

def bodyPost3 (c : Dev nD) (t : Fin cfg3.N) : sProp 𝕄 :=
  iprop((dat3 V O R c).Φ t.succ ∗ (dat3 V O R c).owesAt none t.succ
    ∗ owns (c : Thread nD τ) (st3_0 t) fullShare ((dat3 V O R c).after 0 t)
    ∗ owns (c : Thread nD τ) (st3_1 t) fullShare ((dat3 V O R c).after 1 t)
    ∗ owns (c : Thread nD τ) (st3_2 t) fullShare ((dat3 V O R c).after 2 t)
    ∗ owns (c : Thread nD τ) (st3_3 t) fullShare ((dat3 V O R c).after 3 t)
    ∗ owns (c : Thread nD τ) (st3_4 t) fullShare ((dat3 V O R c).after 4 t)
    ∗ owns (c : Thread nD τ) (st3_5 t) fullShare ((dat3 V O R c).after 5 t))

theorem sound_body3 (c : Dev nD) (t : Fin cfg3.N) :
    bodyPre3 V O R c t ⊢ wp frame (wpE (defs₀ (F := F)) Variants.none c none) Set.univ (bodyAt3 t) (fun _ => bodyPost3 V O R c t) := by
  unfold bodyPre3 bodyPost3 bodyAt3
  simp only [before3_0, before3_1, before3_2, before3_3]
  rw [show (dat3 V O R c).Φ t.succ = (dat3 V O R c).Φ t.castSucc from rfl,
    show (dat3 V O R c).owesAt none t.succ = (dat3 V O R c).owesAt none t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  iframe H0 H1 H2 H3
  isplitl [H4]; · iexists _; iexact H4
  isplitl [H5]; · iexists _; iexact H5
  iintro ⟨H0, H1, H2, H3, H4, H5⟩
  iframe HΦ Ho H0 H1 H2 H3 H4 H5

theorem defs₀_row3 (t : Fin cfg3.N) :
    defs₀ (F := F) .tc cfg3.body (cfg3.bodyArgs t (cfg3.slots t)) = bodyAt3 t := by
  rfl

theorem body_obligation3 (c : Dev nD) : BodyObligation (dat3 (F := F) V O R c) (defs₀ (F := F)) Variants.none none Set.univ := fun t => by
  rw [bigSep_W3, bigSep_W3, defs₀_row3]
  exact triple_restated (sound_body3 V O R c t) rfl .rfl fun _ => .rfl

/-! ## The call of the second layer -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S4096x64 := Rect.unit (s := S4096x64) ![0, 0] S4096x64.size inb_S4096x64_S4096x64_0_0
abbrev r4_1 : Rect S64 := Rect.unit (s := S64) ![0] S64.size inb_S64_S64_0
abbrev r4_2 : Rect S64x128 := Rect.unit (s := S64x128) ![0, 0] S64x128.size inb_S64x128_S64x128_0_0
abbrev r4_3 : Rect S128 := Rect.unit (s := S128) ![0] S128.size inb_S128_S128_0
abbrev r4_4 : Rect S4096x128 := Rect.unit (s := S4096x128) ![0, 0] S4096x128.size inb_S4096x128_S4096x128_0_0
abbrev r4_5 : Rect S1x2x128 := Rect.unit (s := S1x2x128) ![0, 0, 0] S1x1x128.size inb_S1x2x128_S1x1x128_0_0_0
abbrev r4_6 : Rect S1x2x128 := Rect.unit (s := S1x2x128) ![0, 1, 0] S1x1x128.size inb_S1x2x128_S1x1x128_0_1_0

def out4_5 (x0 : Vec F S4096x64 .f32) (x1 : Vec F S64 .f32) (x2 : Vec F S64 .f32) (x3 : Vec F S64x128 .f32) (x4 : Vec F S128 .f32) : Vec F S4096x128 .f32 :=
  View.canon [⟨r4_4, k4_pay1 (View.ld x0 r4_0) (View.ld x1 r4_1) (View.ld x2 r4_1) (View.ld x3 r4_2) (View.ld x4 r4_3)⟩]

theorem cover4_5 (p0 : Vec F S4096x128 .f32) (y : S4096x128.Idx) :
    ∃ pc ∈ ([⟨r4_4, p0⟩] : List (View.Piece (Elt F) S4096x128 .f32)), y ∈ pc.1.set :=
  View.cover_of_tiled [⟨r4_4, p0⟩] S4096x128.size (by rfl) y

def out4_6 (x0 : Vec F S4096x64 .f32) (x1 : Vec F S64 .f32) (x2 : Vec F S64 .f32) (x3 : Vec F S64x128 .f32) (x4 : Vec F S128 .f32) : Vec F S1x2x128 .f32 :=
  View.canon [⟨r4_6, k4_pay3 (View.ld x0 r4_0) (View.ld x1 r4_1) (View.ld x2 r4_1) (View.ld x3 r4_2) (View.ld x4 r4_3)⟩,
    ⟨r4_5, k4_pay2 (View.ld x0 r4_0) (View.ld x1 r4_1) (View.ld x2 r4_1) (View.ld x3 r4_2) (View.ld x4 r4_3)⟩]

theorem cover4_6 (p0 : Vec F S1x1x128 .f32) (p1 : Vec F S1x1x128 .f32) (y : S1x2x128.Idx) :
    ∃ pc ∈ ([⟨r4_6, p0⟩, ⟨r4_5, p1⟩] : List (View.Piece (Elt F) S1x2x128 .f32)), y ∈ pc.1.set :=
  View.cover_of_tiled [⟨r4_6, p0⟩, ⟨r4_5, p1⟩] S1x1x128.size (by rfl) y

set_option maxHeartbeats 1000000 in
theorem sound_kernel4 (c : Dev nD) (E : Set ℕ) (i : grid4.Coords) (arg1 : Memref sig .tc .vmem S4096x64 .f32) (harg1 : arg1.IsWhole) (arg2 : Memref sig .tc .vmem S64 .f32) (harg2 : arg2.IsWhole) (arg3 : Memref sig .tc .vmem S64 .f32) (harg3 : arg3.IsWhole) (arg4 : Memref sig .tc .vmem S64x128 .f32) (harg4 : arg4.IsWhole) (arg5 : Memref sig .tc .vmem S128 .f32) (harg5 : arg5.IsWhole) (arg6 : Memref sig .tc .vmem S4096x128 .f32) (harg6 : arg6.IsWhole) (arg7 : Memref sig .tc .vmem S1x2x128 .f32) (harg7 : arg7.IsWhole)
    (x0 : Vec F S4096x64 .f32) (x1 : Vec F S64 .f32) (x2 : Vec F S64 .f32) (x3 : Vec F S64x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E (cc4__bnrelu_mm_stats_body i arg1 harg1 arg2 harg2 arg3 harg3 arg4 harg4 arg5 harg5 arg6 harg6 arg7 harg7) K := by
  simp only [cc4__bnrelu_mm_stats_body_eq_skeleton]; unfold cc4__bnrelu_mm_stats_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_6 _ _)

def dat4 (c : Dev nD) : Dat τ (Elt F) (HIx 1) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := ΦW spec4 c
  q _ := fullShare
  owed _ := O c
  recorded _ := R c

theorem A_eq4 (c : Dev nD) (w : Fin cfg4.W) : (dat4 V O R c).A w = V c (Pipeline.arrRef spec4 w) := by
  dsimp only [dat4]

theorem after4_0 (c : Dev nD) (t : Fin cfg4.N) : (dat4 V O R c).after 0 t = iblk4 V c 0 t := by dsimp only [dat4]
theorem after4_1 (c : Dev nD) (t : Fin cfg4.N) : (dat4 V O R c).after 1 t = iblk4 V c 1 t := by dsimp only [dat4]
theorem after4_2 (c : Dev nD) (t : Fin cfg4.N) : (dat4 V O R c).after 2 t = iblk4 V c 2 t := by dsimp only [dat4]
theorem after4_3 (c : Dev nD) (t : Fin cfg4.N) : (dat4 V O R c).after 3 t = iblk4 V c 3 t := by dsimp only [dat4]
theorem after4_4 (c : Dev nD) (t : Fin cfg4.N) : (dat4 V O R c).after 4 t = iblk4 V c 4 t := by dsimp only [dat4]
theorem after4_5 (c : Dev nD) (t : Fin cfg4.N) : (dat4 V O R c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V O R c).after 6 t = out4_6 (iblk4 V c 0 t) (iblk4 V c 1 t) (iblk4 V c 2 t) (iblk4 V c 3 t) (iblk4 V c 4 t) := by dsimp only [dat4]

theorem before4_0 (c : Dev nD) (t : Fin cfg4.N) (d) : (dat4 V O R c).before 0 t d = iblk4 V c 0 t :=
  (dat4 V O R c).before_in_eq_fetched 0 rfl (fun _ => rfl) (fun _ _ _ => rfl) (fun _ => rfl) t d
theorem before4_1 (c : Dev nD) (t : Fin cfg4.N) (d) : (dat4 V O R c).before 1 t d = iblk4 V c 1 t :=
  (dat4 V O R c).before_in_eq_fetched 1 rfl (fun _ => rfl) (fun _ _ _ => rfl) (fun _ => rfl) t d
theorem before4_2 (c : Dev nD) (t : Fin cfg4.N) (d) : (dat4 V O R c).before 2 t d = iblk4 V c 2 t :=
  (dat4 V O R c).before_in_eq_fetched 2 rfl (fun _ => rfl) (fun _ _ _ => rfl) (fun _ => rfl) t d
theorem before4_3 (c : Dev nD) (t : Fin cfg4.N) (d) : (dat4 V O R c).before 3 t d = iblk4 V c 3 t :=
  (dat4 V O R c).before_in_eq_fetched 3 rfl (fun _ => rfl) (fun _ _ _ => rfl) (fun _ => rfl) t d
theorem before4_4 (c : Dev nD) (t : Fin cfg4.N) (d) : (dat4 V O R c).before 4 t d = iblk4 V c 4 t :=
  (dat4 V O R c).before_in_eq_fetched 4 rfl (fun _ => rfl) (fun _ _ _ => rfl) (fun _ => rfl) t d

def bodyPre4 (c : Dev nD) (t : Fin cfg4.N) : sProp 𝕄 :=
  iprop((dat4 V O R c).Φ t.castSucc ∗ (dat4 V O R c).owesAt none t.castSucc
    ∗ (∃ d, owns (c : Thread nD τ) (st4_0 t) fullShare ((dat4 V O R c).before 0 t d))
    ∗ (∃ d, owns (c : Thread nD τ) (st4_1 t) fullShare ((dat4 V O R c).before 1 t d))
    ∗ (∃ d, owns (c : Thread nD τ) (st4_2 t) fullShare ((dat4 V O R c).before 2 t d))
    ∗ (∃ d, owns (c : Thread nD τ) (st4_3 t) fullShare ((dat4 V O R c).before 3 t d))
    ∗ (∃ d, owns (c : Thread nD τ) (st4_4 t) fullShare ((dat4 V O R c).before 4 t d))
    ∗ (∃ d, owns (c : Thread nD τ) (st4_5 t) fullShare ((dat4 V O R c).before 5 t d))
    ∗ (∃ d, owns (c : Thread nD τ) (st4_6 t) fullShare ((dat4 V O R c).before 6 t d)))

def bodyPost4 (c : Dev nD) (t : Fin cfg4.N) : sProp 𝕄 :=
  iprop((dat4 V O R c).Φ t.succ ∗ (dat4 V O R c).owesAt none t.succ
    ∗ owns (c : Thread nD τ) (st4_0 t) fullShare ((dat4 V O R c).after 0 t)
    ∗ owns (c : Thread nD τ) (st4_1 t) fullShare ((dat4 V O R c).after 1 t)
    ∗ owns (c : Thread nD τ) (st4_2 t) fullShare ((dat4 V O R c).after 2 t)
    ∗ owns (c : Thread nD τ) (st4_3 t) fullShare ((dat4 V O R c).after 3 t)
    ∗ owns (c : Thread nD τ) (st4_4 t) fullShare ((dat4 V O R c).after 4 t)
    ∗ owns (c : Thread nD τ) (st4_5 t) fullShare ((dat4 V O R c).after 5 t)
    ∗ owns (c : Thread nD τ) (st4_6 t) fullShare ((dat4 V O R c).after 6 t))

theorem sound_body4 (c : Dev nD) (t : Fin cfg4.N) :
    bodyPre4 V O R c t ⊢ wp frame (wpE (defs₀ (F := F)) Variants.none c none) Set.univ (bodyAt4 t) (fun _ => bodyPost4 V O R c t) := by
  unfold bodyPre4 bodyPost4 bodyAt4
  simp only [before4_0, before4_1, before4_2, before4_3, before4_4]
  rw [show (dat4 V O R c).Φ t.succ = (dat4 V O R c).Φ t.castSucc from rfl,
    show (dat4 V O R c).owesAt none t.succ = (dat4 V O R c).owesAt none t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) _)
  iframe H0 H1 H2 H3 H4
  isplitl [H5]; · iexists _; iexact H5
  isplitl [H6]; · iexists _; iexact H6
  iintro ⟨H0, H1, H2, H3, H4, H5, H6⟩
  iframe HΦ Ho H0 H1 H2 H3 H4 H5 H6

theorem defs₀_row4 (t : Fin cfg4.N) :
    defs₀ (F := F) .tc cfg4.body (cfg4.bodyArgs t (cfg4.slots t)) = bodyAt4 t := by
  rfl

theorem body_obligation4 (c : Dev nD) : BodyObligation (dat4 (F := F) V O R c) (defs₀ (F := F)) Variants.none none Set.univ := fun t => by
  rw [bigSep_W4, bigSep_W4, defs₀_row4]
  exact triple_restated (sound_body4 V O R c t) rfl .rfl fun _ => .rfl

/-! ## The call of the third layer -/

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S4096x128 := Rect.unit (s := S4096x128) ![0, 0] S4096x128.size inb_S4096x128_S4096x128_0_0
abbrev r5_1 : Rect S128 := Rect.unit (s := S128) ![0] S128.size inb_S128_S128_0
abbrev r5_2 : Rect S128x256 := Rect.unit (s := S128x256) ![0, 0] S128x256.size inb_S128x256_S128x256_0_0
abbrev r5_3 : Rect S256 := Rect.unit (s := S256) ![0] S256.size inb_S256_S256_0

def k5_pay7 (x0 : Vec F S4096x128 .f32) (x1 : Vec F S128 .f32) (x2 : Vec F S128 .f32) (x3 : Vec F S128x256 .f32) (x4 : Vec F S256 .f32) : FVec F S128x32x256 .f32 :=
  k5_pay2 (View.ld x0 r5_0) (View.ld x1 r5_1) (View.ld x2 r5_1) (View.ld x3 r5_2) (View.ld x4 r5_3)

def out5_5 (x0 : Vec F S4096x128 .f32) (x1 : Vec F S128 .f32) (x2 : Vec F S128 .f32) (x3 : Vec F S128x256 .f32) (x4 : Vec F S256 .f32) : Vec F S128x256 .f32 :=
  View.canon [⟨r5_2, k5_pay1 (k5_pay7 x0 x1 x2 x3 x4) (k5_pay5 (k5_pay7 x0 x1 x2 x3 x4) (k5_pay3 (View.ld x0 r5_0) (View.ld x1 r5_1) (View.ld x2 r5_1) (View.ld x3 r5_2) (View.ld x4 r5_3)) (k5_pay4 (View.ld x0 r5_0) (View.ld x1 r5_1) (View.ld x2 r5_1) (View.ld x3 r5_2) (View.ld x4 r5_3))) (k5_pay6 (k5_pay7 x0 x1 x2 x3 x4))⟩]

theorem cover5_5 (p0 : Vec F S128x256 .f32) (y : S128x256.Idx) :
    ∃ pc ∈ ([⟨r5_2, p0⟩] : List (View.Piece (Elt F) S128x256 .f32)), y ∈ pc.1.set :=
  View.cover_of_tiled [⟨r5_2, p0⟩] S128x256.size (by rfl) y

set_option maxHeartbeats 1000000 in
theorem sound_kernel5 (c : Dev nD) (E : Set ℕ) (i : grid5.Coords) (arg1 : Memref sig .tc .vmem S4096x128 .f32) (harg1 : arg1.IsWhole) (arg2 : Memref sig .tc .vmem S128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S256 .f32) (harg5 : arg5.IsWhole) (arg6 : Memref sig .tc .vmem S128x256 .f32) (harg6 : arg6.IsWhole)
    (x0 : Vec F S4096x128 .f32) (x1 : Vec F S128 .f32) (x2 : Vec F S128 .f32) (x3 : Vec F S128x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bnrelu_mm_max_body i arg1 harg1 arg2 harg2 arg3 harg3 arg4 harg4 arg5 harg5 arg6 harg6) K := by
  simp only [cc5__bnrelu_mm_max_body_eq_skeleton]; unfold cc5__bnrelu_mm_max_body_skel
  simp only [k5_part1_eq_skeleton, k5_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover5_5 _)).trans ?_
  rfl

def dat5 (c : Dev nD) : Dat τ (Elt F) (HIx 1) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := ΦW spec5 c
  q _ := fullShare
  owed _ := O c
  recorded _ := R c

theorem A_eq5 (c : Dev nD) (w : Fin cfg5.W) : (dat5 V O R c).A w = V c (Pipeline.arrRef spec5 w) := by
  dsimp only [dat5]

theorem after5_0 (c : Dev nD) (t : Fin cfg5.N) : (dat5 V O R c).after 0 t = iblk5 V c 0 t := by dsimp only [dat5]
theorem after5_1 (c : Dev nD) (t : Fin cfg5.N) : (dat5 V O R c).after 1 t = iblk5 V c 1 t := by dsimp only [dat5]
theorem after5_2 (c : Dev nD) (t : Fin cfg5.N) : (dat5 V O R c).after 2 t = iblk5 V c 2 t := by dsimp only [dat5]
theorem after5_3 (c : Dev nD) (t : Fin cfg5.N) : (dat5 V O R c).after 3 t = iblk5 V c 3 t := by dsimp only [dat5]
theorem after5_4 (c : Dev nD) (t : Fin cfg5.N) : (dat5 V O R c).after 4 t = iblk5 V c 4 t := by dsimp only [dat5]
theorem after5_5 (c : Dev nD) (t : Fin cfg5.N) : (dat5 V O R c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V O R c).before 0 t d = iblk5 V c 0 t :=
  (dat5 V O R c).before_in_eq_fetched 0 rfl (fun _ => rfl) (fun _ _ _ => rfl) (fun _ => rfl) t d
theorem before5_1 (c : Dev nD) (t : Fin cfg5.N) (d) : (dat5 V O R c).before 1 t d = iblk5 V c 1 t :=
  (dat5 V O R c).before_in_eq_fetched 1 rfl (fun _ => rfl) (fun _ _ _ => rfl) (fun _ => rfl) t d
theorem before5_2 (c : Dev nD) (t : Fin cfg5.N) (d) : (dat5 V O R c).before 2 t d = iblk5 V c 2 t :=
  (dat5 V O R c).before_in_eq_fetched 2 rfl (fun _ => rfl) (fun _ _ _ => rfl) (fun _ => rfl) t d
theorem before5_3 (c : Dev nD) (t : Fin cfg5.N) (d) : (dat5 V O R c).before 3 t d = iblk5 V c 3 t :=
  (dat5 V O R c).before_in_eq_fetched 3 rfl (fun _ => rfl) (fun _ _ _ => rfl) (fun _ => rfl) t d
theorem before5_4 (c : Dev nD) (t : Fin cfg5.N) (d) : (dat5 V O R c).before 4 t d = iblk5 V c 4 t :=
  (dat5 V O R c).before_in_eq_fetched 4 rfl (fun _ => rfl) (fun _ _ _ => rfl) (fun _ => rfl) t d

def bodyPre5 (c : Dev nD) (t : Fin cfg5.N) : sProp 𝕄 :=
  iprop((dat5 V O R c).Φ t.castSucc ∗ (dat5 V O R c).owesAt none t.castSucc
    ∗ (∃ d, owns (c : Thread nD τ) (st5_0 t) fullShare ((dat5 V O R c).before 0 t d))
    ∗ (∃ d, owns (c : Thread nD τ) (st5_1 t) fullShare ((dat5 V O R c).before 1 t d))
    ∗ (∃ d, owns (c : Thread nD τ) (st5_2 t) fullShare ((dat5 V O R c).before 2 t d))
    ∗ (∃ d, owns (c : Thread nD τ) (st5_3 t) fullShare ((dat5 V O R c).before 3 t d))
    ∗ (∃ d, owns (c : Thread nD τ) (st5_4 t) fullShare ((dat5 V O R c).before 4 t d))
    ∗ (∃ d, owns (c : Thread nD τ) (st5_5 t) fullShare ((dat5 V O R c).before 5 t d)))

def bodyPost5 (c : Dev nD) (t : Fin cfg5.N) : sProp 𝕄 :=
  iprop((dat5 V O R c).Φ t.succ ∗ (dat5 V O R c).owesAt none t.succ
    ∗ owns (c : Thread nD τ) (st5_0 t) fullShare ((dat5 V O R c).after 0 t)
    ∗ owns (c : Thread nD τ) (st5_1 t) fullShare ((dat5 V O R c).after 1 t)
    ∗ owns (c : Thread nD τ) (st5_2 t) fullShare ((dat5 V O R c).after 2 t)
    ∗ owns (c : Thread nD τ) (st5_3 t) fullShare ((dat5 V O R c).after 3 t)
    ∗ owns (c : Thread nD τ) (st5_4 t) fullShare ((dat5 V O R c).after 4 t)
    ∗ owns (c : Thread nD τ) (st5_5 t) fullShare ((dat5 V O R c).after 5 t))

theorem sound_body5 (c : Dev nD) (t : Fin cfg5.N) :
    bodyPre5 V O R c t ⊢ wp frame (wpE (defs₀ (F := F)) Variants.none c none) Set.univ (bodyAt5 t) (fun _ => bodyPost5 V O R c t) := by
  unfold bodyPre5 bodyPost5 bodyAt5
  simp only [before5_0, before5_1, before5_2, before5_3, before5_4]
  rw [show (dat5 V O R c).Φ t.succ = (dat5 V O R c).Φ t.castSucc from rfl,
    show (dat5 V O R c).owesAt none t.succ = (dat5 V O R c).owesAt none t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe HΦ Ho H0 H1 H2 H3 H4 H5

theorem defs₀_row5 (t : Fin cfg5.N) :
    defs₀ (F := F) .tc cfg5.body (cfg5.bodyArgs t (cfg5.slots t)) = bodyAt5 t := by
  rfl

theorem body_obligation5 (c : Dev nD) : BodyObligation (dat5 (F := F) V O R c) (defs₀ (F := F)) Variants.none none Set.univ := fun t => by
  rw [bigSep_W5, bigSep_W5, defs₀_row5]
  exact triple_restated (sound_body5 V O R c t) rfl .rfl fun _ => .rfl

end Cert.Proof.Whole
end
-- ==== Proof.WholeMain.lean ====
/-
  The whole program's run: five pipelined calls, the gather call and the host operations between them, from any memory at which
  every index the nearest-neighbour call leaves names a point.
-/
module

public import proofs.«01_k».proof.Proof.WholeSeg
public import proofs.«01_k».proof.Proof.WholeHost
public import proofs.«01_k».proof.Proof.WholeDeal
public import proofs.«01_k».proof.Proof.WholeSample
public import proofs.«01_k».proof.Proof.WholeNear
public import proofs.«01_k».proof.Proof.WholeLayers

@[expose] public section

noncomputable section

namespace Cert.Proof.Whole

open Cert.WholeIdeal Cert.WholeIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Idealize.ShloMosaic.StableHlo (held after)

variable {F : FTy → Type} [FloatOps F]
local notation "𝕄" => MT nD τ sig (HIx 1) (Elt F) ℕ UU ℕ

/-! ## The pipelined calls' proof data -/

/-- What the core still owes before the gather call is number `n`. -/
abbrev Own (n : ℕ) : Dev nD → CellTallies nD τ sig (HIx 1) := fun c => (K (F := F)).Otc c n
abbrev lvl (n : ℕ) : ℕ := 8 * SparseCore.Cfg.Blocks.fst 1 1 n

/-- Every pipelined call's proof data, entered from the arrays at `w`. -/
def pd (n : ℕ) (w : Valuation τ sig (Elt F)) : (p : Fin 5) → (c : Dev nD) → Dat τ (Elt F) (HIx 1) ℕ UU ℕ (Pipeline.pin (pcfgs (F := F)) adm p) c
  | ⟨0, _⟩ => fun c => dat0 (fun _ b => w (Proc.devRef .tc b)) (Own (F := F) n) (low (F := F) (lvl n)) c
  | ⟨1, _⟩ => fun c => dat1 (fun _ b => w (Proc.devRef .tc b)) (Own (F := F) n) (low (F := F) (lvl n)) c
  | ⟨2, _⟩ => fun c => dat3 (fun _ b => w (Proc.devRef .tc b)) (Own (F := F) n) (low (F := F) (lvl n)) c
  | ⟨3, _⟩ => fun c => dat4 (fun _ b => w (Proc.devRef .tc b)) (Own (F := F) n) (low (F := F) (lvl n)) c
  | ⟨4, _⟩ => fun c => dat5 (fun _ b => w (Proc.devRef .tc b)) (Own (F := F) n) (low (F := F) (lvl n)) c

theorem ok0 (n : ℕ) (w : Valuation τ sig (Elt F)) : DatOk (Own (F := F) n) (lvl n) w 0 (pd n w) where
  body c := (body_obligation0 (fun _ b => w (Proc.devRef .tc b)) (Own (F := F) n) (low (F := F) (lvl n)) c).loose
  owed _ _ := rfl
  recd _ _ := rfl
  share c := (pd n w 0 c).share_full fun _ => rfl
  inv _ _ := rfl
  start c w' := A_eq0 (fun _ b => w (Proc.devRef .tc b)) (Own (F := F) n) (low (F := F) (lvl n)) c w'

theorem ok1 (n : ℕ) (w : Valuation τ sig (Elt F)) : DatOk (Own (F := F) n) (lvl n) w 1 (pd n w) where
  body c := (body_obligation1 (fun _ b => w (Proc.devRef .tc b)) (Own (F := F) n) (low (F := F) (lvl n)) c).loose
  owed _ _ := rfl
  recd _ _ := rfl
  share c := (pd n w 1 c).share_full fun _ => rfl
  inv _ _ := rfl
  start c w' := A_eq1 (fun _ b => w (Proc.devRef .tc b)) (Own (F := F) n) (low (F := F) (lvl n)) c w'

theorem ok3 (n : ℕ) (w : Valuation τ sig (Elt F)) : DatOk (Own (F := F) n) (lvl n) w 2 (pd n w) where
  body c := (body_obligation3 (fun _ b => w (Proc.devRef .tc b)) (Own (F := F) n) (low (F := F) (lvl n)) c).loose
  owed _ _ := rfl
  recd _ _ := rfl
  share c := (pd n w 2 c).share_full fun _ => rfl
  inv _ _ := rfl
  start c w' := A_eq3 (fun _ b => w (Proc.devRef .tc b)) (Own (F := F) n) (low (F := F) (lvl n)) c w'

theorem ok4 (n : ℕ) (w : Valuation τ sig (Elt F)) : DatOk (Own (F := F) n) (lvl n) w 3 (pd n w) where
  body c := (body_obligation4 (fun _ b => w (Proc.devRef .tc b)) (Own (F := F) n) (low (F := F) (lvl n)) c).loose
  owed _ _ := rfl
  recd _ _ := rfl
  share c := (pd n w 3 c).share_full fun _ => rfl
  inv _ _ := rfl
  start c w' := A_eq4 (fun _ b => w (Proc.devRef .tc b)) (Own (F := F) n) (low (F := F) (lvl n)) c w'

theorem ok5 (n : ℕ) (w : Valuation τ sig (Elt F)) : DatOk (Own (F := F) n) (lvl n) w 4 (pd n w) where
  body c := (body_obligation5 (fun _ b => w (Proc.devRef .tc b)) (Own (F := F) n) (low (F := F) (lvl n)) c).loose
  owed _ _ := rfl
  recd _ _ := rfl
  share c := (pd n w 4 c).share_full fun _ => rfl
  inv _ _ := rfl
  start c w' := A_eq5 (fun _ b => w (Proc.devRef .tc b)) (Own (F := F) n) (low (F := F) (lvl n)) c w'

theorem datOk (n : ℕ) (w : Valuation τ sig (Elt F)) : (p : Fin 5) → DatOk (Own (F := F) n) (lvl n) w p (pd n w)
  | ⟨0, _⟩ => ok0 n w
  | ⟨1, _⟩ => ok1 n w
  | ⟨2, _⟩ => ok3 n w
  | ⟨3, _⟩ => ok4 n w
  | ⟨4, _⟩ => ok5 n w

theorem kits : (p : Fin 5) → Pipeline.PLaunchFacts (nD := nD) (τ := τ) (pcfgs (F := F)) p
  | ⟨0, _⟩ => launch0.toP
  | ⟨1, _⟩ => launch1.toP
  | ⟨2, _⟩ => launch3.toP
  | ⟨3, _⟩ => launch4.toP
  | ⟨4, _⟩ => launch5.toP

theorem noPre : (p : Fin 5) → (pcfgs (F := F) p).pre.K = 0
  | ⟨0, _⟩ => rfl
  | ⟨1, _⟩ => rfl
  | ⟨2, _⟩ => rfl
  | ⟨3, _⟩ => rfl
  | ⟨4, _⟩ => rfl

theorem owedAbove (n : ℕ) (c : Dev nD) (g : GSem nD τ sig) (i : HIx 1) (h : 0 < Own (F := F) n c g i) : lvl n < (K (F := F)).lev g i :=
  Nat.lt_of_succ_le (SparseCore.Cfg.lev_of_Otc_pos h)

/-! ## The state between the steps -/

/-- The rest of the core's state before call `n`, beside what it owes. -/
def tcRest (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last (N := 1) q)) 1)))

theorem tcSt_eq (n : ℕ) (d : Dev nD) : ((K (F := F)).tcSt EH d n : sProp 𝕄) = iprop(owed (Own (F := F) n) (lvl n) d ∗ tcRest n d) := rfl

/-- Every unscoped array of the device at `w`, and the core's state before call `n`. -/
def St (n : ℕ) (d : Dev nD) (w : Valuation τ sig (Elt F)) : sProp 𝕄 :=
  iprop(boundary (T d) ∗ (K (F := F)).tcSt EH d n ∗ held (T d) ucs w ∗ ∃ r, prngReg d r)

/-- The arrays after a pipelined call entered at `w`. -/
abbrev wp' (n : ℕ) (p : Fin 5) (d : Dev nD) (w : Valuation τ sig (Elt F)) : Valuation τ sig (Elt F) := wAfter w p (pd n w) d

theorem region_step [∀ e, Nonempty (Elt F e)] (n : ℕ) (p : Fin 5) (w : Valuation τ sig (Elt F)) (d : Dev nD) {α : Type}
    (k : PUnit → Prog (TpuEff nD τ sig (Elt F) (SparseCore.Sig (ΛP (F := F)) 1) .tc) α) (Q : α → sProp 𝕄) :
    iprop(levAts (K (F := F)).L (K (F := F)).lev ∗ ghost p d ∗ St n d w
        ∗ (St n d (wp' n p d w) -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry p)) ())
            : Prog (TpuEff nD τ sig (Elt F) (SparseCore.Sig (ΛP (F := F)) 1) .tc) PUnit) >>= k) Q := by
  unfold St
  rw [tcSt_eq]
  iintro ⟨Hl, Hg, ⟨Hb, ⟨HO, Hr⟩, Hh, Hp⟩, Hk⟩
  iapply (call_step (Own (F := F) n) (lvl n) w p (pd n w) (kits p) (noPre p) (owedAbove n) (datOk n w p) d k Q)
  isplitl [Hk Hr]
  · iintro ⟨Hb, Hh, Hp, HO⟩
    iapply Hk
    isplitl [Hb]; · iexact Hb
    isplitl [HO Hr]
    · isplitl [HO]; · iexact HO
      iexact Hr
    isplitl [Hh]; · iexact Hh
    iexact Hp
  isplitl [Hb]; · iexact Hb
  isplitl [Hh Hp HO]
  · isplitl [Hh]; · iexact Hh
    isplitl [Hp]; · iexact Hp
    iexact HO
  isplitl [Hl]; · iexact Hl
  iexact Hg

theorem host_step (n : ℕ) (ops : List (HloOp τ sig (Elt F))) (hsub : ops.Forall fun op => op.bufs ⊆ StableHlo.tcRefs τ sig)
    (hfresh : ops.Forall fun op => op.fresh = ∅) (w : Valuation τ sig (Elt F)) (d : Dev nD) {α : Type}
    (k : PUnit → Prog (TpuEff nD τ sig (Elt F) (SparseCore.Sig (ΛP (F := F)) 1) .tc) α) (Q : α → sProp 𝕄) :
    iprop(St n d w ∗ (St n d (after ops w) -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  unfold St
  iintro ⟨⟨Hb, Hs, Hh, Hp⟩, Hk⟩
  iapply (StableHlo.wp_seq 𝒱 none Set.univ d ucs k ops (fun op h => Pipeline.sub_ucRefs op ((List.forall_iff_forall_mem.mp hsub) op h))
    (fun op h => (List.forall_iff_forall_mem.mp hfresh) op h) w) $$ [Hb Hh]
  · isplitl [Hb] <;> iassumption
  iintro ⟨Hb, Hh⟩
  iapply Hk
  iframe Hb Hs Hh Hp

/-! ## The gather call -/

def ops3 : Finset (DevRef τ sig) := {v3', v4', v5'}

theorem ops3_sub : ops3 ⊆ ucs := by decide

theorem held_ops3 (d : Dev nD) (W : Valuation τ sig (Elt F)) :
    (held (T d) ops3 W : sProp 𝕄) = iprop(((d, v3') ↦{fullShare} W v3') ∗ ((d, v4') ↦{fullShare} W v4') ∗ ((d, v5') ↦{fullShare} W v5')) := by
  unfold held ops3
  rw [SparseCore.bigSep_insert' (by decide), SparseCore.bigSep_insert' (by decide), bigSep_singleton]

/-- The arrays with the gathered rows put at `g`. -/
def putRows (d : Dev nD) (w : Valuation τ sig (Elt F)) (g : Buf (Elt F) (d, v5')) : Valuation τ sig (Elt F) := Function.update w v5' g

theorem held_putRows (d : Dev nD) (w : Valuation τ sig (Elt F)) (g : Buf (Elt F) (d, v5')) :
    (held (T d) ucs (putRows d w g) : sProp 𝕄)
      = iprop((((d, v3') ↦{fullShare} w v3') ∗ ((d, v4') ↦{fullShare} w v4') ∗ ((d, v5') ↦{fullShare} g)) ∗ held (T d) (ucs \ ops3) w) := by
  rw [StableHlo.held_sub_split (T d) ops3_sub, held_ops3]
  have h : (held (T d) (ucs \ ops3) (putRows d w g) : sProp 𝕄) = held (T d) (ucs \ ops3) w :=
    StableHlo.held_congr (T d) fun b hb => Function.update_of_ne (by
      rintro rfl
      exact (Finset.mem_sdiff.mp hb).2 (by decide)) _ _
  rw [h]
  unfold putRows
  rw [Function.update_of_ne (show v3' ≠ v5' by decide), Function.update_of_ne (show v4' ≠ v5' by decide), Function.update_self]

section Gather

variable (w : Dev nD → Valuation τ sig (Elt F))

abbrev Iof : (d : Dev nD) → Buf (Elt F) (d, v3') := fun d => w d v3'
abbrev Xof : (d : Dev nD) → Buf (Elt F) (d, v4') := fun d => w d v4'
abbrev Gof : (d : Dev nD) → Buf (Elt F) (d, v5') := fun d => w d v5'
abbrev PP := P (F := F) (Iof w) (Xof w) (Gof w)

theorem gather_step (κ : GSem nD τ sig → ℕ) (d : Dev nD) {α : Type}
    (k : PUnit → Prog (TpuEff nD τ sig (Elt F) (SparseCore.Sig (ΛP (F := F)) 1) .tc) α) (Q : α → sProp 𝕄) :
    iprop((K (F := F)).ctx EH (PP w) κ ∗ St 0 d (w d)
        ∗ (∀ g : Buf (Elt F) (d, v5'), iprop(⌜AllGood (Iof w) (Xof w) d g⌝ ∗ St 1 d (putRows d (w d) g))
            -∗ wp frame (wpE ((K (F := F)).defs (D (F := F))) 𝒱 (T d) none) Set.univ (k ⟨⟩) Q))
      ⊢ wp frame (wpE ((K (F := F)).defs (D (F := F))) 𝒱 (T d) none) Set.univ ((K (F := F)).run d 0 >>= k) Q := by
  rw [wp_bind]
  unfold St
  rw [StableHlo.held_sub_split (T d) ops3_sub (w d), held_ops3]
  iintro ⟨#Hctx, ⟨Hb, Hst, ⟨⟨Hv3, Hv4, Hv5⟩, Hh⟩, Hp⟩, Hk⟩
  iapply ((K (F := F)).wp_run (D (F := F)) 𝒱 (EH := EH) (P := PP w) κ d 0) $$ [Hst Hv3 Hv4 Hv5 Hb Hh Hp Hk]
  isplitr; · iexact Hctx
  isplitl [Hst]; · iexact Hst
  isplitl [Hv3 Hv4 Hv5]
  · iapply (st_deal (Iof w) (Xof w) (Gof w) d)
    iframe Hv3 Hv4 Hv5
  iintro ⟨Hst, Hdn⟩
  ihave Hdn' := (dn_join (Iof w) (Xof w) (Gof w) d) $$ Hdn
  icases Hdn' with ⟨Hv3, Hv4, %g, %hg, Hv5⟩
  ispecialize Hk $$ %g
  iapply Hk
  isplitr; · ipureintro; exact hg
  iframe Hb Hst
  isplitr [Hp]
  · rw [held_putRows]
    isplitr [Hh]
    · isplitl [Hv3]; · iexact Hv3
      isplitl [Hv4]; · iexact Hv4
      iexact Hv5
    iexact Hh
  iexact Hp

end Gather

/-! ## The launch's ghost state -/

theorem stageInj : Function.Injective (Pipeline.cellOf (nD := nD) (τ := τ) (Pipeline.pin (pcfgs (F := F)) adm)) := (kits (F := F) 0).cellOf_inj adm

def uP : UP := initOf (Pipeline.cells (Pipeline.pin (pcfgs (F := F)) adm) stageInj) (Pipeline.launchToks (Pipeline.pin (pcfgs (F := F)) adm) stageInj)

def u₀ : UU := (initOf (K (F := F)).hsCells (K (F := F)).hsToks, (uP (F := F), 1))

abbrev G (d : Dev nD) : sProp 𝕄 := bigSep Finset.univ fun p : Fin 5 => ghost p d

theorem fund : (BI.own (EP (uP (F := F))) : sProp 𝕄) ⊢ iprop(|==> bigSep Finset.univ fun d : Dev nD => G d) := by
  unfold uP
  iintro Hu
  imod (Pipeline.fund_ghost (Pipeline.pin (pcfgs (F := F)) adm) EP stageInj) $$ Hu with ⟨Hg, Ht⟩
  imodintro
  have h : iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
        ⊢ bigSep Finset.univ fun c : Dev nD => G c := by
    rw [← bigSep_sep']
    refine bigSep_mono fun c _ => ?_
    unfold G ghost
    rw [bigSep_sep']
    exact Entails.refl _
  iapply h
  isplitl [Hg] <;> iassumption

theorem bigSep_emp' {I : Type} (s : Finset I) : (bigSep s fun _ => iprop(emp)) = (iprop(emp) : sProp 𝕄) := bigSep_emp_const s

theorem hu₀ (Iw : (d : Dev nD) → Buf (Elt F) (d, v3')) (Xw : (d : Dev nD) → Buf (Elt F) (d, v4')) (Gw : (d : Dev nD) → Buf (Elt F) (d, v5')) :
    (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P Iw Xw Gw).x q thr) := by
  unfold u₀
  iintro Hu
  ihave H := (ownU_pair _ _) $$ Hu
  icases H with ⟨HH, HR⟩
  ihave H := (own_pair_emb embR (uP (F := F)) 1) $$ HR
  icases H with ⟨HP, -⟩
  imod (show (BI.own ((Emb.inl.trans embR) (uP (F := F))) : sProp 𝕄) ⊢ iprop(|==> bigSep Finset.univ fun d : Dev nD => G d) from fund) $$ HP with HG
  imodintro
  iframe HH HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays after each step -/

variable (m : (ℓ : Loc nD τ sig) → Buf (Elt F) ℓ) (ρ : Dev nD → PrngReg)

def W0 (d : Dev nD) : Valuation τ sig (Elt F) := fun b => m (d, b)
def W1 (d : Dev nD) : Valuation τ sig (Elt F) := after hostOps0 (W0 m d)
def W2 (d : Dev nD) : Valuation τ sig (Elt F) := wp' 0 0 d (W1 m d)
def W3 (d : Dev nD) : Valuation τ sig (Elt F) := wp' 0 1 d (W2 m d)
def W4 (d : Dev nD) : Valuation τ sig (Elt F) := after hostOps1 (W3 m d)
def W5 (d : Dev nD) (g : Buf (Elt F) (d, v5')) : Valuation τ sig (Elt F) := putRows d (W4 m d) g
def W6 (d : Dev nD) (g : Buf (Elt F) (d, v5')) : Valuation τ sig (Elt F) := after hostOps2 (W5 m d g)
def W7 (d : Dev nD) (g : Buf (Elt F) (d, v5')) : Valuation τ sig (Elt F) := wp' 1 2 d (W6 m d g)
def W8 (d : Dev nD) (g : Buf (Elt F) (d, v5')) : Valuation τ sig (Elt F) := after hostOps3 (W7 m d g)
def W9 (d : Dev nD) (g : Buf (Elt F) (d, v5')) : Valuation τ sig (Elt F) := wp' 1 3 d (W8 m d g)
def W10 (d : Dev nD) (g : Buf (Elt F) (d, v5')) : Valuation τ sig (Elt F) := after hostOps4 (W9 m d g)
def W11 (d : Dev nD) (g : Buf (Elt F) (d, v5')) : Valuation τ sig (Elt F) := wp' 1 4 d (W10 m d g)
def W12 (d : Dev nD) (g : Buf (Elt F) (d, v5')) : Valuation τ sig (Elt F) := after hostOps5 (W11 m d g)

abbrev Iw (d : Dev nD) : Buf (Elt F) (d, v3') := W4 m d v3'
abbrev Xw (d : Dev nD) : Buf (Elt F) (d, v4') := W4 m d v4'
abbrev Gw (d : Dev nD) : Buf (Elt F) (d, v5') := W4 m d v5'

/-- What the host program leaves: every array at the last contents, the gathered rows good. -/
abbrev FIN (d : Dev nD) : sProp 𝕄 := iprop(∃ g : Buf (Elt F) (d, v5'), ⌜AllGood (Iw m) (Xw m) d g⌝ ∗ held (T d) ucs (W12 m d g))

theorem G_split (d : Dev nD) : (G d : sProp 𝕄) = iprop(ghost (0 : Fin 5) d ∗ ghost (1 : Fin 5) d ∗ ghost (2 : Fin 5) d ∗ ghost (3 : Fin 5) d ∗ ghost (4 : Fin 5) d) := by
  unfold G
  rw [show (Finset.univ : Finset (Fin 5)) = {0, 1, 2, 3, 4} by decide,
    SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) ⊢ held (SparseCore.T d) ucs (W0 m d) := by
  have h := Pipeline.unscopedBufs_held (Ix := HIx 1) (Name := ℕ) (U := UU) (Lvl := ℕ) d (W0 m d)
  exact Entails.of_eq h

theorem hmain [∀ e, Nonempty (Elt F e)] (κ : GSem nD τ sig → ℕ) (d : Dev nD) :
    iprop((K (F := F)).ctx EH (P (Iw m) (Xw m) (Gw m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_chain, G_split]
  simp only [Pipeline.chain_cons]
  iintro ⟨#Hctx, Hst, ⟨Hb, Hub, Hts, Hp⟩, HG0, HG1, HG2, HG3, HG4⟩
  ihave #Hlev := (SparseCore.Cfg.ctx_levAts κ) $$ Hctx
  ihave Hh := (unscoped_held m d) $$ Hub
  iapply (host_step 0 hostOps0 hostOps0_sub hostOps0_fresh (W0 m d) d _ _)
  isplitl [Hst Hb Hp Hh]
  · unfold St
    iframe Hb Hst Hh
    iexists _; iexact Hp
  iintro HS
  iapply (region_step 0 0 (W1 m d) d _ _)
  isplitr; · iexact Hlev
  iframe HG0 HS
  iintro HS
  iapply (region_step 0 1 (W2 m d) d _ _)
  isplitr; · iexact Hlev
  iframe HG1 HS
  iintro HS
  iapply (host_step 0 hostOps1 hostOps1_sub hostOps1_fresh (W3 m d) d _ _)
  isplitl [HS]; · iexact HS
  iintro HS
  iapply (gather_step (W4 m) κ d _ _)
  isplitr; · iexact Hctx
  isplitl [HS]; · iexact HS
  iintro %g ⟨%hg, HS⟩
  iapply (host_step 1 hostOps2 hostOps2_sub hostOps2_fresh (W5 m d g) d _ _)
  isplitl [HS]; · iexact HS
  iintro HS
  iapply (region_step 1 2 (W6 m d g) d _ _)
  isplitr; · iexact Hlev
  iframe HG2 HS
  iintro HS
  iapply (host_step 1 hostOps3 hostOps3_sub hostOps3_fresh (W7 m d g) d _ _)
  isplitl [HS]; · iexact HS
  iintro HS
  iapply (region_step 1 3 (W8 m d g) d _ _)
  isplitr; · iexact Hlev
  iframe HG3 HS
  iintro HS
  iapply (host_step 1 hostOps4 hostOps4_sub hostOps4_fresh (W9 m d g) d _ _)
  isplitl [HS]; · iexact HS
  iintro HS
  iapply (region_step 1 4 (W10 m d g) d _ _)
  isplitr; · iexact Hlev
  iframe HG4 HS
  iintro HS
  iapply (host_step 1 hostOps5 hostOps5_sub hostOps5_fresh (W11 m d g) d _ _)
  isplitl [HS]; · iexact HS
  iintro HS
  rw [Pipeline.chain_nil, wp_pure]; imodintro
  unfold St
  icases HS with ⟨Hb, Hst, Hh, -⟩
  isplitl [Hst]; · iexact Hst
  isplitl [Hh]
  · iexists g; isplitr
    · ipureintro; exact hg
    · iexact Hh
  isplitl [Hb] <;> iassumption

/-- The final memory: every array as the last step left it, from good gathered rows. -/
def fq (d : Dev nD) (s' : Phys nD τ sig (Elt F)) : Prop :=
  ∃ g : Buf (Elt F) (d, v5'), AllGood (Iw m) (Xw m) d g ∧ ∀ b ∈ ucs, s'.mem.mem (d, b) = W12 m d g b

theorem hfin (d : Dev nD) (s' : Phys nD τ sig (Elt F)) : iprop(FIN m d ∗ SI s') ⊢ (⌜fq m d s'⌝ : sProp 𝕄) := by
  iintro ⟨⟨%g, %hg, Hh⟩, HSI⟩
  unfold held
  ihave H := (Idealize.ShloMosaic.pointsTo_read_all ucs (fun b => (d, b)) (W12 m d g) s') $$ [Hh HSI]
  · isplitl [Hh] <;> iassumption
  icases H with ⟨%h, -⟩
  ipureintro
  exact ⟨g, hg, h⟩

def QC : PUnit × MemSt nD τ sig (Elt F) → Prop := fun r => (∀ d : Dev nD, ∃ g : Buf (Elt F) (d, v5'), AllGood (Iw m) (Xw m) d g
  ∧ ∀ b ∈ ucs, r.2.mem (d, b) = W12 m d g b) ∧ r.2.sem = fun _ => 0

theorem run_main [∀ e, Nonempty (Elt F e)] (hI : InRange (Iw m)) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P (Iw m) (Xw m) (Gw m)) (A := ∅) facts v₀
    (fun q hq => match q with | 0 => nomatch hq)
    (fun q _ => match q with | 0 => tileObl (Iw m) (Xw m) (Gw m) facts hI)
    (fun q _ => match q with | 0 => SparseCore.Cfg.VecSplit.of_plain (vecSplit (Iw m) (Xw m) (Gw m)))
    m ρ main (fun d => G d) (FIN m) (u₀ (F := F)) (sep_elim_left.trans (hu₀ (Iw m) (Xw m) (Gw m))) (hmain m ρ) (fq m) (hfin m) (QC m) (fun _ h hz => ⟨h, hz⟩)

end Cert.Proof.Whole
end
-- ==== Proof.WholeArr.lean ====
/-
  The three layers' arrays inside the whole program, element by element, from the arrays their calls read.
-/
module

public import proofs.«01_k».proof.Proof.WholeLayers
public import proofs.«01_k».proof.Proof.LayerArr

@[expose] public section

noncomputable section

namespace Cert.Proof.Whole

open Cert.WholeIdeal Cert.WholeIdeal.Gen
open Cert.Proof.LayerArr (row ctr Y0 Y1 Y2)
open Idealize.ShloMosaic Idealize.ShloMosaic.TcCoe Idealize.SL.Sem
open Idealize.ShloMosaic.SparseCore.Cfg (HIx)
open Idealize.ShloMosaic.Pipeline (Dat)

variable (V : (c : Dev nD) → (b : Ref sig .tc) → Buf (Elt Ideal) ((c : Thread nD τ).loc b))
  (O : Dev nD → CellTallies nD τ sig (HIx 1)) (R : Dev nD → Set (SemLoc sig × HIx 1))

/-- The layers' values from the arrays they read. -/
def Z3 (c : Dev nD) (p : Fin 131072) (o : Fin 64) : EReal := Y0 (V c main_v6) (V c main_v7) (V c main_v8) (V c main_arg2) p o
def Z4 (c : Dev nD) (p : Fin 131072) (o : Fin 128) : EReal := Y1 (V c main_v9_0) (V c main_v25) (V c main_v27) (V c main_v28) (V c main_arg6) p o
def Z5 (c : Dev nD) (p : Fin 131072) (o : Fin 256) : EReal := Y2 (V c main_v29_0) (V c main_v45) (V c main_v47) (V c main_v48) (V c main_arg10) p o

/-! The calls' blocks are those of the layers' own program. -/

/-- The first layer's block, but for a reshape to its own shape. -/
theorem pay3_eq (x0 : Vec Ideal S4096x16 .f32) (x1 : Vec Ideal S128x3 .f32) (x2 : Vec Ideal S3x64 .f32) (x3 : Vec Ideal S64 .f32) :
    k3_pay1 x0 x1 x2 x3 = Cert.LayersIdeal.Gen.k0_pay1 x0 x1 x2 x3 :=
  (show k3_pay1 x0 x1 x2 x3 = Cert.LayersIdeal.Gen.k0_pay1 (shapeCast S4096x16 x0 shapeCasts_S4096x16_S4096x16) x1 x2 x3 from rfl).trans
    (congrArg (fun y => Cert.LayersIdeal.Gen.k0_pay1 y x1 x2 x3) (shapeCast_self x0 _))

theorem out3_4_eq (x0 : Vec Ideal S4096x16 .f32) (x1 : Vec Ideal S128x3 .f32) (x2 : Vec Ideal S3x64 .f32) (x3 : Vec Ideal S64 .f32) :
    out3_4 x0 x1 x2 x3 = Cert.LayersIdeal.Gen.out0_4 x0 x1 x2 x3 := by
  unfold out3_4
  rw [pay3_eq]
  rfl
theorem out3_5_eq (x0 : Vec Ideal S4096x16 .f32) (x1 : Vec Ideal S128x3 .f32) (x2 : Vec Ideal S3x64 .f32) (x3 : Vec Ideal S64 .f32) :
    out3_5 x0 x1 x2 x3 = Cert.LayersIdeal.Gen.out0_5 x0 x1 x2 x3 := by
  unfold out3_5 k3_pay3 k3_pay2
  rw [pay3_eq]
  rfl

/-! ## First layer -/

theorem blocks3_4 (c : Dev nD) (t : Fin cfg3.N) (y : S4096x64.Idx) :
    ((dat3 V O R c).arrAt 4 cfg3.N : S131072x64.Idx → EReal) (((cfg3.win 4).blk t).view.emb y) = Cert.LayersIdeal.Gen.out0_4 (iblk3 V c 0 t) (iblk3 V c 1 t) (iblk3 V c 2 t) (iblk3 V c 3 t) y := by
  have e := congrFun ((dat3 V O R c).read_blk_arrAt_eq_flushed 4 (fun t t' _ _ hne => (cfg3.win 4).disjoint_blk fun h => hne (LayerArr.inj0_4 t t' h)) cfg3.N t t.isLt (flush3_4 t)) y
  refine Eq.trans e ?_
  show (dat3 V O R c).after 4 t y = _
  rw [after3_4, out3_4_eq]

theorem blocks3_5 (c : Dev nD) (t : Fin cfg3.N) (y : S1x2x64.Idx) :
    ((dat3 V O R c).arrAt 5 cfg3.N : S32x2x64.Idx → EReal) (((cfg3.win 5).blk t).view.emb y) = Cert.LayersIdeal.Gen.out0_5 (iblk3 V c 0 t) (iblk3 V c 1 t) (iblk3 V c 2 t) (iblk3 V c 3 t) y := by
  have e := congrFun ((dat3 V O R c).read_blk_arrAt_eq_flushed 5 (fun t t' _ _ hne => (cfg3.win 5).disjoint_blk fun h => hne (LayerArr.inj0_5 t t' h)) cfg3.N t t.isLt (flush3_5 t)) y
  refine Eq.trans e ?_
  show (dat3 V O R c).after 5 t y = _
  rw [after3_5, out3_5_eq]

/-- The layer's array. -/
theorem arr3_4 (c : Dev nD) (p : Fin 131072) (o : Fin 64) :
    ((dat3 V O R c).arrAt 4 cfg3.N : S131072x64.Idx → EReal) (ix2 p o) = Z3 V c p o :=
  LayerArr.arr0_4_of _ _ _ _ _ (blocks3_4 V O R c) p o

/-- The statistics array: each block's sum. -/
theorem arr3_5_sum (c : Dev nD) (t : Fin 32) (o : Fin 64) :
    ((dat3 V O R c).arrAt 5 cfg3.N : S32x2x64.Idx → EReal) (ix3 t (0 : Fin 2) o) = ∑ r : Fin 4096, Z3 V c (row t.val t.isLt r) o :=
  LayerArr.arr0_5_sum_of _ _ _ _ _ (blocks3_5 V O R c) t o

/-- The statistics array: each block's sum of squares. -/
theorem arr3_5_sq (c : Dev nD) (t : Fin 32) (o : Fin 64) :
    ((dat3 V O R c).arrAt 5 cfg3.N : S32x2x64.Idx → EReal) (ix3 t (1 : Fin 2) o) = ∑ r : Fin 4096, Z3 V c (row t.val t.isLt r) o * Z3 V c (row t.val t.isLt r) o :=
  LayerArr.arr0_5_sq_of _ _ _ _ _ (blocks3_5 V O R c) t o

/-! ## Second layer -/

theorem blocks4_5 (c : Dev nD) (t : Fin cfg4.N) (y : S4096x128.Idx) :
    ((dat4 V O R c).arrAt 5 cfg4.N : S131072x128.Idx → EReal) (((cfg4.win 5).blk t).view.emb y) = Cert.LayersIdeal.Gen.out1_5 (iblk4 V c 0 t) (iblk4 V c 1 t) (iblk4 V c 2 t) (iblk4 V c 3 t) (iblk4 V c 4 t) y := by
  have e := congrFun ((dat4 V O R c).read_blk_arrAt_eq_flushed 5 (fun t t' _ _ hne => (cfg4.win 5).disjoint_blk fun h => hne (LayerArr.inj1_5 t t' h)) cfg4.N t t.isLt (flush4_5 t)) y
  refine Eq.trans e ?_
  show (dat4 V O R c).after 5 t y = _
  rw [after4_5]
  rfl

theorem blocks4_6 (c : Dev nD) (t : Fin cfg4.N) (y : S1x2x128.Idx) :
    ((dat4 V O R c).arrAt 6 cfg4.N : S32x2x128.Idx → EReal) (((cfg4.win 6).blk t).view.emb y) = Cert.LayersIdeal.Gen.out1_6 (iblk4 V c 0 t) (iblk4 V c 1 t) (iblk4 V c 2 t) (iblk4 V c 3 t) (iblk4 V c 4 t) y := by
  have e := congrFun ((dat4 V O R c).read_blk_arrAt_eq_flushed 6 (fun t t' _ _ hne => (cfg4.win 6).disjoint_blk fun h => hne (LayerArr.inj1_6 t t' h)) cfg4.N t t.isLt (flush4_6 t)) y
  refine Eq.trans e ?_
  show (dat4 V O R c).after 6 t y = _
  rw [after4_6]
  rfl

/-- The layer's array. -/
theorem arr4_5 (c : Dev nD) (p : Fin 131072) (o : Fin 128) :
    ((dat4 V O R c).arrAt 5 cfg4.N : S131072x128.Idx → EReal) (ix2 p o) = Z4 V c p o :=
  LayerArr.arr1_5_of _ _ _ _ _ _ (blocks4_5 V O R c) p o

/-- The statistics array: each block's sum. -/
theorem arr4_6_sum (c : Dev nD) (t : Fin 32) (o : Fin 128) :
    ((dat4 V O R c).arrAt 6 cfg4.N : S32x2x128.Idx → EReal) (ix3 t (0 : Fin 2) o) = ∑ r : Fin 4096, Z4 V c (row t.val t.isLt r) o :=
  LayerArr.arr1_6_sum_of _ _ _ _ _ _ (blocks4_6 V O R c) t o

/-- The statistics array: each block's sum of squares. -/
theorem arr4_6_sq (c : Dev nD) (t : Fin 32) (o : Fin 128) :
    ((dat4 V O R c).arrAt 6 cfg4.N : S32x2x128.Idx → EReal) (ix3 t (1 : Fin 2) o) = ∑ r : Fin 4096, Z4 V c (row t.val t.isLt r) o * Z4 V c (row t.val t.isLt r) o :=
  LayerArr.arr1_6_sq_of _ _ _ _ _ _ (blocks4_6 V O R c) t o

/-! ## Third layer -/

theorem blocks5_5 (c : Dev nD) (t : Fin cfg5.N) (y : S128x256.Idx) :
    ((dat5 V O R c).arrAt 5 cfg5.N : S4096x256.Idx → EReal) (((cfg5.win 5).blk t).view.emb y) = Cert.LayersIdeal.Gen.out2_5 (iblk5 V c 0 t) (iblk5 V c 1 t) (iblk5 V c 2 t) (iblk5 V c 3 t) (iblk5 V c 4 t) y := by
  have e := congrFun ((dat5 V O R c).read_blk_arrAt_eq_flushed 5 (fun t t' _ _ hne => (cfg5.win 5).disjoint_blk fun h => hne (LayerArr.inj2_5 t t' h)) cfg5.N t t.isLt (flush5_5 t)) y
  refine Eq.trans e ?_
  show (dat5 V O R c).after 5 t y = _
  rw [after5_5]
  rfl

/-- The pooled array: the greatest of each centre's 32 rows. -/
theorem arr5_5 (c : Dev nD) (q : Fin 4096) (o : Fin 256) :
    ((dat5 V O R c).arrAt 5 cfg5.N : S4096x256.Idx → EReal) (ix2 q o) = Finset.univ.fold max ⊥ fun k : Fin 32 => Z5 V c (⟨q.val * 32 + k.val, by omega⟩ : Fin 131072) o :=
  LayerArr.arr2_5_of _ _ _ _ _ _ (blocks5_5 V O R c) q o

end Cert.Proof.Whole

end
-- ==== Proof.WholeVal.lean ====
/-
  The sampled points and the neighbours' indices inside the whole program, element by element.
-/
module

public import proofs.«01_k».proof.Proof.WholeSample
public import proofs.«01_k».proof.Proof.WholeNear
public import proofs.«01_k».proof.Proof.SampleArr
public import proofs.«01_k».proof.Proof.NearRun

@[expose] public section

noncomputable section

namespace Cert.Proof.Whole

open Cert.WholeIdeal Cert.WholeIdeal.Gen
open Cert.Proof.SampleSpec (sampled flat)
open Idealize.ShloMosaic Idealize.ShloMosaic.TcCoe Idealize.SL.Sem
open Idealize.ShloMosaic.SparseCore.Cfg (HIx)
open Idealize.ShloMosaic.Pipeline (Dat)

theorem out1_2_eq (x0 : Vec Ideal S1x32x3 .f32) (x1 : Vec Ideal S1x3x16384 .f32) :
    out1_2 x0 x1 = Cert.NeighboursIdeal.Gen.out0_2 x0 x1 := by
  rfl

section Trip
variable (v0 v2 v4 : Vec Ideal S4x1x8x2048 .f32) (acc : FVec Ideal S4x8x2048 .f32 × IVec S4x1x1 32)

theorem trip_1 : wTrip_k0_t1.sl.r_27 v0 v2 v4 acc = Cert.SamplingIdeal.Gen.trip_k0_t1.sl.r_27 v0 v2 v4 acc := rfl
theorem trip_2 : wTrip_k0_t1.sl.r_28 v0 v2 v4 acc = Cert.SamplingIdeal.Gen.trip_k0_t1.sl.r_28 v0 v2 v4 acc := rfl
theorem trip_3 : wTrip_k0_t1.sl.r_29 v0 v2 v4 acc = Cert.SamplingIdeal.Gen.trip_k0_t1.sl.r_29 v0 v2 v4 acc := rfl

variable (𝒱 : Variants) (c : Dev nD) (bd : Option 𝒱.V) (arg0 : Memref sig .tc .vmem S4x3x8x2048 .f32) (harg0 : arg0.IsWhole)
  (arg1 : Memref sig .tc .vmem S4x1024x3 .f32) (harg1 : arg1.IsWhole) (k : Fin k0_t1_loop.trips)

theorem wTripR_eq : wTripR_k0_t1 (F := Ideal) 𝒱 c bd arg0 harg0 arg1 harg1 v0 v2 v4 k acc = SampleTrip.S v0 v2 v4 acc 8 := by
  unfold wTripR_k0_t1 wTrip_k0_t1
  dsimp only
  rw [trip_1, trip_2, SampleTrip.r27_eq, SampleTrip.r28_eq]

theorem wTripL_eq : wTripL_k0_t1 (F := Ideal) 𝒱 c bd arg0 harg0 arg1 harg1 v0 v2 v4 k acc
    = [⟨Rect.unit (s := S4x1024x3) (k0_off1 k) S4x8x3.size (k0_off1_inb k), SampleTrip.rows v0 v2 v4 acc⟩] := by
  unfold wTripL_k0_t1 wTrip_k0_t1
  dsimp only
  rw [trip_3, SampleTrip.r29_eq]

end Trip

section Out
variable (𝒱 : Variants) (d : Dev nD) (bd : Option 𝒱.V) (arg0 : Memref sig .tc .vmem S4x3x8x2048 .f32) (harg0 : arg0.IsWhole)
  (arg1 : Memref sig .tc .vmem S4x1024x3 .f32) (harg1 : arg1.IsWhole) (v0 v2 v4 : Vec Ideal S4x1x8x2048 .f32)
  (init : FVec Ideal S4x8x2048 .f32 × IVec S4x1x1 32)

theorem trips0 : k0_t1_loop.trips = 128 := by decide +kernel

/-- The state after `k` trips is the state after `8 k` steps. -/
theorem state0 : ∀ k, k ≤ 128 → (wSt_k0_t1 (F := Ideal) 𝒱 d bd arg0 harg0 arg1 harg1 v0 v2 v4 init k).1 = SampleTrip.S v0 v2 v4 init (8 * k)
  | 0, _ => rfl
  | k + 1, hk => by
    have h := state0 k (by omega)
    rw [wSt_k0_t1_succ (F := Ideal) 𝒱 d bd arg0 harg0 arg1 harg1 v0 v2 v4 init ⟨k, by rw [trips0]; omega⟩]
    dsimp only
    rw [wTripR_eq, h]
    exact (SampleTrip.steps_add _ _ _ _ (8 * k) 8).symm

/-- The pieces of the first `k` trips, read back at one of their rows. -/
theorem pieces0 (v : View sig .tc .vmem S4x1024x3 .f32) (f : v.ty.Contents (Elt Ideal)) : ∀ k, k ≤ 128 → ∀ (b : Fin 4) (t : Fin 1024) (c : Fin 3), t.val < 8 * k →
    v.read (Elt Ideal) (v.writes (Elt Ideal) f (wSt_k0_t1 (F := Ideal) 𝒱 d bd arg0 harg0 arg1 harg1 v0 v2 v4 init k).2) (ix3 b t c)
      = SampleTrip.R v0 v2 v4 init t.val (ix2 b c)
  | 0, _, _, _, _, h => absurd h (Nat.not_lt_zero _)
  | k + 1, hk, b, t, c, h => by
    have hs := state0 𝒱 d bd arg0 harg0 arg1 harg1 v0 v2 v4 init k (by omega)
    have ih := pieces0 v f k (by omega) b t c
    rw [wSt_k0_t1_succ (F := Ideal) 𝒱 d bd arg0 harg0 arg1 harg1 v0 v2 v4 init ⟨k, by rw [trips0]; omega⟩]
    dsimp only
    rw [wTripL_eq, hs, List.singleton_append]
    by_cases ht : t.val < 8 * k
    · refine (View.read_writes_cons_unit_of_not_mem v f _ _ _ _ (k0_off1_eq _) 1 (.inl ht)).trans (ih ht)
    · refine (View.read_writes_cons_unit_of_mem v f _ _ _ _ (ix3 (n0 := 4) (n1 := 8) (n2 := 3) b ⟨t.val - 8 * k, by omega⟩ c) (k0_off1_eq _) fun a => ?_).trans ?_
      · fin_cases a
        · exact (Nat.zero_add _).symm
        · show t.val = 8 * k + (t.val - 8 * k)
          omega
        · exact (Nat.zero_add _).symm
      · rw [SampleTrip.rows_apply]
        show SampleTrip.row _ _ _ (SampleTrip.steps _ _ _ (SampleTrip.steps _ _ _ init (8 * k)) (t.val - 8 * k)).2 _ = _
        rw [← SampleTrip.steps_add, show 8 * k + (t.val - 8 * k) = t.val by omega]

/-- What the body leaves in its output: row `t` of a batch holds the coordinates of the centre after `t` steps. -/
theorem out0_apply (c : Dev nD) (arg0 : Memref sig .tc .vmem S4x3x8x2048 .f32) (harg0 : arg0.IsWhole) (arg1 : Memref sig .tc .vmem S4x1024x3 .f32)
    (harg1 : arg1.IsWhole) (x0 : Vec Ideal S4x3x8x2048 .f32) (P : Fin 4 → Fin 16384 → Fin 3 → EReal)
    (hx : ∀ b k r j, x0 (ix4 b k r j) = P b (flat r j) k) (b : Fin 4) (t : Fin 1024) (k : Fin 3) :
    out0_A_1 (F := Ideal) c arg0 harg0 arg1 harg1 x0 (ix3 b t k) = P b (sampled (P b) t.val).2 k := by
  have hr : ∀ (off : Fin 4 → ℕ) (h : ∀ a, off a + S4x1x8x2048.size a ≤ S4x3x8x2048.size a) (n : Fin 3) (_ : off = ![0, n.val, 0, 0]) (b : Fin 4) (r : Fin 8) (j : Fin 2048),
      (View.readAt (Elt Ideal) arg0.view (Rect.unit (s := S4x3x8x2048) off S4x1x8x2048.size h).toLoadRect (harg0.unread x0) : S4x1x8x2048.Idx → EReal) (ix4 b 0 r j) = P b (flat r j) n := by
    intro off h n e b r j
    subst e
    refine Eq.trans ?_ (hx b n r j)
    refine (congrFun (harg0.read_unread x0) _).trans (congrArg x0 ?_)
    funext a
    refine Fin.ext ?_
    match a with
    | ⟨0, _⟩ => exact (Nat.zero_add _).trans (Nat.one_mul _)
    | ⟨1, _⟩ => rfl
    | ⟨2, _⟩ => exact (Nat.zero_add _).trans (Nat.one_mul _)
    | ⟨3, _⟩ => exact (Nat.zero_add _).trans (Nat.one_mul _)
  unfold out0_A_1 kernelRun0_A
  dsimp only
  have h128 : Scf.trips (0#32) (Scalar.addi 0#32 128#32) 1#32 = 128 := by decide +kernel
  rw [h128]
  refine (pieces0 Variants.none c none arg0 harg0 arg1 harg1 _ _ _ _ VO0_1 VO0_1.junk 128 le_rfl b t k (by have := t.isLt; omega)).trans ?_
  refine SampleTrip.row_apply (P := P) ?_ (SampleTrip.steps_holds (P := P) ?_ t.val) b k
  all_goals
    intro b r j
    refine ⟨?_, ?_, ?_⟩
    · exact (SampleTrip.cast_4x8x2048 _ b r j).trans (hr _ _ 0 rfl b r j)
    · exact (SampleTrip.cast_4x8x2048 _ b r j).trans (hr _ _ 1 rfl b r j)
    · exact (SampleTrip.cast_4x8x2048 _ b r j).trans (hr _ _ 2 rfl b r j)

end Out

variable (V : (c : Dev nD) → (b : Ref sig .tc) → Buf (Elt Ideal) ((c : Thread nD τ).loc b))
  (O : Dev nD → CellTallies nD τ sig (HIx 1)) (R : Dev nD → Set (SemLoc sig × HIx 1))

/-- The output array after the run. -/
theorem arr0_1 (c : Dev nD) (P : Fin 4 → Fin 16384 → Fin 3 → EReal)
    (hx : ∀ b k r j, (V c main_v0 : S4x3x8x2048.Idx → EReal) (ix4 b k r j) = P b (flat r j) k) (b : Fin 4) (s : Fin 1024) (k : Fin 3) :
    ((dat0 V O R c).arrAt 1 cfg0.N : S4x1024x3.Idx → EReal) (ix3 b s k) = P b (sampled (P b) s.val).2 k := by
  have hN : 0 < cfg0.N := by decide +kernel
  have e := congrFun ((dat0 V O R c).read_blk_arrAt_eq_flushed 1 (fun t t' _ _ hne => (cfg0.win 1).disjoint_blk fun h => hne (SampleTrip.idx_inj1 t t' h)) cfg0.N ⟨0, hN⟩ hN (flush0_1 _)) (ix3 b s k)
  have e2 : ((dat0 V O R c).arrAt 1 cfg0.N : S4x1024x3.Idx → EReal) (((cfg0.win 1).blk ⟨0, hN⟩).view.emb (ix3 b s k)) = outsAt0 V c ⟨0, hN⟩ ((cfg0.win 1).xinj _ (ix3 b s k)) := e.trans (congrFun (after0_1 V O R c ⟨0, hN⟩) _)
  have e3 : ((cfg0.win 1).blk ⟨0, hN⟩).view.emb (ix3 b s k) = (ix3 b s k : S4x1024x3.Idx) := by
    funext a
    refine Fin.ext ?_
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)
  rw [e3] at e2
  refine e2.trans ?_
  refine out0_apply c _ _ _ _ (iblk0 V c 0 ⟨0, hN⟩) P (fun b k r j => Eq.trans ?_ (hx b k r j)) b s k
  refine congrArg (V c main_v0 : S4x3x8x2048.Idx → EReal) ?_
  funext a
  refine Fin.ext ?_
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)
  | ⟨3, _⟩ => exact (Nat.zero_add _).trans (Nat.one_mul _)

theorem blocks1_2 (c : Dev nD) (t : Fin cfg1.N) (y : S1x32x32.Idx) :
    ((dat1 V O R c).arrAt 2 cfg1.N : S4x1024x32.Idx → BitVec 32) (((cfg1.win 2).blk t).view.emb y) = (out1_2 (iblk1 V c 0 t) (iblk1 V c 1 t) : S1x32x32.Idx → BitVec 32) y := by
  have e := congrFun ((dat1 V O R c).read_blk_arrAt_eq_flushed 2 (fun t t' _ _ hne => (cfg1.win 2).disjoint_blk fun h => hne (NearRun.inj0_2 t t' h)) cfg1.N t t.isLt (flush1_2 t)) y
  refine Eq.trans e ?_
  show (dat1 V O R c).after 2 t y = _
  rw [after1_2]

/-- The array of neighbours. -/
theorem arr1_2 (c : Dev nD) (b : Fin 4) (s : Fin 1024) (j : Fin 32) :
    ((dat1 V O R c).arrAt 2 cfg1.N : S4x1024x32.Idx → BitVec 32) (ix3 b s j) = NearRun.value (V c main_v1) (V c main_arg0) (ix3 b s j) :=
  NearRun.arr_of _ _ _ (fun t y => (blocks1_2 V O R c t y).trans (congrFun (out1_2_eq _ _) y)) b s j

end Cert.Proof.Whole
-- ==== Proof.WholeRun.lean ====
/-
  The whole program at the ideal instance: its results are the sampled points and the stack of layers over the
  neighbours found, and its arguments end as they were.
-/
module

public import proofs.«01_k».proof.Proof.WholeMain
public import proofs.«01_k».proof.Proof.WholeArr
public import proofs.«01_k».proof.Proof.WholeVal
public import proofs.«01_k».proof.Proof.LayerRun
public import proofs.«01_k».proof.Proof.Value

@[expose] public section

noncomputable section

namespace Cert.Proof.Whole

open Cert.WholeIdeal Cert.WholeIdeal.Gen
open Cert.Proof.LayerMath Cert.Proof.LayerHost Cert.Proof.LayerArr
open Cert.Proof.LayerRun (mat vec)
open Cert.Proof.SampleSpec (sampled flat)
open Idealize.ShloMosaic Idealize.ShloMosaic.TcCoe Idealize.SL.Sem
open Idealize.ShloMosaic.StableHlo (after)

/-! ## What each step keeps -/

section Keep
variable {F : FTy → Type} [FloatOps F]

theorem wp_arr (n : ℕ) (p : Fin 5) (d : Dev nD) (w : Valuation τ sig (Elt F)) (i : Fin (Pipeline.pin (pcfgs (F := F)) adm p).W) :
    wp' n p d w (Proc.devRef .tc (Pipeline.arrRef (pcfgs (F := F) p).spec i)) = (pd n w p d).arrAt i (Pipeline.pin (pcfgs (F := F)) adm p).N :=
  Pipeline.afterRegion_arr (pd n w p d) w (kits (F := F) p).win.arr_inj i

/-- A pipelined call leaves every array but its outputs as it was. -/
theorem wp_keep (n : ℕ) (p : Fin 5) (d : Dev nD) (w : Valuation τ sig (Elt F)) (r : Ref sig .tc)
    (h : ∀ i : Fin (Pipeline.pin (pcfgs (F := F)) adm p).W, Pipeline.arrRef (pcfgs (F := F) p).spec i = r → ((Pipeline.pin (pcfgs (F := F)) adm p).win i).isOut = false) :
    wp' n p d w (Proc.devRef .tc r) = w (Proc.devRef .tc r) := by
  by_cases hw : ∃ i, Pipeline.arrRef (pcfgs (F := F) p).spec i = r
  · obtain ⟨i, rfl⟩ := hw
    exact (wp_arr n p d w i).trans (((pd n w p d).arrAt_in i (h i rfl) _).trans ((datOk n w p).start d i))
  · exact Pipeline.afterRegion_of_not_arr (pd n w p d) w fun i e => hw ⟨i, e.symm⟩

theorem mem_uc (b : Ref sig .tc) (h : ¬ (Proc.devRef .tc b : DevRef τ sig).isScoped) : Proc.devRef .tc b ∈ ucs :=
  Finset.mem_filter.mpr ⟨StableHlo.devRef_mem_tcRefs b, h⟩

/-- The arguments, and with them the sampled points. -/
abbrev argRefs : List (Ref sig .tc) := [main_arg0, main_arg1, main_arg2, main_arg3, main_arg4, main_arg5, main_arg6, main_arg7, main_arg8, main_arg9, main_arg10]
abbrev keepRefs : List (Ref sig .tc) := main_v1 :: argRefs

abbrev host0_W : List (Ref sig .tc) := [main_v0]
abbrev host1_W : List (Ref sig .tc) := [main_v3, main_v4]
abbrev host2_W : List (Ref sig .tc) := [main_v6, main_v7, main_v8]
abbrev host3_W : List (Ref sig .tc) := [main_v10, main_v11, main_cst, main_v12, main_v13, main_v14, main_cst_0, main_v15, main_cst_1, main_v16, main_v17, main_cst_2, main_v18, main_v19, main_v20, main_v21, main_cst_3, main_v22, main_v23, main_v24, main_v25, main_v26, main_v27, main_v28]
abbrev host4_W : List (Ref sig .tc) := [main_v30, main_v31, main_cst_4, main_v32, main_v33, main_v34, main_cst_5, main_v35, main_cst_6, main_v36, main_v37, main_cst_7, main_v38, main_v39, main_v40, main_v41, main_cst_8, main_v42, main_v43, main_v44, main_v45, main_v46, main_v47, main_v48]
abbrev host5_W : List (Ref sig .tc) := [main_v50, main_v51, main_v52]

variable (w : Valuation τ sig (Elt F)) (r : Ref sig .tc)

theorem host0_of (h : r ∉ host0_W) : after hostOps0 w (Proc.devRef .tc r) = w (Proc.devRef .tc r) :=
  StableHlo.after_of_writes_sub (W := host0_W) hostOps0 _ (StableHlo.forall_writes_sub_of_map rfl) h
theorem host1_of (h : r ∉ host1_W) : after hostOps1 w (Proc.devRef .tc r) = w (Proc.devRef .tc r) :=
  StableHlo.after_of_writes_sub (W := host1_W) hostOps1 _ (StableHlo.forall_writes_sub_of_map rfl) h
theorem host2_of (h : r ∉ host2_W) : after hostOps2 w (Proc.devRef .tc r) = w (Proc.devRef .tc r) :=
  StableHlo.after_of_writes_sub (W := host2_W) hostOps2 _ (StableHlo.forall_writes_sub_of_map rfl) h
theorem host3_of (h : r ∉ host3_W) : after hostOps3 w (Proc.devRef .tc r) = w (Proc.devRef .tc r) :=
  StableHlo.after_of_writes_sub (W := host3_W) hostOps3 _ (StableHlo.forall_writes_sub_of_map rfl) h
theorem host4_of (h : r ∉ host4_W) : after hostOps4 w (Proc.devRef .tc r) = w (Proc.devRef .tc r) :=
  StableHlo.after_of_writes_sub (W := host4_W) hostOps4 _ (StableHlo.forall_writes_sub_of_map rfl) h
theorem host5_of (h : r ∉ host5_W) : after hostOps5 w (Proc.devRef .tc r) = w (Proc.devRef .tc r) :=
  StableHlo.after_of_writes_sub (W := host5_W) hostOps5 _ (StableHlo.forall_writes_sub_of_map rfl) h

theorem in0 : ∀ a ∈ argRefs, ∀ i : Fin cfg0.W, Pipeline.arrRef spec0 i = a → (cfg0.win i).isOut = false :=
  ListAll.forall_mem_of_all_decide (by decide +kernel)
theorem in1 : ∀ a ∈ keepRefs, ∀ i : Fin cfg1.W, Pipeline.arrRef spec1 i = a → (cfg1.win i).isOut = false :=
  ListAll.forall_mem_of_all_decide (by decide +kernel)
theorem in2 : ∀ a ∈ keepRefs, ∀ i : Fin cfg3.W, Pipeline.arrRef spec3 i = a → (cfg3.win i).isOut = false :=
  ListAll.forall_mem_of_all_decide (by decide +kernel)
theorem in3 : ∀ a ∈ keepRefs, ∀ i : Fin cfg4.W, Pipeline.arrRef spec4 i = a → (cfg4.win i).isOut = false :=
  ListAll.forall_mem_of_all_decide (by decide +kernel)
theorem in4 : ∀ a ∈ keepRefs, ∀ i : Fin cfg5.W, Pipeline.arrRef spec5 i = a → (cfg5.win i).isOut = false :=
  ListAll.forall_mem_of_all_decide (by decide +kernel)

variable (m : (ℓ : Loc nD τ sig) → Buf (Elt F) ℓ) (d : Dev nD) (g : Buf (Elt F) (d, v5'))

theorem W1_arg : ∀ a ∈ argRefs, W1 m d (Proc.devRef .tc a) = m (d, Proc.devRef .tc a) :=
  fun a ha => host0_of (W0 m d) a ((by decide +kernel : ∀ a ∈ argRefs, a ∉ host0_W) a ha)
theorem W2_arg : ∀ a ∈ argRefs, W2 m d (Proc.devRef .tc a) = m (d, Proc.devRef .tc a) :=
  fun a ha => (wp_keep 0 0 d (W1 m d) a (in0 a ha)).trans (W1_arg m d a ha)
theorem W3_keep : ∀ a ∈ keepRefs, W3 m d (Proc.devRef .tc a) = W2 m d (Proc.devRef .tc a) :=
  fun a ha => wp_keep 0 1 d (W2 m d) a (in1 a ha)
theorem W4_keep : ∀ a ∈ keepRefs, W4 m d (Proc.devRef .tc a) = W2 m d (Proc.devRef .tc a) :=
  fun a ha => (host1_of (W3 m d) a ((by decide +kernel : ∀ a ∈ keepRefs, a ∉ host1_W) a ha)).trans (W3_keep m d a ha)
theorem W5_keep : ∀ a ∈ keepRefs, W5 m d g (Proc.devRef .tc a) = W2 m d (Proc.devRef .tc a) :=
  fun a ha => (Function.update_of_ne (fun e => (by decide +kernel : ∀ a ∈ keepRefs, a ≠ main_v5) a ha (Proc.devRef_injective _ e)) _ _).trans (W4_keep m d a ha)
theorem W6_keep : ∀ a ∈ keepRefs, W6 m d g (Proc.devRef .tc a) = W2 m d (Proc.devRef .tc a) :=
  fun a ha => (host2_of (W5 m d g) a ((by decide +kernel : ∀ a ∈ keepRefs, a ∉ host2_W) a ha)).trans (W5_keep m d g a ha)
theorem W7_keep : ∀ a ∈ keepRefs, W7 m d g (Proc.devRef .tc a) = W2 m d (Proc.devRef .tc a) :=
  fun a ha => (wp_keep 1 2 d (W6 m d g) a (in2 a ha)).trans (W6_keep m d g a ha)
theorem W8_keep : ∀ a ∈ keepRefs, W8 m d g (Proc.devRef .tc a) = W2 m d (Proc.devRef .tc a) :=
  fun a ha => (host3_of (W7 m d g) a ((by decide +kernel : ∀ a ∈ keepRefs, a ∉ host3_W) a ha)).trans (W7_keep m d g a ha)
theorem W9_keep : ∀ a ∈ keepRefs, W9 m d g (Proc.devRef .tc a) = W2 m d (Proc.devRef .tc a) :=
  fun a ha => (wp_keep 1 3 d (W8 m d g) a (in3 a ha)).trans (W8_keep m d g a ha)
theorem W10_keep : ∀ a ∈ keepRefs, W10 m d g (Proc.devRef .tc a) = W2 m d (Proc.devRef .tc a) :=
  fun a ha => (host4_of (W9 m d g) a ((by decide +kernel : ∀ a ∈ keepRefs, a ∉ host4_W) a ha)).trans (W9_keep m d g a ha)
theorem W11_keep : ∀ a ∈ keepRefs, W11 m d g (Proc.devRef .tc a) = W2 m d (Proc.devRef .tc a) :=
  fun a ha => (wp_keep 1 4 d (W10 m d g) a (in4 a ha)).trans (W10_keep m d g a ha)
theorem W12_keep : ∀ a ∈ keepRefs, W12 m d g (Proc.devRef .tc a) = W2 m d (Proc.devRef .tc a) :=
  fun a ha => (host5_of (W11 m d g) a ((by decide +kernel : ∀ a ∈ keepRefs, a ∉ host5_W) a ha)).trans (W11_keep m d g a ha)

end Keep

/-! ## The values -/

variable (m : (ℓ : Loc nD τ sig) → Buf (Elt Ideal) ℓ) (d : Dev nD) (g : Buf (Elt Ideal) (d, v5'))

/-- An argument's array, by its reference. -/
abbrev ar (a : Ref sig .tc) : Buf (Elt Ideal) (d, (Proc.devRef .tc a : DevRef τ sig)) := m (d, Proc.devRef .tc a)

/-- The points, a batch's by point and coordinate. -/
abbrev X : S4x3x16384.Idx → EReal := ar m d main_arg0

/-- The sampled points. -/
def smpl (X : S4x3x16384.Idx → EReal) (i : S4x1024x3.Idx) : EReal :=
  SampleTrip.points X (i 0) (sampled (SampleTrip.points X (i 0)) (i 1).val).2 (i 2)

/-- The neighbours' indices. -/
def nbrs (X : S4x3x16384.Idx → EReal) : S4x1024x32.Idx → BitVec 32 := NearRun.value (smpl X) X

/-- A neighbour's point less its centre. -/
def offs (X : S4x3x16384.Idx → EReal) (p : Fin 131072) (k : Fin 3) : EReal :=
  Gather.spec (F := Ideal) (nbrs X) X (ix2 p k) - smpl X (ix3 (⟨p.val / 32768, by omega⟩ : Fin 4) (⟨p.val / 32 % 1024, by omega⟩ : Fin 1024) k)

theorem nbrs_lt (X : S4x3x16384.Idx → EReal) (i : S4x1024x32.Idx) : (nbrs X i).toNat < 16384 := by
  have h := (NearSpec.nearest NearPay.big (NearRun.sqdist (smpl X) X (i 0) (i 1)) (i 2).val).isLt
  show (BitVec.ofNat 32 (NearSpec.nearest NearPay.big (NearRun.sqdist (smpl X) X (i 0) (i 1)) (i 2).val).val).toNat < 16384
  rw [BitVec.toNat_ofNat]
  exact Nat.lt_of_le_of_lt (Nat.mod_le _ _) h

theorem cut_v0 (b : Fin 4) (k : Fin 3) (r : Fin 8) (j : Fin 2048) :
    (W1 m d (Proc.devRef .tc main_v0) : S4x3x8x2048.Idx → EReal) (ix4 b k r j) = SampleTrip.points (X m d) b (flat r j) k := by
  have e : (W1 m d (Proc.devRef .tc main_v0) : S4x3x8x2048.Idx → EReal) = shapeCast S4x3x8x2048 (X m d) shapeCasts_S4x3x16384_S4x3x8x2048 := by
    unfold W1 hostOps0
    after_results
    rfl
  rw [e]
  refine shapeCast_apply _ _ _ (ix3 b k (flat r j)) ?_
  rw [Shape.rowMajor_val_three, Shape.rowMajor_val_four]
  show (b.val * 3 + k.val) * 16384 + (2048 * r.val + j.val) = ((b.val * 3 + k.val) * 8 + r.val) * 2048 + j.val
  ring

theorem ix3_eta {a b c : ℕ} (i : (⟨3, ![a, b, c]⟩ : Shape).Idx) : i = ix3 (n0 := a) (n1 := b) (n2 := c) (i 0) (i 1) (i 2) := by
  funext x
  match x with
  | ⟨0, _⟩ => rfl
  | ⟨1, _⟩ => rfl
  | ⟨2, _⟩ => rfl

theorem W2_v1 : (W2 m d (Proc.devRef .tc main_v1) : S4x1024x3.Idx → EReal) = smpl (X m d) := by
  funext i
  refine Eq.trans ?_ (congrArg (smpl (X m d)) (ix3_eta i).symm)
  refine (congrArg (W2 m d (Proc.devRef .tc main_v1) : S4x1024x3.Idx → EReal) (ix3_eta i)).trans ?_
  exact (congrFun (wp_arr 0 0 d (W1 m d) (1 : Fin 2)) _).trans
    (arr0_1 (fun _ b => W1 m d (Proc.devRef .tc b)) (Own 0) (low (lvl 0)) d (SampleTrip.points (X m d)) (cut_v0 m d) (i 0) (i 1) (i 2))

theorem W3_v2 : (W3 m d (Proc.devRef .tc main_v2) : S4x1024x32.Idx → BitVec 32) = nbrs (X m d) := by
  funext i
  refine (congrArg (W3 m d (Proc.devRef .tc main_v2) : S4x1024x32.Idx → BitVec 32) (ix3_eta i)).trans ?_
  refine (congrFun (wp_arr 0 1 d (W2 m d) (2 : Fin 3)) _).trans
    ((arr1_2 (fun _ b => W2 m d (Proc.devRef .tc b)) (Own 0) (low (lvl 0)) d (i 0) (i 1) (i 2)).trans ?_)
  unfold nbrs
  exact congr (congrArg₂ NearRun.value (W2_v1 m d) (W2_arg m d main_arg0 (by decide))) (ix3_eta i).symm

theorem Iw_apply (r : S131072.Idx) : (Iw m d : S131072.Idx → BitVec 32) r = nbrs (X m d) (Gather.nbr (r 0)) := by
  have e : (Iw m d : S131072.Idx → BitVec 32) = shapeCast S131072 (nbrs (X m d)) shapeCasts_S4x1024x32_S131072 := by
    rw [← W3_v2]
    unfold Iw W4 hostOps1
    after_results
    rfl
  rw [e]
  refine shapeCast_apply _ _ _ _ ?_
  rw [Shape.rowMajor_val_three, Shape.rowMajor_val_one]
  simp
  omega

theorem Xw_apply (b : Fin 4) (k : Fin 3) (i : Fin 16384) (j : S196608.Idx) (h : (j 0).val = (3 * b.val + k.val) * 16384 + i.val) :
    (Xw m d : S196608.Idx → EReal) j = X m d (ix3 b k i) := by
  have e : (Xw m d : S196608.Idx → EReal) = shapeCast S196608 (X m d) shapeCasts_S4x3x16384_S196608 := by
    rw [← show W3 m d (Proc.devRef .tc main_arg0) = X m d from (W3_keep m d main_arg0 (by decide)).trans (W2_arg m d main_arg0 (by decide))]
    unfold Xw W4 hostOps1
    after_results
    rfl
  rw [e]
  refine shapeCast_apply _ _ _ _ ?_
  rw [Shape.rowMajor_val_three, Shape.rowMajor_val_one, h]
  show (b.val * 3 + k.val) * 16384 + i.val = _
  omega

theorem inRange : InRange (Iw m) := fun d j => by
  rw [Iw_apply]
  exact nbrs_lt _ _

/-! ## First layer -/

/-- The gathered rows, from what the SparseCore call leaves. -/
theorem in3_0 (hg : AllGood (Iw m) (Xw m) d g) (p : Fin 131072) (k : Fin 3) :
    (W6 m d g (Proc.devRef .tc main_v6) : S131072x16.Idx → EReal) (ix2 p (k.castLE (by decide))) = Gather.spec (F := Ideal) (nbrs (X m d)) (X m d) (ix2 p k) := by
  have e : (W6 m d g (Proc.devRef .tc main_v6) : S131072x16.Idx → EReal) = shapeCast S131072x16 (g : S2097152.Idx → EReal) shapeCasts_S2097152_S131072x16 := by
    rw [← show W5 m d g v5' = g from (by unfold W5 putRows; exact Function.update_self ..)]
    unfold W6 hostOps2
    after_results
    rfl
  have hi := nbrs_lt (X m d) (Gather.nbr p)
  let o : S2097152.Idx := ix1 ⟨16 * p.val + k.val, by omega⟩
  let j : S196608.Idx := ix1 ⟨(3 * (p.val / 32768) + k.val) * 16384 + (nbrs (X m d) (Gather.nbr p)).toNat, by omega⟩
  have ho : (g : S2097152.Idx → EReal) o = (Xw m d : S196608.Idx → EReal) j := hg o k (ix1 p) j rfl (by rw [Iw_apply]; rfl)
  rw [e]
  refine (shapeCast_apply _ _ _ o ?_).trans (ho.trans ((Xw_apply m d ⟨p.val / 32768, by omega⟩ k ⟨(nbrs (X m d) (Gather.nbr p)).toNat, hi⟩ j rfl).trans ?_))
  · refine (Shape.rowMajor_val_one (d := ![2097152]) o).trans (Eq.trans ?_ (Shape.rowMajor_val_two (d := ![131072, 16]) _).symm)
    show 16 * p.val + k.val = p.val * 16 + k.val
    omega
  · unfold Gather.spec
    refine congrArg (fun i => X m d (ix3 (⟨p.val / 32768, by omega⟩ : Fin 4) k i)) (Fin.ext ?_)
    exact (Nat.min_eq_left (by omega)).symm

theorem in3_1 (q : Fin 4096) (k : Fin 3) :
    (W6 m d g (Proc.devRef .tc main_v7) : S4096x3.Idx → EReal) (ix2 q k) = smpl (X m d) (ix3 (⟨q.val / 1024, by omega⟩ : Fin 4) (⟨q.val % 1024, by omega⟩ : Fin 1024) k) := by
  have e : (W6 m d g (Proc.devRef .tc main_v7) : S4096x3.Idx → EReal) = shapeCast S4096x3 (smpl (X m d)) shapeCasts_S4x1024x3_S4096x3 := by
    rw [← W2_v1, ← W5_keep m d g main_v1 (by decide)]
    unfold W6 hostOps2
    after_results
    rfl
  rw [e]
  refine shapeCast_apply _ _ _ _ ?_
  rw [Shape.rowMajor_val_three, Shape.rowMajor_val_two]
  show (q.val / 1024 * 1024 + q.val % 1024) * 3 + k.val = q.val * 3 + k.val
  omega

theorem arg6 (a : Ref sig .tc) (h : a ∈ argRefs) : W6 m d g (Proc.devRef .tc a) = ar m d a := (W6_keep m d g a (List.mem_cons_of_mem _ h)).trans (W2_arg m d a h)
theorem arg5 (a : Ref sig .tc) (h : a ∈ argRefs) : W5 m d g (Proc.devRef .tc a) = ar m d a := (W5_keep m d g a (List.mem_cons_of_mem _ h)).trans (W2_arg m d a h)
theorem arg7 (a : Ref sig .tc) (h : a ∈ argRefs) : W7 m d g (Proc.devRef .tc a) = ar m d a := (W7_keep m d g a (List.mem_cons_of_mem _ h)).trans (W2_arg m d a h)
theorem arg8 (a : Ref sig .tc) (h : a ∈ argRefs) : W8 m d g (Proc.devRef .tc a) = ar m d a := (W8_keep m d g a (List.mem_cons_of_mem _ h)).trans (W2_arg m d a h)
theorem arg9 (a : Ref sig .tc) (h : a ∈ argRefs) : W9 m d g (Proc.devRef .tc a) = ar m d a := (W9_keep m d g a (List.mem_cons_of_mem _ h)).trans (W2_arg m d a h)
theorem arg10 (a : Ref sig .tc) (h : a ∈ argRefs) : W10 m d g (Proc.devRef .tc a) = ar m d a := (W10_keep m d g a (List.mem_cons_of_mem _ h)).trans (W2_arg m d a h)
theorem arg12 (a : Ref sig .tc) (h : a ∈ argRefs) : W12 m d g (Proc.devRef .tc a) = ar m d a := (W12_keep m d g a (List.mem_cons_of_mem _ h)).trans (W2_arg m d a h)

theorem in3_2 (k : Fin 3) (o : Fin 64) : (W6 m d g (Proc.devRef .tc main_v8) : S3x64.Idx → EReal) (ix2 k o) = mat (ar m d main_arg1 : S64x3.Idx → EReal) o k := by
  have e : (W6 m d g (Proc.devRef .tc main_v8) : S3x64.Idx → EReal) = transpose S3x64 [1, 0] (ar m d main_arg1 : S64x3.Idx → EReal) transposes_S64x3_S3x64_1_0 := by
    rw [← arg5 m d g main_arg1 (by decide)]
    unfold W6 hostOps2
    after_results
  exact (congrFun e _).trans (transpose_two _ _ _ _)

/-- The layers' values. -/
def t1 : Fin 131072 → Fin 64 → EReal := conv (offs (X m d)) (mat (ar m d main_arg1 : S64x3.Idx → EReal)) (vec (ar m d main_arg2 : S64.Idx → EReal))
def t2 : Fin 131072 → Fin 128 → EReal :=
  conv (fun p o => normalK (fun p => t1 m d p o) (vec (ar m d main_arg3 : S64.Idx → EReal) o) (vec (ar m d main_arg4 : S64.Idx → EReal) o) p)
    (mat (ar m d main_arg5 : S128x64.Idx → EReal)) (vec (ar m d main_arg6 : S128.Idx → EReal))
def t3 : Fin 131072 → Fin 256 → EReal :=
  conv (fun p o => normalK (fun p => t2 m d p o) (vec (ar m d main_arg7 : S128.Idx → EReal) o) (vec (ar m d main_arg8 : S128.Idx → EReal) o) p)
    (mat (ar m d main_arg9 : S256x128.Idx → EReal)) (vec (ar m d main_arg10 : S256.Idx → EReal))

abbrev V6 : (c : Dev nD) → (b : Ref sig .tc) → Buf (Elt Ideal) ((c : Thread nD τ).loc b) := fun _ b => W6 m d g (Proc.devRef .tc b)
abbrev V8 : (c : Dev nD) → (b : Ref sig .tc) → Buf (Elt Ideal) ((c : Thread nD τ).loc b) := fun _ b => W8 m d g (Proc.devRef .tc b)
abbrev V10 : (c : Dev nD) → (b : Ref sig .tc) → Buf (Elt Ideal) ((c : Thread nD τ).loc b) := fun _ b => W10 m d g (Proc.devRef .tc b)

variable (hg : AllGood (Iw m) (Xw m) d g)
include hg

theorem first (p : Fin 131072) (o : Fin 64) : Z3 (V6 m d g) d p o = t1 m d p o := by
  unfold Z3 Y0 t1 conv
  refine congrArg₂ (· + ·) (Finset.sum_congr rfl fun k _ => congrArg₂ (· * ·) ?_ (in3_2 m d g k o)) ?_
  · unfold offs
    refine congrArg₂ (· - ·) (in3_0 m d g hg p k) ((in3_1 m d g _ k).trans ?_)
    refine congrArg (fun b => smpl (X m d) (ix3 b (⟨p.val / 32 % 1024, by omega⟩ : Fin 1024) k)) (Fin.ext ?_)
    show p.val / 32 / 1024 = p.val / 32768
    omega
  · exact congrFun (arg6 m d g main_arg2 (by decide)) _

/-! ## Second layer -/

theorem o3_Y (p : Fin 131072) (o : Fin 64) : (W7 m d g (Proc.devRef .tc main_v9_0) : S131072x64.Idx → EReal) (ix2 p o) = t1 m d p o :=
  (congrFun (wp_arr 1 2 d (W6 m d g) (4 : Fin 6)) (ix2 p o)).trans ((arr3_4 (V6 m d g) _ _ d p o).trans (first m d g hg p o))

theorem o3_sum (t : Fin 32) (o : Fin 64) : (W7 m d g (Proc.devRef .tc main_v9_1) : S32x2x64.Idx → EReal) (ix3 t (0 : Fin 2) o) = ∑ r : Fin 4096, t1 m d (row t.val t.isLt r) o :=
  (congrFun (wp_arr 1 2 d (W6 m d g) (5 : Fin 6)) (ix3 t (0 : Fin 2) o)).trans ((arr3_5_sum (V6 m d g) _ _ d t o).trans
    (Finset.sum_congr (M := EReal) rfl fun r _ => first m d g hg _ o))

theorem o3_sq (t : Fin 32) (o : Fin 64) :
    (W7 m d g (Proc.devRef .tc main_v9_1) : S32x2x64.Idx → EReal) (ix3 t (1 : Fin 2) o) = ∑ r : Fin 4096, t1 m d (row t.val t.isLt r) o * t1 m d (row t.val t.isLt r) o :=
  (congrFun (wp_arr 1 2 d (W6 m d g) (5 : Fin 6)) (ix3 t (1 : Fin 2) o)).trans ((arr3_5_sq (V6 m d g) _ _ d t o).trans
    (Finset.sum_congr (M := EReal) rfl fun r _ => congrArg₂ (· * ·) (first m d g hg _ o) (first m d g hg _ o)))

theorem in4_1 (o : Fin 64) : (W8 m d g (Proc.devRef .tc main_v25) : S64.Idx → EReal) (ix1 o) = scaleK (fun p => t1 m d p o) (vec (ar m d main_arg3 : S64.Idx → EReal) o) := by
  have e : (W8 m d g (Proc.devRef .tc main_v25) : S64.Idx → EReal) = scale64 (W7 m d g (Proc.devRef .tc main_v9_1)) (W7 m d g (Proc.devRef .tc main_arg3)) := by
    unfold W8 hostOps3
    after_results
    rfl
  rw [e, arg7 m d g main_arg3 (by decide)]
  exact scale64_apply _ _ (fun p => t1 m d p o) o (fun t => o3_sum m d g hg t o) fun t => o3_sq m d g hg t o

theorem in4_2 (o : Fin 64) : (W8 m d g (Proc.devRef .tc main_v27) : S64.Idx → EReal) (ix1 o)
    = shiftK (fun p => t1 m d p o) (vec (ar m d main_arg3 : S64.Idx → EReal) o) (vec (ar m d main_arg4 : S64.Idx → EReal) o) := by
  have e : (W8 m d g (Proc.devRef .tc main_v27) : S64.Idx → EReal) = shift64 (W7 m d g (Proc.devRef .tc main_v9_1)) (W7 m d g (Proc.devRef .tc main_arg3)) (W7 m d g (Proc.devRef .tc main_arg4)) := by
    unfold W8 hostOps3
    after_results
    rfl
  rw [e, arg7 m d g main_arg3 (by decide), arg7 m d g main_arg4 (by decide)]
  exact shift64_apply _ _ _ (fun p => t1 m d p o) o (fun t => o3_sum m d g hg t o) fun t => o3_sq m d g hg t o

omit hg in
theorem in4_3 (k : Fin 64) (o : Fin 128) : (W8 m d g (Proc.devRef .tc main_v28) : S64x128.Idx → EReal) (ix2 k o) = mat (ar m d main_arg5 : S128x64.Idx → EReal) o k := by
  have e : (W8 m d g (Proc.devRef .tc main_v28) : S64x128.Idx → EReal) = transpose S64x128 [1, 0] (ar m d main_arg5 : S128x64.Idx → EReal) transposes_S128x64_S64x128_1_0 := by
    rw [← arg7 m d g main_arg5 (by decide)]
    unfold W8 hostOps3
    after_results
  exact (congrFun e _).trans (transpose_two _ _ _ _)

theorem second (p : Fin 131072) (o : Fin 128) : Z4 (V8 m d g) d p o = t2 m d p o := by
  unfold Z4 Y1 t2 conv normalK
  refine congrArg₂ (· + ·) (Finset.sum_congr rfl fun k _ => congrArg₂ (· * ·) (congrArg₂ max (congrArg₂ (· + ·) (congrArg₂ (· * ·) ?_ ?_) ?_) rfl) ?_) ?_
  · exact (congrFun (host3_of (W7 m d g) main_v9_0 (by decide)) _).trans (o3_Y m d g hg p k)
  · exact in4_1 m d g hg k
  · exact in4_2 m d g hg k
  · exact in4_3 m d g k o
  · exact congrFun (arg8 m d g main_arg6 (by decide)) _

/-! ## Third layer -/

theorem o4_Y (p : Fin 131072) (o : Fin 128) : (W9 m d g (Proc.devRef .tc main_v29_0) : S131072x128.Idx → EReal) (ix2 p o) = t2 m d p o :=
  (congrFun (wp_arr 1 3 d (W8 m d g) (5 : Fin 7)) (ix2 p o)).trans ((arr4_5 (V8 m d g) _ _ d p o).trans (second m d g hg p o))

theorem o4_sum (t : Fin 32) (o : Fin 128) : (W9 m d g (Proc.devRef .tc main_v29_1) : S32x2x128.Idx → EReal) (ix3 t (0 : Fin 2) o) = ∑ r : Fin 4096, t2 m d (row t.val t.isLt r) o :=
  (congrFun (wp_arr 1 3 d (W8 m d g) (6 : Fin 7)) (ix3 t (0 : Fin 2) o)).trans ((arr4_6_sum (V8 m d g) _ _ d t o).trans
    (Finset.sum_congr (M := EReal) rfl fun r _ => second m d g hg _ o))

theorem o4_sq (t : Fin 32) (o : Fin 128) :
    (W9 m d g (Proc.devRef .tc main_v29_1) : S32x2x128.Idx → EReal) (ix3 t (1 : Fin 2) o) = ∑ r : Fin 4096, t2 m d (row t.val t.isLt r) o * t2 m d (row t.val t.isLt r) o :=
  (congrFun (wp_arr 1 3 d (W8 m d g) (6 : Fin 7)) (ix3 t (1 : Fin 2) o)).trans ((arr4_6_sq (V8 m d g) _ _ d t o).trans
    (Finset.sum_congr (M := EReal) rfl fun r _ => congrArg₂ (· * ·) (second m d g hg _ o) (second m d g hg _ o)))

theorem in5_1 (o : Fin 128) : (W10 m d g (Proc.devRef .tc main_v45) : S128.Idx → EReal) (ix1 o) = scaleK (fun p => t2 m d p o) (vec (ar m d main_arg7 : S128.Idx → EReal) o) := by
  have e : (W10 m d g (Proc.devRef .tc main_v45) : S128.Idx → EReal) = scale128 (W9 m d g (Proc.devRef .tc main_v29_1)) (W9 m d g (Proc.devRef .tc main_arg7)) := by
    unfold W10 hostOps4
    after_results
    rfl
  rw [e, arg9 m d g main_arg7 (by decide)]
  exact scale128_apply _ _ (fun p => t2 m d p o) o (fun t => o4_sum m d g hg t o) fun t => o4_sq m d g hg t o

theorem in5_2 (o : Fin 128) : (W10 m d g (Proc.devRef .tc main_v47) : S128.Idx → EReal) (ix1 o)
    = shiftK (fun p => t2 m d p o) (vec (ar m d main_arg7 : S128.Idx → EReal) o) (vec (ar m d main_arg8 : S128.Idx → EReal) o) := by
  have e : (W10 m d g (Proc.devRef .tc main_v47) : S128.Idx → EReal) = shift128 (W9 m d g (Proc.devRef .tc main_v29_1)) (W9 m d g (Proc.devRef .tc main_arg7)) (W9 m d g (Proc.devRef .tc main_arg8)) := by
    unfold W10 hostOps4
    after_results
    rfl
  rw [e, arg9 m d g main_arg7 (by decide), arg9 m d g main_arg8 (by decide)]
  exact shift128_apply _ _ _ (fun p => t2 m d p o) o (fun t => o4_sum m d g hg t o) fun t => o4_sq m d g hg t o

omit hg in
theorem in5_3 (k : Fin 128) (o : Fin 256) : (W10 m d g (Proc.devRef .tc main_v48) : S128x256.Idx → EReal) (ix2 k o) = mat (ar m d main_arg9 : S256x128.Idx → EReal) o k := by
  have e : (W10 m d g (Proc.devRef .tc main_v48) : S128x256.Idx → EReal) = transpose S128x256 [1, 0] (ar m d main_arg9 : S256x128.Idx → EReal) transposes_S256x128_S128x256_1_0 := by
    rw [← arg9 m d g main_arg9 (by decide)]
    unfold W10 hostOps4
    after_results
  exact (congrFun e _).trans (transpose_two _ _ _ _)

theorem third (p : Fin 131072) (o : Fin 256) : Z5 (V10 m d g) d p o = t3 m d p o := by
  unfold Z5 Y2 t3 conv normalK
  refine congrArg₂ (· + ·) (Finset.sum_congr rfl fun k _ => congrArg₂ (· * ·) (congrArg₂ max (congrArg₂ (· + ·) (congrArg₂ (· * ·) ?_ ?_) ?_) rfl) ?_) ?_
  · exact (congrFun (host4_of (W9 m d g) main_v29_0 (by decide)) _).trans (o4_Y m d g hg p k)
  · exact in5_1 m d g hg k
  · exact in5_2 m d g hg k
  · exact in5_3 m d g k o
  · exact congrFun (arg10 m d g main_arg10 (by decide)) _

/-! ## The results -/

theorem o5 (q : Fin 4096) (o : Fin 256) :
    (W11 m d g (Proc.devRef .tc main_v49) : S4096x256.Idx → EReal) (ix2 q o) = Finset.univ.fold max ⊥ fun k : Fin 32 => t3 m d (⟨q.val * 32 + k.val, by omega⟩ : Fin 131072) o :=
  (congrFun (wp_arr 1 4 d (W10 m d g) (5 : Fin 6)) (ix2 q o)).trans ((arr5_5 (V10 m d g) _ _ d q o).trans
    (congrArg (fun f : Fin 32 → EReal => Finset.univ.fold max ⊥ f) (funext fun k => third m d g hg _ o)))

omit hg in
theorem final_apply (Y : S4096x256.Idx → EReal) (b : Fin 4) (o : Fin 256) (s : Fin 1024) :
    transpose S4x256x1024 [0, 2, 1] (shapeCast S4x1024x256 Y shapeCasts_S4096x256_S4x1024x256) transposes_S4x1024x256_S4x256x1024_0_2_1 (ix3 b o s)
      = Y (ix2 (⟨b.val * 1024 + s.val, by omega⟩ : Fin 4096) o) := by
  refine (transpose_apply _ _ _ _ (ix3 b s o) fun a => ?_).trans ?_
  · match a with
    | ⟨0, _⟩ => rfl
    | ⟨1, _⟩ => rfl
    | ⟨2, _⟩ => rfl
  · refine shapeCast_apply _ _ _ (ix2 (⟨b.val * 1024 + s.val, by omega⟩ : Fin 4096) o) ?_
    rw [Shape.rowMajor_val_three, Shape.rowMajor_val_two]
    rfl

theorem result2 : (W12 m d g (Proc.devRef .tc main_v51) : S4x256x1024.Idx → EReal) = value (t3 m d) := by
  have e : (W12 m d g (Proc.devRef .tc main_v51) : S4x256x1024.Idx → EReal)
      = transpose S4x256x1024 [0, 2, 1] (shapeCast S4x1024x256 (W11 m d g (Proc.devRef .tc main_v49) : S4096x256.Idx → EReal) shapeCasts_S4096x256_S4x1024x256) transposes_S4x1024x256_S4x256x1024_0_2_1 := by
    unfold W12 hostOps5
    after_results
    rfl
  funext i
  refine Eq.trans (congrArg (W12 m d g (Proc.devRef .tc main_v51) : S4x256x1024.Idx → EReal) (ix3_eta i)) ?_
  rw [e]
  exact (final_apply _ (i 0) (i 1) (i 2)).trans (o5 m d g hg _ (i 1))

omit hg in
theorem result1 : (W12 m d g (Proc.devRef .tc main_v52) : S4x3x1024.Idx → EReal) = SampleTrip.value (X m d) := by
  have e : (W12 m d g (Proc.devRef .tc main_v52) : S4x3x1024.Idx → EReal)
      = transpose S4x3x1024 [0, 2, 1] (smpl (X m d)) transposes_S4x1024x3_S4x3x1024_0_2_1 := by
    rw [← W2_v1, ← W11_keep m d g main_v1 (by decide)]
    unfold W12 hostOps5
    after_results
  funext i
  rw [e]
  refine transpose_apply _ _ _ _ (ix3 (i 0) (i 2) (i 1)) fun a => ?_
  match a with
  | ⟨0, _⟩ => rfl
  | ⟨1, _⟩ => rfl
  | ⟨2, _⟩ => rfl

omit hg in
/-- Every run ends with the results and the arguments as named, and every counter at zero. -/
theorem run_value (ρ : Dev nD → PrngReg) :
    θ_run (Cert.WholeIdeal.defs (F := Ideal)) (Cert.WholeIdeal.threads (F := Ideal)) ⟨m, fun _ => 0, ρ⟩ fun r =>
      (∀ d : Dev nD, (r.2.mem (d, Proc.devRef .tc main_v52) : S4x3x1024.Idx → EReal) = SampleTrip.value (X m d)
        ∧ (r.2.mem (d, Proc.devRef .tc main_v51) : S4x256x1024.Idx → EReal) = value (t3 m d)
        ∧ ∀ a ∈ argRefs, r.2.mem (d, Proc.devRef .tc a) = m (d, Proc.devRef .tc a)) ∧ r.2.sem = fun _ => 0 :=
  (θ_run Cert.WholeIdeal.defs _ _).mono (fun r hr => ⟨fun d => by
    obtain ⟨g, hg, hW⟩ := hr.1 d
    exact ⟨(hW _ (mem_uc main_v52 (by decide))).trans (result1 m d g), (hW _ (mem_uc main_v51 (by decide))).trans (result2 m d g hg),
      fun a ha => (hW _ (mem_uc a ((by decide +kernel : ∀ a ∈ argRefs, ¬ (Proc.devRef .tc a : DevRef τ sig).isScoped) a ha))).trans (arg12 m d g a ha)⟩, hr.2⟩) (run_main m ρ (inRange m))

end Cert.Proof.Whole
end
-- ==== Proof.WholePre.lean ====
/-
  The precondition of the whole, element by element: the coordinates are so small that every squared distance is below
  the value put in the place of a chosen one, and the factors of the two normalizations are real numbers.
-/
module

public import proofs.«01_k».proof.Proof.WholeRun
public import proofs.«01_k».proof.Proof.LayerPre
public import proofs.«01_k».proof.Proof.Gen.Pre_moderate

@[expose] public section

noncomputable section

namespace Cert.Proof.WholePre

open Cert.Pre_moderate Cert.Pre_moderate.Gen Cert.Proof.LayerMath
open Idealize.ShloMosaic

/-- The bound on the coordinates. -/
abbrev small : EReal := Ideal.ofBits .f32 0x5E5E0B6B#32

theorem small_le : small ≤ ((4100000000000000000 : ℝ) : EReal) := by
  have e : ∃ r : ℝ, small = (r : EReal) ∧ r ≤ 4100000000000000000 := by
    refine ⟨_, by simp [small, Ideal.ofBits, Ideal.ieee, -EReal.coe_mul]; rfl, ?_⟩
    norm_num
  obtain ⟨r, e, hr⟩ := e
  rw [e]
  exact EReal.coe_le_coe_iff.mpr hr

theorem le_big : ((290000000000000000000000000000000000000 : ℝ) : EReal) ≤ NearPay.big := by
  have e : ∃ r : ℝ, NearPay.big = (r : EReal) ∧ (290000000000000000000000000000000000000 : ℝ) ≤ r := by
    refine ⟨_, by simp [NearPay.big, Ideal.ofBits, Ideal.ieee, -EReal.coe_mul]; rfl, ?_⟩
    norm_num
  obtain ⟨r, e, hr⟩ := e
  rw [e]
  exact EReal.coe_le_coe_iff.mpr hr

theorem two_eq : Ideal.ofBits .f32 0x40000000#32 = ((2 : ℝ) : EReal) := by
  simp [Ideal.ofBits, Ideal.ieee, -EReal.coe_mul]
  norm_num

/-- A real number within the bound. -/
def Within (x : EReal) : Prop := ∃ r : ℝ, x = (r : EReal) ∧ |r| ≤ 4100000000000000000

theorem within_of_lt (x : EReal) (h : Ideal.cmp .olt (max x (-x)) small = 1#1) : Within x := by
  have h' : max x (-x) < ((4100000000000000000 : ℝ) : EReal) := by
    by_contra hc
    have : ¬ max x (-x) < small := fun h => hc (lt_of_lt_of_le h small_le)
    simp [Ideal.cmp, this] at h
  obtain ⟨h1, h2⟩ := max_lt_iff.mp h'
  induction x with
  | bot => simp at h2
  | top => simp at h1
  | coe r =>
    refine ⟨r, rfl, abs_le.mpr ⟨?_, (EReal.coe_lt_coe_iff.mp h1).le⟩⟩
    have := EReal.coe_lt_coe_iff.mp (show ((-r : ℝ) : EReal) < ((4100000000000000000 : ℝ) : EReal) by rw [EReal.coe_neg]; exact h2)
    linarith

/-- The squared distance of points within the bound. -/
theorem gap_lt (s p : Fin 3 → EReal) (hs : ∀ k, Within (s k)) (hp : ∀ k, Within (p k)) : NearPay.gap s p < NearPay.big := by
  choose a ha hA using hs
  choose b hb hB using hp
  have e : NearPay.gap s p = ((a 0 * a 0 + a 1 * a 1 + a 2 * a 2 - 2 * (a 0 * b 0 + a 1 * b 1 + a 2 * b 2) + (b 0 * b 0 + b 1 * b 1 + b 2 * b 2) : ℝ) : EReal) := by
    unfold NearPay.gap
    rw [Fin.sum_univ_three, two_eq]
    simp only [ha, hb]
    norm_cast
  rw [e]
  refine lt_of_lt_of_le (EReal.coe_lt_coe_iff.mpr ?_) le_big
  have hd (k : Fin 3) : (a k - b k) * (a k - b k) ≤ 8200000000000000000 * 8200000000000000000 := by
    have h1 := abs_le.mp (hA k)
    have h2 := abs_le.mp (hB k)
    have h3 : |a k - b k| ≤ 8200000000000000000 := abs_le.mpr ⟨by linarith, by linarith⟩
    calc (a k - b k) * (a k - b k) = |a k - b k| * |a k - b k| := (abs_mul_abs_self _).symm
      _ ≤ _ := mul_le_mul h3 h3 (abs_nonneg _) (by norm_num)
  have := hd 0
  have := hd 1
  have := hd 2
  nlinarith

variable (A0 : FVec Ideal S4x3x16384 .f32) (A1 : FVec Ideal S64x3 .f32) (A2 A3 A4 : FVec Ideal S64 .f32)
  (A5 : FVec Ideal S128x64 .f32) (A6 A7 A8 : FVec Ideal S128 .f32) (A9 : FVec Ideal S256x128 .f32) (A10 : FVec Ideal S256 .f32)

theorem moderate_all (e : Cert.Pre_moderate.fn (F := Ideal) A0 A1 A2 A3 A4 A5 A6 A7 A8 A9 A10 = fun _ => 1#1) :
    (∀ i, Within (A0 i)) ∧ (∀ i, IsReal (A3 i)) ∧ ∀ i, IsReal (A7 i) := by
  have e := congrFun e ix0
  unfold Cert.Pre_moderate.fn at e
  obtain ⟨h, h7⟩ := LayerPre.and_split _ _ _ e
  obtain ⟨h0, h3⟩ := LayerPre.and_split _ _ _ h
  exact ⟨fun i => within_of_lt (A0 i) (Host.reduce_andi_all _ _ _ _ ix0 h0 i), LayerPre.finite_of A3 _ _ _ _ h3, LayerPre.finite_of A7 _ _ _ _ h7⟩

/-- Every squared distance of a point to a sampled one is below the value put in the place of a chosen one. -/
theorem below (X : S4x3x16384.Idx → EReal) (h : ∀ i, Within (X i)) (b : Fin 4) (s : Fin 1024) (n : Fin 16384) :
    NearRun.sqdist (Whole.smpl X) X b s n < NearPay.big :=
  gap_lt _ _ (fun _ => h _) fun _ => h _

end Cert.Proof.WholePre

end
-- ==== Proof.WholeRefRun.lean ====
/-
  The run of the plain program of the whole at the ideal values: its host operations before the loop, the counted loop
  of 1024 trips and the operations after it. Every execution terminates with each buffer at the fold of those
  operations. The trips are the sampling program's trips.
-/
module

public import proofs.«01_k».proof.Proof.SampleRef
public import proofs.«01_k».proof.Proof.Gen.WholeReferenceIdeal

@[expose] public section

noncomputable section

namespace Cert.Proof.WholeRefRun

open Cert.WholeReferenceIdeal Cert.WholeReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.StableHlo

/-! ## The stretches of host operations -/

abbrev Ops := List (HloOp τ sig (Elt Ideal))
abbrev Val := Valuation τ sig (Elt Ideal)
/-- Every operation of the list writes one of the references. -/
abbrev Wr (l : Ops) (w : List (Ref sig .tc)) : Prop := l.Forall fun op => op.writes ⊆ (w.map (Proc.devRef (τ := τ) .tc)).toFinset

section Names

variable {s : Shape}

abbrev fcst (b : BitVec 32) : FVec Ideal S_ .f32 := constant S_ .f32 b
abbrev fadd : FVec Ideal s .f32 → FVec Ideal s .f32 → FVec Ideal s .f32 := addf
abbrev fsub : FVec Ideal s .f32 → FVec Ideal s .f32 → FVec Ideal s .f32 := subf
abbrev fmul : FVec Ideal s .f32 → FVec Ideal s .f32 → FVec Ideal s .f32 := mulf
abbrev fdiv : FVec Ideal s .f32 → FVec Ideal s .f32 → FVec Ideal s .f32 := Host.divf
abbrev fmax : FVec Ideal s .f32 → FVec Ideal s .f32 → FVec Ideal s .f32 := maximumf
abbrev fmin : FVec Ideal s .f32 → FVec Ideal s .f32 → FVec Ideal s .f32 := minimumf
abbrev fneg : FVec Ideal s .f32 → FVec Ideal s .f32 := Host.negf
abbrev fsqrt : FVec Ideal s .f32 → FVec Ideal s .f32 := Host.sqrt
abbrev fsum {t : Shape} {axes : List (Fin s.rank)} (x : FVec Ideal s .f32) (v : FVec Ideal S_ .f32) (h : s.ReducesTo axes t) (hu : 0 < S_.numel) : FVec Ideal t .f32 :=
  Host.reduceAdd x v h hu
abbrev fdot {l r o : Shape} (d : DotDims l r o) (x : FVec Ideal l .f32) (y : FVec Ideal r .f32) : FVec Ideal o .f32 := Host.dotGeneral d none x y

abbrev famax (x : FVec Ideal S4x16384 .f32) (y : IVec S4x16384 32) (u : FVec Ideal S_ .f32) (v : IVec S_ 32) :=
  Host.argReduce reducer_argmax_f32_i32 x y u v reducesTo_S4x16384_S4_d1 h_S_

end Names

/-- The operations before the loop. -/
abbrev A0 : Ops :=
  [ unary main_arg0 main_v0 (transpose S4x16384x3 [0, 2, 1] · transposes_S4x3x16384_S4x16384x3_0_2_1), nullary main_cst (fcst 0x501502F9#32), unary main_cst main_v1 (broadcastInDim S4x16384 ![] bcast_S_S4x16384),
    nullary main_c (constantI S_ 32 0#32), unary main_c main_v2 (broadcastInDim S4x1024 ![] bcast_S_S4x1024), nullary main_c_0 (constantI S_ 32 0#32), unary main_c_0 main_v3 (broadcastInDim S4 ![] bcast_S_S4),
    nullary main_c_1 (constantI S_ 32 0#32), nullary main_c_2 (constantI S_ 32 0#32), unary main_v0 main_v4_0 id, unary main_c_2 main_v4_1 id, unary main_c_1 main_v4_2 id, unary main_v1 main_v4_3 id, unary main_v2 main_v4_4 id,
    unary main_v3 main_v4_5 id ]
abbrev A0w : List (Ref sig .tc) := [main_v0, main_cst, main_v1, main_c, main_v2, main_c_0, main_v3, main_c_1, main_c_2, main_v4_0, main_v4_1, main_v4_2, main_v4_3, main_v4_4, main_v4_5]
theorem A0_w : Wr A0 A0w := forall_writes_sub_of_map rfl

/-- The start of a trip: the slot, the table with the centre written to it, the centre as a column. -/
abbrev B0 : Ops :=
  [ nullary main_while0b_c_24 (constantI S_ 32 1#32), binary main_v4_2 main_while0b_c_24 main_while0b_v97 addi, nullary main_while0b_c_25 (constantI S_ 32 0#32), binary main_v4_2 main_while0b_c_25 main_while0b_v98 (cmpi .slt),
    nullary main_while0b_c_26 (constantI S_ 32 1024#32), binary main_v4_2 main_while0b_c_26 main_while0b_v99 addi, ternary main_while0b_v98 main_while0b_v99 main_v4_2 main_while0b_v100 select, unary main_while0b_v100 main_while0b_v101 id,
    unary main_while0b_v101 main_while0b_v102 (broadcastInDim S1 ![] bcast_S_S1), ternary main_v4_4 main_while0b_v102 main_v4_5 main_while0b_v103 (fun x i u => Host.scatter scatter_S4x1024_S1_S4_0_1_1_0 (fun _ b => b) x i u),
    unary main_v4_5 main_while0b_v104 (broadcastInDim S4x1x1 ![0] bcast_S4_S4x1x1_0) ]
abbrev B0w : List (Ref sig .tc) := [main_while0b_c_24, main_while0b_v97, main_while0b_c_25, main_while0b_v98, main_while0b_c_26, main_while0b_v99, main_while0b_v100, main_while0b_v101, main_while0b_v102, main_while0b_v103, main_while0b_v104]
theorem B0_w : Wr B0 B0w := forall_writes_sub_of_map rfl

/-- The lookup of the centre. -/
abbrev B1 : Ops :=
  [ nullary main_while0b_call0_c (constantI S_ 32 0#32), unary main_while0b_call0_c main_while0b_call0_v0 (broadcastInDim S4x1x1 ![] bcast_S_S4x1x1), binary main_while0b_v104 main_while0b_call0_v0 main_while0b_call0_v1 (cmpi .slt),
    nullary main_while0b_call0_c_0 (constantI S_ 32 16384#32), unary main_while0b_call0_c_0 main_while0b_call0_v2 (broadcastInDim S4x1x1 ![] bcast_S_S4x1x1), binary main_while0b_v104 main_while0b_call0_v2 main_while0b_call0_v3 addi,
    ternary main_while0b_call0_v1 main_while0b_call0_v3 main_while0b_v104 main_while0b_call0_v4 select, nullary main_while0b_call0_c_1 (constantI S1 32 16383#32), nullary main_while0b_call0_c_2 (constantI S_ 32 0#32),
    unary main_while0b_call0_c_2 main_while0b_call0_v5 (broadcastInDim S4x1x1 ![] bcast_S_S4x1x1), binary main_while0b_call0_v4 main_while0b_call0_v5 main_while0b_call0_v6 (cmpi .sge),
    unary main_while0b_call0_c_1 main_while0b_call0_v7 (broadcastInDim S1x1x1 ![2] bcast_S1_S1x1x1_2), unary main_while0b_call0_v7 main_while0b_call0_v8 (broadcastInDim S4x1x1 ![0, 1, 2] bcast_S1x1x1_S4x1x1_0_1_2),
    binary main_while0b_call0_v4 main_while0b_call0_v8 main_while0b_call0_v9 (cmpi .sle), binary main_while0b_call0_v6 main_while0b_call0_v9 main_while0b_call0_v10 andi, nullary main_while0b_call0_c_3 (constantI S_ 1 1#1),
    binary main_while0b_call0_v10 main_while0b_call0_c_3 main_while0b_call0_v11 (fun x v => Host.reduce IntOp.andi x v reducesTo_S4x1x1_S4x1_d2 h_S_),
    binary main_v4_0 main_while0b_call0_v4 main_while0b_call0_v12 (fun x i => Host.gather gather_S4x16384x3_S4x1x1_S4x1x3_2_1_0_0_1_2_113 x i),
    unary main_while0b_call0_v11 main_while0b_call0_v13 (broadcastInDim S4x1x3 ![0, 1] bcast_S4x1_S4x1x3_0_1), nullary main_while0b_call0_cst (fcst 0x7FC00000#32),
    unary main_while0b_call0_cst main_while0b_call0_v14 (broadcastInDim S4x1x3 ![] bcast_S_S4x1x3), ternary main_while0b_call0_v13 main_while0b_call0_v12 main_while0b_call0_v14 main_while0b_v105 select ]
abbrev B1w : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v105]
theorem B1_w : Wr B1 B1w := forall_writes_sub_of_map rfl

/-- The distances to the centre and the running minimum. -/
abbrev B2 : Ops :=
  [ unary main_while0b_v105 main_while0b_v106 (broadcastInDim S4x16384x3 ![0, 1, 2] bcast_S4x1x3_S4x16384x3_0_1_2), binary main_v4_0 main_while0b_v106 main_while0b_v107 fsub,
    binary main_while0b_v107 main_while0b_v107 main_while0b_v108 fmul, nullary main_while0b_cst_27 (fcst 0x00000000#32),
    binary main_while0b_v108 main_while0b_cst_27 main_while0b_v109 (fun x v => fsum x v reducesTo_S4x16384x3_S4x16384_d2 h_S_), binary main_v4_3 main_while0b_v109 main_while0b_v110 fmin ]
abbrev B2w : List (Ref sig .tc) := [main_while0b_v106, main_while0b_v107, main_while0b_v108, main_while0b_cst_27, main_while0b_v109, main_while0b_v110]
theorem B2_w : Wr B2 B2w := forall_writes_sub_of_map rfl

/-- The index of the largest running minimum. -/
abbrev B3 : Ops :=
  [ nullary main_while0b_call1_v0 (iotaInDim S4x16384 32 1), nullary main_while0b_call1_cst (fcst 0xFF800000#32), nullary main_while0b_call1_c (constantI S_ 32 0#32),
    quaternary main_while0b_v110 main_while0b_call1_v0 main_while0b_call1_cst main_while0b_call1_c main_while0b_call1_v1_0 (fun x y u v j => (famax x y u v j).1),
    quaternary main_while0b_v110 main_while0b_call1_v0 main_while0b_call1_cst main_while0b_call1_c main_while0b_v111 (fun x y u v j => (famax x y u v j).2) ]
abbrev B3w : List (Ref sig .tc) := [main_while0b_call1_v0, main_while0b_call1_cst, main_while0b_call1_c, main_while0b_call1_v1_0, main_while0b_v111]
theorem B3_w : Wr B3 B3w := forall_writes_sub_of_map rfl

/-- The end of a trip: the counter and the copies to the carried buffers. -/
abbrev B4 : Ops :=
  [ nullary main_while0b_c_28 (constantI S_ 32 1#32), binary main_v4_1 main_while0b_c_28 main_while0b_v112 addi, unary main_while0b_v112 main_v4_1 id, unary main_while0b_v97 main_v4_2 id, unary main_while0b_v110 main_v4_3 id,
    unary main_while0b_v103 main_v4_4 id, unary main_while0b_v111 main_v4_5 id ]
abbrev B4w : List (Ref sig .tc) := [main_while0b_c_28, main_while0b_v112, main_v4_1, main_v4_2, main_v4_3, main_v4_4, main_v4_5]
theorem B4_w : Wr B4 B4w := forall_writes_sub_of_map rfl

/-- The lookup of the sampled points. -/
abbrev P0 : Ops :=
  [ unary main_v4_4 main_v5 (broadcastInDim S4x1024x1 ![0, 1] bcast_S4x1024_S4x1024x1_0_1), nullary main_call2_c (constantI S_ 32 0#32), unary main_call2_c main_call2_v0 (broadcastInDim S4x1024x1 ![] bcast_S_S4x1024x1),
    binary main_v5 main_call2_v0 main_call2_v1 (cmpi .slt), nullary main_call2_c_0 (constantI S_ 32 16384#32), unary main_call2_c_0 main_call2_v2 (broadcastInDim S4x1024x1 ![] bcast_S_S4x1024x1),
    binary main_v5 main_call2_v2 main_call2_v3 addi, ternary main_call2_v1 main_call2_v3 main_v5 main_call2_v4 select, nullary main_call2_c_1 (constantI S1 32 16383#32), nullary main_call2_c_2 (constantI S_ 32 0#32),
    unary main_call2_c_2 main_call2_v5 (broadcastInDim S4x1024x1 ![] bcast_S_S4x1024x1), binary main_call2_v4 main_call2_v5 main_call2_v6 (cmpi .sge), unary main_call2_c_1 main_call2_v7 (broadcastInDim S1x1x1 ![2] bcast_S1_S1x1x1_2),
    unary main_call2_v7 main_call2_v8 (broadcastInDim S4x1024x1 ![0, 1, 2] bcast_S1x1x1_S4x1024x1_0_1_2), binary main_call2_v4 main_call2_v8 main_call2_v9 (cmpi .sle), binary main_call2_v6 main_call2_v9 main_call2_v10 andi,
    nullary main_call2_c_3 (constantI S_ 1 1#1), binary main_call2_v10 main_call2_c_3 main_call2_v11 (fun x v => Host.reduce IntOp.andi x v reducesTo_S4x1024x1_S4x1024_d2 h_S_),
    binary main_v0 main_call2_v4 main_call2_v12 (fun x i => Host.gather gather_S4x16384x3_S4x1024x1_S4x1024x3_2_1_0_0_1_2_113 x i), unary main_call2_v11 main_call2_v13 (broadcastInDim S4x1024x3 ![0, 1] bcast_S4x1024_S4x1024x3_0_1),
    nullary main_call2_cst (fcst 0x7FC00000#32), unary main_call2_cst main_call2_v14 (broadcastInDim S4x1024x3 ![] bcast_S_S4x1024x3), ternary main_call2_v13 main_call2_v12 main_call2_v14 main_v6 select ]
abbrev P0w : List (Ref sig .tc) := [main_v5, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v6]
theorem P0_w : Wr P0 P0w := forall_writes_sub_of_map rfl

/-- The squared distances and the nearest points. -/
abbrev P1 : Ops :=
  [ binary main_v6 main_v6 main_v7 fmul, nullary main_cst_3 (fcst 0x00000000#32), binary main_v7 main_cst_3 main_v8 (fun x v => fsum x v reducesTo_S4x1024x3_S4x1024_d2 h_S_),
    unary main_v8 main_v9 (broadcastInDim S4x1024x1 ![0, 1] bcast_S4x1024_S4x1024x1_0_1), binary main_v6 main_v0 main_v10 (fun l r => fdot dot_S4x1024x3_S4x16384x3_S4x1024x16384_2_2_1_1_0_0 l r),
    nullary main_cst_4 (fcst 0x40000000#32), unary main_cst_4 main_v11 (broadcastInDim S4x1024x16384 ![] bcast_S_S4x1024x16384), binary main_v11 main_v10 main_v12 fmul,
    unary main_v9 main_v13 (broadcastInDim S4x1024x16384 ![0, 1, 2] bcast_S4x1024x1_S4x1024x16384_0_1_2), binary main_v13 main_v12 main_v14 fsub, binary main_v0 main_v0 main_v15 fmul, nullary main_cst_5 (fcst 0x00000000#32),
    binary main_v15 main_cst_5 main_v16 (fun x v => fsum x v reducesTo_S4x16384x3_S4x16384_d2 h_S_), unary main_v16 main_v17 (broadcastInDim S4x1x16384 ![0, 2] bcast_S4x16384_S4x1x16384_0_2),
    unary main_v17 main_v18 (broadcastInDim S4x1024x16384 ![0, 1, 2] bcast_S4x1x16384_S4x1024x16384_0_1_2), binary main_v14 main_v18 main_v19 fadd, unary main_v19 main_v20 fneg,
    unary main_v20 main_values (fun x => (Host.topK S4x1024x32 2 (FloatOps.cmpfTotal (F := Ideal) (φ := .f32) .gt) x sliceFits_S4x1024x16384_S4x1024x32).1),
    unary main_v20 main_indices (fun x => (Host.topK S4x1024x32 2 (FloatOps.cmpfTotal (F := Ideal) (φ := .f32) .gt) x sliceFits_S4x1024x16384_S4x1024x32).2) ]
abbrev P1w : List (Ref sig .tc) := [main_v7, main_cst_3, main_v8, main_v9, main_v10, main_cst_4, main_v11, main_v12, main_v13, main_v14, main_v15, main_cst_5, main_v16, main_v17, main_v18, main_v19, main_v20, main_values, main_indices]
theorem P1_w : Wr P1 P1w := forall_writes_sub_of_map rfl

/-- The offsets of the nearest points. -/
abbrev P2 : Ops :=
  [ nullary main_v21 (iotaInDim S4 32 0), unary main_v21 main_v22 (broadcastInDim S4x1x1 ![0] bcast_S4_S4x1x1_0), nullary main_c_6 (constantI S_ 32 0#32), unary main_c_6 main_v23 (broadcastInDim S4x1x1 ![] bcast_S_S4x1x1),
    binary main_v22 main_v23 main_v24 (cmpi .slt), nullary main_c_7 (constantI S_ 32 4#32), unary main_c_7 main_v25 (broadcastInDim S4x1x1 ![] bcast_S_S4x1x1), binary main_v22 main_v25 main_v26 addi,
    ternary main_v24 main_v26 main_v22 main_v27 select, nullary main_c_8 (constantI S_ 32 0#32), unary main_c_8 main_v28 (broadcastInDim S4x1024x32 ![] bcast_S_S4x1024x32), binary main_indices main_v28 main_v29 (cmpi .slt),
    nullary main_c_9 (constantI S_ 32 16384#32), unary main_c_9 main_v30 (broadcastInDim S4x1024x32 ![] bcast_S_S4x1024x32), binary main_indices main_v30 main_v31 addi, ternary main_v29 main_v31 main_indices main_v32 select,
    unary main_v27 main_v33 (broadcastInDim S4x1024x32 ![0, 1, 2] bcast_S4x1x1_S4x1024x32_0_1_2), unary main_v33 main_v34 (broadcastInDim S4x1024x32x1 ![0, 1, 2] bcast_S4x1024x32_S4x1024x32x1_0_1_2),
    unary main_v32 main_v35 (broadcastInDim S4x1024x32x1 ![0, 1, 2] bcast_S4x1024x32_S4x1024x32x1_0_1_2),
    binary main_v34 main_v35 main_v36 (fun a b => concatenate S4x1024x32x2 3 [⟨S4x1024x32x1, a⟩, ⟨S4x1024x32x1, b⟩] concatenates_S4x1024x32x1_S4x1024x32x1_S4x1024x32x2_d3),
    binary main_v0 main_v36 main_v37 (fun x i => Host.gather gather_S4x16384x3_S4x1024x32x2_S4x1024x32x3_3_01_n_n_01_3_113 x i), unary main_v6 main_v38 (broadcastInDim S4x1024x1x3 ![0, 1, 3] bcast_S4x1024x3_S4x1024x1x3_0_1_3),
    unary main_v38 main_v39 (broadcastInDim S4x1024x32x3 ![0, 1, 2, 3] bcast_S4x1024x1x3_S4x1024x32x3_0_1_2_3), binary main_v37 main_v39 main_v40 fsub ]
abbrev P2w : List (Ref sig .tc) := [main_v21, main_v22, main_c_6, main_v23, main_v24, main_c_7, main_v25, main_v26, main_v27, main_c_8, main_v28, main_v29, main_c_9, main_v30, main_v31, main_v32, main_v33, main_v34, main_v35, main_v36, main_v37, main_v38, main_v39, main_v40]
theorem P2_w : Wr P2 P2w := forall_writes_sub_of_map rfl

/-- The first convolution. -/
abbrev P3 : Ops :=
  [ unary main_v40 main_v41 (transpose S4x3x1024x32 [0, 3, 1, 2] · transposes_S4x1024x32x3_S4x3x1024x32_0_3_1_2), binary main_v41 main_arg1 main_v42 (fun l r => fdot dot_S4x3x1024x32_S64x3_S4x1024x32x64_1_1_023_0_n_n l r),
    unary main_v42 main_v43 (transpose S4x64x1024x32 [0, 3, 1, 2] · transposes_S4x1024x32x64_S4x64x1024x32_0_3_1_2), unary main_arg2 main_v44 (broadcastInDim S1x64x1x1 ![1] bcast_S64_S1x64x1x1_1),
    unary main_v44 main_v45 (broadcastInDim S4x64x1024x32 ![0, 1, 2, 3] bcast_S1x64x1x1_S4x64x1024x32_0_1_2_3), binary main_v43 main_v45 main_v46 fadd ]
abbrev P3w : List (Ref sig .tc) := [main_v41, main_v42, main_v43, main_v44, main_v45, main_v46]
theorem P3_w : Wr P3 P3w := forall_writes_sub_of_map rfl

/-- Its normalization. -/
abbrev P4 : Ops :=
  [ nullary main_cst_10 (fcst 0x00000000#32), binary main_v46 main_cst_10 main_v47 (fun x v => fsum x v reducesTo_S4x64x1024x32_S64_d0_2_3 h_S_),
    unary main_v47 main_v48 (broadcastInDim S1x64x1x1 ![1] bcast_S64_S1x64x1x1_1), nullary main_cst_11 (fcst 0x48000000#32), unary main_cst_11 main_v49 (broadcastInDim S1x64x1x1 ![] bcast_S_S1x64x1x1),
    binary main_v48 main_v49 main_v50 fdiv, nullary main_c_12 (constantI S_ 32 0#32), nullary main_call3_cst (fcst 0x00000000#32),
    binary main_v46 main_call3_cst main_call3_v0 (fun x v => fsum x v reducesTo_S4x64x1024x32_S64_d0_2_3 h_S_), unary main_call3_v0 main_call3_v1 (broadcastInDim S1x64x1x1 ![1] bcast_S64_S1x64x1x1_1),
    nullary main_call3_cst_0 (fcst 0x48000000#32), unary main_call3_cst_0 main_call3_v2 (broadcastInDim S1x64x1x1 ![] bcast_S_S1x64x1x1), binary main_call3_v1 main_call3_v2 main_call3_v3 fdiv,
    unary main_call3_v3 main_call3_v4 (broadcastInDim S4x64x1024x32 ![0, 1, 2, 3] bcast_S1x64x1x1_S4x64x1024x32_0_1_2_3), binary main_v46 main_call3_v4 main_call3_v5 fsub, binary main_call3_v5 main_call3_v5 main_call3_v6 fmul,
    unary main_c_12 main_call3_v7 (sitofp (F := Ideal) .f32), nullary main_call3_cst_1 (fcst 0x48000000#32), binary main_call3_cst_1 main_call3_v7 main_call3_v8 fsub, nullary main_call3_cst_2 (fcst 0x00000000#32),
    binary main_call3_v6 main_call3_cst_2 main_call3_v9 (fun x v => fsum x v reducesTo_S4x64x1024x32_S64_d0_2_3 h_S_), unary main_call3_v9 main_call3_v10 (broadcastInDim S1x64x1x1 ![1] bcast_S64_S1x64x1x1_1),
    unary main_call3_v8 main_call3_v11 (broadcastInDim S1x64x1x1 ![] bcast_S_S1x64x1x1), binary main_call3_v10 main_call3_v11 main_call3_v12 fdiv, nullary main_call3_cst_3 (fcst 0x00000000#32),
    binary main_call3_v8 main_call3_cst_3 main_call3_v13 (cmpf (F := Ideal) (φ := .f32) .ogt), nullary main_call3_cst_4 (fcst 0x7FC00000#32), unary main_call3_cst_4 main_call3_call0_v0 id,
    unary main_call3_call0_v0 main_call3_call0_v1 (broadcastInDim S1x64x1x1 ![] bcast_S_S1x64x1x1),
    ternary main_call3_v13 main_call3_v12 main_call3_call0_v1 main_v51 (fun p a b => select (broadcastInDim S1x64x1x1 ![] bcast_S_S1x64x1x1 p) a b),
    unary main_v50 main_v52 (broadcastInDim S4x64x1024x32 ![0, 1, 2, 3] bcast_S1x64x1x1_S4x64x1024x32_0_1_2_3), binary main_v46 main_v52 main_v53 fsub, nullary main_cst_13 (fcst 0x3727C5AC#32),
    unary main_cst_13 main_v54 (broadcastInDim S1x64x1x1 ![] bcast_S_S1x64x1x1), binary main_v51 main_v54 main_v55 fadd, unary main_v55 main_v56 fsqrt,
    unary main_v56 main_v57 (broadcastInDim S4x64x1024x32 ![0, 1, 2, 3] bcast_S1x64x1x1_S4x64x1024x32_0_1_2_3), binary main_v53 main_v57 main_v58 fdiv, unary main_arg3 main_v59 (broadcastInDim S1x64x1x1 ![1] bcast_S64_S1x64x1x1_1),
    unary main_v59 main_v60 (broadcastInDim S4x64x1024x32 ![0, 1, 2, 3] bcast_S1x64x1x1_S4x64x1024x32_0_1_2_3), binary main_v60 main_v58 main_v61 fmul, unary main_arg4 main_v62 (broadcastInDim S1x64x1x1 ![1] bcast_S64_S1x64x1x1_1),
    unary main_v62 main_v63 (broadcastInDim S4x64x1024x32 ![0, 1, 2, 3] bcast_S1x64x1x1_S4x64x1024x32_0_1_2_3), binary main_v61 main_v63 main_v64 fadd, nullary main_call4_cst (fcst 0x00000000#32),
    unary main_call4_cst main_call4_v0 (broadcastInDim S4x64x1024x32 ![] bcast_S_S4x64x1024x32), binary main_v64 main_call4_v0 main_v65 fmax ]
abbrev P4w : List (Ref sig .tc) := [main_cst_10, main_v47, main_v48, main_cst_11, main_v49, main_v50, main_c_12, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v51, main_v52, main_v53, main_cst_13, main_v54, main_v55, main_v56, main_v57, main_v58, main_v59, main_v60, main_v61, main_v62, main_v63, main_v64, main_call4_cst, main_call4_v0, main_v65]
theorem P4_w : Wr P4 P4w := forall_writes_sub_of_map rfl

/-- The second convolution. -/
abbrev P5 : Ops :=
  [ binary main_v65 main_arg5 main_v66 (fun l r => fdot dot_S4x64x1024x32_S128x64_S4x1024x32x128_1_1_023_0_n_n l r),
    unary main_v66 main_v67 (transpose S4x128x1024x32 [0, 3, 1, 2] · transposes_S4x1024x32x128_S4x128x1024x32_0_3_1_2), unary main_arg6 main_v68 (broadcastInDim S1x128x1x1 ![1] bcast_S128_S1x128x1x1_1),
    unary main_v68 main_v69 (broadcastInDim S4x128x1024x32 ![0, 1, 2, 3] bcast_S1x128x1x1_S4x128x1024x32_0_1_2_3), binary main_v67 main_v69 main_v70 fadd ]
abbrev P5w : List (Ref sig .tc) := [main_v66, main_v67, main_v68, main_v69, main_v70]
theorem P5_w : Wr P5 P5w := forall_writes_sub_of_map rfl

/-- Its normalization. -/
abbrev P6 : Ops :=
  [ nullary main_cst_14 (fcst 0x00000000#32), binary main_v70 main_cst_14 main_v71 (fun x v => fsum x v reducesTo_S4x128x1024x32_S128_d0_2_3 h_S_),
    unary main_v71 main_v72 (broadcastInDim S1x128x1x1 ![1] bcast_S128_S1x128x1x1_1), nullary main_cst_15 (fcst 0x48000000#32), unary main_cst_15 main_v73 (broadcastInDim S1x128x1x1 ![] bcast_S_S1x128x1x1),
    binary main_v72 main_v73 main_v74 fdiv, nullary main_c_16 (constantI S_ 32 0#32), nullary main_call5_cst (fcst 0x00000000#32),
    binary main_v70 main_call5_cst main_call5_v0 (fun x v => fsum x v reducesTo_S4x128x1024x32_S128_d0_2_3 h_S_), unary main_call5_v0 main_call5_v1 (broadcastInDim S1x128x1x1 ![1] bcast_S128_S1x128x1x1_1),
    nullary main_call5_cst_0 (fcst 0x48000000#32), unary main_call5_cst_0 main_call5_v2 (broadcastInDim S1x128x1x1 ![] bcast_S_S1x128x1x1), binary main_call5_v1 main_call5_v2 main_call5_v3 fdiv,
    unary main_call5_v3 main_call5_v4 (broadcastInDim S4x128x1024x32 ![0, 1, 2, 3] bcast_S1x128x1x1_S4x128x1024x32_0_1_2_3), binary main_v70 main_call5_v4 main_call5_v5 fsub, binary main_call5_v5 main_call5_v5 main_call5_v6 fmul,
    unary main_c_16 main_call5_v7 (sitofp (F := Ideal) .f32), nullary main_call5_cst_1 (fcst 0x48000000#32), binary main_call5_cst_1 main_call5_v7 main_call5_v8 fsub, nullary main_call5_cst_2 (fcst 0x00000000#32),
    binary main_call5_v6 main_call5_cst_2 main_call5_v9 (fun x v => fsum x v reducesTo_S4x128x1024x32_S128_d0_2_3 h_S_), unary main_call5_v9 main_call5_v10 (broadcastInDim S1x128x1x1 ![1] bcast_S128_S1x128x1x1_1),
    unary main_call5_v8 main_call5_v11 (broadcastInDim S1x128x1x1 ![] bcast_S_S1x128x1x1), binary main_call5_v10 main_call5_v11 main_call5_v12 fdiv, nullary main_call5_cst_3 (fcst 0x00000000#32),
    binary main_call5_v8 main_call5_cst_3 main_call5_v13 (cmpf (F := Ideal) (φ := .f32) .ogt), nullary main_call5_cst_4 (fcst 0x7FC00000#32), unary main_call5_cst_4 main_call5_call0_v0 id,
    unary main_call5_call0_v0 main_call5_call0_v1 (broadcastInDim S1x128x1x1 ![] bcast_S_S1x128x1x1),
    ternary main_call5_v13 main_call5_v12 main_call5_call0_v1 main_v75 (fun p a b => select (broadcastInDim S1x128x1x1 ![] bcast_S_S1x128x1x1 p) a b),
    unary main_v74 main_v76 (broadcastInDim S4x128x1024x32 ![0, 1, 2, 3] bcast_S1x128x1x1_S4x128x1024x32_0_1_2_3), binary main_v70 main_v76 main_v77 fsub, nullary main_cst_17 (fcst 0x3727C5AC#32),
    unary main_cst_17 main_v78 (broadcastInDim S1x128x1x1 ![] bcast_S_S1x128x1x1), binary main_v75 main_v78 main_v79 fadd, unary main_v79 main_v80 fsqrt,
    unary main_v80 main_v81 (broadcastInDim S4x128x1024x32 ![0, 1, 2, 3] bcast_S1x128x1x1_S4x128x1024x32_0_1_2_3), binary main_v77 main_v81 main_v82 fdiv,
    unary main_arg7 main_v83 (broadcastInDim S1x128x1x1 ![1] bcast_S128_S1x128x1x1_1), unary main_v83 main_v84 (broadcastInDim S4x128x1024x32 ![0, 1, 2, 3] bcast_S1x128x1x1_S4x128x1024x32_0_1_2_3), binary main_v84 main_v82 main_v85 fmul,
    unary main_arg8 main_v86 (broadcastInDim S1x128x1x1 ![1] bcast_S128_S1x128x1x1_1), unary main_v86 main_v87 (broadcastInDim S4x128x1024x32 ![0, 1, 2, 3] bcast_S1x128x1x1_S4x128x1024x32_0_1_2_3), binary main_v85 main_v87 main_v88 fadd,
    nullary main_call6_cst (fcst 0x00000000#32), unary main_call6_cst main_call6_v0 (broadcastInDim S4x128x1024x32 ![] bcast_S_S4x128x1024x32), binary main_v88 main_call6_v0 main_v89 fmax ]
abbrev P6w : List (Ref sig .tc) := [main_cst_14, main_v71, main_v72, main_cst_15, main_v73, main_v74, main_c_16, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v75, main_v76, main_v77, main_cst_17, main_v78, main_v79, main_v80, main_v81, main_v82, main_v83, main_v84, main_v85, main_v86, main_v87, main_v88, main_call6_cst, main_call6_v0, main_v89]
theorem P6_w : Wr P6 P6w := forall_writes_sub_of_map rfl

/-- The last convolution, the largest over the neighbours, and the sampled points by coordinates. -/
abbrev P7 : Ops :=
  [ binary main_v89 main_arg9 main_v90 (fun l r => fdot dot_S4x128x1024x32_S256x128_S4x1024x32x256_1_1_023_0_n_n l r),
    unary main_v90 main_v91 (transpose S4x256x1024x32 [0, 3, 1, 2] · transposes_S4x1024x32x256_S4x256x1024x32_0_3_1_2), unary main_arg10 main_v92 (broadcastInDim S1x256x1x1 ![1] bcast_S256_S1x256x1x1_1),
    unary main_v92 main_v93 (broadcastInDim S4x256x1024x32 ![0, 1, 2, 3] bcast_S1x256x1x1_S4x256x1024x32_0_1_2_3), binary main_v91 main_v93 main_v94 fadd, nullary main_cst_18 (fcst 0xFF800000#32),
    binary main_v94 main_cst_18 main_v95 (fun x v => Host.reduce (FloatOps.maximumf (F := Ideal) (φ := .f32)) x v reducesTo_S4x256x1024x32_S4x256x1024_d3 h_S_), unary main_v6 main_v96 (transpose S4x3x1024 [0, 2, 1] · transposes_S4x1024x3_S4x3x1024_0_2_1) ]
abbrev P7w : List (Ref sig .tc) := [main_v90, main_v91, main_v92, main_v93, main_v94, main_cst_18, main_v95, main_v96]
theorem P7_w : Wr P7 P7w := forall_writes_sub_of_map rfl

/-- The condition's operations: the bound, and the counter compared with it. -/
abbrev C0 : Ops := [ nullary main_while0c_c_24 (constantI S_ 32 1024#32), binary main_v4_1 main_while0c_c_24 main_while0c_v97 (cmpi .slt) ]
abbrev C0w : List (Ref sig .tc) := [main_while0c_c_24, main_while0c_v97]
theorem C0_w : Wr C0 C0w := forall_writes_sub_of_map rfl

abbrev preI : List Ops := [A0]
abbrev bodyI : List Ops := [B0, B1, B2, B3, B4]
abbrev postI : List Ops := [P0, P1, P2, P3, P4, P5, P6, P7]

abbrev HProg := Prog (TpuEff nD τ sig (Elt Ideal) (HostLoop.Sig (Pipeline.Sig Λ₀ (Fin 0) fun p => (pcfgs (F := Ideal) p).Adm) 1) .tc) PUnit

set_option maxRecDepth 100000 in
/-- The program is the chain of its stretches and its loop. -/
theorem main_chain (c : Dev nD) : main (F := Ideal) c
    = (Pipeline.chain [seq A0, HostLoop.enter 0, seq P0, seq P1, seq P2, seq P3, seq P4, seq P5, seq P6, seq P7] : HProg) := by
  rewrite [chain_seq_cons, Pipeline.chain_cons, chain_seq_cons, chain_seq_cons, chain_seq_cons, chain_seq_cons, chain_seq_cons, chain_seq_cons, chain_seq_cons, chain_seq_cons]
  chain_rfl

set_option maxRecDepth 100000 in
/-- A trip is the chain of its stretches. -/
theorem body_chain : main_while0_body (F := Ideal) = (Pipeline.chain [seq B0, seq B1, seq B2, seq B3, seq B4] : HProg) := by
  rewrite [chain_seq_cons, chain_seq_cons, chain_seq_cons, chain_seq_cons, chain_seq_cons]
  chain_rfl

/-- The operations read and write the TensorCore's references. -/
abbrev Tc (l : Ops) : Prop := l.Forall fun op => op.bufs ⊆ tcRefs τ sig

theorem hpre : Plain preI := .cons (show Tc A0 by simp only [List.Forall, nullary_bufs_sub, unary_bufs_sub, and_self]) .nil
theorem hbodyI : Plain bodyI :=
  .cons (show Tc B0 by simp only [List.Forall, nullary_bufs_sub, unary_bufs_sub, binary_bufs_sub, ternary_bufs_sub, and_self]) <|
  .cons (show Tc B1 by simp only [List.Forall, nullary_bufs_sub, unary_bufs_sub, binary_bufs_sub, ternary_bufs_sub, and_self]) <|
  .cons (show Tc B2 by simp only [List.Forall, nullary_bufs_sub, unary_bufs_sub, binary_bufs_sub, and_self]) <|
  .cons (show Tc B3 by simp only [List.Forall, nullary_bufs_sub, quaternary_bufs_sub, and_self]) <|
  .cons (show Tc B4 by simp only [List.Forall, nullary_bufs_sub, unary_bufs_sub, binary_bufs_sub, and_self]) .nil
theorem hpost : Plain postI :=
  .cons (show Tc P0 by simp only [List.Forall, nullary_bufs_sub, unary_bufs_sub, binary_bufs_sub, ternary_bufs_sub, and_self]) <|
  .cons (show Tc P1 by simp only [List.Forall, nullary_bufs_sub, unary_bufs_sub, binary_bufs_sub, and_self]) <|
  .cons (show Tc P2 by simp only [List.Forall, nullary_bufs_sub, unary_bufs_sub, binary_bufs_sub, ternary_bufs_sub, and_self]) <|
  .cons (show Tc P3 by simp only [List.Forall, unary_bufs_sub, binary_bufs_sub, and_self]) <|
  .cons (show Tc P4 by simp only [List.Forall, nullary_bufs_sub, unary_bufs_sub, binary_bufs_sub, ternary_bufs_sub, and_self]) <|
  .cons (show Tc P5 by simp only [List.Forall, unary_bufs_sub, binary_bufs_sub, and_self]) <|
  .cons (show Tc P6 by simp only [List.Forall, nullary_bufs_sub, unary_bufs_sub, binary_bufs_sub, ternary_bufs_sub, and_self]) <|
  .cons (show Tc P7 by simp only [List.Forall, nullary_bufs_sub, unary_bufs_sub, binary_bufs_sub, and_self]) .nil

/-! ## The loop -/

open Idealize.ShloMosaic.Tactic Idealize.SL.BI.Laws Idealize.SL.ProofMode
open Idealize.ShloMosaic.Pipeline (ucRefs sub_ucRefs)

variable (m : (ℓ : Loc nD τ sig) → Buf (Elt Ideal) ℓ) (ρ : Dev nD → PrngReg)

/-- Every buffer's contents before the `k`-th run of the condition, counted from 0. -/
abbrev atK (k : ℕ) (c : Dev nD) : Val := atTrip C0 bodyI (entryContents preI m) k c

/-- A reference that a list does not write keeps its contents. -/
theorem kp {l : Ops} {w : List (Ref sig .tc)} (h : Wr l w) (V : Val) (r : Ref sig .tc) (hr : r ∉ w) :
    after l V (Proc.devRef .tc r) = V (Proc.devRef .tc r) := after_of_writes_sub l V h hr

theorem trip_keep (V : Val) (r : Ref sig .tc) (h0 : r ∉ B0w) (h1 : r ∉ B1w) (h2 : r ∉ B2w) (h3 : r ∉ B3w) (h4 : r ∉ B4w) :
    afterL bodyI V (Proc.devRef .tc r) = V (Proc.devRef .tc r) :=
  (kp B4_w _ r h4).trans <| (kp B3_w _ r h3).trans <| (kp B2_w _ r h2).trans <| (kp B1_w _ r h1).trans (kp B0_w V r h0)

set_option maxRecDepth 100000 in
theorem ctr_step (Y : Val) : after B4 Y (Proc.devRef .tc main_v4_1) = addi (Y (Proc.devRef .tc main_v4_1)) (constantI S_ 32 1#32) := by
  after_results
  rfl

theorem ctr_entry (c : Dev nD) : entryContents preI m c (Proc.devRef .tc main_v4_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = afterL bodyI (after C0 (atK m k c)) from rfl]
    simp only [afterL_cons, afterL_nil]
    rw [ctr_step, kp B3_w _ _ (by decide), kp B2_w _ _ (by decide), kp B1_w _ _ (by decide), kp B0_w _ _ (by decide), kp C0_w _ _ (by decide), atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := Ideal)) defs₀ loops (main_while0_cond (F := Ideal)) C0 bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_24 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- Every weakly fair execution terminates with every unscoped TensorCore buffer at the fold. -/
theorem run_fold : θ_run (defs (F := Ideal)) (onTc (τ := τ) (main (F := Ideal))) ⟨m, fun _ => 0, ρ⟩
    (fun r => ∀ (c : Dev nD) (b : Ref sig .tc), (Proc.devRef .tc b : DevRef τ sig).isScoped = false →
      r.2.mem ((c.tc : Thread nD τ).loc b) = finalContents C0 preI bodyI postI 1024 m c (Proc.devRef .tc b)) :=
  run_loop (pcfgs (F := Ideal)) defs₀ loops main 0 main_while0_cond main_while0_body rfl preI bodyI postI C0 hpre hbodyI hpost
    (fun c => by rw [main_chain]; rfl) (by rw [body_chain]; rfl) 1024 m ρ (cond_spec m)

/-! ## The trips are the sampling program's -/

/-- The two programs' carried buffers agree. -/
structure Same (V : Val) (U : Valuation Cert.SamplingReferenceIdeal.τ Cert.SamplingReferenceIdeal.sig (Elt Ideal)) : Prop where
  rows : (V (Proc.devRef .tc main_v4_0) : S4x16384x3.Idx → EReal) = SampleRef.rowsOf U
  slot : (V (Proc.devRef .tc main_v4_2) : S_.Idx → BitVec 32) = SampleRef.slotOf U
  dist : (V (Proc.devRef .tc main_v4_3) : S4x16384.Idx → EReal) = SampleRef.distOf U
  table : (V (Proc.devRef .tc main_v4_4) : S4x1024.Idx → BitVec 32) = SampleRef.tableOf U
  cent : (V (Proc.devRef .tc main_v4_5) : S4.Idx → BitVec 32) = SampleRef.centOf U

section Trip

variable {V : Val} {U : Valuation Cert.SamplingReferenceIdeal.τ Cert.SamplingReferenceIdeal.sig (Elt Ideal)}

set_option maxRecDepth 8192 in
set_option maxHeartbeats 2000000 in
theorem b0_slot (h : Same V U) : (after B0 V (Proc.devRef .tc main_while0b_v97) : S_.Idx → BitVec 32) = addi (SampleRef.slotOf U) (constantI S_ 32 1#32) := by
  rw [← h.slot]
  simp only [B0]
  after_results_entrywise [cast_eq]

set_option maxRecDepth 8192 in
set_option maxHeartbeats 2000000 in
theorem b0_table (h : Same V U) : (after B0 V (Proc.devRef .tc main_while0b_v103) : S4x1024.Idx → BitVec 32) = SampleRun.res_main_while0b_v14 U := by
  simp only [SampleRun.res_main_while0b_v14, ← h.slot, ← h.table, ← h.cent, B0]
  after_results_entrywise [cast_eq]

set_option maxRecDepth 8192 in
set_option maxHeartbeats 2000000 in
theorem b0_col (h : Same V U) : (after B0 V (Proc.devRef .tc main_while0b_v104) : S4x1x1.Idx → BitVec 32) = SampleRun.res_main_while0b_v15 U := by
  simp only [SampleRun.res_main_while0b_v15, ← h.cent, B0]
  after_results_entrywise [cast_eq]

set_option maxRecDepth 65536 in
set_option maxHeartbeats 4000000 in
theorem b1_cent (h0 : (V (Proc.devRef .tc main_v4_0) : S4x16384x3.Idx → EReal) = SampleRef.rowsOf U)
    (h : (V (Proc.devRef .tc main_while0b_v104) : S4x1x1.Idx → BitVec 32) = SampleRun.res_main_while0b_v15 U) :
    (after B1 V (Proc.devRef .tc main_while0b_v105) : S4x1x3.Idx → EReal) = SampleRun.res_main_while0b_v16 U := by
  simp only [SampleRun.res_main_while0b_v16, SampleRun.res_main_while0b_call0_v4, ← h, ← h0, B1]
  after_results_entrywise [cast_eq]

set_option maxRecDepth 8192 in
set_option maxHeartbeats 2000000 in
theorem b2_dist (h0 : (V (Proc.devRef .tc main_v4_0) : S4x16384x3.Idx → EReal) = SampleRef.rowsOf U)
    (h3 : (V (Proc.devRef .tc main_v4_3) : S4x16384.Idx → EReal) = SampleRef.distOf U)
    (h : (V (Proc.devRef .tc main_while0b_v105) : S4x1x3.Idx → EReal) = SampleRun.res_main_while0b_v16 U) :
    (after B2 V (Proc.devRef .tc main_while0b_v110) : S4x16384.Idx → EReal) = SampleRun.res_main_while0b_v21 U := by
  simp only [SampleRun.res_main_while0b_v21, SampleRun.res_main_while0b_v18, ← h, ← h0, ← h3, B2]
  after_results_entrywise [cast_eq]

set_option maxRecDepth 8192 in
set_option maxHeartbeats 2000000 in
theorem b3_cent (h : (V (Proc.devRef .tc main_while0b_v110) : S4x16384.Idx → EReal) = SampleRun.res_main_while0b_v21 U) :
    (after B3 V (Proc.devRef .tc main_while0b_v111) : S4.Idx → BitVec 32) = SampleRun.res_main_while0b_v22 U := by
  unfold SampleRun.res_main_while0b_v22
  rw [← h]
  simp only [B3]
  after_results
  rfl

theorem last_slot (Y : Val) : after B4 Y (Proc.devRef .tc main_v4_2) = Y (Proc.devRef .tc main_while0b_v97) := by
  after_results
  rfl

theorem last_dist (Y : Val) : after B4 Y (Proc.devRef .tc main_v4_3) = Y (Proc.devRef .tc main_while0b_v110) := by
  after_results
  rfl

theorem last_table (Y : Val) : after B4 Y (Proc.devRef .tc main_v4_4) = Y (Proc.devRef .tc main_while0b_v103) := by
  after_results
  rfl

theorem last_cent (Y : Val) : after B4 Y (Proc.devRef .tc main_v4_5) = Y (Proc.devRef .tc main_while0b_v111) := by
  after_results
  rfl

theorem same_trip (h : Same V U) : Same (afterL bodyI V) (afterL SampleRun.bodyI U) := by
  have d0 : ∀ r, r ∉ B0w → r ∉ B1w → after B1 (after B0 V) (Proc.devRef .tc r) = V (Proc.devRef .tc r) := fun r h0 h1 => (kp B1_w _ r h1).trans (kp B0_w V r h0)
  have e2 := b2_dist (V := after B1 (after B0 V)) (U := U) ((d0 _ (by decide) (by decide)).trans h.rows) ((d0 _ (by decide) (by decide)).trans h.dist)
    (b1_cent ((kp B0_w V _ (by decide)).trans h.rows) (b0_col h))
  have e3 := b3_cent e2
  have k1 : ∀ r, r ∉ B1w → r ∉ B2w → r ∉ B3w → after B3 (after B2 (after B1 (after B0 V))) (Proc.devRef .tc r) = after B0 V (Proc.devRef .tc r) :=
    fun r h1 h2 h3 => (kp B3_w _ r h3).trans ((kp B2_w _ r h2).trans (kp B1_w _ r h1))
  refine ⟨?_, ?_, ?_, ?_, ?_⟩
  · refine (trip_keep V main_v4_0 (by decide) (by decide) (by decide) (by decide) (by decide)).trans (h.rows.trans ?_)
    exact (SampleRun.trip_keep U Cert.SamplingReferenceIdeal.main_v4_0 (by decide) (by decide) (by decide) (by decide) (by decide)).symm
  · exact (last_slot _).trans ((k1 _ (by decide) (by decide) (by decide)).trans ((b0_slot h).trans (SampleRun.trip_main_v4_2 U).symm))
  · exact (last_dist _).trans ((kp B3_w _ _ (by decide)).trans (e2.trans (SampleRun.trip_main_v4_3 U).symm))
  · exact (last_table _).trans ((k1 _ (by decide) (by decide) (by decide)).trans ((b0_table h).trans (SampleRun.trip_main_v4_4 U).symm))
  · exact (last_cent _).trans (e3.trans (SampleRun.trip_main_v4_5 U).symm)

theorem same_cond (h : Same V U) : Same (after C0 V) (after SampleRun.condOps U) where
  rows := (kp C0_w V _ (by decide)).trans (h.rows.trans (SampleRun.cond_keep U _ (by decide)).symm)
  slot := (kp C0_w V _ (by decide)).trans (h.slot.trans (SampleRun.cond_keep U _ (by decide)).symm)
  dist := (kp C0_w V _ (by decide)).trans (h.dist.trans (SampleRun.cond_keep U _ (by decide)).symm)
  table := (kp C0_w V _ (by decide)).trans (h.table.trans (SampleRun.cond_keep U _ (by decide)).symm)
  cent := (kp C0_w V _ (by decide)).trans (h.cent.trans (SampleRun.cond_keep U _ (by decide)).symm)

end Trip

/-- The points. -/
abbrev argX (c : Dev nD) : S4x3x16384.Idx → EReal := m ((c.tc : Thread nD τ).loc main_arg0)

theorem elt_nonempty (e : EltTy) : Nonempty (Elt Ideal e) := by
  cases e <;> exact ⟨(0 : _)⟩

/-- A memory of the sampling program with the same points. -/
def mem (c : Dev nD) : (ℓ : Loc Cert.SamplingReferenceIdeal.nD Cert.SamplingReferenceIdeal.τ Cert.SamplingReferenceIdeal.sig) → Buf (Elt Ideal) ℓ :=
  Function.update (fun _ _ => (elt_nonempty _).some)
    ((c.tc : Thread Cert.SamplingReferenceIdeal.nD Cert.SamplingReferenceIdeal.τ).loc Cert.SamplingReferenceIdeal.main_arg0) (argX m c)

theorem mem_arg (c : Dev nD) : SampleRef.argX (mem m c) c = argX m c := by
  unfold SampleRef.argX mem
  exact Function.update_self ..

theorem entry_v0 (c : Dev nD) : (entryContents preI m c (Proc.devRef .tc main_v0) : S4x16384x3.Idx → EReal)
    = transpose S4x16384x3 [0, 2, 1] (argX m c) transposes_S4x3x16384_S4x16384x3_0_2_1 := by
  simp only [entryContents, afterL_cons, afterL_nil]
  after_reads_simp

theorem same_entry (c : Dev nD) : Same (entryContents preI m c) (entryContents SampleRun.preI (mem m c) c) := by
  refine ⟨Eq.trans ?_ (SampleRun.entry_main_v4_0 (mem m c) c).symm, Eq.trans ?_ (SampleRun.entry_main_v4_2 (mem m c) c).symm, Eq.trans ?_ (SampleRun.entry_main_v4_3 (mem m c) c).symm,
    Eq.trans ?_ (SampleRun.entry_main_v4_4 (mem m c) c).symm, Eq.trans ?_ (SampleRun.entry_main_v4_5 (mem m c) c).symm⟩
  · refine Eq.trans ?_ (congrArg (fun X => transpose S4x16384x3 [0, 2, 1] X transposes_S4x3x16384_S4x16384x3_0_2_1) (mem_arg m c)).symm
    simp only [entryContents, afterL_cons, afterL_nil]
    after_reads_simp
    rfl
  all_goals
    simp only [entryContents, afterL_cons, afterL_nil]
    after_reads_simp
    rfl

theorem same_at (c : Dev nD) : ∀ k, Same (atK m k c) (SampleRun.atK (mem m c) k c)
  | 0 => same_entry m c
  | k + 1 => same_trip (same_cond (same_at c k))

/-- The table at the loop's end: the sampled points. -/
theorem table_end (c : Dev nD) (b : Fin 4) (t : Fin 1024) : (after C0 (atK m 1024 c) (Proc.devRef .tc main_v4_4) : S4x1024.Idx → BitVec 32) (ix2 b t)
    = BitVec.ofNat 32 (SampleSpec.sampled (fun n k => argX m c (ix3 b k n)) t.val).2.val := by
  refine (congrFun (same_cond (same_at m c 1024)).table (ix2 b t)).trans ?_
  refine ((SampleRef.inv_cond (SampleRef.inv_at (mem m c) c 1024 le_rfl)).table b t t.isLt).trans ?_
  rw [mem_arg]

/-- A buffer that neither the condition nor a trip writes. -/
theorem keep_at (c : Dev nD) (r : Ref sig .tc) (hc : r ∉ C0w) (h0 : r ∉ B0w) (h1 : r ∉ B1w) (h2 : r ∉ B2w) (h3 : r ∉ B3w) (h4 : r ∉ B4w) :
    ∀ k, after C0 (atK m k c) (Proc.devRef .tc r) = entryContents preI m c (Proc.devRef .tc r)
  | 0 => kp C0_w _ r hc
  | k + 1 => (kp C0_w _ r hc).trans ((trip_keep _ r h0 h1 h2 h3 h4).trans (keep_at c r hc h0 h1 h2 h3 h4 k))

end Cert.Proof.WholeRefRun

end
-- ==== Proof.WholeRefNear.lean ====
/-
  The plain program of the whole, after its loop: the sampled points, the nearest points' indices and the offsets of the
  nearest points from the sampled ones.
-/
module

public import proofs.«01_k».proof.Proof.WholeRefRun
public import proofs.«01_k».proof.Proof.WholeRun
public import proofs.«01_k».proof.Proof.NearRef
public import Idealize.ShloMosaic.Lib.Pipeline.Value

@[expose] public section

noncomputable section

namespace Cert.Proof.WholeRefRun

open Cert.WholeReferenceIdeal Cert.WholeReferenceIdeal.Gen
open Idealize.ShloMosaic Idealize.ShloMosaic.TcCoe Idealize.SL.Sem
open Idealize.ShloMosaic.StableHlo
open Cert.Proof.Whole (smpl nbrs offs)
open Cert.Proof.LayerMath (pt)

/-- The points by point and coordinate. -/
abbrev rowsOf (X : S4x3x16384.Idx → EReal) : S4x16384x3.Idx → EReal := transpose S4x16384x3 [0, 2, 1] X transposes_S4x3x16384_S4x16384x3_0_2_1

theorem eta3 {a b c : ℕ} (i : (⟨3, ![a, b, c]⟩ : Shape).Idx) : i = ix3 (n0 := a) (n1 := b) (n2 := c) (i 0) (i 1) (i 2) := Whole.ix3_eta i

/-! ## The sampled points -/

set_option maxRecDepth 8192 in
set_option maxHeartbeats 2000000 in
theorem p0_v6 (V : Val) : (transpose S4x3x1024 [0, 2, 1] (after P0 V (Proc.devRef .tc main_v6) : S4x1024x3.Idx → EReal) transposes_S4x1024x3_S4x3x1024_0_2_1)
    = (SampleRun.res_main_v7 (F := Ideal) (V (Proc.devRef .tc main_v0)) (V (Proc.devRef .tc main_v4_4)) : S4x3x1024.Idx → EReal) := by
  unfold SampleRun.res_main_v7 SampleRun.res_main_call2_v4
  simp only [P0]
  after_results
  rfl

/-- The rows that the table names are the sampled points. -/
theorem v6_eq (V : Val) (X : S4x3x16384.Idx → EReal) (hX : (V (Proc.devRef .tc main_v0) : S4x16384x3.Idx → EReal) = rowsOf X)
    (hT : ∀ b t, (V (Proc.devRef .tc main_v4_4) : S4x1024.Idx → BitVec 32) (ix2 b t) = BitVec.ofNat 32 (SampleSpec.sampled (fun n k => X (ix3 b k n)) t.val).2.val) :
    (after P0 V (Proc.devRef .tc main_v6) : S4x1024x3.Idx → EReal) = smpl X := by
  funext i
  obtain ⟨b, t, k, rfl⟩ : ∃ b t k, i = (ix3 b t k : S4x1024x3.Idx) := ⟨i 0, i 1, i 2, eta3 i⟩
  have e := congrFun (p0_v6 V) (ix3 b k t)
  rw [transpose_apply _ _ _ (ix3 b k t) (ix3 b t k) fun a => by match a with | ⟨0, _⟩ => rfl | ⟨1, _⟩ => rfl | ⟨2, _⟩ => rfl] at e
  refine e.trans ((SampleRef.lookup_apply _ _ (fun b t => (SampleSpec.sampled (fun n k => X (ix3 b k n)) t.val).2) hT b k t).trans ?_)
  rw [hX]
  exact SampleRef.rows_entry X _ _ _

/-! ## The nearest points -/

set_option maxRecDepth 8192 in
set_option maxHeartbeats 2000000 in
theorem p1_indices (V : Val) (X : S4x3x16384.Idx → EReal) (hX : (V (Proc.devRef .tc main_v0) : S4x16384x3.Idx → EReal) = rowsOf X) :
    (after P1 V (Proc.devRef .tc main_indices) : S4x1024x32.Idx → BitVec 32)
      = (Host.topK S4x1024x32 2 (FloatOps.cmpfTotal (F := Ideal) (φ := .f32) .gt) (Host.negf (NearRef.d2 (V (Proc.devRef .tc main_v6)) X)) sliceFits_S4x1024x16384_S4x1024x32).2 := by
  unfold NearRef.d2
  unfold rowsOf at hX
  rw [← hX]
  simp only [P1]
  after_results
  rfl

/-- Where every squared distance is below the value put in the place of a chosen one, the indices are the rounds'. -/
theorem indices_eq (V : Val) (X : S4x3x16384.Idx → EReal) (hX : (V (Proc.devRef .tc main_v0) : S4x16384x3.Idx → EReal) = rowsOf X)
    (hS : (V (Proc.devRef .tc main_v6) : S4x1024x3.Idx → EReal) = smpl X) (hb : ∀ b s n, NearRun.sqdist (smpl X) X b s n < NearPay.big) :
    (after P1 V (Proc.devRef .tc main_indices) : S4x1024x32.Idx → BitVec 32) = nbrs X := by
  rw [p1_indices V X hX, hS]
  funext i
  obtain ⟨b, s, j, rfl⟩ : ∃ b s j, i = (ix3 b s j : S4x1024x32.Idx) := ⟨i 0, i 1, i 2, eta3 i⟩
  exact NearRef.top_apply (NearRef.d2 (smpl X) X) b s (NearRun.sqdist (smpl X) X b s) (NearRef.d2_apply (smpl X) X b s) (hb b s) j

/-! ## Their offsets -/

abbrev dimsN := gather_S4x16384x3_S4x1024x32x2_S4x1024x32x3_3_01_n_n_01_3_113

theorem gatherN_apply {α : Type} (x : S4x16384x3.Idx → α) (idx : IVec S4x1024x32x2 32) (b : Fin 4) (s : Fin 1024) (j : Fin 32) (c : Fin 3) :
    Host.gather dimsN x idx (ix4 b s j c)
      = x (ix3 ⟨min (idx (ix4 b s j 0)).toInt.toNat 3, by omega⟩ ⟨min (idx (ix4 b s j 1)).toInt.toNat 16383, by omega⟩ c) := by
  unfold Host.gather
  congr 1
  funext a
  refine Fin.ext ?_
  show dimsN.start (ix4 b s j c) idx a + dimsN.batchCoord (ix4 b s j c) a + dimsN.offCoord (ix4 b s j c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  obtain rfl | rfl | rfl := ha
  · rw [GatherDims.offCoord_eq_zero _ _ _ (fun h => ((GatherDims.mem_sKept _ _).mp h).1 (by decide)), Nat.add_zero,
      GatherDims.batchCoord_eq_zero _ _ _ (by decide), Nat.add_zero]
    unfold GatherDims.start
    rw [dif_pos (by decide)]
    have hsi : dimsN.siIdx (ix4 b s j c) ⟨List.idxOf (0 : Fin 3) dimsN.startIndexMap, by decide⟩ = ix4 b s j 0 := by
      funext e; refine Fin.ext ?_
      match e with
      | ⟨0, _⟩ => rfl
      | ⟨1, _⟩ => rfl
      | ⟨2, _⟩ => rfl
      | ⟨3, _⟩ => rfl
    exact congrArg (fun i => min (idx i).toInt.toNat 3) hsi
  · rw [GatherDims.offCoord_eq_zero _ _ _ (fun h => ((GatherDims.mem_sKept _ _).mp h).1 (by decide)), Nat.add_zero,
      GatherDims.batchCoord_eq_zero _ _ _ (by decide), Nat.add_zero]
    unfold GatherDims.start
    rw [dif_pos (by decide)]
    have hsi : dimsN.siIdx (ix4 b s j c) ⟨List.idxOf (1 : Fin 3) dimsN.startIndexMap, by decide⟩ = ix4 b s j 1 := by
      funext e; refine Fin.ext ?_
      match e with
      | ⟨0, _⟩ => rfl
      | ⟨1, _⟩ => rfl
      | ⟨2, _⟩ => rfl
      | ⟨3, _⟩ => rfl
    exact congrArg (fun i => min (idx i).toInt.toNat 16383) hsi
  · rw [GatherDims.batchCoord_eq_zero _ _ _ (by decide), Nat.add_zero]
    unfold GatherDims.start
    rw [dif_neg (by decide), Nat.zero_add]
    unfold GatherDims.offCoord
    rw [dif_pos (by decide)]
    rfl

/-- The batches' numbers, and the indices, as columns. -/
def colB : IVec S4x1024x32x1 32 :=
  broadcastInDim S4x1024x32x1 ![0, 1, 2] bcast_S4x1024x32_S4x1024x32x1_0_1_2 (broadcastInDim S4x1024x32 ![0, 1, 2] bcast_S4x1x1_S4x1024x32_0_1_2
    (select (cmpi .slt (broadcastInDim S4x1x1 ![0] bcast_S4_S4x1x1_0 (iotaInDim S4 32 0)) (broadcastInDim S4x1x1 ![] bcast_S_S4x1x1 (constantI S_ 32 0#32)))
      (addi (broadcastInDim S4x1x1 ![0] bcast_S4_S4x1x1_0 (iotaInDim S4 32 0)) (broadcastInDim S4x1x1 ![] bcast_S_S4x1x1 (constantI S_ 32 4#32)))
      (broadcastInDim S4x1x1 ![0] bcast_S4_S4x1x1_0 (iotaInDim S4 32 0))))
def colI (I : IVec S4x1024x32 32) : IVec S4x1024x32x1 32 :=
  broadcastInDim S4x1024x32x1 ![0, 1, 2] bcast_S4x1024x32_S4x1024x32x1_0_1_2
    (select (cmpi .slt I (broadcastInDim S4x1024x32 ![] bcast_S_S4x1024x32 (constantI S_ 32 0#32))) (addi I (broadcastInDim S4x1024x32 ![] bcast_S_S4x1024x32 (constantI S_ 32 16384#32))) I)

/-- A batch's number and an index as the lookup's coordinates. -/
def pairs (I : IVec S4x1024x32 32) : IVec S4x1024x32x2 32 :=
  concatenate S4x1024x32x2 3 [⟨S4x1024x32x1, colB⟩, ⟨S4x1024x32x1, colI I⟩] concatenates_S4x1024x32x1_S4x1024x32x1_S4x1024x32x2_d3

theorem pairs_batch (I : IVec S4x1024x32 32) (b : Fin 4) (s : Fin 1024) (j : Fin 32) : pairs I (ix4 b s j 0) = BitVec.ofNat 32 b.val := by
  unfold pairs
  refine (concatenate_pair_apply_left (t := S4x1024x32x2) (s₁ := S4x1024x32x1) (s₂ := S4x1024x32x1) 3 colB (colI I) concatenates_S4x1024x32x1_S4x1024x32x1_S4x1024x32x2_d3
    (ix4 b s j (0 : Fin 2)) rfl (ix4 b s j (0 : Fin 1)) fun a => by match a with | ⟨0, _⟩ => rfl | ⟨1, _⟩ => rfl | ⟨2, _⟩ => rfl | ⟨3, _⟩ => rfl).trans ?_
  exact SampleRef.wrap_small 4#32 (BitVec.ofNat 32 b.val) (by rw [BitVec.toNat_ofNat]; omega)

theorem pairs_index (I : IVec S4x1024x32 32) (b : Fin 4) (s : Fin 1024) (j : Fin 32) (h : (I (ix3 b s j)).toNat < 16384) :
    pairs I (ix4 b s j 1) = I (ix3 b s j) := by
  unfold pairs
  refine (concatenate_pair_apply_right (t := S4x1024x32x2) (s₁ := S4x1024x32x1) (s₂ := S4x1024x32x1) 3 colB (colI I) concatenates_S4x1024x32x1_S4x1024x32x1_S4x1024x32x2_d3
    (ix4 b s j (1 : Fin 2)) rfl rfl (ix4 b s j (0 : Fin 1))
    (fun a ha => by match a, ha with | ⟨0, _⟩, _ => rfl | ⟨1, _⟩, _ => rfl | ⟨2, _⟩, _ => rfl | ⟨3, _⟩, ha => exact absurd rfl ha) rfl).trans ?_
  refine Eq.trans ?_ (SampleRef.wrap_small 16384#32 (I (ix3 b s j)) h)
  unfold colI
  exact broadcastInDim_apply _ _ _ (ix4 b s j (0 : Fin 1)) (ix3 b s j) fun a => by match a with | ⟨0, _⟩ => rfl | ⟨1, _⟩ => rfl | ⟨2, _⟩ => rfl

set_option maxRecDepth 8192 in
set_option maxHeartbeats 2000000 in
theorem p2_v40 (V : Val) : (after P2 V (Proc.devRef .tc main_v40) : S4x1024x32x3.Idx → EReal)
    = fsub (Host.gather dimsN (V (Proc.devRef .tc main_v0) : S4x16384x3.Idx → EReal) (pairs (V (Proc.devRef .tc main_indices))))
        (broadcastInDim S4x1024x32x3 ![0, 1, 2, 3] bcast_S4x1024x1x3_S4x1024x32x3_0_1_2_3
          (broadcastInDim S4x1024x1x3 ![0, 1, 3] bcast_S4x1024x3_S4x1024x1x3_0_1_3 (V (Proc.devRef .tc main_v6) : S4x1024x3.Idx → EReal))) := by
  unfold pairs colB colI
  simp only [P2]
  after_results

theorem offs_pt (X : S4x3x16384.Idx → EReal) (b : Fin 4) (s : Fin 1024) (j : Fin 32) (k : Fin 3) (n : Fin 16384) (hn : n.val = (nbrs X (ix3 b s j)).toNat) :
    offs X (pt b s j) k = X (ix3 b k n) - smpl X (ix3 b s k) := by
  have e1 : (⟨(pt b s j).val / 32768, by omega⟩ : Fin 4) = b := Fin.ext (by show ((b.val * 1024 + s.val) * 32 + j.val) / 32768 = b.val; omega)
  have e2 : (⟨(pt b s j).val / 32 % 1024, by omega⟩ : Fin 1024) = s := Fin.ext (by show ((b.val * 1024 + s.val) * 32 + j.val) / 32 % 1024 = s.val; omega)
  have e3 : Gather.nbr (pt b s j) = (ix3 b s j : S4x1024x32.Idx) := by
    unfold Gather.nbr
    have e2' : (⟨(pt b s j).val % 32768 / 32, by omega⟩ : Fin 1024) = s := Fin.ext (by show ((b.val * 1024 + s.val) * 32 + j.val) % 32768 / 32 = s.val; omega)
    have e3' : (⟨(pt b s j).val % 32, by omega⟩ : Fin 32) = j := Fin.ext (by show ((b.val * 1024 + s.val) * 32 + j.val) % 32 = j.val; omega)
    exact congr (congrArg₂ (fun b s j => (ix3 b s j : S4x1024x32.Idx)) e1 e2') e3'
  unfold offs
  refine congrArg₂ (· - ·) ?_ (congrArg₂ (fun b s => smpl X (ix3 b s k)) e1 e2)
  unfold Gather.spec
  refine congrArg₂ (fun b n => X (ix3 b k n)) e1 (Fin.ext ?_)
  show min (nbrs X (Gather.nbr (pt b s j))).toNat 16383 = n.val
  rw [e3, ← hn]
  omega

/-- The offsets by batch, sampled point, neighbour and coordinate. -/
theorem v40_apply (V : Val) (X : S4x3x16384.Idx → EReal) (hX : (V (Proc.devRef .tc main_v0) : S4x16384x3.Idx → EReal) = rowsOf X)
    (hS : (V (Proc.devRef .tc main_v6) : S4x1024x3.Idx → EReal) = smpl X) (hI : (V (Proc.devRef .tc main_indices) : S4x1024x32.Idx → BitVec 32) = nbrs X)
    (b : Fin 4) (s : Fin 1024) (j : Fin 32) (k : Fin 3) :
    (after P2 V (Proc.devRef .tc main_v40) : S4x1024x32x3.Idx → EReal) (ix4 b s j k) = offs X (pt b s j) k := by
  have hlt : (nbrs X (ix3 b s j)).toNat < 16384 := Whole.nbrs_lt X _
  have hn (w : BitVec 32) (N : ℕ) (h : w.toNat < N) (hN : N ≤ 16384) : min w.toInt.toNat (N - 1) = w.toNat := by
    rw [BitVec.toInt_eq_toNat_of_lt (by omega)]
    omega
  refine (congrFun (p2_v40 V) _).trans (Eq.trans ?_ (offs_pt X b s j k ⟨_, hlt⟩ rfl).symm)
  rw [hX, hS, hI]
  refine congrArg₂ (· - ·) ?_ ?_
  · refine (gatherN_apply _ _ b s j k).trans (Eq.trans ?_ (SampleRef.rows_entry X b ⟨_, hlt⟩ k))
    refine congrArg₂ (fun b n => rowsOf X (ix3 b n k)) (Fin.ext ?_) (Fin.ext ?_)
    · show min (pairs (nbrs X) (ix4 b s j 0)).toInt.toNat 3 = b.val
      rw [pairs_batch]
      refine (hn _ 4 (by rw [BitVec.toNat_ofNat]; omega) (by omega)).trans ?_
      rw [BitVec.toNat_ofNat]
      omega
    · show min (pairs (nbrs X) (ix4 b s j 1)).toInt.toNat 16383 = (nbrs X (ix3 b s j)).toNat
      rw [pairs_index _ _ _ _ hlt]
      exact hn _ 16384 hlt le_rfl
  · refine (broadcastInDim_apply _ _ _ _ (ix4 b s (0 : Fin 1) k) fun a => by match a with | ⟨0, _⟩ => rfl | ⟨1, _⟩ => rfl | ⟨2, _⟩ => rfl | ⟨3, _⟩ => rfl).trans ?_
    exact broadcastInDim_apply _ _ _ _ (ix3 b s k) fun a => by match a with | ⟨0, _⟩ => rfl | ⟨1, _⟩ => rfl | ⟨2, _⟩ => rfl

end Cert.Proof.WholeRefRun

end
-- ==== Proof.WholeRefLayers.lean ====
/-
  The plain program of the whole, after its neighbours: the three layers and the largest value over the neighbours.
-/
module

public import proofs.«01_k».proof.Proof.WholeRefRun
public import proofs.«01_k».proof.Proof.LayerRef

@[expose] public section

noncomputable section

namespace Cert.Proof.WholeRefRun

open Cert.WholeReferenceIdeal Cert.WholeReferenceIdeal.Gen
open Idealize.ShloMosaic Idealize.ShloMosaic.TcCoe Idealize.SL.Sem
open Idealize.ShloMosaic.StableHlo
open Cert.Proof.LayerMath (pt conv stack normal value)
open Cert.Proof.LayerRef (mat vec)

/-- The first convolution. -/
def preA (y : FVec Ideal S4x1024x32x3 .f32) (W : FVec Ideal S64x3 .f32) (v : FVec Ideal S64 .f32) : FVec Ideal S4x64x1024x32 .f32 :=
  addf (transpose S4x64x1024x32 [0, 3, 1, 2] (Host.dotGeneral dot_S4x3x1024x32_S64x3_S4x1024x32x64_1_1_023_0_n_n none
      (transpose S4x3x1024x32 [0, 3, 1, 2] y transposes_S4x1024x32x3_S4x3x1024x32_0_3_1_2) W) transposes_S4x1024x32x64_S4x64x1024x32_0_3_1_2)
    (broadcastInDim S4x64x1024x32 ![0, 1, 2, 3] bcast_S1x64x1x1_S4x64x1024x32_0_1_2_3 (broadcastInDim S1x64x1x1 ![1] bcast_S64_S1x64x1x1_1 v))

theorem preA_apply (y : FVec Ideal S4x1024x32x3 .f32) (W : FVec Ideal S64x3 .f32) (v : FVec Ideal S64 .f32) (x : Fin 131072 → Fin 3 → EReal)
    (hx : ∀ b s j k, y (ix4 b s j k) = x (pt b s j) k) (b : Fin 4) (o : Fin 64) (s : Fin 1024) (j : Fin 32) :
    preA y W v (ix4 b o s j) = conv x (mat W) (vec v) (pt b s j) o := by
  unfold preA conv mat vec
  pointwise
  exact congrArg₂ (· + ·) (Finset.sum_congr rfl fun k _ => congrArg₂ (· * ·) (hx b s j k) rfl) rfl

variable (V : Val)

theorem p3_v46 : (after P3 V (Proc.devRef .tc main_v46) : S4x64x1024x32.Idx → EReal)
    = preA (V (Proc.devRef .tc main_v40)) (V (Proc.devRef .tc main_arg1)) (V (Proc.devRef .tc main_arg2)) := by
  unfold preA
  simp only [P3]
  after_results

set_option maxRecDepth 8192 in
set_option maxHeartbeats 2000000 in
theorem p4_v65 : (after P4 V (Proc.devRef .tc main_v65) : S4x64x1024x32.Idx → EReal)
    = LayerRef.norm64 (V (Proc.devRef .tc main_v46)) (V (Proc.devRef .tc main_arg3)) (V (Proc.devRef .tc main_arg4)) := by
  unfold LayerRef.norm64 LayerRef.var64 LayerRef.cent64 LayerRef.mean64 LayerRef.total64
  simp only [P4]
  after_results

theorem p5_v70 : (after P5 V (Proc.devRef .tc main_v70) : S4x128x1024x32.Idx → EReal)
    = LayerRef.pre2 (V (Proc.devRef .tc main_v65)) (V (Proc.devRef .tc main_arg5)) (V (Proc.devRef .tc main_arg6)) := by
  unfold LayerRef.pre2
  simp only [P5]
  after_results
  rfl

set_option maxRecDepth 8192 in
set_option maxHeartbeats 2000000 in
theorem p6_v89 : (after P6 V (Proc.devRef .tc main_v89) : S4x128x1024x32.Idx → EReal)
    = LayerRef.norm128 (V (Proc.devRef .tc main_v70)) (V (Proc.devRef .tc main_arg7)) (V (Proc.devRef .tc main_arg8)) := by
  unfold LayerRef.norm128 LayerRef.var128 LayerRef.cent128 LayerRef.mean128 LayerRef.total128
  simp only [P6]
  after_results

theorem p7_v95 : (after P7 V (Proc.devRef .tc main_v95) : S4x256x1024.Idx → EReal)
    = Host.reduce (FloatOps.maximumf (F := Ideal) (φ := .f32)) (LayerRef.pre3 (V (Proc.devRef .tc main_v89)) (V (Proc.devRef .tc main_arg9)) (V (Proc.devRef .tc main_arg10)))
        (fcst 0xFF800000#32) reducesTo_S4x256x1024x32_S4x256x1024_d3 h_S_ := by
  unfold LayerRef.pre3
  simp only [P7]
  after_results
  rfl

theorem p7_v96 : (after P7 V (Proc.devRef .tc main_v96) : S4x3x1024.Idx → EReal)
    = transpose S4x3x1024 [0, 2, 1] (V (Proc.devRef .tc main_v6)) transposes_S4x1024x3_S4x3x1024_0_2_1 := by
  simp only [P7]
  after_results

/-- The largest over the neighbours. -/
theorem largest (z : FVec Ideal S4x256x1024x32 .f32) (f : Fin 131072 → Fin 256 → EReal) (hz : ∀ b o s k, z (ix4 b o s k) = f (pt b s k) o) :
    Host.reduce (FloatOps.maximumf (F := Ideal) (φ := .f32)) z (fcst 0xFF800000#32) reducesTo_S4x256x1024x32_S4x256x1024_d3 h_S_ = value f := by
  funext i
  have hi : i = ix3 (n0 := 4) (n1 := 256) (n2 := 1024) (i 0) (i 1) (i 2) := by
    funext a
    match a with
    | ⟨0, _⟩ => rfl
    | ⟨1, _⟩ => rfl
    | ⟨2, _⟩ => rfl
  unfold value
  rw [← funext fun k => hz (i 0) (i 1) (i 2) k, ← LayerRef.ofBits_bot]
  refine Eq.trans (congrArg _ hi) ?_
  pointwise

/-- From the offsets to the second result. -/
theorem layers_eq (x : Fin 131072 → Fin 3 → EReal) (hx : ∀ b s j k, (V (Proc.devRef .tc main_v40) : S4x1024x32x3.Idx → EReal) (ix4 b s j k) = x (pt b s j) k) :
    (after P7 (after P6 (after P5 (after P4 (after P3 V)))) (Proc.devRef .tc main_v95) : S4x256x1024.Idx → EReal)
      = value (stack normal x (mat (V (Proc.devRef .tc main_arg1))) (vec (V (Proc.devRef .tc main_arg2))) (vec (V (Proc.devRef .tc main_arg3))) (vec (V (Proc.devRef .tc main_arg4)))
          (mat (V (Proc.devRef .tc main_arg5))) (vec (V (Proc.devRef .tc main_arg6))) (vec (V (Proc.devRef .tc main_arg7))) (vec (V (Proc.devRef .tc main_arg8)))
          (mat (V (Proc.devRef .tc main_arg9))) (vec (V (Proc.devRef .tc main_arg10)))) := by
  have k3 : ∀ r, r ∉ P3w → after P3 V (Proc.devRef .tc r) = V (Proc.devRef .tc r) := fun r h => kp P3_w V r h
  have k4 : ∀ r, r ∉ P3w → r ∉ P4w → after P4 (after P3 V) (Proc.devRef .tc r) = V (Proc.devRef .tc r) := fun r h h' => (kp P4_w _ r h').trans (k3 r h)
  have k5 : ∀ r, r ∉ P3w → r ∉ P4w → r ∉ P5w → after P5 (after P4 (after P3 V)) (Proc.devRef .tc r) = V (Proc.devRef .tc r) :=
    fun r h h' h5 => (kp P5_w _ r h5).trans (k4 r h h')
  have k6 : ∀ r, r ∉ P3w → r ∉ P4w → r ∉ P5w → r ∉ P6w → after P6 (after P5 (after P4 (after P3 V))) (Proc.devRef .tc r) = V (Proc.devRef .tc r) :=
    fun r h h' h5 h6 => (kp P6_w _ r h6).trans (k5 r h h' h5)
  rw [p7_v95, p6_v89, p5_v70, p4_v65, p3_v46, k3 main_arg3 (by decide), k3 main_arg4 (by decide), k4 main_arg5 (by decide) (by decide), k4 main_arg6 (by decide) (by decide),
    k5 main_arg7 (by decide) (by decide) (by decide), k5 main_arg8 (by decide) (by decide) (by decide),
    k6 main_arg9 (by decide) (by decide) (by decide) (by decide), k6 main_arg10 (by decide) (by decide) (by decide) (by decide)]
  refine largest _ _ fun b o s k => ?_
  unfold stack
  refine LayerRef.pre3_apply _ _ _ _ (fun b o s k => ?_) b o s k
  refine LayerRef.norm128_apply _ _ _ _ (fun b o s k => ?_) b o s k
  refine LayerRef.pre2_apply _ _ _ _ (fun b o s k => ?_) b o s k
  refine LayerRef.norm64_apply _ _ _ _ (fun b o s k => ?_) b o s k
  exact preA_apply _ _ _ x hx b o s k

end Cert.Proof.WholeRefRun

end
-- ==== Proof.WholeRefEnd.lean ====
/-
  The plain program of the whole: its two results from its arguments, and its arguments unchanged.
-/
module

public import proofs.«01_k».proof.Proof.WholeRefNear
public import proofs.«01_k».proof.Proof.WholeRefLayers

@[expose] public section

noncomputable section

namespace Cert.Proof.WholeRefRun

open Cert.WholeReferenceIdeal Cert.WholeReferenceIdeal.Gen
open Idealize.ShloMosaic Idealize.ShloMosaic.TcCoe Idealize.SL.Sem
open Idealize.ShloMosaic.StableHlo
open Cert.Proof.Whole (smpl nbrs offs)
open Cert.Proof.LayerMath (pt stack normal value)
open Cert.Proof.LayerRef (mat vec)

abbrev argRefs : List (Ref sig .tc) := [main_arg0, main_arg1, main_arg2, main_arg3, main_arg4, main_arg5, main_arg6, main_arg7, main_arg8, main_arg9, main_arg10]

variable (m : (ℓ : Loc nD τ sig) → Buf (Elt Ideal) ℓ) (ρ : Dev nD → PrngReg) (c : Dev nD)

/-- The contents at the loop's end. -/
abbrev VL : Val := after C0 (atK m 1024 c)
abbrev V0 : Val := after P0 (VL m c)
abbrev V1 : Val := after P1 (V0 m c)
abbrev V2 : Val := after P2 (V1 m c)

theorem keep_v0 : (VL m c (Proc.devRef .tc main_v0) : S4x16384x3.Idx → EReal) = rowsOf (argX m c) :=
  (keep_at m c main_v0 (by decide) (by decide) (by decide) (by decide) (by decide) (by decide) 1024).trans (entry_v0 m c)

/-- The loop and the operations before it leave the arguments. -/
theorem keep_arg (a : Ref sig .tc) (h : a ∈ argRefs) : VL m c (Proc.devRef .tc a) = m ((c.tc : Thread nD τ).loc a) :=
  (keep_at m c a ((by decide +kernel : ∀ a ∈ argRefs, a ∉ C0w) a h) ((by decide +kernel : ∀ a ∈ argRefs, a ∉ B0w) a h) ((by decide +kernel : ∀ a ∈ argRefs, a ∉ B1w) a h)
    ((by decide +kernel : ∀ a ∈ argRefs, a ∉ B2w) a h) ((by decide +kernel : ∀ a ∈ argRefs, a ∉ B3w) a h) ((by decide +kernel : ∀ a ∈ argRefs, a ∉ B4w) a h) 1024).trans
    (kp A0_w _ a ((by decide +kernel : ∀ a ∈ argRefs, a ∉ A0w) a h))

theorem V2_arg (a : Ref sig .tc) (h : a ∈ argRefs) : V2 m c (Proc.devRef .tc a) = m ((c.tc : Thread nD τ).loc a) :=
  (kp P2_w _ a ((by decide +kernel : ∀ a ∈ argRefs, a ∉ P2w) a h)).trans ((kp P1_w _ a ((by decide +kernel : ∀ a ∈ argRefs, a ∉ P1w) a h)).trans
    ((kp P0_w _ a ((by decide +kernel : ∀ a ∈ argRefs, a ∉ P0w) a h)).trans (keep_arg m c a h)))

/-- No operation after the neighbours writes the reference. -/
theorem keep_end (V : Val) (r : Ref sig .tc) (h3 : r ∉ P3w) (h4 : r ∉ P4w) (h5 : r ∉ P5w) (h6 : r ∉ P6w) :
    after P6 (after P5 (after P4 (after P3 V))) (Proc.devRef .tc r) = V (Proc.devRef .tc r) :=
  (kp P6_w _ r h6).trans ((kp P5_w _ r h5).trans ((kp P4_w _ r h4).trans (kp P3_w V r h3)))

theorem end_arg (a : Ref sig .tc) (h : a ∈ argRefs) : finalContents C0 preI bodyI postI 1024 m c (Proc.devRef .tc a) = m ((c.tc : Thread nD τ).loc a) := by
  show after P7 (after P6 (after P5 (after P4 (after P3 (V2 m c))))) (Proc.devRef .tc a) = _
  refine (kp P7_w _ a ((by decide +kernel : ∀ a ∈ argRefs, a ∉ P7w) a h)).trans ((keep_end _ a ((by decide +kernel : ∀ a ∈ argRefs, a ∉ P3w) a h)
    ((by decide +kernel : ∀ a ∈ argRefs, a ∉ P4w) a h) ((by decide +kernel : ∀ a ∈ argRefs, a ∉ P5w) a h) ((by decide +kernel : ∀ a ∈ argRefs, a ∉ P6w) a h)).trans (V2_arg m c a h))

theorem V0_v6 : (V0 m c (Proc.devRef .tc main_v6) : S4x1024x3.Idx → EReal) = smpl (argX m c) :=
  v6_eq (VL m c) (argX m c) (keep_v0 m c) (table_end m c)

theorem V0_v0 : (V0 m c (Proc.devRef .tc main_v0) : S4x16384x3.Idx → EReal) = rowsOf (argX m c) := (kp P0_w _ main_v0 (by decide)).trans (keep_v0 m c)

/-- The first result: the sampled points by coordinates. -/
theorem end_v96 : (finalContents C0 preI bodyI postI 1024 m c (Proc.devRef .tc main_v96) : S4x3x1024.Idx → EReal) = SampleTrip.value (argX m c) := by
  have e6 : (after P6 (after P5 (after P4 (after P3 (V2 m c)))) (Proc.devRef .tc main_v6) : S4x1024x3.Idx → EReal) = smpl (argX m c) :=
    (keep_end _ main_v6 (by decide) (by decide) (by decide) (by decide)).trans ((kp P2_w _ main_v6 (by decide)).trans ((kp P1_w _ main_v6 (by decide)).trans (V0_v6 m c)))
  refine (p7_v96 (after P6 (after P5 (after P4 (after P3 (V2 m c)))))).trans ?_
  rw [e6]
  funext i
  obtain ⟨b, k, t, rfl⟩ : ∃ b k t, i = (ix3 b k t : S4x3x1024.Idx) := ⟨i 0, i 1, i 2, eta3 i⟩
  exact transpose_apply _ _ _ _ (ix3 b t k) fun a => by match a with | ⟨0, _⟩ => rfl | ⟨1, _⟩ => rfl | ⟨2, _⟩ => rfl

/-- The second result: the layers over the offsets, the largest over the neighbours. -/
theorem end_v95 (hb : ∀ b s n, NearRun.sqdist (smpl (argX m c)) (argX m c) b s n < NearPay.big) :
    (finalContents C0 preI bodyI postI 1024 m c (Proc.devRef .tc main_v95) : S4x256x1024.Idx → EReal)
      = value (stack normal (offs (argX m c)) (mat (m ((c.tc : Thread nD τ).loc main_arg1))) (vec (m ((c.tc : Thread nD τ).loc main_arg2))) (vec (m ((c.tc : Thread nD τ).loc main_arg3)))
          (vec (m ((c.tc : Thread nD τ).loc main_arg4))) (mat (m ((c.tc : Thread nD τ).loc main_arg5))) (vec (m ((c.tc : Thread nD τ).loc main_arg6)))
          (vec (m ((c.tc : Thread nD τ).loc main_arg7))) (vec (m ((c.tc : Thread nD τ).loc main_arg8))) (mat (m ((c.tc : Thread nD τ).loc main_arg9)))
          (vec (m ((c.tc : Thread nD τ).loc main_arg10)))) := by
  refine (layers_eq (V2 m c) (offs (argX m c)) (fun b s j k => v40_apply (V1 m c) (argX m c) ((kp P1_w _ main_v0 (by decide)).trans (V0_v0 m c))
    ((kp P1_w _ main_v6 (by decide)).trans (V0_v6 m c)) (indices_eq (V0 m c) (argX m c) (V0_v0 m c) (V0_v6 m c) hb) b s j k)).trans ?_
  rw [V2_arg m c main_arg1 (by decide), V2_arg m c main_arg2 (by decide), V2_arg m c main_arg3 (by decide), V2_arg m c main_arg4 (by decide), V2_arg m c main_arg5 (by decide),
    V2_arg m c main_arg6 (by decide), V2_arg m c main_arg7 (by decide), V2_arg m c main_arg8 (by decide), V2_arg m c main_arg9 (by decide), V2_arg m c main_arg10 (by decide)]

theorem run_keep : θ_run (defs (F := Ideal)) (onTc (τ := τ) (main (F := Ideal))) ⟨m, fun _ => 0, ρ⟩ fun r => ∀ c : Dev nD,
    ∀ a ∈ argRefs, r.2.mem ((c.tc : Thread nD τ).loc a) = m ((c.tc : Thread nD τ).loc a) :=
  (θ_run _ _ _).mono (fun _ h c a ha => (h c a ((by decide +kernel : ∀ a ∈ argRefs, (Proc.devRef .tc a : DevRef τ sig).isScoped = false) a ha)).trans (end_arg m c a ha)) (run_fold m ρ)

end Cert.Proof.WholeRefRun

end
-- ==== Proof.WholeClaims.lean ====
/-
  The claims of the whole: the two programs' frames, and that both end with the sampled points and with the layers over
  the nearest points' offsets where the precondition holds.
-/
module

public import proofs.«01_k».proof.Defs
public import proofs.«01_k».proof.Proof.WholePre
public import proofs.«01_k».proof.Proof.WholeRefEnd

@[expose] public section

noncomputable section

namespace Cert.Proof.WholeClaims

open Idealize.ShloMosaic Idealize.ShloMosaic.TcCoe Idealize.SL.Sem
open Cert.Proof.LayerMath (stack normal normalK stack_eq value)
open Cert.Proof.Whole (X t3 offs)

/-- `Cert.quiescent_WholeIdeal` (Defs.lean). -/
theorem frame_ideal : Cert.quiescent_WholeIdeal := fun m ρ _ =>
  (θ_run Cert.WholeIdeal.defs _ _).mono (fun _ h => ⟨fun c => by
      have k := (h.1 c).2.2
      exact ⟨k _ (by decide), k _ (by decide), k _ (by decide), k _ (by decide), k _ (by decide), k _ (by decide), k _ (by decide), k _ (by decide), k _ (by decide),
        k _ (by decide), k _ (by decide)⟩, h.2⟩)
    (Whole.run_value m ρ)

/-- `Cert.quiescent_WholeReferenceIdeal` (Defs.lean): host operations alone, on a signature without semaphores. -/
theorem frame_reference : Cert.quiescent_WholeReferenceIdeal := fun m ρ _ =>
  (θ_run Cert.WholeReferenceIdeal.defs _ _).mono (fun _ h => ⟨fun c => by
      have k := h c
      exact ⟨k _ (by decide), k _ (by decide), k _ (by decide), k _ (by decide), k _ (by decide), k _ (by decide), k _ (by decide), k _ (by decide), k _ (by decide),
        k _ (by decide), k _ (by decide)⟩, funext fun x => nomatch x.2⟩)
    (WholeRefRun.run_keep m ρ)

section Same

variable (m : (ℓ : Loc Cert.WholeIdeal.nD Cert.WholeIdeal.τ Cert.WholeIdeal.sig) → Buf (Elt Ideal) ℓ) (c : Dev Cert.WholeIdeal.nD)
  (m' : (ℓ : Loc Cert.WholeReferenceIdeal.nD Cert.WholeReferenceIdeal.τ Cert.WholeReferenceIdeal.sig) → Buf (Elt Ideal) ℓ)

/-- Where the precondition holds, the two forms of the normalization give one stack of layers. -/
theorem same_stack (h : Cert.Pre_WholeIdeal_moderate m) :
    t3 m c = stack normal (offs (X m c)) (LayerRef.mat (Whole.ar m c Cert.WholeIdeal.main_arg1)) (LayerRef.vec (Whole.ar m c Cert.WholeIdeal.main_arg2))
      (LayerRef.vec (Whole.ar m c Cert.WholeIdeal.main_arg3)) (LayerRef.vec (Whole.ar m c Cert.WholeIdeal.main_arg4)) (LayerRef.mat (Whole.ar m c Cert.WholeIdeal.main_arg5))
      (LayerRef.vec (Whole.ar m c Cert.WholeIdeal.main_arg6)) (LayerRef.vec (Whole.ar m c Cert.WholeIdeal.main_arg7)) (LayerRef.vec (Whole.ar m c Cert.WholeIdeal.main_arg8))
      (LayerRef.mat (Whole.ar m c Cert.WholeIdeal.main_arg9)) (LayerRef.vec (Whole.ar m c Cert.WholeIdeal.main_arg10)) := by
  obtain ⟨-, h3, h7⟩ := WholePre.moderate_all _ _ _ _ _ _ _ _ _ _ _ (h c)
  refine Eq.trans ?_ (stack_eq _ _ _ _ _ _ _ _ _ _ _ (fun o => ?_) fun o => ?_)
  · rfl
  · exact h3 _
  · exact h7 _

end Same

/-- `Cert.algebraic_WholeIdeal_WholeReferenceIdeal_pre_moderate` (Defs.lean): both programs end with the common values. -/
theorem algebraic : Cert.algebraic_WholeIdeal_WholeReferenceIdeal_pre_moderate := fun m g m' g' hp hm =>
  ⟨fun c => SampleTrip.value (X m c), fun c => value (t3 m c),
    (θ_run Cert.WholeIdeal.defs _ _).mono (fun _ h c => by
        have k := (h.1 c).2.2
        exact ⟨(h.1 c).1, (h.1 c).2.1, k _ (by decide), k _ (by decide), k _ (by decide), k _ (by decide), k _ (by decide), k _ (by decide), k _ (by decide), k _ (by decide),
          k _ (by decide), k _ (by decide), k _ (by decide)⟩)
      (Whole.run_value m g),
    (θ_run Cert.WholeReferenceIdeal.defs _ _).mono (fun r h c => by
        have k : ∀ a ∈ WholeRefRun.argRefs, r.2.mem ((c.tc : Thread Cert.WholeReferenceIdeal.nD Cert.WholeReferenceIdeal.τ).loc a) = m' ((c.tc : Thread _ _).loc a) :=
          fun a ha => (h c a ((by decide +kernel : ∀ a ∈ WholeRefRun.argRefs, (Proc.devRef .tc a : DevRef Cert.WholeReferenceIdeal.τ Cert.WholeReferenceIdeal.sig).isScoped = false) a ha)).trans
            (WholeRefRun.end_arg m' c a ha)
        obtain ⟨e0, e1, e2, e3, e4, e5, e6, e7, e8, e9, e10⟩ := hm c
        have e0' : WholeRefRun.argX m' c = X m c := e0
        refine ⟨?_, ?_, k _ (by decide), k _ (by decide), k _ (by decide), k _ (by decide), k _ (by decide), k _ (by decide), k _ (by decide), k _ (by decide),
          k _ (by decide), k _ (by decide), k _ (by decide)⟩
        · refine (h c _ rfl).trans ((WholeRefRun.end_v96 m' c).trans ?_)
          rw [e0']
        · refine (h c _ rfl).trans ((WholeRefRun.end_v95 m' c ?_).trans (Eq.trans ?_ (congrArg value (same_stack m c hp)).symm))
          · rw [e0']
            exact WholePre.below _ (WholePre.moderate_all _ _ _ _ _ _ _ _ _ _ _ (hp c)).1
          · rw [e0', e1, e2, e3, e4, e5, e6, e7, e8, e9, e10])
      (WholeRefRun.run_fold m' g')⟩

end Cert.Proof.WholeClaims

end
-- ==== Proof.lean ====
/-
  The proof of `Cert.Claim`: the gather's claims, the sampling's, the layers', the
  neighbours' and the whole program's.
-/
module

public import proofs.«01_k».proof.Proof.Gen.WholeIdeal.Launch
public import proofs.«01_k».proof.Proof.Gen.WholeIdeal.Points
public import proofs.«01_k».proof.Proof.Gen.WholeIdeal.Skeleton
public import proofs.«01_k».proof.Proof.Gen.WholeIdeal.Loops
public import proofs.«01_k».proof.Proof.Gen.WholeReferenceIdeal
public import proofs.«01_k».proof.Proof.Gen.Pre_moderate
public import proofs.«01_k».proof.Proof.Gen.Sampling.Frame
public import proofs.«01_k».proof.Proof.Gen.SamplingIdeal.Frame
public import proofs.«01_k».proof.Proof.Gen.SamplingReferenceIdeal
public import proofs.«01_k».proof.Proof.Gen.Sampling
public import proofs.«01_k».proof.Proof.Gen.Layers.Frame
public import proofs.«01_k».proof.Proof.Gen.LayersIdeal.Frame
public import proofs.«01_k».proof.Proof.Gen.Pre_finite
public import proofs.«01_k».proof.Proof.Gen.LayersReferenceIdeal.Run
public import proofs.«01_k».proof.Proof.Gen.Neighbours.Frame
public import proofs.«01_k».proof.Proof.Gen.NeighboursIdeal.Frame
public import proofs.«01_k».proof.Proof.Gen.NeighboursReferenceIdeal.Run
public import proofs.«01_k».proof.Proof.Gen.Pre_below_big
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Reference
public import proofs.«01_k».proof.Proof.SampleClaims
public import proofs.«01_k».proof.Proof.LayerClaims
public import proofs.«01_k».proof.Proof.NearClaims
public import proofs.«01_k».proof.Proof.WholeClaims
public import Idealize.ShloMosaic.Adequacy
public import Idealize.ShloMosaic.Init

@[expose] public section

noncomputable section

namespace Cert.Proof

open Idealize.ShloMosaic Idealize.SL.Sem Cert.Kernel

/-- Every claim of Defs.lean: the frames, the idealizations (no rewrite), and the five equalities. -/
theorem claim : Cert.Claim := ⟨Cert.Kernel.Gen.facts, Cert.KernelIdeal.Gen.facts, Cert.ReferenceIdeal.Gen.facts,
  Cert.Sampling.Gen.facts, Cert.SamplingIdeal.Gen.facts, Cert.SamplingReferenceIdeal.Gen.facts,
  Cert.Layers.Gen.facts, Cert.LayersIdeal.Gen.facts, Cert.LayersReferenceIdeal.Gen.facts,
  Cert.Neighbours.Gen.facts, Cert.NeighboursIdeal.Gen.facts, Cert.NeighboursReferenceIdeal.Gen.facts,
  Cert.WholeIdeal.Gen.facts, Cert.WholeReferenceIdeal.Gen.facts,
  Cert.Pre_in_range.Gen.facts, Cert.Pre_finite.Gen.facts, Cert.Pre_below_big.Gen.facts, Cert.Pre_moderate.Gen.facts,
  Gather.frame_kernel, Gather.frame_ideal, Gather.frame_reference, fun m ρ _ => Gather.frame_reference m ρ trivial,
  fun m ρ _ => Cert.Sampling.Gen.frame m ρ, fun m ρ _ => Cert.SamplingIdeal.Gen.frame m ρ, SampleClaims.frame_reference,
  fun m ρ _ => Cert.Layers.Gen.frame m ρ, fun m ρ _ => Cert.LayersIdeal.Gen.frame m ρ,
  fun m ρ _ => Cert.LayersIdeal.Gen.frame m ρ, LayerClaims.frame_reference,
  fun m ρ _ => LayerClaims.frame_reference m ρ trivial,
  fun m ρ _ => Cert.Neighbours.Gen.frame m ρ, fun m ρ _ => Cert.NeighboursIdeal.Gen.frame m ρ,
  fun m ρ _ => Cert.NeighboursIdeal.Gen.frame m ρ, NearClaims.frame_reference,
  fun m ρ _ => NearClaims.frame_reference m ρ trivial,
  WholeClaims.frame_ideal, fun m ρ _ => WholeClaims.frame_ideal m ρ trivial,
  WholeClaims.frame_reference, fun m ρ _ => WholeClaims.frame_reference m ρ trivial,
  trivial, Gather.algebraic, trivial, SampleClaims.algebraic, trivial, LayerClaims.algebraic, trivial, NearClaims.algebraic,
  WholeClaims.algebraic⟩

end Cert.Proof

end
